-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v26_0)) (v1 : (c : Dev Cert.KernelIdeal.nD) → Buf (Elt Ideal) ((c.tc : Thread Cert.KernelIdeal.nD Cert.KernelIdeal.τ).loc Cert.KernelIdeal.main_v26_1)) (v2 : (c : Dev Cert.KernelIdeal.nD) → Buf (Elt Ideal) ((c.tc : Thread Cert.KernelIdeal.nD Cert.KernelIdeal.τ).loc Cert.KernelIdeal.main_v26_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26_0) = v0 c
          ∧ r.2.mem ((c.tc : Thread Cert.KernelIdeal.nD Cert.KernelIdeal.τ).loc Cert.KernelIdeal.main_v26_1) = v1 c
          ∧ r.2.mem ((c.tc : Thread Cert.KernelIdeal.nD Cert.KernelIdeal.τ).loc Cert.KernelIdeal.main_v26_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_v64) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v18)) (v1 : (c : Dev Cert.Kernel2Ideal.nD) → Buf (Elt Ideal) ((c.tc : Thread Cert.Kernel2Ideal.nD Cert.Kernel2Ideal.τ).loc Cert.Kernel2Ideal.main_v26_0)) (v2 : (c : Dev Cert.Kernel2Ideal.nD) → Buf (Elt Ideal) ((c.tc : Thread Cert.Kernel2Ideal.nD Cert.Kernel2Ideal.τ).loc Cert.Kernel2Ideal.main_v27)) (v3 : (c : Dev Cert.Kernel2Ideal.nD) → Buf (Elt Ideal) ((c.tc : Thread Cert.Kernel2Ideal.nD Cert.Kernel2Ideal.τ).loc Cert.Kernel2Ideal.main_v29)) (v4 : (c : Dev Cert.Kernel2Ideal.nD) → Buf (Elt Ideal) ((c.tc : Thread Cert.Kernel2Ideal.nD Cert.Kernel2Ideal.τ).loc Cert.Kernel2Ideal.main_v30)) (v5 : (c : Dev Cert.Kernel2Ideal.nD) → Buf (Elt Ideal) ((c.tc : Thread Cert.Kernel2Ideal.nD Cert.Kernel2Ideal.τ).loc Cert.Kernel2Ideal.main_v31)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v18) = v0 c
          ∧ r.2.mem ((c.tc : Thread Cert.Kernel2Ideal.nD Cert.Kernel2Ideal.τ).loc Cert.Kernel2Ideal.main_v26_0) = v1 c
          ∧ r.2.mem ((c.tc : Thread Cert.Kernel2Ideal.nD Cert.Kernel2Ideal.τ).loc Cert.Kernel2Ideal.main_v27) = v2 c
          ∧ r.2.mem ((c.tc : Thread Cert.Kernel2Ideal.nD Cert.Kernel2Ideal.τ).loc Cert.Kernel2Ideal.main_v29) = v3 c
          ∧ r.2.mem ((c.tc : Thread Cert.Kernel2Ideal.nD Cert.Kernel2Ideal.τ).loc Cert.Kernel2Ideal.main_v30) = v4 c
          ∧ r.2.mem ((c.tc : Thread Cert.Kernel2Ideal.nD Cert.Kernel2Ideal.τ).loc Cert.Kernel2Ideal.main_v31) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v29) = v0 c
          ∧ r.2.mem ((c.tc : Thread Cert.Reference2Ideal.nD Cert.Reference2Ideal.τ).loc Cert.Reference2Ideal.main_v66) = v1 c
          ∧ r.2.mem ((c.tc : Thread Cert.Reference2Ideal.nD Cert.Reference2Ideal.τ).loc Cert.Reference2Ideal.main_v51) = v2 c
          ∧ r.2.mem ((c.tc : Thread Cert.Reference2Ideal.nD Cert.Reference2Ideal.τ).loc Cert.Reference2Ideal.main_v69) = v3 c
          ∧ r.2.mem ((c.tc : Thread Cert.Reference2Ideal.nD Cert.Reference2Ideal.τ).loc Cert.Reference2Ideal.main_v72) = v4 c
          ∧ r.2.mem ((c.tc : Thread Cert.Reference2Ideal.nD Cert.Reference2Ideal.τ).loc Cert.Reference2Ideal.main_v74) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v11)) (v1 : (c : Dev Cert.Kernel3Ideal.nD) → Buf (Elt Ideal) ((c.tc : Thread Cert.Kernel3Ideal.nD Cert.Kernel3Ideal.τ).loc Cert.Kernel3Ideal.main_v14)) (v2 : (c : Dev Cert.Kernel3Ideal.nD) → Buf (Elt Ideal) ((c.tc : Thread Cert.Kernel3Ideal.nD Cert.Kernel3Ideal.τ).loc Cert.Kernel3Ideal.main_v16_0)) (v3 : (c : Dev Cert.Kernel3Ideal.nD) → Buf (Elt Ideal) ((c.tc : Thread Cert.Kernel3Ideal.nD Cert.Kernel3Ideal.τ).loc Cert.Kernel3Ideal.main_v24)) (v4 : (c : Dev Cert.Kernel3Ideal.nD) → Buf (Elt Ideal) ((c.tc : Thread Cert.Kernel3Ideal.nD Cert.Kernel3Ideal.τ).loc Cert.Kernel3Ideal.main_v17)) (v5 : (c : Dev Cert.Kernel3Ideal.nD) → Buf (Elt Ideal) ((c.tc : Thread Cert.Kernel3Ideal.nD Cert.Kernel3Ideal.τ).loc Cert.Kernel3Ideal.main_v19)) (v6 : (c : Dev Cert.Kernel3Ideal.nD) → Buf (Elt Ideal) ((c.tc : Thread Cert.Kernel3Ideal.nD Cert.Kernel3Ideal.τ).loc Cert.Kernel3Ideal.main_v21)) (v7 : (c : Dev Cert.Kernel3Ideal.nD) → Buf (Elt Ideal) ((c.tc : Thread Cert.Kernel3Ideal.nD Cert.Kernel3Ideal.τ).loc Cert.Kernel3Ideal.main_v18)) (v8 : (c : Dev Cert.Kernel3Ideal.nD) → Buf (Elt Ideal) ((c.tc : Thread Cert.Kernel3Ideal.nD Cert.Kernel3Ideal.τ).loc Cert.Kernel3Ideal.main_v20)) (v9 : (c : Dev Cert.Kernel3Ideal.nD) → Buf (Elt Ideal) ((c.tc : Thread Cert.Kernel3Ideal.nD Cert.Kernel3Ideal.τ).loc Cert.Kernel3Ideal.main_v22)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11) = v0 c
          ∧ r.2.mem ((c.tc : Thread Cert.Kernel3Ideal.nD Cert.Kernel3Ideal.τ).loc Cert.Kernel3Ideal.main_v14) = v1 c
          ∧ r.2.mem ((c.tc : Thread Cert.Kernel3Ideal.nD Cert.Kernel3Ideal.τ).loc Cert.Kernel3Ideal.main_v16_0) = v2 c
          ∧ r.2.mem ((c.tc : Thread Cert.Kernel3Ideal.nD Cert.Kernel3Ideal.τ).loc Cert.Kernel3Ideal.main_v24) = v3 c
          ∧ r.2.mem ((c.tc : Thread Cert.Kernel3Ideal.nD Cert.Kernel3Ideal.τ).loc Cert.Kernel3Ideal.main_v17) = v4 c
          ∧ r.2.mem ((c.tc : Thread Cert.Kernel3Ideal.nD Cert.Kernel3Ideal.τ).loc Cert.Kernel3Ideal.main_v19) = v5 c
          ∧ r.2.mem ((c.tc : Thread Cert.Kernel3Ideal.nD Cert.Kernel3Ideal.τ).loc Cert.Kernel3Ideal.main_v21) = v6 c
          ∧ r.2.mem ((c.tc : Thread Cert.Kernel3Ideal.nD Cert.Kernel3Ideal.τ).loc Cert.Kernel3Ideal.main_v18) = v7 c
          ∧ r.2.mem ((c.tc : Thread Cert.Kernel3Ideal.nD Cert.Kernel3Ideal.τ).loc Cert.Kernel3Ideal.main_v20) = v8 c
          ∧ r.2.mem ((c.tc : Thread Cert.Kernel3Ideal.nD Cert.Kernel3Ideal.τ).loc Cert.Kernel3Ideal.main_v22) = v9 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v26) = v0 c
          ∧ r.2.mem ((c.tc : Thread Cert.Reference3Ideal.nD Cert.Reference3Ideal.τ).loc Cert.Reference3Ideal.main_v52) = v1 c
          ∧ r.2.mem ((c.tc : Thread Cert.Reference3Ideal.nD Cert.Reference3Ideal.τ).loc Cert.Reference3Ideal.main_v53) = v2 c
          ∧ r.2.mem ((c.tc : Thread Cert.Reference3Ideal.nD Cert.Reference3Ideal.τ).loc Cert.Reference3Ideal.main_v38) = v3 c
          ∧ r.2.mem ((c.tc : Thread Cert.Reference3Ideal.nD Cert.Reference3Ideal.τ).loc Cert.Reference3Ideal.main_v54) = v4 c
          ∧ r.2.mem ((c.tc : Thread Cert.Reference3Ideal.nD Cert.Reference3Ideal.τ).loc Cert.Reference3Ideal.main_v55) = v5 c
          ∧ r.2.mem ((c.tc : Thread Cert.Reference3Ideal.nD Cert.Reference3Ideal.τ).loc Cert.Reference3Ideal.main_v56) = v6 c
          ∧ r.2.mem ((c.tc : Thread Cert.Reference3Ideal.nD Cert.Reference3Ideal.τ).loc Cert.Reference3Ideal.main_v59) = v7 c
          ∧ r.2.mem ((c.tc : Thread Cert.Reference3Ideal.nD Cert.Reference3Ideal.τ).loc Cert.Reference3Ideal.main_v62) = v8 c
          ∧ r.2.mem ((c.tc : Thread Cert.Reference3Ideal.nD Cert.Reference3Ideal.τ).loc Cert.Reference3Ideal.main_v65) = v9 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v6)) (v1 : (c : Dev Cert.Kernel4Ideal.nD) → Buf (Elt Ideal) ((c.tc : Thread Cert.Kernel4Ideal.nD Cert.Kernel4Ideal.τ).loc Cert.Kernel4Ideal.main_v45)) (v2 : (c : Dev Cert.Kernel4Ideal.nD) → Buf (Elt Ideal) ((c.tc : Thread Cert.Kernel4Ideal.nD Cert.Kernel4Ideal.τ).loc Cert.Kernel4Ideal.main_v8)) (v3 : (c : Dev Cert.Kernel4Ideal.nD) → Buf (Elt Ideal) ((c.tc : Thread Cert.Kernel4Ideal.nD Cert.Kernel4Ideal.τ).loc Cert.Kernel4Ideal.main_v9)) (v4 : (c : Dev Cert.Kernel4Ideal.nD) → Buf (Elt Ideal) ((c.tc : Thread Cert.Kernel4Ideal.nD Cert.Kernel4Ideal.τ).loc Cert.Kernel4Ideal.main_v32)) (v5 : (c : Dev Cert.Kernel4Ideal.nD) → Buf (Elt Ideal) ((c.tc : Thread Cert.Kernel4Ideal.nD Cert.Kernel4Ideal.τ).loc Cert.Kernel4Ideal.main_v33)) (v6 : (c : Dev Cert.Kernel4Ideal.nD) → Buf (Elt Ideal) ((c.tc : Thread Cert.Kernel4Ideal.nD Cert.Kernel4Ideal.τ).loc Cert.Kernel4Ideal.main_v34)) (v7 : (c : Dev Cert.Kernel4Ideal.nD) → Buf (Elt Ideal) ((c.tc : Thread Cert.Kernel4Ideal.nD Cert.Kernel4Ideal.τ).loc Cert.Kernel4Ideal.main_v35)) (v8 : (c : Dev Cert.Kernel4Ideal.nD) → Buf (Elt Ideal) ((c.tc : Thread Cert.Kernel4Ideal.nD Cert.Kernel4Ideal.τ).loc Cert.Kernel4Ideal.main_v36)) (v9 : (c : Dev Cert.Kernel4Ideal.nD) → Buf (Elt Ideal) ((c.tc : Thread Cert.Kernel4Ideal.nD Cert.Kernel4Ideal.τ).loc Cert.Kernel4Ideal.main_v38)) (v10 : (c : Dev Cert.Kernel4Ideal.nD) → Buf (Elt Ideal) ((c.tc : Thread Cert.Kernel4Ideal.nD Cert.Kernel4Ideal.τ).loc Cert.Kernel4Ideal.main_v39)) (v11 : (c : Dev Cert.Kernel4Ideal.nD) → Buf (Elt Ideal) ((c.tc : Thread Cert.Kernel4Ideal.nD Cert.Kernel4Ideal.τ).loc Cert.Kernel4Ideal.main_v40)) (v12 : (c : Dev Cert.Kernel4Ideal.nD) → Buf (Elt Ideal) ((c.tc : Thread Cert.Kernel4Ideal.nD Cert.Kernel4Ideal.τ).loc Cert.Kernel4Ideal.main_v41)) (v13 : (c : Dev Cert.Kernel4Ideal.nD) → Buf (Elt Ideal) ((c.tc : Thread Cert.Kernel4Ideal.nD Cert.Kernel4Ideal.τ).loc Cert.Kernel4Ideal.main_v42)) (v14 : (c : Dev Cert.Kernel4Ideal.nD) → Buf (Elt Ideal) ((c.tc : Thread Cert.Kernel4Ideal.nD Cert.Kernel4Ideal.τ).loc Cert.Kernel4Ideal.main_v43)) (v15 : (c : Dev Cert.Kernel4Ideal.nD) → Buf (Elt Ideal) ((c.tc : Thread Cert.Kernel4Ideal.nD Cert.Kernel4Ideal.τ).loc Cert.Kernel4Ideal.main_v44)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_v45) = v1 c
          ∧ r.2.mem ((c.tc : Thread Cert.Kernel4Ideal.nD Cert.Kernel4Ideal.τ).loc Cert.Kernel4Ideal.main_v8) = v2 c
          ∧ r.2.mem ((c.tc : Thread Cert.Kernel4Ideal.nD Cert.Kernel4Ideal.τ).loc Cert.Kernel4Ideal.main_v9) = v3 c
          ∧ r.2.mem ((c.tc : Thread Cert.Kernel4Ideal.nD Cert.Kernel4Ideal.τ).loc Cert.Kernel4Ideal.main_v32) = v4 c
          ∧ r.2.mem ((c.tc : Thread Cert.Kernel4Ideal.nD Cert.Kernel4Ideal.τ).loc Cert.Kernel4Ideal.main_v33) = v5 c
          ∧ r.2.mem ((c.tc : Thread Cert.Kernel4Ideal.nD Cert.Kernel4Ideal.τ).loc Cert.Kernel4Ideal.main_v34) = v6 c
          ∧ r.2.mem ((c.tc : Thread Cert.Kernel4Ideal.nD Cert.Kernel4Ideal.τ).loc Cert.Kernel4Ideal.main_v35) = v7 c
          ∧ r.2.mem ((c.tc : Thread Cert.Kernel4Ideal.nD Cert.Kernel4Ideal.τ).loc Cert.Kernel4Ideal.main_v36) = v8 c
          ∧ r.2.mem ((c.tc : Thread Cert.Kernel4Ideal.nD Cert.Kernel4Ideal.τ).loc Cert.Kernel4Ideal.main_v38) = v9 c
          ∧ r.2.mem ((c.tc : Thread Cert.Kernel4Ideal.nD Cert.Kernel4Ideal.τ).loc Cert.Kernel4Ideal.main_v39) = v10 c
          ∧ r.2.mem ((c.tc : Thread Cert.Kernel4Ideal.nD Cert.Kernel4Ideal.τ).loc Cert.Kernel4Ideal.main_v40) = v11 c
          ∧ r.2.mem ((c.tc : Thread Cert.Kernel4Ideal.nD Cert.Kernel4Ideal.τ).loc Cert.Kernel4Ideal.main_v41) = v12 c
          ∧ r.2.mem ((c.tc : Thread Cert.Kernel4Ideal.nD Cert.Kernel4Ideal.τ).loc Cert.Kernel4Ideal.main_v42) = v13 c
          ∧ r.2.mem ((c.tc : Thread Cert.Kernel4Ideal.nD Cert.Kernel4Ideal.τ).loc Cert.Kernel4Ideal.main_v43) = v14 c
          ∧ r.2.mem ((c.tc : Thread Cert.Kernel4Ideal.nD Cert.Kernel4Ideal.τ).loc Cert.Kernel4Ideal.main_v44) = v15 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_v5) = v1 c
          ∧ r.2.mem ((c.tc : Thread Cert.Reference4Ideal.nD Cert.Reference4Ideal.τ).loc Cert.Reference4Ideal.main_v14) = v2 c
          ∧ r.2.mem ((c.tc : Thread Cert.Reference4Ideal.nD Cert.Reference4Ideal.τ).loc Cert.Reference4Ideal.main_v15) = v3 c
          ∧ r.2.mem ((c.tc : Thread Cert.Reference4Ideal.nD Cert.Reference4Ideal.τ).loc Cert.Reference4Ideal.main_v16) = v4 c
          ∧ r.2.mem ((c.tc : Thread Cert.Reference4Ideal.nD Cert.Reference4Ideal.τ).loc Cert.Reference4Ideal.main_v17) = v5 c
          ∧ r.2.mem ((c.tc : Thread Cert.Reference4Ideal.nD Cert.Reference4Ideal.τ).loc Cert.Reference4Ideal.main_v18) = v6 c
          ∧ r.2.mem ((c.tc : Thread Cert.Reference4Ideal.nD Cert.Reference4Ideal.τ).loc Cert.Reference4Ideal.main_v19) = v7 c
          ∧ r.2.mem ((c.tc : Thread Cert.Reference4Ideal.nD Cert.Reference4Ideal.τ).loc Cert.Reference4Ideal.main_v20) = v8 c
          ∧ r.2.mem ((c.tc : Thread Cert.Reference4Ideal.nD Cert.Reference4Ideal.τ).loc Cert.Reference4Ideal.main_v10) = v9 c
          ∧ r.2.mem ((c.tc : Thread Cert.Reference4Ideal.nD Cert.Reference4Ideal.τ).loc Cert.Reference4Ideal.main_v21) = v10 c
          ∧ r.2.mem ((c.tc : Thread Cert.Reference4Ideal.nD Cert.Reference4Ideal.τ).loc Cert.Reference4Ideal.main_v22) = v11 c
          ∧ r.2.mem ((c.tc : Thread Cert.Reference4Ideal.nD Cert.Reference4Ideal.τ).loc Cert.Reference4Ideal.main_v23) = v12 c
          ∧ r.2.mem ((c.tc : Thread Cert.Reference4Ideal.nD Cert.Reference4Ideal.τ).loc Cert.Reference4Ideal.main_v24) = v13 c
          ∧ r.2.mem ((c.tc : Thread Cert.Reference4Ideal.nD Cert.Reference4Ideal.τ).loc Cert.Reference4Ideal.main_v25) = v14 c
          ∧ r.2.mem ((c.tc : Thread Cert.Reference4Ideal.nD Cert.Reference4Ideal.τ).loc Cert.Reference4Ideal.main_v26) = v15 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v28)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v28) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v0) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S2x2048x1536 : Shape := ⟨3, ![2, 2048, 1536]⟩
abbrev S2x2048x512 : Shape := ⟨3, ![2, 2048, 512]⟩
abbrev S_ : Shape := ⟨0, ![]⟩

class Facts : Prop where
  bitsLt_bf16_f32 : FTy.bits .bf16 < FTy.bits .f32
  bcast_S_S2x2048x1536 : S_.BroadcastsInDim S2x2048x1536 (![] : Fin 0 → Fin S2x2048x1536.rank)
  bcast_S_S2x2048x512 : S_.BroadcastsInDim S2x2048x512 (![] : Fin 0 → Fin S2x2048x512.rank)

variable [Facts]

def fn {F : FTy → Type} [FloatOps F] (main_arg0 : FVec F S2x2048x1536 .bf16) (main_arg1 : FVec F S2x2048x512 .bf16) : IVec S2x2048x1536 1 × IVec S2x2048x512 1 :=
  let main_v0 : FVec F S2x2048x1536 .f32 := (extf .f32 · bitsLt_bf16_f32) main_arg0
  let main_v1 : FVec F S2x2048x1536 .f32 := Host.absf main_v0
  let main_cst : FVec F S_ .f32 := constant S_ .f32 0x7F800000#32
  let main_v2 : FVec F S2x2048x1536 .f32 := broadcastInDim S2x2048x1536 ![] bcast_S_S2x2048x1536 main_cst
  let main_v3 : IVec S2x2048x1536 1 := cmpf .olt main_v1 main_v2
  let main_v4 : FVec F S2x2048x512 .f32 := (extf .f32 · bitsLt_bf16_f32) main_arg1
  let main_v5 : FVec F S2x2048x512 .f32 := Host.absf main_v4
  let main_cst_0 : FVec F S_ .f32 := constant S_ .f32 0x7F800000#32
  let main_v6 : FVec F S2x2048x512 .f32 := broadcastInDim S2x2048x512 ![] bcast_S_S2x2048x512 main_cst_0
  let main_v7 : IVec S2x2048x512 1 := cmpf .olt main_v5 main_v6
  (main_v3, main_v7)
-- ==== Pre_finite2.lean ====
abbrev S4096x1024 : Shape := ⟨2, ![4096, 1024]⟩
abbrev S1024 : Shape := ⟨1, ![1024]⟩
abbrev S2x1024x2816 : Shape := ⟨3, ![2, 1024, 2816]⟩
abbrev S2x2816x1024 : Shape := ⟨3, ![2, 2816, 1024]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S2x1024x2816 : S_.BroadcastsInDim S2x1024x2816 (![] : Fin 0 → Fin S2x1024x2816.rank)
  bcast_S_S2x2816x1024 : S_.BroadcastsInDim S2x2816x1024 (![] : Fin 0 → Fin S2x2816x1024.rank)

variable [Facts]

def fn {F : FTy → Type} [FloatOps F] (main_arg0 : FVec F S4096x1024 .f32) (main_arg1 : FVec F S1024 .f32) (main_arg2 : FVec F S2x1024x2816 .f32) (main_arg3 : FVec F S2x1024x2816 .f32) (main_arg4 : FVec F S2x2816x1024 .f32) (main_arg5 : FVec F S4096x1024 .f32) : IVec S4096x1024 1 × IVec S1024 1 × IVec S2x1024x2816 1 × IVec S2x1024x2816 1 × IVec S2x2816x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S2x1024x2816 .f32 := Host.absf main_arg2
  let main_cst_1 : FVec F S_ .f32 := constant S_ .f32 0x7F800000#32
  let main_v7 : FVec F S2x1024x2816 .f32 := broadcastInDim S2x1024x2816 ![] bcast_S_S2x1024x2816 main_cst_1
  let main_v8 : IVec S2x1024x2816 1 := cmpf .olt main_v6 main_v7
  let main_v9 : FVec F S2x1024x2816 .f32 := Host.absf main_arg3
  let main_cst_2 : FVec F S_ .f32 := constant S_ .f32 0x7F800000#32
  let main_v10 : FVec F S2x1024x2816 .f32 := broadcastInDim S2x1024x2816 ![] bcast_S_S2x1024x2816 main_cst_2
  let main_v11 : IVec S2x1024x2816 1 := cmpf .olt main_v9 main_v10
  let main_v12 : FVec F S2x2816x1024 .f32 := Host.absf main_arg4
  let main_cst_3 : FVec F S_ .f32 := constant S_ .f32 0x7F800000#32
  let main_v13 : FVec F S2x2816x1024 .f32 := broadcastInDim S2x2816x1024 ![] bcast_S_S2x2816x1024 main_cst_3
  let main_v14 : IVec S2x2816x1024 1 := cmpf .olt main_v12 main_v13
  let main_v15 : FVec F S4096x1024 .f32 := Host.absf main_arg5
  let main_cst_4 : FVec F S_ .f32 := constant S_ .f32 0x7F800000#32
  let main_v16 : FVec F S4096x1024 .f32 := broadcastInDim S4096x1024 ![] bcast_S_S4096x1024 main_cst_4
  let main_v17 : IVec S4096x1024 1 := cmpf .olt main_v15 main_v16
  (main_v2, main_v5, main_v8, main_v11, main_v14, main_v17)
-- ==== Kernel.lean ====
abbrev S2x2048x1536 : Shape := ⟨3, ![2, 2048, 1536]⟩
abbrev S2x2048x512 : Shape := ⟨3, ![2, 2048, 512]⟩
abbrev S2x2048x4x128 : Shape := ⟨4, ![2, 2048, 4, 128]⟩
abbrev S2x4x2048x128 : Shape := ⟨4, ![2, 4, 2048, 128]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x4x2048x2048 : Shape := ⟨4, ![2, 4, 2048, 2048]⟩
abbrev S_ : Shape := ⟨0, ![]⟩
abbrev S2x4x2048 : Shape := ⟨3, ![2, 4, 2048]⟩
abbrev S2x4x2048x1 : Shape := ⟨4, ![2, 4, 2048, 1]⟩
abbrev S1x2048x128 : Shape := ⟨3, ![1, 2048, 128]⟩
abbrev S1x1x2048x128 : Shape := ⟨4, ![1, 1, 2048, 128]⟩
abbrev S2048x128 : Shape := ⟨2, ![2048, 128]⟩
abbrev S128x128 : Shape := ⟨2, ![128, 128]⟩
abbrev S1024x128 : Shape := ⟨2, ![1024, 128]⟩
abbrev S1x1024x128 : Shape := ⟨3, ![1, 1024, 128]⟩
abbrev S1x1x1024x128 : Shape := ⟨4, ![1, 1, 1024, 128]⟩
abbrev S1024x1 : Shape := ⟨2, ![1024, 1]⟩
abbrev S1x128x128 : Shape := ⟨3, ![1, 128, 128]⟩
abbrev S1024 : Shape := ⟨1, ![1024]⟩

abbrev nBuf : Space → Nat
  | .hbm => 52
  | .vmem => 18
  | .smem => 0
  | _ => 0

abbrev bufTy : (tb : Table) → Fin (tcTables nBuf tb) → BufTy
  | .hbm, ⟨0, _⟩ => ⟨S2x2048x1536, .bf16⟩
  | .hbm, ⟨1, _⟩ => ⟨S2x2048x512, .bf16⟩
  | .hbm, ⟨2, _⟩ => ⟨S2x2048x1536, .f32⟩
  | .hbm, ⟨3, _⟩ => ⟨S2x2048x512, .f32⟩
  | .hbm, ⟨4, _⟩ => ⟨S2x2048x512, .f32⟩
  | .hbm, ⟨5, _⟩ => ⟨S2x2048x512, .f32⟩
  | .hbm, ⟨6, _⟩ => ⟨S2x2048x4x128, .f32⟩
  | .hbm, ⟨7, _⟩ => ⟨S2x4x2048x128, .f32⟩
  | .hbm, ⟨8, _⟩ => ⟨S2x2048x4x128, .f32⟩
  | .hbm, ⟨9, _⟩ => ⟨S2x4x2048x128, .f32⟩
  | .hbm, ⟨10, _⟩ => ⟨S2x2048x4x128, .f32⟩
  | .hbm, ⟨11, _⟩ => ⟨S2x4x2048x128, .f32⟩
  | .hbm, ⟨12, _⟩ => ⟨S2048, .i32⟩
  | .hbm, ⟨13, _⟩ => ⟨S1x2048, .i32⟩
  | .hbm, ⟨14, _⟩ => ⟨S2048, .i32⟩
  | .hbm, ⟨15, _⟩ => ⟨S2048x1, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S2x4x2048x2048, .f32⟩
  | .hbm, ⟨20, _⟩ => ⟨S_, .f32⟩
  | .hbm, ⟨21, _⟩ => ⟨S2x4x2048x2048, .f32⟩
  | .hbm, ⟨22, _⟩ => ⟨S2x4x2048x2048, .f32⟩
  | .hbm, ⟨23, _⟩ => ⟨S2x4x2048x2048, .f32⟩
  | .hbm, ⟨24, _⟩ => ⟨S2x4x2048x2048, .f32⟩
  | .hbm, ⟨25, _⟩ => ⟨S_, .f32⟩
  | .hbm, ⟨26, _⟩ => ⟨S2x4x2048x2048, .f32⟩
  | .hbm, ⟨27, _⟩ => ⟨S2x4x2048x2048, .f32⟩
  | .hbm, ⟨28, _⟩ => ⟨S2x4x2048x2048, .f32⟩
  | .hbm, ⟨29, _⟩ => ⟨S2x4x2048x2048, .f32⟩
  | .hbm, ⟨30, _⟩ => ⟨S2x4x2048x2048, .i1⟩
  | .hbm, ⟨31, _⟩ => ⟨S2x4x2048x2048, .f32⟩
  | .hbm, ⟨32, _⟩ => ⟨S2x4x2048x2048, .f32⟩
  | .hbm, ⟨33, _⟩ => ⟨S2x4x2048x2048, .f32⟩
  | .hbm, ⟨34, _⟩ => ⟨S2x4x2048x2048, .f32⟩
  | .hbm, ⟨35, _⟩ => ⟨S2x4x2048x2048, .f32⟩
  | .hbm, ⟨36, _⟩ => ⟨S2x4x2048x2048, .f32⟩
  | .hbm, ⟨37, _⟩ => ⟨S2x4x2048x2048, .f32⟩
  | .hbm, ⟨38, _⟩ => ⟨S2x4x2048x2048, .f32⟩
  | .hbm, ⟨39, _⟩ => ⟨S2x4x2048x2048, .f32⟩
  | .hbm, ⟨40, _⟩ => ⟨S_, .f32⟩
  | .hbm, ⟨41, _⟩ => ⟨S_, .f32⟩
  | .hbm, ⟨42, _⟩ => ⟨S2x4x2048x2048, .i1⟩
  | .hbm, ⟨43, _⟩ => ⟨S2x4x2048x2048, .f32⟩
  | .hbm, ⟨44, _⟩ => ⟨S2x4x2048x2048, .f32⟩
  | .hbm, ⟨45, _⟩ => ⟨S_, .f32⟩
  | .hbm, ⟨46, _⟩ => ⟨S2x4x2048, .f32⟩
  | .hbm, ⟨47, _⟩ => ⟨S2x4x2048x1, .f32⟩
  | .hbm, ⟨48, _⟩ => ⟨S2x4x2048x128, .f32⟩
  | .hbm, ⟨49, _⟩ => ⟨S2x2048x512, .bf16⟩
  | .hbm, ⟨50, _⟩ => ⟨S2x2048x512, .bf16⟩
  | .hbm, ⟨51, _⟩ => ⟨S2x2048x512, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x1x2048x128, .f32⟩
  | .local _ .vmem, ⟨9, _⟩ => ⟨S1x1x2048x128, .f32⟩
  | .local _ .vmem, ⟨10, _⟩ => ⟨S1x2048x128, .bf16⟩
  | .local _ .vmem, ⟨11, _⟩ => ⟨S1x2048x128, .bf16⟩
  | .local _ .vmem, ⟨12, _⟩ => ⟨S1x2048x128, .bf16⟩
  | .local _ .vmem, ⟨13, _⟩ => ⟨S1x2048x128, .bf16⟩
  | .local _ .vmem, ⟨14, _⟩ => ⟨S1x2048x128, .bf16⟩
  | .local _ .vmem, ⟨15, _⟩ => ⟨S1x2048x128, .bf16⟩
  | .local _ .vmem, ⟨16, _⟩ => ⟨S2048x128, .f32⟩
  | .local _ .vmem, ⟨17, _⟩ => ⟨S2048x128, .f32⟩
  | _, _ => ⟨S2x2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_cst : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1 : Ref sig .tc := ⟨.hbm, 38, rfl⟩
abbrev main_v21 : Ref sig .tc := ⟨.hbm, 39, rfl⟩
abbrev main_cst_0 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v22 : Ref sig .tc := ⟨.hbm, 44, rfl⟩
abbrev main_cst_1 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26_0 : Ref sig .tc := ⟨.hbm, 49, rfl⟩
abbrev main_v26_1 : Ref sig .tc := ⟨.hbm, 50, rfl⟩
abbrev main_v26_2 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 4], ![false, false]⟩

@[reducible] def k0_t1_loop : Scf.Loop 32 :=
  let c0_i32 : BitVec 32 := 0#32
  let c2_i32 : BitVec 32 := 2#32
  let v20 : BitVec 32 := Scalar.addi c0_i32 c2_i32
  let c1_i32 : BitVec 32 := 1#32
  ⟨c0_i32, v20, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c1024_i32 : BitVec 32 := 1024#32
  let v31 : BitVec 32 := Scalar.muli arg12 c1024_i32
  v31
def k0_off1 (k0_t1 : Fin k0_t1_loop.trips) : Fin 3 → Nat :=
  let c0_15 : Index := 0#32
  let c0_i32 : BitVec 32 := 0#32
  let c1_i32 : BitVec 32 := 1#32
  let arg12 : BitVec 32 := Scf.iv c0_i32 c1_i32 k0_t1
  let c1024_i32 : BitVec 32 := 1024#32
  let v31 : BitVec 32 := Scalar.muli arg12 c1024_i32
  let v32 : BitVec 32 := v31
  let v33 : Index := Scalar.indexCast v32
  let c0_16 : Index := 0#32
  ![0, v33.toNat, 0]
def k0_off2 (k0_t1 : Fin k0_t1_loop.trips) : Fin 4 → Nat :=
  let c0_19 : Index := 0#32
  let c0_20 : Index := 0#32
  let c0_i32 : BitVec 32 := 0#32
  let c1_i32 : BitVec 32 := 1#32
  let arg12 : BitVec 32 := Scf.iv c0_i32 c1_i32 k0_t1
  let c1024_i32 : BitVec 32 := 1024#32
  let v31 : BitVec 32 := Scalar.muli arg12 c1024_i32
  let v32 : BitVec 32 := v31
  let v39 : Index := Scalar.indexCast v32
  let c0_21 : Index := 0#32
  ![0, 0, v39.toNat, 0]
@[reducible] def k0_t2_loop (k0_t1 : Fin k0_t1_loop.trips) : Scf.Loop 32 :=
  let c0_i32_24 : BitVec 32 := 0#32
  let c0_i32 : BitVec 32 := 0#32
  let c1_i32 : BitVec 32 := 1#32
  let arg12 : BitVec 32 := Scf.iv c0_i32 c1_i32 k0_t1
  let v45 : BitVec 32 := Scalar.subi arg12 c0_i32_24
  let c1_i32_25 : BitVec 32 := 1#32
  let v47 : BitVec 32 := Scalar.divsi v45 c1_i32_25
  let v48 : BitVec 32 := Scalar.muli v47 c1_i32_25
  let v49 : BitVec 32 := Scalar.addi c0_i32_24 v48
  let c1_i32_26 : BitVec 32 := 1#32
  ⟨c0_i32_24, v49, c1_i32_26⟩
def k0_mult2 (k0_t1 : Fin k0_t1_loop.trips) (k0_t2 : Fin (k0_t2_loop k0_t1).trips) : BitVec 32 :=
  let c0_i32_24 : BitVec 32 := 0#32
  let c1_i32_26 : BitVec 32 := 1#32
  let arg13 : BitVec 32 := Scf.iv c0_i32_24 c1_i32_26 k0_t2
  let c1024_i32_262 : BitVec 32 := 1024#32
  let v765 : BitVec 32 := Scalar.muli arg13 c1024_i32_262
  v765
def k0_off3 (k0_t1 : Fin k0_t1_loop.trips) (k0_t2 : Fin (k0_t2_loop k0_t1).trips) (c0_i32_263 : BitVec 32) : Fin 3 → Nat :=
  let c0_264 : Index := 0#32
  let c0_i32_24 : BitVec 32 := 0#32
  let c1_i32_26 : BitVec 32 := 1#32
  let arg13 : BitVec 32 := Scf.iv c0_i32_24 c1_i32_26 k0_t2
  let c1024_i32_262 : BitVec 32 := 1024#32
  let v765 : BitVec 32 := Scalar.muli arg13 c1024_i32_262
  let v766 : BitVec 32 := v765
  let v767 : BitVec 32 := Scalar.addi v766 c0_i32_263
  let v768 : Index := Scalar.indexCast v767
  let c0_265 : Index := 0#32
  ![0, v768.toNat, 0]
def k0_off4 (k0_t1 : Fin k0_t1_loop.trips) (k0_t2 : Fin (k0_t2_loop k0_t1).trips) (c0_i32_263 : BitVec 32) : Fin 2 → Nat :=
  let c0_i32_24 : BitVec 32 := 0#32
  let c1_i32_26 : BitVec 32 := 1#32
  let arg13 : BitVec 32 := Scf.iv c0_i32_24 c1_i32_26 k0_t2
  let c1024_i32_262 : BitVec 32 := 1024#32
  let v765 : BitVec 32 := Scalar.muli arg13 c1024_i32_262
  let v766 : BitVec 32 := v765
  let v767 : BitVec 32 := Scalar.addi v766 c0_i32_263
  let v826 : Index := Scalar.indexCast v767
  let c0_282 : Index := 0#32
  ![v826.toNat, 0]
@[reducible] def k0_t3_loop (k0_t1 : Fin k0_t1_loop.trips) : Scf.Loop 32 :=
  let c0_i32_24 : BitVec 32 := 0#32
  let c0_i32 : BitVec 32 := 0#32
  let c1_i32 : BitVec 32 := 1#32
  let arg12 : BitVec 32 := Scf.iv c0_i32 c1_i32 k0_t1
  let v45 : BitVec 32 := Scalar.subi arg12 c0_i32_24
  let c1_i32_25 : BitVec 32 := 1#32
  let v47 : BitVec 32 := Scalar.divsi v45 c1_i32_25
  let v48 : BitVec 32 := Scalar.muli v47 c1_i32_25
  let v49 : BitVec 32 := Scalar.addi c0_i32_24 v48
  let v46 : BitVec 32 := Scalar.addi c0_i32_24 v45
  let c1_i32_27 : BitVec 32 := 1#32
  ⟨v49, v46, c1_i32_27⟩
def k0_mult3 (k0_t1 : Fin k0_t1_loop.trips) (k0_t3 : Fin (k0_t3_loop k0_t1).trips) : BitVec 32 :=
  let c0_i32_24 : BitVec 32 := 0#32
  let c0_i32 : BitVec 32 := 0#32
  let c1_i32 : BitVec 32 := 1#32
  let arg12 : BitVec 32 := Scf.iv c0_i32 c1_i32 k0_t1
  let v45 : BitVec 32 := Scalar.subi arg12 c0_i32_24
  let c1_i32_25 : BitVec 32 := 1#32
  let v47 : BitVec 32 := Scalar.divsi v45 c1_i32_25
  let v48 : BitVec 32 := Scalar.muli v47 c1_i32_25
  let v49 : BitVec 32 := Scalar.addi c0_i32_24 v48
  let c1_i32_27 : BitVec 32 := 1#32
  let arg13 : BitVec 32 := Scf.iv v49 c1_i32_27 k0_t3
  let c1024_i32_262 : BitVec 32 := 1024#32
  let v765 : BitVec 32 := Scalar.muli arg13 c1024_i32_262
  v765
def k0_off5 (k0_t1 : Fin k0_t1_loop.trips) (k0_t3 : Fin (k0_t3_loop k0_t1).trips) (c0_i32_263 : BitVec 32) : Fin 3 → Nat :=
  let c0_264 : Index := 0#32
  let c0_i32_24 : BitVec 32 := 0#32
  let c0_i32 : BitVec 32 := 0#32
  let c1_i32 : BitVec 32 := 1#32
  let arg12 : BitVec 32 := Scf.iv c0_i32 c1_i32 k0_t1
  let v45 : BitVec 32 := Scalar.subi arg12 c0_i32_24
  let c1_i32_25 : BitVec 32 := 1#32
  let v47 : BitVec 32 := Scalar.divsi v45 c1_i32_25
  let v48 : BitVec 32 := Scalar.muli v47 c1_i32_25
  let v49 : BitVec 32 := Scalar.addi c0_i32_24 v48
  let c1_i32_27 : BitVec 32 := 1#32
  let arg13 : BitVec 32 := Scf.iv v49 c1_i32_27 k0_t3
  let c1024_i32_262 : BitVec 32 := 1024#32
  let v765 : BitVec 32 := Scalar.muli arg13 c1024_i32_262
  let v766 : BitVec 32 := v765
  let v767 : BitVec 32 := Scalar.addi v766 c0_i32_263
  let v768 : Index := Scalar.indexCast v767
  let c0_265 : Index := 0#32
  ![0, v768.toNat, 0]
def k0_off6 (k0_t1 : Fin k0_t1_loop.trips) (k0_t3 : Fin (k0_t3_loop k0_t1).trips) (c0_i32_263 : BitVec 32) : Fin 2 → Nat :=
  let c0_i32_24 : BitVec 32 := 0#32
  let c0_i32 : BitVec 32 := 0#32
  let c1_i32 : BitVec 32 := 1#32
  let arg12 : BitVec 32 := Scf.iv c0_i32 c1_i32 k0_t1
  let v45 : BitVec 32 := Scalar.subi arg12 c0_i32_24
  let c1_i32_25 : BitVec 32 := 1#32
  let v47 : BitVec 32 := Scalar.divsi v45 c1_i32_25
  let v48 : BitVec 32 := Scalar.muli v47 c1_i32_25
  let v49 : BitVec 32 := Scalar.addi c0_i32_24 v48
  let c1_i32_27 : BitVec 32 := 1#32
  let arg13 : BitVec 32 := Scf.iv v49 c1_i32_27 k0_t3
  let c1024_i32_262 : BitVec 32 := 1024#32
  let v765 : BitVec 32 := Scalar.muli arg13 c1024_i32_262
  let v766 : BitVec 32 := v765
  let v767 : BitVec 32 := Scalar.addi v766 c0_i32_263
  let v826 : Index := Scalar.indexCast v767
  let c0_282 : Index := 0#32
  ![v826.toNat, 0]
def k0_off7 (k0_t1 : Fin k0_t1_loop.trips) (c0_i32_28 : BitVec 32) : Fin 3 → Nat :=
  let c0_30 : Index := 0#32
  let c0_i32 : BitVec 32 := 0#32
  let c1_i32 : BitVec 32 := 1#32
  let arg12 : BitVec 32 := Scf.iv c0_i32 c1_i32 k0_t1
  let c1024_i32 : BitVec 32 := 1024#32
  let v31 : BitVec 32 := Scalar.muli arg12 c1024_i32
  let v32 : BitVec 32 := v31
  let v52 : BitVec 32 := Scalar.addi v32 c0_i32_28
  let v56 : Index := Scalar.indexCast v52
  let c0_31 : Index := 0#32
  ![0, v56.toNat, 0]
def k0_off8 (k0_t1 : Fin k0_t1_loop.trips) (c0_i32_28 : BitVec 32) : Fin 2 → Nat :=
  let c0_i32 : BitVec 32 := 0#32
  let c1_i32 : BitVec 32 := 1#32
  let arg12 : BitVec 32 := Scf.iv c0_i32 c1_i32 k0_t1
  let c1024_i32 : BitVec 32 := 1024#32
  let v31 : BitVec 32 := Scalar.muli arg12 c1024_i32
  let v32 : BitVec 32 := v31
  let v52 : BitVec 32 := Scalar.addi v32 c0_i32_28
  let v120 : Index := Scalar.indexCast v52
  let c0_51 : Index := 0#32
  ![v120.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S2x2048x1536 : Shape := ⟨3, ![2, 2048, 1536]⟩
abbrev S2x2048x512 : Shape := ⟨3, ![2, 2048, 512]⟩
abbrev S2x2048x4x128 : Shape := ⟨4, ![2, 2048, 4, 128]⟩
abbrev S2x4x2048x128 : Shape := ⟨4, ![2, 4, 2048, 128]⟩
abbrev S2x4x2048x2048 : Shape := ⟨4, ![2, 4, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x4x128x2048 : Shape := ⟨4, ![2, 4, 128, 2048]⟩

abbrev nBuf : Space → Nat
  | .hbm => 187
  | .vmem => 0
  | .smem => 0
  | _ => 0

abbrev hbmTy0_0 (i : Nat) : BufTy := match i % 128 with
  | 0 => ⟨S2x2048x1536, .bf16⟩
  | 1 => ⟨S2x2048x512, .bf16⟩
  | 2 => ⟨S2x2048x1536, .f32⟩
  | 3 => ⟨S2x2048x512, .f32⟩
  | 4 => ⟨S2x2048x512, .f32⟩
  | 5 => ⟨S2x2048x512, .f32⟩
  | 6 => ⟨S2x2048x4x128, .f32⟩
  | 7 => ⟨S2x4x2048x128, .f32⟩
  | 8 => ⟨S2x2048x4x128, .f32⟩
  | 9 => ⟨S2x4x2048x128, .f32⟩
  | 10 => ⟨S2x2048x4x128, .f32⟩
  | 11 => ⟨S2x4x2048x128, .f32⟩
  | 12 => ⟨S2x4x2048x2048, .f32⟩
  | 13 => ⟨S_, .f32⟩
  | 14 => ⟨S2x4x2048x2048, .f32⟩
  | 15 => ⟨S2x4x2048x2048, .f32⟩
  | 16 => ⟨S2048, .i32⟩
  | 17 => ⟨S1x2048, .i32⟩
  | 18 => ⟨S2048, .i32⟩
  | 19 => ⟨S2048x1, .i32⟩
  | 20 => ⟨S2048x2048, .i32⟩
  | 21 => ⟨S2048x2048, .i32⟩
  | 22 => ⟨S2048x2048, .i1⟩
  | 23 => ⟨S2x4x2048x2048, .f32⟩
  | 24 => ⟨S2x4x2048x2048, .f32⟩
  | 25 => ⟨S_, .f32⟩
  | 26 => ⟨S2x4x2048x2048, .f32⟩
  | 27 => ⟨S2x4x2048x2048, .f32⟩
  | 28 => ⟨S2x4x2048x2048, .f32⟩
  | 29 => ⟨S2x4x2048x2048, .f32⟩
  | 30 => ⟨S2x4x2048x2048, .i1⟩
  | 31 => ⟨S2x4x2048x2048, .f32⟩
  | 32 => ⟨S2x4x2048x2048, .f32⟩
  | 33 => ⟨S2x4x2048x2048, .f32⟩
  | 34 => ⟨S2x4x2048x2048, .f32⟩
  | 35 => ⟨S2x4x2048x2048, .f32⟩
  | 36 => ⟨S2x4x2048x2048, .f32⟩
  | 37 => ⟨S2x4x2048x2048, .f32⟩
  | 38 => ⟨S2x4x2048x2048, .f32⟩
  | 39 => ⟨S_, .f32⟩
  | 40 => ⟨S2x4x2048x2048, .f32⟩
  | 41 => ⟨S2x4x2048x2048, .i1⟩
  | 42 => ⟨S_, .f32⟩
  | 43 => ⟨S2x4x2048x2048, .f32⟩
  | 44 => ⟨S2x4x2048x2048, .f32⟩
  | 45 => ⟨S_, .f32⟩
  | 46 => ⟨S2x4x2048x2048, .f32⟩
  | 47 => ⟨S2x4x2048x2048, .i1⟩
  | 48 => ⟨S_, .f32⟩
  | 49 => ⟨S2x4x2048x2048, .f32⟩
  | 50 => ⟨S2x4x2048x2048, .f32⟩
  | 51 => ⟨S2x4x2048x2048, .f32⟩
  | 52 => ⟨S2x4x2048x2048, .f32⟩
  | 53 => ⟨S_, .f32⟩
  | 54 => ⟨S_, .f32⟩
  | 55 => ⟨S_, .i1⟩
  | 56 => ⟨S_, .f32⟩
  | 57 => ⟨S_, .f32⟩
  | 58 => ⟨S_, .f32⟩
  | 59 => ⟨S_, .f32⟩
  | 60 => ⟨S2x4x2048x2048, .f32⟩
  | 61 => ⟨S2x4x2048x2048, .i1⟩
  | 62 => ⟨S_, .f32⟩
  | 63 => ⟨S2x4x2048x2048, .f32⟩
  | 64 => ⟨S2x4x2048x2048, .f32⟩
  | 65 => ⟨S2x4x2048x2048, .f32⟩
  | 66 => ⟨S2x4x2048x2048, .f32⟩
  | 67 => ⟨S2x4x2048x2048, .f32⟩
  | 68 => ⟨S_, .f32⟩
  | 69 => ⟨S2x4x2048x2048, .f32⟩
  | 70 => ⟨S2x4x2048x2048, .f32⟩
  | 71 => ⟨S2x4x2048x2048, .f32⟩
  | 72 => ⟨S_, .f32⟩
  | 73 => ⟨S_, .f32⟩
  | 74 => ⟨S2x4x2048x2048, .i1⟩
  | 75 => ⟨S2x4x2048x2048, .f32⟩
  | 76 => ⟨S2x4x2048x2048, .f32⟩
  | 77 => ⟨S_, .f32⟩
  | 78 => ⟨S2x4x2048x2048, .f32⟩
  | 79 => ⟨S_, .f32⟩
  | 80 => ⟨S_, .f32⟩
  | 81 => ⟨S2x4x2048x2048, .f32⟩
  | 82 => ⟨S2x4x2048x2048, .f32⟩
  | 83 => ⟨S2x4x2048x2048, .f32⟩
  | 84 => ⟨S_, .f32⟩
  | 85 => ⟨S2x4x2048x2048, .f32⟩
  | 86 => ⟨S2x4x2048x2048, .f32⟩
  | 87 => ⟨S2x4x2048x2048, .f32⟩
  | 88 => ⟨S2x4x2048x2048, .f32⟩
  | 89 => ⟨S2x4x2048x2048, .i1⟩
  | 90 => ⟨S2x4x2048x2048, .f32⟩
  | 91 => ⟨S2x4x2048x2048, .f32⟩
  | 92 => ⟨S2x4x2048x2048, .f32⟩
  | 93 => ⟨S2x4x2048x2048, .f32⟩
  | 94 => ⟨S2x4x2048x2048, .f32⟩
  | 95 => ⟨S2x4x2048x2048, .f32⟩
  | 96 => ⟨S2x4x2048x2048, .f32⟩
  | 97 => ⟨S2x4x2048x2048, .f32⟩
  | 98 => ⟨S_, .f32⟩
  | 99 => ⟨S2x4x2048x2048, .f32⟩
  | 100 => ⟨S2x4x2048x2048, .i1⟩
  | 101 => ⟨S_, .f32⟩
  | 102 => ⟨S2x4x2048x2048, .f32⟩
  | 103 => ⟨S2x4x2048x2048, .f32⟩
  | 104 => ⟨S_, .f32⟩
  | 105 => ⟨S2x4x2048x2048, .f32⟩
  | 106 => ⟨S2x4x2048x2048, .i1⟩
  | 107 => ⟨S_, .f32⟩
  | 108 => ⟨S2x4x2048x2048, .f32⟩
  | 109 => ⟨S2x4x2048x2048, .f32⟩
  | 110 => ⟨S2x4x2048x2048, .f32⟩
  | 111 => ⟨S2x4x2048x2048, .f32⟩
  | 112 => ⟨S_, .f32⟩
  | 113 => ⟨S_, .f32⟩
  | 114 => ⟨S_, .i1⟩
  | 115 => ⟨S_, .f32⟩
  | 116 => ⟨S_, .f32⟩
  | 117 => ⟨S_, .f32⟩
  | 118 => ⟨S_, .f32⟩
  | 119 => ⟨S2x4x2048x2048, .f32⟩
  | 120 => ⟨S2x4x2048x2048, .i1⟩
  | 121 => ⟨S_, .f32⟩
  | 122 => ⟨S2x4x2048x2048, .f32⟩
  | 123 => ⟨S2x4x2048x2048, .f32⟩
  | 124 => ⟨S2x4x2048x2048, .f32⟩
  | 125 => ⟨S2x4x2048x2048, .f32⟩
  | 126 => ⟨S2x4x2048x2048, .f32⟩
  | 127 => ⟨S_, .f32⟩
  | _ => ⟨S2x2048x1536, .bf16⟩

abbrev hbmTy0_1 (i : Nat) : BufTy := match i % 128 with
  | 0 => ⟨S2x4x2048x2048, .f32⟩
  | 1 => ⟨S2x4x2048x2048, .f32⟩
  | 2 => ⟨S2x4x2048x2048, .f32⟩
  | 3 => ⟨S2x4x2048x2048, .f32⟩
  | 4 => ⟨S2x4x2048x2048, .f32⟩
  | 5 => ⟨S_, .f32⟩
  | 6 => ⟨S_, .f32⟩
  | 7 => ⟨S2x4x2048x2048, .i1⟩
  | 8 => ⟨S2x4x2048x2048, .f32⟩
  | 9 => ⟨S2x4x2048x2048, .f32⟩
  | 10 => ⟨S_, .f32⟩
  | 11 => ⟨S2x4x2048x2048, .f32⟩
  | 12 => ⟨S2x4x2048x128, .f32⟩
  | 13 => ⟨S2x2048x4x128, .f32⟩
  | 14 => ⟨S2x2048x512, .f32⟩
  | 15 => ⟨S2x2048x512, .f32⟩
  | 16 => ⟨S2x2048x4x128, .f32⟩
  | 17 => ⟨S2x4x2048x128, .f32⟩
  | 18 => ⟨S2x4x128x2048, .f32⟩
  | 19 => ⟨S2x4x2048x128, .f32⟩
  | 20 => ⟨S2x4x2048x2048, .f32⟩
  | 21 => ⟨S_, .f32⟩
  | 22 => ⟨S2x4x2048x2048, .f32⟩
  | 23 => ⟨S2x4x2048x2048, .f32⟩
  | 24 => ⟨S2x4x2048x2048, .f32⟩
  | 25 => ⟨S2x4x2048x2048, .f32⟩
  | 26 => ⟨S2x4x2048x2048, .f32⟩
  | 27 => ⟨S2x4x2048x2048, .f32⟩
  | 28 => ⟨S2x4x2048x2048, .f32⟩
  | 29 => ⟨S_, .f32⟩
  | 30 => ⟨S_, .f32⟩
  | 31 => ⟨S2x4x2048x2048, .f32⟩
  | 32 => ⟨S2x4x2048x2048, .f32⟩
  | 33 => ⟨S_, .f32⟩
  | 34 => ⟨S2x4x2048x2048, .f32⟩
  | 35 => ⟨S2x4x2048x2048, .f32⟩
  | 36 => ⟨S2x4x2048x2048, .f32⟩
  | 37 => ⟨S2x4x2048x2048, .f32⟩
  | 38 => ⟨S2x4x2048x2048, .f32⟩
  | 39 => ⟨S2x4x2048x2048, .f32⟩
  | 40 => ⟨S2x4x2048x2048, .f32⟩
  | 41 => ⟨S_, .f32⟩
  | 42 => ⟨S2x4x2048x2048, .f32⟩
  | 43 => ⟨S2x4x2048x2048, .f32⟩
  | 44 => ⟨S2x4x2048x128, .f32⟩
  | 45 => ⟨S2x4x2048x128, .f32⟩
  | 46 => ⟨S2x2048x4x128, .f32⟩
  | 47 => ⟨S2x2048x512, .f32⟩
  | 48 => ⟨S2x2048x4x128, .f32⟩
  | 49 => ⟨S2x2048x512, .f32⟩
  | 50 => ⟨S2x2048x4x128, .f32⟩
  | 51 => ⟨S2x2048x512, .f32⟩
  | 52 => ⟨S2x2048x1536, .f32⟩
  | 53 => ⟨S2x2048x512, .f32⟩
  | 54 => ⟨S2x2048x512, .f32⟩
  | 55 => ⟨S2x2048x512, .f32⟩
  | 56 => ⟨S2x2048x512, .bf16⟩
  | 57 => ⟨S2x2048x512, .bf16⟩
  | 58 => ⟨S2x2048x512, .bf16⟩
  | _ => ⟨S2x2048x1536, .bf16⟩

abbrev hbmTy (i : Nat) : BufTy := match i / 128 with
  | 0 => hbmTy0_0 i
  | 1 => hbmTy0_1 i
  | _ => ⟨S2x2048x1536, .bf16⟩

abbrev bufTy : (tb : Table) → Fin (tcTables nBuf tb) → BufTy
  | .hbm, ⟨i, _⟩ => hbmTy i
  | _, _ => ⟨S2x2048x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1_0 : Ref sig .tc := ⟨.hbm, 38, rfl⟩
abbrev main_call0_call0_cst_0 : Ref sig .tc := ⟨.hbm, 39, rfl⟩
abbrev main_call0_call0_v13 : Ref sig .tc := ⟨.hbm, 40, rfl⟩
abbrev main_call0_call0_v14 : Ref sig .tc := ⟨.hbm, 41, rfl⟩
abbrev main_call0_call0_cst_1 : Ref sig .tc := ⟨.hbm, 42, rfl⟩
abbrev main_call0_call0_v15 : Ref sig .tc := ⟨.hbm, 43, rfl⟩
abbrev main_call0_call0_v16 : Ref sig .tc := ⟨.hbm, 44, rfl⟩
abbrev main_call0_call0_cst_2 : Ref sig .tc := ⟨.hbm, 45, rfl⟩
abbrev main_call0_call0_v17 : Ref sig .tc := ⟨.hbm, 46, rfl⟩
abbrev main_call0_call0_v18 : Ref sig .tc := ⟨.hbm, 47, rfl⟩
abbrev main_call0_call0_cst_3 : Ref sig .tc := ⟨.hbm, 48, rfl⟩
abbrev main_call0_call0_v19 : Ref sig .tc := ⟨.hbm, 49, rfl⟩
abbrev main_call0_call0_v20 : Ref sig .tc := ⟨.hbm, 50, rfl⟩
abbrev main_call0_call0_v21 : Ref sig .tc := ⟨.hbm, 51, rfl⟩
abbrev main_v21_1 : Ref sig .tc := ⟨.hbm, 52, rfl⟩
abbrev main_call0_call0_cst_4 : Ref sig .tc := ⟨.hbm, 53, rfl⟩
abbrev main_call0_call0_cst_5 : Ref sig .tc := ⟨.hbm, 54, rfl⟩
abbrev main_call0_call0_v23 : Ref sig .tc := ⟨.hbm, 55, rfl⟩
abbrev main_call0_call0_cst_6 : Ref sig .tc := ⟨.hbm, 56, rfl⟩
abbrev main_call0_call0_cst_7 : Ref sig .tc := ⟨.hbm, 57, rfl⟩
abbrev main_call0_call0_v24 : Ref sig .tc := ⟨.hbm, 58, rfl⟩
abbrev main_call0_call0_cst_8 : Ref sig .tc := ⟨.hbm, 59, rfl⟩
abbrev main_call0_call0_v25 : Ref sig .tc := ⟨.hbm, 60, rfl⟩
abbrev main_call0_call0_v26 : Ref sig .tc := ⟨.hbm, 61, rfl⟩
abbrev main_call0_call0_cst_9 : Ref sig .tc := ⟨.hbm, 62, rfl⟩
abbrev main_call0_call0_v27 : Ref sig .tc := ⟨.hbm, 63, rfl⟩
abbrev main_call0_call0_v28 : Ref sig .tc := ⟨.hbm, 64, rfl⟩
abbrev main_call0_call0_v29 : Ref sig .tc := ⟨.hbm, 65, rfl⟩
abbrev main_call0_call0_v30 : Ref sig .tc := ⟨.hbm, 66, rfl⟩
abbrev main_call0_call0_v31 : Ref sig .tc := ⟨.hbm, 67, rfl⟩
abbrev main_call0_call0_cst_10 : Ref sig .tc := ⟨.hbm, 68, rfl⟩
abbrev main_call0_call0_v32 : Ref sig .tc := ⟨.hbm, 69, rfl⟩
abbrev main_v21_2 : Ref sig .tc := ⟨.hbm, 70, rfl⟩
abbrev main_v21_0 : Ref sig .tc := ⟨.hbm, 71, rfl⟩
abbrev main_cst_0 : Ref sig .tc := ⟨.hbm, 72, rfl⟩
abbrev main_call1_v0 : Ref sig .tc := ⟨.hbm, 73, rfl⟩
abbrev main_v22_1 : Ref sig .tc := ⟨.hbm, 74, rfl⟩
abbrev main_call1_v2 : Ref sig .tc := ⟨.hbm, 75, rfl⟩
abbrev main_v22_0 : Ref sig .tc := ⟨.hbm, 76, rfl⟩
abbrev main_call1_cst : Ref sig .tc := ⟨.hbm, 77, rfl⟩
abbrev main_v22_2 : Ref sig .tc := ⟨.hbm, 78, rfl⟩
abbrev main_call2_cst : Ref sig .tc := ⟨.hbm, 79, rfl⟩
abbrev main_call2_v0 : Ref sig .tc := ⟨.hbm, 80, rfl⟩
abbrev main_v23 : Ref sig .tc := ⟨.hbm, 81, rfl⟩
abbrev main_v24 : Ref sig .tc := ⟨.hbm, 82, rfl⟩
abbrev main_call3_v0 : Ref sig .tc := ⟨.hbm, 83, rfl⟩
abbrev main_call3_call0_cst : Ref sig .tc := ⟨.hbm, 84, rfl⟩
abbrev main_call3_call0_v0 : Ref sig .tc := ⟨.hbm, 85, rfl⟩
abbrev main_call3_call0_v1 : Ref sig .tc := ⟨.hbm, 86, rfl⟩
abbrev main_call3_call0_v2 : Ref sig .tc := ⟨.hbm, 87, rfl⟩
abbrev main_call3_call0_v3 : Ref sig .tc := ⟨.hbm, 88, rfl⟩
abbrev main_call3_call0_v4 : Ref sig .tc := ⟨.hbm, 89, rfl⟩
abbrev main_call3_call0_v5 : Ref sig .tc := ⟨.hbm, 90, rfl⟩
abbrev main_call3_call0_v6 : Ref sig .tc := ⟨.hbm, 91, rfl⟩
abbrev main_call3_call0_v7 : Ref sig .tc := ⟨.hbm, 92, rfl⟩
abbrev main_call3_call0_v8 : Ref sig .tc := ⟨.hbm, 93, rfl⟩
abbrev main_call3_call0_v9 : Ref sig .tc := ⟨.hbm, 94, rfl⟩
abbrev main_call3_call0_v10 : Ref sig .tc := ⟨.hbm, 95, rfl⟩
abbrev main_call3_call0_v11 : Ref sig .tc := ⟨.hbm, 96, rfl⟩
abbrev main_call3_v1_0 : Ref sig .tc := ⟨.hbm, 97, rfl⟩
abbrev main_call3_call0_cst_0 : Ref sig .tc := ⟨.hbm, 98, rfl⟩
abbrev main_call3_call0_v13 : Ref sig .tc := ⟨.hbm, 99, rfl⟩
abbrev main_call3_call0_v14 : Ref sig .tc := ⟨.hbm, 100, rfl⟩
abbrev main_call3_call0_cst_1 : Ref sig .tc := ⟨.hbm, 101, rfl⟩
abbrev main_call3_call0_v15 : Ref sig .tc := ⟨.hbm, 102, rfl⟩
abbrev main_call3_call0_v16 : Ref sig .tc := ⟨.hbm, 103, rfl⟩
abbrev main_call3_call0_cst_2 : Ref sig .tc := ⟨.hbm, 104, rfl⟩
abbrev main_call3_call0_v17 : Ref sig .tc := ⟨.hbm, 105, rfl⟩
abbrev main_call3_call0_v18 : Ref sig .tc := ⟨.hbm, 106, rfl⟩
abbrev main_call3_call0_cst_3 : Ref sig .tc := ⟨.hbm, 107, rfl⟩
abbrev main_call3_call0_v19 : Ref sig .tc := ⟨.hbm, 108, rfl⟩
abbrev main_call3_call0_v20 : Ref sig .tc := ⟨.hbm, 109, rfl⟩
abbrev main_call3_call0_v21 : Ref sig .tc := ⟨.hbm, 110, rfl⟩
abbrev main_v25_1 : Ref sig .tc := ⟨.hbm, 111, rfl⟩
abbrev main_call3_call0_cst_4 : Ref sig .tc := ⟨.hbm, 112, rfl⟩
abbrev main_call3_call0_cst_5 : Ref sig .tc := ⟨.hbm, 113, rfl⟩
abbrev main_call3_call0_v23 : Ref sig .tc := ⟨.hbm, 114, rfl⟩
abbrev main_call3_call0_cst_6 : Ref sig .tc := ⟨.hbm, 115, rfl⟩
abbrev main_call3_call0_cst_7 : Ref sig .tc := ⟨.hbm, 116, rfl⟩
abbrev main_call3_call0_v24 : Ref sig .tc := ⟨.hbm, 117, rfl⟩
abbrev main_call3_call0_cst_8 : Ref sig .tc := ⟨.hbm, 118, rfl⟩
abbrev main_call3_call0_v25 : Ref sig .tc := ⟨.hbm, 119, rfl⟩
abbrev main_call3_call0_v26 : Ref sig .tc := ⟨.hbm, 120, rfl⟩
abbrev main_call3_call0_cst_9 : Ref sig .tc := ⟨.hbm, 121, rfl⟩
abbrev main_call3_call0_v27 : Ref sig .tc := ⟨.hbm, 122, rfl⟩
abbrev main_call3_call0_v28 : Ref sig .tc := ⟨.hbm, 123, rfl⟩
abbrev main_call3_call0_v29 : Ref sig .tc := ⟨.hbm, 124, rfl⟩
abbrev main_call3_call0_v30 : Ref sig .tc := ⟨.hbm, 125, rfl⟩
abbrev main_call3_call0_v31 : Ref sig .tc := ⟨.hbm, 126, rfl⟩
abbrev main_call3_call0_cst_10 : Ref sig .tc := ⟨.hbm, 127, rfl⟩
abbrev main_call3_call0_v32 : Ref sig .tc := ⟨.hbm, 128, rfl⟩
abbrev main_v25_2 : Ref sig .tc := ⟨.hbm, 129, rfl⟩
abbrev main_v25_0 : Ref sig .tc := ⟨.hbm, 130, rfl⟩
abbrev main_v26 : Ref sig .tc := ⟨.hbm, 131, rfl⟩
abbrev main_v27 : Ref sig .tc := ⟨.hbm, 132, rfl⟩
abbrev main_cst_1 : Ref sig .tc := ⟨.hbm, 133, rfl⟩
abbrev main_call4_v0 : Ref sig .tc := ⟨.hbm, 134, rfl⟩
abbrev main_v28_1 : Ref sig .tc := ⟨.hbm, 135, rfl⟩
abbrev main_call4_v2 : Ref sig .tc := ⟨.hbm, 136, rfl⟩
abbrev main_v28_0 : Ref sig .tc := ⟨.hbm, 137, rfl⟩
abbrev main_call4_cst : Ref sig .tc := ⟨.hbm, 138, rfl⟩
abbrev main_v28_2 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_v36 : Ref sig .tc := ⟨.hbm, 147, rfl⟩
abbrev main_v37 : Ref sig .tc := ⟨.hbm, 148, rfl⟩
abbrev main_call5_cst : Ref sig .tc := ⟨.hbm, 149, rfl⟩
abbrev main_call5_v0 : Ref sig .tc := ⟨.hbm, 150, rfl⟩
abbrev main_v38 : Ref sig .tc := ⟨.hbm, 151, rfl⟩
abbrev main_v39 : Ref sig .tc := ⟨.hbm, 152, rfl⟩
abbrev main_call6_v0 : Ref sig .tc := ⟨.hbm, 153, rfl⟩
abbrev main_call6_v1 : Ref sig .tc := ⟨.hbm, 154, rfl⟩
abbrev main_v40 : Ref sig .tc := ⟨.hbm, 155, rfl⟩
abbrev main_v41 : Ref sig .tc := ⟨.hbm, 156, rfl⟩
abbrev main_call7_cst : Ref sig .tc := ⟨.hbm, 157, rfl⟩
abbrev main_call7_v0 : Ref sig .tc := ⟨.hbm, 158, rfl⟩
abbrev main_v42 : Ref sig .tc := ⟨.hbm, 159, rfl⟩
abbrev main_v43 : Ref sig .tc := ⟨.hbm, 160, rfl⟩
abbrev main_call8_cst : Ref sig .tc := ⟨.hbm, 161, rfl⟩
abbrev main_call8_v0 : Ref sig .tc := ⟨.hbm, 162, rfl⟩
abbrev main_v44 : Ref sig .tc := ⟨.hbm, 163, rfl⟩
abbrev main_call9_v0 : Ref sig .tc := ⟨.hbm, 164, rfl⟩
abbrev main_call9_v1 : Ref sig .tc := ⟨.hbm, 165, rfl⟩
abbrev main_v45 : Ref sig .tc := ⟨.hbm, 166, rfl⟩
abbrev main_v46 : Ref sig .tc := ⟨.hbm, 167, rfl⟩
abbrev main_v47 : Ref sig .tc := ⟨.hbm, 168, rfl⟩
abbrev main_cst_2 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩
abbrev main_v56 : Ref sig .tc := ⟨.hbm, 178, rfl⟩
abbrev main_v57 : Ref sig .tc := ⟨.hbm, 179, rfl⟩
abbrev main_v58 : Ref sig .tc := ⟨.hbm, 180, rfl⟩
abbrev main_v59 : Ref sig .tc := ⟨.hbm, 181, rfl⟩
abbrev main_v60 : Ref sig .tc := ⟨.hbm, 182, rfl⟩
abbrev main_v61 : Ref sig .tc := ⟨.hbm, 183, rfl⟩
abbrev main_v62 : Ref sig .tc := ⟨.hbm, 184, rfl⟩
abbrev main_v63 : Ref sig .tc := ⟨.hbm, 185, rfl⟩
abbrev main_v64 : Ref sig .tc := ⟨.hbm, 186, rfl⟩

abbrev nD : Nat := 1
abbrev τ : Topo := Topo.v7x

variable {F : FTy → Type} [FloatOps F]
-- ==== Kernel2.lean ====
abbrev S4096x1024 : Shape := ⟨2, ![4096, 1024]⟩
abbrev S1024 : Shape := ⟨1, ![1024]⟩
abbrev S2x1024x2816 : Shape := ⟨3, ![2, 1024, 2816]⟩
abbrev S2x2816x1024 : Shape := ⟨3, ![2, 2816, 1024]⟩
abbrev S2x1024x4x704 : Shape := ⟨4, ![2, 1024, 4, 704]⟩
abbrev S4x2x1024x704 : Shape := ⟨4, ![4, 2, 1024, 704]⟩
abbrev S4x2x1x1024x704 : Shape := ⟨5, ![4, 2, 1, 1024, 704]⟩
abbrev S4x2x2x1024x704 : Shape := ⟨5, ![4, 2, 2, 1024, 704]⟩
abbrev S_ : Shape := ⟨0, ![]⟩
abbrev S4x2x2x1024x768 : Shape := ⟨5, ![4, 2, 2, 1024, 768]⟩
abbrev S4x4096x768 : Shape := ⟨3, ![4, 4096, 768]⟩
abbrev S2x4x704x1024 : Shape := ⟨4, ![2, 4, 704, 1024]⟩
abbrev S4x2x704x1024 : Shape := ⟨4, ![4, 2, 704, 1024]⟩
abbrev S4x2x768x1024 : Shape := ⟨4, ![4, 2, 768, 1024]⟩
abbrev S4x1536x1024 : Shape := ⟨3, ![4, 1536, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S4096x3072 : Shape := ⟨2, ![4096, 3072]⟩
abbrev S1024x1024 : Shape := ⟨2, ![1024, 1024]⟩
abbrev S1x1024x768 : Shape := ⟨3, ![1, 1024, 768]⟩
abbrev S1024x768 : Shape := ⟨2, ![1024, 768]⟩
abbrev S1x768x512 : Shape := ⟨3, ![1, 768, 512]⟩
abbrev S1024x512 : Shape := ⟨2, ![1024, 512]⟩
abbrev S768x512 : Shape := ⟨2, ![768, 512]⟩
abbrev S1x768x1024 : Shape := ⟨3, ![1, 768, 1024]⟩
abbrev S768x1024 : Shape := ⟨2, ![768, 1024]⟩
abbrev S3072x1024 : Shape := ⟨2, ![3072, 1024]⟩
abbrev S4096x512 : Shape := ⟨2, ![4096, 512]⟩
abbrev S4x1024x768 : Shape := ⟨3, ![4, 1024, 768]⟩
abbrev S4096x768 : Shape := ⟨2, ![4096, 768]⟩
abbrev S1x512x768 : Shape := ⟨3, ![1, 512, 768]⟩
abbrev S512x768 : Shape := ⟨2, ![512, 768]⟩
abbrev S512x512 : Shape := ⟨2, ![512, 512]⟩
abbrev S8x1024 : Shape := ⟨2, ![8, 1024]⟩
abbrev S64x8x1024 : Shape := ⟨3, ![64, 8, 1024]⟩
abbrev S4x768x1024 : Shape := ⟨3, ![4, 768, 1024]⟩
abbrev S4x1024x704 : Shape := ⟨3, ![4, 1024, 704]⟩
abbrev S4x704x1024 : Shape := ⟨3, ![4, 704, 1024]⟩

abbrev nBuf : Space → Nat
  | .hbm => 49
  | .vmem => 115
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S4096x1024, .f32⟩
  | .hbm, ⟨6, _⟩ => ⟨S2x1024x4x704, .f32⟩
  | .hbm, ⟨7, _⟩ => ⟨S4x2x1024x704, .f32⟩
  | .hbm, ⟨8, _⟩ => ⟨S2x1024x4x704, .f32⟩
  | .hbm, ⟨9, _⟩ => ⟨S4x2x1024x704, .f32⟩
  | .hbm, ⟨10, _⟩ => ⟨S4x2x1x1024x704, .f32⟩
  | .hbm, ⟨11, _⟩ => ⟨S4x2x1x1024x704, .f32⟩
  | .hbm, ⟨12, _⟩ => ⟨S4x2x2x1024x704, .f32⟩
  | .hbm, ⟨13, _⟩ => ⟨S4x2x2x1024x704, .bf16⟩
  | .hbm, ⟨14, _⟩ => ⟨S_, .i32⟩
  | .hbm, ⟨15, _⟩ => ⟨S_, .bf16⟩
  | .hbm, ⟨16, _⟩ => ⟨S4x2x2x1024x768, .bf16⟩
  | .hbm, ⟨17, _⟩ => ⟨S4x4096x768, .bf16⟩
  | .hbm, ⟨18, _⟩ => ⟨S2x4x704x1024, .f32⟩
  | .hbm, ⟨19, _⟩ => ⟨S4x2x704x1024, .f32⟩
  | .hbm, ⟨20, _⟩ => ⟨S4x2x704x1024, .bf16⟩
  | .hbm, ⟨21, _⟩ => ⟨S_, .i32⟩
  | .hbm, ⟨22, _⟩ => ⟨S_, .bf16⟩
  | .hbm, ⟨23, _⟩ => ⟨S4x2x768x1024, .bf16⟩
  | .hbm, ⟨24, _⟩ => ⟨S4x1536x1024, .bf16⟩
  | .hbm, ⟨25, _⟩ => ⟨S1x1024, .f32⟩
  | .hbm, ⟨26, _⟩ => ⟨S4096x1024, .bf16⟩
  | .hbm, ⟨27, _⟩ => ⟨S4096x3072, .bf16⟩
  | .hbm, ⟨28, _⟩ => ⟨S4096x3072, .bf16⟩
  | .hbm, ⟨29, _⟩ => ⟨S4096x3072, .bf16⟩
  | .hbm, ⟨30, _⟩ => ⟨S4096x1024, .f32⟩
  | .hbm, ⟨31, _⟩ => ⟨S4096x1024, .bf16⟩
  | .hbm, ⟨32, _⟩ => ⟨S4096x3072, .bf16⟩
  | .hbm, ⟨33, _⟩ => ⟨S4096x3072, .bf16⟩
  | .hbm, ⟨34, _⟩ => ⟨S4096x3072, .bf16⟩
  | .hbm, ⟨35, _⟩ => ⟨S3072x1024, .bf16⟩
  | .hbm, ⟨36, _⟩ => ⟨S4x1024x768, .bf16⟩
  | .hbm, ⟨37, _⟩ => ⟨S4x1024x768, .bf16⟩
  | .hbm, ⟨38, _⟩ => ⟨S4096x1024, .f32⟩
  | .hbm, ⟨39, _⟩ => ⟨S1x1024, .f32⟩
  | .hbm, ⟨40, _⟩ => ⟨S4096x1024, .f32⟩
  | .hbm, ⟨41, _⟩ => ⟨S4096x1024, .bf16⟩
  | .hbm, ⟨42, _⟩ => ⟨S8x1024, .f32⟩
  | .hbm, ⟨43, _⟩ => ⟨S_, .f32⟩
  | .hbm, ⟨44, _⟩ => ⟨S1024, .f32⟩
  | .hbm, ⟨45, _⟩ => ⟨S4x768x1024, .bf16⟩
  | .hbm, ⟨46, _⟩ => ⟨S4x1024x704, .bf16⟩
  | .hbm, ⟨47, _⟩ => ⟨S4x1024x704, .bf16⟩
  | .hbm, ⟨48, _⟩ => ⟨S4x704x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1x1024x768, .bf16⟩
  | .local _ .vmem, ⟨8, _⟩ => ⟨S1x1024x768, .bf16⟩
  | .local _ .vmem, ⟨9, _⟩ => ⟨S1x1024x768, .bf16⟩
  | .local _ .vmem, ⟨10, _⟩ => ⟨S1x1024x768, .bf16⟩
  | .local _ .vmem, ⟨11, _⟩ => ⟨S1024x768, .bf16⟩
  | .local _ .vmem, ⟨12, _⟩ => ⟨S1024x768, .bf16⟩
  | .local _ .vmem, ⟨13, _⟩ => ⟨S1024x768, .bf16⟩
  | .local _ .vmem, ⟨14, _⟩ => ⟨S1024x768, .bf16⟩
  | .local _ .vmem, ⟨15, _⟩ => ⟨S1024x768, .bf16⟩
  | .local _ .vmem, ⟨16, _⟩ => ⟨S1024x768, .bf16⟩
  | .local _ .vmem, ⟨17, _⟩ => ⟨S1024x768, .bf16⟩
  | .local _ .vmem, ⟨18, _⟩ => ⟨S1024x768, .bf16⟩
  | .local _ .vmem, ⟨19, _⟩ => ⟨S1x768x512, .bf16⟩
  | .local _ .vmem, ⟨20, _⟩ => ⟨S1x768x512, .bf16⟩
  | .local _ .vmem, ⟨21, _⟩ => ⟨S1024x768, .bf16⟩
  | .local _ .vmem, ⟨22, _⟩ => ⟨S1024x768, .bf16⟩
  | .local _ .vmem, ⟨23, _⟩ => ⟨S1x768x512, .bf16⟩
  | .local _ .vmem, ⟨24, _⟩ => ⟨S1x768x512, .bf16⟩
  | .local _ .vmem, ⟨25, _⟩ => ⟨S1024x768, .bf16⟩
  | .local _ .vmem, ⟨26, _⟩ => ⟨S1024x768, .bf16⟩
  | .local _ .vmem, ⟨27, _⟩ => ⟨S1x768x512, .bf16⟩
  | .local _ .vmem, ⟨28, _⟩ => ⟨S1x768x512, .bf16⟩
  | .local _ .vmem, ⟨29, _⟩ => ⟨S1024x768, .bf16⟩
  | .local _ .vmem, ⟨30, _⟩ => ⟨S1024x768, .bf16⟩
  | .local _ .vmem, ⟨31, _⟩ => ⟨S1x768x512, .bf16⟩
  | .local _ .vmem, ⟨32, _⟩ => ⟨S1x768x512, .bf16⟩
  | .local _ .vmem, ⟨33, _⟩ => ⟨S1024x512, .f32⟩
  | .local _ .vmem, ⟨34, _⟩ => ⟨S1024x512, .f32⟩
  | .local _ .vmem, ⟨35, _⟩ => ⟨S1024x512, .f32⟩
  | .local _ .vmem, ⟨36, _⟩ => ⟨S1024x512, .f32⟩
  | .local _ .vmem, ⟨37, _⟩ => ⟨S1024x1024, .bf16⟩
  | .local _ .vmem, ⟨38, _⟩ => ⟨S1024x1024, .bf16⟩
  | .local _ .vmem, ⟨39, _⟩ => ⟨S1x768x1024, .bf16⟩
  | .local _ .vmem, ⟨40, _⟩ => ⟨S1x768x1024, .bf16⟩
  | .local _ .vmem, ⟨41, _⟩ => ⟨S1024x768, .bf16⟩
  | .local _ .vmem, ⟨42, _⟩ => ⟨S1024x768, .bf16⟩
  | .local _ .vmem, ⟨43, _⟩ => ⟨S1024x768, .bf16⟩
  | .local _ .vmem, ⟨44, _⟩ => ⟨S1024x768, .bf16⟩
  | .local _ .vmem, ⟨45, _⟩ => ⟨S1024x768, .bf16⟩
  | .local _ .vmem, ⟨46, _⟩ => ⟨S1024x768, .bf16⟩
  | .local _ .vmem, ⟨47, _⟩ => ⟨S1024x768, .bf16⟩
  | .local _ .vmem, ⟨48, _⟩ => ⟨S1024x768, .bf16⟩
  | .local _ .vmem, ⟨49, _⟩ => ⟨S1024x768, .bf16⟩
  | .local _ .vmem, ⟨50, _⟩ => ⟨S1024x768, .bf16⟩
  | .local _ .vmem, ⟨51, _⟩ => ⟨S4096x1024, .bf16⟩
  | .local _ .vmem, ⟨52, _⟩ => ⟨S4096x1024, .bf16⟩
  | .local _ .vmem, ⟨53, _⟩ => ⟨S4096x512, .bf16⟩
  | .local _ .vmem, ⟨54, _⟩ => ⟨S4096x512, .bf16⟩
  | .local _ .vmem, ⟨55, _⟩ => ⟨S1024x512, .bf16⟩
  | .local _ .vmem, ⟨56, _⟩ => ⟨S1024x512, .bf16⟩
  | .local _ .vmem, ⟨57, _⟩ => ⟨S4096x512, .bf16⟩
  | .local _ .vmem, ⟨58, _⟩ => ⟨S4096x512, .bf16⟩
  | .local _ .vmem, ⟨59, _⟩ => ⟨S4096x768, .bf16⟩
  | .local _ .vmem, ⟨60, _⟩ => ⟨S4096x768, .bf16⟩
  | .local _ .vmem, ⟨61, _⟩ => ⟨S1x512x768, .bf16⟩
  | .local _ .vmem, ⟨62, _⟩ => ⟨S1x512x768, .bf16⟩
  | .local _ .vmem, ⟨63, _⟩ => ⟨S4096x512, .bf16⟩
  | .local _ .vmem, ⟨64, _⟩ => ⟨S4096x512, .bf16⟩
  | .local _ .vmem, ⟨65, _⟩ => ⟨S4096x768, .bf16⟩
  | .local _ .vmem, ⟨66, _⟩ => ⟨S4096x768, .bf16⟩
  | .local _ .vmem, ⟨67, _⟩ => ⟨S1x512x768, .bf16⟩
  | .local _ .vmem, ⟨68, _⟩ => ⟨S1x512x768, .bf16⟩
  | .local _ .vmem, ⟨69, _⟩ => ⟨S512x768, .bf16⟩
  | .local _ .vmem, ⟨70, _⟩ => ⟨S512x768, .bf16⟩
  | .local _ .vmem, ⟨71, _⟩ => ⟨S1x512x768, .bf16⟩
  | .local _ .vmem, ⟨72, _⟩ => ⟨S1x512x768, .bf16⟩
  | .local _ .vmem, ⟨73, _⟩ => ⟨S512x768, .bf16⟩
  | .local _ .vmem, ⟨74, _⟩ => ⟨S512x768, .bf16⟩
  | .local _ .vmem, ⟨75, _⟩ => ⟨S1x512x768, .bf16⟩
  | .local _ .vmem, ⟨76, _⟩ => ⟨S1x512x768, .bf16⟩
  | .local _ .vmem, ⟨77, _⟩ => ⟨S512x768, .bf16⟩
  | .local _ .vmem, ⟨78, _⟩ => ⟨S512x768, .bf16⟩
  | .local _ .vmem, ⟨79, _⟩ => ⟨S1x512x768, .bf16⟩
  | .local _ .vmem, ⟨80, _⟩ => ⟨S1x512x768, .bf16⟩
  | .local _ .vmem, ⟨81, _⟩ => ⟨S512x768, .bf16⟩
  | .local _ .vmem, ⟨82, _⟩ => ⟨S512x768, .bf16⟩
  | .local _ .vmem, ⟨83, _⟩ => ⟨S1x512x768, .bf16⟩
  | .local _ .vmem, ⟨84, _⟩ => ⟨S1x512x768, .bf16⟩
  | .local _ .vmem, ⟨85, _⟩ => ⟨S512x768, .bf16⟩
  | .local _ .vmem, ⟨86, _⟩ => ⟨S512x768, .bf16⟩
  | .local _ .vmem, ⟨87, _⟩ => ⟨S1x512x768, .bf16⟩
  | .local _ .vmem, ⟨88, _⟩ => ⟨S1x512x768, .bf16⟩
  | .local _ .vmem, ⟨89, _⟩ => ⟨S512x768, .bf16⟩
  | .local _ .vmem, ⟨90, _⟩ => ⟨S512x768, .bf16⟩
  | .local _ .vmem, ⟨91, _⟩ => ⟨S1x512x768, .bf16⟩
  | .local _ .vmem, ⟨92, _⟩ => ⟨S1x512x768, .bf16⟩
  | .local _ .vmem, ⟨93, _⟩ => ⟨S512x768, .bf16⟩
  | .local _ .vmem, ⟨94, _⟩ => ⟨S512x768, .bf16⟩
  | .local _ .vmem, ⟨95, _⟩ => ⟨S1x512x768, .bf16⟩
  | .local _ .vmem, ⟨96, _⟩ => ⟨S1x512x768, .bf16⟩
  | .local _ .vmem, ⟨97, _⟩ => ⟨S512x768, .bf16⟩
  | .local _ .vmem, ⟨98, _⟩ => ⟨S512x768, .bf16⟩
  | .local _ .vmem, ⟨99, _⟩ => ⟨S1x512x768, .bf16⟩
  | .local _ .vmem, ⟨100, _⟩ => ⟨S1x512x768, .bf16⟩
  | .local _ .vmem, ⟨101, _⟩ => ⟨S512x512, .f32⟩
  | .local _ .vmem, ⟨102, _⟩ => ⟨S512x512, .f32⟩
  | .local _ .vmem, ⟨103, _⟩ => ⟨S512x1024, .f32⟩
  | .local _ .vmem, ⟨104, _⟩ => ⟨S512x1024, .f32⟩
  | .local _ .vmem, ⟨105, _⟩ => ⟨S512x1024, .f32⟩
  | .local _ .vmem, ⟨106, _⟩ => ⟨S512x1024, .f32⟩
  | .local _ .vmem, ⟨107, _⟩ => ⟨S1x1024, .f32⟩
  | .local _ .vmem, ⟨108, _⟩ => ⟨S512x1024, .f32⟩
  | .local _ .vmem, ⟨109, _⟩ => ⟨S512x1024, .f32⟩
  | .local _ .vmem, ⟨110, _⟩ => ⟨S512x1024, .f32⟩
  | .local _ .vmem, ⟨111, _⟩ => ⟨S512x1024, .f32⟩
  | .local _ .vmem, ⟨112, _⟩ => ⟨S512x1024, .bf16⟩
  | .local _ .vmem, ⟨113, _⟩ => ⟨S512x1024, .bf16⟩
  | .local _ .vmem, ⟨114, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | _, _ => false

abbrev semScoped : Fin 0 → Bool
  | ⟨_, h⟩ => absurd h (Nat.not_lt_zero _)

abbrev dmaSemScoped : Fin 115 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | _ => false

abbrev sig : RefSig :=
  ofTc nBuf bufTy 0 115 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call0_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_0 : Ref sig .tc := ⟨.hbm, 21, rfl⟩
abbrev main_call1_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17_0 : Ref sig .tc := ⟨.hbm, 27, rfl⟩
abbrev main_v17_1 : Ref sig .tc := ⟨.hbm, 28, rfl⟩
abbrev main_v17_2 : Ref sig .tc := ⟨.hbm, 29, rfl⟩
abbrev main_v18 : Ref sig .tc := ⟨.hbm, 30, rfl⟩
abbrev main_v19 : Ref sig .tc := ⟨.hbm, 31, rfl⟩
abbrev main_v20_0 : Ref sig .tc := ⟨.hbm, 32, rfl⟩
abbrev main_v20_1 : Ref sig .tc := ⟨.hbm, 33, rfl⟩
abbrev main_v20_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26_0 : Ref sig .tc := ⟨.hbm, 40, rfl⟩
abbrev main_v26_1 : Ref sig .tc := ⟨.hbm, 41, rfl⟩
abbrev main_v26_2 : Ref sig .tc := ⟨.hbm, 42, rfl⟩
abbrev main_cst : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc2_stg4_0 : Ref sig .tc := ⟨.vmem, 25, rfl⟩
abbrev cc2_stg4_1 : Ref sig .tc := ⟨.vmem, 26, rfl⟩
abbrev cc2_stg5_0 : Ref sig .tc := ⟨.vmem, 27, rfl⟩
abbrev cc2_stg5_1 : Ref sig .tc := ⟨.vmem, 28, rfl⟩
abbrev cc2_stg6_0 : Ref sig .tc := ⟨.vmem, 29, rfl⟩
abbrev cc2_stg6_1 : Ref sig .tc := ⟨.vmem, 30, rfl⟩
abbrev cc2_stg7_0 : Ref sig .tc := ⟨.vmem, 31, rfl⟩
abbrev cc2_stg7_1 : Ref sig .tc := ⟨.vmem, 32, rfl⟩
abbrev cc2_stg8_0 : Ref sig .tc := ⟨.vmem, 33, rfl⟩
abbrev cc2_stg8_1 : Ref sig .tc := ⟨.vmem, 34, rfl⟩
abbrev cc2_stg9_0 : Ref sig .tc := ⟨.vmem, 35, rfl⟩
abbrev cc2_stg9_1 : Ref sig .tc := ⟨.vmem, 36, rfl⟩
abbrev cc3_stg0_0 : Ref sig .tc := ⟨.vmem, 37, rfl⟩
abbrev cc3_stg0_1 : Ref sig .tc := ⟨.vmem, 38, rfl⟩
abbrev cc3_stg1_0 : Ref sig .tc := ⟨.vmem, 39, rfl⟩
abbrev cc3_stg1_1 : Ref sig .tc := ⟨.vmem, 40, rfl⟩
abbrev cc3_stg2_0 : Ref sig .tc := ⟨.vmem, 41, rfl⟩
abbrev cc3_stg2_1 : Ref sig .tc := ⟨.vmem, 42, rfl⟩
abbrev cc3_stg3_0 : Ref sig .tc := ⟨.vmem, 43, rfl⟩
abbrev cc3_stg3_1 : Ref sig .tc := ⟨.vmem, 44, rfl⟩
abbrev cc3_stg4_0 : Ref sig .tc := ⟨.vmem, 45, rfl⟩
abbrev cc3_stg4_1 : Ref sig .tc := ⟨.vmem, 46, rfl⟩
abbrev cc3_stg5_0 : Ref sig .tc := ⟨.vmem, 47, rfl⟩
abbrev cc3_stg5_1 : Ref sig .tc := ⟨.vmem, 48, rfl⟩
abbrev cc3_stg6_0 : Ref sig .tc := ⟨.vmem, 49, rfl⟩
abbrev cc3_stg6_1 : Ref sig .tc := ⟨.vmem, 50, rfl⟩
abbrev cc4_stg0_0 : Ref sig .tc := ⟨.vmem, 51, rfl⟩
abbrev cc4_stg0_1 : Ref sig .tc := ⟨.vmem, 52, rfl⟩
abbrev cc4_stg1_0 : Ref sig .tc := ⟨.vmem, 53, rfl⟩
abbrev cc4_stg1_1 : Ref sig .tc := ⟨.vmem, 54, rfl⟩
abbrev cc4_stg2_0 : Ref sig .tc := ⟨.vmem, 55, rfl⟩
abbrev cc4_stg2_1 : Ref sig .tc := ⟨.vmem, 56, rfl⟩
abbrev cc5_stg0_0 : Ref sig .tc := ⟨.vmem, 57, rfl⟩
abbrev cc5_stg0_1 : Ref sig .tc := ⟨.vmem, 58, rfl⟩
abbrev cc5_stg1_0 : Ref sig .tc := ⟨.vmem, 59, rfl⟩
abbrev cc5_stg1_1 : Ref sig .tc := ⟨.vmem, 60, rfl⟩
abbrev cc5_stg2_0 : Ref sig .tc := ⟨.vmem, 61, rfl⟩
abbrev cc5_stg2_1 : Ref sig .tc := ⟨.vmem, 62, rfl⟩
abbrev cc6_stg0_0 : Ref sig .tc := ⟨.vmem, 63, rfl⟩
abbrev cc6_stg0_1 : Ref sig .tc := ⟨.vmem, 64, rfl⟩
abbrev cc6_stg1_0 : Ref sig .tc := ⟨.vmem, 65, rfl⟩
abbrev cc6_stg1_1 : Ref sig .tc := ⟨.vmem, 66, rfl⟩
abbrev cc6_stg2_0 : Ref sig .tc := ⟨.vmem, 67, rfl⟩
abbrev cc6_stg2_1 : Ref sig .tc := ⟨.vmem, 68, rfl⟩
abbrev cc7_stg0_0 : Ref sig .tc := ⟨.vmem, 69, rfl⟩
abbrev cc7_stg0_1 : Ref sig .tc := ⟨.vmem, 70, rfl⟩
abbrev cc7_stg1_0 : Ref sig .tc := ⟨.vmem, 71, rfl⟩
abbrev cc7_stg1_1 : Ref sig .tc := ⟨.vmem, 72, rfl⟩
abbrev cc7_stg2_0 : Ref sig .tc := ⟨.vmem, 73, rfl⟩
abbrev cc7_stg2_1 : Ref sig .tc := ⟨.vmem, 74, rfl⟩
abbrev cc7_stg3_0 : Ref sig .tc := ⟨.vmem, 75, rfl⟩
abbrev cc7_stg3_1 : Ref sig .tc := ⟨.vmem, 76, rfl⟩
abbrev cc7_stg4_0 : Ref sig .tc := ⟨.vmem, 77, rfl⟩
abbrev cc7_stg4_1 : Ref sig .tc := ⟨.vmem, 78, rfl⟩
abbrev cc7_stg5_0 : Ref sig .tc := ⟨.vmem, 79, rfl⟩
abbrev cc7_stg5_1 : Ref sig .tc := ⟨.vmem, 80, rfl⟩
abbrev cc7_stg6_0 : Ref sig .tc := ⟨.vmem, 81, rfl⟩
abbrev cc7_stg6_1 : Ref sig .tc := ⟨.vmem, 82, rfl⟩
abbrev cc7_stg7_0 : Ref sig .tc := ⟨.vmem, 83, rfl⟩
abbrev cc7_stg7_1 : Ref sig .tc := ⟨.vmem, 84, rfl⟩
abbrev cc7_stg8_0 : Ref sig .tc := ⟨.vmem, 85, rfl⟩
abbrev cc7_stg8_1 : Ref sig .tc := ⟨.vmem, 86, rfl⟩
abbrev cc7_stg9_0 : Ref sig .tc := ⟨.vmem, 87, rfl⟩
abbrev cc7_stg9_1 : Ref sig .tc := ⟨.vmem, 88, rfl⟩
abbrev cc7_stg10_0 : Ref sig .tc := ⟨.vmem, 89, rfl⟩
abbrev cc7_stg10_1 : Ref sig .tc := ⟨.vmem, 90, rfl⟩
abbrev cc7_stg11_0 : Ref sig .tc := ⟨.vmem, 91, rfl⟩
abbrev cc7_stg11_1 : Ref sig .tc := ⟨.vmem, 92, rfl⟩
abbrev cc7_stg12_0 : Ref sig .tc := ⟨.vmem, 93, rfl⟩
abbrev cc7_stg12_1 : Ref sig .tc := ⟨.vmem, 94, rfl⟩
abbrev cc7_stg13_0 : Ref sig .tc := ⟨.vmem, 95, rfl⟩
abbrev cc7_stg13_1 : Ref sig .tc := ⟨.vmem, 96, rfl⟩
abbrev cc7_stg14_0 : Ref sig .tc := ⟨.vmem, 97, rfl⟩
abbrev cc7_stg14_1 : Ref sig .tc := ⟨.vmem, 98, rfl⟩
abbrev cc7_stg15_0 : Ref sig .tc := ⟨.vmem, 99, rfl⟩
abbrev cc7_stg15_1 : Ref sig .tc := ⟨.vmem, 100, rfl⟩
abbrev cc7_stg16_0 : Ref sig .tc := ⟨.vmem, 101, rfl⟩
abbrev cc7_stg16_1 : Ref sig .tc := ⟨.vmem, 102, rfl⟩
abbrev cc8_stg0_0 : Ref sig .tc := ⟨.vmem, 103, rfl⟩
abbrev cc8_stg0_1 : Ref sig .tc := ⟨.vmem, 104, rfl⟩
abbrev cc8_stg1_0 : Ref sig .tc := ⟨.vmem, 105, rfl⟩
abbrev cc8_stg1_1 : Ref sig .tc := ⟨.vmem, 106, rfl⟩
abbrev cc8_stg2_0 : Ref sig .tc := ⟨.vmem, 107, rfl⟩
abbrev cc8_stg3_0 : Ref sig .tc := ⟨.vmem, 108, rfl⟩
abbrev cc8_stg3_1 : Ref sig .tc := ⟨.vmem, 109, rfl⟩
abbrev cc8_stg4_0 : Ref sig .tc := ⟨.vmem, 110, rfl⟩
abbrev cc8_stg4_1 : Ref sig .tc := ⟨.vmem, 111, rfl⟩
abbrev cc8_stg5_0 : Ref sig .tc := ⟨.vmem, 112, rfl⟩
abbrev cc8_stg5_1 : Ref sig .tc := ⟨.vmem, 113, rfl⟩
abbrev cc8_stg6_0 : Ref sig .tc := ⟨.vmem, 114, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem3_1 : DmaSem sig := 24
abbrev cc2_sem4_0 : DmaSem sig := 25
abbrev cc2_sem4_1 : DmaSem sig := 26
abbrev cc2_sem5_0 : DmaSem sig := 27
abbrev cc2_sem5_1 : DmaSem sig := 28
abbrev cc2_sem6_0 : DmaSem sig := 29
abbrev cc2_sem6_1 : DmaSem sig := 30
abbrev cc2_sem7_0 : DmaSem sig := 31
abbrev cc2_sem7_1 : DmaSem sig := 32
abbrev cc2_sem8_0 : DmaSem sig := 33
abbrev cc2_sem8_1 : DmaSem sig := 34
abbrev cc2_sem9_0 : DmaSem sig := 35
abbrev cc2_sem9_1 : DmaSem sig := 36
abbrev cc3_sem0_0 : DmaSem sig := 37
abbrev cc3_sem0_1 : DmaSem sig := 38
abbrev cc3_sem1_0 : DmaSem sig := 39
abbrev cc3_sem1_1 : DmaSem sig := 40
abbrev cc3_sem2_0 : DmaSem sig := 41
abbrev cc3_sem2_1 : DmaSem sig := 42
abbrev cc3_sem3_0 : DmaSem sig := 43
abbrev cc3_sem3_1 : DmaSem sig := 44
abbrev cc3_sem4_0 : DmaSem sig := 45
abbrev cc3_sem4_1 : DmaSem sig := 46
abbrev cc3_sem5_0 : DmaSem sig := 47
abbrev cc3_sem5_1 : DmaSem sig := 48
abbrev cc3_sem6_0 : DmaSem sig := 49
abbrev cc3_sem6_1 : DmaSem sig := 50
abbrev cc4_sem0_0 : DmaSem sig := 51
abbrev cc4_sem0_1 : DmaSem sig := 52
abbrev cc4_sem1_0 : DmaSem sig := 53
abbrev cc4_sem1_1 : DmaSem sig := 54
abbrev cc4_sem2_0 : DmaSem sig := 55
abbrev cc4_sem2_1 : DmaSem sig := 56
abbrev cc5_sem0_0 : DmaSem sig := 57
abbrev cc5_sem0_1 : DmaSem sig := 58
abbrev cc5_sem1_0 : DmaSem sig := 59
abbrev cc5_sem1_1 : DmaSem sig := 60
abbrev cc5_sem2_0 : DmaSem sig := 61
abbrev cc5_sem2_1 : DmaSem sig := 62
abbrev cc6_sem0_0 : DmaSem sig := 63
abbrev cc6_sem0_1 : DmaSem sig := 64
abbrev cc6_sem1_0 : DmaSem sig := 65
abbrev cc6_sem1_1 : DmaSem sig := 66
abbrev cc6_sem2_0 : DmaSem sig := 67
abbrev cc6_sem2_1 : DmaSem sig := 68
abbrev cc7_sem0_0 : DmaSem sig := 69
abbrev cc7_sem0_1 : DmaSem sig := 70
abbrev cc7_sem1_0 : DmaSem sig := 71
abbrev cc7_sem1_1 : DmaSem sig := 72
abbrev cc7_sem2_0 : DmaSem sig := 73
abbrev cc7_sem2_1 : DmaSem sig := 74
abbrev cc7_sem3_0 : DmaSem sig := 75
abbrev cc7_sem3_1 : DmaSem sig := 76
abbrev cc7_sem4_0 : DmaSem sig := 77
abbrev cc7_sem4_1 : DmaSem sig := 78
abbrev cc7_sem5_0 : DmaSem sig := 79
abbrev cc7_sem5_1 : DmaSem sig := 80
abbrev cc7_sem6_0 : DmaSem sig := 81
abbrev cc7_sem6_1 : DmaSem sig := 82
abbrev cc7_sem7_0 : DmaSem sig := 83
abbrev cc7_sem7_1 : DmaSem sig := 84
abbrev cc7_sem8_0 : DmaSem sig := 85
abbrev cc7_sem8_1 : DmaSem sig := 86
abbrev cc7_sem9_0 : DmaSem sig := 87
abbrev cc7_sem9_1 : DmaSem sig := 88
abbrev cc7_sem10_0 : DmaSem sig := 89
abbrev cc7_sem10_1 : DmaSem sig := 90
abbrev cc7_sem11_0 : DmaSem sig := 91
abbrev cc7_sem11_1 : DmaSem sig := 92
abbrev cc7_sem12_0 : DmaSem sig := 93
abbrev cc7_sem12_1 : DmaSem sig := 94
abbrev cc7_sem13_0 : DmaSem sig := 95
abbrev cc7_sem13_1 : DmaSem sig := 96
abbrev cc7_sem14_0 : DmaSem sig := 97
abbrev cc7_sem14_1 : DmaSem sig := 98
abbrev cc7_sem15_0 : DmaSem sig := 99
abbrev cc7_sem15_1 : DmaSem sig := 100
abbrev cc7_sem16_0 : DmaSem sig := 101
abbrev cc7_sem16_1 : DmaSem sig := 102
abbrev cc8_sem0_0 : DmaSem sig := 103
abbrev cc8_sem0_1 : DmaSem sig := 104
abbrev cc8_sem1_0 : DmaSem sig := 105
abbrev cc8_sem1_1 : DmaSem sig := 106
abbrev cc8_sem2_0 : DmaSem sig := 107
abbrev cc8_sem3_0 : DmaSem sig := 108
abbrev cc8_sem3_1 : DmaSem sig := 109
abbrev cc8_sem4_0 : DmaSem sig := 110
abbrev cc8_sem4_1 : DmaSem sig := 111
abbrev cc8_sem5_0 : DmaSem sig := 112
abbrev cc8_sem5_1 : DmaSem sig := 113
abbrev cc8_sem6_0 : DmaSem sig := 114

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![arg0.toNat, c2_i32.toNat, c0_i32.toNat]

def cc1_transform_2 (i : grid1.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![arg0.toNat, c3_i32.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x1024x768 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024x768 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x768 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x768 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1024x768 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨2, ![4, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c1_i32 : BitVec 32 := 1#32
  let c0_i32_1 : BitVec 32 := 0#32
  ![c0_i32_0.toNat, c1_i32.toNat, v0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c1_i32 : BitVec 32 := 1#32
  let c0_i32_0 : BitVec 32 := 0#32
  ![v0.toNat, c1_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let c1_i32_0 : BitVec 32 := 1#32
  let c0_i32_1 : BitVec 32 := 0#32
  ![c1_i32.toNat, c1_i32_0.toNat, v0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c2_i32 : BitVec 32 := 2#32
  let c0_i32_0 : BitVec 32 := 0#32
  ![v0.toNat, c2_i32.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c2_i32 : BitVec 32 := 2#32
  let c1_i32 : BitVec 32 := 1#32
  let c0_i32_0 : BitVec 32 := 0#32
  ![c2_i32.toNat, c1_i32.toNat, v0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c3_i32 : BitVec 32 := 3#32
  let c0_i32_0 : BitVec 32 := 0#32
  ![v0.toNat, c3_i32.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c3_i32 : BitVec 32 := 3#32
  let c1_i32 : BitVec 32 := 1#32
  let c0_i32_0 : BitVec 32 := 0#32
  ![c3_i32.toNat, c1_i32.toNat, v0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x768 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x768x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x768 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x768x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S1024x768 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S1x768x512 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![false, true]

abbrev stage2_6 : Fin 2 → Memref sig .tc .vmem S1024x768 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

abbrev stage2_7 : Fin 2 → Memref sig .tc .vmem S1x768x512 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![false, true]

abbrev stage2_8 : Fin 2 → Memref sig .tc .vmem S1024x512 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true]

abbrev stage2_9 : Fin 2 → Memref sig .tc .vmem S1024x512 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, true]

abbrev grid3 : Pipeline.Grid := ⟨2, ![4, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg0.toNat, c1_i32.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S1x768x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1024x768 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1024x768 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S1024x768 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S1024x768 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev stage3_6 : Fin 2 → Memref sig .tc .vmem S1024x768 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]

abbrev grid4 : Pipeline.Grid := ⟨2, ![3, 2], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S4096x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S4096x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![2, 4], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc5_transform_2 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage5_0 : Fin 2 → Memref sig .tc .vmem S4096x512 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S4096x768 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1x512x768 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![2, 4], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc6_transform_2 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage6_0 : Fin 2 → Memref sig .tc .vmem S4096x512 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 2 → Memref sig .tc .vmem S4096x768 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S1x512x768 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev grid7 : Pipeline.Grid := ⟨2, ![8, 2], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc7_transform_1 (i : grid7.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![c0_i32.toNat, v0.toNat, c0_i32_0.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c1_i32 : BitVec 32 := 1#32
  let c0_i32_0 : BitVec 32 := 0#32
  ![v0.toNat, c1_i32.toNat]

def cc7_transform_3 (i : grid7.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c1_i32 : BitVec 32 := 1#32
  let c0_i32 : BitVec 32 := 0#32
  let c0_i32_0 : BitVec 32 := 0#32
  ![c1_i32.toNat, v0.toNat, c0_i32.toNat]

def cc7_transform_4 (i : grid7.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c2_i32 : BitVec 32 := 2#32
  let c0_i32_0 : BitVec 32 := 0#32
  ![v0.toNat, c2_i32.toNat]

def cc7_transform_5 (i : grid7.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c2_i32 : BitVec 32 := 2#32
  let c0_i32 : BitVec 32 := 0#32
  let c0_i32_0 : BitVec 32 := 0#32
  ![c2_i32.toNat, v0.toNat, c0_i32.toNat]

def cc7_transform_6 (i : grid7.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c3_i32 : BitVec 32 := 3#32
  let c0_i32_0 : BitVec 32 := 0#32
  ![v0.toNat, c3_i32.toNat]

def cc7_transform_7 (i : grid7.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c3_i32 : BitVec 32 := 3#32
  let c0_i32 : BitVec 32 := 0#32
  let c0_i32_0 : BitVec 32 := 0#32
  ![c3_i32.toNat, v0.toNat, c0_i32.toNat]

def cc7_transform_8 (i : grid7.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc7_transform_9 (i : grid7.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi arg1 c6_i32
  let c0_i32 : BitVec 32 := 0#32
  let c0_i32_0 : BitVec 32 := 0#32
  let c0_i32_1 : BitVec 32 := 0#32
  ![c0_i32.toNat, v0.toNat, c0_i32_0.toNat]

def cc7_transform_10 (i : grid7.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c1_i32 : BitVec 32 := 1#32
  let c0_i32_0 : BitVec 32 := 0#32
  ![v0.toNat, c1_i32.toNat]

def cc7_transform_11 (i : grid7.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi arg1 c6_i32
  let c1_i32 : BitVec 32 := 1#32
  let c0_i32 : BitVec 32 := 0#32
  let c0_i32_0 : BitVec 32 := 0#32
  ![c1_i32.toNat, v0.toNat, c0_i32.toNat]

def cc7_transform_12 (i : grid7.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c2_i32 : BitVec 32 := 2#32
  let c0_i32_0 : BitVec 32 := 0#32
  ![v0.toNat, c2_i32.toNat]

def cc7_transform_13 (i : grid7.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi arg1 c6_i32
  let c2_i32 : BitVec 32 := 2#32
  let c0_i32 : BitVec 32 := 0#32
  let c0_i32_0 : BitVec 32 := 0#32
  ![c2_i32.toNat, v0.toNat, c0_i32.toNat]

def cc7_transform_14 (i : grid7.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c3_i32 : BitVec 32 := 3#32
  let c0_i32_0 : BitVec 32 := 0#32
  ![v0.toNat, c3_i32.toNat]

def cc7_transform_15 (i : grid7.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi arg1 c6_i32
  let c3_i32 : BitVec 32 := 3#32
  let c0_i32 : BitVec 32 := 0#32
  let c0_i32_0 : BitVec 32 := 0#32
  ![c3_i32.toNat, v0.toNat, c0_i32.toNat]

def cc7_transform_16 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage7_0 : Fin 2 → Memref sig .tc .vmem S512x768 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 2 → Memref sig .tc .vmem S1x512x768 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S512x768 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, false]

abbrev stage7_3 : Fin 2 → Memref sig .tc .vmem S1x512x768 .bf16 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![false, true]

abbrev stage7_4 : Fin 2 → Memref sig .tc .vmem S512x768 .bf16 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true, false]

abbrev stage7_5 : Fin 2 → Memref sig .tc .vmem S1x512x768 .bf16 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![false, true]

abbrev stage7_6 : Fin 2 → Memref sig .tc .vmem S512x768 .bf16 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true, false]

abbrev stage7_7 : Fin 2 → Memref sig .tc .vmem S1x512x768 .bf16 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![false, true]

abbrev stage7_8 : Fin 2 → Memref sig .tc .vmem S512x768 .bf16 := fun | 0 => Memref.whole cc7_stg8_0 | 1 => Memref.whole cc7_stg8_1 | ⟨_ + 2, h⟩ => absurd h (Nat.not_lt.2 (Nat.le_add_left _ _))
abbrev sem7_8 : Fin 2 → DmaSem sig := fun | 0 => cc7_sem8_0 | 1 => cc7_sem8_1 | ⟨_ + 2, h⟩ => absurd h (Nat.not_lt.2 (Nat.le_add_left _ _))
abbrev reads7_8 : Fin grid7.rank → Bool := ![true, false]

abbrev stage7_9 : Fin 2 → Memref sig .tc .vmem S1x512x768 .bf16 := fun | 0 => Memref.whole cc7_stg9_0 | 1 => Memref.whole cc7_stg9_1 | ⟨_ + 2, h⟩ => absurd h (Nat.not_lt.2 (Nat.le_add_left _ _))
abbrev sem7_9 : Fin 2 → DmaSem sig := fun | 0 => cc7_sem9_0 | 1 => cc7_sem9_1 | ⟨_ + 2, h⟩ => absurd h (Nat.not_lt.2 (Nat.le_add_left _ _))
abbrev reads7_9 : Fin grid7.rank → Bool := ![false, true]

abbrev stage7_10 : Fin 2 → Memref sig .tc .vmem S512x768 .bf16 := fun | 0 => Memref.whole cc7_stg10_0 | 1 => Memref.whole cc7_stg10_1 | ⟨_ + 2, h⟩ => absurd h (Nat.not_lt.2 (Nat.le_add_left _ _))
abbrev sem7_10 : Fin 2 → DmaSem sig := fun | 0 => cc7_sem10_0 | 1 => cc7_sem10_1 | ⟨_ + 2, h⟩ => absurd h (Nat.not_lt.2 (Nat.le_add_left _ _))
abbrev reads7_10 : Fin grid7.rank → Bool := ![true, false]

abbrev stage7_11 : Fin 2 → Memref sig .tc .vmem S1x512x768 .bf16 := fun | 0 => Memref.whole cc7_stg11_0 | 1 => Memref.whole cc7_stg11_1 | ⟨_ + 2, h⟩ => absurd h (Nat.not_lt.2 (Nat.le_add_left _ _))
abbrev sem7_11 : Fin 2 → DmaSem sig := fun | 0 => cc7_sem11_0 | 1 => cc7_sem11_1 | ⟨_ + 2, h⟩ => absurd h (Nat.not_lt.2 (Nat.le_add_left _ _))
abbrev reads7_11 : Fin grid7.rank → Bool := ![false, true]

abbrev stage7_12 : Fin 2 → Memref sig .tc .vmem S512x768 .bf16 := fun | 0 => Memref.whole cc7_stg12_0 | 1 => Memref.whole cc7_stg12_1 | ⟨_ + 2, h⟩ => absurd h (Nat.not_lt.2 (Nat.le_add_left _ _))
abbrev sem7_12 : Fin 2 → DmaSem sig := fun | 0 => cc7_sem12_0 | 1 => cc7_sem12_1 | ⟨_ + 2, h⟩ => absurd h (Nat.not_lt.2 (Nat.le_add_left _ _))
abbrev reads7_12 : Fin grid7.rank → Bool := ![true, false]

abbrev stage7_13 : Fin 2 → Memref sig .tc .vmem S1x512x768 .bf16 := fun | 0 => Memref.whole cc7_stg13_0 | 1 => Memref.whole cc7_stg13_1 | ⟨_ + 2, h⟩ => absurd h (Nat.not_lt.2 (Nat.le_add_left _ _))
abbrev sem7_13 : Fin 2 → DmaSem sig := fun | 0 => cc7_sem13_0 | 1 => cc7_sem13_1 | ⟨_ + 2, h⟩ => absurd h (Nat.not_lt.2 (Nat.le_add_left _ _))
abbrev reads7_13 : Fin grid7.rank → Bool := ![false, true]

abbrev stage7_14 : Fin 2 → Memref sig .tc .vmem S512x768 .bf16 := fun | 0 => Memref.whole cc7_stg14_0 | 1 => Memref.whole cc7_stg14_1 | ⟨_ + 2, h⟩ => absurd h (Nat.not_lt.2 (Nat.le_add_left _ _))
abbrev sem7_14 : Fin 2 → DmaSem sig := fun | 0 => cc7_sem14_0 | 1 => cc7_sem14_1 | ⟨_ + 2, h⟩ => absurd h (Nat.not_lt.2 (Nat.le_add_left _ _))
abbrev reads7_14 : Fin grid7.rank → Bool := ![true, false]

abbrev stage7_15 : Fin 2 → Memref sig .tc .vmem S1x512x768 .bf16 := fun | 0 => Memref.whole cc7_stg15_0 | 1 => Memref.whole cc7_stg15_1 | ⟨_ + 2, h⟩ => absurd h (Nat.not_lt.2 (Nat.le_add_left _ _))
abbrev sem7_15 : Fin 2 → DmaSem sig := fun | 0 => cc7_sem15_0 | 1 => cc7_sem15_1 | ⟨_ + 2, h⟩ => absurd h (Nat.not_lt.2 (Nat.le_add_left _ _))
abbrev reads7_15 : Fin grid7.rank → Bool := ![false, true]

abbrev stage7_16 : Fin 2 → Memref sig .tc .vmem S512x512 .f32 := fun | 0 => Memref.whole cc7_stg16_0 | 1 => Memref.whole cc7_stg16_1 | ⟨_ + 2, h⟩ => absurd h (Nat.not_lt.2 (Nat.le_add_left _ _))
abbrev sem7_16 : Fin 2 → DmaSem sig := fun | 0 => cc7_sem16_0 | 1 => cc7_sem16_1 | ⟨_ + 2, h⟩ => absurd h (Nat.not_lt.2 (Nat.le_add_left _ _))
abbrev reads7_16 : Fin grid7.rank → Bool := ![true, true]

abbrev grid8 : Pipeline.Grid := ⟨1, ![8], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S512x1024 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S512x1024 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S1x1024 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S512x1024 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 2 → Memref sig .tc .vmem S512x1024 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev stage8_5 : Fin 2 → Memref sig .tc .vmem S512x1024 .bf16 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev stage8_6 : Fin 1 → Memref sig .tc .vmem S8x1024 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]
-- ==== Reference2Ideal.lean ====
abbrev S4096x1024 : Shape := ⟨2, ![4096, 1024]⟩
abbrev S1024 : Shape := ⟨1, ![1024]⟩
abbrev S2x1024x2816 : Shape := ⟨3, ![2, 1024, 2816]⟩
abbrev S2x2816x1024 : Shape := ⟨3, ![2, 2816, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2816 : Shape := ⟨2, ![4096, 2816]⟩
abbrev S1024x4x704 : Shape := ⟨3, ![1024, 4, 704]⟩
abbrev S4x1024x704 : Shape := ⟨3, ![4, 1024, 704]⟩
abbrev S4x704x1024 : Shape := ⟨3, ![4, 704, 1024]⟩

abbrev nBuf : Space → Nat
  | .hbm => 107
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S4096x1024, .f32⟩
  | .hbm, ⟨6, _⟩ => ⟨S1x1024x2816, .f32⟩
  | .hbm, ⟨7, _⟩ => ⟨S1024x2816, .f32⟩
  | .hbm, ⟨8, _⟩ => ⟨S1x1024x2816, .f32⟩
  | .hbm, ⟨9, _⟩ => ⟨S1024x2816, .f32⟩
  | .hbm, ⟨10, _⟩ => ⟨S1x2816x1024, .f32⟩
  | .hbm, ⟨11, _⟩ => ⟨S2816x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S_, .f32⟩
  | .hbm, ⟨36, _⟩ => ⟨S4096x2816, .f32⟩
  | .hbm, ⟨37, _⟩ => ⟨S4096x2816, .f32⟩
  | .hbm, ⟨38, _⟩ => ⟨S_, .f32⟩
  | .hbm, ⟨39, _⟩ => ⟨S4096x2816, .f32⟩
  | .hbm, ⟨40, _⟩ => ⟨S4096x2816, .f32⟩
  | .hbm, ⟨41, _⟩ => ⟨S_, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S4096x2816, .f32⟩
  | .hbm, ⟨47, _⟩ => ⟨S4096x2816, .f32⟩
  | .hbm, ⟨48, _⟩ => ⟨S4096x1024, .f32⟩
  | .hbm, ⟨49, _⟩ => ⟨S_, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S4096x1024, .f32⟩
  | .hbm, ⟨56, _⟩ => ⟨S4096x1024, .f32⟩
  | .hbm, ⟨57, _⟩ => ⟨S1024x2816, .f32⟩
  | .hbm, ⟨58, _⟩ => ⟨S2816x1024, .f32⟩
  | .hbm, ⟨59, _⟩ => ⟨S4096x2816, .f32⟩
  | .hbm, ⟨60, _⟩ => ⟨S4096x2816, .f32⟩
  | .hbm, ⟨61, _⟩ => ⟨S4096x2816, .f32⟩
  | .hbm, ⟨62, _⟩ => ⟨S2816x1024, .f32⟩
  | .hbm, ⟨63, _⟩ => ⟨S1024x2816, .f32⟩
  | .hbm, ⟨64, _⟩ => ⟨S4096x1024, .f32⟩
  | .hbm, ⟨65, _⟩ => ⟨S4096x2816, .f32⟩
  | .hbm, ⟨66, _⟩ => ⟨S4096x2816, .f32⟩
  | .hbm, ⟨67, _⟩ => ⟨S4096x2816, .f32⟩
  | .hbm, ⟨68, _⟩ => ⟨S4096x2816, .f32⟩
  | .hbm, ⟨69, _⟩ => ⟨S2816x1024, .f32⟩
  | .hbm, ⟨70, _⟩ => ⟨S1024x2816, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S4096x1024, .f32⟩
  | .hbm, ⟨78, _⟩ => ⟨S4096x1024, .f32⟩
  | .hbm, ⟨79, _⟩ => ⟨S_, .f32⟩
  | .hbm, ⟨80, _⟩ => ⟨S1024, .f32⟩
  | .hbm, ⟨81, _⟩ => ⟨S4096x1024, .f32⟩
  | .hbm, ⟨82, _⟩ => ⟨S_, .f32⟩
  | .hbm, ⟨83, _⟩ => ⟨S4096, .f32⟩
  | .hbm, ⟨84, _⟩ => ⟨S4096x1, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S4096x1, .f32⟩
  | .hbm, ⟨89, _⟩ => ⟨S_, .f32⟩
  | .hbm, ⟨90, _⟩ => ⟨S4096x1, .f32⟩
  | .hbm, ⟨91, _⟩ => ⟨S4096x1, .f32⟩
  | .hbm, ⟨92, _⟩ => ⟨S_, .f32⟩
  | .hbm, ⟨93, _⟩ => ⟨S4096, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S4096x1024, .f32⟩
  | .hbm, ⟨98, _⟩ => ⟨S4096x1024, .f32⟩
  | .hbm, ⟨99, _⟩ => ⟨S1024x4x704, .f32⟩
  | .hbm, ⟨100, _⟩ => ⟨S4x1024x704, .f32⟩
  | .hbm, ⟨101, _⟩ => ⟨S4x1024x704, .bf16⟩
  | .hbm, ⟨102, _⟩ => ⟨S1024x4x704, .f32⟩
  | .hbm, ⟨103, _⟩ => ⟨S4x1024x704, .f32⟩
  | .hbm, ⟨104, _⟩ => ⟨S4x1024x704, .bf16⟩
  | .hbm, ⟨105, _⟩ => ⟨S4x704x1024, .f32⟩
  | .hbm, ⟨106, _⟩ => ⟨S4x704x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_v23_2 : Ref sig .tc := ⟨.hbm, 40, rfl⟩
abbrev main_call0_cst_1 : Ref sig .tc := ⟨.hbm, 41, rfl⟩
abbrev main_call0_v6 : Ref sig .tc := ⟨.hbm, 42, rfl⟩
abbrev main_call0_v7 : Ref sig .tc := ⟨.hbm, 43, rfl⟩
abbrev main_v23_1 : Ref sig .tc := ⟨.hbm, 44, rfl⟩
abbrev main_v23_0 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_3 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_4 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_5 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_6 : Ref sig .tc := ⟨.hbm, 79, rfl⟩
abbrev main_v51 : Ref sig .tc := ⟨.hbm, 80, rfl⟩
abbrev main_v52 : Ref sig .tc := ⟨.hbm, 81, rfl⟩
abbrev main_cst_7 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_8 : Ref sig .tc := ⟨.hbm, 89, rfl⟩
abbrev main_v59 : Ref sig .tc := ⟨.hbm, 90, rfl⟩
abbrev main_v60 : Ref sig .tc := ⟨.hbm, 91, rfl⟩
abbrev main_cst_9 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩

abbrev nD : Nat := 1
abbrev τ : Topo := Topo.v7x

variable {F : FTy → Type} [FloatOps F]
-- ==== Kernel3.lean ====
abbrev S4096x1024 : Shape := ⟨2, ![4096, 1024]⟩
abbrev S4096x512 : Shape := ⟨2, ![4096, 512]⟩
abbrev S4096x3072 : Shape := ⟨2, ![4096, 3072]⟩
abbrev S3072 : Shape := ⟨1, ![3072]⟩
abbrev S3x512x1024 : Shape := ⟨3, ![3, 512, 1024]⟩
abbrev S1024x1024 : Shape := ⟨2, ![1024, 1024]⟩
abbrev S2x2816x1024 : Shape := ⟨3, ![2, 2816, 1024]⟩
abbrev S2x4x704x1024 : Shape := ⟨4, ![2, 4, 704, 1024]⟩
abbrev S4x2x704x1024 : Shape := ⟨4, ![4, 2, 704, 1024]⟩
abbrev S4x256x1024 : Shape := ⟨3, ![4, 256, 1024]⟩
abbrev S_ : Shape := ⟨0, ![]⟩
abbrev S4x2x768x1024 : Shape := ⟨4, ![4, 2, 768, 1024]⟩
abbrev S4x1536x1024 : Shape := ⟨3, ![4, 1536, 1024]⟩
abbrev S4x1792x1024 : Shape := ⟨3, ![4, 1792, 1024]⟩
abbrev S1x3072 : Shape := ⟨2, ![1, 3072]⟩
abbrev S512x512 : Shape := ⟨2, ![512, 512]⟩
abbrev S3x512x512 : Shape := ⟨3, ![3, 512, 512]⟩
abbrev S1x512 : Shape := ⟨2, ![1, 512]⟩
abbrev S1x512x512 : Shape := ⟨3, ![1, 512, 512]⟩
abbrev S1024x256 : Shape := ⟨2, ![1024, 256]⟩
abbrev S1x256x512 : Shape := ⟨3, ![1, 256, 512]⟩
abbrev S1024x512 : Shape := ⟨2, ![1024, 512]⟩
abbrev S256x512 : Shape := ⟨2, ![256, 512]⟩
abbrev S1x256x1024 : Shape := ⟨3, ![1, 256, 1024]⟩
abbrev S256x1024 : Shape := ⟨2, ![256, 1024]⟩
abbrev S3x4096x1024 : Shape := ⟨3, ![3, 4096, 1024]⟩
abbrev S3x8x1024 : Shape := ⟨3, ![3, 8, 1024]⟩
abbrev S3x8x512 : Shape := ⟨3, ![3, 8, 512]⟩
abbrev S1x8x512 : Shape := ⟨3, ![1, 8, 512]⟩
abbrev S8x512 : Shape := ⟨2, ![8, 512]⟩
abbrev S64x8x512 : Shape := ⟨3, ![64, 8, 512]⟩
abbrev S1x1024x1024 : Shape := ⟨3, ![1, 1024, 1024]⟩
abbrev S1x512x1024 : Shape := ⟨3, ![1, 512, 1024]⟩
abbrev S512x1024 : Shape := ⟨2, ![512, 1024]⟩
abbrev S1x4096x512 : Shape := ⟨3, ![1, 4096, 512]⟩
abbrev S3x1024 : Shape := ⟨2, ![3, 1024]⟩

abbrev nBuf : Space → Nat
  | .hbm => 40
  | .vmem => 111
  | .smem => 0
  | _ => 0

abbrev bufTy : (tb : Table) → Fin (tcTables nBuf tb) → BufTy
  | .hbm, ⟨0, _⟩ => ⟨S4096x1024, .f32⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x3072, .bf16⟩
  | .hbm, ⟨5, _⟩ => ⟨S3072, .f32⟩
  | .hbm, ⟨6, _⟩ => ⟨S3x512x1024, .f32⟩
  | .hbm, ⟨7, _⟩ => ⟨S1024x1024, .f32⟩
  | .hbm, ⟨8, _⟩ => ⟨S2x2816x1024, .f32⟩
  | .hbm, ⟨9, _⟩ => ⟨S4096x1024, .f32⟩
  | .hbm, ⟨10, _⟩ => ⟨S2x4x704x1024, .f32⟩
  | .hbm, ⟨11, _⟩ => ⟨S4x2x704x1024, .f32⟩
  | .hbm, ⟨12, _⟩ => ⟨S4x256x1024, .f32⟩
  | .hbm, ⟨13, _⟩ => ⟨S4x2x704x1024, .bf16⟩
  | .hbm, ⟨14, _⟩ => ⟨S_, .i32⟩
  | .hbm, ⟨15, _⟩ => ⟨S_, .bf16⟩
  | .hbm, ⟨16, _⟩ => ⟨S4x2x768x1024, .bf16⟩
  | .hbm, ⟨17, _⟩ => ⟨S4x1536x1024, .bf16⟩
  | .hbm, ⟨18, _⟩ => ⟨S4x256x1024, .bf16⟩
  | .hbm, ⟨19, _⟩ => ⟨S4x1792x1024, .bf16⟩
  | .hbm, ⟨20, _⟩ => ⟨S3x512x1024, .bf16⟩
  | .hbm, ⟨21, _⟩ => ⟨S1x3072, .f32⟩
  | .hbm, ⟨22, _⟩ => ⟨S4096x1024, .bf16⟩
  | .hbm, ⟨23, _⟩ => ⟨S4096x1024, .f32⟩
  | .hbm, ⟨24, _⟩ => ⟨S4096x1024, .bf16⟩
  | .hbm, ⟨25, _⟩ => ⟨S4096x1024, .bf16⟩
  | .hbm, ⟨26, _⟩ => ⟨S1024x1024, .bf16⟩
  | .hbm, ⟨27, _⟩ => ⟨S1x3072, .f32⟩
  | .hbm, ⟨28, _⟩ => ⟨S3x4096x1024, .bf16⟩
  | .hbm, ⟨29, _⟩ => ⟨S3x4096x1024, .bf16⟩
  | .hbm, ⟨30, _⟩ => ⟨S3x8x1024, .f32⟩
  | .hbm, ⟨31, _⟩ => ⟨S4096x512, .bf16⟩
  | .hbm, ⟨32, _⟩ => ⟨S512x1024, .bf16⟩
  | .hbm, ⟨33, _⟩ => ⟨S4096x512, .bf16⟩
  | .hbm, ⟨34, _⟩ => ⟨S512x1024, .bf16⟩
  | .hbm, ⟨35, _⟩ => ⟨S4096x512, .bf16⟩
  | .hbm, ⟨36, _⟩ => ⟨S512x1024, .bf16⟩
  | .hbm, ⟨37, _⟩ => ⟨S_, .f32⟩
  | .hbm, ⟨38, _⟩ => ⟨S3x1024, .f32⟩
  | .hbm, ⟨39, _⟩ => ⟨S3072, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S3x512x512, .bf16⟩
  | .local _ .vmem, ⟨7, _⟩ => ⟨S3x512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S1x512, .f32⟩
  | .local _ .vmem, ⟨20, _⟩ => ⟨S512x512, .bf16⟩
  | .local _ .vmem, ⟨21, _⟩ => ⟨S512x512, .bf16⟩
  | .local _ .vmem, ⟨22, _⟩ => ⟨S1024x256, .bf16⟩
  | .local _ .vmem, ⟨23, _⟩ => ⟨S1024x256, .bf16⟩
  | .local _ .vmem, ⟨24, _⟩ => ⟨S1x256x512, .bf16⟩
  | .local _ .vmem, ⟨25, _⟩ => ⟨S1x256x512, .bf16⟩
  | .local _ .vmem, ⟨26, _⟩ => ⟨S1024x256, .bf16⟩
  | .local _ .vmem, ⟨27, _⟩ => ⟨S1024x256, .bf16⟩
  | .local _ .vmem, ⟨28, _⟩ => ⟨S1x256x512, .bf16⟩
  | .local _ .vmem, ⟨29, _⟩ => ⟨S1x256x512, .bf16⟩
  | .local _ .vmem, ⟨30, _⟩ => ⟨S1024x256, .bf16⟩
  | .local _ .vmem, ⟨31, _⟩ => ⟨S1024x256, .bf16⟩
  | .local _ .vmem, ⟨32, _⟩ => ⟨S1x256x512, .bf16⟩
  | .local _ .vmem, ⟨33, _⟩ => ⟨S1x256x512, .bf16⟩
  | .local _ .vmem, ⟨34, _⟩ => ⟨S1024x256, .bf16⟩
  | .local _ .vmem, ⟨35, _⟩ => ⟨S1024x256, .bf16⟩
  | .local _ .vmem, ⟨36, _⟩ => ⟨S1x256x512, .bf16⟩
  | .local _ .vmem, ⟨37, _⟩ => ⟨S1x256x512, .bf16⟩
  | .local _ .vmem, ⟨38, _⟩ => ⟨S1024x512, .f32⟩
  | .local _ .vmem, ⟨39, _⟩ => ⟨S1024x512, .f32⟩
  | .local _ .vmem, ⟨40, _⟩ => ⟨S1024x512, .f32⟩
  | .local _ .vmem, ⟨41, _⟩ => ⟨S1024x512, .f32⟩
  | .local _ .vmem, ⟨42, _⟩ => ⟨S1024x1024, .bf16⟩
  | .local _ .vmem, ⟨43, _⟩ => ⟨S1024x1024, .bf16⟩
  | .local _ .vmem, ⟨44, _⟩ => ⟨S1x256x1024, .bf16⟩
  | .local _ .vmem, ⟨45, _⟩ => ⟨S1x256x1024, .bf16⟩
  | .local _ .vmem, ⟨46, _⟩ => ⟨S1024x256, .bf16⟩
  | .local _ .vmem, ⟨47, _⟩ => ⟨S1024x256, .bf16⟩
  | .local _ .vmem, ⟨48, _⟩ => ⟨S4096x1024, .bf16⟩
  | .local _ .vmem, ⟨49, _⟩ => ⟨S4096x512, .bf16⟩
  | .local _ .vmem, ⟨50, _⟩ => ⟨S4096x512, .bf16⟩
  | .local _ .vmem, ⟨51, _⟩ => ⟨S1024x512, .bf16⟩
  | .local _ .vmem, ⟨52, _⟩ => ⟨S1024x512, .bf16⟩
  | .local _ .vmem, ⟨53, _⟩ => ⟨S512x512, .bf16⟩
  | .local _ .vmem, ⟨54, _⟩ => ⟨S512x512, .bf16⟩
  | .local _ .vmem, ⟨55, _⟩ => ⟨S512x512, .bf16⟩
  | .local _ .vmem, ⟨56, _⟩ => ⟨S512x512, .bf16⟩
  | .local _ .vmem, ⟨57, _⟩ => ⟨S512x512, .bf16⟩
  | .local _ .vmem, ⟨58, _⟩ => ⟨S512x512, .bf16⟩
  | .local _ .vmem, ⟨59, _⟩ => ⟨S512x512, .bf16⟩
  | .local _ .vmem, ⟨60, _⟩ => ⟨S512x512, .bf16⟩
  | .local _ .vmem, ⟨61, _⟩ => ⟨S3x512x512, .bf16⟩
  | .local _ .vmem, ⟨62, _⟩ => ⟨S3x512x512, .bf16⟩
  | .local _ .vmem, ⟨63, _⟩ => ⟨S512x512, .bf16⟩
  | .local _ .vmem, ⟨64, _⟩ => ⟨S512x512, .bf16⟩
  | .local _ .vmem, ⟨65, _⟩ => ⟨S512x512, .bf16⟩
  | .local _ .vmem, ⟨66, _⟩ => ⟨S512x512, .bf16⟩
  | .local _ .vmem, ⟨67, _⟩ => ⟨S512x512, .bf16⟩
  | .local _ .vmem, ⟨68, _⟩ => ⟨S512x512, .bf16⟩
  | .local _ .vmem, ⟨69, _⟩ => ⟨S1x512, .f32⟩
  | .local _ .vmem, ⟨70, _⟩ => ⟨S1x512, .f32⟩
  | .local _ .vmem, ⟨71, _⟩ => ⟨S1x512, .f32⟩
  | .local _ .vmem, ⟨72, _⟩ => ⟨S1x512, .f32⟩
  | .local _ .vmem, ⟨73, _⟩ => ⟨S1x512, .f32⟩
  | .local _ .vmem, ⟨74, _⟩ => ⟨S1x512, .f32⟩
  | .local _ .vmem, ⟨75, _⟩ => ⟨S3x512x512, .bf16⟩
  | .local _ .vmem, ⟨76, _⟩ => ⟨S3x512x512, .bf16⟩
  | .local _ .vmem, ⟨77, _⟩ => ⟨S3x512x512, .bf16⟩
  | .local _ .vmem, ⟨78, _⟩ => ⟨S3x512x512, .bf16⟩
  | .local _ .vmem, ⟨79, _⟩ => ⟨S3x8x512, .f32⟩
  | .local _ .vmem, ⟨80, _⟩ => ⟨S3x8x512, .f32⟩
  | .local _ .vmem, ⟨81, _⟩ => ⟨S1x1024x1024, .bf16⟩
  | .local _ .vmem, ⟨82, _⟩ => ⟨S1x1024x1024, .bf16⟩
  | .local _ .vmem, ⟨83, _⟩ => ⟨S1x512x1024, .bf16⟩
  | .local _ .vmem, ⟨84, _⟩ => ⟨S1024x512, .bf16⟩
  | .local _ .vmem, ⟨85, _⟩ => ⟨S1024x512, .bf16⟩
  | .local _ .vmem, ⟨86, _⟩ => ⟨S4096x512, .bf16⟩
  | .local _ .vmem, ⟨87, _⟩ => ⟨S1x4096x512, .bf16⟩
  | .local _ .vmem, ⟨88, _⟩ => ⟨S1x4096x512, .bf16⟩
  | .local _ .vmem, ⟨89, _⟩ => ⟨S512x512, .bf16⟩
  | .local _ .vmem, ⟨90, _⟩ => ⟨S512x512, .bf16⟩
  | .local _ .vmem, ⟨91, _⟩ => ⟨S1x1024x1024, .bf16⟩
  | .local _ .vmem, ⟨92, _⟩ => ⟨S1x1024x1024, .bf16⟩
  | .local _ .vmem, ⟨93, _⟩ => ⟨S1x512x1024, .bf16⟩
  | .local _ .vmem, ⟨94, _⟩ => ⟨S1024x512, .bf16⟩
  | .local _ .vmem, ⟨95, _⟩ => ⟨S1024x512, .bf16⟩
  | .local _ .vmem, ⟨96, _⟩ => ⟨S4096x512, .bf16⟩
  | .local _ .vmem, ⟨97, _⟩ => ⟨S1x4096x512, .bf16⟩
  | .local _ .vmem, ⟨98, _⟩ => ⟨S1x4096x512, .bf16⟩
  | .local _ .vmem, ⟨99, _⟩ => ⟨S512x512, .bf16⟩
  | .local _ .vmem, ⟨100, _⟩ => ⟨S512x512, .bf16⟩
  | .local _ .vmem, ⟨101, _⟩ => ⟨S1x1024x1024, .bf16⟩
  | .local _ .vmem, ⟨102, _⟩ => ⟨S1x1024x1024, .bf16⟩
  | .local _ .vmem, ⟨103, _⟩ => ⟨S1x512x1024, .bf16⟩
  | .local _ .vmem, ⟨104, _⟩ => ⟨S1024x512, .bf16⟩
  | .local _ .vmem, ⟨105, _⟩ => ⟨S1024x512, .bf16⟩
  | .local _ .vmem, ⟨106, _⟩ => ⟨S4096x512, .bf16⟩
  | .local _ .vmem, ⟨107, _⟩ => ⟨S1x4096x512, .bf16⟩
  | .local _ .vmem, ⟨108, _⟩ => ⟨S1x4096x512, .bf16⟩
  | .local _ .vmem, ⟨109, _⟩ => ⟨S512x512, .bf16⟩
  | .local _ .vmem, ⟨110, _⟩ => ⟨S512x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | _, _ => false

abbrev semScoped : Fin 0 → Bool
  | ⟨_, h⟩ => absurd h (Nat.not_lt_zero _)

abbrev dmaSemScoped : Fin 111 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | _ => false

abbrev sig : RefSig :=
  ofTc nBuf bufTy 0 111 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16_0 : Ref sig .tc := ⟨.hbm, 28, rfl⟩
abbrev main_v16_1 : Ref sig .tc := ⟨.hbm, 29, rfl⟩
abbrev main_v16_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst : Ref sig .tc := ⟨.hbm, 37, rfl⟩
abbrev main_v23 : Ref sig .tc := ⟨.hbm, 38, rfl⟩
abbrev main_v24 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg2_1 : Ref sig .tc := ⟨.vmem, 27, rfl⟩
abbrev cc1_stg3_0 : Ref sig .tc := ⟨.vmem, 28, rfl⟩
abbrev cc1_stg3_1 : Ref sig .tc := ⟨.vmem, 29, rfl⟩
abbrev cc1_stg4_0 : Ref sig .tc := ⟨.vmem, 30, rfl⟩
abbrev cc1_stg4_1 : Ref sig .tc := ⟨.vmem, 31, rfl⟩
abbrev cc1_stg5_0 : Ref sig .tc := ⟨.vmem, 32, rfl⟩
abbrev cc1_stg5_1 : Ref sig .tc := ⟨.vmem, 33, rfl⟩
abbrev cc1_stg6_0 : Ref sig .tc := ⟨.vmem, 34, rfl⟩
abbrev cc1_stg6_1 : Ref sig .tc := ⟨.vmem, 35, rfl⟩
abbrev cc1_stg7_0 : Ref sig .tc := ⟨.vmem, 36, rfl⟩
abbrev cc1_stg7_1 : Ref sig .tc := ⟨.vmem, 37, rfl⟩
abbrev cc1_stg8_0 : Ref sig .tc := ⟨.vmem, 38, rfl⟩
abbrev cc1_stg8_1 : Ref sig .tc := ⟨.vmem, 39, rfl⟩
abbrev cc1_stg9_0 : Ref sig .tc := ⟨.vmem, 40, rfl⟩
abbrev cc1_stg9_1 : Ref sig .tc := ⟨.vmem, 41, rfl⟩
abbrev cc2_stg0_0 : Ref sig .tc := ⟨.vmem, 42, rfl⟩
abbrev cc2_stg0_1 : Ref sig .tc := ⟨.vmem, 43, rfl⟩
abbrev cc2_stg1_0 : Ref sig .tc := ⟨.vmem, 44, rfl⟩
abbrev cc2_stg1_1 : Ref sig .tc := ⟨.vmem, 45, rfl⟩
abbrev cc2_stg2_0 : Ref sig .tc := ⟨.vmem, 46, rfl⟩
abbrev cc2_stg2_1 : Ref sig .tc := ⟨.vmem, 47, rfl⟩
abbrev cc3_stg0_0 : Ref sig .tc := ⟨.vmem, 48, rfl⟩
abbrev cc3_stg1_0 : Ref sig .tc := ⟨.vmem, 49, rfl⟩
abbrev cc3_stg1_1 : Ref sig .tc := ⟨.vmem, 50, rfl⟩
abbrev cc3_stg2_0 : Ref sig .tc := ⟨.vmem, 51, rfl⟩
abbrev cc3_stg2_1 : Ref sig .tc := ⟨.vmem, 52, rfl⟩
abbrev cc4_stg0_0 : Ref sig .tc := ⟨.vmem, 53, rfl⟩
abbrev cc4_stg0_1 : Ref sig .tc := ⟨.vmem, 54, rfl⟩
abbrev cc4_stg1_0 : Ref sig .tc := ⟨.vmem, 55, rfl⟩
abbrev cc4_stg1_1 : Ref sig .tc := ⟨.vmem, 56, rfl⟩
abbrev cc4_stg2_0 : Ref sig .tc := ⟨.vmem, 57, rfl⟩
abbrev cc4_stg2_1 : Ref sig .tc := ⟨.vmem, 58, rfl⟩
abbrev cc4_stg3_0 : Ref sig .tc := ⟨.vmem, 59, rfl⟩
abbrev cc4_stg3_1 : Ref sig .tc := ⟨.vmem, 60, rfl⟩
abbrev cc4_stg4_0 : Ref sig .tc := ⟨.vmem, 61, rfl⟩
abbrev cc4_stg4_1 : Ref sig .tc := ⟨.vmem, 62, rfl⟩
abbrev cc4_stg5_0 : Ref sig .tc := ⟨.vmem, 63, rfl⟩
abbrev cc4_stg5_1 : Ref sig .tc := ⟨.vmem, 64, rfl⟩
abbrev cc4_stg6_0 : Ref sig .tc := ⟨.vmem, 65, rfl⟩
abbrev cc4_stg6_1 : Ref sig .tc := ⟨.vmem, 66, rfl⟩
abbrev cc4_stg7_0 : Ref sig .tc := ⟨.vmem, 67, rfl⟩
abbrev cc4_stg7_1 : Ref sig .tc := ⟨.vmem, 68, rfl⟩
abbrev cc4_stg8_0 : Ref sig .tc := ⟨.vmem, 69, rfl⟩
abbrev cc4_stg8_1 : Ref sig .tc := ⟨.vmem, 70, rfl⟩
abbrev cc4_stg9_0 : Ref sig .tc := ⟨.vmem, 71, rfl⟩
abbrev cc4_stg9_1 : Ref sig .tc := ⟨.vmem, 72, rfl⟩
abbrev cc4_stg10_0 : Ref sig .tc := ⟨.vmem, 73, rfl⟩
abbrev cc4_stg10_1 : Ref sig .tc := ⟨.vmem, 74, rfl⟩
abbrev cc4_stg11_0 : Ref sig .tc := ⟨.vmem, 75, rfl⟩
abbrev cc4_stg11_1 : Ref sig .tc := ⟨.vmem, 76, rfl⟩
abbrev cc4_stg12_0 : Ref sig .tc := ⟨.vmem, 77, rfl⟩
abbrev cc4_stg12_1 : Ref sig .tc := ⟨.vmem, 78, rfl⟩
abbrev cc4_stg13_0 : Ref sig .tc := ⟨.vmem, 79, rfl⟩
abbrev cc4_stg13_1 : Ref sig .tc := ⟨.vmem, 80, rfl⟩
abbrev cc5_stg0_0 : Ref sig .tc := ⟨.vmem, 81, rfl⟩
abbrev cc5_stg0_1 : Ref sig .tc := ⟨.vmem, 82, rfl⟩
abbrev cc5_stg1_0 : Ref sig .tc := ⟨.vmem, 83, rfl⟩
abbrev cc5_stg2_0 : Ref sig .tc := ⟨.vmem, 84, rfl⟩
abbrev cc5_stg2_1 : Ref sig .tc := ⟨.vmem, 85, rfl⟩
abbrev cc6_stg0_0 : Ref sig .tc := ⟨.vmem, 86, rfl⟩
abbrev cc6_stg1_0 : Ref sig .tc := ⟨.vmem, 87, rfl⟩
abbrev cc6_stg1_1 : Ref sig .tc := ⟨.vmem, 88, rfl⟩
abbrev cc6_stg2_0 : Ref sig .tc := ⟨.vmem, 89, rfl⟩
abbrev cc6_stg2_1 : Ref sig .tc := ⟨.vmem, 90, rfl⟩
abbrev cc7_stg0_0 : Ref sig .tc := ⟨.vmem, 91, rfl⟩
abbrev cc7_stg0_1 : Ref sig .tc := ⟨.vmem, 92, rfl⟩
abbrev cc7_stg1_0 : Ref sig .tc := ⟨.vmem, 93, rfl⟩
abbrev cc7_stg2_0 : Ref sig .tc := ⟨.vmem, 94, rfl⟩
abbrev cc7_stg2_1 : Ref sig .tc := ⟨.vmem, 95, rfl⟩
abbrev cc8_stg0_0 : Ref sig .tc := ⟨.vmem, 96, rfl⟩
abbrev cc8_stg1_0 : Ref sig .tc := ⟨.vmem, 97, rfl⟩
abbrev cc8_stg1_1 : Ref sig .tc := ⟨.vmem, 98, rfl⟩
abbrev cc8_stg2_0 : Ref sig .tc := ⟨.vmem, 99, rfl⟩
abbrev cc8_stg2_1 : Ref sig .tc := ⟨.vmem, 100, rfl⟩
abbrev cc9_stg0_0 : Ref sig .tc := ⟨.vmem, 101, rfl⟩
abbrev cc9_stg0_1 : Ref sig .tc := ⟨.vmem, 102, rfl⟩
abbrev cc9_stg1_0 : Ref sig .tc := ⟨.vmem, 103, rfl⟩
abbrev cc9_stg2_0 : Ref sig .tc := ⟨.vmem, 104, rfl⟩
abbrev cc9_stg2_1 : Ref sig .tc := ⟨.vmem, 105, rfl⟩
abbrev cc10_stg0_0 : Ref sig .tc := ⟨.vmem, 106, rfl⟩
abbrev cc10_stg1_0 : Ref sig .tc := ⟨.vmem, 107, rfl⟩
abbrev cc10_stg1_1 : Ref sig .tc := ⟨.vmem, 108, rfl⟩
abbrev cc10_stg2_0 : Ref sig .tc := ⟨.vmem, 109, rfl⟩
abbrev cc10_stg2_1 : Ref sig .tc := ⟨.vmem, 110, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem2_1 : DmaSem sig := 27
abbrev cc1_sem3_0 : DmaSem sig := 28
abbrev cc1_sem3_1 : DmaSem sig := 29
abbrev cc1_sem4_0 : DmaSem sig := 30
abbrev cc1_sem4_1 : DmaSem sig := 31
abbrev cc1_sem5_0 : DmaSem sig := 32
abbrev cc1_sem5_1 : DmaSem sig := 33
abbrev cc1_sem6_0 : DmaSem sig := 34
abbrev cc1_sem6_1 : DmaSem sig := 35
abbrev cc1_sem7_0 : DmaSem sig := 36
abbrev cc1_sem7_1 : DmaSem sig := 37
abbrev cc1_sem8_0 : DmaSem sig := 38
abbrev cc1_sem8_1 : DmaSem sig := 39
abbrev cc1_sem9_0 : DmaSem sig := 40
abbrev cc1_sem9_1 : DmaSem sig := 41
abbrev cc2_sem0_0 : DmaSem sig := 42
abbrev cc2_sem0_1 : DmaSem sig := 43
abbrev cc2_sem1_0 : DmaSem sig := 44
abbrev cc2_sem1_1 : DmaSem sig := 45
abbrev cc2_sem2_0 : DmaSem sig := 46
abbrev cc2_sem2_1 : DmaSem sig := 47
abbrev cc3_sem0_0 : DmaSem sig := 48
abbrev cc3_sem1_0 : DmaSem sig := 49
abbrev cc3_sem1_1 : DmaSem sig := 50
abbrev cc3_sem2_0 : DmaSem sig := 51
abbrev cc3_sem2_1 : DmaSem sig := 52
abbrev cc4_sem0_0 : DmaSem sig := 53
abbrev cc4_sem0_1 : DmaSem sig := 54
abbrev cc4_sem1_0 : DmaSem sig := 55
abbrev cc4_sem1_1 : DmaSem sig := 56
abbrev cc4_sem2_0 : DmaSem sig := 57
abbrev cc4_sem2_1 : DmaSem sig := 58
abbrev cc4_sem3_0 : DmaSem sig := 59
abbrev cc4_sem3_1 : DmaSem sig := 60
abbrev cc4_sem4_0 : DmaSem sig := 61
abbrev cc4_sem4_1 : DmaSem sig := 62
abbrev cc4_sem5_0 : DmaSem sig := 63
abbrev cc4_sem5_1 : DmaSem sig := 64
abbrev cc4_sem6_0 : DmaSem sig := 65
abbrev cc4_sem6_1 : DmaSem sig := 66
abbrev cc4_sem7_0 : DmaSem sig := 67
abbrev cc4_sem7_1 : DmaSem sig := 68
abbrev cc4_sem8_0 : DmaSem sig := 69
abbrev cc4_sem8_1 : DmaSem sig := 70
abbrev cc4_sem9_0 : DmaSem sig := 71
abbrev cc4_sem9_1 : DmaSem sig := 72
abbrev cc4_sem10_0 : DmaSem sig := 73
abbrev cc4_sem10_1 : DmaSem sig := 74
abbrev cc4_sem11_0 : DmaSem sig := 75
abbrev cc4_sem11_1 : DmaSem sig := 76
abbrev cc4_sem12_0 : DmaSem sig := 77
abbrev cc4_sem12_1 : DmaSem sig := 78
abbrev cc4_sem13_0 : DmaSem sig := 79
abbrev cc4_sem13_1 : DmaSem sig := 80
abbrev cc5_sem0_0 : DmaSem sig := 81
abbrev cc5_sem0_1 : DmaSem sig := 82
abbrev cc5_sem1_0 : DmaSem sig := 83
abbrev cc5_sem2_0 : DmaSem sig := 84
abbrev cc5_sem2_1 : DmaSem sig := 85
abbrev cc6_sem0_0 : DmaSem sig := 86
abbrev cc6_sem1_0 : DmaSem sig := 87
abbrev cc6_sem1_1 : DmaSem sig := 88
abbrev cc6_sem2_0 : DmaSem sig := 89
abbrev cc6_sem2_1 : DmaSem sig := 90
abbrev cc7_sem0_0 : DmaSem sig := 91
abbrev cc7_sem0_1 : DmaSem sig := 92
abbrev cc7_sem1_0 : DmaSem sig := 93
abbrev cc7_sem2_0 : DmaSem sig := 94
abbrev cc7_sem2_1 : DmaSem sig := 95
abbrev cc8_sem0_0 : DmaSem sig := 96
abbrev cc8_sem1_0 : DmaSem sig := 97
abbrev cc8_sem1_1 : DmaSem sig := 98
abbrev cc8_sem2_0 : DmaSem sig := 99
abbrev cc8_sem2_1 : DmaSem sig := 100
abbrev cc9_sem0_0 : DmaSem sig := 101
abbrev cc9_sem0_1 : DmaSem sig := 102
abbrev cc9_sem1_0 : DmaSem sig := 103
abbrev cc9_sem2_0 : DmaSem sig := 104
abbrev cc9_sem2_1 : DmaSem sig := 105
abbrev cc10_sem0_0 : DmaSem sig := 106
abbrev cc10_sem1_0 : DmaSem sig := 107
abbrev cc10_sem1_1 : DmaSem sig := 108
abbrev cc10_sem2_0 : DmaSem sig := 109
abbrev cc10_sem2_1 : DmaSem sig := 110

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev grid1 : Pipeline.Grid := ⟨2, ![4, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c6_i32 : BitVec 32 := 6#32
  let c0_i32_1 : BitVec 32 := 0#32
  ![c0_i32_0.toNat, c6_i32.toNat, v0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c1_i32 : BitVec 32 := 1#32
  let c0_i32_0 : BitVec 32 := 0#32
  ![v0.toNat, c1_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let c6_i32 : BitVec 32 := 6#32
  let c0_i32_0 : BitVec 32 := 0#32
  ![c1_i32.toNat, c6_i32.toNat, v0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c2_i32 : BitVec 32 := 2#32
  let c0_i32_0 : BitVec 32 := 0#32
  ![v0.toNat, c2_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c2_i32 : BitVec 32 := 2#32
  let c6_i32 : BitVec 32 := 6#32
  let c0_i32_0 : BitVec 32 := 0#32
  ![c2_i32.toNat, c6_i32.toNat, v0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c3_i32 : BitVec 32 := 3#32
  let c0_i32_0 : BitVec 32 := 0#32
  ![v0.toNat, c3_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c3_i32 : BitVec 32 := 3#32
  let c6_i32 : BitVec 32 := 6#32
  let c0_i32_0 : BitVec 32 := 0#32
  ![c3_i32.toNat, c6_i32.toNat, v0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x256x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x256x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x256x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S1024x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1x256x512 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![false, true]

abbrev stage1_8 : Fin 2 → Memref sig .tc .vmem S1024x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S1024x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev grid2 : Pipeline.Grid := ⟨2, ![4, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc2_transform_1 (i : grid2.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  let c0_i32_0 : BitVec 32 := 0#32
  ![arg1.toNat, c6_i32.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x256x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![1, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 1 → Memref sig .tc .vmem S4096x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false]

abbrev stage3_1 : Fin 2 → Memref sig .tc .vmem S4096x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![2, 8], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_4 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc4_transform_6 (i : grid4.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc4_transform_7 (i : grid4.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc4_transform_8 (i : grid4.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc4_transform_9 (i : grid4.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc4_transform_10 (i : grid4.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc4_transform_11 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc4_transform_12 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc4_transform_13 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage4_0 : Fin 2 → Memref sig .tc .vmem S512x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S512x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S512x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S512x512 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![false, true]

abbrev stage4_4 : Fin 2 → Memref sig .tc .vmem S3x512x512 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, false]

abbrev stage4_5 : Fin 2 → Memref sig .tc .vmem S512x512 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, true]

abbrev stage4_6 : Fin 2 → Memref sig .tc .vmem S512x512 .bf16 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true, true]

abbrev stage4_7 : Fin 2 → Memref sig .tc .vmem S512x512 .bf16 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true, true]

abbrev stage4_8 : Fin 2 → Memref sig .tc .vmem S1x512 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true, false]

abbrev stage4_9 : Fin 2 → Memref sig .tc .vmem S1x512 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true, false]

abbrev stage4_10 : Fin 2 → Memref sig .tc .vmem S1x512 .f32 := fun | 0 => Memref.whole cc4_stg10_0 | 1 => Memref.whole cc4_stg10_1 | ⟨_ + 2, h⟩ => absurd h (Nat.not_lt.2 (Nat.le_add_left _ _))
abbrev sem4_10 : Fin 2 → DmaSem sig := fun | 0 => cc4_sem10_0 | 1 => cc4_sem10_1 | ⟨_ + 2, h⟩ => absurd h (Nat.not_lt.2 (Nat.le_add_left _ _))
abbrev reads4_10 : Fin grid4.rank → Bool := ![true, false]

abbrev stage4_11 : Fin 2 → Memref sig .tc .vmem S3x512x512 .bf16 := fun | 0 => Memref.whole cc4_stg11_0 | 1 => Memref.whole cc4_stg11_1 | ⟨_ + 2, h⟩ => absurd h (Nat.not_lt.2 (Nat.le_add_left _ _))
abbrev sem4_11 : Fin 2 → DmaSem sig := fun | 0 => cc4_sem11_0 | 1 => cc4_sem11_1 | ⟨_ + 2, h⟩ => absurd h (Nat.not_lt.2 (Nat.le_add_left _ _))
abbrev reads4_11 : Fin grid4.rank → Bool := ![true, true]

abbrev stage4_12 : Fin 2 → Memref sig .tc .vmem S3x512x512 .bf16 := fun | 0 => Memref.whole cc4_stg12_0 | 1 => Memref.whole cc4_stg12_1 | ⟨_ + 2, h⟩ => absurd h (Nat.not_lt.2 (Nat.le_add_left _ _))
abbrev sem4_12 : Fin 2 → DmaSem sig := fun | 0 => cc4_sem12_0 | 1 => cc4_sem12_1 | ⟨_ + 2, h⟩ => absurd h (Nat.not_lt.2 (Nat.le_add_left _ _))
abbrev reads4_12 : Fin grid4.rank → Bool := ![true, true]

abbrev stage4_13 : Fin 2 → Memref sig .tc .vmem S3x8x512 .f32 := fun | 0 => Memref.whole cc4_stg13_0 | 1 => Memref.whole cc4_stg13_1 | ⟨_ + 2, h⟩ => absurd h (Nat.not_lt.2 (Nat.le_add_left _ _))
abbrev sem4_13 : Fin 2 → DmaSem sig := fun | 0 => cc4_sem13_0 | 1 => cc4_sem13_1 | ⟨_ + 2, h⟩ => absurd h (Nat.not_lt.2 (Nat.le_add_left _ _))
abbrev reads4_13 : Fin grid4.rank → Bool := ![true, false]

abbrev grid5 : Pipeline.Grid := ⟨2, ![4, 1], ![false, false]⟩

def cc5_transform_0 (i : grid5.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

def cc5_transform_1 (i : grid5.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, v0.toNat, c0_i32_1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S1x1024x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 1 → Memref sig .tc .vmem S1x512x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true]

abbrev stage5_2 : Fin 2 → Memref sig .tc .vmem S1024x512 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![1, 2], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc6_transform_1 (i : grid6.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 1 → Memref sig .tc .vmem S4096x512 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true, false]

abbrev stage6_1 : Fin 2 → Memref sig .tc .vmem S1x4096x512 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S512x512 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev grid7 : Pipeline.Grid := ⟨2, ![4, 1], ![false, false]⟩

def cc7_transform_0 (i : grid7.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c1_i32 : BitVec 32 := 1#32
  let c0_i32_0 : BitVec 32 := 0#32
  let c0_i32_1 : BitVec 32 := 0#32
  ![c1_i32.toNat, v0.toNat, c0_i32_0.toNat]

def cc7_transform_1 (i : grid7.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let c0_i32_0 : BitVec 32 := 0#32
  let c0_i32_1 : BitVec 32 := 0#32
  ![c1_i32.toNat, v0.toNat, c0_i32_0.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage7_0 : Fin 2 → Memref sig .tc .vmem S1x1024x1024 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 1 → Memref sig .tc .vmem S1x512x1024 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, true]

abbrev stage7_2 : Fin 2 → Memref sig .tc .vmem S1024x512 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

abbrev grid8 : Pipeline.Grid := ⟨2, ![1, 2], ![false, false]⟩

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc8_transform_1 (i : grid8.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let c0_i32_0 : BitVec 32 := 0#32
  let c0_i32_1 : BitVec 32 := 0#32
  ![c1_i32.toNat, c0_i32_0.toNat, v0.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage8_0 : Fin 1 → Memref sig .tc .vmem S4096x512 .bf16 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true, false]

abbrev stage8_1 : Fin 2 → Memref sig .tc .vmem S1x4096x512 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true]

abbrev stage8_2 : Fin 2 → Memref sig .tc .vmem S512x512 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true]

abbrev grid9 : Pipeline.Grid := ⟨2, ![4, 1], ![false, false]⟩

def cc9_transform_0 (i : grid9.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c2_i32 : BitVec 32 := 2#32
  let c0_i32_0 : BitVec 32 := 0#32
  let c0_i32_1 : BitVec 32 := 0#32
  ![c2_i32.toNat, v0.toNat, c0_i32_0.toNat]

def cc9_transform_1 (i : grid9.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c2_i32 : BitVec 32 := 2#32
  let c0_i32_0 : BitVec 32 := 0#32
  let c0_i32_1 : BitVec 32 := 0#32
  ![c2_i32.toNat, v0.toNat, c0_i32_0.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage9_0 : Fin 2 → Memref sig .tc .vmem S1x1024x1024 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, false]

abbrev stage9_1 : Fin 1 → Memref sig .tc .vmem S1x512x1024 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false, true]

abbrev stage9_2 : Fin 2 → Memref sig .tc .vmem S1024x512 .bf16 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true]

abbrev grid10 : Pipeline.Grid := ⟨2, ![1, 2], ![false, false]⟩

def cc10_transform_0 (i : grid10.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc10_transform_1 (i : grid10.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c2_i32 : BitVec 32 := 2#32
  let c0_i32_0 : BitVec 32 := 0#32
  let c0_i32_1 : BitVec 32 := 0#32
  ![c2_i32.toNat, c0_i32_0.toNat, v0.toNat]

def cc10_transform_2 (i : grid10.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage10_0 : Fin 1 → Memref sig .tc .vmem S4096x512 .bf16 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![true, false]

abbrev stage10_1 : Fin 2 → Memref sig .tc .vmem S1x4096x512 .bf16 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![false, true]

abbrev stage10_2 : Fin 2 → Memref sig .tc .vmem S512x512 .bf16 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true]
-- ==== Reference3Ideal.lean ====
abbrev S4096x1024 : Shape := ⟨2, ![4096, 1024]⟩
abbrev S4096x512 : Shape := ⟨2, ![4096, 512]⟩
abbrev S4096x3072 : Shape := ⟨2, ![4096, 3072]⟩
abbrev S3072 : Shape := ⟨1, ![3072]⟩
abbrev S3x512x1024 : Shape := ⟨3, ![3, 512, 1024]⟩
abbrev S1024x1024 : Shape := ⟨2, ![1024, 1024]⟩
abbrev S2x2816x1024 : Shape := ⟨3, ![2, 2816, 1024]⟩
abbrev S4096x1x512 : Shape := ⟨3, ![4096, 1, 512]⟩
abbrev S4096x3x512 : Shape := ⟨3, ![4096, 3, 512]⟩
abbrev S3x1024x4096 : Shape := ⟨3, ![3, 1024, 4096]⟩
abbrev S4096x3x1024 : Shape := ⟨3, ![4096, 3, 1024]⟩
abbrev S1x3072 : Shape := ⟨2, ![1, 3072]⟩
abbrev S_ : Shape := ⟨0, ![]⟩
abbrev S3x4096x512 : Shape := ⟨3, ![3, 4096, 512]⟩
abbrev S3x1024x512 : Shape := ⟨3, ![3, 1024, 512]⟩
abbrev S3x4096x1024 : Shape := ⟨3, ![3, 4096, 1024]⟩
abbrev S1x512x1024 : Shape := ⟨3, ![1, 512, 1024]⟩
abbrev S512x1024 : Shape := ⟨2, ![512, 1024]⟩

abbrev nBuf : Space → Nat
  | .hbm => 82
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x3072, .bf16⟩
  | .hbm, ⟨5, _⟩ => ⟨S3072, .f32⟩
  | .hbm, ⟨6, _⟩ => ⟨S3x512x1024, .f32⟩
  | .hbm, ⟨7, _⟩ => ⟨S1024x1024, .f32⟩
  | .hbm, ⟨8, _⟩ => ⟨S2x2816x1024, .f32⟩
  | .hbm, ⟨9, _⟩ => ⟨S4096x1024, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S4096x3072, .f32⟩
  | .hbm, ⟨14, _⟩ => ⟨S4096x1x512, .f32⟩
  | .hbm, ⟨15, _⟩ => ⟨S4096x1x512, .f32⟩
  | .hbm, ⟨16, _⟩ => ⟨S4096x1x512, .f32⟩
  | .hbm, ⟨17, _⟩ => ⟨S4096x3x512, .f32⟩
  | .hbm, ⟨18, _⟩ => ⟨S3x1024x4096, .f32⟩
  | .hbm, ⟨19, _⟩ => ⟨S4096x3x1024, .f32⟩
  | .hbm, ⟨20, _⟩ => ⟨S1x3072, .f32⟩
  | .hbm, ⟨21, _⟩ => ⟨S4096x3072, .f32⟩
  | .hbm, ⟨22, _⟩ => ⟨S4096x3072, .f32⟩
  | .hbm, ⟨23, _⟩ => ⟨S4096x3072, .f32⟩
  | .hbm, ⟨24, _⟩ => ⟨S4096x3072, .f32⟩
  | .hbm, ⟨25, _⟩ => ⟨S_, .f32⟩
  | .hbm, ⟨26, _⟩ => ⟨S4096x3072, .f32⟩
  | .hbm, ⟨27, _⟩ => ⟨S4096x3072, .f32⟩
  | .hbm, ⟨28, _⟩ => ⟨S_, .f32⟩
  | .hbm, ⟨29, _⟩ => ⟨S4096x3072, .f32⟩
  | .hbm, ⟨30, _⟩ => ⟨S4096x3072, .f32⟩
  | .hbm, ⟨31, _⟩ => ⟨S_, .f32⟩
  | .hbm, ⟨32, _⟩ => ⟨S4096x3072, .f32⟩
  | .hbm, ⟨33, _⟩ => ⟨S4096x3072, .f32⟩
  | .hbm, ⟨34, _⟩ => ⟨S4096x3072, .f32⟩
  | .hbm, ⟨35, _⟩ => ⟨S4096x3x1024, .f32⟩
  | .hbm, ⟨36, _⟩ => ⟨S4096x3x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S1024x1024, .f32⟩
  | .hbm, ⟨43, _⟩ => ⟨S1024x1024, .f32⟩
  | .hbm, ⟨44, _⟩ => ⟨S4096x1024, .f32⟩
  | .hbm, ⟨45, _⟩ => ⟨S4096x3x1024, .f32⟩
  | .hbm, ⟨46, _⟩ => ⟨S4096x3x1024, .f32⟩
  | .hbm, ⟨47, _⟩ => ⟨S4096x3x1024, .f32⟩
  | .hbm, ⟨48, _⟩ => ⟨S4096x3072, .f32⟩
  | .hbm, ⟨49, _⟩ => ⟨S4096x3072, .f32⟩
  | .hbm, ⟨50, _⟩ => ⟨S_, .f32⟩
  | .hbm, ⟨51, _⟩ => ⟨S3072, .f32⟩
  | .hbm, ⟨52, _⟩ => ⟨S1x3072, .f32⟩
  | .hbm, ⟨53, _⟩ => ⟨S_, .f32⟩
  | .hbm, ⟨54, _⟩ => ⟨S3072, .f32⟩
  | .hbm, ⟨55, _⟩ => ⟨S3x1024x4096, .f32⟩
  | .hbm, ⟨56, _⟩ => ⟨S3x4096x512, .f32⟩
  | .hbm, ⟨57, _⟩ => ⟨S4096x3x512, .f32⟩
  | .hbm, ⟨58, _⟩ => ⟨S3x1024x512, .f32⟩
  | .hbm, ⟨59, _⟩ => ⟨S3x512x1024, .f32⟩
  | .hbm, ⟨60, _⟩ => ⟨S4096x1x512, .f32⟩
  | .hbm, ⟨61, _⟩ => ⟨S4096x512, .f32⟩
  | .hbm, ⟨62, _⟩ => ⟨S4096x1x512, .f32⟩
  | .hbm, ⟨63, _⟩ => ⟨S4096x512, .f32⟩
  | .hbm, ⟨64, _⟩ => ⟨S4096x1x512, .f32⟩
  | .hbm, ⟨65, _⟩ => ⟨S4096x512, .f32⟩
  | .hbm, ⟨66, _⟩ => ⟨S4096x3x1024, .f32⟩
  | .hbm, ⟨67, _⟩ => ⟨S3x4096x1024, .f32⟩
  | .hbm, ⟨68, _⟩ => ⟨S1024x1024, .bf16⟩
  | .hbm, ⟨69, _⟩ => ⟨S3x4096x1024, .bf16⟩
  | .hbm, ⟨70, _⟩ => ⟨S4096x512, .bf16⟩
  | .hbm, ⟨71, _⟩ => ⟨S4096x512, .bf16⟩
  | .hbm, ⟨72, _⟩ => ⟨S4096x512, .bf16⟩
  | .hbm, ⟨73, _⟩ => ⟨S1x512x1024, .f32⟩
  | .hbm, ⟨74, _⟩ => ⟨S512x1024, .f32⟩
  | .hbm, ⟨75, _⟩ => ⟨S512x1024, .bf16⟩
  | .hbm, ⟨76, _⟩ => ⟨S1x512x1024, .f32⟩
  | .hbm, ⟨77, _⟩ => ⟨S512x1024, .f32⟩
  | .hbm, ⟨78, _⟩ => ⟨S512x1024, .bf16⟩
  | .hbm, ⟨79, _⟩ => ⟨S1x512x1024, .f32⟩
  | .hbm, ⟨80, _⟩ => ⟨S512x1024, .f32⟩
  | .hbm, ⟨81, _⟩ => ⟨S512x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_3 : Ref sig .tc := ⟨.hbm, 50, rfl⟩
abbrev main_v36 : Ref sig .tc := ⟨.hbm, 51, rfl⟩
abbrev main_v37 : Ref sig .tc := ⟨.hbm, 52, rfl⟩
abbrev main_cst_4 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩

abbrev nD : Nat := 1
abbrev τ : Topo := Topo.v7x

variable {F : FTy → Type} [FloatOps F]
-- ==== Kernel4.lean ====
abbrev S4096x1024 : Shape := ⟨2, ![4096, 1024]⟩
abbrev S1024x7176 : Shape := ⟨2, ![1024, 7176]⟩
abbrev S4096x7176 : Shape := ⟨2, ![4096, 7176]⟩
abbrev S1024x2560 : Shape := ⟨2, ![1024, 2560]⟩
abbrev S1024x1536 : Shape := ⟨2, ![1024, 1536]⟩
abbrev S1024x3072 : Shape := ⟨2, ![1024, 3072]⟩
abbrev S1024x8 : Shape := ⟨2, ![1024, 8]⟩
abbrev S_ : Shape := ⟨0, ![]⟩
abbrev S1024x128 : Shape := ⟨2, ![1024, 128]⟩
abbrev S4096x2560 : Shape := ⟨2, ![4096, 2560]⟩
abbrev S1024x1024 : Shape := ⟨2, ![1024, 1024]⟩
abbrev S1024x512 : Shape := ⟨2, ![1024, 512]⟩
abbrev S4096x128 : Shape := ⟨2, ![4096, 128]⟩
abbrev S4096x1536 : Shape := ⟨2, ![4096, 1536]⟩
abbrev S4096x3072 : Shape := ⟨2, ![4096, 3072]⟩
abbrev S4096x512 : Shape := ⟨2, ![4096, 512]⟩
abbrev S4096x8 : Shape := ⟨2, ![4096, 8]⟩
abbrev S4096x3x1024 : Shape := ⟨3, ![4096, 3, 1024]⟩
abbrev S3x4096x1024 : Shape := ⟨3, ![3, 4096, 1024]⟩
abbrev S1x4096x512 : Shape := ⟨3, ![1, 4096, 512]⟩

abbrev nBuf : Space → Nat
  | .hbm => 53
  | .vmem => 65
  | .smem => 0
  | _ => 0

abbrev bufTy : (tb : Table) → Fin (tcTables nBuf tb) → BufTy
  | .hbm, ⟨0, _⟩ => ⟨S4096x1024, .bf16⟩
  | .hbm, ⟨1, _⟩ => ⟨S1024x7176, .f32⟩
  | .hbm, ⟨2, _⟩ => ⟨S4096x7176, .f32⟩
  | .hbm, ⟨3, _⟩ => ⟨S1024x7176, .bf16⟩
  | .hbm, ⟨4, _⟩ => ⟨S1024x2560, .bf16⟩
  | .hbm, ⟨5, _⟩ => ⟨S1024x1536, .bf16⟩
  | .hbm, ⟨6, _⟩ => ⟨S1024x3072, .bf16⟩
  | .hbm, ⟨7, _⟩ => ⟨S1024x8, .bf16⟩
  | .hbm, ⟨8, _⟩ => ⟨S_, .i32⟩
  | .hbm, ⟨9, _⟩ => ⟨S_, .bf16⟩
  | .hbm, ⟨10, _⟩ => ⟨S1024x128, .bf16⟩
  | .hbm, ⟨11, _⟩ => ⟨S4096x2560, .bf16⟩
  | .hbm, ⟨12, _⟩ => ⟨S4096x128, .f32⟩
  | .hbm, ⟨13, _⟩ => ⟨S4096x1536, .bf16⟩
  | .hbm, ⟨14, _⟩ => ⟨S4096x3072, .bf16⟩
  | .hbm, ⟨15, _⟩ => ⟨S4096x512, .f32⟩
  | .hbm, ⟨16, _⟩ => ⟨S4096x512, .bf16⟩
  | .hbm, ⟨17, _⟩ => ⟨S4096x512, .f32⟩
  | .hbm, ⟨18, _⟩ => ⟨S4096x512, .bf16⟩
  | .hbm, ⟨19, _⟩ => ⟨S4096x512, .f32⟩
  | .hbm, ⟨20, _⟩ => ⟨S4096x512, .bf16⟩
  | .hbm, ⟨21, _⟩ => ⟨S4096x512, .f32⟩
  | .hbm, ⟨22, _⟩ => ⟨S4096x512, .bf16⟩
  | .hbm, ⟨23, _⟩ => ⟨S4096x512, .f32⟩
  | .hbm, ⟨24, _⟩ => ⟨S4096x512, .bf16⟩
  | .hbm, ⟨25, _⟩ => ⟨S4096x512, .f32⟩
  | .hbm, ⟨26, _⟩ => ⟨S4096x512, .bf16⟩
  | .hbm, ⟨27, _⟩ => ⟨S4096x512, .f32⟩
  | .hbm, ⟨28, _⟩ => ⟨S4096x512, .bf16⟩
  | .hbm, ⟨29, _⟩ => ⟨S4096x512, .f32⟩
  | .hbm, ⟨30, _⟩ => ⟨S4096x512, .bf16⟩
  | .hbm, ⟨31, _⟩ => ⟨S4096x8, .f32⟩
  | .hbm, ⟨32, _⟩ => ⟨S_, .i32⟩
  | .hbm, ⟨33, _⟩ => ⟨S_, .f32⟩
  | .hbm, ⟨34, _⟩ => ⟨S4096x128, .f32⟩
  | .hbm, ⟨35, _⟩ => ⟨S4096x3072, .f32⟩
  | .hbm, ⟨36, _⟩ => ⟨S4096x3072, .bf16⟩
  | .hbm, ⟨37, _⟩ => ⟨S4096x3x1024, .bf16⟩
  | .hbm, ⟨38, _⟩ => ⟨S3x4096x1024, .bf16⟩
  | .hbm, ⟨39, _⟩ => ⟨S1024x512, .bf16⟩
  | .hbm, ⟨40, _⟩ => ⟨S1024x512, .bf16⟩
  | .hbm, ⟨41, _⟩ => ⟨S1024x512, .bf16⟩
  | .hbm, ⟨42, _⟩ => ⟨S1024x512, .bf16⟩
  | .hbm, ⟨43, _⟩ => ⟨S1024x512, .bf16⟩
  | .hbm, ⟨44, _⟩ => ⟨S1024x128, .bf16⟩
  | .hbm, ⟨45, _⟩ => ⟨S1024x8, .bf16⟩
  | .hbm, ⟨46, _⟩ => ⟨S1024x512, .bf16⟩
  | .hbm, ⟨47, _⟩ => ⟨S1024x512, .bf16⟩
  | .hbm, ⟨48, _⟩ => ⟨S1024x512, .bf16⟩
  | .hbm, ⟨49, _⟩ => ⟨S1024x1024, .bf16⟩
  | .hbm, ⟨50, _⟩ => ⟨S1024x1024, .bf16⟩
  | .hbm, ⟨51, _⟩ => ⟨S1024x1024, .bf16⟩
  | .hbm, ⟨52, _⟩ => ⟨S4096x8, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .bf16⟩
  | .local _ .vmem, ⟨7, _⟩ => ⟨S1024x1024, .bf16⟩
  | .local _ .vmem, ⟨8, _⟩ => ⟨S1024x128, .bf16⟩
  | .local _ .vmem, ⟨9, _⟩ => ⟨S1024x128, .f32⟩
  | .local _ .vmem, ⟨10, _⟩ => ⟨S1024x128, .f32⟩
  | .local _ .vmem, ⟨11, _⟩ => ⟨S1024x1024, .bf16⟩
  | .local _ .vmem, ⟨12, _⟩ => ⟨S1024x1024, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x1024, .bf16⟩
  | .local _ .vmem, ⟨18, _⟩ => ⟨S1024x1024, .bf16⟩
  | .local _ .vmem, ⟨19, _⟩ => ⟨S1024x512, .bf16⟩
  | .local _ .vmem, ⟨20, _⟩ => ⟨S1024x512, .bf16⟩
  | .local _ .vmem, ⟨21, _⟩ => ⟨S1024x512, .bf16⟩
  | .local _ .vmem, ⟨22, _⟩ => ⟨S1024x512, .bf16⟩
  | .local _ .vmem, ⟨23, _⟩ => ⟨S4096x1024, .bf16⟩
  | .local _ .vmem, ⟨24, _⟩ => ⟨S4096x512, .bf16⟩
  | .local _ .vmem, ⟨25, _⟩ => ⟨S1024x512, .bf16⟩
  | .local _ .vmem, ⟨26, _⟩ => ⟨S4096x1024, .bf16⟩
  | .local _ .vmem, ⟨27, _⟩ => ⟨S4096x512, .bf16⟩
  | .local _ .vmem, ⟨28, _⟩ => ⟨S1024x512, .bf16⟩
  | .local _ .vmem, ⟨29, _⟩ => ⟨S4096x1024, .bf16⟩
  | .local _ .vmem, ⟨30, _⟩ => ⟨S4096x512, .bf16⟩
  | .local _ .vmem, ⟨31, _⟩ => ⟨S1024x512, .bf16⟩
  | .local _ .vmem, ⟨32, _⟩ => ⟨S4096x1024, .bf16⟩
  | .local _ .vmem, ⟨33, _⟩ => ⟨S4096x512, .bf16⟩
  | .local _ .vmem, ⟨34, _⟩ => ⟨S1024x512, .bf16⟩
  | .local _ .vmem, ⟨35, _⟩ => ⟨S4096x1024, .bf16⟩
  | .local _ .vmem, ⟨36, _⟩ => ⟨S4096x512, .bf16⟩
  | .local _ .vmem, ⟨37, _⟩ => ⟨S1024x512, .bf16⟩
  | .local _ .vmem, ⟨38, _⟩ => ⟨S4096x1024, .bf16⟩
  | .local _ .vmem, ⟨39, _⟩ => ⟨S4096x128, .f32⟩
  | .local _ .vmem, ⟨40, _⟩ => ⟨S1024x128, .bf16⟩
  | .local _ .vmem, ⟨41, _⟩ => ⟨S4096x1024, .bf16⟩
  | .local _ .vmem, ⟨42, _⟩ => ⟨S4096x512, .bf16⟩
  | .local _ .vmem, ⟨43, _⟩ => ⟨S1024x512, .bf16⟩
  | .local _ .vmem, ⟨44, _⟩ => ⟨S4096x1024, .bf16⟩
  | .local _ .vmem, ⟨45, _⟩ => ⟨S4096x512, .bf16⟩
  | .local _ .vmem, ⟨46, _⟩ => ⟨S1024x512, .bf16⟩
  | .local _ .vmem, ⟨47, _⟩ => ⟨S4096x1024, .bf16⟩
  | .local _ .vmem, ⟨48, _⟩ => ⟨S4096x512, .bf16⟩
  | .local _ .vmem, ⟨49, _⟩ => ⟨S1024x512, .bf16⟩
  | .local _ .vmem, ⟨50, _⟩ => ⟨S4096x1024, .bf16⟩
  | .local _ .vmem, ⟨51, _⟩ => ⟨S1x4096x512, .bf16⟩
  | .local _ .vmem, ⟨52, _⟩ => ⟨S1x4096x512, .bf16⟩
  | .local _ .vmem, ⟨53, _⟩ => ⟨S1024x512, .bf16⟩
  | .local _ .vmem, ⟨54, _⟩ => ⟨S1024x512, .bf16⟩
  | .local _ .vmem, ⟨55, _⟩ => ⟨S4096x1024, .bf16⟩
  | .local _ .vmem, ⟨56, _⟩ => ⟨S1x4096x512, .bf16⟩
  | .local _ .vmem, ⟨57, _⟩ => ⟨S1x4096x512, .bf16⟩
  | .local _ .vmem, ⟨58, _⟩ => ⟨S1024x512, .bf16⟩
  | .local _ .vmem, ⟨59, _⟩ => ⟨S1024x512, .bf16⟩
  | .local _ .vmem, ⟨60, _⟩ => ⟨S4096x1024, .bf16⟩
  | .local _ .vmem, ⟨61, _⟩ => ⟨S1x4096x512, .bf16⟩
  | .local _ .vmem, ⟨62, _⟩ => ⟨S1x4096x512, .bf16⟩
  | .local _ .vmem, ⟨63, _⟩ => ⟨S1024x512, .bf16⟩
  | .local _ .vmem, ⟨64, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | _, _ => false

abbrev semScoped : Fin 0 → Bool
  | ⟨_, h⟩ => absurd h (Nat.not_lt_zero _)

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  ofTc nBuf bufTy 0 65 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_c_0 : Ref sig .tc := ⟨.hbm, 32, rfl⟩
abbrev main_call1_v0 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg1_0 : Ref sig .tc := ⟨.vmem, 24, rfl⟩
abbrev cc4_stg2_0 : Ref sig .tc := ⟨.vmem, 25, rfl⟩
abbrev cc5_stg0_0 : Ref sig .tc := ⟨.vmem, 26, rfl⟩
abbrev cc5_stg1_0 : Ref sig .tc := ⟨.vmem, 27, rfl⟩
abbrev cc5_stg2_0 : Ref sig .tc := ⟨.vmem, 28, rfl⟩
abbrev cc6_stg0_0 : Ref sig .tc := ⟨.vmem, 29, rfl⟩
abbrev cc6_stg1_0 : Ref sig .tc := ⟨.vmem, 30, rfl⟩
abbrev cc6_stg2_0 : Ref sig .tc := ⟨.vmem, 31, rfl⟩
abbrev cc7_stg0_0 : Ref sig .tc := ⟨.vmem, 32, rfl⟩
abbrev cc7_stg1_0 : Ref sig .tc := ⟨.vmem, 33, rfl⟩
abbrev cc7_stg2_0 : Ref sig .tc := ⟨.vmem, 34, rfl⟩
abbrev cc8_stg0_0 : Ref sig .tc := ⟨.vmem, 35, rfl⟩
abbrev cc8_stg1_0 : Ref sig .tc := ⟨.vmem, 36, rfl⟩
abbrev cc8_stg2_0 : Ref sig .tc := ⟨.vmem, 37, rfl⟩
abbrev cc9_stg0_0 : Ref sig .tc := ⟨.vmem, 38, rfl⟩
abbrev cc9_stg1_0 : Ref sig .tc := ⟨.vmem, 39, rfl⟩
abbrev cc9_stg2_0 : Ref sig .tc := ⟨.vmem, 40, rfl⟩
abbrev cc10_stg0_0 : Ref sig .tc := ⟨.vmem, 41, rfl⟩
abbrev cc10_stg1_0 : Ref sig .tc := ⟨.vmem, 42, rfl⟩
abbrev cc10_stg2_0 : Ref sig .tc := ⟨.vmem, 43, rfl⟩
abbrev cc11_stg0_0 : Ref sig .tc := ⟨.vmem, 44, rfl⟩
abbrev cc11_stg1_0 : Ref sig .tc := ⟨.vmem, 45, rfl⟩
abbrev cc11_stg2_0 : Ref sig .tc := ⟨.vmem, 46, rfl⟩
abbrev cc12_stg0_0 : Ref sig .tc := ⟨.vmem, 47, rfl⟩
abbrev cc12_stg1_0 : Ref sig .tc := ⟨.vmem, 48, rfl⟩
abbrev cc12_stg2_0 : Ref sig .tc := ⟨.vmem, 49, rfl⟩
abbrev cc13_stg0_0 : Ref sig .tc := ⟨.vmem, 50, rfl⟩
abbrev cc13_stg1_0 : Ref sig .tc := ⟨.vmem, 51, rfl⟩
abbrev cc13_stg1_1 : Ref sig .tc := ⟨.vmem, 52, rfl⟩
abbrev cc13_stg2_0 : Ref sig .tc := ⟨.vmem, 53, rfl⟩
abbrev cc13_stg2_1 : Ref sig .tc := ⟨.vmem, 54, rfl⟩
abbrev cc14_stg0_0 : Ref sig .tc := ⟨.vmem, 55, rfl⟩
abbrev cc14_stg1_0 : Ref sig .tc := ⟨.vmem, 56, rfl⟩
abbrev cc14_stg1_1 : Ref sig .tc := ⟨.vmem, 57, rfl⟩
abbrev cc14_stg2_0 : Ref sig .tc := ⟨.vmem, 58, rfl⟩
abbrev cc14_stg2_1 : Ref sig .tc := ⟨.vmem, 59, rfl⟩
abbrev cc15_stg0_0 : Ref sig .tc := ⟨.vmem, 60, rfl⟩
abbrev cc15_stg1_0 : Ref sig .tc := ⟨.vmem, 61, rfl⟩
abbrev cc15_stg1_1 : Ref sig .tc := ⟨.vmem, 62, rfl⟩
abbrev cc15_stg2_0 : Ref sig .tc := ⟨.vmem, 63, rfl⟩
abbrev cc15_stg2_1 : Ref sig .tc := ⟨.vmem, 64, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22
abbrev cc4_sem0_0 : DmaSem sig := 23
abbrev cc4_sem1_0 : DmaSem sig := 24
abbrev cc4_sem2_0 : DmaSem sig := 25
abbrev cc5_sem0_0 : DmaSem sig := 26
abbrev cc5_sem1_0 : DmaSem sig := 27
abbrev cc5_sem2_0 : DmaSem sig := 28
abbrev cc6_sem0_0 : DmaSem sig := 29
abbrev cc6_sem1_0 : DmaSem sig := 30
abbrev cc6_sem2_0 : DmaSem sig := 31
abbrev cc7_sem0_0 : DmaSem sig := 32
abbrev cc7_sem1_0 : DmaSem sig := 33
abbrev cc7_sem2_0 : DmaSem sig := 34
abbrev cc8_sem0_0 : DmaSem sig := 35
abbrev cc8_sem1_0 : DmaSem sig := 36
abbrev cc8_sem2_0 : DmaSem sig := 37
abbrev cc9_sem0_0 : DmaSem sig := 38
abbrev cc9_sem1_0 : DmaSem sig := 39
abbrev cc9_sem2_0 : DmaSem sig := 40
abbrev cc10_sem0_0 : DmaSem sig := 41
abbrev cc10_sem1_0 : DmaSem sig := 42
abbrev cc10_sem2_0 : DmaSem sig := 43
abbrev cc11_sem0_0 : DmaSem sig := 44
abbrev cc11_sem1_0 : DmaSem sig := 45
abbrev cc11_sem2_0 : DmaSem sig := 46
abbrev cc12_sem0_0 : DmaSem sig := 47
abbrev cc12_sem1_0 : DmaSem sig := 48
abbrev cc12_sem2_0 : DmaSem sig := 49
abbrev cc13_sem0_0 : DmaSem sig := 50
abbrev cc13_sem1_0 : DmaSem sig := 51
abbrev cc13_sem1_1 : DmaSem sig := 52
abbrev cc13_sem2_0 : DmaSem sig := 53
abbrev cc13_sem2_1 : DmaSem sig := 54
abbrev cc14_sem0_0 : DmaSem sig := 55
abbrev cc14_sem1_0 : DmaSem sig := 56
abbrev cc14_sem1_1 : DmaSem sig := 57
abbrev cc14_sem2_0 : DmaSem sig := 58
abbrev cc14_sem2_1 : DmaSem sig := 59
abbrev cc15_sem0_0 : DmaSem sig := 60
abbrev cc15_sem1_0 : DmaSem sig := 61
abbrev cc15_sem1_1 : DmaSem sig := 62
abbrev cc15_sem2_0 : DmaSem sig := 63
abbrev cc15_sem2_1 : DmaSem sig := 64

abbrev nD : Nat := 1
abbrev τ : Topo := Topo.v7x

variable {F : FTy → Type} [FloatOps F]

abbrev grid0 : Pipeline.Grid := ⟨2, ![4, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S1024x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![4, 3], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![4, 6], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1024x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![1, 1], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 1 → Memref sig .tc .vmem S4096x1024 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false]

abbrev stage4_1 : Fin 1 → Memref sig .tc .vmem S4096x512 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true]

abbrev stage4_2 : Fin 1 → Memref sig .tc .vmem S1024x512 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true, true]

abbrev grid5 : Pipeline.Grid := ⟨2, ![1, 1], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 1 → Memref sig .tc .vmem S4096x1024 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false]

abbrev stage5_1 : Fin 1 → Memref sig .tc .vmem S4096x512 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true]

abbrev stage5_2 : Fin 1 → Memref sig .tc .vmem S1024x512 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true, true]

abbrev grid6 : Pipeline.Grid := ⟨2, ![1, 1], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 1 → Memref sig .tc .vmem S4096x1024 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true, false]

abbrev stage6_1 : Fin 1 → Memref sig .tc .vmem S4096x512 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, true]

abbrev stage6_2 : Fin 1 → Memref sig .tc .vmem S1024x512 .bf16 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![true, true]

abbrev grid7 : Pipeline.Grid := ⟨2, ![1, 1], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage7_0 : Fin 1 → Memref sig .tc .vmem S4096x1024 .bf16 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true, false]

abbrev stage7_1 : Fin 1 → Memref sig .tc .vmem S4096x512 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, true]

abbrev stage7_2 : Fin 1 → Memref sig .tc .vmem S1024x512 .bf16 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![true, true]

abbrev grid8 : Pipeline.Grid := ⟨2, ![1, 1], ![false, false]⟩

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage8_0 : Fin 1 → Memref sig .tc .vmem S4096x1024 .bf16 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true, false]

abbrev stage8_1 : Fin 1 → Memref sig .tc .vmem S4096x512 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false, true]

abbrev stage8_2 : Fin 1 → Memref sig .tc .vmem S1024x512 .bf16 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![true, true]

abbrev grid9 : Pipeline.Grid := ⟨2, ![1, 1], ![false, false]⟩

def cc9_transform_0 (i : grid9.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage9_0 : Fin 1 → Memref sig .tc .vmem S4096x1024 .bf16 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![true, false]

abbrev stage9_1 : Fin 1 → Memref sig .tc .vmem S4096x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false, true]

abbrev stage9_2 : Fin 1 → Memref sig .tc .vmem S1024x128 .bf16 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![true, true]

abbrev grid10 : Pipeline.Grid := ⟨2, ![1, 1], ![false, false]⟩

def cc10_transform_0 (i : grid10.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc10_transform_1 (i : grid10.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc10_transform_2 (i : grid10.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage10_0 : Fin 1 → Memref sig .tc .vmem S4096x1024 .bf16 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![true, false]

abbrev stage10_1 : Fin 1 → Memref sig .tc .vmem S4096x512 .bf16 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false, true]

abbrev stage10_2 : Fin 1 → Memref sig .tc .vmem S1024x512 .bf16 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![true, true]

abbrev grid11 : Pipeline.Grid := ⟨2, ![1, 1], ![false, false]⟩

def cc11_transform_0 (i : grid11.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc11_transform_1 (i : grid11.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc11_transform_2 (i : grid11.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage11_0 : Fin 1 → Memref sig .tc .vmem S4096x1024 .bf16 := fun | 0 => Memref.whole cc11_stg0_0 | ⟨_ + 1, h⟩ => absurd h (Nat.not_lt.2 (Nat.le_add_left _ _))
abbrev sem11_0 : Fin 1 → DmaSem sig := fun | 0 => cc11_sem0_0 | ⟨_ + 1, h⟩ => absurd h (Nat.not_lt.2 (Nat.le_add_left _ _))
abbrev reads11_0 : Fin grid11.rank → Bool := ![true, false]

abbrev stage11_1 : Fin 1 → Memref sig .tc .vmem S4096x512 .bf16 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false, true]

abbrev stage11_2 : Fin 1 → Memref sig .tc .vmem S1024x512 .bf16 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![true, true]

abbrev grid12 : Pipeline.Grid := ⟨2, ![1, 1], ![false, false]⟩

def cc12_transform_0 (i : grid12.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc12_transform_1 (i : grid12.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc12_transform_2 (i : grid12.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage12_0 : Fin 1 → Memref sig .tc .vmem S4096x1024 .bf16 := fun | 0 => Memref.whole cc12_stg0_0 | ⟨_ + 1, h⟩ => absurd h (Nat.not_lt.2 (Nat.le_add_left _ _))
abbrev sem12_0 : Fin 1 → DmaSem sig := fun | 0 => cc12_sem0_0 | ⟨_ + 1, h⟩ => absurd h (Nat.not_lt.2 (Nat.le_add_left _ _))
abbrev reads12_0 : Fin grid12.rank → Bool := ![true, false]

abbrev stage12_1 : Fin 1 → Memref sig .tc .vmem S4096x512 .bf16 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false, true]

abbrev stage12_2 : Fin 1 → Memref sig .tc .vmem S1024x512 .bf16 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![true, true]

abbrev grid13 : Pipeline.Grid := ⟨2, ![1, 2], ![false, false]⟩

def cc13_transform_0 (i : grid13.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc13_transform_1 (i : grid13.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc13_transform_2 (i : grid13.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage13_0 : Fin 1 → Memref sig .tc .vmem S4096x1024 .bf16 := fun | 0 => Memref.whole cc13_stg0_0 | ⟨_ + 1, h⟩ => absurd h (Nat.not_lt.2 (Nat.le_add_left _ _))
abbrev sem13_0 : Fin 1 → DmaSem sig := fun | 0 => cc13_sem0_0 | ⟨_ + 1, h⟩ => absurd h (Nat.not_lt.2 (Nat.le_add_left _ _))
abbrev reads13_0 : Fin grid13.rank → Bool := ![true, false]

abbrev stage13_1 : Fin 2 → Memref sig .tc .vmem S1x4096x512 .bf16 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![false, true]

abbrev stage13_2 : Fin 2 → Memref sig .tc .vmem S1024x512 .bf16 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true, true]

abbrev grid14 : Pipeline.Grid := ⟨2, ![1, 2], ![false, false]⟩

def cc14_transform_0 (i : grid14.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc14_transform_1 (i : grid14.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let c0_i32_0 : BitVec 32 := 0#32
  let c0_i32_1 : BitVec 32 := 0#32
  ![c1_i32.toNat, c0_i32_0.toNat, v0.toNat]

def cc14_transform_2 (i : grid14.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage14_0 : Fin 1 → Memref sig .tc .vmem S4096x1024 .bf16 := fun | 0 => Memref.whole cc14_stg0_0 | ⟨_ + 1, h⟩ => absurd h (Nat.not_lt.2 (Nat.le_add_left _ _))
abbrev sem14_0 : Fin 1 → DmaSem sig := fun | 0 => cc14_sem0_0 | ⟨_ + 1, h⟩ => absurd h (Nat.not_lt.2 (Nat.le_add_left _ _))
abbrev reads14_0 : Fin grid14.rank → Bool := ![true, false]

abbrev stage14_1 : Fin 2 → Memref sig .tc .vmem S1x4096x512 .bf16 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![false, true]

abbrev stage14_2 : Fin 2 → Memref sig .tc .vmem S1024x512 .bf16 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true, true]

abbrev grid15 : Pipeline.Grid := ⟨2, ![1, 2], ![false, false]⟩

def cc15_transform_0 (i : grid15.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc15_transform_1 (i : grid15.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c2_i32 : BitVec 32 := 2#32
  let c0_i32_0 : BitVec 32 := 0#32
  let c0_i32_1 : BitVec 32 := 0#32
  ![c2_i32.toNat, c0_i32_0.toNat, v0.toNat]

def cc15_transform_2 (i : grid15.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage15_0 : Fin 1 → Memref sig .tc .vmem S4096x1024 .bf16 := fun | 0 => Memref.whole cc15_stg0_0 | ⟨_ + 1, h⟩ => absurd h (Nat.not_lt.2 (Nat.le_add_left _ _))
abbrev sem15_0 : Fin 1 → DmaSem sig := fun | 0 => cc15_sem0_0 | ⟨_ + 1, h⟩ => absurd h (Nat.not_lt.2 (Nat.le_add_left _ _))
abbrev reads15_0 : Fin grid15.rank → Bool := ![true, false]

abbrev stage15_1 : Fin 2 → Memref sig .tc .vmem S1x4096x512 .bf16 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![false, true]

abbrev stage15_2 : Fin 2 → Memref sig .tc .vmem S1024x512 .bf16 := fun | 0 => Memref.whole cc15_stg2_0 | 1 => Memref.whole cc15_stg2_1 | ⟨_ + 2, h⟩ => absurd h (Nat.not_lt.2 (Nat.le_add_left _ _))
abbrev sem15_2 : Fin 2 → DmaSem sig := fun | 0 => cc15_sem2_0 | 1 => cc15_sem2_1 | ⟨_ + 2, h⟩ => absurd h (Nat.not_lt.2 (Nat.le_add_left _ _))
abbrev reads15_2 : Fin grid15.rank → Bool := ![true, true]
-- ==== Reference4Ideal.lean ====
abbrev S4096x1024 : Shape := ⟨2, ![4096, 1024]⟩
abbrev S1024x7176 : Shape := ⟨2, ![1024, 7176]⟩
abbrev S4096x7176 : Shape := ⟨2, ![4096, 7176]⟩
abbrev S7176x1024 : Shape := ⟨2, ![7176, 1024]⟩
abbrev S4096x2560 : Shape := ⟨2, ![4096, 2560]⟩
abbrev S4096x8 : Shape := ⟨2, ![4096, 8]⟩
abbrev S4096x1536 : Shape := ⟨2, ![4096, 1536]⟩
abbrev S4096x3072 : Shape := ⟨2, ![4096, 3072]⟩
abbrev S1024x2560 : Shape := ⟨2, ![1024, 2560]⟩
abbrev S1024x8 : Shape := ⟨2, ![1024, 8]⟩
abbrev S1024x1536 : Shape := ⟨2, ![1024, 1536]⟩
abbrev S1024x3072 : Shape := ⟨2, ![1024, 3072]⟩
abbrev S1024x512 : Shape := ⟨2, ![1024, 512]⟩
abbrev S1024x1024 : Shape := ⟨2, ![1024, 1024]⟩

abbrev nBuf : Space → Nat
  | .hbm => 30
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x7176, .f32⟩
  | .hbm, ⟨2, _⟩ => ⟨S4096x7176, .f32⟩
  | .hbm, ⟨3, _⟩ => ⟨S4096x1024, .f32⟩
  | .hbm, ⟨4, _⟩ => ⟨S4096x7176, .f32⟩
  | .hbm, ⟨5, _⟩ => ⟨S7176x1024, .f32⟩
  | .hbm, ⟨6, _⟩ => ⟨S1024x7176, .f32⟩
  | .hbm, ⟨7, _⟩ => ⟨S4096x2560, .f32⟩
  | .hbm, ⟨8, _⟩ => ⟨S4096x8, .f32⟩
  | .hbm, ⟨9, _⟩ => ⟨S4096x1536, .f32⟩
  | .hbm, ⟨10, _⟩ => ⟨S4096x3072, .f32⟩
  | .hbm, ⟨11, _⟩ => ⟨S1024x7176, .bf16⟩
  | .hbm, ⟨12, _⟩ => ⟨S1024x2560, .bf16⟩
  | .hbm, ⟨13, _⟩ => ⟨S1024x8, .bf16⟩
  | .hbm, ⟨14, _⟩ => ⟨S1024x1536, .bf16⟩
  | .hbm, ⟨15, _⟩ => ⟨S1024x3072, .bf16⟩
  | .hbm, ⟨16, _⟩ => ⟨S4096x2560, .bf16⟩
  | .hbm, ⟨17, _⟩ => ⟨S4096x1536, .bf16⟩
  | .hbm, ⟨18, _⟩ => ⟨S4096x3072, .bf16⟩
  | .hbm, ⟨19, _⟩ => ⟨S1024x512, .bf16⟩
  | .hbm, ⟨20, _⟩ => ⟨S1024x512, .bf16⟩
  | .hbm, ⟨21, _⟩ => ⟨S1024x512, .bf16⟩
  | .hbm, ⟨22, _⟩ => ⟨S1024x512, .bf16⟩
  | .hbm, ⟨23, _⟩ => ⟨S1024x512, .bf16⟩
  | .hbm, ⟨24, _⟩ => ⟨S1024x512, .bf16⟩
  | .hbm, ⟨25, _⟩ => ⟨S1024x512, .bf16⟩
  | .hbm, ⟨26, _⟩ => ⟨S1024x512, .bf16⟩
  | .hbm, ⟨27, _⟩ => ⟨S1024x1024, .bf16⟩
  | .hbm, ⟨28, _⟩ => ⟨S1024x1024, .bf16⟩
  | .hbm, ⟨29, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩

abbrev nD : Nat := 1
abbrev τ : Topo := Topo.v7x

variable {F : FTy → Type} [FloatOps F]
-- ==== Kernel5.lean ====
abbrev S1024x7176 : Shape := ⟨2, ![1024, 7176]⟩
abbrev S4096x7176 : Shape := ⟨2, ![4096, 7176]⟩
abbrev S1024x2560 : Shape := ⟨2, ![1024, 2560]⟩
abbrev S1024x1536 : Shape := ⟨2, ![1024, 1536]⟩
abbrev S1024x3072 : Shape := ⟨2, ![1024, 3072]⟩
abbrev S1024x8 : Shape := ⟨2, ![1024, 8]⟩
abbrev S_ : Shape := ⟨0, ![]⟩
abbrev S1024x128 : Shape := ⟨2, ![1024, 128]⟩
abbrev S4096x512 : Shape := ⟨2, ![4096, 512]⟩
abbrev S4096x8 : Shape := ⟨2, ![4096, 8]⟩
abbrev S4096x128 : Shape := ⟨2, ![4096, 128]⟩
abbrev S4096x3072 : Shape := ⟨2, ![4096, 3072]⟩
abbrev S4096x3x1024 : Shape := ⟨3, ![4096, 3, 1024]⟩
abbrev S3x4096x1024 : Shape := ⟨3, ![3, 4096, 1024]⟩
abbrev S4096x1024 : Shape := ⟨2, ![4096, 1024]⟩
abbrev S512x512 : Shape := ⟨2, ![512, 512]⟩
abbrev S512x128 : Shape := ⟨2, ![512, 128]⟩
abbrev S1x512x1024 : Shape := ⟨3, ![1, 512, 1024]⟩
abbrev S512x1024 : Shape := ⟨2, ![512, 1024]⟩

abbrev nBuf : Space → Nat
  | .hbm => 35
  | .vmem => 50
  | .smem => 0
  | _ => 0

abbrev bufTy : (tb : Table) → Fin (tcTables nBuf tb) → BufTy
  | .hbm, ⟨0, _⟩ => ⟨S1024x7176, .f32⟩
  | .hbm, ⟨1, _⟩ => ⟨S4096x7176, .f32⟩
  | .hbm, ⟨2, _⟩ => ⟨S1024x7176, .bf16⟩
  | .hbm, ⟨3, _⟩ => ⟨S1024x2560, .bf16⟩
  | .hbm, ⟨4, _⟩ => ⟨S1024x1536, .bf16⟩
  | .hbm, ⟨5, _⟩ => ⟨S1024x3072, .bf16⟩
  | .hbm, ⟨6, _⟩ => ⟨S1024x8, .bf16⟩
  | .hbm, ⟨7, _⟩ => ⟨S_, .i32⟩
  | .hbm, ⟨8, _⟩ => ⟨S_, .bf16⟩
  | .hbm, ⟨9, _⟩ => ⟨S1024x128, .bf16⟩
  | .hbm, ⟨10, _⟩ => ⟨S4096x512, .f32⟩
  | .hbm, ⟨11, _⟩ => ⟨S4096x512, .bf16⟩
  | .hbm, ⟨12, _⟩ => ⟨S4096x512, .f32⟩
  | .hbm, ⟨13, _⟩ => ⟨S4096x512, .bf16⟩
  | .hbm, ⟨14, _⟩ => ⟨S4096x512, .f32⟩
  | .hbm, ⟨15, _⟩ => ⟨S4096x512, .bf16⟩
  | .hbm, ⟨16, _⟩ => ⟨S4096x512, .f32⟩
  | .hbm, ⟨17, _⟩ => ⟨S4096x512, .bf16⟩
  | .hbm, ⟨18, _⟩ => ⟨S4096x512, .f32⟩
  | .hbm, ⟨19, _⟩ => ⟨S4096x512, .bf16⟩
  | .hbm, ⟨20, _⟩ => ⟨S4096x512, .f32⟩
  | .hbm, ⟨21, _⟩ => ⟨S4096x512, .bf16⟩
  | .hbm, ⟨22, _⟩ => ⟨S4096x512, .f32⟩
  | .hbm, ⟨23, _⟩ => ⟨S4096x512, .bf16⟩
  | .hbm, ⟨24, _⟩ => ⟨S4096x512, .f32⟩
  | .hbm, ⟨25, _⟩ => ⟨S4096x512, .bf16⟩
  | .hbm, ⟨26, _⟩ => ⟨S4096x8, .f32⟩
  | .hbm, ⟨27, _⟩ => ⟨S_, .i32⟩
  | .hbm, ⟨28, _⟩ => ⟨S_, .f32⟩
  | .hbm, ⟨29, _⟩ => ⟨S4096x128, .f32⟩
  | .hbm, ⟨30, _⟩ => ⟨S4096x3072, .f32⟩
  | .hbm, ⟨31, _⟩ => ⟨S4096x3072, .bf16⟩
  | .hbm, ⟨32, _⟩ => ⟨S4096x3x1024, .bf16⟩
  | .hbm, ⟨33, _⟩ => ⟨S3x4096x1024, .bf16⟩
  | .hbm, ⟨34, _⟩ => ⟨S4096x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x128, .f32⟩
  | .local _ .vmem, ⟨21, _⟩ => ⟨S512x128, .f32⟩
  | .local _ .vmem, ⟨22, _⟩ => ⟨S512x128, .bf16⟩
  | .local _ .vmem, ⟨23, _⟩ => ⟨S512x128, .bf16⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | .local _ .vmem, ⟨29, _⟩ => ⟨S512x512, .bf16⟩
  | .local _ .vmem, ⟨30, _⟩ => ⟨S512x512, .bf16⟩
  | .local _ .vmem, ⟨31, _⟩ => ⟨S512x512, .bf16⟩
  | .local _ .vmem, ⟨32, _⟩ => ⟨S512x512, .bf16⟩
  | .local _ .vmem, ⟨33, _⟩ => ⟨S512x512, .bf16⟩
  | .local _ .vmem, ⟨34, _⟩ => ⟨S512x512, .bf16⟩
  | .local _ .vmem, ⟨35, _⟩ => ⟨S512x512, .bf16⟩
  | .local _ .vmem, ⟨36, _⟩ => ⟨S1x512x1024, .bf16⟩
  | .local _ .vmem, ⟨37, _⟩ => ⟨S1x512x1024, .bf16⟩
  | .local _ .vmem, ⟨38, _⟩ => ⟨S512x1024, .bf16⟩
  | .local _ .vmem, ⟨39, _⟩ => ⟨S512x1024, .bf16⟩
  | .local _ .vmem, ⟨40, _⟩ => ⟨S1x512x1024, .bf16⟩
  | .local _ .vmem, ⟨41, _⟩ => ⟨S1x512x1024, .bf16⟩
  | .local _ .vmem, ⟨42, _⟩ => ⟨S512x1024, .bf16⟩
  | .local _ .vmem, ⟨43, _⟩ => ⟨S512x1024, .bf16⟩
  | .local _ .vmem, ⟨44, _⟩ => ⟨S1x512x1024, .bf16⟩
  | .local _ .vmem, ⟨45, _⟩ => ⟨S1x512x1024, .bf16⟩
  | .local _ .vmem, ⟨46, _⟩ => ⟨S512x1024, .bf16⟩
  | .local _ .vmem, ⟨47, _⟩ => ⟨S512x1024, .bf16⟩
  | .local _ .vmem, ⟨48, _⟩ => ⟨S512x512, .f32⟩
  | .local _ .vmem, ⟨49, _⟩ => ⟨S512x512, .f32⟩
  | _, _ => ⟨S1024x7176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_c_0 : Ref sig .tc := ⟨.hbm, 27, rfl⟩
abbrev main_call1_v0 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_stg24_0 : Ref sig .tc := ⟨.vmem, 48, rfl⟩
abbrev cc0_stg24_1 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47
abbrev cc0_sem24_0 : DmaSem sig := 48
abbrev cc0_sem24_1 : DmaSem sig := 49

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let c0_i32_0 : BitVec 32 := 0#32
  ![v0.toNat, c1_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c2_i32 : BitVec 32 := 2#32
  let c0_i32_0 : BitVec 32 := 0#32
  ![v0.toNat, c2_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c3_i32 : BitVec 32 := 3#32
  let c0_i32_0 : BitVec 32 := 0#32
  ![v0.toNat, c3_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c4_i32 : BitVec 32 := 4#32
  let c0_i32_0 : BitVec 32 := 0#32
  ![v0.toNat, c4_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let c0_i32_0 : BitVec 32 := 0#32
  ![v0.toNat, c1_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c2_i32 : BitVec 32 := 2#32
  let c0_i32_0 : BitVec 32 := 0#32
  ![v0.toNat, c2_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c1_i32 : BitVec 32 := 1#32
  let c0_i32_0 : BitVec 32 := 0#32
  let c0_i32_1 : BitVec 32 := 0#32
  ![c1_i32.toNat, v0.toNat, c0_i32_0.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let c0_i32_0 : BitVec 32 := 0#32
  ![v0.toNat, c1_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c2_i32 : BitVec 32 := 2#32
  let c0_i32_0 : BitVec 32 := 0#32
  let c0_i32_1 : BitVec 32 := 0#32
  ![c2_i32.toNat, v0.toNat, c0_i32_0.toNat]

def cc0_transform_23 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c2_i32 : BitVec 32 := 2#32
  let c0_i32_0 : BitVec 32 := 0#32
  ![v0.toNat, c2_i32.toNat]

def cc0_transform_24 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![false, true]

abbrev stage0_18 : Fin 2 → Memref sig .tc .vmem S1x512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

abbrev stage0_19 : Fin 2 → Memref sig .tc .vmem S512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![false, true]

abbrev stage0_20 : Fin 2 → Memref sig .tc .vmem S1x512x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, false]

abbrev stage0_21 : Fin 2 → Memref sig .tc .vmem S512x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![false, true]

abbrev stage0_22 : Fin 2 → Memref sig .tc .vmem S1x512x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, false]

abbrev stage0_23 : Fin 2 → Memref sig .tc .vmem S512x1024 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![false, true]

abbrev stage0_24 : Fin 2 → Memref sig .tc .vmem S512x512 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]
-- ==== Reference5Ideal.lean ====
abbrev S1024x7176 : Shape := ⟨2, ![1024, 7176]⟩
abbrev S4096x7176 : Shape := ⟨2, ![4096, 7176]⟩
abbrev S4096x1024 : Shape := ⟨2, ![4096, 1024]⟩

abbrev nBuf : Space → Nat
  | .hbm => 3
  | .vmem => 0
  | .smem => 0
  | _ => 0

abbrev bufTy : (tb : Table) → Fin (tcTables nBuf tb) → BufTy
  | .hbm, ⟨0, _⟩ => ⟨S1024x7176, .f32⟩
  | .hbm, ⟨1, _⟩ => ⟨S4096x7176, .f32⟩
  | .hbm, ⟨2, _⟩ => ⟨S4096x1024, .f32⟩
  | _, _ => ⟨S1024x7176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Trip.lean ====
/-
  The kernel's outer loop: one trip over a tile of 1024 queries, run once at a symbolic trip. The inner loops (the
  groups of keys before the tile) go by their generated invariants. What a trip leaves in the three buffers it
  writes — the query gradient's window and the two accumulators — is what the run finds.
-/
module

public import proofs.«01_k».proof.Proof.Gen.KernelIdeal.Loops
public import proofs.«01_k».proof.Proof.Gen.KernelIdeal.Frame
public import Idealize.ShloMosaic.Lib.Tactic

@[expose] public section

set_option maxRecDepth 16384

noncomputable section

namespace Cert.Proof.SB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev 𝒱₀ : Variants := Variants.none

section
variable (c : Dev nD) (i : grid0.Coords)
  (arg2 : Memref sig .tc .vmem S1x2048x128 .bf16) (harg2 : arg2.IsWhole) (arg3 : Memref sig .tc .vmem S1x2048x128 .bf16) (harg3 : arg3.IsWhole)
  (arg4 : Memref sig .tc .vmem S1x2048x128 .bf16) (harg4 : arg4.IsWhole) (arg5 : Memref sig .tc .vmem S1x2048x128 .bf16) (harg5 : arg5.IsWhole)
  (arg6 : Memref sig .tc .vmem S1x1x2048x128 .f32) (harg6 : arg6.IsWhole) (arg7 : Memref sig .tc .vmem S1x2048x128 .bf16) (harg7 : arg7.IsWhole)
  (arg8 : Memref sig .tc .vmem S1x2048x128 .bf16) (harg8 : arg8.IsWhole) (arg9 : Memref sig .tc .vmem S1x2048x128 .bf16) (harg9 : arg9.IsWhole)
  (arg10 : Memref sig .tc .vmem S2048x128 .f32) (harg10 : arg10.IsWhole) (arg11 : Memref sig .tc .vmem S2048x128 .f32) (harg11 : arg11.IsWhole)
  (v2 : IVec S1024x128 32) (v3 : IVec S1024x128 32)
  (X2 : BufTy.Contents (Elt F) arg2.view.ty) (X3 : BufTy.Contents (Elt F) arg3.view.ty) (X4 : BufTy.Contents (Elt F) arg4.view.ty)
  (X5 : BufTy.Contents (Elt F) arg5.view.ty) (X6 : BufTy.Contents (Elt F) arg6.view.ty)

/-- What a trip of the outer loop holds: the five inputs' blocks at their contents, the three buffers it writes at any. -/
abbrev Trip (f7 : BufTy.Contents (Elt F) arg7.view.ty) (f10 : BufTy.Contents (Elt F) arg10.view.ty) (f11 : BufTy.Contents (Elt F) arg11.view.ty) : sProp 𝕄 :=
  iprop((arg2.view.loc (c : Thread nD τ) ↦[arg2.view.set]{fullShare} X2) ∗ (arg3.view.loc (c : Thread nD τ) ↦[arg3.view.set]{fullShare} X3)
    ∗ (arg4.view.loc (c : Thread nD τ) ↦[arg4.view.set]{fullShare} X4) ∗ (arg5.view.loc (c : Thread nD τ) ↦[arg5.view.set]{fullShare} X5)
    ∗ (arg6.view.loc (c : Thread nD τ) ↦[arg6.view.set]{fullShare} X6) ∗ (arg7.view.loc (c : Thread nD τ) ↦[arg7.view.set]{fullShare} f7)
    ∗ (arg10.view.loc (c : Thread nD τ) ↦[arg10.view.set]{fullShare} f10) ∗ (arg11.view.loc (c : Thread nD τ) ↦[arg11.view.set]{fullShare} f11))

/-- One trip of the outer loop: what it writes into the three buffers, as functions of what it finds there, with the
    proof that the trip runs and leaves them so. -/
@[irreducible] def trip (k : Fin k0_t1_loop.trips) :
    Σ' (L7 : BufTy.Contents (Elt F) arg10.view.ty → BufTy.Contents (Elt F) arg11.view.ty → List (View.Piece (Elt F) S1x2048x128 .bf16))
      (L10 : BufTy.Contents (Elt F) arg10.view.ty → BufTy.Contents (Elt F) arg11.view.ty → List (View.Piece (Elt F) S2048x128 .f32)),
      { L11 : BufTy.Contents (Elt F) arg10.view.ty → BufTy.Contents (Elt F) arg11.view.ty → List (View.Piece (Elt F) S2048x128 .f32) //
        ∀ (E : Set ℕ) (f7 : BufTy.Contents (Elt F) arg7.view.ty) (f10 : BufTy.Contents (Elt F) arg10.view.ty) (f11 : BufTy.Contents (Elt F) arg11.view.ty),
          Trip (F := F) c arg2 arg3 arg4 arg5 arg6 arg7 arg10 arg11 X2 X3 X4 X5 X6 f7 f10 f11
          ⊢ wp frame (wpE (defs₀ (F := F)) 𝒱₀ (c : Thread nD τ) none) E
              (k0_t1_body (F := F) i arg2 harg2 arg3 harg3 arg4 harg4 arg5 harg5 arg6 harg6 arg7 harg7 arg8 harg8 arg9 harg9 arg10 harg10 arg11 harg11 v2 v3 k ⟨⟩)
              (fun _ => Trip (F := F) c arg2 arg3 arg4 arg5 arg6 arg7 arg10 arg11 X2 X3 X4 X5 X6 (arg7.view.writes (Elt F) f7 (L7 f10 f11))
                (arg10.view.writes (Elt F) f10 (L10 f10 f11)) (arg11.view.writes (Elt F) f11 (L11 f10 f11))) } := by
  refine ⟨?_, ?_, ?_, fun E f7 f10 f11 => ?run⟩
  case run =>
    unfold k0_t1_body
    iintro ⟨H2, H3, H4, H5, H6, H7, H10, H11⟩
    sl_exec
    sl_step
    sl_close

end

end Cert.Proof.SB

end
-- ==== Proof.Body.lean ====
/-
  The kernel's body on any staging memrefs: the outer loop by its invariant (the pieces the trips before have
  written), then the whole body's run. What the body leaves in the three results' staging buffers is what the run finds.
-/
module

public import proofs.«01_k».proof.Proof.Trip

@[expose] public section

set_option maxRecDepth 16384

noncomputable section

namespace Cert.Proof.SB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section
variable (c : Dev nD) (i : grid0.Coords)
  (arg2 : Memref sig .tc .vmem S1x2048x128 .bf16) (harg2 : arg2.IsWhole) (arg3 : Memref sig .tc .vmem S1x2048x128 .bf16) (harg3 : arg3.IsWhole)
  (arg4 : Memref sig .tc .vmem S1x2048x128 .bf16) (harg4 : arg4.IsWhole) (arg5 : Memref sig .tc .vmem S1x2048x128 .bf16) (harg5 : arg5.IsWhole)
  (arg6 : Memref sig .tc .vmem S1x1x2048x128 .f32) (harg6 : arg6.IsWhole) (arg7 : Memref sig .tc .vmem S1x2048x128 .bf16) (harg7 : arg7.IsWhole)
  (arg8 : Memref sig .tc .vmem S1x2048x128 .bf16) (harg8 : arg8.IsWhole) (arg9 : Memref sig .tc .vmem S1x2048x128 .bf16) (harg9 : arg9.IsWhole)
  (arg10 : Memref sig .tc .vmem S2048x128 .f32) (harg10 : arg10.IsWhole) (arg11 : Memref sig .tc .vmem S2048x128 .f32) (harg11 : arg11.IsWhole)
  (v2 : IVec S1024x128 32) (v3 : IVec S1024x128 32)
  (X2 : BufTy.Contents (Elt F) arg2.view.ty) (X3 : BufTy.Contents (Elt F) arg3.view.ty) (X4 : BufTy.Contents (Elt F) arg4.view.ty)
  (X5 : BufTy.Contents (Elt F) arg5.view.ty) (X6 : BufTy.Contents (Elt F) arg6.view.ty)
  (G10 : BufTy.Contents (Elt F) arg10.view.ty) (G11 : BufTy.Contents (Elt F) arg11.view.ty)

/-- The pieces the trips before trip `k` have written into the query gradient's window and the two accumulators, last
    first, from accumulators at `G10`, `G11`. -/
def pieces : ℕ → List (View.Piece (Elt F) S1x2048x128 .bf16) × List (View.Piece (Elt F) S2048x128 .f32) × List (View.Piece (Elt F) S2048x128 .f32)
  | 0 => ([], [], [])
  | k + 1 =>
    if h : k < k0_t1_loop.trips then
      let p := pieces k
      let t := trip (F := F) c i arg2 harg2 arg3 harg3 arg4 harg4 arg5 harg5 arg6 harg6 arg7 harg7 arg8 harg8 arg9 harg9 arg10 harg10 arg11 harg11 v2 v3 X2 X3 X4 X5 X6 ⟨k, h⟩
      let f10 := arg10.view.writes (Elt F) G10 p.2.1
      let f11 := arg11.view.writes (Elt F) G11 p.2.2
      (t.1 f10 f11 ++ p.1, t.2.1 f10 f11 ++ p.2.1, t.2.2.1 f10 f11 ++ p.2.2)
    else pieces k

theorem pieces_succ (k : Fin k0_t1_loop.trips) :
    pieces (F := F) c i arg2 harg2 arg3 harg3 arg4 harg4 arg5 harg5 arg6 harg6 arg7 harg7 arg8 harg8 arg9 harg9 arg10 harg10 arg11 harg11 v2 v3 X2 X3 X4 X5 X6 G10 G11 (k.val + 1)
      = (let p := pieces (F := F) c i arg2 harg2 arg3 harg3 arg4 harg4 arg5 harg5 arg6 harg6 arg7 harg7 arg8 harg8 arg9 harg9 arg10 harg10 arg11 harg11 v2 v3 X2 X3 X4 X5 X6 G10 G11 k.val
         let t := trip (F := F) c i arg2 harg2 arg3 harg3 arg4 harg4 arg5 harg5 arg6 harg6 arg7 harg7 arg8 harg8 arg9 harg9 arg10 harg10 arg11 harg11 v2 v3 X2 X3 X4 X5 X6 k
         let f10 := arg10.view.writes (Elt F) G10 p.2.1
         let f11 := arg11.view.writes (Elt F) G11 p.2.2
         (t.1 f10 f11 ++ p.1, t.2.1 f10 f11 ++ p.2.1, t.2.2.1 f10 f11 ++ p.2.2)) := by
  rw [pieces]; exact dif_pos k.isLt

variable (G7 : BufTy.Contents (Elt F) arg7.view.ty)

/-- Before trip `k`: the inputs' blocks as they were, the three buffers written with the pieces of the trips before. -/
abbrev inv (k : ℕ) (_ : Unit) : sProp 𝕄 :=
  iprop((arg2.view.loc (c : Thread nD τ) ↦[arg2.view.set]{fullShare} X2) ∗ (arg3.view.loc (c : Thread nD τ) ↦[arg3.view.set]{fullShare} X3)
    ∗ (arg4.view.loc (c : Thread nD τ) ↦[arg4.view.set]{fullShare} X4) ∗ (arg5.view.loc (c : Thread nD τ) ↦[arg5.view.set]{fullShare} X5)
    ∗ (arg6.view.loc (c : Thread nD τ) ↦[arg6.view.set]{fullShare} X6)
    ∗ (∃ f, (arg7.view.loc (c : Thread nD τ) ↦[arg7.view.set]{fullShare} f) ∗ ⌜f = arg7.view.writes (Elt F) G7 (pieces (F := F) c i arg2 harg2 arg3 harg3 arg4 harg4 arg5 harg5 arg6 harg6 arg7 harg7 arg8 harg8 arg9 harg9 arg10 harg10 arg11 harg11 v2 v3 X2 X3 X4 X5 X6 G10 G11 k).1⌝)
    ∗ (∃ f, (arg10.view.loc (c : Thread nD τ) ↦[arg10.view.set]{fullShare} f) ∗ ⌜f = arg10.view.writes (Elt F) G10 (pieces (F := F) c i arg2 harg2 arg3 harg3 arg4 harg4 arg5 harg5 arg6 harg6 arg7 harg7 arg8 harg8 arg9 harg9 arg10 harg10 arg11 harg11 v2 v3 X2 X3 X4 X5 X6 G10 G11 k).2.1⌝)
    ∗ (∃ f, (arg11.view.loc (c : Thread nD τ) ↦[arg11.view.set]{fullShare} f) ∗ ⌜f = arg11.view.writes (Elt F) G11 (pieces (F := F) c i arg2 harg2 arg3 harg3 arg4 harg4 arg5 harg5 arg6 harg6 arg7 harg7 arg8 harg8 arg9 harg9 arg10 harg10 arg11 harg11 v2 v3 X2 X3 X4 X5 X6 G10 G11 k).2.2⌝))

set_option warn.classDefReducibility false in
/-- The outer loop by that invariant: one trip is `trip`'s run. -/
@[sl_loop] def loopInv (E : Set ℕ) :
    LoopInvTy_k0_t1 (F := F) Unit ℕ (UR sig nD τ) ℕ 𝒱₀ c none E i arg2 harg2 arg3 harg3 arg4 harg4 arg5 harg5 arg6 harg6 arg7 harg7 arg8 harg8 arg9 harg9 arg10 harg10 arg11 harg11 v2 v3 where
  inv := inv (F := F) c i arg2 harg2 arg3 harg3 arg4 harg4 arg5 harg5 arg6 harg6 arg7 harg7 arg8 harg8 arg9 harg9 arg10 harg10 arg11 harg11 v2 v3 X2 X3 X4 X5 X6 G10 G11 G7
  step k acc := by
    iintro ⟨H2, H3, H4, H5, H6, ⟨%f7, H7, %h7⟩, ⟨%f10, H10, %h10⟩, ⟨%f11, H11, %h11⟩⟩
    iapply (wp_wand_r Idealize.ShloMosaic.frame (wpE (defs₀ (F := F)) 𝒱₀ (c : Thread nD τ) none) E)
    isplitl [H2 H3 H4 H5 H6 H7 H10 H11]
    · iapply ((trip (F := F) c i arg2 harg2 arg3 harg3 arg4 harg4 arg5 harg5 arg6 harg6 arg7 harg7 arg8 harg8 arg9 harg9 arg10 harg10 arg11 harg11 v2 v3 X2 X3 X4 X5 X6 k).2.2.2 E f7 f10 f11)
      isplitl [H2]; · iexact H2
      isplitl [H3]; · iexact H3
      isplitl [H4]; · iexact H4
      isplitl [H5]; · iexact H5
      isplitl [H6]; · iexact H6
      isplitl [H7]; · iexact H7
      isplitl [H10]; · iexact H10
      iexact H11
    · iintro %yld ⟨H2, H3, H4, H5, H6, H7, H10, H11⟩
      isplitl [H2]; · iexact H2
      isplitl [H3]; · iexact H3
      isplitl [H4]; · iexact H4
      isplitl [H5]; · iexact H5
      isplitl [H6]; · iexact H6
      simp only [pieces_succ]
      isplitl [H7]
      · iexists _; isplitl [H7]; · iexact H7
        ipureintro; rw [h7, h10, h11, ← View.writes_append]
      isplitl [H10]
      · iexists _; isplitl [H10]; · iexact H10
        ipureintro; rw [h10, h11, ← View.writes_append]
      iexists _; isplitl [H11]; · iexact H11
      ipureintro; rw [h10, h11, ← View.writes_append]

end

/-- What the body leaves in the three results' staging memrefs, with the proof that on whole staging memrefs, the five
    inputs' blocks at `x2 … x6` and the results' and the accumulators' at anything, the body runs and leaves them so. -/
def kernelRun (c : Dev nD) (i : grid0.Coords)
    (arg2 : Memref sig .tc .vmem S1x2048x128 .bf16) (harg2 : arg2.IsWhole) (arg3 : Memref sig .tc .vmem S1x2048x128 .bf16) (harg3 : arg3.IsWhole)
    (arg4 : Memref sig .tc .vmem S1x2048x128 .bf16) (harg4 : arg4.IsWhole) (arg5 : Memref sig .tc .vmem S1x2048x128 .bf16) (harg5 : arg5.IsWhole)
    (arg6 : Memref sig .tc .vmem S1x1x2048x128 .f32) (harg6 : arg6.IsWhole) (arg7 : Memref sig .tc .vmem S1x2048x128 .bf16) (harg7 : arg7.IsWhole)
    (arg8 : Memref sig .tc .vmem S1x2048x128 .bf16) (harg8 : arg8.IsWhole) (arg9 : Memref sig .tc .vmem S1x2048x128 .bf16) (harg9 : arg9.IsWhole)
    (arg10 : Memref sig .tc .vmem S2048x128 .f32) (harg10 : arg10.IsWhole) (arg11 : Memref sig .tc .vmem S2048x128 .f32) (harg11 : arg11.IsWhole)
    (x2 x3 x4 x5 : Vec F S1x2048x128 .bf16) (x6 : Vec F S1x1x2048x128 .f32) :
    Σ' (L7 : List (View.Piece (Elt F) S1x2048x128 .bf16)) (Y8 : Vec F S1x2048x128 .bf16), { Y9 : Vec F S1x2048x128 .bf16 //
      ∀ (E : Set ℕ) (K : PUnit → sProp 𝕄) (f7 : BufTy.Contents (Elt F) arg7.view.ty),
        iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6
            ∗ (arg7.view.loc (c : Thread nD τ) ↦[arg7.view.set]{fullShare} f7)
            ∗ (∃ d, owns (c : Thread nD τ) arg8 fullShare d) ∗ (∃ d, owns (c : Thread nD τ) arg9 fullShare d)
            ∗ (∃ f, arg10.view.loc (c : Thread nD τ) ↦[arg10.view.set]{fullShare} f) ∗ (∃ f, arg11.view.loc (c : Thread nD τ) ↦[arg11.view.set]{fullShare} f)
            ∗ (iprop(owns (c : Thread nD τ) arg2 fullShare x2 ∗ owns (c : Thread nD τ) arg3 fullShare x3 ∗ owns (c : Thread nD τ) arg4 fullShare x4
                ∗ owns (c : Thread nD τ) arg5 fullShare x5 ∗ owns (c : Thread nD τ) arg6 fullShare x6
                ∗ (arg7.view.loc (c : Thread nD τ) ↦[arg7.view.set]{fullShare} arg7.view.writes (Elt F) f7 L7)
                ∗ owns (c : Thread nD τ) arg8 fullShare Y8 ∗ owns (c : Thread nD τ) arg9 fullShare Y9
                ∗ (∃ f, arg10.view.loc (c : Thread nD τ) ↦[arg10.view.set]{fullShare} f) ∗ (∃ f, arg11.view.loc (c : Thread nD τ) ↦[arg11.view.set]{fullShare} f)) -∗ K ⟨⟩))
          ⊢ wp frame (wpE (defs₀ (F := F)) 𝒱₀ (c : Thread nD τ) none) E
              (cc0_sb_bwd (F := F) i arg2 harg2 arg3 harg3 arg4 harg4 arg5 harg5 arg6 harg6 arg7 harg7 arg8 harg8 arg9 harg9 arg10 harg10 arg11 harg11) K } := by
  refine ⟨?_, ?_, ?_, fun E K f7 => ?run⟩
  case run =>
    unfold owns
    iintro ⟨⟨%f2, %hf2, H2⟩, ⟨%f3, %hf3, H3⟩, ⟨%f4, %hf4, H4⟩, ⟨%f5, %hf5, H5⟩, ⟨%f6, %hf6, H6⟩, H7, ⟨%d8, %f8, -, H8⟩, ⟨%d9, %f9, -, H9⟩, ⟨%f10, H10⟩, ⟨%f11, H11⟩, Hk⟩
    obtain rfl := harg2.eq_unread hf2; obtain rfl := harg3.eq_unread hf3; obtain rfl := harg4.eq_unread hf4
    obtain rfl := harg5.eq_unread hf5; obtain rfl := harg6.eq_unread hf6
    sl_unfold [cc0_sb_bwd]
    sl_exec!
    sl_step
    iapply Hk
    isplitl [H2]; · iexists _; isplitr; · ipureintro; exact harg2.read_unread _
                    iexact H2
    isplitl [H3]; · iexists _; isplitr; · ipureintro; exact harg3.read_unread _
                    iexact H3
    isplitl [H4]; · iexists _; isplitr; · ipureintro; exact harg4.read_unread _
                    iexact H4
    isplitl [H5]; · iexists _; isplitr; · ipureintro; exact harg5.read_unread _
                    iexact H5
    isplitl [H6]; · iexists _; isplitr; · ipureintro; exact harg6.read_unread _
                    iexact H6
    isplitl [H7]; · iexact H7
    isplitl [H8]; · iexists _; isplitr; swap; · iexact H8
                    ipureintro; rfl
    isplitl [H9]; · iexists _; isplitr; swap; · iexact H9
                    ipureintro; rfl
    isplitl [H10]; · iexists _; iexact H10
    iexists _; iexact H11

end Cert.Proof.SB

end
-- ==== Proof.Run.lean ====
/-
  The pipeline's proof data, its body obligation and the run of the whole launch, over any values: the five inputs'
  windows keep their blocks (the three on the projections share one array), the three results' windows are left at
  what the body's run finds.
-/
module

public import proofs.«01_k».proof.Proof.Body

@[expose] public section

set_option maxRecDepth 16384

noncomputable section

namespace Cert.Proof.SB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

section
variable (c : Dev nD) (i : grid0.Coords)
  (arg2 : Memref sig .tc .vmem S1x2048x128 .bf16) (harg2 : arg2.IsWhole) (arg3 : Memref sig .tc .vmem S1x2048x128 .bf16) (harg3 : arg3.IsWhole)
  (arg4 : Memref sig .tc .vmem S1x2048x128 .bf16) (harg4 : arg4.IsWhole) (arg5 : Memref sig .tc .vmem S1x2048x128 .bf16) (harg5 : arg5.IsWhole)
  (arg6 : Memref sig .tc .vmem S1x1x2048x128 .f32) (harg6 : arg6.IsWhole) (arg7 : Memref sig .tc .vmem S1x2048x128 .bf16) (harg7 : arg7.IsWhole)
  (arg8 : Memref sig .tc .vmem S1x2048x128 .bf16) (harg8 : arg8.IsWhole) (arg9 : Memref sig .tc .vmem S1x2048x128 .bf16) (harg9 : arg9.IsWhole)
  (arg10 : Memref sig .tc .vmem S2048x128 .f32) (harg10 : arg10.IsWhole) (arg11 : Memref sig .tc .vmem S2048x128 .f32) (harg11 : arg11.IsWhole)

/-- A trip writes one tile of rows of the query gradient's window. -/
theorem trip_dq (v2 v3 : IVec S1024x128 32)
    (X2 : BufTy.Contents (Elt F) arg2.view.ty) (X3 : BufTy.Contents (Elt F) arg3.view.ty) (X4 : BufTy.Contents (Elt F) arg4.view.ty)
    (X5 : BufTy.Contents (Elt F) arg5.view.ty) (X6 : BufTy.Contents (Elt F) arg6.view.ty) (k : Fin k0_t1_loop.trips)
    (f10 : BufTy.Contents (Elt F) arg10.view.ty) (f11 : BufTy.Contents (Elt F) arg11.view.ty) :
    ∃ w, (trip (F := F) c i arg2 harg2 arg3 harg3 arg4 harg4 arg5 harg5 arg6 harg6 arg7 harg7 arg8 harg8 arg9 harg9 arg10 harg10 arg11 harg11 v2 v3 X2 X3 X4 X5 X6 k).1 f10 f11
      = [⟨Rect.unit (s := S1x2048x128) (k0_off1 k) S1x1024x128.size (k0_off1_inb k), w⟩] := by
  unfold trip
  exact ⟨_, rfl⟩

/-- Among the pieces of the trips before `n` is each such trip's tile of the query gradient's window. -/
theorem pieces_dq_mem (v2 v3 : IVec S1024x128 32)
    (X2 : BufTy.Contents (Elt F) arg2.view.ty) (X3 : BufTy.Contents (Elt F) arg3.view.ty) (X4 : BufTy.Contents (Elt F) arg4.view.ty)
    (X5 : BufTy.Contents (Elt F) arg5.view.ty) (X6 : BufTy.Contents (Elt F) arg6.view.ty)
    (G10 : BufTy.Contents (Elt F) arg10.view.ty) (G11 : BufTy.Contents (Elt F) arg11.view.ty) (k : Fin k0_t1_loop.trips) :
    ∀ n : ℕ, k.val < n → ∃ w, (⟨Rect.unit (s := S1x2048x128) (k0_off1 k) S1x1024x128.size (k0_off1_inb k), w⟩ : View.Piece (Elt F) S1x2048x128 .bf16)
      ∈ (pieces (F := F) c i arg2 harg2 arg3 harg3 arg4 harg4 arg5 harg5 arg6 harg6 arg7 harg7 arg8 harg8 arg9 harg9 arg10 harg10 arg11 harg11 v2 v3 X2 X3 X4 X5 X6 G10 G11 n).1 := by
  intro n
  induction n with
  | zero => exact fun h => absurd h (Nat.not_lt_zero _)
  | succ n ih =>
    intro hn
    rcases Nat.lt_succ_iff_lt_or_eq.mp hn with h | h
    · obtain ⟨w, hw⟩ := ih h
      refine ⟨w, ?_⟩
      rw [pieces]
      split
      · exact List.mem_append_right _ hw
      · exact hw
    · subst h
      rw [pieces_succ]
      obtain ⟨w, hw⟩ := trip_dq (F := F) c i arg2 harg2 arg3 harg3 arg4 harg4 arg5 harg5 arg6 harg6 arg7 harg7 arg8 harg8 arg9 harg9 arg10 harg10 arg11 harg11 v2 v3 X2 X3 X4 X5 X6 k _ _
      exact ⟨w, List.mem_append_left _ (hw ▸ List.mem_singleton.mpr rfl)⟩

/-- The tiles the trips write cover the query gradient's window. -/
theorem dq_cover (x2 x3 x4 x5 : Vec F S1x2048x128 .bf16) (x6 : Vec F S1x1x2048x128 .f32) (y : S1x2048x128.Idx) :
    ∃ p ∈ (kernelRun (F := F) c i arg2 harg2 arg3 harg3 arg4 harg4 arg5 harg5 arg6 harg6 arg7 harg7 arg8 harg8 arg9 harg9 arg10 harg10 arg11 harg11 x2 x3 x4 x5 x6).1,
      y ∈ p.1.set := by
  unfold kernelRun
  have h0 : (y 0).val < 1 := (y 0).isLt
  have h1 : (y 1).val < 2048 := (y 1).isLt
  have h2 : (y 2).val < 128 := (y 2).isLt
  have hk : (y 1).val / 1024 < k0_t1_loop.trips := by
    rw [show k0_t1_loop.trips = 2 from by decide]; omega
  obtain ⟨w, hw⟩ := pieces_dq_mem (F := F) c i arg2 harg2 arg3 harg3 arg4 harg4 arg5 harg5 arg6 harg6 arg7 harg7 arg8 harg8 arg9 harg9 arg10 harg10 arg11 harg11 kernelRun.sl.v2 kernelRun.sl.v3
    (harg2.unread x2) (harg3.unread x3) (harg4.unread x4) (harg5.unread x5) (harg6.unread x6) (arg10.view.writes (Elt F) arg10.view.junk kernelRun.sl.H10_1)
    (arg11.view.writes (Elt F) arg11.view.junk kernelRun.sl.H11_1) ⟨(y 1).val / 1024, hk⟩ (Scf.trips (0#32) (Scalar.addi 0#32 2#32) 1#32) hk
  refine ⟨_, hw, ?_⟩
  dsimp only
  rw [Rect.mem_set_unit, k0_off1_eq]
  intro a
  match a with
  | 0 => exact ⟨Nat.zero_le _, h0⟩
  | 1 => exact ⟨Nat.mul_div_le _ _, show (y 1).val < 1024 * ((y 1).val / 1024) + 1024 by omega⟩
  | 2 => exact ⟨Nat.zero_le _, show (y 2).val < 0 + 128 by omega⟩

end

variable (m : (ℓ : Loc nD τ sig) → Buf (Elt F) ℓ) (ρ : Dev nD → PrngReg)

/-- The body's run on the point's staging memrefs and blocks. -/
abbrev runAt (c : Dev nD) (t : Fin cfg0.N) :=
  kernelRun (F := F) c (grid0.coords t) (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    (win0_4.stage (cfg0.slots t 4)) (hstage0_4 ((cfg0.slots t 4).cast nbuf0_4)) (win0_5.stage (cfg0.slots t 5)) (hstage0_5 ((cfg0.slots t 5).cast nbuf0_5))
    (win0_6.stage (cfg0.slots t 6)) (hstage0_6 ((cfg0.slots t 6).cast nbuf0_6)) (win0_7.stage (cfg0.slots t 7)) (hstage0_7 ((cfg0.slots t 7).cast nbuf0_7))
    (Memref.whole cc0_scratch0) (Memref.isWhole_whole _) (Memref.whole cc0_scratch1) (Memref.isWhole_whole _)
    (iblk m c 0 t) (iblk m c 1 t) (iblk m c 2 t) (iblk m c 3 t) (iblk m c 4 t)

/-- What the body leaves in the query gradient's staging buffer at a point. -/
def out5 (c : Dev nD) (t : Fin cfg0.N) : Vec F S1x2048x128 .bf16 :=
  (win0_5.stage (cfg0.slots t 5)).view.read (Elt F) ((win0_5.stage (cfg0.slots t 5)).view.writes (Elt F) (win0_5.stage (cfg0.slots t 5)).view.junk (runAt m c t).1)
/-- What the body leaves in the key gradient's staging buffer at a point. -/
def out6 (c : Dev nD) (t : Fin cfg0.N) : Vec F S1x2048x128 .bf16 := (runAt m c t).2.1
/-- What the body leaves in the value gradient's staging buffer at a point. -/
def out7 (c : Dev nD) (t : Fin cfg0.N) : Vec F S1x2048x128 .bf16 := (runAt m c t).2.2.1

/-- The arrays as the region finds them; after the body each input's buffer at its block, each result's at what the
    run finds; the shared array's share split among its windows; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 m c t
    | ⟨6, _⟩ => out6 m c t
    | ⟨7, _⟩ => out7 m c t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out5 m c t := by dsimp only [dats]
theorem after0_6 (c : Dev nD) (t : Fin cfg0.N) : (dats m 0 c).after 6 t = out6 m c t := by dsimp only [dats]
theorem after0_7 (c : Dev nD) (t : Fin cfg0.N) : (dats m 0 c).after 7 t = out7 m c t := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d

/-- The scratch accumulators and the pseudo-random register, apart. -/
theorem ΦA_eq (c : Dev nD) : (Pipeline.ΦA (Val := Elt F) (U := UR sig nD τ) spec0 c : sProp 𝕄)
    = iprop(((∃ f : BufTy.Contents (Elt F) (Memref.whole (κ := .tc) cc0_scratch0).view.ty, (Memref.whole (κ := .tc) cc0_scratch0).view.loc (c : Thread nD τ) ↦[(Memref.whole (κ := .tc) cc0_scratch0).view.set]{fullShare} f)
        ∗ (∃ f : BufTy.Contents (Elt F) (Memref.whole (κ := .tc) cc0_scratch1).view.ty, (Memref.whole (κ := .tc) cc0_scratch1).view.loc (c : Thread nD τ) ↦[(Memref.whole (κ := .tc) cc0_scratch1).view.set]{fullShare} f)) ∗ ∃ r, prngReg c r) := by
  unfold Pipeline.ΦA; rw [scopedRest0_eq]
  simp only [Memref.view_whole, View.set_whole]

theorem owns_open (c : Dev nD) (M : Memref sig .tc .vmem S1x2048x128 .bf16) (x : Vec F S1x2048x128 .bf16) :
    (owns (c : Thread nD τ) M fullShare x : sProp 𝕄) ⊢ iprop(∃ f, ⌜M.view.read (Elt F) f = x⌝ ∗ (M.view.loc (c : Thread nD τ) ↦[M.view.set]{fullShare} f)) := by
  unfold owns; exact .rfl

theorem owns_close (c : Dev nD) (M : Memref sig .tc .vmem S1x2048x128 .bf16) (x : Vec F S1x2048x128 .bf16) (f : BufTy.Contents (Elt F) M.view.ty) (h : M.view.read (Elt F) f = x) :
    (M.view.loc (c : Thread nD τ) ↦[M.view.set]{fullShare} f : sProp 𝕄) ⊢ owns (c : Thread nD τ) M fullShare x := by
  subst h; exact owns_intro _ _ _ _

theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3, before0_4]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after0_0, after0_1, after0_2, after0_3, after0_4, after0_5, after0_6, after0_7, ΦA_eq]
  unfold out6 out7
  iintro ⟨⟨⟨⟨%f10, H10⟩, ⟨%f11, H11⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  ihave H5 := (owns_open c _ _) $$ H5
  icases H5 with ⟨%f5, %hf5, H5⟩
  iapply ((runAt m c t).2.2.2 Set.univ _ f5)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H10]; · iexists _; iexact H10
  isplitl [H11]; · iexists _; iexact H11
  iintro ⟨H0, H1, H2, H3, H4, H5, H6, H7, ⟨%g10, H10⟩, ⟨%g11, H11⟩⟩
  isplitl [H10 H11 Hr]
  · isplitl [H10 H11]
    · isplitl [H10]; · iexists _; iexact H10
      iexists _; iexact H11
    iexact Hr
  isplitl [Ho]; · iexact Ho
  isplitl [H0]; · iexact H0
  isplitl [H1]; · iexact H1
  isplitl [H2]; · iexact H2
  isplitl [H3]; · iexact H3
  isplitl [H4]; · iexact H4
  isplitl [H5]
  · iapply (owns_close c _ _ _ ?_) $$ H5
    exact View.read_writes_of_cover _ _ _ _ _ (dq_cover (F := F) c (grid0.coords t) _ _ _ _ _ _ _ _ _ _ _ _ _ _ _ _ _ _ _ _ _ _ _ _ _)
  isplitl [H6]; · iexact H6
  iexact H7

/-! ## The run and the frame -/

set_option backward.isDefEq.respectTransparency.types false in
/-- Over any values, from any memory with zero counters: every weakly fair execution of @main terminates, every array of
    the pipeline at what the library computes from the proof data and every semaphore counter at zero. -/
theorem run_main : θ_run defs (onTc (τ := τ) (main (F := F))) (s₀ m ρ)
    (fun r => Pipeline.FramePost cfgs (dats m) 0 (V m) r ∧ r.2.sem = fun _ => 0) :=
  Pipeline.θ_run_frame_shared (Q' := _) cfgs (dats m) (0 : Fin 1) launch₀0 defs₀ 𝒱₀ m ρ main
    (hbody := fun c => (body_obligation m c).loose) (hq := fun _ _ _ => rfl)
    (howed := fun _ _ => rfl) (V := V m) (hmain := hmain m 𝒱₀) (hA := fun c w => A_eq m c w) (hΦ := fun _ _ => rfl)

/-- The arguments end as they began, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_with_sems (frame_of m ρ (dats m) (A_eq m)) (run_main m ρ)

end Cert.Proof.SB

end
-- ==== Proof.Same.lean ====
module
public import proofs.«01_k».proof.Proof.Run
public import proofs.«01_k».proof.Proof.Gen.Kernel
public import proofs.«01_k».proof.Defs
@[expose] public section
set_option maxRecDepth 16384
noncomputable section
namespace Cert.Proof
open Idealize.ShloMosaic Idealize.SL.Sem
attribute [local instance] Cert.Kernel.Gen.facts Cert.KernelIdeal.Gen.facts
variable {F : FTy → Type} [FloatOps F]

/-! The kernel as printed for words and as printed for the ideal reading are one program. -/

/-- The two printings of the kernels' body table are one. -/
theorem defs₀_eq : Cert.Kernel.defs₀ (F := F) = Cert.KernelIdeal.defs₀ (F := F) := by
  unfold Cert.Kernel.defs₀ Cert.KernelIdeal.defs₀
  refine congrArg Defs.onTc (funext fun l => funext fun a => ?_)
  obtain ⟨n, hn⟩ := l
  obtain _ | n := n
  · rfl
  · omega

theorem defs_eq : Cert.Kernel.defs (F := F) = Cert.KernelIdeal.defs (F := F) :=
  congrArg (Pipeline.defs Cert.KernelIdeal.pcfgs) defs₀_eq

theorem main_eq (c : Dev Cert.Kernel.nD) : Cert.Kernel.main (F := F) c = Cert.KernelIdeal.main (F := F) c := by
  unfold Cert.Kernel.main Cert.KernelIdeal.main
  rfl

theorem onTc_main_eq : (onTc (τ := Cert.Kernel.τ) (Cert.Kernel.main (F := F))) = onTc (τ := Cert.KernelIdeal.τ) (Cert.KernelIdeal.main (F := F)) :=
  congrArg (onTc (τ := Cert.KernelIdeal.τ)) (funext main_eq)

/-- The frame of the kernel at words, from the run of its ideal printing over any scalars. -/
theorem kernel_frame : Cert.quiescent_Kernel := fun m g _ => by
  rw [onTc_main_eq, defs_eq]
  exact Cert.Proof.SB.frame (F := Bits) m g

end Cert.Proof
end
-- ==== Proof.Sub.lean ====
/-
  One block of 128 keys against a tile of 1024 queries, as vector functions over any scalars: the logits, the gate's
  logarithm, the weights, the cotangent of the logits, the state that one block hands to the next, and the eight
  blocks of a group one after the other.
-/
module

public import proofs.«01_k».proof.Proof.Gen.KernelIdeal

@[expose] public section

set_option maxRecDepth 16384

noncomputable section

namespace Cert.Proof.SB

open Cert.KernelIdeal Cert.KernelIdeal.Gen
open Idealize.ShloMosaic Idealize.ShloMosaic.TcCoe

variable {F : FTy → Type} [FloatOps F]

/-- The mask of a block: a block before the tile's own has none. -/
abbrev Mask := Option (IVec S1024x128 1)

/-- What one block hands to the next: the sum of the gates' logarithms so far, the sum of the weights' cotangents so
    far, and the query gradient so far. -/
abbrev St (F : FTy → Type) := FVec F S1024x1 .f32 × FVec F S1024x1 .f32 × FVec F S1024x128 .f32

/-- Zero where the mask is off. -/
def msk (mask : Mask) (x : FVec F S1024x128 .f32) : FVec F S1024x128 .f32 :=
  match mask with
  | none => x
  | some m => select m x (broadcast S1024x128 (Scalar.ofBits .f32 0x00000000#32))

/-- The scaled logits of a block. -/
def zOf (q : FVec F S1024x128 .bf16) (kb : FVec F S128x128 .bf16) : FVec F S1024x128 .f32 :=
  mulf (matmul dot_S1024x128_S128x128_S1024x128_1_1_0_0_n_n none q kb (constant S1024x128 .f32 0x00000000#32))
    (broadcast S1024x128 (Scalar.ofBits .f32 0x3DB504F3#32))

/-- The softplus of the logits. -/
def spOf (z : FVec F S1024x128 .f32) : FVec F S1024x128 .f32 :=
  addf (maximumf z (broadcast S1024x128 (Scalar.ofBits .f32 0x00000000#32)))
    (log (addf (broadcast S1024x128 (Scalar.ofBits .f32 0x3F800000#32))
      (exp (subf (broadcast S1024x128 (Scalar.ofBits .f32 0x00000000#32)) (absf z)))))

/-- The logarithm of one minus the gate, masked. -/
def lnOf (mask : Mask) (z : FVec F S1024x128 .f32) : FVec F S1024x128 .f32 :=
  msk mask (subf (broadcast S1024x128 (Scalar.ofBits .f32 0x00000000#32)) (spOf z))

/-- A row's sum, as a column. -/
def rowSum (x : FVec F S1024x128 .f32) : FVec F S1024x1 .f32 :=
  shapeCast S1024x1 (multiReduction .add [1] S1024 x 0x00000000#32 reduces_S1024x128_S1024 (.inl rfl) rfl) shapeCasts_S1024_S1024x1

/-- The product with a triangle, in a rounded part and its remainder. -/
def splitOf (x : FVec F S1024x128 .f32) (u : FVec F S128x128 .bf16) : FVec F S1024x128 .f32 :=
  addf (matmul dot_S1024x128_S128x128_S1024x128_1_0_0_1_n_n none (truncf .bf16 x bitsLt_bf16_f32) u (constant S1024x128 .f32 0x00000000#32))
    (matmul dot_S1024x128_S128x128_S1024x128_1_0_0_1_n_n none
      (truncf .bf16 (subf x (extf .f32 (truncf .bf16 x bitsLt_bf16_f32) bitsLt_bf16_f32)) bitsLt_bf16_f32) u
      (constant S1024x128 .f32 0x00000000#32))

/-- The attention weights of a block. -/
def wOf (mask : Mask) (after : FVec F S128x128 .bf16) (tot cl : FVec F S1024x1 .f32) (z : FVec F S1024x128 .f32) : FVec F S1024x128 .f32 :=
  msk mask (exp (addf (addf (subf z (spOf z)) (splitOf (lnOf mask z) after))
    (broadcastTo S1024x128 (subf (subf tot cl) (rowSum (lnOf mask z))) broadcasts_S1024x1_S1024x128)))

/-- The weights times their cotangents. -/
def pOf (g : FVec F S1024x128 .bf16) (vb : FVec F S128x128 .bf16) (w : FVec F S1024x128 .f32) : FVec F S1024x128 .f32 :=
  mulf (matmul dot_S1024x128_S128x128_S1024x128_1_1_0_0_n_n none g vb (constant S1024x128 .f32 0x00000000#32)) w

/-- The cotangent of the unscaled logits of a block. -/
def dzOf (mask : Mask) (before : FVec F S128x128 .bf16) (cp : FVec F S1024x1 .f32) (z p : FVec F S1024x128 .f32) : FVec F S1024x128 .f32 :=
  msk mask (mulf (subf p (mulf (addf p (addf (broadcastTo S1024x128 cp broadcasts_S1024x1_S1024x128) (splitOf p before)))
    (exp (subf z (spOf z))))) (broadcast S1024x128 (Scalar.ofBits .f32 0x3DB504F3#32)))

/-- A block of a key or value gradient with a tile's contribution added. -/
def accOf (old : FVec F S128x128 .f32) (x : FVec F S1024x128 .f32) (y : FVec F S1024x128 .bf16) : FVec F S128x128 .f32 :=
  shapeCast S128x128 (addf old (matmul dot_S1024x128_S1024x128_S128x128_0_0_1_1_n_n none (truncf .bf16 x bitsLt_bf16_f32) y
    (constant S128x128 .f32 0x00000000#32))) shapeCasts_S128x128_S128x128

section
variable (after before : FVec F S128x128 .bf16) (mask : Fin 8 → Mask) (q g : FVec F S1024x128 .bf16) (tot : FVec F S1024x1 .f32)
  (kb vb : Fin 8 → FVec F S128x128 .bf16)

/-- The weights of block `s`, from the state before it. -/
def wAt (s : Fin 8) (st : St F) : FVec F S1024x128 .f32 := wOf (mask s) after tot st.1 (zOf q (kb s))

/-- The weights times their cotangents, of block `s`. -/
def pAt (s : Fin 8) (st : St F) : FVec F S1024x128 .f32 := pOf g (vb s) (wAt after mask q tot kb s st)

/-- The cotangent of the unscaled logits, of block `s`. -/
def dzAt (s : Fin 8) (st : St F) : FVec F S1024x128 .f32 :=
  dzOf (mask s) before st.2.1 (zOf q (kb s)) (pAt after mask q g tot kb vb s st)

/-- The state after block `s`. -/
def next (s : Fin 8) (st : St F) : St F :=
  (addf st.1 (rowSum (lnOf (mask s) (zOf q (kb s)))),
   addf st.2.1 (rowSum (pAt after mask q g tot kb vb s st)),
   addf st.2.2 (matmul dot_S1024x128_S128x128_S1024x128_1_0_0_1_n_n none
     (truncf .bf16 (dzAt after before mask q g tot kb vb s st) bitsLt_bf16_f32) (kb s) (constant S1024x128 .f32 0x00000000#32)))

/-- The state after the first `n` blocks. -/
def stN (init : St F) : (n : ℕ) → n ≤ 8 → St F
  | 0, _ => init
  | n + 1, h => next after before mask q g tot kb vb ⟨n, h⟩ (stN init n (Nat.le_of_succ_le h))

end

/-- The mask of the tile's own block `s`: a key strictly before the query. -/
def maskAt (v2 v3 : IVec S1024x128 32) (s : Fin 8) : Mask :=
  some (cmpi .slt (addi (broadcast S1024x128 (BitVec.ofNat 32 (128 * s.val))) v3) v2)

end Cert.Proof.SB

end
-- ==== Proof.Math.lean ====
/-
  The backward pass of stick-breaking attention of one head over the reals: logits, gates, weights and the three
  gradients, of arrays indexed by natural numbers (position, channel).
-/
module

public import Mathlib.Analysis.SpecialFunctions.Log.Basic
public import Mathlib.Algebra.BigOperators.Intervals

@[expose] public section

noncomputable section

namespace Cert.Proof.SB

open Finset

/-- The logits' scale, the f32 nearest to `1/√128`. -/
def sc : ℝ := 11863283 / 134217728

/-- One head's queries, keys, values and the cotangent of its result. -/
structure Head where
  q : ℕ → ℕ → ℝ
  k : ℕ → ℕ → ℝ
  v : ℕ → ℕ → ℝ
  g : ℕ → ℕ → ℝ

/-- The softplus. -/
def SP (z : ℝ) : ℝ := max z 0 + Real.log (1 + Real.exp (-|z|))

theorem SP_neg (z : ℝ) : SP (-z) = SP z - z := by
  have h : max (-z) 0 = max z 0 - z := by
    rcases le_total z 0 with h | h
    · rw [max_eq_right h, max_eq_left (by linarith)]; ring
    · rw [max_eq_left h, max_eq_right (by linarith)]; ring
  rw [SP, SP, abs_neg, h]; ring

theorem exp_SP (z : ℝ) : Real.exp (SP z) = 1 + Real.exp z := by
  have h0 : 0 < 1 + Real.exp (-|z|) := by have := Real.exp_pos (-|z|); linarith
  rw [SP, Real.exp_add, Real.exp_log h0]
  rcases le_total z 0 with h | h
  · rw [max_eq_right h, abs_of_nonpos h, neg_neg, Real.exp_zero, one_mul]
  · rw [max_eq_left h, abs_of_nonneg h, mul_add, mul_one, ← Real.exp_add, add_neg_cancel, Real.exp_zero, add_comm]

/-- What a gate leaves, from what it takes. -/
theorem exp_neg_sub (z : ℝ) : Real.exp (-z - SP (-z)) = 1 - Real.exp (z - SP z) := by
  have h := exp_SP z
  have h0 := Real.exp_pos z
  have h1 : Real.exp (-SP z) * (1 + Real.exp z) = 1 := by rw [← h, ← Real.exp_add, neg_add_cancel, Real.exp_zero]
  rw [SP_neg, show -z - (SP z - z) = -SP z by ring, show z - SP z = z + -SP z by ring, Real.exp_add]
  linarith

namespace Head

variable (H : Head)

/-- The scaled logit of query `t` and key `s`. -/
def Z (t s : ℕ) : ℝ := (∑ d : Fin 128, H.q t d * H.k s d) * sc

/-- The logarithm of what the gate of key `s` leaves, for query `t`; zero where the key isn't before the query. -/
def LN (t s : ℕ) : ℝ := if s < t then -SP (H.Z t s) else 0

/-- The sum of a row of these. -/
def TOT (t : ℕ) : ℝ := ∑ s ∈ range 2048, H.LN t s

/-- The attention weight. -/
def W (t s : ℕ) : ℝ :=
  if s < t then Real.exp (H.Z t s - SP (H.Z t s) + (H.TOT t - ∑ s' ∈ range (s + 1), H.LN t s')) else 0

/-- The weight times its cotangent. -/
def P (t s : ℕ) : ℝ := (∑ d : Fin 128, H.g t d * H.v s d) * H.W t s

/-- The cotangent of the unscaled logit. -/
def DZ (t s : ℕ) : ℝ :=
  if s < t then (H.P t s - (H.P t s + ∑ s' ∈ range s, H.P t s') * Real.exp (H.Z t s - SP (H.Z t s))) * sc else 0

/-- The query gradient. -/
def DQ (t d : ℕ) : ℝ := ∑ s ∈ range 2048, H.DZ t s * H.k s d

/-- The key gradient. -/
def DK (s d : ℕ) : ℝ := ∑ t ∈ range 2048, H.DZ t s * H.q t d

/-- The value gradient. -/
def DV (s d : ℕ) : ℝ := ∑ t ∈ range 2048, H.W t s * H.g t d

theorem W_of_not_lt {t s : ℕ} (h : ¬ s < t) : H.W t s = 0 := if_neg h
theorem P_of_not_lt {t s : ℕ} (h : ¬ s < t) : H.P t s = 0 := by rw [P, H.W_of_not_lt h, mul_zero]
theorem DZ_of_not_lt {t s : ℕ} (h : ¬ s < t) : H.DZ t s = 0 := if_neg h

end Head

/-- A sum over the first `b + n` numbers: those below `b`, and the `n` from `b` on. -/
theorem sum_range_block (f : ℕ → ℝ) (b n : ℕ) : ∑ s ∈ range (b + n), f s = ∑ s ∈ range b, f s + ∑ j : Fin n, f (b + j) := by
  rw [sum_range_add, ← Fin.sum_univ_eq_sum_range (fun x => f (b + x))]

/-- Those of a block at or below place `c`. -/
theorem sum_block_le (f : ℕ → ℝ) (b n : ℕ) (c : Fin n) :
    ∑ s ∈ range (b + c + 1), f s = ∑ s ∈ range b, f s + ∑ j : Fin n, if j ≤ c then f (b + j) else 0 := by
  rw [add_assoc, sum_range_block, Fin.sum_univ_eq_sum_range (fun x => f (b + x)), ← sum_filter,
    ← Fin.sum_univ_eq_sum_range (fun x => f (b + x))]
  congr 1
  symm
  refine sum_bij (fun j hj => ⟨j.val, by have := (mem_filter.1 hj).2; have : j.val ≤ c.val := this; omega⟩) (fun _ _ => mem_univ _) ?_ ?_ ?_
  · intro a _ b _ h; exact Fin.ext (Fin.mk.inj h)
  · intro j _
    exact ⟨⟨j.val, by have := j.isLt; have := c.isLt; omega⟩, mem_filter.2 ⟨mem_univ _, by show j.val ≤ c.val; have := j.isLt; omega⟩, rfl⟩
  · intro a _; rfl

/-- Those of a block strictly below place `c`. -/
theorem sum_block_lt (f : ℕ → ℝ) (b n : ℕ) (c : Fin n) :
    ∑ s ∈ range (b + c), f s = ∑ s ∈ range b, f s + ∑ j : Fin n, if j < c then f (b + j) else 0 := by
  have h := sum_block_le f b n c
  rw [sum_range_succ] at h
  have h2 : (∑ j : Fin n, if j ≤ c then f (b + j) else 0) = (∑ j : Fin n, if j < c then f (b + j) else 0) + f (b + c) := by
    have : f (b + c) = ∑ j : Fin n, if j = c then f (b + j) else 0 := by simp
    rw [this, ← sum_add_distrib]
    refine sum_congr rfl fun j _ => ?_
    by_cases h1 : j < c
    · simp [h1, h1.le, h1.ne]
    · by_cases h2 : j = c
      · simp [h2]
      · have h3 : ¬ j ≤ c := fun h => h1 (lt_of_le_of_ne h h2)
        simp [h1, h2, h3]
  linarith

/-- The suffix of a row from the total, the blocks before, and this block: the weight's exponent as the kernel sums it. -/
theorem tail_block (f : ℕ → ℝ) (tot : ℝ) (b n : ℕ) (c : Fin n) :
    (∑ j : Fin n, f (b + j) * (if c < j then 1 else 0)) + (tot - ∑ s ∈ range b, f s - ∑ j : Fin n, f (b + j))
      = tot - ∑ s ∈ range (b + c + 1), f s := by
  rw [sum_block_le f b n c]
  have : (∑ j : Fin n, f (b + j)) = (∑ j : Fin n, f (b + j) * (if c < j then 1 else 0)) + ∑ j : Fin n, if j ≤ c then f (b + j) else 0 := by
    rw [← sum_add_distrib]
    refine sum_congr rfl fun j _ => ?_
    by_cases h : c < j
    · simp [h, not_le.2 h]
    · simp [h, not_lt.1 h]
  linarith

end Cert.Proof.SB

end
-- ==== Proof.Block.lean ====
/-
  One block of keys over the extended reals: where the operands are real numbers, so is everything that a block
  computes, and it is the mathematics of Math.lean.
-/
module

public import proofs.«01_k».proof.Proof.Sub
public import proofs.«01_k».proof.Proof.Math
public import proofs.«01_k».proof.Proof.Gen.KernelIdeal.Skeleton
public import Idealize.ShloMosaic.Lib.Pointwise

@[expose] public section

set_option maxRecDepth 16384

noncomputable section

namespace Cert.Proof.SB

open Cert.KernelIdeal Cert.KernelIdeal.Gen
open Idealize.ShloMosaic Idealize.ShloMosaic.TcCoe

theorem sum_coe {ι : Type} (s : Finset ι) (f : ι → ℝ) : ∑ x ∈ s, (f x : EReal) = ((∑ x ∈ s, f x : ℝ) : EReal) :=
  (map_sum (⟨⟨Real.toEReal, EReal.coe_zero⟩, EReal.coe_add⟩ : ℝ →+ EReal) f s).symm

theorem max_coe (a b : ℝ) : max (a : EReal) (b : EReal) = ((max a b : ℝ) : EReal) :=
  ((show Monotone Real.toEReal from fun _ _ h => EReal.coe_le_coe_iff.2 h).map_max).symm

theorem ofBits_sc : Ideal.ofBits .f32 0x3DB504F3#32 = (sc : EReal) := by
  simp [Ideal.ofBits, Ideal.ieee, sc, ← EReal.coe_mul]; norm_num

theorem select_coe (m : BitVec 1) (x y : ℝ) : Scalar.select m (x : EReal) (y : EReal) = ((if m = 1#1 then x else y : ℝ) : EReal) := by
  unfold Scalar.select
  split <;> simp_all

theorem softplus_coe (z : ℝ) :
    max (z : EReal) 0 + Ideal.log (1 + Ideal.exp (0 - max (z : EReal) (-(z : EReal)))) = (SP z : EReal) := by
  rw [← EReal.coe_neg, ← EReal.coe_zero, max_coe, max_coe, ← EReal.coe_sub, Ideal.exp_coe, ← EReal.coe_one, ← EReal.coe_add,
    Ideal.log_coe, if_neg (by have := Real.exp_pos (0 - max z (-z)); linarith), ← EReal.coe_add, zero_sub]
  rfl

theorem log1p_coe (z : ℝ) :
    max (z : EReal) 0 + Ideal.log1p (Ideal.exp (-max (z : EReal) (-(z : EReal)))) = (SP z : EReal) := by
  rw [← softplus_coe, zero_sub]; rfl

/-- Whether the mask lets a query and a key of the block through. -/
def MaskOk (mask : Mask) (T b : ℕ) : Prop :=
  match mask with
  | none => b + 128 ≤ T
  | some m => ∀ (r : Fin 1024) (c : Fin 128), m (ix2 r c) = 1#1 ↔ b + c.val < T + r.val

theorem msk_at {mask : Mask} {T b : ℕ} (h : MaskOk mask T b) (x : FVec Ideal S1024x128 .f32) (f : Fin 1024 → Fin 128 → ℝ)
    (r : Fin 1024) (c : Fin 128) (hx : x (ix2 r c) = (f r c : EReal)) :
    msk mask x (ix2 r c) = ((if b + c.val < T + r.val then f r c else 0 : ℝ) : EReal) := by
  cases mask with
  | none =>
    have h' : b + 128 ≤ T := h
    rw [if_pos (by have := c.isLt; omega)]
    exact hx
  | some m =>
    have h' := (show ∀ (r : Fin 1024) (c : Fin 128), m (ix2 r c) = 1#1 ↔ b + c.val < T + r.val from h) r c
    pointwise [msk]
    rw [hx, ← EReal.coe_zero, select_coe]
    simp only [h']

section
variable (H : Head) (T b : ℕ) {mask : Mask} {q g : FVec Ideal S1024x128 .bf16} {kb vb : FVec Ideal S128x128 .bf16}
  {after before : FVec Ideal S128x128 .bf16} {tot cl cp : FVec Ideal S1024x1 .f32}

theorem zOf_at (hq : ∀ (r : Fin 1024) (d : Fin 128), q (ix2 r d) = (H.q (T + r) d : EReal))
    (hk : ∀ (c d : Fin 128), kb (ix2 c d) = (H.k (b + c) d : EReal)) (r : Fin 1024) (c : Fin 128) :
    zOf q kb (ix2 r c) = (H.Z (T + r) (b + c) : EReal) := by
  pointwise [zOf]
  simp only [hq, hk, ofBits_sc, ← EReal.coe_mul, sum_coe]
  rfl

theorem spOf_at (z : FVec Ideal S1024x128 .f32) (r : Fin 1024) (c : Fin 128) (x : ℝ) (h : z (ix2 r c) = (x : EReal)) :
    spOf z (ix2 r c) = (SP x : EReal) := by
  pointwise [spOf]
  rw [Ideal.absf_def, h, softplus_coe]

theorem lnOf_at (hm : MaskOk mask T b) {z : FVec Ideal S1024x128 .f32}
    (hz : ∀ (r : Fin 1024) (c : Fin 128), z (ix2 r c) = (H.Z (T + r) (b + c) : EReal)) (r : Fin 1024) (c : Fin 128) :
    lnOf mask z (ix2 r c) = (H.LN (T + r) (b + c) : EReal) := by
  refine msk_at hm _ (fun r c => -SP (H.Z (T + r) (b + c))) r c ?_
  pointwise []
  rw [spOf_at z r c _ (hz r c), zero_sub, ← EReal.coe_neg]

theorem rowSum_at (x : FVec Ideal S1024x128 .f32) (f : Fin 128 → ℝ) (r : Fin 1024) (hx : ∀ c, x (ix2 r c) = (f c : EReal)) (o : Fin 1) :
    rowSum x (ix2 r o) = ((∑ c, f c : ℝ) : EReal) := by
  pointwise [rowSum]
  simp only [hx, sum_coe]

theorem splitOf_at (x : FVec Ideal S1024x128 .f32) (u : FVec Ideal S128x128 .bf16) (f e : Fin 128 → ℝ) (r : Fin 1024) (c : Fin 128)
    (hx : ∀ j, x (ix2 r j) = (f j : EReal)) (hu : ∀ j, u (ix2 j c) = (e j : EReal)) :
    splitOf x u (ix2 r c) = ((∑ j, f j * e j : ℝ) : EReal) := by
  pointwise [splitOf]
  simp only [hx, hu, ← EReal.coe_sub, ← EReal.coe_mul, sum_coe, ← EReal.coe_add, sub_self, zero_mul, Finset.sum_const_zero, add_zero]

theorem wOf_at (hm : MaskOk mask T b) (ha : ∀ (j c : Fin 128), after (ix2 j c) = ((if c < j then 1 else 0 : ℝ) : EReal))
    (ht : ∀ r : Fin 1024, tot (ix2 r 0) = (H.TOT (T + r) : EReal))
    (hc : ∀ r : Fin 1024, cl (ix2 r 0) = ((∑ s ∈ Finset.range b, H.LN (T + r) s : ℝ) : EReal))
    {z : FVec Ideal S1024x128 .f32} (hz : ∀ (r : Fin 1024) (c : Fin 128), z (ix2 r c) = (H.Z (T + r) (b + c) : EReal))
    (r : Fin 1024) (c : Fin 128) : wOf mask after tot cl z (ix2 r c) = (H.W (T + r) (b + c) : EReal) := by
  refine msk_at hm _ (fun r c => Real.exp (H.Z (T + r) (b + c) - SP (H.Z (T + r) (b + c))
    + (H.TOT (T + r) - ∑ s' ∈ Finset.range (b + c + 1), H.LN (T + r) s'))) r c ?_
  pointwise []
  rw [splitOf_at _ _ _ _ r c (fun j => lnOf_at H T b hm hz r j) (fun j => ha j c),
    rowSum_at _ _ r (fun j => lnOf_at H T b hm hz r j), hz, spOf_at z r c _ (hz r c), ht, hc]
  simp only [← EReal.coe_sub, ← EReal.coe_add, Ideal.exp_coe]
  rw [add_assoc, tail_block]

theorem pOf_at (hg : ∀ (r : Fin 1024) (d : Fin 128), g (ix2 r d) = (H.g (T + r) d : EReal))
    (hv : ∀ (c d : Fin 128), vb (ix2 c d) = (H.v (b + c) d : EReal)) {w : FVec Ideal S1024x128 .f32}
    (hw : ∀ (r : Fin 1024) (c : Fin 128), w (ix2 r c) = (H.W (T + r) (b + c) : EReal)) (r : Fin 1024) (c : Fin 128) :
    pOf g vb w (ix2 r c) = (H.P (T + r) (b + c) : EReal) := by
  pointwise [pOf]
  simp only [hg, hv, hw, ← EReal.coe_mul, sum_coe]
  rfl

theorem dzOf_at (hm : MaskOk mask T b) (hb : ∀ (j c : Fin 128), before (ix2 j c) = ((if j < c then 1 else 0 : ℝ) : EReal))
    (hc : ∀ r : Fin 1024, cp (ix2 r 0) = ((∑ s ∈ Finset.range b, H.P (T + r) s : ℝ) : EReal))
    {z p : FVec Ideal S1024x128 .f32} (hz : ∀ (r : Fin 1024) (c : Fin 128), z (ix2 r c) = (H.Z (T + r) (b + c) : EReal))
    (hp : ∀ (r : Fin 1024) (c : Fin 128), p (ix2 r c) = (H.P (T + r) (b + c) : EReal))
    (r : Fin 1024) (c : Fin 128) : dzOf mask before cp z p (ix2 r c) = (H.DZ (T + r) (b + c) : EReal) := by
  refine msk_at hm _ (fun r c => (H.P (T + r) (b + c) - (H.P (T + r) (b + c) + ∑ s' ∈ Finset.range (b + c), H.P (T + r) s')
    * Real.exp (H.Z (T + r) (b + c) - SP (H.Z (T + r) (b + c)))) * sc) r c ?_
  pointwise []
  rw [splitOf_at _ _ _ _ r c (fun j => hp r j) (fun j => hb j c), hz, spOf_at z r c _ (hz r c), hp, hc, ofBits_sc]
  simp only [← EReal.coe_sub, ← EReal.coe_add, Ideal.exp_coe, ← EReal.coe_mul]
  rw [sum_block_lt]
  simp only [mul_ite, mul_one, mul_zero]

end

/-- What a tile's operands are: the queries and cotangents of the 1024 positions from `T` on. -/
structure TileOk (H : Head) (T : ℕ) (q g : FVec Ideal S1024x128 .bf16) (tot : FVec Ideal S1024x1 .f32) : Prop where
  hq : ∀ (r : Fin 1024) (d : Fin 128), q (ix2 r d) = (H.q (T + r) d : EReal)
  hg : ∀ (r : Fin 1024) (d : Fin 128), g (ix2 r d) = (H.g (T + r) d : EReal)
  ht : ∀ r : Fin 1024, tot (ix2 r 0) = (H.TOT (T + r) : EReal)

/-- What a group's operands are: the eight blocks of keys and values from `B` on. -/
structure GroupOk (H : Head) (T B : ℕ) (mask : Fin 8 → Mask) (kb vb : Fin 8 → FVec Ideal S128x128 .bf16) : Prop where
  hk : ∀ (s : Fin 8) (c d : Fin 128), kb s (ix2 c d) = (H.k (B + 128 * s + c) d : EReal)
  hv : ∀ (s : Fin 8) (c d : Fin 128), vb s (ix2 c d) = (H.v (B + 128 * s + c) d : EReal)
  hm : ∀ s : Fin 8, MaskOk (mask s) T (B + 128 * s)

/-- The state before the key `b`. -/
structure StOk (H : Head) (T b : ℕ) (st : St Ideal) : Prop where
  hl : ∀ r : Fin 1024, st.1 (ix2 r 0) = ((∑ s ∈ Finset.range b, H.LN (T + r) s : ℝ) : EReal)
  hp : ∀ r : Fin 1024, st.2.1 (ix2 r 0) = ((∑ s ∈ Finset.range b, H.P (T + r) s : ℝ) : EReal)
  hd : ∀ (r : Fin 1024) (d : Fin 128), st.2.2 (ix2 r d) = ((∑ s ∈ Finset.range b, H.DZ (T + r) s * H.k s d : ℝ) : EReal)

theorem slt_ofNat {a b : ℕ} (ha : a < 2 ^ 31) (hb : b < 2 ^ 31) :
    IntOp.cmpi .slt (BitVec.ofNat 32 a) (BitVec.ofNat 32 b) = 1#1 ↔ a < b := by
  have h : (BitVec.ofNat 32 a).slt (BitVec.ofNat 32 b) = decide (a < b) := by
    rw [BitVec.slt_eq_decide, BitVec.toInt_ofNat', BitVec.toInt_ofNat', Int.bmod_eq_of_le (by omega) (by omega),
      Int.bmod_eq_of_le (by omega) (by omega)]
    exact decide_eq_decide.2 Int.ofNat_lt
  simp only [IntOp.cmpi]
  rw [h]
  by_cases hab : a < b <;> simp [hab]

theorem sgt_ofNat {a b : ℕ} (ha : a < 2 ^ 31) (hb : b < 2 ^ 31) :
    IntOp.cmpi .sgt (BitVec.ofNat 32 a) (BitVec.ofNat 32 b) = 1#1 ↔ b < a := slt_ofNat hb ha

theorem bit_of_ne : ∀ {m : BitVec 1}, m ≠ 1#1 → m = 0#1 := by decide

theorem sitofp_bit (m : BitVec 1) (p : Prop) [Decidable p] (h : m = 1#1 ↔ p) :
    FloatOps.sitofp (F := Ideal) .f32 (BitVec.setWidth 32 m) = ((if p then 1 else 0 : ℝ) : EReal) := by
  by_cases hp : p
  · rw [if_pos hp, h.2 hp]
    change (((BitVec.setWidth 32 1#1).toInt : ℝ) : EReal) = _
    norm_num
  · rw [if_neg hp, show m = 0#1 from bit_of_ne (fun e => hp (h.1 e))]
    change (((BitVec.setWidth 32 0#1).toInt : ℝ) : EReal) = _
    norm_num

/-- The mask of the tile's own block, at a tile at `T`. -/
theorem maskAt_ok (T : ℕ) (s : Fin 8) :
    MaskOk (maskAt (iota .tc S1024x128 32 [0] iota_S1024x128_d0_w32) (iota .tc S1024x128 32 [1] iota_S1024x128_d1_w32) s) T (T + 128 * s) := by
  intro r c
  pointwise []
  have : IntOp.addi (BitVec.ofNat 32 (128 * s.val)) (BitVec.ofNat 32 c.val) = BitVec.ofNat 32 (128 * s.val + c.val) := by
    simp [IntOp.addi, BitVec.ofNat_add]
  rw [this, slt_ofNat (by have := c.isLt; have := s.isLt; omega) (by have := r.isLt; omega)]
  omega

theorem after_at (j c : Fin 128) : k0_pay1 (F := Ideal) (ix2 j c) = ((if c < j then 1 else 0 : ℝ) : EReal) := by
  pointwise [k0_pay1]
  exact sitofp_bit _ _ (sgt_ofNat (by have := j.isLt; omega) (by have := c.isLt; omega))

theorem before_at (j c : Fin 128) : k0_pay2 (F := Ideal) (ix2 j c) = ((if j < c then 1 else 0 : ℝ) : EReal) := by
  pointwise [k0_pay2]
  exact sitofp_bit _ _ (slt_ofNat (by have := j.isLt; omega) (by have := c.isLt; omega))

section
variable (H : Head) (T B : ℕ) {mask : Fin 8 → Mask} {q g : FVec Ideal S1024x128 .bf16} {kb vb : Fin 8 → FVec Ideal S128x128 .bf16}
  {tot : FVec Ideal S1024x1 .f32} (ht : TileOk H T q g tot) (hb : GroupOk H T B mask kb vb)
include ht hb

theorem wAt_at (s : Fin 8) {st : St Ideal} (h : StOk H T (B + 128 * s) st) (r : Fin 1024) (c : Fin 128) :
    wAt k0_pay1 mask q tot kb s st (ix2 r c) = (H.W (T + r) (B + 128 * s + c) : EReal) :=
  wOf_at H T _ (hb.hm s) after_at ht.ht h.hl (zOf_at H T _ ht.hq (hb.hk s)) r c

theorem pAt_at (s : Fin 8) {st : St Ideal} (h : StOk H T (B + 128 * s) st) (r : Fin 1024) (c : Fin 128) :
    pAt k0_pay1 mask q g tot kb vb s st (ix2 r c) = (H.P (T + r) (B + 128 * s + c) : EReal) :=
  pOf_at H T _ ht.hg (hb.hv s) (wAt_at H T B ht hb s h) r c

theorem dzAt_at (s : Fin 8) {st : St Ideal} (h : StOk H T (B + 128 * s) st) (r : Fin 1024) (c : Fin 128) :
    dzAt k0_pay1 k0_pay2 mask q g tot kb vb s st (ix2 r c) = (H.DZ (T + r) (B + 128 * s + c) : EReal) :=
  dzOf_at H T _ (hb.hm s) before_at h.hp (zOf_at H T _ ht.hq (hb.hk s)) (pAt_at H T B ht hb s h) r c

theorem next_ok (s : Fin 8) {st : St Ideal} (h : StOk H T (B + 128 * s) st) :
    StOk H T (B + 128 * s + 128) (next k0_pay1 k0_pay2 mask q g tot kb vb s st) := by
  refine ⟨fun r => ?_, fun r => ?_, fun r d => ?_⟩
  · simp only [next]
    pointwise []
    rw [rowSum_at _ _ r (fun j => lnOf_at H T _ (hb.hm s) (zOf_at H T _ ht.hq (hb.hk s)) r j), h.hl, ← EReal.coe_add, ← sum_range_block]
  · simp only [next]
    pointwise []
    rw [rowSum_at _ _ r (fun j => pAt_at H T B ht hb s h r j), h.hp, ← EReal.coe_add, ← sum_range_block]
  · simp only [next]
    pointwise []
    simp only [dzAt_at H T B ht hb s h, hb.hk s, h.hd, ← EReal.coe_mul, sum_coe, ← EReal.coe_add]
    rw [← sum_range_block (fun s => H.DZ (T + r) s * H.k s d)]

theorem stN_ok {st : St Ideal} (h : StOk H T B st) : ∀ (n : ℕ) (hn : n ≤ 8),
    StOk H T (B + 128 * n) (stN k0_pay1 k0_pay2 mask q g tot kb vb st n hn)
  | 0, _ => h
  | n + 1, hn => next_ok H T B ht hb ⟨n, hn⟩ (stN_ok h n (Nat.le_of_succ_le hn))

end

theorem init_ok (H : Head) (T : ℕ) : StOk H T 0 (k0_pay245, k0_pay245, k0_pay246) := by
  refine ⟨fun r => ?_, fun r => ?_, fun r d => ?_⟩ <;> rw [Finset.range_zero, Finset.sum_empty, EReal.coe_zero] <;> simp only [] <;>
    pointwise [k0_pay245, k0_pay246]

end Cert.Proof.SB

end
-- ==== Proof.Witness.lean ====
/-
  What the run of a trip of the outer loop writes, in the words of Sub.lean: the same terms, by computation.
-/
module

public import proofs.«01_k».proof.Proof.Sub
public import proofs.«01_k».proof.Proof.Body

@[expose] public section
set_option maxRecDepth 16384
noncomputable section
namespace Cert.Proof.SB
open Cert.KernelIdeal Cert.KernelIdeal.Gen
open Idealize.ShloMosaic Idealize.ShloMosaic.TcCoe
variable {F : FTy → Type} [FloatOps F]
variable (c : Dev nD) (i : grid0.Coords)
  (arg2 : Memref sig .tc .vmem S1x2048x128 .bf16) (harg2 : arg2.IsWhole) (arg3 : Memref sig .tc .vmem S1x2048x128 .bf16) (harg3 : arg3.IsWhole)
  (arg4 : Memref sig .tc .vmem S1x2048x128 .bf16) (harg4 : arg4.IsWhole) (arg5 : Memref sig .tc .vmem S1x2048x128 .bf16) (harg5 : arg5.IsWhole)
  (arg6 : Memref sig .tc .vmem S1x1x2048x128 .f32) (harg6 : arg6.IsWhole) (arg7 : Memref sig .tc .vmem S1x2048x128 .bf16) (harg7 : arg7.IsWhole)
  (arg8 : Memref sig .tc .vmem S1x2048x128 .bf16) (harg8 : arg8.IsWhole) (arg9 : Memref sig .tc .vmem S1x2048x128 .bf16) (harg9 : arg9.IsWhole)
  (arg10 : Memref sig .tc .vmem S2048x128 .f32) (harg10 : arg10.IsWhole) (arg11 : Memref sig .tc .vmem S2048x128 .f32) (harg11 : arg11.IsWhole)
  (v2 : IVec S1024x128 32) (v3 : IVec S1024x128 32)
  (X3 : BufTy.Contents (Elt F) arg3.view.ty) (X4 : BufTy.Contents (Elt F) arg4.view.ty)
  (v7 v11 : FVec F S128x128 .bf16) (k0_t1 : Fin k0_t1_loop.trips) (v34 v37 : Vec F S1x1024x128 .bf16) (v40 : Vec F S1x1x1024x128 .f32)

/-- Block `s` of the keys or values of group `t`. -/
def blk3 (arg : Memref sig .tc .vmem S1x2048x128 .bf16) (X : BufTy.Contents (Elt F) arg.view.ty) (k0_t1 : Fin k0_t1_loop.trips) (t : Fin (k0_t2_loop k0_t1).trips)
    (s : Fin 8) : FVec F S128x128 .bf16 :=
  shapeCast S128x128 (View.readAt (Elt F) arg.view (Rect.unit (s := S1x2048x128) (k0_off3 k0_t1 t (BitVec.ofNat 32 (128 * s.val))) S1x128x128.size
    (k0_off3_inb k0_t1 t s)).toLoadRect X) shapeCasts_S1x128x128_S128x128

theorem tripR_eq (t : Fin (k0_t2_loop k0_t1).trips) (acc : St F) (f10 : BufTy.Contents (Elt F) arg10.view.ty) (f11 : BufTy.Contents (Elt F) arg11.view.ty) :
    tripR_k0_t2 (F := F) 𝒱₀ c none i arg2 harg2 arg3 harg3 arg4 harg4 arg5 harg5 arg6 harg6 arg7 harg7 arg8 harg8 arg9 harg9 arg10 harg10 arg11 harg11 v2 v3 v7 v11 0#32 1#32 k0_t1 v34 v37 v40 X3 X4 t acc f10 f11
      = stN v7 v11 (fun _ => none) (k0_pay242 v34) (k0_pay243 v37) (k0_pay244 v40) (blk3 arg3 X3 k0_t1 t) (blk3 arg4 X4 k0_t1 t) acc 8 (le_refl 8) := by
  unfold tripR_k0_t2 trip_k0_t2
  dsimp only
  rfl

/-- The stores of the first `n` blocks of a group into an accumulator at `f`, last first: each block is what it was with
    the product of `x` and `y` added. -/
def accPieces (arg : Memref sig .tc .vmem S2048x128 .f32) (f : BufTy.Contents (Elt F) arg.view.ty) (off : Fin 8 → Fin 2 → ℕ)
    (inb : ∀ s a, off s a + S128x128.size a ≤ S2048x128.size a) (x : Fin 8 → FVec F S1024x128 .f32) (y : FVec F S1024x128 .bf16) :
    (n : ℕ) → n ≤ 8 → List (View.Piece (Elt F) S2048x128 .f32)
  | 0, _ => []
  | n + 1, h => ⟨Rect.unit (s := S2048x128) (off ⟨n, h⟩) S128x128.size (inb ⟨n, h⟩),
      accOf (View.readAt (Elt F) arg.view (Rect.unit (s := S2048x128) (off ⟨n, h⟩) S128x128.size (inb ⟨n, h⟩)).toLoadRect f) (x ⟨n, h⟩) y⟩
      :: accPieces arg f off inb x y n (Nat.le_of_succ_le h)

/-- The same where each block is read back through the stores before it, on top of the stores `base`. -/
def accPiecesW (arg : Memref sig .tc .vmem S2048x128 .f32) (f : BufTy.Contents (Elt F) arg.view.ty) (off : Fin 8 → Fin 2 → ℕ)
    (inb : ∀ s a, off s a + S128x128.size a ≤ S2048x128.size a) (x : Fin 8 → FVec F S1024x128 .f32) (y : FVec F S1024x128 .bf16)
    (base : List (View.Piece (Elt F) S2048x128 .f32)) :
    (n : ℕ) → n ≤ 8 → List (View.Piece (Elt F) S2048x128 .f32)
  | 0, _ => base
  | n + 1, h => ⟨Rect.unit (s := S2048x128) (off ⟨n, h⟩) S128x128.size (inb ⟨n, h⟩),
      accOf (View.readAt (Elt F) arg.view (Rect.unit (s := S2048x128) (off ⟨n, h⟩) S128x128.size (inb ⟨n, h⟩)).toLoadRect
        (arg.view.writes (Elt F) f (accPiecesW arg f off inb x y base n (Nat.le_of_succ_le h)))) (x ⟨n, h⟩) y⟩
      :: accPiecesW arg f off inb x y base n (Nat.le_of_succ_le h)

theorem tripL_eq (t : Fin (k0_t2_loop k0_t1).trips) (acc : St F) (f10 : BufTy.Contents (Elt F) arg10.view.ty) (f11 : BufTy.Contents (Elt F) arg11.view.ty) :
    tripL_k0_t2 (F := F) 𝒱₀ c none i arg2 harg2 arg3 harg3 arg4 harg4 arg5 harg5 arg6 harg6 arg7 harg7 arg8 harg8 arg9 harg9 arg10 harg10 arg11 harg11 v2 v3 v7 v11 0#32 1#32 k0_t1 v34 v37 v40 X3 X4 t acc f10 f11
      = (accPieces arg10 f10 (fun s => k0_off4 k0_t1 t (BitVec.ofNat 32 (128 * s.val))) (k0_off4_inb k0_t1 t)
           (fun s => dzAt v7 v11 (fun _ => none) (k0_pay242 v34) (k0_pay243 v37) (k0_pay244 v40) (blk3 arg3 X3 k0_t1 t) (blk3 arg4 X4 k0_t1 t) s
             (stN v7 v11 (fun _ => none) (k0_pay242 v34) (k0_pay243 v37) (k0_pay244 v40) (blk3 arg3 X3 k0_t1 t) (blk3 arg4 X4 k0_t1 t) acc s.val s.isLt.le))
           (k0_pay242 v34) 8 (le_refl 8),
         accPieces arg11 f11 (fun s => k0_off4 k0_t1 t (BitVec.ofNat 32 (128 * s.val))) (k0_off4_inb k0_t1 t)
           (fun s => wAt v7 (fun _ => none) (k0_pay242 v34) (k0_pay244 v40) (blk3 arg3 X3 k0_t1 t) s
             (stN v7 v11 (fun _ => none) (k0_pay242 v34) (k0_pay243 v37) (k0_pay244 v40) (blk3 arg3 X3 k0_t1 t) (blk3 arg4 X4 k0_t1 t) acc s.val s.isLt.le))
           (k0_pay243 v37) 8 (le_refl 8)) := by
  unfold tripL_k0_t2 trip_k0_t2
  dsimp only
  rfl

section
variable (X2 : BufTy.Contents (Elt F) arg2.view.ty) (X5 : BufTy.Contents (Elt F) arg5.view.ty) (X6 : BufTy.Contents (Elt F) arg6.view.ty)
  (k : Fin k0_t1_loop.trips) (f10 : BufTy.Contents (Elt F) arg10.view.ty) (f11 : BufTy.Contents (Elt F) arg11.view.ty)

/-- A tile of the queries, or of the result's cotangent. -/
def tile2 (arg : Memref sig .tc .vmem S1x2048x128 .bf16) (X : BufTy.Contents (Elt F) arg.view.ty) : Vec F S1x1024x128 .bf16 :=
  View.readAt (Elt F) arg.view (Rect.unit (s := S1x2048x128) (k0_off1 k) S1x1024x128.size (k0_off1_inb k)).toLoadRect X

/-- A tile of the rows' totals. -/
def tile6 : Vec F S1x1x1024x128 .f32 :=
  View.readAt (Elt F) arg6.view (Rect.unit (s := S1x1x2048x128) (k0_off2 k) S1x1x1024x128.size (k0_off2_inb k)).toLoadRect X6

/-- Block `s` of the tile's own keys or values. -/
def blk7 (arg : Memref sig .tc .vmem S1x2048x128 .bf16) (X : BufTy.Contents (Elt F) arg.view.ty) (s : Fin 8) : FVec F S128x128 .bf16 :=
  shapeCast S128x128 (View.readAt (Elt F) arg.view (Rect.unit (s := S1x2048x128) (k0_off7 k (BitVec.ofNat 32 (128 * s.val))) S1x128x128.size
    (k0_off7_inb k s)).toLoadRect X) shapeCasts_S1x128x128_S128x128

/-- The groups before the tile's own: what they hand on, and what they write into the accumulators. -/
def before2 : St F × List (View.Piece (Elt F) S2048x128 .f32) × List (View.Piece (Elt F) S2048x128 .f32) :=
  st_k0_t2 (F := F) 𝒱₀ c none i arg2 harg2 arg3 harg3 arg4 harg4 arg5 harg5 arg6 harg6 arg7 harg7 arg8 harg8 arg9 harg9 arg10 harg10 arg11 harg11 v2 v3 k0_pay1 k0_pay2 0#32 1#32 k
    (tile2 k arg2 X2) (tile2 k arg5 X5) (tile6 arg6 X6 k) X3 X4 f10 f11 (k0_pay245, k0_pay245, k0_pay246)
    (Scf.trips (k0_t2_loop k).lb (k0_t2_loop k).ub (k0_t2_loop k).st)

/-- The second counted loop over the groups, which makes no trip. -/
def before3 (b : St F × List (View.Piece (Elt F) S2048x128 .f32) × List (View.Piece (Elt F) S2048x128 .f32)) :
    St F × List (View.Piece (Elt F) S2048x128 .f32) × List (View.Piece (Elt F) S2048x128 .f32) :=
  st_k0_t3 (F := F) 𝒱₀ c none i arg2 harg2 arg3 harg3 arg4 harg4 arg5 harg5 arg6 harg6 arg7 harg7 arg8 harg8 arg9 harg9 arg10 harg10 arg11 harg11 v2 v3 k0_pay1 k0_pay2 0#32 1#32 k
    (tile2 k arg2 X2) (tile2 k arg5 X5) (tile6 arg6 X6 k) (trip.sl.v49 k) X3 X4 (arg10.view.writes (Elt F) f10 b.2.1) (arg11.view.writes (Elt F) f11 b.2.2) (b.1.1, b.1.2.1, b.1.2.2)
    (Scf.trips (k0_t3_loop k).lb (k0_t3_loop k).ub (k0_t3_loop k).st)

theorem trips2 : ∀ k : Fin k0_t1_loop.trips, Scf.trips (k0_t2_loop k).lb (k0_t2_loop k).ub (k0_t2_loop k).st = k.val := by decide +kernel
theorem trips3 : ∀ k : Fin k0_t1_loop.trips, Scf.trips (k0_t3_loop k).lb (k0_t3_loop k).ub (k0_t3_loop k).st = 0 := by decide +kernel

theorem before3_eq (b : St F × List (View.Piece (Elt F) S2048x128 .f32) × List (View.Piece (Elt F) S2048x128 .f32)) :
    before3 (F := F) c i arg2 harg2 arg3 harg3 arg4 harg4 arg5 harg5 arg6 harg6 arg7 harg7 arg8 harg8 arg9 harg9 arg10 harg10 arg11 harg11 v2 v3 X3 X4 X2 X5 X6 k f10 f11 b = (b.1, [], []) := by
  unfold before3
  rw [trips3]
  rfl

/-- The state after the first `n` blocks of the tile's own group, from what the groups before hand on. -/
def ownSt (st : St F) : (n : ℕ) → n ≤ 8 → St F :=
  stN k0_pay1 k0_pay2 (maskAt v2 v3) (k0_pay242 (tile2 k arg2 X2)) (k0_pay243 (tile2 k arg5 X5)) (k0_pay244 (tile6 arg6 X6 k)) (blk7 k arg3 X3) (blk7 k arg4 X4) st

/-- The cotangent of the unscaled logits of the tile's own block `s`. -/
def ownDz (st : St F) (s : Fin 8) : FVec F S1024x128 .f32 :=
  dzAt k0_pay1 k0_pay2 (maskAt v2 v3) (k0_pay242 (tile2 k arg2 X2)) (k0_pay243 (tile2 k arg5 X5)) (k0_pay244 (tile6 arg6 X6 k)) (blk7 k arg3 X3) (blk7 k arg4 X4) s
    (ownSt arg2 arg3 arg4 arg5 arg6 v2 v3 X3 X4 X2 X5 X6 k st s.val s.isLt.le)

/-- The weights of the tile's own block `s`. -/
def ownW (st : St F) (s : Fin 8) : FVec F S1024x128 .f32 :=
  wAt k0_pay1 (maskAt v2 v3) (k0_pay242 (tile2 k arg2 X2)) (k0_pay244 (tile6 arg6 X6 k)) (blk7 k arg3 X3) s
    (ownSt arg2 arg3 arg4 arg5 arg6 v2 v3 X3 X4 X2 X5 X6 k st s.val s.isLt.le)

theorem trip_dq_raw :
    let b2 := before2 (F := F) c i arg2 harg2 arg3 harg3 arg4 harg4 arg5 harg5 arg6 harg6 arg7 harg7 arg8 harg8 arg9 harg9 arg10 harg10 arg11 harg11 v2 v3 X3 X4 X2 X5 X6 k f10 f11
    let b3 := before3 (F := F) c i arg2 harg2 arg3 harg3 arg4 harg4 arg5 harg5 arg6 harg6 arg7 harg7 arg8 harg8 arg9 harg9 arg10 harg10 arg11 harg11 v2 v3 X3 X4 X2 X5 X6 k f10 f11 b2
    (trip (F := F) c i arg2 harg2 arg3 harg3 arg4 harg4 arg5 harg5 arg6 harg6 arg7 harg7 arg8 harg8 arg9 harg9 arg10 harg10 arg11 harg11 v2 v3 X2 X3 X4 X5 X6 k).1 f10 f11 = [⟨Rect.unit (s := S1x2048x128) (k0_off1 k) S1x1024x128.size (k0_off1_inb k), k0_pay5 (truncf .bf16 (ownSt arg2 arg3 arg4 arg5 arg6 v2 v3 X3 X4 X2 X5 X6 k b3.1 8 (le_refl 8)).2.2 bitsLt_bf16_f32)⟩] := by
  intro b2 b3
  unfold trip
  dsimp only
  rfl

/-- The piece of the query gradient that a trip writes. -/
theorem Witness.trip_dq : (trip (F := F) c i arg2 harg2 arg3 harg3 arg4 harg4 arg5 harg5 arg6 harg6 arg7 harg7 arg8 harg8 arg9 harg9 arg10 harg10 arg11 harg11 v2 v3 X2 X3 X4 X5 X6 k).1 f10 f11 = [⟨Rect.unit (s := S1x2048x128) (k0_off1 k) S1x1024x128.size (k0_off1_inb k), k0_pay5 (truncf .bf16 (ownSt arg2 arg3 arg4 arg5 arg6 v2 v3 X3 X4 X2 X5 X6 k (before2 (F := F) c i arg2 harg2 arg3 harg3 arg4 harg4 arg5 harg5 arg6 harg6 arg7 harg7 arg8 harg8 arg9 harg9 arg10 harg10 arg11 harg11 v2 v3 X3 X4 X2 X5 X6 k f10 f11).1 8 (le_refl 8)).2.2 bitsLt_bf16_f32)⟩] := by
  rw [trip_dq_raw, before3_eq]

theorem trip_dk_raw :
    let b2 := before2 (F := F) c i arg2 harg2 arg3 harg3 arg4 harg4 arg5 harg5 arg6 harg6 arg7 harg7 arg8 harg8 arg9 harg9 arg10 harg10 arg11 harg11 v2 v3 X3 X4 X2 X5 X6 k f10 f11
    let b3 := before3 (F := F) c i arg2 harg2 arg3 harg3 arg4 harg4 arg5 harg5 arg6 harg6 arg7 harg7 arg8 harg8 arg9 harg9 arg10 harg10 arg11 harg11 v2 v3 X3 X4 X2 X5 X6 k f10 f11 b2
    (trip (F := F) c i arg2 harg2 arg3 harg3 arg4 harg4 arg5 harg5 arg6 harg6 arg7 harg7 arg8 harg8 arg9 harg9 arg10 harg10 arg11 harg11 v2 v3 X2 X3 X4 X5 X6 k).2.1 f10 f11 = accPiecesW arg10 f10 (fun s => k0_off8 k (BitVec.ofNat 32 (128 * s.val))) (k0_off8_inb k)
      (ownDz arg2 arg3 arg4 arg5 arg6 v2 v3 X3 X4 X2 X5 X6 k b3.1) (k0_pay242 (tile2 k arg2 X2)) (b3.2.1 ++ b2.2.1) 8 (le_refl 8) := by
  intro b2 b3
  unfold trip
  dsimp only
  rfl

/-- The pieces of the keys' accumulator that a trip writes. -/
theorem Witness.trip_dk : (trip (F := F) c i arg2 harg2 arg3 harg3 arg4 harg4 arg5 harg5 arg6 harg6 arg7 harg7 arg8 harg8 arg9 harg9 arg10 harg10 arg11 harg11 v2 v3 X2 X3 X4 X5 X6 k).2.1 f10 f11 = accPiecesW arg10 f10 (fun s => k0_off8 k (BitVec.ofNat 32 (128 * s.val))) (k0_off8_inb k)
      (ownDz arg2 arg3 arg4 arg5 arg6 v2 v3 X3 X4 X2 X5 X6 k (before2 (F := F) c i arg2 harg2 arg3 harg3 arg4 harg4 arg5 harg5 arg6 harg6 arg7 harg7 arg8 harg8 arg9 harg9 arg10 harg10 arg11 harg11 v2 v3 X3 X4 X2 X5 X6 k f10 f11).1) (k0_pay242 (tile2 k arg2 X2)) (before2 (F := F) c i arg2 harg2 arg3 harg3 arg4 harg4 arg5 harg5 arg6 harg6 arg7 harg7 arg8 harg8 arg9 harg9 arg10 harg10 arg11 harg11 v2 v3 X3 X4 X2 X5 X6 k f10 f11).2.1 8 (le_refl 8) := by
  rw [trip_dk_raw, before3_eq]
  rfl

theorem trip_dv_raw :
    let b2 := before2 (F := F) c i arg2 harg2 arg3 harg3 arg4 harg4 arg5 harg5 arg6 harg6 arg7 harg7 arg8 harg8 arg9 harg9 arg10 harg10 arg11 harg11 v2 v3 X3 X4 X2 X5 X6 k f10 f11
    let b3 := before3 (F := F) c i arg2 harg2 arg3 harg3 arg4 harg4 arg5 harg5 arg6 harg6 arg7 harg7 arg8 harg8 arg9 harg9 arg10 harg10 arg11 harg11 v2 v3 X3 X4 X2 X5 X6 k f10 f11 b2
    (trip (F := F) c i arg2 harg2 arg3 harg3 arg4 harg4 arg5 harg5 arg6 harg6 arg7 harg7 arg8 harg8 arg9 harg9 arg10 harg10 arg11 harg11 v2 v3 X2 X3 X4 X5 X6 k).2.2.1 f10 f11 = accPiecesW arg11 f11 (fun s => k0_off8 k (BitVec.ofNat 32 (128 * s.val))) (k0_off8_inb k)
      (ownW arg2 arg3 arg4 arg5 arg6 v2 v3 X3 X4 X2 X5 X6 k b3.1) (k0_pay243 (tile2 k arg5 X5)) (b3.2.2 ++ b2.2.2) 8 (le_refl 8) := by
  intro b2 b3
  unfold trip
  dsimp only
  rfl

/-- The pieces of the values' accumulator that a trip writes. -/
theorem Witness.trip_dv : (trip (F := F) c i arg2 harg2 arg3 harg3 arg4 harg4 arg5 harg5 arg6 harg6 arg7 harg7 arg8 harg8 arg9 harg9 arg10 harg10 arg11 harg11 v2 v3 X2 X3 X4 X5 X6 k).2.2.1 f10 f11 = accPiecesW arg11 f11 (fun s => k0_off8 k (BitVec.ofNat 32 (128 * s.val))) (k0_off8_inb k)
      (ownW arg2 arg3 arg4 arg5 arg6 v2 v3 X3 X4 X2 X5 X6 k (before2 (F := F) c i arg2 harg2 arg3 harg3 arg4 harg4 arg5 harg5 arg6 harg6 arg7 harg7 arg8 harg8 arg9 harg9 arg10 harg10 arg11 harg11 v2 v3 X3 X4 X2 X5 X6 k f10 f11).1) (k0_pay243 (tile2 k arg5 X5)) (before2 (F := F) c i arg2 harg2 arg3 harg3 arg4 harg4 arg5 harg5 arg6 harg6 arg7 harg7 arg8 harg8 arg9 harg9 arg10 harg10 arg11 harg11 v2 v3 X3 X4 X2 X5 X6 k f10 f11).2.2 8 (le_refl 8) := by
  rw [trip_dv_raw, before3_eq]
  rfl

end

end Cert.Proof.SB
end
-- ==== Proof.Acc.lean ====
/-
  The accumulators of the key and value gradients over the reals: a group's stores add a tile's products to the rows of
  the group's keys.
-/
module

public import proofs.«01_k».proof.Proof.Block
public import proofs.«01_k».proof.Proof.Witness
public import Idealize.ShloMosaic.Lib.WritesUnit

@[expose] public section

set_option maxRecDepth 16384

noncomputable section

namespace Cert.Proof.SB

open Cert.KernelIdeal Cert.KernelIdeal.Gen
open Idealize.ShloMosaic Idealize.ShloMosaic.TcCoe

/-- A load through a unit-stride rectangle, at an index: the contents at the index moved by the offsets. -/
theorem readAt_unit {sig : RefSig} {κ : Kind} {sp : Space} {s : Shape} {e : EltTy} {Val : EltTy → Type} (v : View sig κ sp s e)
    (f : v.ty.Contents Val) {off off' size : Fin s.rank → ℕ} (inb : ∀ a, off a + size a ≤ s.size a)
    (x : (Rect.unit off size inb).shape.Idx) (y : s.Idx) (heq : off = off') (h : ∀ a, (y a).val = off' a + (x a).val) :
    v.readAt Val (Rect.unit off size inb).toLoadRect f x = v.read Val f y := by
  subst heq
  exact congrArg (v.read Val f) (funext fun a => Fin.ext ((congrArg (off a + ·) (Nat.one_mul (x a).val)).trans (h a).symm))

variable (arg : Memref sig .tc .vmem S2048x128 .f32)

/-- An accumulator holds the real numbers `A`. -/
def AccOk (f : BufTy.Contents (Elt Ideal) arg.view.ty) (A : ℕ → ℕ → ℝ) : Prop :=
  ∀ (s : Fin 2048) (d : Fin 128), View.read (Elt Ideal) arg.view f (ix2 s d) = (A s d : EReal)

/-- The rows of `n` blocks from `B` on get a tile's product added. -/
def addRows (A : ℕ → ℕ → ℝ) (X Y : ℕ → ℕ → ℝ) (B n : ℕ) (s d : ℕ) : ℝ :=
  A s d + if B ≤ s ∧ s < B + 128 * n then ∑ r : Fin 1024, X r s * Y r d else 0

variable {arg}

/-- One store: a block's rows become what `f'` has there with the product added. -/
theorem acc_step {f f' : BufTy.Contents (Elt Ideal) arg.view.ty} {L : List (View.Piece (Elt Ideal) S2048x128 .f32)} {A X Y : ℕ → ℕ → ℝ} {B n : ℕ} (hn : B + 128 * (n + 1) ≤ 2048)
    {x : FVec Ideal S1024x128 .f32} {y : FVec Ideal S1024x128 .bf16} {off : Fin 2 → ℕ} (inb : ∀ a, off a + S128x128.size a ≤ S2048x128.size a)
    (hoff : off = ![B + 128 * n, 0])
    (hL : AccOk arg (arg.view.writes (Elt Ideal) f L) (addRows A X Y B n))
    (hf : ∀ (s : Fin 2048) (d : Fin 128), B + 128 * n ≤ s.val → View.read (Elt Ideal) arg.view f' (ix2 s d) = (A s d : EReal))
    (hx : ∀ (r : Fin 1024) (c : Fin 128), x (ix2 r c) = (X r (B + 128 * n + c) : EReal))
    (hy : ∀ (r : Fin 1024) (d : Fin 128), y (ix2 r d) = (Y r d : EReal)) :
    AccOk arg (arg.view.writes (Elt Ideal) f (⟨Rect.unit (s := S2048x128) off S128x128.size inb,
      accOf (View.readAt (Elt Ideal) arg.view (Rect.unit (s := S2048x128) off S128x128.size inb).toLoadRect f') x y⟩ :: L)) (addRows A X Y B (n + 1)) := by
  intro s d
  by_cases h : B + 128 * n ≤ s.val ∧ s.val < B + 128 * n + 128
  · rw [View.read_writes_cons_rows_of_mem arg.view f inb _ L (ix2 s d) (ix2 ⟨s.val - (B + 128 * n), by omega⟩ d) hoff
      (by show s.val = B + 128 * n + (s.val - (B + 128 * n)); omega) rfl]
    pointwise [accOf]
    rw [readAt_unit arg.view f' inb _ (ix2 s d) hoff (Fin.forall_fin_two.mpr ⟨by show s.val = B + 128 * n + (s.val - (B + 128 * n)); omega,
      (Nat.zero_add _).symm⟩), hf s d h.1]
    simp only [hx, hy, ← EReal.coe_mul, sum_coe, ← EReal.coe_add]
    unfold addRows
    rw [if_pos (by omega), show B + 128 * n + (s.val - (B + 128 * n)) = s.val by omega]
  · rw [View.read_writes_cons_rows_of_not_mem arg.view f inb _ L (ix2 s d) hoff rfl
      (by show s.val < B + 128 * n ∨ B + 128 * n + 128 ≤ s.val; omega), hL s d]
    unfold addRows
    congr 2
    refine if_congr ?_ rfl rfl
    omega

/-- What the stores of the first `n` blocks leave, each block read at the contents before the group. -/
theorem accPieces_ok {f : BufTy.Contents (Elt Ideal) arg.view.ty} {A X Y : ℕ → ℕ → ℝ} {B : ℕ} (hB : B + 1024 ≤ 2048)
    {x : Fin 8 → FVec Ideal S1024x128 .f32} {y : FVec Ideal S1024x128 .bf16} {off : Fin 8 → Fin 2 → ℕ}
    (inb : ∀ s a, off s a + S128x128.size a ≤ S2048x128.size a) (hoff : ∀ s : Fin 8, off s = ![B + 128 * s, 0]) (hA : AccOk arg f A)
    (hx : ∀ (s : Fin 8) (r : Fin 1024) (c : Fin 128), x s (ix2 r c) = (X r (B + 128 * s + c) : EReal))
    (hy : ∀ (r : Fin 1024) (d : Fin 128), y (ix2 r d) = (Y r d : EReal)) : ∀ (n : ℕ) (hn : n ≤ 8),
    AccOk arg (arg.view.writes (Elt Ideal) f (accPieces arg f off inb x y n hn)) (addRows A X Y B n)
  | 0, _ => fun s d => by
    rw [accPieces, View.writes_nil, hA s d, addRows, if_neg (by omega), add_zero]
  | n + 1, hn => acc_step (by omega) (inb ⟨n, hn⟩) (hoff ⟨n, hn⟩) (accPieces_ok hB inb hoff hA hx hy n (Nat.le_of_succ_le hn))
      (fun s d _ => hA s d) (hx ⟨n, hn⟩) hy

/-- The same, each block read through the stores before it. -/
theorem accPiecesW_ok {f : BufTy.Contents (Elt Ideal) arg.view.ty} {base : List (View.Piece (Elt Ideal) S2048x128 .f32)} {A X Y : ℕ → ℕ → ℝ} {B : ℕ} (hB : B + 1024 ≤ 2048)
    {x : Fin 8 → FVec Ideal S1024x128 .f32} {y : FVec Ideal S1024x128 .bf16} {off : Fin 8 → Fin 2 → ℕ}
    (inb : ∀ s a, off s a + S128x128.size a ≤ S2048x128.size a) (hoff : ∀ s : Fin 8, off s = ![B + 128 * s, 0])
    (hA : AccOk arg (arg.view.writes (Elt Ideal) f base) A)
    (hx : ∀ (s : Fin 8) (r : Fin 1024) (c : Fin 128), x s (ix2 r c) = (X r (B + 128 * s + c) : EReal))
    (hy : ∀ (r : Fin 1024) (d : Fin 128), y (ix2 r d) = (Y r d : EReal)) : ∀ (n : ℕ) (hn : n ≤ 8),
    AccOk arg (arg.view.writes (Elt Ideal) f (accPiecesW arg f off inb x y base n hn)) (addRows A X Y B n)
  | 0, _ => fun s d => by
    rw [accPiecesW, hA s d, addRows, if_neg (by omega), add_zero]
  | n + 1, hn => acc_step (by omega) (inb ⟨n, hn⟩) (hoff ⟨n, hn⟩) (accPiecesW_ok hB inb hoff hA hx hy n (Nat.le_of_succ_le hn))
      (fun s d h => by
        rw [accPiecesW_ok hB inb hoff hA hx hy n (Nat.le_of_succ_le hn) s d, addRows, if_neg (by omega), add_zero]) (hx ⟨n, hn⟩) hy

end Cert.Proof.SB

end
-- ==== Proof.Tile.lean ====
/-
  A trip of the outer loop over the reals: the query gradient of a tile of 1024 positions, and the tile's share of the
  key and value gradients; then all trips.
-/
module

public import proofs.«01_k».proof.Proof.Acc

@[expose] public section

set_option maxRecDepth 16384

noncomputable section

namespace Cert.Proof.SB

open Cert.KernelIdeal Cert.KernelIdeal.Gen
open Idealize.ShloMosaic Idealize.ShloMosaic.TcCoe

variable (c : Dev nD) (i : grid0.Coords)
  (arg2 : Memref sig .tc .vmem S1x2048x128 .bf16) (harg2 : arg2.IsWhole) (arg3 : Memref sig .tc .vmem S1x2048x128 .bf16) (harg3 : arg3.IsWhole)
  (arg4 : Memref sig .tc .vmem S1x2048x128 .bf16) (harg4 : arg4.IsWhole) (arg5 : Memref sig .tc .vmem S1x2048x128 .bf16) (harg5 : arg5.IsWhole)
  (arg6 : Memref sig .tc .vmem S1x1x2048x128 .f32) (harg6 : arg6.IsWhole) (arg7 : Memref sig .tc .vmem S1x2048x128 .bf16) (harg7 : arg7.IsWhole)
  (arg8 : Memref sig .tc .vmem S1x2048x128 .bf16) (harg8 : arg8.IsWhole) (arg9 : Memref sig .tc .vmem S1x2048x128 .bf16) (harg9 : arg9.IsWhole)
  (arg10 : Memref sig .tc .vmem S2048x128 .f32) (harg10 : arg10.IsWhole) (arg11 : Memref sig .tc .vmem S2048x128 .f32) (harg11 : arg11.IsWhole)
  (X2 : BufTy.Contents (Elt Ideal) arg2.view.ty) (X3 : BufTy.Contents (Elt Ideal) arg3.view.ty) (X4 : BufTy.Contents (Elt Ideal) arg4.view.ty)
  (X5 : BufTy.Contents (Elt Ideal) arg5.view.ty) (X6 : BufTy.Contents (Elt Ideal) arg6.view.ty)

/-- The positions and keys of a tile. -/
abbrev vi2 : IVec S1024x128 32 := iota .tc S1024x128 32 [0] iota_S1024x128_d0_w32
abbrev vi3 : IVec S1024x128 32 := iota .tc S1024x128 32 [1] iota_S1024x128_d1_w32

/-- The five inputs' blocks are one head's arrays, the last the rows' totals. -/
structure InOk (H : Head) : Prop where
  h2 : ∀ (s : Fin 2048) (d : Fin 128), View.read (Elt Ideal) arg2.view X2 (ix3 0 s d) = (H.q s d : EReal)
  h3 : ∀ (s : Fin 2048) (d : Fin 128), View.read (Elt Ideal) arg3.view X3 (ix3 0 s d) = (H.k s d : EReal)
  h4 : ∀ (s : Fin 2048) (d : Fin 128), View.read (Elt Ideal) arg4.view X4 (ix3 0 s d) = (H.v s d : EReal)
  h5 : ∀ (s : Fin 2048) (d : Fin 128), View.read (Elt Ideal) arg5.view X5 (ix3 0 s d) = (H.g s d : EReal)
  h6 : ∀ (s : Fin 2048) (d : Fin 128), View.read (Elt Ideal) arg6.view X6 (ix4 0 0 s d) = (H.TOT s : EReal)

theorem trip_lt : ∀ k : Fin k0_t1_loop.trips, k.val < 2 := by decide +kernel
theorem group_lt : ∀ (k : Fin k0_t1_loop.trips) (t : Fin (k0_t2_loop k).trips), t.val < k.val := by decide +kernel

variable {arg2 arg3 arg4 arg5 arg6 X2 X3 X4 X5 X6} {H : Head} (h : InOk arg2 arg3 arg4 arg5 arg6 X2 X3 X4 X5 X6 H)

/-- A load of rows of one head's array. -/
theorem rows_at {arg : Memref sig .tc .vmem S1x2048x128 .bf16} {X : BufTy.Contents (Elt Ideal) arg.view.ty} {f : ℕ → ℕ → ℝ}
    (hX : ∀ (s : Fin 2048) (d : Fin 128), View.read (Elt Ideal) arg.view X (ix3 0 s d) = (f s d : EReal)) {n o : ℕ} (ho : o + n ≤ 2048)
    {off : Fin 3 → ℕ} (inb : ∀ a, off a + (![1, n, 128] : Fin 3 → ℕ) a ≤ S1x2048x128.size a) (hoff : off = ![0, o, 0]) (r : Fin n) (d : Fin 128) :
    View.readAt (Elt Ideal) arg.view (Rect.unit (s := S1x2048x128) off ![1, n, 128] inb).toLoadRect X (ix3 (0 : Fin 1) r d) = (f (o + r) d : EReal) := by
  rw [readAt_unit arg.view X inb _ (ix3 0 ⟨o + r.val, by have := r.isLt; omega⟩ d) hoff (by
    intro a; fin_cases a
    · rfl
    · rfl
    · exact (Nat.zero_add _).symm)]
  exact hX _ _

theorem tile2_at {arg : Memref sig .tc .vmem S1x2048x128 .bf16} {X : BufTy.Contents (Elt Ideal) arg.view.ty} {f : ℕ → ℕ → ℝ}
    (hX : ∀ (s : Fin 2048) (d : Fin 128), View.read (Elt Ideal) arg.view X (ix3 0 s d) = (f s d : EReal)) (k : Fin k0_t1_loop.trips)
    (r : Fin 1024) (d : Fin 128) : tile2 k arg X (ix3 0 r d) = (f (1024 * k + r) d : EReal) :=
  rows_at hX (by have := trip_lt k; omega) (k0_off1_inb k) (k0_off1_eq k) r d

include h in
theorem tile_ok (k : Fin k0_t1_loop.trips) :
    TileOk H (1024 * k) (k0_pay242 (tile2 k arg2 X2)) (k0_pay243 (tile2 k arg5 X5)) (k0_pay244 (tile6 arg6 X6 k)) := by
  have hk := trip_lt k
  refine ⟨fun r d => ?_, fun r d => ?_, fun r => ?_⟩
  · pointwise [k0_pay242]
    exact tile2_at h.h2 k r d
  · pointwise [k0_pay243]
    exact tile2_at h.h5 k r d
  · pointwise [k0_pay244]
    rw [tile6, readAt_unit arg6.view X6 _ _ (ix4 0 0 ⟨1024 * k + r, by omega⟩ 0) (k0_off2_eq k) (by
      intro a; fin_cases a <;> rfl)]
    exact h.h6 _ _

theorem cast3_at (R : FVec Ideal S1x128x128 .bf16) (c d : Fin 128) : shapeCast S128x128 R shapeCasts_S1x128x128_S128x128 (ix2 c d) = R (ix3 0 c d) := by
  pointwise []

theorem blk3_at {arg : Memref sig .tc .vmem S1x2048x128 .bf16} {X : BufTy.Contents (Elt Ideal) arg.view.ty} {f : ℕ → ℕ → ℝ}
    (hX : ∀ (s : Fin 2048) (d : Fin 128), View.read (Elt Ideal) arg.view X (ix3 0 s d) = (f s d : EReal)) (k : Fin k0_t1_loop.trips)
    (t : Fin (k0_t2_loop k).trips) (s : Fin 8) (c d : Fin 128) : blk3 arg X k t s (ix2 c d) = (f (1024 * t.val + 128 * s.val + c.val) d : EReal) := by
  have hs : 1024 * t.val + 128 * s.val + 128 ≤ 2048 := by
    have hk := trip_lt k
    have ht := group_lt k t
    omega
  exact (cast3_at _ c d).trans <| rows_at hX hs (k0_off3_inb k t s) (k0_off3_eq k t s) c d

theorem blk7_at {arg : Memref sig .tc .vmem S1x2048x128 .bf16} {X : BufTy.Contents (Elt Ideal) arg.view.ty} {f : ℕ → ℕ → ℝ}
    (hX : ∀ (s : Fin 2048) (d : Fin 128), View.read (Elt Ideal) arg.view X (ix3 0 s d) = (f s d : EReal)) (k : Fin k0_t1_loop.trips)
    (s : Fin 8) (c d : Fin 128) : blk7 k arg X s (ix2 c d) = (f (1024 * k.val + 128 * s.val + c.val) d : EReal) := by
  have hs : 1024 * k.val + 128 * s.val + 128 ≤ 2048 := by
    have hk := trip_lt k
    omega
  exact (cast3_at _ c d).trans <| rows_at hX hs (k0_off7_inb k s) (k0_off7_eq k s) c d

include h in
theorem group_ok (k : Fin k0_t1_loop.trips) (t : Fin (k0_t2_loop k).trips) :
    GroupOk H (1024 * k) (1024 * t) (fun _ => none) (blk3 arg3 X3 k t) (blk3 arg4 X4 k t) :=
  ⟨blk3_at h.h3 k t, blk3_at h.h4 k t, fun s => by
    have ht := group_lt k t
    show 1024 * t.val + 128 * s.val + 128 ≤ 1024 * k.val
    omega⟩

include h in
theorem own_ok (k : Fin k0_t1_loop.trips) :
    GroupOk H (1024 * k) (1024 * k) (maskAt vi2 vi3) (blk7 k arg3 X3) (blk7 k arg4 X4) :=
  ⟨blk7_at h.h3 k, blk7_at h.h4 k, fun s => maskAt_ok _ s⟩

theorem addRows_addRows (A X Y : ℕ → ℕ → ℝ) (B n : ℕ) :
    addRows (addRows A X Y 0 n) X Y (128 * n) B = addRows A X Y 0 (n + B) := by
  funext s d
  unfold addRows
  rw [add_assoc]
  congr 1
  by_cases h1 : s < 128 * n
  · rw [if_pos (by omega), if_neg (by omega), if_pos (by omega), add_zero]
  · rw [if_neg (by omega), zero_add]
    exact if_congr (by omega) rfl rfl

variable {arg10 arg11} {k : Fin k0_t1_loop.trips} {f10 : BufTy.Contents (Elt Ideal) arg10.view.ty} {f11 : BufTy.Contents (Elt Ideal) arg11.view.ty} {A10 A11 : ℕ → ℕ → ℝ}

/-- The state after `j` groups, and the accumulators. -/
structure BeforeOk (H : Head) (T j : ℕ) (f10 : BufTy.Contents (Elt Ideal) arg10.view.ty) (f11 : BufTy.Contents (Elt Ideal) arg11.view.ty) (A10 A11 : ℕ → ℕ → ℝ)
    (b : St Ideal × List (View.Piece (Elt Ideal) S2048x128 .f32) × List (View.Piece (Elt Ideal) S2048x128 .f32)) : Prop where
  st : StOk H T (1024 * j) b.1
  a10 : AccOk arg10 (arg10.view.writes (Elt Ideal) f10 b.2.1) (addRows A10 (fun r s => H.DZ (T + r) s) (fun r d => H.q (T + r) d) 0 (8 * j))
  a11 : AccOk arg11 (arg11.view.writes (Elt Ideal) f11 b.2.2) (addRows A11 (fun r s => H.W (T + r) s) (fun r d => H.g (T + r) d) 0 (8 * j))

theorem addRows_zero (A X Y : ℕ → ℕ → ℝ) : addRows A X Y 0 0 = A := by
  funext s d
  rw [addRows, if_neg (by omega), add_zero]

include h in
theorem groups_ok (h10 : AccOk arg10 f10 A10) (h11 : AccOk arg11 f11 A11) : ∀ j : ℕ, j ≤ (k0_t2_loop k).trips →
    BeforeOk (arg10 := arg10) (arg11 := arg11) H (1024 * k) j f10 f11 A10 A11
      (st_k0_t2 (F := Ideal) 𝒱₀ c none i arg2 harg2 arg3 harg3 arg4 harg4 arg5 harg5 arg6 harg6 arg7 harg7 arg8 harg8 arg9 harg9 arg10 harg10 arg11 harg11 vi2 vi3 k0_pay1 k0_pay2 0#32 1#32 k
        (tile2 k arg2 X2) (tile2 k arg5 X5) (tile6 arg6 X6 k) X3 X4 f10 f11 (k0_pay245, k0_pay245, k0_pay246) j)
  | 0, _ => by
    refine ⟨init_ok H _, ?_, ?_⟩
    · rw [Nat.mul_zero, addRows_zero]; exact h10
    · rw [Nat.mul_zero, addRows_zero]; exact h11
  | j + 1, hj => by
    have ih := groups_ok h10 h11 j (Nat.le_of_succ_le hj)
    have hg := group_ok h k ⟨j, hj⟩
    have ht := tile_ok h k
    have hk := trip_lt k
    have hjk := group_lt k ⟨j, hj⟩
    have hB : 1024 * j + 1024 ≤ 2048 := by
      have : j < k.val := hjk
      omega
    have e := st_k0_t2_succ (F := Ideal) 𝒱₀ c none i arg2 harg2 arg3 harg3 arg4 harg4 arg5 harg5 arg6 harg6 arg7 harg7 arg8 harg8 arg9 harg9 arg10 harg10 arg11 harg11 vi2 vi3 k0_pay1 k0_pay2 0#32 1#32 k
        (tile2 k arg2 X2) (tile2 k arg5 X5) (tile6 arg6 X6 k) X3 X4 f10 f11 (k0_pay245, k0_pay245, k0_pay246) ⟨j, hj⟩
    rw [tripR_eq, tripL_eq] at e
    rw [e]
    dsimp only
    refine ⟨stN_ok H _ _ ht hg ih.st 8 (le_refl 8), ?_, ?_⟩
    · rw [View.writes_append, show 8 * (j + 1) = 8 * j + 8 from rfl, ← addRows_addRows]
      have := accPieces_ok (X := fun r s => H.DZ (1024 * k + r) s) (Y := fun r d => H.q (1024 * k + r) d) (B := 1024 * j) hB (k0_off4_inb k ⟨j, hj⟩)
        (fun s => k0_off4_eq k ⟨j, hj⟩ s) ih.a10 (fun s r c => dzAt_at H _ _ ht hg s (stN_ok H _ _ ht hg ih.st s.val s.isLt.le) r c) ht.hq 8 (le_refl 8)
      rw [show 128 * (8 * j) = 1024 * j by omega]
      exact this
    · rw [View.writes_append, show 8 * (j + 1) = 8 * j + 8 from rfl, ← addRows_addRows]
      have := accPieces_ok (X := fun r s => H.W (1024 * k + r) s) (Y := fun r d => H.g (1024 * k + r) d) (B := 1024 * j) hB (k0_off4_inb k ⟨j, hj⟩)
        (fun s => k0_off4_eq k ⟨j, hj⟩ s) ih.a11 (fun s r c => wAt_at H _ _ ht hg s (stN_ok H _ _ ht hg ih.st s.val s.isLt.le) r c) ht.hg 8 (le_refl 8)
      rw [show 128 * (8 * j) = 1024 * j by omega]
      exact this

include h in
theorem before2_ok (h10 : AccOk arg10 f10 A10) (h11 : AccOk arg11 f11 A11) :
    BeforeOk (arg10 := arg10) (arg11 := arg11) H (1024 * k) k f10 f11 A10 A11
      (before2 (F := Ideal) c i arg2 harg2 arg3 harg3 arg4 harg4 arg5 harg5 arg6 harg6 arg7 harg7 arg8 harg8 arg9 harg9 arg10 harg10 arg11 harg11 vi2 vi3 X3 X4 X2 X5 X6 k f10 f11) := by
  have := groups_ok (k := k) c i harg2 harg3 harg4 harg5 harg6 arg7 harg7 arg8 harg8 arg9 harg9 harg10 harg11 h h10 h11 k.val (by
    have := trips2 k
    exact this.symm.le)
  unfold before2
  rw [trips2]
  exact this

include h in
/-- The keys' accumulator after a trip. -/
theorem trip_dk_ok (h10 : AccOk arg10 f10 A10) (h11 : AccOk arg11 f11 A11) :
    AccOk arg10 (arg10.view.writes (Elt Ideal) f10 ((trip (F := Ideal) c i arg2 harg2 arg3 harg3 arg4 harg4 arg5 harg5 arg6 harg6 arg7 harg7 arg8 harg8 arg9 harg9 arg10 harg10 arg11 harg11 vi2 vi3 X2 X3 X4 X5 X6 k).2.1 f10 f11))
      (addRows A10 (fun r s => H.DZ (1024 * k + r) s) (fun r d => H.q (1024 * k + r) d) 0 (8 * (k + 1))) := by
  have hk := trip_lt k
  have ht := tile_ok h k
  have hg := own_ok h k
  have hb := before2_ok (k := k) c i harg2 harg3 harg4 harg5 harg6 arg7 harg7 arg8 harg8 arg9 harg9 harg10 harg11 h h10 h11
  rw [Witness.trip_dk, show 8 * (k.val + 1) = 8 * k.val + 8 from rfl, ← addRows_addRows, show 128 * (8 * k.val) = 1024 * k.val by omega]
  exact accPiecesW_ok (X := fun r s => H.DZ (1024 * k + r) s) (Y := fun r d => H.q (1024 * k + r) d) (by omega) (k0_off8_inb k)
        (fun s => k0_off8_eq k s) hb.a10 (fun s r c => dzAt_at H _ _ ht hg s (stN_ok H _ _ ht hg hb.st s.val s.isLt.le) r c) ht.hq 8 (le_refl 8)

include h in
/-- The values' accumulator after a trip. -/
theorem trip_dv_ok (h10 : AccOk arg10 f10 A10) (h11 : AccOk arg11 f11 A11) :
    AccOk arg11 (arg11.view.writes (Elt Ideal) f11 ((trip (F := Ideal) c i arg2 harg2 arg3 harg3 arg4 harg4 arg5 harg5 arg6 harg6 arg7 harg7 arg8 harg8 arg9 harg9 arg10 harg10 arg11 harg11 vi2 vi3 X2 X3 X4 X5 X6 k).2.2.1 f10 f11))
      (addRows A11 (fun r s => H.W (1024 * k + r) s) (fun r d => H.g (1024 * k + r) d) 0 (8 * (k + 1))) := by
  have hk := trip_lt k
  have ht := tile_ok h k
  have hg := own_ok h k
  have hb := before2_ok (k := k) c i harg2 harg3 harg4 harg5 harg6 arg7 harg7 arg8 harg8 arg9 harg9 harg10 harg11 h h10 h11
  rw [Witness.trip_dv, show 8 * (k.val + 1) = 8 * k.val + 8 from rfl, ← addRows_addRows, show 128 * (8 * k.val) = 1024 * k.val by omega]
  exact accPiecesW_ok (X := fun r s => H.W (1024 * k + r) s) (Y := fun r d => H.g (1024 * k + r) d) (by omega) (k0_off8_inb k)
        (fun s => k0_off8_eq k s) hb.a11 (fun s r c => wAt_at H _ _ ht hg s (stN_ok H _ _ ht hg hb.st s.val s.isLt.le) r c) ht.hg 8 (le_refl 8)

/-- The terms of a sum after those that vanish. -/
theorem sum_of_vanish (f : ℕ → ℝ) {a b : ℕ} (hab : a ≤ b) (hf : ∀ s, a ≤ s → f s = 0) : ∑ s ∈ Finset.range a, f s = ∑ s ∈ Finset.range b, f s := by
  refine Finset.sum_subset (Finset.range_subset_range.2 hab) fun s _ hs => hf s ?_
  simpa using hs

include h in
/-- The query gradient's piece of a trip. -/
theorem trip_dq_ok (h10 : AccOk arg10 f10 A10) (h11 : AccOk arg11 f11 A11) (f7 : BufTy.Contents (Elt Ideal) arg7.view.ty) (L : List (View.Piece (Elt Ideal) S1x2048x128 .bf16))
    (hL : ∀ (s : Fin 2048) (d : Fin 128), s.val < 1024 * k → View.read (Elt Ideal) arg7.view (arg7.view.writes (Elt Ideal) f7 L) (ix3 0 s d) = (H.DQ s d : EReal))
    (s : Fin 2048) (d : Fin 128) (hs : s.val < 1024 * (k + 1)) :
    View.read (Elt Ideal) arg7.view (arg7.view.writes (Elt Ideal) f7
      ((trip (F := Ideal) c i arg2 harg2 arg3 harg3 arg4 harg4 arg5 harg5 arg6 harg6 arg7 harg7 arg8 harg8 arg9 harg9 arg10 harg10 arg11 harg11 vi2 vi3 X2 X3 X4 X5 X6 k).1 f10 f11 ++ L)) (ix3 0 s d) = (H.DQ s d : EReal) := by
  have hk := trip_lt k
  have ht := tile_ok h k
  have hg := own_ok h k
  have hb := before2_ok (k := k) c i harg2 harg3 harg4 harg5 harg6 arg7 harg7 arg8 harg8 arg9 harg9 harg10 harg11 h h10 h11
  rw [Witness.trip_dq, List.singleton_append]
  by_cases hsk : s.val < 1024 * k
  · rw [View.read_writes_cons_unit_of_not_mem arg7.view f7 _ _ L (ix3 0 s d) (k0_off1_eq k) 1 (Or.inl hsk)]
    exact hL s d hsk
  · have hr : s.val - 1024 * k.val < 1024 := by omega
    rw [View.read_writes_cons_unit_of_mem arg7.view f7 (k0_off1_inb k) _ L (ix3 0 s d) (ix3 (0 : Fin 1) (⟨s.val - 1024 * k.val, hr⟩ : Fin 1024) d) (k0_off1_eq k) (by
      intro a; fin_cases a
      · rfl
      · show s.val = 1024 * k.val + (s.val - 1024 * k.val); omega
      · exact (Nat.zero_add _).symm)]
    have := (stN_ok H _ _ ht hg hb.st 8 (le_refl 8)).hd ⟨s.val - 1024 * k, by omega⟩ d
    rw [show 1024 * k.val + (s.val - 1024 * k.val) = s.val by omega] at this
    rw [Head.DQ, ← sum_of_vanish _ (show 1024 * k.val + 128 * 8 ≤ 2048 by omega) (fun t h => by rw [H.DZ_of_not_lt (by omega), zero_mul]), ← this]
    pointwise [k0_pay5]
    rfl

end Cert.Proof.SB

end
-- ==== Proof.All.lean ====
/-
  The whole body over the reals: after all trips the three results' blocks are one head's gradients.
-/
module

public import proofs.«01_k».proof.Proof.Tile

@[expose] public section

set_option maxRecDepth 16384

noncomputable section

namespace Cert.Proof.SB

open Cert.KernelIdeal Cert.KernelIdeal.Gen
open Idealize.ShloMosaic Idealize.ShloMosaic.TcCoe

section
variable (c : Dev nD) (i : grid0.Coords)
  {arg2 : Memref sig .tc .vmem S1x2048x128 .bf16} (harg2 : arg2.IsWhole) {arg3 : Memref sig .tc .vmem S1x2048x128 .bf16} (harg3 : arg3.IsWhole)
  {arg4 : Memref sig .tc .vmem S1x2048x128 .bf16} (harg4 : arg4.IsWhole) {arg5 : Memref sig .tc .vmem S1x2048x128 .bf16} (harg5 : arg5.IsWhole)
  {arg6 : Memref sig .tc .vmem S1x1x2048x128 .f32} (harg6 : arg6.IsWhole) (arg7 : Memref sig .tc .vmem S1x2048x128 .bf16) (harg7 : arg7.IsWhole)
  (arg8 : Memref sig .tc .vmem S1x2048x128 .bf16) (harg8 : arg8.IsWhole) (arg9 : Memref sig .tc .vmem S1x2048x128 .bf16) (harg9 : arg9.IsWhole)
  {arg10 : Memref sig .tc .vmem S2048x128 .f32} (harg10 : arg10.IsWhole) {arg11 : Memref sig .tc .vmem S2048x128 .f32} (harg11 : arg11.IsWhole)
  {X2 : BufTy.Contents (Elt Ideal) arg2.view.ty} {X3 : BufTy.Contents (Elt Ideal) arg3.view.ty} {X4 : BufTy.Contents (Elt Ideal) arg4.view.ty}
  {X5 : BufTy.Contents (Elt Ideal) arg5.view.ty} {X6 : BufTy.Contents (Elt Ideal) arg6.view.ty}
  {H : Head} (h : InOk arg2 arg3 arg4 arg5 arg6 X2 X3 X4 X5 X6 H)

/-- The key gradient's sum over the positions before `n`. -/
def DKn (H : Head) (n s d : ℕ) : ℝ := ∑ t ∈ Finset.range n, H.DZ t s * H.q t d

/-- The value gradient's. -/
def DVn (H : Head) (n s d : ℕ) : ℝ := ∑ t ∈ Finset.range n, H.W t s * H.g t d

theorem DKn_step (H : Head) (k : ℕ) :
    addRows (DKn H (1024 * k)) (fun r s => H.DZ (1024 * k + r) s) (fun r d => H.q (1024 * k + r) d) 0 (8 * (k + 1)) = DKn H (1024 * (k + 1)) := by
  funext s d
  rw [addRows, DKn, DKn, show 1024 * (k + 1) = 1024 * k + 1024 by ring, sum_range_block]
  congr 1
  split
  · rfl
  · symm
    exact Finset.sum_eq_zero fun r _ => by rw [H.DZ_of_not_lt (by have := r.isLt; omega), zero_mul]

theorem DVn_step (H : Head) (k : ℕ) :
    addRows (DVn H (1024 * k)) (fun r s => H.W (1024 * k + r) s) (fun r d => H.g (1024 * k + r) d) 0 (8 * (k + 1)) = DVn H (1024 * (k + 1)) := by
  funext s d
  rw [addRows, DVn, DVn, show 1024 * (k + 1) = 1024 * k + 1024 by ring, sum_range_block]
  congr 1
  split
  · rfl
  · symm
    exact Finset.sum_eq_zero fun r _ => by rw [H.W_of_not_lt (by have := r.isLt; omega), zero_mul]

/-- What the trips before `n` leave. -/
structure PiecesOk (H : Head) (n : ℕ) (f7 : BufTy.Contents (Elt Ideal) arg7.view.ty) (G10 : BufTy.Contents (Elt Ideal) arg10.view.ty) (G11 : BufTy.Contents (Elt Ideal) arg11.view.ty)
    (p : List (View.Piece (Elt Ideal) S1x2048x128 .bf16) × List (View.Piece (Elt Ideal) S2048x128 .f32) × List (View.Piece (Elt Ideal) S2048x128 .f32)) : Prop where
  dq : ∀ (s : Fin 2048) (d : Fin 128), s.val < 1024 * n → View.read (Elt Ideal) arg7.view (arg7.view.writes (Elt Ideal) f7 p.1) (ix3 0 s d) = (H.DQ s d : EReal)
  dk : AccOk arg10 (arg10.view.writes (Elt Ideal) G10 p.2.1) (DKn H (1024 * n))
  dv : AccOk arg11 (arg11.view.writes (Elt Ideal) G11 p.2.2) (DVn H (1024 * n))

variable (G10 : BufTy.Contents (Elt Ideal) arg10.view.ty) (G11 : BufTy.Contents (Elt Ideal) arg11.view.ty) (f7 : BufTy.Contents (Elt Ideal) arg7.view.ty)

include h in
theorem pieces_ok (h10 : AccOk arg10 G10 (fun _ _ => 0)) (h11 : AccOk arg11 G11 (fun _ _ => 0)) : ∀ n : ℕ, n ≤ k0_t1_loop.trips →
    PiecesOk arg7 H n f7 G10 G11
      (pieces (F := Ideal) c i arg2 harg2 arg3 harg3 arg4 harg4 arg5 harg5 arg6 harg6 arg7 harg7 arg8 harg8 arg9 harg9 arg10 harg10 arg11 harg11 vi2 vi3 X2 X3 X4 X5 X6 G10 G11 n)
  | 0, _ => ⟨fun s d hs => absurd hs (by omega), fun s d => by
      rw [show DKn H (1024 * 0) = fun _ _ => 0 from funext fun s => funext fun d => Finset.sum_empty]; exact h10 s d, fun s d => by
      rw [show DVn H (1024 * 0) = fun _ _ => 0 from funext fun s => funext fun d => Finset.sum_empty]; exact h11 s d⟩
  | n + 1, hn => by
    have ih := pieces_ok h10 h11 n (Nat.le_of_succ_le hn)
    have e := pieces_succ (F := Ideal) c i arg2 harg2 arg3 harg3 arg4 harg4 arg5 harg5 arg6 harg6 arg7 harg7 arg8 harg8 arg9 harg9 arg10 harg10 arg11 harg11 vi2 vi3 X2 X3 X4 X5 X6 G10 G11 ⟨n, hn⟩
    rw [e]
    dsimp only
    refine ⟨fun s d hs => ?_, ?_, ?_⟩
    · exact trip_dq_ok (k := ⟨n, hn⟩) c i harg2 harg3 harg4 harg5 harg6 arg7 harg7 arg8 harg8 arg9 harg9 harg10 harg11 h ih.dk ih.dv f7 _ ih.dq s d hs
    · rw [View.writes_append, ← DKn_step]
      exact trip_dk_ok (k := ⟨n, hn⟩) c i harg2 harg3 harg4 harg5 harg6 arg7 harg7 arg8 harg8 arg9 harg9 harg10 harg11 h ih.dk ih.dv
    · rw [View.writes_append, ← DVn_step]
      exact trip_dv_ok (k := ⟨n, hn⟩) c i harg2 harg3 harg4 harg5 harg6 arg7 harg7 arg8 harg8 arg9 harg9 harg10 harg11 h ih.dk ih.dv

theorem k0_trips : Scf.trips (0#32) (Scalar.addi 0#32 2#32) 1#32 = 2 := by decide +kernel
theorem two_le : 2 ≤ k0_t1_loop.trips := by decide +kernel

/-- The five inputs' blocks, as vectors. -/
structure VecOk (H : Head) (x2 x3 x4 x5 : Vec Ideal S1x2048x128 .bf16) (x6 : Vec Ideal S1x1x2048x128 .f32) : Prop where
  h2 : ∀ (s : Fin 2048) (d : Fin 128), x2 (ix3 0 s d) = (H.q s d : EReal)
  h3 : ∀ (s : Fin 2048) (d : Fin 128), x3 (ix3 0 s d) = (H.k s d : EReal)
  h4 : ∀ (s : Fin 2048) (d : Fin 128), x4 (ix3 0 s d) = (H.v s d : EReal)
  h5 : ∀ (s : Fin 2048) (d : Fin 128), x5 (ix3 0 s d) = (H.g s d : EReal)
  h6 : ∀ (s : Fin 2048) (d : Fin 128), x6 (ix4 0 0 s d) = (H.TOT s : EReal)

variable {x2 x3 x4 x5 : Vec Ideal S1x2048x128 .bf16} {x6 : Vec Ideal S1x1x2048x128 .f32} (hx : VecOk H x2 x3 x4 x5 x6)

include hx in
theorem inOk : InOk arg2 arg3 arg4 arg5 arg6 (harg2.unread x2) (harg3.unread x3) (harg4.unread x4) (harg5.unread x5) (harg6.unread x6) H :=
  ⟨fun s d => by rw [harg2.read_unread]; exact hx.h2 s d, fun s d => by rw [harg3.read_unread]; exact hx.h3 s d, fun s d => by rw [harg4.read_unread]; exact hx.h4 s d,
    fun s d => by rw [harg5.read_unread]; exact hx.h5 s d, fun s d => by rw [harg6.read_unread]; exact hx.h6 s d⟩

theorem acc_init (arg : Memref sig .tc .vmem S2048x128 .f32) (f : BufTy.Contents (Elt Ideal) arg.view.ty) {off : Fin 2 → ℕ} (inb : ∀ a, off a + S2048x128.size a ≤ S2048x128.size a)
    (hoff : off = ![0, 0]) {w : FVec Ideal S2048x128 .f32} (hw : ∀ (s : Fin 2048) (d : Fin 128), w (ix2 s d) = 0) :
    AccOk arg (arg.view.writes (Elt Ideal) f [⟨Rect.unit (s := S2048x128) off S2048x128.size inb, w⟩]) (fun _ _ => 0) := by
  intro s d
  rw [View.read_writes_cons_rows_of_mem arg.view f inb w [] (ix2 s d) (ix2 s d) hoff (Nat.zero_add _).symm rfl]
  rw [hw]; rfl

theorem pay3_at (s : Fin 2048) (d : Fin 128) : k0_pay3 (F := Ideal) (ix2 s d) = 0 := by pointwise [k0_pay3]
theorem pay4_at (s : Fin 2048) (d : Fin 128) : k0_pay4 (F := Ideal) (ix2 s d) = 0 := by pointwise [k0_pay4]

include hx in
/-- What all trips leave. -/
theorem all_ok : PiecesOk arg7 H 2 f7 (arg10.view.writes (Elt Ideal) arg10.view.junk kernelRun.sl.H10_1) (arg11.view.writes (Elt Ideal) arg11.view.junk kernelRun.sl.H11_1)
      (pieces (F := Ideal) c i arg2 harg2 arg3 harg3 arg4 harg4 arg5 harg5 arg6 harg6 arg7 harg7 arg8 harg8 arg9 harg9 arg10 harg10 arg11 harg11 vi2 vi3
        (harg2.unread x2) (harg3.unread x3) (harg4.unread x4) (harg5.unread x5) (harg6.unread x6)
        (arg10.view.writes (Elt Ideal) arg10.view.junk kernelRun.sl.H10_1) (arg11.view.writes (Elt Ideal) arg11.view.junk kernelRun.sl.H11_1) 2) :=
  pieces_ok c i harg2 harg3 harg4 harg5 harg6 arg7 harg7 arg8 harg8 arg9 harg9 harg10 harg11 (inOk harg2 harg3 harg4 harg5 harg6 hx) _ _ f7
    (acc_init arg10 _ _ rfl pay3_at) (acc_init arg11 _ _ rfl pay4_at) 2 two_le

include hx in
theorem run_dq (s : Fin 2048) (d : Fin 128) :
    View.read (Elt Ideal) arg7.view (arg7.view.writes (Elt Ideal) f7
      (kernelRun (F := Ideal) c i arg2 harg2 arg3 harg3 arg4 harg4 arg5 harg5 arg6 harg6 arg7 harg7 arg8 harg8 arg9 harg9 arg10 harg10 arg11 harg11 x2 x3 x4 x5 x6).1) (ix3 0 s d)
      = (H.DQ s d : EReal) := by
  unfold kernelRun
  dsimp only
  rw [k0_trips]
  exact (all_ok c i harg2 harg3 harg4 harg5 harg6 arg7 harg7 arg8 harg8 arg9 harg9 harg10 harg11 f7 hx).dq s d (by have := s.isLt; omega)

/-- A load of the whole accumulator. -/
theorem whole_at (arg : Memref sig .tc .vmem S2048x128 .f32) (f : BufTy.Contents (Elt Ideal) arg.view.ty) (inb : ∀ a, (![0, 0] : Fin 2 → ℕ) a + S2048x128.size a ≤ S2048x128.size a)
    (s : Fin 2048) (d : Fin 128) :
    View.readAt (Elt Ideal) arg.view (Rect.unit (s := S2048x128) ![0, 0] S2048x128.size inb).toLoadRect f (ix2 s d) = View.read (Elt Ideal) arg.view f (ix2 s d) :=
  readAt_unit arg.view f inb (ix2 s d) (ix2 s d) rfl (Fin.forall_fin_two.mpr ⟨(Nat.zero_add _).symm, (Nat.zero_add _).symm⟩)

theorem pay6_at (x : FVec Ideal S2048x128 .f32) (s : Fin 2048) (d : Fin 128) : @Eq EReal (k0_pay6 (F := Ideal) x (ix3 0 s d)) (x (ix2 s d)) := by
  pointwise [k0_pay6]

theorem pay7_at (x : FVec Ideal S2048x128 .f32) (s : Fin 2048) (d : Fin 128) : @Eq EReal (k0_pay7 (F := Ideal) x (ix3 0 s d)) (x (ix2 s d)) := by
  pointwise [k0_pay7]

/-- A store of a whole result's block. -/
theorem store_at (arg : Memref sig .tc .vmem S1x2048x128 .bf16) (f : BufTy.Contents (Elt Ideal) arg.view.ty) (inb : ∀ a, (![0, 0, 0] : Fin 3 → ℕ) a + S1x2048x128.size a ≤ S1x2048x128.size a)
    (w : FVec Ideal S1x2048x128 .bf16) (s : Fin 2048) (d : Fin 128) :
    View.read (Elt Ideal) arg.view (arg.view.writes (Elt Ideal) f [⟨Rect.unit (s := S1x2048x128) ![0, 0, 0] S1x2048x128.size inb, w⟩]) (ix3 0 s d) = w (ix3 0 s d) :=
  View.read_writes_cons_unit_of_mem arg.view f inb w [] (ix3 0 s d) (ix3 0 s d) rfl (by
    intro a; fin_cases a
    · rfl
    · exact (Nat.zero_add _).symm
    · exact (Nat.zero_add _).symm)

include hx in
theorem run_dk (s : Fin 2048) (d : Fin 128) :
    (kernelRun (F := Ideal) c i arg2 harg2 arg3 harg3 arg4 harg4 arg5 harg5 arg6 harg6 arg7 harg7 arg8 harg8 arg9 harg9 arg10 harg10 arg11 harg11 x2 x3 x4 x5 x6).2.1 (ix3 0 s d)
      = (H.DK s d : EReal) := by
  unfold kernelRun
  dsimp only
  unfold kernelRun.sl.H8_1
  rw [store_at]
  refine (pay6_at _ s d).trans ?_
  unfold kernelRun.sl.v21
  rw [k0_trips]
  refine (whole_at arg10 _ _ s d).trans ?_
  rw [View.writes_append]
  exact (all_ok c i harg2 harg3 harg4 harg5 harg6 arg7 harg7 arg8 harg8 arg9 harg9 harg10 harg11 arg7.view.junk hx).dk s d

include hx in
theorem run_dv (s : Fin 2048) (d : Fin 128) :
    (kernelRun (F := Ideal) c i arg2 harg2 arg3 harg3 arg4 harg4 arg5 harg5 arg6 harg6 arg7 harg7 arg8 harg8 arg9 harg9 arg10 harg10 arg11 harg11 x2 x3 x4 x5 x6).2.2.1 (ix3 0 s d)
      = (H.DV s d : EReal) := by
  unfold kernelRun
  dsimp only
  unfold kernelRun.sl.H9_1
  rw [store_at]
  refine (pay7_at _ s d).trans ?_
  unfold kernelRun.sl.v26
  rw [k0_trips]
  refine (whole_at arg11 _ _ s d).trans ?_
  rw [View.writes_append]
  exact (all_ok c i harg2 harg3 harg4 harg5 harg6 arg7 harg7 arg8 harg8 arg9 harg9 harg10 harg11 arg7.view.junk hx).dv s d

end

end Cert.Proof.SB

end
-- ==== Proof.Heads.lean ====
/-
  The eight heads that the two arguments hold, and their gradients laid out as the results are.
-/
module

public import proofs.«01_k».proof.Proof.Math
public import Idealize.ShloMosaic.Lib.Pointwise

@[expose] public section

noncomputable section

namespace Cert.Proof.SB

open Idealize.ShloMosaic

/-- The projections' and the results' contents. -/
abbrev Proj := (a : Fin 3) → Fin ((![2, 2048, 1536] : Fin 3 → ℕ) a)
abbrev Res := (a : Fin 3) → Fin ((![2, 2048, 512] : Fin 3 → ℕ) a)

/-- A head's array: the 128 channels from `o` on. -/
def projOf (X : Proj → EReal) (b : Fin 2) (o t d : ℕ) : ℝ :=
  if h : t < 2048 ∧ o + d < 1536 then (X (ix3 b (⟨t, h.1⟩ : Fin 2048) (⟨o + d, h.2⟩ : Fin 1536))).toReal else 0

def resOf (X : Res → EReal) (b : Fin 2) (o t d : ℕ) : ℝ :=
  if h : t < 2048 ∧ o + d < 512 then (X (ix3 b (⟨t, h.1⟩ : Fin 2048) (⟨o + d, h.2⟩ : Fin 512))).toReal else 0

/-- Head `h` of sequence `b`. -/
def headOf (X : Proj → EReal) (G : Res → EReal) (b : Fin 2) (h : ℕ) : Head where
  q := projOf X b (128 * h)
  k := projOf X b (512 + 128 * h)
  v := projOf X b (1024 + 128 * h)
  g := resOf G b (128 * h)

/-- Every element is a real number. -/
def Finite {ι : Type} (X : ι → EReal) : Prop := ∀ i, X i = ((X i).toReal : EReal)

theorem projOf_eq {X : Proj → EReal} (hX : Finite X) (b : Fin 2) (o : ℕ) (t : Fin 2048) (d : ℕ) (h : o + d < 1536) :
    X (ix3 b t (⟨o + d, h⟩ : Fin 1536)) = (projOf X b o t d : EReal) := by
  rw [projOf, dif_pos ⟨t.isLt, h⟩]; exact hX _

theorem resOf_eq {X : Res → EReal} (hX : Finite X) (b : Fin 2) (o : ℕ) (t : Fin 2048) (d : ℕ) (h : o + d < 512) :
    X (ix3 b t (⟨o + d, h⟩ : Fin 512)) = (resOf X b o t d : EReal) := by
  rw [resOf, dif_pos ⟨t.isLt, h⟩]; exact hX _

theorem finite_of_lt_top {ι : Type} {X : ι → EReal} (h : ∀ i, max (X i) (-X i) < ⊤) : Finite X := fun i => by
  have := h i
  rw [max_lt_iff] at this
  exact (EReal.coe_toReal this.1.ne fun e => by rw [e] at this; exact absurd this.2 (by simp)).symm

/-- The three results, laid out head after head along the channels. -/
def dqOf (X : Proj → EReal) (G : Res → EReal) : Res → EReal := fun j => (((headOf X G (j 0) ((j 2).val / 128)).DQ (j 1) ((j 2).val % 128) : ℝ) : EReal)
def dkOf (X : Proj → EReal) (G : Res → EReal) : Res → EReal := fun j => (((headOf X G (j 0) ((j 2).val / 128)).DK (j 1) ((j 2).val % 128) : ℝ) : EReal)
def dvOf (X : Proj → EReal) (G : Res → EReal) : Res → EReal := fun j => (((headOf X G (j 0) ((j 2).val / 128)).DV (j 1) ((j 2).val % 128) : ℝ) : EReal)

theorem dqOf_at (X : Proj → EReal) (G : Res → EReal) (j : Res) (b : Fin 2) (h s d : ℕ) (hd : d < 128) (h0 : (j 0).val = b.val) (h1 : (j 1).val = s)
    (h2 : (j 2).val = h * 128 + d) : dqOf X G j = ((headOf X G b h).DQ s d : EReal) := by
  rw [dqOf, show j 0 = b from Fin.ext h0, h1, h2, show (h * 128 + d) / 128 = h by omega, show (h * 128 + d) % 128 = d by omega]

theorem dkOf_at (X : Proj → EReal) (G : Res → EReal) (j : Res) (b : Fin 2) (h s d : ℕ) (hd : d < 128) (h0 : (j 0).val = b.val) (h1 : (j 1).val = s)
    (h2 : (j 2).val = h * 128 + d) : dkOf X G j = ((headOf X G b h).DK s d : EReal) := by
  rw [dkOf, show j 0 = b from Fin.ext h0, h1, h2, show (h * 128 + d) / 128 = h by omega, show (h * 128 + d) % 128 = d by omega]

theorem dvOf_at (X : Proj → EReal) (G : Res → EReal) (j : Res) (b : Fin 2) (h s d : ℕ) (hd : d < 128) (h0 : (j 0).val = b.val) (h1 : (j 1).val = s)
    (h2 : (j 2).val = h * 128 + d) : dvOf X G j = ((headOf X G b h).DV s d : EReal) := by
  rw [dvOf, show j 0 = b from Fin.ext h0, h1, h2, show (h * 128 + d) / 128 = h by omega, show (h * 128 + d) % 128 = d by omega]

end Cert.Proof.SB

end
-- ==== Proof.Final.lean ====
/-
  The kernel's three results over the reals: each point's blocks are one head's gradients, and the blocks tile the
  results.
-/
module

public import proofs.«01_k».proof.Proof.All
public import proofs.«01_k».proof.Proof.Run
public import proofs.«01_k».proof.Proof.Heads
public import Idealize.ShloMosaic.Lib.Pipeline.ValueKit
public import Idealize.ShloMosaic.Lib.Claim
public import Idealize.ShloMosaic.Lib.StableHlo.ReadAt

@[expose] public section

set_option maxRecDepth 16384

noncomputable section

namespace Cert.Proof.SB

open Cert.KernelIdeal Cert.KernelIdeal.Gen
open Idealize.ShloMosaic Idealize.ShloMosaic.TcCoe Idealize.ShloMosaic.Tactic
open Idealize.ShloMosaic.Pipeline (Dat Cfg Window)

variable (m : (ℓ : Loc nD τ sig) → Buf (Elt Ideal) ℓ)

/-- The two arguments on a device. -/
def argX (c : Dev nD) : Proj → EReal := m ((c.tc : Thread nD τ).loc main_arg0)
def argG (c : Dev nD) : Res → EReal := m ((c.tc : Thread nD τ).loc main_arg1)

/-- The head of a grid point. -/
def ptB (t : Fin cfg0.N) : Fin 2 := (grid0.coords t) 0
def ptH (t : Fin cfg0.N) : Fin 4 := (grid0.coords t) 1

theorem idx0 : ∀ t : Fin cfg0.N, win0_0.index t = ![(ptB t).val, 0, (ptH t).val] := by decide +kernel
theorem idx1 : ∀ t : Fin cfg0.N, win0_1.index t = ![(ptB t).val, 0, 4 + (ptH t).val] := by decide +kernel
theorem idx2 : ∀ t : Fin cfg0.N, win0_2.index t = ![(ptB t).val, 0, 8 + (ptH t).val] := by decide +kernel
theorem idx3 : ∀ t : Fin cfg0.N, win0_3.index t = ![(ptB t).val, 0, (ptH t).val] := by decide +kernel
theorem idx4 : ∀ t : Fin cfg0.N, win0_4.index t = ![(ptB t).val, (ptH t).val, 0, 0] := by decide +kernel
theorem idx5 : ∀ t : Fin cfg0.N, win0_5.index t = ![(ptB t).val, 0, (ptH t).val] := by decide +kernel
theorem idx6 : ∀ t : Fin cfg0.N, win0_6.index t = ![(ptB t).val, 0, (ptH t).val] := by decide +kernel
theorem idx7 : ∀ t : Fin cfg0.N, win0_7.index t = ![(ptB t).val, 0, (ptH t).val] := by decide +kernel

theorem iblk0_at (c : Dev nD) (t : Fin cfg0.N) (s : Fin 2048) (d : Fin 128) :
    iblk m c 0 t (ix3 0 s d) = argX m c (ix3 (ptB t) s (⟨128 * (ptH t).val + d.val, by have := (ptH t).isLt; have := d.isLt; omega⟩ : Fin 1536)) := by
  have e := idx0 t
  unfold argX
  blk_ext [iblk, V_main_arg0, e]

theorem iblk1_at (c : Dev nD) (t : Fin cfg0.N) (s : Fin 2048) (d : Fin 128) :
    iblk m c 1 t (ix3 0 s d) = argX m c (ix3 (ptB t) s (⟨512 + 128 * (ptH t).val + d.val, by have := (ptH t).isLt; have := d.isLt; omega⟩ : Fin 1536)) := by
  have e := idx1 t
  unfold argX
  blk_ext [iblk, V_main_arg0, e]

theorem iblk2_at (c : Dev nD) (t : Fin cfg0.N) (s : Fin 2048) (d : Fin 128) :
    iblk m c 2 t (ix3 0 s d) = argX m c (ix3 (ptB t) s (⟨1024 + 128 * (ptH t).val + d.val, by have := (ptH t).isLt; have := d.isLt; omega⟩ : Fin 1536)) := by
  have e := idx2 t
  unfold argX
  blk_ext [iblk, V_main_arg0, e]

theorem iblk3_at (c : Dev nD) (t : Fin cfg0.N) (s : Fin 2048) (d : Fin 128) :
    iblk m c 3 t (ix3 0 s d) = argG m c (ix3 (ptB t) s (⟨128 * (ptH t).val + d.val, by have := (ptH t).isLt; have := d.isLt; omega⟩ : Fin 512)) := by
  have e := idx3 t
  unfold argG
  blk_ext [iblk, V_main_arg1, e]

theorem iblk4_at (c : Dev nD) (t : Fin cfg0.N) (s : Fin 2048) (d : Fin 128) :
    iblk m c 4 t (ix4 0 0 s d) = V m c main_v25 (ix4 (ptB t) (ptH t) s d) := by
  have e := idx4 t
  blk_ext [iblk, e]

theorem argX_at {c : Dev nD} (hX : Finite (argX m c)) (b : Fin 2) (o n : ℕ) (t : Fin 2048) (d : ℕ) (e : n = o + d) (h : n < 1536) :
    m (c, Proc.tc.devRef main_arg0) (ix3 b t (⟨n, h⟩ : Fin 1536)) = (projOf (argX m c) b o t d : EReal) := by
  subst e
  exact projOf_eq hX b o t d h

theorem slt_iff (x y : Fin 2048) : (IntOp.cmpi CmpIPredicate.slt (BitVec.ofNat 32 x.val) (BitVec.ofNat 32 y.val) = 1#1) = (x.val < y.val) :=
  propext (slt_ofNat (by have := x.isLt; omega) (by have := y.isLt; omega))

/-- The row totals that the region finds: the whole row's sum of the logarithms of the factors left over. -/
theorem tot_at {c : Dev nD} (hX : Finite (argX m c)) (b : Fin 2) (h : Fin 4) (s : Fin 2048) (d : Fin 128) :
    V m c main_v25 (ix4 b h s d) = ((headOf (argX m c) (argG m c) b h.val).TOT s : EReal) := by
  unfold V
  after_reads_at
  have hq : ∀ (x : Fin 128) (p : h.val * 128 + x.val < 1536), m (c, Proc.tc.devRef main_arg0) (ix3 b s (⟨h.val * 128 + x.val, p⟩ : Fin 1536))
      = ((headOf (argX m c) (argG m c) b h.val).q s x : EReal) := fun x p => argX_at m hX b (128 * h.val) _ s x (by omega) p
  have hk : ∀ (y : Fin 2048) (x : Fin 128) (p : 512 + (h.val * 128 + x.val) < 1536), m (c, Proc.tc.devRef main_arg0) (ix3 b y (⟨512 + (h.val * 128 + x.val), p⟩ : Fin 1536))
      = ((headOf (argX m c) (argG m c) b h.val).k y x : EReal) := fun y x p => argX_at m hX b (512 + 128 * h.val) _ y x (by omega) p
  have hz : (id (constant (F := Ideal) S_ FTy.f32 0#32) ix0 : EReal) = ((0 : ℝ) : EReal) := Ideal.ofBits_zero_f32
  simp only [hq, hk, ofBits_sc, ← EReal.coe_mul, sum_coe, Ideal.absf_def, ne_eq, not_true_eq_false, if_false, neg_neg]
  erw [hz]
  simp only [log1p_coe]
  simp only [← EReal.coe_neg, select_coe, sum_coe, slt_iff]
  rw [Head.TOT, Finset.sum_range]
  rfl

/-- What a point's body reads: its head. -/
theorem point_ok {c : Dev nD} (hX : Finite (argX m c)) (hG : Finite (argG m c)) (t : Fin cfg0.N) :
    VecOk (headOf (argX m c) (argG m c) (ptB t) (ptH t).val) (iblk m c 0 t) (iblk m c 1 t) (iblk m c 2 t) (iblk m c 3 t) (iblk m c 4 t) where
  h2 s d := (iblk0_at m c t s d).trans (projOf_eq hX _ _ s d _)
  h3 s d := (iblk1_at m c t s d).trans (projOf_eq hX _ _ s d _)
  h4 s d := (iblk2_at m c t s d).trans (projOf_eq hX _ _ s d _)
  h5 s d := (iblk3_at m c t s d).trans (resOf_eq hG _ _ s d _)
  h6 s d := (iblk4_at m c t s d).trans (tot_at m hX _ _ s d)

theorem out5_at {c : Dev nD} (hX : Finite (argX m c)) (hG : Finite (argG m c)) (t : Fin cfg0.N) (s : Fin 2048) (d : Fin 128) :
    @Eq EReal (out5 m c t (ix3 0 s d)) ((headOf (argX m c) (argG m c) (ptB t) (ptH t).val).DQ s d : EReal) := by
  unfold out5 runAt
  exact run_dq c _ _ _ _ _ _ _ _ _ _ _ _ _ _ _ (point_ok m hX hG t) s d

theorem out6_at {c : Dev nD} (hX : Finite (argX m c)) (hG : Finite (argG m c)) (t : Fin cfg0.N) (s : Fin 2048) (d : Fin 128) :
    @Eq EReal (out6 m c t (ix3 0 s d)) ((headOf (argX m c) (argG m c) (ptB t) (ptH t).val).DK s d : EReal) := by
  unfold out6 runAt
  exact run_dk c _ _ _ _ _ _ _ _ _ _ _ _ _ _ (point_ok m hX hG t) s d

theorem out7_at {c : Dev nD} (hX : Finite (argX m c)) (hG : Finite (argG m c)) (t : Fin cfg0.N) (s : Fin 2048) (d : Fin 128) :
    @Eq EReal (out7 m c t (ix3 0 s d)) ((headOf (argX m c) (argG m c) (ptB t) (ptH t).val).DV s d : EReal) := by
  unfold out7 runAt
  exact run_dv c _ _ _ _ _ _ _ _ _ _ _ _ _ _ (point_ok m hX hG t) s d

theorem blk_idx (y : S1x2048x128.Idx) : y = ix3 (0 : Fin 1) (y 1 : Fin 2048) (y 2 : Fin 128) := by
  funext a; match a with
  | 0 => exact Subsingleton.elim (α := Fin 1) _ _
  | 1 => rfl
  | 2 => rfl

theorem arr5 {c : Dev nD} (hX : Finite (argX m c)) (hG : Finite (argG m c)) : (dats m 0 c).arrAt 5 cfg0.N = dqOf (argX m c) (argG m c) := by
  refine (dats m 0 c).arrAt_eq_of_covers 5 _ (by decide +kernel) fun t hf y => ?_
  have e := idx5 t
  blk_simp
  rw [after0_5, dqOf_at (argX m c) (argG m c) _ (ptB t) (ptH t).val (y 1).val (y 2).val (y 2).isLt
    (by blk_simp [e]) (by blk_simp [e]) (by blk_simp [e])]
  exact (congrArg (out5 m c t) (blk_idx y)).trans (out5_at m hX hG t (y 1) (y 2))

theorem arr6 {c : Dev nD} (hX : Finite (argX m c)) (hG : Finite (argG m c)) : (dats m 0 c).arrAt 6 cfg0.N = dkOf (argX m c) (argG m c) := by
  refine (dats m 0 c).arrAt_eq_of_covers 6 _ (by decide +kernel) fun t hf y => ?_
  have e := idx6 t
  blk_simp
  rw [after0_6, dkOf_at (argX m c) (argG m c) _ (ptB t) (ptH t).val (y 1).val (y 2).val (y 2).isLt
    (by blk_simp [e]) (by blk_simp [e]) (by blk_simp [e])]
  exact (congrArg (out6 m c t) (blk_idx y)).trans (out6_at m hX hG t (y 1) (y 2))

theorem arr7 {c : Dev nD} (hX : Finite (argX m c)) (hG : Finite (argG m c)) : (dats m 0 c).arrAt 7 cfg0.N = dvOf (argX m c) (argG m c) := by
  refine (dats m 0 c).arrAt_eq_of_covers 7 _ (by decide +kernel) fun t hf y => ?_
  have e := idx7 t
  blk_simp
  rw [after0_7, dvOf_at (argX m c) (argG m c) _ (ptB t) (ptH t).val (y 1).val (y 2).val (y 2).isLt
    (by blk_simp [e]) (by blk_simp [e]) (by blk_simp [e])]
  exact (congrArg (out7 m c t) (blk_idx y)).trans (out7_at m hX hG t (y 1) (y 2))

/-- The kernel's run: the results end at the heads' gradients, the arguments as they began. -/
theorem run_value (hX : ∀ c, Finite (argX m c)) (hG : ∀ c, Finite (argG m c)) (ρ : Dev nD → PrngReg) :
    θ_run defs (onTc (τ := τ) (main (F := Ideal))) ⟨m, fun _ => 0, ρ⟩ (fun r => ∀ c : Dev nD,
      (r.2.mem ((c.tc : Thread nD τ).loc main_v26_0) = dqOf (argX m c) (argG m c)
      ∧ r.2.mem ((c.tc : Thread nD τ).loc main_v26_1) = dkOf (argX m c) (argG m c)
      ∧ r.2.mem ((c.tc : Thread nD τ).loc main_v26_2) = dvOf (argX m c) (argG m c))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine θ_run_mono (run_main m ρ) fun r h c => ⟨⟨?_, ?_, ?_⟩, ?_, ?_⟩
  · exact ((h.1 c).1 5).trans (arr5 m (hX c) (hG c))
  · exact ((h.1 c).1 6).trans (arr6 m (hX c) (hG c))
  · exact ((h.1 c).1 7).trans (arr7 m (hX c) (hG c))
  · exact ((h.1 c).1 2).trans (((dats m 0 c).arrAt_in 2 rfl _).trans ((A_eq m c 2).trans (V_main_arg0 m c)))
  · exact ((h.1 c).1 3).trans (((dats m 0 c).arrAt_in 3 rfl _).trans ((A_eq m c 3).trans (V_main_arg1 m c)))

end Cert.Proof.SB

end
-- ==== Proof.Window.lean ====
/-
  Running sums along the last axis: a window of the whole length over an array padded before or behind it.
-/
module

public import proofs.«01_k».proof.Proof.Math
public import Idealize.ShloMosaic.Lib.Pointwise

@[expose] public section

noncomputable section

namespace Cert.Proof.SB

open Idealize.ShloMosaic

/-- The one window's shape, and the array's. -/
abbrev winShape (N : ℕ) : Shape := ⟨4, ![1, 1, 1, N]⟩
abbrev arrShape (A B C N : ℕ) : Shape := ⟨4, ![A, B, C, N]⟩

theorem win_numel (N : ℕ) : (winShape N).numel = N := by
  show ∏ a : Fin 4, (![1, 1, 1, N] : Fin 4 → ℕ) a = N
  simp [Fin.prod_univ_four]

theorem win_symm {N : ℕ} (n : Fin (winShape N).numel) :
    (winShape N).rowMajor.symm n = ix4 (0 : Fin 1) (0 : Fin 1) (0 : Fin 1) (n.cast (win_numel N)) :=
  ((winShape N).rowMajor.symm_apply_eq).2 (Fin.ext (by
    rw [Shape.rowMajor_val_four]
    simp))

theorem foldl_coe {ι : Type} (l : List ι) (g : ι → EReal) (f : ι → ℝ) (hg : ∀ a, g a = (f a : EReal)) (v : EReal) (z : ℝ) (hv : v = (z : EReal)) :
    l.foldl (fun r a => r + g a) v = ((z + (l.map f).sum : ℝ) : EReal) := by
  induction l generalizing v z with
  | nil => simpa using hv
  | cons a l ih =>
    rw [List.foldl_cons, ih _ (z + f a) (by rw [hv, hg a, EReal.coe_add]), List.map_cons, List.sum_cons, add_assoc]

theorem window_sum {A B C N : ℕ} (L R : ℕ) (x : (arrShape A B C N).Idx → EReal) (f : ℕ → ℝ) (b : Fin A) (h : Fin B) (t : Fin C)
    (hx : ∀ i : Fin N, x (ix4 b h t i) = (f i : EReal)) (init : EReal) (hi : init = 0)
    (hw : (arrShape A B C N).ReduceWindows (![1, 1, 1, N] : Fin 4 → ℕ) ![1, 1, 1, 1] ![0, 0, 0, L] ![0, 0, 0, R] (arrShape A B C N)) (j : Fin N) :
    Ideal.hostReduceWindowAdd ![1, 1, 1, N] ![1, 1, 1, 1] ![0, 0, 0, L] ![0, 0, 0, R] hw x init (ix4 b h t j)
      = ((∑ w ∈ Finset.range N, if L ≤ j.val + w ∧ j.val + w - L < N then f (j.val + w - L) else 0 : ℝ) : EReal) := by
  unfold Ideal.hostReduceWindowAdd Host.reduceWindow
  refine (foldl_coe _ _ (fun n => if L ≤ j.val + n.val ∧ j.val + n.val - L < N then f (j.val + n.val - L) else 0) (fun n => ?_) _ 0 (by simpa using hi)).trans ?_
  · have h0 : ((winShape N).rowMajor.symm n 0).val = 0 := by rw [win_symm]; rfl
    have h1 : ((winShape N).rowMajor.symm n 1).val = 0 := by rw [win_symm]; rfl
    have h2 : ((winShape N).rowMajor.symm n 2).val = 0 := by rw [win_symm]; rfl
    have h3 : ((winShape N).rowMajor.symm n 3).val = n.val := by rw [win_symm]; rfl
    split
    · next hin =>
      have h := hin 3
      change L ≤ j.val * 1 + ((winShape N).rowMajor.symm n 3).val ∧ j.val * 1 + ((winShape N).rowMajor.symm n 3).val - L < N at h
      rw [h3, mul_one] at h
      rw [if_pos h]
      refine (congrArg x (funext fun a => Fin.ext ?_)).trans (hx ⟨j.val + n.val - L, h.2⟩)
      match a with
      | ⟨0, _⟩ =>
        show b.val * 1 + ((winShape N).rowMajor.symm n 0).val - 0 = b.val
        rw [h0]; omega
      | ⟨1, _⟩ =>
        show _ * 1 + ((winShape N).rowMajor.symm n 1).val - 0 = _
        rw [h1]; exact (by omega : ∀ y, y * 1 + 0 - 0 = y) _
      | ⟨2, _⟩ =>
        show t.val * 1 + ((winShape N).rowMajor.symm n 2).val - 0 = t.val
        rw [h2]; omega
      | ⟨3, _⟩ =>
        show j.val * 1 + ((winShape N).rowMajor.symm n 3).val - L = j.val + n.val - L
        rw [h3, mul_one]
    · next hin =>
      rw [if_neg fun hle => hin fun a => by
        match a with
        | ⟨0, _⟩ =>
          show 0 ≤ b.val * 1 + ((winShape N).rowMajor.symm n 0).val ∧ b.val * 1 + ((winShape N).rowMajor.symm n 0).val - 0 < A
          rw [h0]; have := b.isLt; omega
        | ⟨1, _⟩ =>
          show 0 ≤ h.val * 1 + ((winShape N).rowMajor.symm n 1).val ∧ h.val * 1 + ((winShape N).rowMajor.symm n 1).val - 0 < B
          rw [h1]; have := h.isLt; omega
        | ⟨2, _⟩ =>
          show 0 ≤ t.val * 1 + ((winShape N).rowMajor.symm n 2).val ∧ t.val * 1 + ((winShape N).rowMajor.symm n 2).val - 0 < C
          rw [h2]; have := t.isLt; omega
        | ⟨3, _⟩ =>
          show L ≤ j.val * 1 + ((winShape N).rowMajor.symm n 3).val ∧ j.val * 1 + ((winShape N).rowMajor.symm n 3).val - L < N
          rw [h3, mul_one]; exact hle]
      simpa using hi
  · rw [zero_add]
    refine congrArg Real.toEReal ?_
    rw [← Fin.sum_univ_def, Fin.sum_univ_eq_sum_range (fun w => if L ≤ j.val + w ∧ j.val + w - L < N then f (j.val + w - L) else 0), win_numel]

/-- Padding behind: the sum from an entry on. -/
theorem suffix_sum {N j : ℕ} (hj : j < N) (f : ℕ → ℝ) :
    (∑ w ∈ Finset.range N, if 0 ≤ j + w ∧ j + w - 0 < N then f (j + w - 0) else 0) = ∑ s ∈ Finset.range N, f s - ∑ s ∈ Finset.range j, f s := by
  obtain ⟨d, rfl⟩ : ∃ d, N = j + d := ⟨N - j, by omega⟩
  rw [eq_sub_iff_add_eq', Finset.sum_range_add (f := f), add_right_inj, add_comm j d, Finset.sum_range_add]
  rw [Finset.sum_eq_zero (s := Finset.range j) fun w _ => if_neg (by omega), add_zero]
  refine Finset.sum_congr rfl fun w hw => ?_
  have := Finset.mem_range.1 hw
  rw [if_pos (by omega), Nat.sub_zero]

/-- Padding before: the sum through an entry. -/
theorem prefix_sum {N L j : ℕ} (hL : L + 1 = N) (hj : j < N) (f : ℕ → ℝ) :
    (∑ w ∈ Finset.range N, if L ≤ j + w ∧ j + w - L < N then f (j + w - L) else 0) = ∑ s ∈ Finset.range (j + 1), f s := by
  obtain ⟨d, rfl⟩ : ∃ d, L = j + d := ⟨L - j, by omega⟩
  subst hL
  rw [show j + d + 1 = d + (j + 1) by omega, Finset.sum_range_add, Finset.sum_eq_zero (s := Finset.range d) fun w hw => if_neg (by have := Finset.mem_range.1 hw; omega), zero_add]
  refine Finset.sum_congr rfl fun w hw => ?_
  have := Finset.mem_range.1 hw
  rw [if_pos (by omega), show j + (d + w) - (j + d) = w by omega]

theorem window_suffix {A B C N : ℕ} (R : ℕ) (x : (arrShape A B C N).Idx → EReal) (f : ℕ → ℝ) (b : Fin A) (h : Fin B) (t : Fin C)
    (hx : ∀ i : Fin N, x (ix4 b h t i) = (f i : EReal)) (init : EReal) (hi : init = 0)
    (hw : (arrShape A B C N).ReduceWindows (![1, 1, 1, N] : Fin 4 → ℕ) ![1, 1, 1, 1] ![0, 0, 0, 0] ![0, 0, 0, R] (arrShape A B C N)) (j : Fin N) :
    Ideal.hostReduceWindowAdd ![1, 1, 1, N] ![1, 1, 1, 1] ![0, 0, 0, 0] ![0, 0, 0, R] hw x init (ix4 b h t j)
      = ((∑ s ∈ Finset.range N, f s - ∑ s ∈ Finset.range j, f s : ℝ) : EReal) :=
  (window_sum 0 R x f b h t hx init hi hw j).trans (congrArg Real.toEReal (suffix_sum j.isLt f))

theorem window_prefix {A B C N L : ℕ} (hL : L + 1 = N) (x : (arrShape A B C N).Idx → EReal) (f : ℕ → ℝ) (b : Fin A) (h : Fin B) (t : Fin C)
    (hx : ∀ i : Fin N, x (ix4 b h t i) = (f i : EReal)) (init : EReal) (hi : init = 0)
    (hw : (arrShape A B C N).ReduceWindows (![1, 1, 1, N] : Fin 4 → ℕ) ![1, 1, 1, 1] ![0, 0, 0, L] ![0, 0, 0, 0] (arrShape A B C N)) (j : Fin N) :
    Ideal.hostReduceWindowAdd ![1, 1, 1, N] ![1, 1, 1, 1] ![0, 0, 0, L] ![0, 0, 0, 0] hw x init (ix4 b h t j)
      = ((∑ s ∈ Finset.range (j.val + 1), f s : ℝ) : EReal) :=
  (window_sum L 0 x f b h t hx init hi hw j).trans (congrArg Real.toEReal (prefix_sum hL j.isLt f))

end Cert.Proof.SB

end
-- ==== Proof.Ref.lean ====
/-
  The reference's composed terms over the reals: each is the mathematics of Math.lean, head by head.
-/
module

public import proofs.«01_k».proof.Proof.Block
public import proofs.«01_k».proof.Proof.Heads
public import proofs.«01_k».proof.Proof.Window
public import proofs.«01_k».proof.Proof.Gen.ReferenceIdeal.Run
public import Idealize.ShloMosaic.Lib.Pointwise

@[expose] public section

set_option maxRecDepth 16384

noncomputable section

namespace Cert.Proof.SB.Ref

open Cert.ReferenceIdeal Cert.ReferenceIdeal.Value
open Idealize.ShloMosaic Idealize.ShloMosaic.TcCoe Idealize.ShloMosaic.StableHlo

variable (V0 : Valuation τ sig (Elt Ideal))

def vX : Proj → EReal := V0 (Proc.devRef .tc main_arg0)
def vG : Res → EReal := V0 (Proc.devRef .tc main_arg1)

variable {V0} (hX : Finite (vX V0)) (hG : Finite (vG V0)) (b : Fin 2) (h : Fin 4)

abbrev hd (V0 : Valuation τ sig (Elt Ideal)) (b : Fin 2) (h : Fin 4) : Head := headOf (vX V0) (vG V0) b h.val

include hX in
theorem X_at (b : Fin 2) (o n : ℕ) (t : Fin 2048) (d : ℕ) (e : n = o + d) (h : n < 1536) :
    V0 (Proc.devRef .tc main_arg0) (ix3 b t (⟨n, h⟩ : Fin 1536)) = (projOf (vX V0) b o t d : EReal) := by
  subst e
  exact projOf_eq hX b o t d h

include hG in
theorem G_at (b : Fin 2) (o n : ℕ) (t : Fin 2048) (d : ℕ) (e : n = o + d) (h : n < 512) :
    V0 (Proc.devRef .tc main_arg1) (ix3 b t (⟨n, h⟩ : Fin 512)) = (resOf (vG V0) b o t d : EReal) := by
  subst e
  exact resOf_eq hG b o t d h

include hX in
theorem v5_at (t : Fin 2048) (d : Fin 128) : res_main_v5 V0 (ix4 b h t d) = ((hd V0 b h).q t d : EReal) := by
  pointwise [res_main_v5, res_main_v0]
  exact X_at hX _ _ _ _ _ (by omega) _

include hX in
theorem v7_at (t : Fin 2048) (d : Fin 128) : res_main_v7 V0 (ix4 b h t d) = ((hd V0 b h).k t d : EReal) := by
  pointwise [res_main_v7, res_main_v0]
  exact X_at hX _ _ _ _ _ (by omega) _

include hX in
theorem v9_at (t : Fin 2048) (d : Fin 128) : res_main_v9 V0 (ix4 b h t d) = ((hd V0 b h).v t d : EReal) := by
  pointwise [res_main_v9, res_main_v0]
  exact X_at hX _ _ _ _ _ (by omega) _

include hG in
theorem v34_at (t : Fin 2048) (d : Fin 128) : res_main_v34 V0 (ix4 b h t d) = ((hd V0 b h).g t d : EReal) := by
  pointwise [res_main_v34]
  exact G_at hG _ _ _ _ _ (by omega) _

include hX in
theorem v12_at (t s : Fin 2048) : res_main_v12 V0 (ix4 b h t s) = ((hd V0 b h).Z t s : EReal) := by
  pointwise [res_main_v12]
  simp only [v5_at hX, v7_at hX, ofBits_sc, ← EReal.coe_mul, sum_coe]
  rfl

theorem mask_at (t s : Fin 2048) : @Eq (BitVec 1) (res_main_v19 V0 (ix2 t s)) 1#1 = (s.val < t.val) := by
  pointwise [res_main_v19]
  exact propext (slt_ofNat (by have := s.isLt; omega) (by have := t.isLt; omega))

theorem v22_1_at (t s : Fin 2048) : res_main_v22_1 V0 (ix4 b h t s) = res_main_v19 V0 (ix2 t s) := by
  pointwise [res_main_v22_1]

theorem v28_1_at (t s : Fin 2048) : res_main_v28_1 V0 (ix4 b h t s) = res_main_v19 V0 (ix2 t s) := by
  pointwise [res_main_v28_1]

include hX in
theorem c0_at (t s : Fin 2048) : res_main_call0_v0 V0 (ix4 b h t s) = ((hd V0 b h).Z t s : EReal) := by
  pointwise [res_main_call0_v0]
  rw [v12_at hX, neg_neg]

include hX in
theorem c3_at (t s : Fin 2048) : res_main_call3_v0 V0 (ix4 b h t s) = ((-(hd V0 b h).Z t s : ℝ) : EReal) := by
  pointwise [res_main_call3_v0]
  rw [v12_at hX, EReal.coe_neg]

include hX in
theorem sp0_at (t s : Fin 2048) : res_main_call0_v1_0 V0 (ix4 b h t s) = (SP ((hd V0 b h).Z t s) : EReal) := by
  pointwise [res_main_call0_v1_0, res_main_call0_call0_v3, res_main_call0_call0_cst]
  rw [c0_at hX, if_neg (fun e => e rfl), Ideal.absf_def]
  exact log1p_coe _

include hX in
theorem sp3_at (t s : Fin 2048) : res_main_call3_v1_0 V0 (ix4 b h t s) = (SP (-(hd V0 b h).Z t s) : EReal) := by
  pointwise [res_main_call3_v1_0, res_main_call3_call0_v3, res_main_call3_call0_cst]
  rw [c3_at hX, if_neg (fun e => e rfl), Ideal.absf_def]
  exact log1p_coe _

include hX in
theorem v22_0_at (t s : Fin 2048) : res_main_v22_0 V0 (ix4 b h t s) = ((hd V0 b h).LN t s : EReal) := by
  pointwise [res_main_v22_0]
  have hz : (id (constant (F := Ideal) S_ FTy.f32 0#32) ix0 : EReal) = ((0 : ℝ) : EReal) := Ideal.ofBits_zero_f32
  rw [sp0_at hX, v22_1_at, ← EReal.coe_neg]
  erw [hz]
  rw [select_coe]
  simp only [mask_at]
  rfl

theorem zero_init : broadcastInDim S_ ![] Gen.bcast_S_S_ (constant (F := Ideal) S_ FTy.f32 0#32) (Shape.Idx.first Gen.h_S_) = (0 : EReal) :=
  Ideal.ofBits_zero_f32

theorem inf_bits : Ideal.ofBits FTy.f32 2139095040#32 = ⊤ := by
  simp [Ideal.ofBits, Ideal.ieee]

/-- The window sum that runs from an entry on, and the one that runs through it. -/
theorem suffix_at (x : FVec Ideal S2x4x2048x2048 .f32) (init : FVec Ideal S_ .f32) (hi : @Eq EReal (init (Shape.Idx.first Gen.h_S_)) 0) (f : ℕ → ℝ)
    (b : Fin 2) (h : Fin 4) (t s : Fin 2048) (hx : ∀ i : Fin 2048, x (ix4 b h t i) = (f i : EReal)) :
    Host.reduceWindowAdd ![1, 1, 1, 2048] ![1, 1, 1, 1] ![0, 0, 0, 0] ![0, 0, 0, 2047] x init
      Gen.reduceWindows_S2x4x2048x2048_S2x4x2048x2048_w1s1p0_0_w1s1p0_0_w1s1p0_0_w2048s1p0_2047 Gen.h_S_ (ix4 b h t s)
      = ((∑ i ∈ Finset.range 2048, f i - ∑ i ∈ Finset.range s, f i : ℝ) : EReal) := by
  have e := window_suffix 2047 x f b h t hx _ hi
    Gen.reduceWindows_S2x4x2048x2048_S2x4x2048x2048_w1s1p0_0_w1s1p0_0_w1s1p0_0_w2048s1p0_2047 s
  unfold Host.reduceWindowAdd
  rw [Ideal.hostReduceWindowAdd_def]
  exact e

theorem prefix_at (x : FVec Ideal S2x4x2048x2048 .f32) (init : FVec Ideal S_ .f32) (hi : @Eq EReal (init (Shape.Idx.first Gen.h_S_)) 0) (f : ℕ → ℝ)
    (b : Fin 2) (h : Fin 4) (t s : Fin 2048) (hx : ∀ i : Fin 2048, x (ix4 b h t i) = (f i : EReal)) :
    Host.reduceWindowAdd ![1, 1, 1, 2048] ![1, 1, 1, 1] ![0, 0, 0, 2047] ![0, 0, 0, 0] x init
      Gen.reduceWindows_S2x4x2048x2048_S2x4x2048x2048_w1s1p0_0_w1s1p0_0_w1s1p0_0_w2048s1p2047_0 Gen.h_S_ (ix4 b h t s)
      = ((∑ i ∈ Finset.range (s.val + 1), f i : ℝ) : EReal) := by
  have e := window_prefix rfl x f b h t hx _ hi
    Gen.reduceWindows_S2x4x2048x2048_S2x4x2048x2048_w1s1p0_0_w1s1p0_0_w1s1p0_0_w2048s1p2047_0 s
  unfold Host.reduceWindowAdd
  rw [Ideal.hostReduceWindowAdd_def]
  exact e

/-- The weight before the mask. -/
def W' (H : Head) (t s : ℕ) : ℝ := Real.exp (H.Z t s - SP (H.Z t s) + (H.TOT t - ∑ s' ∈ Finset.range (s + 1), H.LN t s'))

include hX in
theorem v27_at (t s : Fin 2048) : res_main_v27 V0 (ix4 b h t s) = (W' (hd V0 b h) t s : EReal) := by
  pointwise [res_main_v27]
  rw [suffix_at _ _ zero_init (fun i => (hd V0 b h).LN t i) b h t s (fun i => v22_0_at hX b h t i)]
  rw [sp3_at hX, v22_0_at hX, ← EReal.coe_neg, ← EReal.coe_sub, ← EReal.coe_add, Ideal.exp_coe, SP_neg, W', Finset.sum_range_succ _ s.val, Head.TOT]
  congr 2
  ring

include hX hG in
theorem v39_at (t s : Fin 2048) : res_main_v39 V0 (ix4 b h t s) = ((hd V0 b h).P t s : EReal) := by
  pointwise [res_main_v39]
  rw [v28_1_at, v27_at hX]
  simp only [v34_at hG, v9_at hX, ← EReal.coe_mul, sum_coe]
  rw [← EReal.coe_zero, select_coe]
  simp only [mask_at]
  rw [Head.P, Head.W, mul_ite, mul_zero]
  rfl

include hX in
theorem v28_0_at (t s : Fin 2048) : res_main_v28_0 V0 (ix4 b h t s) = ((hd V0 b h).W t s : EReal) := by
  pointwise [res_main_v28_0]
  have hz : (id (constant (F := Ideal) S_ FTy.f32 0#32) ix0 : EReal) = ((0 : ℝ) : EReal) := Ideal.ofBits_zero_f32
  rw [v27_at hX, v28_1_at]
  erw [hz]
  rw [select_coe]
  simp only [mask_at]
  rfl

include hX hG in
theorem v49_at (t s : Fin 2048) : res_main_v49 V0 (ix4 b h t s) = ((hd V0 b h).DZ t s : EReal) := by
  pointwise [res_main_v49]
  rw [prefix_at _ _ zero_init (fun i => (hd V0 b h).P t i) b h t s (fun i => v39_at hX hG b h t i)]
  rw [c3_at hX, sp3_at hX, c0_at hX, sp0_at hX, v39_at hX hG, v22_1_at, inf_bits, if_neg (EReal.coe_ne_top _), if_neg (EReal.coe_ne_top _),
    if_neg (EReal.coe_ne_top _), if_neg (EReal.coe_ne_top _), ofBits_sc, ← EReal.coe_zero, ← EReal.coe_neg, ← EReal.coe_add, select_coe]
  simp only [← EReal.coe_sub, Ideal.exp_coe, ← EReal.coe_neg, ← EReal.coe_mul, ← EReal.coe_add, mask_at]
  rw [exp_neg_sub, Head.DZ, Finset.sum_range_succ _ s.val]
  congr 1
  split
  · ring
  · next hn => rw [(hd V0 b h).P_of_not_lt hn]; ring

/-- Where a channel of the results lies: its head, and its place in the head. -/
def eh (e : Fin 512) : Fin 4 := ⟨e.val / 128, by have := e.isLt; omega⟩
def ed (e : Fin 512) : Fin 128 := ⟨e.val % 128, by omega⟩

include hX hG in
theorem dq_at (b : Fin 2) (t : Fin 2048) (e : Fin 512) :
    @Eq EReal ((extractStridedSlice S2x2048x512 ![0, 0, 0] (res_main_v58 V0) Gen.slices_S2x2048x1536_S2x2048x512_0_0_0) (ix3 b t e))
      ((hd V0 b (eh e)).DQ t (ed e) : EReal) := by
  pointwise [res_main_v58]
  simp only [v49_at hX hG, v7_at hX, v5_at hX, ← EReal.coe_mul, sum_coe]
  rw [Head.DQ, Finset.sum_range]
  rfl

include hX hG in
theorem dk_at (b : Fin 2) (t : Fin 2048) (e : Fin 512) :
    @Eq EReal ((extractStridedSlice S2x2048x512 ![0, 0, 512] (res_main_v58 V0) Gen.slices_S2x2048x1536_S2x2048x512_0_0_512) (ix3 b t e))
      ((hd V0 b (eh e)).DK t (ed e) : EReal) := by
  pointwise [res_main_v58]
  simp only [v49_at hX hG, v7_at hX, v5_at hX, ← EReal.coe_mul, sum_coe]
  rw [Head.DK, Finset.sum_range]
  rfl

include hX hG in
theorem dv_at (b : Fin 2) (t : Fin 2048) (e : Fin 512) :
    @Eq EReal ((extractStridedSlice S2x2048x512 ![0, 0, 1024] (res_main_v58 V0) Gen.slices_S2x2048x1536_S2x2048x512_0_0_1024) (ix3 b t e))
      ((hd V0 b (eh e)).DV t (ed e) : EReal) := by
  pointwise [res_main_v58]
  rw [dif_neg (by omega), dif_neg (by omega)]
  have n : 1024 + e.val - 512 - 512 = e.val := by omega
  simp only [n]
  simp only [v34_at hG, v28_0_at hX, ← EReal.coe_mul, sum_coe]
  rw [Head.DV, Finset.sum_range]
  exact congrArg Real.toEReal (Finset.sum_congr rfl fun x _ => mul_comm _ _)

theorem res_idx (j : S2x2048x512.Idx) : j = ix3 (j 0 : Fin 2) (j 1 : Fin 2048) (j 2 : Fin 512) := by
  funext a; match a with
  | 0 => rfl
  | 1 => rfl
  | 2 => rfl

include hX hG in
theorem dq_eq : truncf (F := Ideal) .bf16 (extractStridedSlice S2x2048x512 ![0, 0, 0] (res_main_v58 V0) Gen.slices_S2x2048x1536_S2x2048x512_0_0_0) Gen.bitsLt_bf16_f32
    = dqOf (vX V0) (vG V0) := by
  funext j
  obtain ⟨b, t, e, rfl⟩ : ∃ (b : Fin 2) (t : Fin 2048) (e : Fin 512), j = ix3 b t e := ⟨j 0, j 1, j 2, res_idx j⟩
  exact dq_at hX hG b t e

include hX hG in
theorem dk_eq : truncf (F := Ideal) .bf16 (extractStridedSlice S2x2048x512 ![0, 0, 512] (res_main_v58 V0) Gen.slices_S2x2048x1536_S2x2048x512_0_0_512) Gen.bitsLt_bf16_f32
    = dkOf (vX V0) (vG V0) := by
  funext j
  obtain ⟨b, t, e, rfl⟩ : ∃ (b : Fin 2) (t : Fin 2048) (e : Fin 512), j = ix3 b t e := ⟨j 0, j 1, j 2, res_idx j⟩
  exact dk_at hX hG b t e

include hX hG in
theorem dv_eq : truncf (F := Ideal) .bf16 (extractStridedSlice S2x2048x512 ![0, 0, 1024] (res_main_v58 V0) Gen.slices_S2x2048x1536_S2x2048x512_0_0_1024) Gen.bitsLt_bf16_f32
    = dvOf (vX V0) (vG V0) := by
  funext j
  obtain ⟨b, t, e, rfl⟩ : ∃ (b : Fin 2) (t : Fin 2048) (e : Fin 512), j = ix3 b t e := ⟨j 0, j 1, j 2, res_idx j⟩
  exact dv_at hX hG b t e

/-- The reference's run: the results are the heads' gradients, the arguments as they began. -/
theorem run_value (m : (ℓ : Loc nD τ sig) → Buf (Elt Ideal) ℓ) (hX : ∀ c, Finite (vX (launchContents m c))) (hG : ∀ c, Finite (vG (launchContents m c)))
    (ρ : Dev nD → PrngReg) :
    θ_run defs (onTc (τ := τ) (main (F := Ideal))) ⟨m, fun _ => 0, ρ⟩ (fun r => ∀ c : Dev nD,
      (r.2.mem ((c.tc : Thread nD τ).loc main_v62) = dqOf (vX (launchContents m c)) (vG (launchContents m c))
      ∧ r.2.mem ((c.tc : Thread nD τ).loc main_v63) = dkOf (vX (launchContents m c)) (vG (launchContents m c))
      ∧ r.2.mem ((c.tc : Thread nD τ).loc main_v64) = dvOf (vX (launchContents m c)) (vG (launchContents m c)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨⟨(h c).1.trans (dq_eq (hX c) (hG c)), (h c).2.1.trans (dk_eq (hX c) (hG c)), (h c).2.2.1.trans (dv_eq (hX c) (hG c))⟩,
    (h c).2.2.2⟩) (run (F := Ideal) m ρ)

end Cert.Proof.SB.Ref

end
-- ==== Proof.HalfRun.lean ====
/-
  The run of the half-step: the launch over the segments, with the result buffers read at the last boundary.
-/
module

public import proofs.«01_k».proof.Proof.Gen.Kernel2Ideal.Frame

@[expose] public section

set_option maxRecDepth 16384

noncomputable section

namespace Cert.Proof.Half

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- The whole run: the results end at the last boundary's contents, the arguments as launched, every counter at zero. -/
theorem run_full : θ_run defs (onTc (τ := τ) (main (F := F))) ⟨m, fun _ => 0, ρ⟩ (fun r => (∀ c : Dev nD,
      (r.2.mem ((c.tc : Thread nD τ).loc main_v18) = W17 m ρ c (Proc.devRef .tc main_v18)
      ∧ r.2.mem ((c.tc : Thread nD τ).loc main_v26_0) = W17 m ρ c (Proc.devRef .tc main_v26_0)
      ∧ r.2.mem ((c.tc : Thread nD τ).loc main_v27) = W17 m ρ c (Proc.devRef .tc main_v27)
      ∧ r.2.mem ((c.tc : Thread nD τ).loc main_v29) = W17 m ρ c (Proc.devRef .tc main_v29)
      ∧ r.2.mem ((c.tc : Thread nD τ).loc main_v30) = W17 m ρ c (Proc.devRef .tc main_v30)
      ∧ r.2.mem ((c.tc : Thread nD τ).loc main_v31) = W17 m ρ c (Proc.devRef .tc main_v31))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h hz => ⟨(fun c =>
      ⟨⟨h c _ (mem_uc main_v18 (by decide)), h c _ (mem_uc main_v26_0 (by decide)), h c _ (mem_uc main_v27 (by decide)),
        h c _ (mem_uc main_v29 (by decide)), h c _ (mem_uc main_v30 (by decide)), h c _ (mem_uc main_v31 (by decide))⟩,
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c)⟩), funext fun g => hz g (.inr (no_unscoped g.2))⟩)

end Cert.Proof.Half

end
-- ==== Proof.HalfSame.lean ====
/-
  The two printings of the half-step are one program: the frame of the kernel at words from the run over any scalars.
-/
module

public import proofs.«01_k».proof.Defs
public import proofs.«01_k».proof.Proof.HalfRun
public import proofs.«01_k».proof.Proof.Gen.Kernel2

@[expose] public section

set_option maxRecDepth 16384
set_option maxHeartbeats 8000000

noncomputable section

namespace Cert.Proof.Half

open Idealize.ShloMosaic Idealize.ShloMosaic.TcCoe Idealize.SL.Sem

variable {F : FTy → Type} [FloatOps F]

theorem defs₀_eq : Cert.Kernel2.defs₀ (F := F) = Cert.Kernel2Ideal.defs₀ (F := F) := by
  unfold Cert.Kernel2.defs₀ Cert.Kernel2Ideal.defs₀
  refine congrArg Defs.onTc (funext fun l => funext fun a => ?_)
  obtain ⟨n, hn⟩ := l
  match n, hn with
  | 0, _ => rfl
  | 1, _ => rfl
  | 2, _ => rfl
  | 3, _ => rfl
  | 4, _ => rfl
  | 5, _ => rfl
  | 6, _ => rfl
  | 7, _ => rfl
  | 8, _ => rfl

theorem defs_eq : Cert.Kernel2.defs (F := F) = Cert.Kernel2Ideal.defs (F := F) :=
  congrArg (Pipeline.defs Cert.Kernel2Ideal.pcfgs) defs₀_eq

theorem main_eq (c : Dev Cert.Kernel2.nD) : Cert.Kernel2.main (F := F) c = Cert.Kernel2Ideal.main (F := F) c := by
  unfold Cert.Kernel2.main Cert.Kernel2Ideal.main
  rfl

theorem onTc_main_eq : (onTc (τ := Cert.Kernel2.τ) (Cert.Kernel2.main (F := F))) = onTc (τ := Cert.Kernel2Ideal.τ) (Cert.Kernel2Ideal.main (F := F)) :=
  congrArg (onTc (τ := Cert.Kernel2Ideal.τ)) (funext main_eq)

/-- The frame of the kernel at words, from the run of its ideal printing over any scalars. -/
theorem kernel_frame : Cert.quiescent_Kernel2 := fun m g _ => by
  rw [onTc_main_eq, defs_eq]
  exact (θ_run Cert.Kernel2Ideal.defs _ _).mono (fun _ h => ⟨fun c => (h.1 c).2, h.2⟩) (run_full (F := Bits) m g)

theorem ideal_frame : Cert.quiescent_Kernel2Ideal := fun m g _ =>
  (θ_run Cert.Kernel2Ideal.defs _ _).mono (fun _ h => ⟨fun c => (h.1 c).2, h.2⟩) (run_full (F := Ideal) m g)

end Cert.Proof.Half

end
-- ==== Proof.HalfMath.lean ====
/-
  The half-step of the feed-forward over the reals: the root-mean-square norm, the gated products, their gradients,
  and the padding of each chip's columns that the kernel works with.
-/
module

public import proofs.«01_k».proof.Proof.Block

@[expose] public section

noncomputable section

namespace Cert.Proof.Half

/-- The real inputs of a half-step: the residual, the norm's gain, the three weights and the result's gradient. -/
structure FF where
  X : ℕ → ℕ → ℝ
  G : ℕ → ℝ
  WG : ℕ → ℕ → ℝ
  WU : ℕ → ℕ → ℝ
  WD : ℕ → ℕ → ℝ
  DY : ℕ → ℕ → ℝ

/-- The norm's epsilon. -/
def eps : ℝ := 8796093 * (2 : ℝ) ^ (-43 : ℤ)

theorem eps_pos : 0 < eps := by unfold eps; positivity

/-- The mean square of a row, with the epsilon. -/
def ms (x : Fin 1024 → ℝ) : ℝ := (∑ d, x d * x d) * (1 / 1024) + eps

theorem ms_pos (x : Fin 1024 → ℝ) : 0 < ms x := by
  have h : 0 ≤ ∑ d, x d * x d := Finset.sum_nonneg fun d _ => mul_self_nonneg _
  have := eps_pos
  unfold ms; positivity

/-- The logistic function. -/
def sgm (a : ℝ) : ℝ := (1 + Real.exp (-a))⁻¹

theorem sgm_tanh (a : ℝ) : 1 / 2 * Real.tanh (1 / 2 * a) + 1 / 2 = sgm a := by
  have h1 := Real.exp_pos (1 / 2 * a)
  have h2 : Real.exp (-a) = (Real.exp (1 / 2 * a))⁻¹ * (Real.exp (1 / 2 * a))⁻¹ := by
    rw [← Real.exp_neg, ← Real.exp_add]; congr 1; ring
  unfold sgm
  rw [Real.tanh_eq_sinh_div_cosh, Real.sinh_eq, Real.cosh_eq, h2, Real.exp_neg]
  field_simp
  ring

namespace FF

variable (W : FF)

def R (t : ℕ) : ℝ := (√(ms fun d => W.X t d))⁻¹
def XH (t d : ℕ) : ℝ := W.X t d * W.R t
def H (t d : ℕ) : ℝ := W.XH t d * W.G d
def A (t f : ℕ) : ℝ := ∑ d : Fin 1024, W.H t d * W.WG d f
def B (t f : ℕ) : ℝ := ∑ d : Fin 1024, W.H t d * W.WU d f
def M (t f : ℕ) : ℝ := W.A t f * sgm (W.A t f) * W.B t f
def Y (t d : ℕ) : ℝ := (∑ f : Fin 2816, W.M t f * W.WD f d) * (1 / 2) + W.X t d
def DM (t f : ℕ) : ℝ := 1 / 2 * ∑ d : Fin 1024, W.DY t d * W.WD f d
def DA (t f : ℕ) : ℝ := W.DM t f * W.B t f * (sgm (W.A t f) * (1 + W.A t f * (1 - sgm (W.A t f))))
def DB (t f : ℕ) : ℝ := W.DM t f * (W.A t f * sgm (W.A t f))
def DWD (f d : ℕ) : ℝ := (∑ t : Fin 4096, W.M t f * W.DY t d) * (1 / 2)
def DWG (d f : ℕ) : ℝ := ∑ t : Fin 4096, W.H t d * W.DA t f
def DWU (d f : ℕ) : ℝ := ∑ t : Fin 4096, W.H t d * W.DB t f
def DH (t d : ℕ) : ℝ := (∑ f : Fin 2816, W.DA t f * W.WG d f) + ∑ f : Fin 2816, W.DB t f * W.WU d f
def DX (t d : ℕ) : ℝ :=
  W.DY t d + W.R t * (W.DH t d * W.G d - W.XH t d * ((∑ e : Fin 1024, W.DH t e * W.G e * W.XH t e) * (1 / 1024)))
def DG (d : ℕ) : ℝ := ∑ t : Fin 4096, W.DH t d * W.XH t d

end FF

/-- A row of the feed-forward's width, cut in four chips' parts of 704 columns, each padded with zeros to 768. -/
def pad (f : ℕ → ℝ) (k c : ℕ) : ℝ := if c < 704 then f (704 * k + c) else 0

theorem pad_mul (f g : ℕ → ℝ) (k c : ℕ) : pad f k c * pad g k c = pad (fun n => f n * g n) k c := by
  unfold pad; split <;> simp

theorem mul_pad (a : ℝ) (f : ℕ → ℝ) (k c : ℕ) : a * pad f k c = pad (fun n => a * f n) k c := by
  unfold pad; split <;> simp

theorem pad_mul_const (f : ℕ → ℝ) (a : ℝ) (k c : ℕ) : pad f k c * a = pad (fun n => f n * a) k c := by
  unfold pad; split <;> simp

theorem sum_pad_at {ι : Type} [Fintype ι] (f : ι → ℕ → ℝ) (k c : ℕ) : ∑ i, pad (f i) k c = pad (fun n => ∑ i, f i n) k c := by
  unfold pad; split <;> simp

/-- The padded row as one row of 3072 columns. -/
def col (f : ℕ → ℝ) (n : ℕ) : ℝ := pad f (n / 768) (n % 768)

theorem col_at (f : ℕ → ℝ) (k c : ℕ) (h : c < 768) : col f (k * 768 + c) = pad f k c := by
  unfold col
  rw [Nat.mul_comm, Nat.mul_add_div (by norm_num), Nat.mul_add_mod, Nat.div_eq_of_lt h, Nat.mod_eq_of_lt h, Nat.add_zero]

theorem pad_gate (a b : ℕ → ℝ) (k c : ℕ) : pad a k c * sgm (pad a k c) * pad b k c = pad (fun n => a n * sgm (a n) * b n) k c := by
  unfold pad; split <;> simp

theorem pad_da (m a b : ℕ → ℝ) (k c : ℕ) :
    pad m k c * pad b k c * (sgm (pad a k c) * (1 + pad a k c * (1 - sgm (pad a k c))))
      = pad (fun n => m n * b n * (sgm (a n) * (1 + a n * (1 - sgm (a n))))) k c := by
  unfold pad; split <;> simp

theorem pad_db (m a : ℕ → ℝ) (k c : ℕ) : pad m k c * (pad a k c * sgm (pad a k c)) = pad (fun n => m n * (a n * sgm (a n))) k c := by
  unfold pad; split <;> simp

/-- The padding adds nothing to a chip's sum. -/
theorem sum_pad (f : ℕ → ℝ) (k : ℕ) : ∑ c : Fin 768, pad f k c = ∑ c ∈ Finset.range 704, f (704 * k + c) := by
  rw [← Finset.sum_range (fun c => pad f k c), show (768 : ℕ) = 704 + 64 from rfl, Finset.sum_range_add]
  rw [Finset.sum_eq_zero (s := Finset.range 64) (fun c _ => by unfold pad; rw [if_neg (by omega)]), add_zero]
  exact Finset.sum_congr rfl fun c hc => by unfold pad; rw [if_pos (Finset.mem_range.1 hc)]

/-- The four chips' sums are the sum over the whole width. -/
theorem sum_chips (f : ℕ → ℝ) :
    (∑ c : Fin 768, pad f 0 c) + (∑ c : Fin 768, pad f 1 c) + (∑ c : Fin 768, pad f 2 c) + (∑ c : Fin 768, pad f 3 c)
      = ∑ n : Fin 2816, f n := by
  simp only [sum_pad]
  rw [← Finset.sum_range f, show (2816 : ℕ) = 704 + 704 + 704 + 704 from rfl, Finset.sum_range_add, Finset.sum_range_add,
    Finset.sum_range_add]
  simp

end Cert.Proof.Half
-- ==== Proof.HalfPay.lean ====
/-
  The kernel's payloads over the reals, each at an index of its block.
-/
module

public import proofs.«01_k».proof.Proof.HalfMath
public import proofs.«01_k».proof.Proof.Gen.Kernel2Ideal.Skeleton
public import Idealize.ShloMosaic.Lib.Pointwise

@[expose] public section

set_option maxRecDepth 16384

noncomputable section

namespace Cert.Proof.Half

open Cert.Kernel2Ideal Cert.Kernel2Ideal.Gen
open Idealize.ShloMosaic Idealize.ShloMosaic.TcCoe
open Cert.Proof.SB (sum_coe)

theorem ofBits_half : Ideal.ofBits .f32 0x3F000000#32 = ((1 / 2 : ℝ) : EReal) := by
  simp [Ideal.ofBits, Ideal.ieee, ← EReal.coe_mul]; norm_num

theorem ofBits_1024 : Ideal.ofBits .f32 0x44800000#32 = ((1024 : ℝ) : EReal) := by
  simp [Ideal.ofBits, Ideal.ieee, ← EReal.coe_mul]; norm_num

theorem ofBits_eps : Ideal.ofBits .f32 0x358637BD#32 = ((eps : ℝ) : EReal) := by
  simp [Ideal.ofBits, Ideal.ieee, eps, ← EReal.coe_mul]

theorem rsqrt_ms (x : Fin 1024 → ℝ) : Ideal.rsqrt ((ms x : ℝ) : EReal) = (((√(ms x))⁻¹ : ℝ) : EReal) := by
  have h := ms_pos x
  rw [Ideal.rsqrt_coe, if_neg (by linarith), if_neg (by linarith)]

theorem inv_rms_at (x : Fin 1024 → ℝ) :
    Ideal.rsqrt (Ideal.div ((∑ d, x d * x d : ℝ) : EReal) ((1024 : ℝ) : EReal) + (eps : EReal)) = (((√(ms x))⁻¹ : ℝ) : EReal) := by
  rw [Ideal.div_coe (by norm_num), ← EReal.coe_mul, ← EReal.coe_add]
  exact rsqrt_ms x

theorem k0_pay1_at {v0 : Vec Ideal S512x1024 .f32} {v11 : Vec Ideal S1x1024 .f32} {x g : Fin 1024 → ℝ} (r : Fin 512)
    (hx : ∀ d : Fin 1024, v0 (ix2 r d) = (x d : EReal)) (hg : ∀ d : Fin 1024, v11 (ix2 0 d) = (g d : EReal)) (d : Fin 1024) :
    @Eq EReal (k0_pay1 v0 v11 (ix2 r d)) ((x d * (√(ms x))⁻¹ * g d : ℝ) : EReal) := by
  pointwise [k0_pay1]
  simp only [hx, hg, ofBits_1024, ofBits_eps, ← EReal.coe_mul, sum_coe, inv_rms_at]

theorem k1_pay4_at {v0 : Vec Ideal S1024x1024 .bf16} {v2 : Vec Ideal S1x1024x768 .bf16} {h w : Fin 1024 → ℝ} (r : Fin 1024) (c : Fin 768)
    (hh : ∀ d : Fin 1024, v0 (ix2 r d) = (h d : EReal)) (hw : ∀ d : Fin 1024, v2 (ix3 0 d c) = (w d : EReal)) :
    @Eq EReal (k1_pay4 v0 v2 (ix2 r c)) ((∑ d, h d * w d : ℝ) : EReal) := by
  pointwise [k1_pay4, k1_pay2, k1_pay1]
  simp only [hh, hw, ← EReal.coe_mul, sum_coe]

theorem k1_pay5_at {v0 : Vec Ideal S1024x1024 .bf16} {v2 : Vec Ideal S1x1024x768 .bf16} {h w : Fin 1024 → ℝ} (r : Fin 1024) (c : Fin 768)
    (hh : ∀ d : Fin 1024, v0 (ix2 r d) = (h d : EReal)) (hw : ∀ d : Fin 1024, v2 (ix3 0 d c) = (w d : EReal)) :
    @Eq EReal (k1_pay5 v0 v2 (ix2 r c)) ((∑ d, h d * w d : ℝ) : EReal) := by
  pointwise [k1_pay5, k1_pay3, k1_pay1]
  simp only [hh, hw, ← EReal.coe_mul, sum_coe]

theorem k1_pay6_at {v0 : Vec Ideal S1024x1024 .bf16} {v2 v5 : Vec Ideal S1x1024x768 .bf16} {h w u : Fin 1024 → ℝ} (r : Fin 1024) (c : Fin 768)
    (hh : ∀ d : Fin 1024, v0 (ix2 r d) = (h d : EReal)) (hw : ∀ d : Fin 1024, v2 (ix3 0 d c) = (w d : EReal))
    (hu : ∀ d : Fin 1024, v5 (ix3 0 d c) = (u d : EReal)) :
    @Eq EReal (k1_pay6 v0 v2 v5 (ix2 r c)) (((∑ d, h d * w d) * sgm (∑ d, h d * w d) * ∑ d, h d * u d : ℝ) : EReal) := by
  pointwise [k1_pay6, k1_pay3, k1_pay2, k1_pay1]
  simp only [hh, hw, hu, ofBits_half, ← EReal.coe_mul, sum_coe, Ideal.tanh_coe, ← EReal.coe_add, sgm_tanh]

theorem k2_pay1_at {v0 v5 v11 v17 : Vec Ideal S1024x768 .bf16} {v2 v7 v13 v19 : Vec Ideal S1x768x512 .bf16} {v27 : Vec Ideal S1024x512 .f32}
    {m w : ℕ → ℕ → ℝ} {x : ℝ} (r : Fin 1024) (d : Fin 512)
    (h0 : ∀ c : Fin 768, v0 (ix2 r c) = (m 0 c : EReal)) (h1 : ∀ c : Fin 768, v5 (ix2 r c) = (m 1 c : EReal))
    (h2 : ∀ c : Fin 768, v11 (ix2 r c) = (m 2 c : EReal)) (h3 : ∀ c : Fin 768, v17 (ix2 r c) = (m 3 c : EReal))
    (w0 : ∀ c : Fin 768, v2 (ix3 0 c d) = (w 0 c : EReal)) (w1 : ∀ c : Fin 768, v7 (ix3 0 c d) = (w 1 c : EReal))
    (w2 : ∀ c : Fin 768, v13 (ix3 0 c d) = (w 2 c : EReal)) (w3 : ∀ c : Fin 768, v19 (ix3 0 c d) = (w 3 c : EReal))
    (hx : v27 (ix2 r d) = (x : EReal)) :
    @Eq EReal (k2_pay1 v0 v2 v5 v7 v11 v13 v17 v19 v27 (ix2 r d))
      ((((∑ c : Fin 768, m 0 c * w 0 c) + (∑ c : Fin 768, m 1 c * w 1 c) + (∑ c : Fin 768, m 2 c * w 2 c)
        + ∑ c : Fin 768, m 3 c * w 3 c) * (1 / 2) + x : ℝ) : EReal) := by
  pointwise [k2_pay1]
  simp only [h0, h1, h2, h3, w0, w1, w2, w3, hx, ofBits_half, ← EReal.coe_mul, sum_coe, ← EReal.coe_add]

theorem k3_pay6_at {v0 : Vec Ideal S1024x1024 .bf16} {v2 : Vec Ideal S1x768x1024 .bf16} {v7 v10 : Vec Ideal S1024x768 .bf16}
    {y w : Fin 1024 → ℝ} {a b : ℝ} (r : Fin 1024) (c : Fin 768) (hy : ∀ d : Fin 1024, v0 (ix2 r d) = (y d : EReal))
    (hw : ∀ d : Fin 1024, v2 (ix3 0 c d) = (w d : EReal)) (ha : v7 (ix2 r c) = (a : EReal)) (hb : v10 (ix2 r c) = (b : EReal)) :
    @Eq EReal (k3_pay6 v0 v2 v7 v10 (ix2 r c)) (((1 / 2 * ∑ d, y d * w d) * b * (sgm a * (1 + a * (1 - sgm a))) : ℝ) : EReal) := by
  pointwise [k3_pay6, k3_pay1, k3_pay2, k3_pay3, k3_pay4]
  simp only [hy, hw, ha, hb, ofBits_half, ← EReal.coe_one, ← EReal.coe_mul, sum_coe, Ideal.tanh_coe, ← EReal.coe_add, sgm_tanh,
    ← EReal.coe_sub]

theorem k3_pay7_at {v0 : Vec Ideal S1024x1024 .bf16} {v2 : Vec Ideal S1x768x1024 .bf16} {v7 : Vec Ideal S1024x768 .bf16}
    {y w : Fin 1024 → ℝ} {a : ℝ} (r : Fin 1024) (c : Fin 768) (hy : ∀ d : Fin 1024, v0 (ix2 r d) = (y d : EReal))
    (hw : ∀ d : Fin 1024, v2 (ix3 0 c d) = (w d : EReal)) (ha : v7 (ix2 r c) = (a : EReal)) :
    @Eq EReal (k3_pay7 v0 v2 v7 (ix2 r c)) (((1 / 2 * ∑ d, y d * w d) * (a * sgm a) : ℝ) : EReal) := by
  pointwise [k3_pay7, k3_pay1, k3_pay2, k3_pay4, k3_pay5]
  simp only [hy, hw, ha, ofBits_half, ← EReal.coe_mul, sum_coe, Ideal.tanh_coe, ← EReal.coe_add, sgm_tanh]

theorem k3_pay8_at {v7 v10 : Vec Ideal S1024x768 .bf16} {a b : ℝ} (r : Fin 1024) (c : Fin 768)
    (ha : v7 (ix2 r c) = (a : EReal)) (hb : v10 (ix2 r c) = (b : EReal)) :
    @Eq EReal (k3_pay8 v7 v10 (ix2 r c)) ((a * sgm a * b : ℝ) : EReal) := by
  pointwise [k3_pay8, k3_pay2, k3_pay3, k3_pay4, k3_pay5]
  simp only [ha, hb, ofBits_half, ← EReal.coe_mul, Ideal.tanh_coe, ← EReal.coe_add, sgm_tanh]

theorem k4_pay1_at {v0 : Vec Ideal S4096x1024 .bf16} {v2 : Vec Ideal S4096x512 .bf16} {a b : Fin 4096 → ℝ} (r : Fin 1024) (c : Fin 512)
    (ha : ∀ t : Fin 4096, v0 (ix2 t r) = (a t : EReal)) (hb : ∀ t : Fin 4096, v2 (ix2 t c) = (b t : EReal)) :
    @Eq EReal (k4_pay1 v0 v2 (ix2 r c)) (((∑ t, a t * b t) * (1 / 2) : ℝ) : EReal) := by
  pointwise [k4_pay1]
  simp only [ha, hb, ofBits_half, ← EReal.coe_mul, sum_coe]

theorem k5_pay1_at {v0 : Vec Ideal S4096x512 .bf16} {v2 : Vec Ideal S4096x768 .bf16} {a b : Fin 4096 → ℝ} (r : Fin 512) (c : Fin 768)
    (ha : ∀ t : Fin 4096, v0 (ix2 t r) = (a t : EReal)) (hb : ∀ t : Fin 4096, v2 (ix2 t c) = (b t : EReal)) :
    @Eq EReal (k5_pay1 v0 v2 (ix3 0 r c)) ((∑ t, a t * b t : ℝ) : EReal) := by
  pointwise [k5_pay1]
  simp only [ha, hb, ← EReal.coe_mul, sum_coe]

theorem k6_pay1_at {v0 : Vec Ideal S4096x512 .bf16} {v2 : Vec Ideal S4096x768 .bf16} {a b : Fin 4096 → ℝ} (r : Fin 512) (c : Fin 768)
    (ha : ∀ t : Fin 4096, v0 (ix2 t r) = (a t : EReal)) (hb : ∀ t : Fin 4096, v2 (ix2 t c) = (b t : EReal)) :
    @Eq EReal (k6_pay1 v0 v2 (ix3 0 r c)) ((∑ t, a t * b t : ℝ) : EReal) := by
  pointwise [k6_pay1]
  simp only [ha, hb, ← EReal.coe_mul, sum_coe]

theorem k7_pay3_at {v0 : Vec Ideal S512x768 .bf16} {v2 : Vec Ideal S1x512x768 .bf16} {a w : ℕ → ℝ} (r d : Fin 512)
    (ha : ∀ c : Fin 768, v0 (ix2 r c) = (a c : EReal)) (hw : ∀ c : Fin 768, v2 (ix3 0 d c) = (w c : EReal)) :
    @Eq EReal (k7_pay3 v0 v2 (ix2 r d)) ((∑ c : Fin 768, a c * w c : ℝ) : EReal) := by
  pointwise [k7_pay3]
  simp only [ha, hw, ← EReal.coe_mul, sum_coe]

theorem k7_pay2_at {v0 v5 v11 v17 : Vec Ideal S512x768 .bf16} {v2 v7 v13 v19 : Vec Ideal S1x512x768 .bf16}
    {a w : ℕ → ℕ → ℝ} (r d : Fin 512)
    (h0 : ∀ c : Fin 768, v0 (ix2 r c) = (a 0 c : EReal)) (h1 : ∀ c : Fin 768, v5 (ix2 r c) = (a 1 c : EReal))
    (h2 : ∀ c : Fin 768, v11 (ix2 r c) = (a 2 c : EReal)) (h3 : ∀ c : Fin 768, v17 (ix2 r c) = (a 3 c : EReal))
    (w0 : ∀ c : Fin 768, v2 (ix3 0 d c) = (w 0 c : EReal)) (w1 : ∀ c : Fin 768, v7 (ix3 0 d c) = (w 1 c : EReal))
    (w2 : ∀ c : Fin 768, v13 (ix3 0 d c) = (w 2 c : EReal)) (w3 : ∀ c : Fin 768, v19 (ix3 0 d c) = (w 3 c : EReal)) :
    @Eq EReal (k7_pay2 v0 v2 v5 v7 v11 v13 v17 v19 (ix2 r d))
      (((∑ c : Fin 768, a 0 c * w 0 c) + (∑ c : Fin 768, a 1 c * w 1 c) + (∑ c : Fin 768, a 2 c * w 2 c)
        + ∑ c : Fin 768, a 3 c * w 3 c : ℝ) : EReal) := by
  pointwise [k7_pay2]
  simp only [h0, h1, h2, h3, w0, w1, w2, w3, ← EReal.coe_mul, sum_coe, ← EReal.coe_add]

theorem k7_pay1_at {p q : FVec Ideal S512x512 .f32} {v5 v11 v17 : Vec Ideal S512x768 .bf16} {v7 v13 v19 : Vec Ideal S1x512x768 .bf16}
    {a w : ℕ → ℕ → ℝ} {x : ℝ} (r d : Fin 512)
    (hp : p (ix2 r d) = (x : EReal)) (hq : q (ix2 r d) = ((∑ c : Fin 768, a 0 c * w 0 c : ℝ) : EReal)) (h1 : ∀ c : Fin 768, v5 (ix2 r c) = (a 1 c : EReal))
    (h2 : ∀ c : Fin 768, v11 (ix2 r c) = (a 2 c : EReal)) (h3 : ∀ c : Fin 768, v17 (ix2 r c) = (a 3 c : EReal))
    (w1 : ∀ c : Fin 768, v7 (ix3 0 d c) = (w 1 c : EReal))
    (w2 : ∀ c : Fin 768, v13 (ix3 0 d c) = (w 2 c : EReal)) (w3 : ∀ c : Fin 768, v19 (ix3 0 d c) = (w 3 c : EReal)) :
    @Eq EReal (k7_pay1 p q v5 v7 v11 v13 v17 v19 (ix2 r d))
      ((x + ((∑ c : Fin 768, a 0 c * w 0 c) + (∑ c : Fin 768, a 1 c * w 1 c) + (∑ c : Fin 768, a 2 c * w 2 c)
        + ∑ c : Fin 768, a 3 c * w 3 c) : ℝ) : EReal) := by
  pointwise [k7_pay1]
  simp only [hp, hq, h1, h2, h3, w1, w2, w3, ← EReal.coe_mul, sum_coe, ← EReal.coe_add, add_assoc]

theorem k8_pay3_at {v0 : Vec Ideal S512x1024 .f32} {x : Fin 1024 → ℝ} (r : Fin 512)
    (hx : ∀ d : Fin 1024, v0 (ix2 r d) = (x d : EReal)) (d : Fin 1024) :
    @Eq EReal (k8_pay3 v0 (ix2 r d)) ((x d * (√(ms x))⁻¹ : ℝ) : EReal) := by
  pointwise [k8_pay3, k8_pay2]
  simp only [hx, ofBits_1024, ofBits_eps, ← EReal.coe_mul, sum_coe, inv_rms_at]

theorem k8_pay5_at {v0 v11 v17 : Vec Ideal S512x1024 .f32} {v13 : Vec Ideal S1x1024 .f32} {x h g : Fin 1024 → ℝ} {y : ℝ} (r : Fin 512) (d : Fin 1024)
    (hx : ∀ d : Fin 1024, v0 (ix2 r d) = (x d : EReal)) (hh : ∀ d : Fin 1024, v11 (ix2 r d) = (h d : EReal))
    (hg : ∀ d : Fin 1024, v13 (ix2 0 d) = (g d : EReal)) (hy : v17 (ix2 r d) = (y : EReal)) :
    @Eq EReal (k8_pay5 v0 v11 v13 v17 (ix2 r d))
      ((y + (√(ms x))⁻¹ * (h d * g d - x d * (√(ms x))⁻¹ * ((∑ e, h e * g e * (x e * (√(ms x))⁻¹)) * (1 / 1024))) : ℝ) : EReal) := by
  pointwise [k8_pay5, k8_pay4, k8_pay3, k8_pay2]
  simp only [hx, hh, hg, hy, ofBits_1024, ofBits_eps, ← EReal.coe_mul, sum_coe, inv_rms_at]
  rw [Ideal.div_coe (by norm_num)]
  simp only [← EReal.coe_mul, ← EReal.coe_sub, ← EReal.coe_add]

theorem k8_pay1_at {v0 v11 : FVec Ideal S512x1024 .f32} {v35 : Vec Ideal S8x1024 .f32} {x h : ℕ → ℝ} {p : ℝ} (r : Fin 8) (d : Fin 1024)
    (hx : ∀ t : Fin 512, v0 (ix2 t d) = (x t : EReal)) (hh : ∀ t : Fin 512, v11 (ix2 t d) = (h t : EReal)) (hp : v35 (ix2 r d) = (p : EReal)) :
    @Eq EReal (k8_pay1 v0 v11 v35 (ix2 r d)) ((p + ∑ i : Fin 64, h (i * 8 + r) * x (i * 8 + r) : ℝ) : EReal) := by
  pointwise [k8_pay1]
  simp only [hx, hh, hp, ← EReal.coe_mul, sum_coe, ← EReal.coe_add]

end Cert.Proof.Half
-- ==== Proof.HalfUp.lean ====
/-
  The forward calls over the reals: the norm, the gated products and the product with the third weight.
-/
module

public import proofs.«01_k».proof.Proof.HalfPay
public import proofs.«01_k».proof.Proof.Gen.Kernel2Ideal.Frame.Region0
public import proofs.«01_k».proof.Proof.Gen.Kernel2Ideal.Frame.Region1
public import proofs.«01_k».proof.Proof.Gen.Kernel2Ideal.Frame.Region2
public import Idealize.ShloMosaic.Lib.Pipeline.ValueKit

@[expose] public section

set_option maxRecDepth 16384

noncomputable section

namespace Cert.Proof.Half

open Cert.Kernel2Ideal Cert.Kernel2Ideal.Gen
open Idealize.ShloMosaic Idealize.ShloMosaic.TcCoe Idealize.ShloMosaic.Tactic
open Idealize.ShloMosaic.Pipeline (Dat Cfg Window)

variable (V : (c : Dev nD) → (b : Ref sig .tc) → Buf (Elt Ideal) ((c : Thread nD τ).loc b)) (W : FF)

theorem off2 : (![0, 0] : Fin 2 → ℕ) = fun _ => 0 := by decide
theorem off3 : (![0, 0, 0] : Fin 3 → ℕ) = fun _ => 0 := by decide

theorem ix2_eta {a b : ℕ} (y : (⟨2, ![a, b]⟩ : Shape).Idx) : y = ix2 (y 0 : Fin a) (y 1 : Fin b) := by
  funext i; match i with
  | 0 => rfl
  | 1 => rfl

/-! ## The norm -/

theorem idx0_0 : ∀ t : Fin cfg0.N, win0_0.index t = ![((grid0.coords t) 0).val, 0] := by decide +kernel
theorem idx0_1 : ∀ t : Fin cfg0.N, win0_1.index t = ![0, 0] := by decide +kernel
theorem idx0_2 : ∀ t : Fin cfg0.N, win0_2.index t = ![((grid0.coords t) 0).val, 0] := by decide +kernel

theorem iblk0_0 (c : Dev nD) (hx : V c main_arg0 = fun y : S4096x1024.Idx => ((W.X (y 0) (y 1) : ℝ) : EReal)) (t : Fin cfg0.N) (r : Fin 512) (d : Fin 1024) :
    iblk0 V c 0 t (ix2 r d) = ((W.X (((grid0.coords t) 0).val * 512 + r) d : ℝ) : EReal) := by
  have e := idx0_0 t
  have h : iblk0 V c 0 t (ix2 r d) = V c main_arg0 (ix2 (⟨((grid0.coords t) 0).val * 512 + r.val, by
      have : ((grid0.coords t) 0).val < 8 := ((grid0.coords t) 0).isLt; omega⟩ : Fin 4096) d) := by
    blk_ext [iblk0, e]
  rw [h, hx]; rfl

theorem iblk0_1 (c : Dev nD) (hg : V c main_v15 = fun y : S1x1024.Idx => ((W.G (y 1) : ℝ) : EReal)) (t : Fin cfg0.N) (d : Fin 1024) :
    iblk0 V c 1 t (ix2 0 d) = ((W.G d : ℝ) : EReal) := by
  have e := idx0_1 t
  have h : iblk0 V c 1 t (ix2 0 d) = V c main_v15 (ix2 0 d) := by
    blk_ext [iblk0, e]
  rw [h, hg]; rfl

theorem out0_2_eq (x0 : Vec Ideal S512x1024 .f32) (x1 : Vec Ideal S1x1024 .f32) : out0_2 x0 x1 = k0_pay1 x0 x1 := by
  unfold out0_2
  rw [View.canon_unit_zero off2, View.ld_unit_zero off2, View.ld_unit_zero off2]

theorem arr0 (c : Dev nD) (hx : V c main_arg0 = fun y : S4096x1024.Idx => ((W.X (y 0) (y 1) : ℝ) : EReal))
    (hg : V c main_v15 = fun y : S1x1024.Idx => ((W.G (y 1) : ℝ) : EReal)) :
    (dat0 V c).arrAt 2 cfg0.N = fun y : S4096x1024.Idx => ((W.H (y 0) (y 1) : ℝ) : EReal) := by
  refine (dat0 V c).arrAt_eq_of_covers 2 _ (by decide +kernel) fun t hf y => ?_
  have e := idx0_2 t
  blk_simp
  rw [after0_2, e, out0_2_eq]
  refine (congrArg (k0_pay1 (iblk0 V c 0 t) (iblk0 V c 1 t)) (ix2_eta (a := 512) (b := 1024) y)).trans ?_
  refine (k0_pay1_at (y 0 : Fin 512) (iblk0_0 V W c hx t (y 0 : Fin 512)) (iblk0_1 V W c hg t) (y 1 : Fin 1024)).trans ?_
  show _ = ((W.H (((grid0.coords t) 0).val * 512 + (y 0).val) (0 * 1024 + (y 1).val) : ℝ) : EReal)
  rw [Nat.zero_mul, Nat.zero_add]
  rfl

/-! ## The gated products -/

theorem idx1_0 : ∀ t : Fin cfg1.N, win1_0.index t = ![((grid1.coords t) 1).val, 0] := by decide +kernel
theorem idx1_1 : ∀ t : Fin cfg1.N, win1_1.index t = ![((grid1.coords t) 0).val, 2, 0] := by decide +kernel
theorem idx1_2 : ∀ t : Fin cfg1.N, win1_2.index t = ![((grid1.coords t) 0).val, 3, 0] := by decide +kernel
theorem idx1_3 : ∀ t : Fin cfg1.N, win1_3.index t = ![((grid1.coords t) 1).val, ((grid1.coords t) 0).val] := by decide +kernel
theorem idx1_4 : ∀ t : Fin cfg1.N, win1_4.index t = ![((grid1.coords t) 1).val, ((grid1.coords t) 0).val] := by decide +kernel
theorem idx1_5 : ∀ t : Fin cfg1.N, win1_5.index t = ![((grid1.coords t) 1).val, ((grid1.coords t) 0).val] := by decide +kernel

theorem iblk1_0 (c : Dev nD) (hh : V c main_v16 = fun y : S4096x1024.Idx => ((W.H (y 0) (y 1) : ℝ) : EReal)) (t : Fin cfg1.N) (r d : Fin 1024) :
    iblk1 V c 0 t (ix2 r d) = ((W.H (((grid1.coords t) 1).val * 1024 + r) d : ℝ) : EReal) := by
  have e := idx1_0 t
  have h : iblk1 V c 0 t (ix2 r d) = V c main_v16 (ix2 (⟨((grid1.coords t) 1).val * 1024 + r.val, by
      have : ((grid1.coords t) 1).val < 4 := ((grid1.coords t) 1).isLt; omega⟩ : Fin 4096) d) := by
    blk_ext [iblk1, e]
  rw [h, hh]; rfl

/-- The packed gate and up weights of the half-step, as the calls read them. -/
def GateOk (w : S4x4096x768.Idx → EReal) : Prop :=
  ∀ (k : Fin 4) (d : Fin 1024) (n : Fin 768), w (ix3 k (⟨2 * 1024 + d.val, by omega⟩ : Fin 4096) n) = ((pad (W.WG d) k n : ℝ) : EReal)

def UpOk (w : S4x4096x768.Idx → EReal) : Prop :=
  ∀ (k : Fin 4) (d : Fin 1024) (n : Fin 768), w (ix3 k (⟨3 * 1024 + d.val, by omega⟩ : Fin 4096) n) = ((pad (W.WU d) k n : ℝ) : EReal)

/-- The packed down weights of the half-step. -/
def DownOk (w : S4x1536x1024.Idx → EReal) : Prop :=
  ∀ (k : Fin 4) (n : Fin 768) (d : Fin 1024), w (ix3 k (⟨1 * 768 + n.val, by omega⟩ : Fin 1536) d) = ((pad (fun f => W.WD f d) k n : ℝ) : EReal)

theorem iblk1_1 (c : Dev nD) (hw : GateOk W (V c main_v9)) (t : Fin cfg1.N) (d : Fin 1024) (n : Fin 768) :
    iblk1 V c 1 t (ix3 0 d n) = ((pad (W.WG d) ((grid1.coords t) 0).val n : ℝ) : EReal) := by
  have e := idx1_1 t
  have h : iblk1 V c 1 t (ix3 0 d n) = V c main_v9 (ix3 (⟨((grid1.coords t) 0).val, ((grid1.coords t) 0).isLt⟩ : Fin 4) (⟨2 * 1024 + d.val, by omega⟩ : Fin 4096) n) := by
    blk_ext [iblk1, e]
  exact h.trans (hw _ _ _)

theorem iblk1_2 (c : Dev nD) (hw : UpOk W (V c main_v9)) (t : Fin cfg1.N) (d : Fin 1024) (n : Fin 768) :
    iblk1 V c 2 t (ix3 0 d n) = ((pad (W.WU d) ((grid1.coords t) 0).val n : ℝ) : EReal) := by
  have e := idx1_2 t
  have h : iblk1 V c 2 t (ix3 0 d n) = V c main_v9 (ix3 (⟨((grid1.coords t) 0).val, ((grid1.coords t) 0).isLt⟩ : Fin 4) (⟨3 * 1024 + d.val, by omega⟩ : Fin 4096) n) := by
    blk_ext [iblk1, e]
  exact h.trans (hw _ _ _)

theorem out1_3_eq (x0 : Vec Ideal S1024x1024 .bf16) (x1 x2 : Vec Ideal S1x1024x768 .bf16) : out1_3 x0 x1 x2 = k1_pay4 x0 x1 := by
  unfold out1_3
  rw [View.canon_unit_zero off2, View.ld_unit_zero off2, View.ld_unit_zero off3]

theorem out1_4_eq (x0 : Vec Ideal S1024x1024 .bf16) (x1 x2 : Vec Ideal S1x1024x768 .bf16) : out1_4 x0 x1 x2 = k1_pay5 x0 x2 := by
  unfold out1_4
  rw [View.canon_unit_zero off2, View.ld_unit_zero off2, View.ld_unit_zero off3]

theorem out1_5_eq (x0 : Vec Ideal S1024x1024 .bf16) (x1 x2 : Vec Ideal S1x1024x768 .bf16) : out1_5 x0 x1 x2 = k1_pay6 x0 x1 x2 := by
  unfold out1_5
  rw [View.canon_unit_zero off2, View.ld_unit_zero off2, View.ld_unit_zero off3, View.ld_unit_zero off3]

theorem sum_gate (h : Fin 1024 → ℝ) (w : ℕ → ℕ → ℝ) (k c : ℕ) :
    ∑ d : Fin 1024, h d * pad (w d) k c = pad (fun n => ∑ d : Fin 1024, h d * w d n) k c := by
  rw [← sum_pad_at]
  exact Finset.sum_congr rfl fun d _ => mul_pad _ _ _ _

theorem arr1_3 (c : Dev nD) (hh : V c main_v16 = fun y : S4096x1024.Idx => ((W.H (y 0) (y 1) : ℝ) : EReal)) (hg : GateOk W (V c main_v9)) :
    (dat1 V c).arrAt 3 cfg1.N = fun y : S4096x3072.Idx => ((col (W.A (y 0)) (y 1) : ℝ) : EReal) := by
  refine (dat1 V c).arrAt_eq_of_covers 3 _ (by decide +kernel) fun t hf y => ?_
  have e := idx1_3 t
  blk_simp
  rw [after1_3, e, out1_3_eq]
  refine (congrArg (k1_pay4 (iblk1 V c 0 t) (iblk1 V c 1 t)) (ix2_eta (a := 1024) (b := 768) y)).trans ?_
  refine (k1_pay4_at (y 0 : Fin 1024) (y 1 : Fin 768) (iblk1_0 V W c hh t (y 0 : Fin 1024)) (fun d => iblk1_1 V W c hg t d (y 1 : Fin 768))).trans ?_
  show _ = ((col (W.A (((grid1.coords t) 1).val * 1024 + (y 0).val)) (((grid1.coords t) 0).val * 768 + (y 1).val) : ℝ) : EReal)
  rw [col_at _ _ _ (y 1 : Fin 768).isLt, sum_gate]
  rfl

theorem arr1_4 (c : Dev nD) (hh : V c main_v16 = fun y : S4096x1024.Idx => ((W.H (y 0) (y 1) : ℝ) : EReal)) (hu : UpOk W (V c main_v9)) :
    (dat1 V c).arrAt 4 cfg1.N = fun y : S4096x3072.Idx => ((col (W.B (y 0)) (y 1) : ℝ) : EReal) := by
  refine (dat1 V c).arrAt_eq_of_covers 4 _ (by decide +kernel) fun t hf y => ?_
  have e := idx1_4 t
  blk_simp
  rw [after1_4, e, out1_4_eq]
  refine (congrArg (k1_pay5 (iblk1 V c 0 t) (iblk1 V c 2 t)) (ix2_eta (a := 1024) (b := 768) y)).trans ?_
  refine (k1_pay5_at (y 0 : Fin 1024) (y 1 : Fin 768) (iblk1_0 V W c hh t (y 0 : Fin 1024)) (fun d => iblk1_2 V W c hu t d (y 1 : Fin 768))).trans ?_
  show _ = ((col (W.B (((grid1.coords t) 1).val * 1024 + (y 0).val)) (((grid1.coords t) 0).val * 768 + (y 1).val) : ℝ) : EReal)
  rw [col_at _ _ _ (y 1 : Fin 768).isLt, sum_gate]
  rfl

theorem arr1_5 (c : Dev nD) (hh : V c main_v16 = fun y : S4096x1024.Idx => ((W.H (y 0) (y 1) : ℝ) : EReal)) (hg : GateOk W (V c main_v9))
    (hu : UpOk W (V c main_v9)) :
    (dat1 V c).arrAt 5 cfg1.N = fun y : S4096x3072.Idx => ((col (W.M (y 0)) (y 1) : ℝ) : EReal) := by
  refine (dat1 V c).arrAt_eq_of_covers 5 _ (by decide +kernel) fun t hf y => ?_
  have e := idx1_5 t
  blk_simp
  rw [after1_5, e, out1_5_eq]
  refine (congrArg (k1_pay6 (iblk1 V c 0 t) (iblk1 V c 1 t) (iblk1 V c 2 t)) (ix2_eta (a := 1024) (b := 768) y)).trans ?_
  refine (k1_pay6_at (y 0 : Fin 1024) (y 1 : Fin 768) (iblk1_0 V W c hh t (y 0 : Fin 1024)) (fun d => iblk1_1 V W c hg t d (y 1 : Fin 768))
    (fun d => iblk1_2 V W c hu t d (y 1 : Fin 768))).trans ?_
  show _ = ((col (W.M (((grid1.coords t) 1).val * 1024 + (y 0).val)) (((grid1.coords t) 0).val * 768 + (y 1).val) : ℝ) : EReal)
  rw [col_at _ _ _ (y 1 : Fin 768).isLt, sum_gate, sum_gate, pad_gate]
  rfl

/-! ## The product with the third weight -/

theorem idx2_0 : ∀ t : Fin cfg2.N, win2_0.index t = ![((grid2.coords t) 0).val, 0] := by decide +kernel
theorem idx2_1 : ∀ t : Fin cfg2.N, win2_1.index t = ![0, 1, ((grid2.coords t) 1).val] := by decide +kernel
theorem idx2_2 : ∀ t : Fin cfg2.N, win2_2.index t = ![((grid2.coords t) 0).val, 1] := by decide +kernel
theorem idx2_3 : ∀ t : Fin cfg2.N, win2_3.index t = ![1, 1, ((grid2.coords t) 1).val] := by decide +kernel
theorem idx2_4 : ∀ t : Fin cfg2.N, win2_4.index t = ![((grid2.coords t) 0).val, 2] := by decide +kernel
theorem idx2_5 : ∀ t : Fin cfg2.N, win2_5.index t = ![2, 1, ((grid2.coords t) 1).val] := by decide +kernel
theorem idx2_6 : ∀ t : Fin cfg2.N, win2_6.index t = ![((grid2.coords t) 0).val, 3] := by decide +kernel
theorem idx2_7 : ∀ t : Fin cfg2.N, win2_7.index t = ![3, 1, ((grid2.coords t) 1).val] := by decide +kernel
theorem idx2_8 : ∀ t : Fin cfg2.N, win2_8.index t = ![((grid2.coords t) 0).val, ((grid2.coords t) 1).val] := by decide +kernel
theorem idx2_9 : ∀ t : Fin cfg2.N, win2_9.index t = ![((grid2.coords t) 0).val, ((grid2.coords t) 1).val] := by decide +kernel

theorem iblk2_0 (c : Dev nD) (hm : V c main_v17_2 = fun y : S4096x3072.Idx => ((col (W.M (y 0)) (y 1) : ℝ) : EReal)) (t : Fin cfg2.N) (r : Fin 1024) (n : Fin 768) :
    iblk2 V c 0 t (ix2 r n) = ((pad (W.M (((grid2.coords t) 0).val * 1024 + r)) 0 n : ℝ) : EReal) := by
  have e := idx2_0 t
  have h : iblk2 V c 0 t (ix2 r n) = V c main_v17_2 (ix2 (⟨((grid2.coords t) 0).val * 1024 + r.val, by
      have : ((grid2.coords t) 0).val < 4 := ((grid2.coords t) 0).isLt; omega⟩ : Fin 4096) (⟨0 * 768 + n.val, by omega⟩ : Fin 3072)) := by
    blk_ext [iblk2, e]
  rw [h, hm, ← col_at _ _ _ n.isLt]; rfl

theorem iblk2_1 (c : Dev nD) (hw : DownOk W (V c main_v14)) (t : Fin cfg2.N) (n : Fin 768) (d : Fin 512) :
    iblk2 V c 1 t (ix3 0 n d) = ((pad (fun f => W.WD f (((grid2.coords t) 1).val * 512 + d)) 0 n : ℝ) : EReal) := by
  have e := idx2_1 t
  have h : iblk2 V c 1 t (ix3 0 n d) = V c main_v14 (ix3 (⟨0, by omega⟩ : Fin 4) (⟨1 * 768 + n.val, by omega⟩ : Fin 1536) (⟨((grid2.coords t) 1).val * 512 + d.val, by
      have : ((grid2.coords t) 1).val < 2 := ((grid2.coords t) 1).isLt; omega⟩ : Fin 1024)) := by
    blk_ext [iblk2, e]
  exact h.trans (hw _ _ _)

theorem iblk2_2 (c : Dev nD) (hm : V c main_v17_2 = fun y : S4096x3072.Idx => ((col (W.M (y 0)) (y 1) : ℝ) : EReal)) (t : Fin cfg2.N) (r : Fin 1024) (n : Fin 768) :
    iblk2 V c 2 t (ix2 r n) = ((pad (W.M (((grid2.coords t) 0).val * 1024 + r)) 1 n : ℝ) : EReal) := by
  have e := idx2_2 t
  have h : iblk2 V c 2 t (ix2 r n) = V c main_v17_2 (ix2 (⟨((grid2.coords t) 0).val * 1024 + r.val, by
      have : ((grid2.coords t) 0).val < 4 := ((grid2.coords t) 0).isLt; omega⟩ : Fin 4096) (⟨1 * 768 + n.val, by omega⟩ : Fin 3072)) := by
    blk_ext [iblk2, e]
  rw [h, hm, ← col_at _ _ _ n.isLt]; rfl

theorem iblk2_3 (c : Dev nD) (hw : DownOk W (V c main_v14)) (t : Fin cfg2.N) (n : Fin 768) (d : Fin 512) :
    iblk2 V c 3 t (ix3 0 n d) = ((pad (fun f => W.WD f (((grid2.coords t) 1).val * 512 + d)) 1 n : ℝ) : EReal) := by
  have e := idx2_3 t
  have h : iblk2 V c 3 t (ix3 0 n d) = V c main_v14 (ix3 (⟨1, by omega⟩ : Fin 4) (⟨1 * 768 + n.val, by omega⟩ : Fin 1536) (⟨((grid2.coords t) 1).val * 512 + d.val, by
      have : ((grid2.coords t) 1).val < 2 := ((grid2.coords t) 1).isLt; omega⟩ : Fin 1024)) := by
    blk_ext [iblk2, e]
  exact h.trans (hw _ _ _)

theorem iblk2_4 (c : Dev nD) (hm : V c main_v17_2 = fun y : S4096x3072.Idx => ((col (W.M (y 0)) (y 1) : ℝ) : EReal)) (t : Fin cfg2.N) (r : Fin 1024) (n : Fin 768) :
    iblk2 V c 4 t (ix2 r n) = ((pad (W.M (((grid2.coords t) 0).val * 1024 + r)) 2 n : ℝ) : EReal) := by
  have e := idx2_4 t
  have h : iblk2 V c 4 t (ix2 r n) = V c main_v17_2 (ix2 (⟨((grid2.coords t) 0).val * 1024 + r.val, by
      have : ((grid2.coords t) 0).val < 4 := ((grid2.coords t) 0).isLt; omega⟩ : Fin 4096) (⟨2 * 768 + n.val, by omega⟩ : Fin 3072)) := by
    blk_ext [iblk2, e]
  rw [h, hm, ← col_at _ _ _ n.isLt]; rfl

theorem iblk2_5 (c : Dev nD) (hw : DownOk W (V c main_v14)) (t : Fin cfg2.N) (n : Fin 768) (d : Fin 512) :
    iblk2 V c 5 t (ix3 0 n d) = ((pad (fun f => W.WD f (((grid2.coords t) 1).val * 512 + d)) 2 n : ℝ) : EReal) := by
  have e := idx2_5 t
  have h : iblk2 V c 5 t (ix3 0 n d) = V c main_v14 (ix3 (⟨2, by omega⟩ : Fin 4) (⟨1 * 768 + n.val, by omega⟩ : Fin 1536) (⟨((grid2.coords t) 1).val * 512 + d.val, by
      have : ((grid2.coords t) 1).val < 2 := ((grid2.coords t) 1).isLt; omega⟩ : Fin 1024)) := by
    blk_ext [iblk2, e]
  exact h.trans (hw _ _ _)

theorem iblk2_6 (c : Dev nD) (hm : V c main_v17_2 = fun y : S4096x3072.Idx => ((col (W.M (y 0)) (y 1) : ℝ) : EReal)) (t : Fin cfg2.N) (r : Fin 1024) (n : Fin 768) :
    iblk2 V c 6 t (ix2 r n) = ((pad (W.M (((grid2.coords t) 0).val * 1024 + r)) 3 n : ℝ) : EReal) := by
  have e := idx2_6 t
  have h : iblk2 V c 6 t (ix2 r n) = V c main_v17_2 (ix2 (⟨((grid2.coords t) 0).val * 1024 + r.val, by
      have : ((grid2.coords t) 0).val < 4 := ((grid2.coords t) 0).isLt; omega⟩ : Fin 4096) (⟨3 * 768 + n.val, by omega⟩ : Fin 3072)) := by
    blk_ext [iblk2, e]
  rw [h, hm, ← col_at _ _ _ n.isLt]; rfl

theorem iblk2_7 (c : Dev nD) (hw : DownOk W (V c main_v14)) (t : Fin cfg2.N) (n : Fin 768) (d : Fin 512) :
    iblk2 V c 7 t (ix3 0 n d) = ((pad (fun f => W.WD f (((grid2.coords t) 1).val * 512 + d)) 3 n : ℝ) : EReal) := by
  have e := idx2_7 t
  have h : iblk2 V c 7 t (ix3 0 n d) = V c main_v14 (ix3 (⟨3, by omega⟩ : Fin 4) (⟨1 * 768 + n.val, by omega⟩ : Fin 1536) (⟨((grid2.coords t) 1).val * 512 + d.val, by
      have : ((grid2.coords t) 1).val < 2 := ((grid2.coords t) 1).isLt; omega⟩ : Fin 1024)) := by
    blk_ext [iblk2, e]
  exact h.trans (hw _ _ _)

theorem iblk2_8 (c : Dev nD) (hx : V c main_arg0 = fun y : S4096x1024.Idx => ((W.X (y 0) (y 1) : ℝ) : EReal)) (t : Fin cfg2.N) (r : Fin 1024) (d : Fin 512) :
    iblk2 V c 8 t (ix2 r d) = ((W.X (((grid2.coords t) 0).val * 1024 + r) (((grid2.coords t) 1).val * 512 + d) : ℝ) : EReal) := by
  have e := idx2_8 t
  have h : iblk2 V c 8 t (ix2 r d) = V c main_arg0 (ix2 (⟨((grid2.coords t) 0).val * 1024 + r.val, by
      have : ((grid2.coords t) 0).val < 4 := ((grid2.coords t) 0).isLt; omega⟩ : Fin 4096) (⟨((grid2.coords t) 1).val * 512 + d.val, by
      have : ((grid2.coords t) 1).val < 2 := ((grid2.coords t) 1).isLt; omega⟩ : Fin 1024)) := by
    blk_ext [iblk2, e]
  rw [h, hx]; rfl

theorem out2_9_eq (x0 x2 x4 x6 : Vec Ideal S1024x768 .bf16) (x1 x3 x5 x7 : Vec Ideal S1x768x512 .bf16) (x8 : Vec Ideal S1024x512 .f32) :
    out2_9 x0 x1 x2 x3 x4 x5 x6 x7 x8 = k2_pay1 x0 x1 x2 x3 x4 x5 x6 x7 x8 := by
  unfold out2_9
  rw [View.canon_unit_zero off2]
  rw [View.ld_unit_zero off2, View.ld_unit_zero off3, View.ld_unit_zero off2,
    View.ld_unit_zero off3, View.ld_unit_zero off2, View.ld_unit_zero off3, View.ld_unit_zero off2, View.ld_unit_zero off3, View.ld_unit_zero off2]

theorem arr2 (c : Dev nD) (hm : V c main_v17_2 = fun y : S4096x3072.Idx => ((col (W.M (y 0)) (y 1) : ℝ) : EReal)) (hw : DownOk W (V c main_v14))
    (hx : V c main_arg0 = fun y : S4096x1024.Idx => ((W.X (y 0) (y 1) : ℝ) : EReal)) :
    (dat2 V c).arrAt 9 cfg2.N = fun y : S4096x1024.Idx => ((W.Y (y 0) (y 1) : ℝ) : EReal) := by
  refine (dat2 V c).arrAt_eq_of_covers 9 _ (by decide +kernel) fun t hf y => ?_
  have e := idx2_9 t
  blk_simp
  rw [after2_9, e, out2_9_eq]
  refine (congrArg (k2_pay1 (iblk2 V c 0 t) (iblk2 V c 1 t) (iblk2 V c 2 t) (iblk2 V c 3 t) (iblk2 V c 4 t) (iblk2 V c 5 t) (iblk2 V c 6 t)
    (iblk2 V c 7 t) (iblk2 V c 8 t)) (ix2_eta (a := 1024) (b := 512) y)).trans ?_
  refine (k2_pay1_at (m := pad (W.M (((grid2.coords t) 0).val * 1024 + (y 0).val)))
    (w := pad (fun f => W.WD f (((grid2.coords t) 1).val * 512 + (y 1).val))) (y 0 : Fin 1024) (y 1 : Fin 512)
    (iblk2_0 V W c hm t (y 0 : Fin 1024)) (iblk2_2 V W c hm t (y 0 : Fin 1024)) (iblk2_4 V W c hm t (y 0 : Fin 1024)) (iblk2_6 V W c hm t (y 0 : Fin 1024))
    (fun n => iblk2_1 V W c hw t n (y 1 : Fin 512)) (fun n => iblk2_3 V W c hw t n (y 1 : Fin 512)) (fun n => iblk2_5 V W c hw t n (y 1 : Fin 512))
    (fun n => iblk2_7 V W c hw t n (y 1 : Fin 512)) (iblk2_8 V W c hx t (y 0 : Fin 1024) (y 1 : Fin 512))).trans ?_
  show _ = ((W.Y (((grid2.coords t) 0).val * 1024 + (y 0).val) (((grid2.coords t) 1).val * 512 + (y 1).val) : ℝ) : EReal)
  simp only [pad_mul, sum_chips]
  rfl

end Cert.Proof.Half
-- ==== Proof.HalfArgs.lean ====
/-
  The real inputs of a half-step, read out of the six argument arrays.
-/
module

public import proofs.«01_k».proof.Proof.HalfMath
public import proofs.«01_k».proof.Proof.Heads

@[expose] public section

noncomputable section

namespace Cert.Proof.Half

open Idealize.ShloMosaic Idealize.ShloMosaic.Tactic
open Cert.Proof.SB (Finite)

abbrev Tok := (a : Fin 2) → Fin ((![4096, 1024] : Fin 2 → ℕ) a)
abbrev Gain := (a : Fin 1) → Fin ((![1024] : Fin 1 → ℕ) a)
abbrev Wide := (a : Fin 3) → Fin ((![2, 1024, 2816] : Fin 3 → ℕ) a)
abbrev Long := (a : Fin 3) → Fin ((![2, 2816, 1024] : Fin 3 → ℕ) a)
abbrev WideCut := (a : Fin 3) → Fin ((![4, 1024, 704] : Fin 3 → ℕ) a)
abbrev LongCut := (a : Fin 3) → Fin ((![4, 704, 1024] : Fin 3 → ℕ) a)

/-- The arrays hold the real inputs; of the weights, the second half-step's. -/
structure Reads (W : FF) (x : Tok → EReal) (g : Gain → EReal) (wg wu : Wide → EReal) (wd : Long → EReal) (dy : Tok → EReal) : Prop where
  x : ∀ (t : Fin 4096) (d : Fin 1024), x (ix2 t d) = ((W.X t d : ℝ) : EReal)
  g : ∀ d : Fin 1024, g (ix1 d) = ((W.G d : ℝ) : EReal)
  wg : ∀ (d : Fin 1024) (f : Fin 2816), wg (ix3 (1 : Fin 2) d f) = ((W.WG d f : ℝ) : EReal)
  wu : ∀ (d : Fin 1024) (f : Fin 2816), wu (ix3 (1 : Fin 2) d f) = ((W.WU d f : ℝ) : EReal)
  wd : ∀ (f : Fin 2816) (d : Fin 1024), wd (ix3 (1 : Fin 2) f d) = ((W.WD f d : ℝ) : EReal)
  dy : ∀ (t : Fin 4096) (d : Fin 1024), dy (ix2 t d) = ((W.DY t d : ℝ) : EReal)

def tokOf (x : Tok → EReal) (t d : ℕ) : ℝ := if h : t < 4096 ∧ d < 1024 then (x (ix2 (⟨t, h.1⟩ : Fin 4096) (⟨d, h.2⟩ : Fin 1024))).toReal else 0
def gainOf (g : Gain → EReal) (d : ℕ) : ℝ := if h : d < 1024 then (g (ix1 (⟨d, h⟩ : Fin 1024))).toReal else 0
def wideOf (w : Wide → EReal) (d f : ℕ) : ℝ :=
  if h : d < 1024 ∧ f < 2816 then (w (ix3 (1 : Fin 2) (⟨d, h.1⟩ : Fin 1024) (⟨f, h.2⟩ : Fin 2816))).toReal else 0
def longOf (w : Long → EReal) (f d : ℕ) : ℝ :=
  if h : f < 2816 ∧ d < 1024 then (w (ix3 (1 : Fin 2) (⟨f, h.1⟩ : Fin 2816) (⟨d, h.2⟩ : Fin 1024))).toReal else 0

def ffOf (x : Tok → EReal) (g : Gain → EReal) (wg wu : Wide → EReal) (wd : Long → EReal) (dy : Tok → EReal) : FF where
  X := tokOf x
  G := gainOf g
  WG := wideOf wg
  WU := wideOf wu
  WD := longOf wd
  DY := tokOf dy

theorem reads_ffOf {x : Tok → EReal} {g : Gain → EReal} {wg wu : Wide → EReal} {wd : Long → EReal} {dy : Tok → EReal}
    (hx : Finite x) (hg : Finite g) (hwg : Finite wg) (hwu : Finite wu) (hwd : Finite wd) (hdy : Finite dy) :
    Reads (ffOf x g wg wu wd dy) x g wg wu wd dy where
  x t d := by show _ = ((tokOf x t d : ℝ) : EReal); rw [tokOf, dif_pos ⟨t.isLt, d.isLt⟩]; exact hx _
  g d := by show _ = ((gainOf g d : ℝ) : EReal); rw [gainOf, dif_pos d.isLt]; exact hg _
  wg d f := by show _ = ((wideOf wg d f : ℝ) : EReal); rw [wideOf, dif_pos ⟨d.isLt, f.isLt⟩]; exact hwg _
  wu d f := by show _ = ((wideOf wu d f : ℝ) : EReal); rw [wideOf, dif_pos ⟨d.isLt, f.isLt⟩]; exact hwu _
  wd f d := by show _ = ((longOf wd f d : ℝ) : EReal); rw [longOf, dif_pos ⟨f.isLt, d.isLt⟩]; exact hwd _
  dy t d := by show _ = ((tokOf dy t d : ℝ) : EReal); rw [tokOf, dif_pos ⟨t.isLt, d.isLt⟩]; exact hdy _

/-- The six results: the half-step's output and the gradients of its inputs; the weights' in four chips' columns. -/
def yOf (W : FF) : Tok → EReal := fun j => ((W.Y (j 0) (j 1) : ℝ) : EReal)
def dxOf (W : FF) : Tok → EReal := fun j => ((W.DX (j 0) (j 1) : ℝ) : EReal)
def dgOf (W : FF) : Gain → EReal := fun j => ((W.DG (j 0) : ℝ) : EReal)
def dwgOf (W : FF) : WideCut → EReal := fun j => ((W.DWG (j 1) (704 * (j 0).val + (j 2).val) : ℝ) : EReal)
def dwuOf (W : FF) : WideCut → EReal := fun j => ((W.DWU (j 1) (704 * (j 0).val + (j 2).val) : ℝ) : EReal)
def dwdOf (W : FF) : LongCut → EReal := fun j => ((W.DWD (704 * (j 0).val + (j 1).val) (j 2) : ℝ) : EReal)

end Cert.Proof.Half

end
-- ==== Proof.HalfHost.lean ====
/-
  The weights as the calls read them, the host's packing over the reals; and the results as the host cuts them.
-/
module

public import proofs.«01_k».proof.Proof.HalfUp
public import proofs.«01_k».proof.Proof.HalfArgs
public import proofs.«01_k».proof.Proof.Gen.Kernel2Ideal.Frame
public import Idealize.ShloMosaic.Lib.StableHlo.ReadAt

@[expose] public section

set_option maxRecDepth 16384

noncomputable section

namespace Cert.Proof.Half

open Cert.Kernel2Ideal Cert.Kernel2Ideal.Gen
open Idealize.ShloMosaic Idealize.ShloMosaic.TcCoe Idealize.ShloMosaic.Tactic
open Idealize.ShloMosaic.Pipeline (Dat Cfg Window)

variable (m : (ℓ : Loc nD τ sig) → Buf (Elt Ideal) ℓ) (ρ : Dev nD → PrngReg)

/-- A device's six arguments hold the real inputs. -/
def ArgsAt (W : FF) (c : Dev nD) : Prop :=
  Reads W (m (c, Proc.devRef .tc main_arg0)) (m (c, Proc.devRef .tc main_arg1)) (m (c, Proc.devRef .tc main_arg2))
    (m (c, Proc.devRef .tc main_arg3)) (m (c, Proc.devRef .tc main_arg4)) (m (c, Proc.devRef .tc main_arg5))

variable {m} {W : FF} {c : Dev nD}

theorem pad_lt (f : ℕ → ℝ) (k n : ℕ) (h : n < 704) : pad f k n = f (704 * k + n) := if_pos h

theorem zero_word : (FloatOps.sitofp (F := Ideal) FTy.bf16 0#32 : EReal) = ((0 : ℝ) : EReal) := by
  show ((((0#32 : BitVec 32).toInt : ℤ) : ℝ) : EReal) = _
  norm_num

theorem g_at (d : Fin 1024) : W5 m ρ c (Proc.devRef .tc main_v15) (ix2 0 d) = m (c, Proc.devRef .tc main_arg1) (ix1 d) := by
  unfold W5 W4 W3 W2 W1 W0
  after_reads_at

theorem v4_at (k : Fin 4) (f e : ℕ) (hf : f = 1) (he : e = 0) (pf : f < 2) (pe : e < 1) (d : Fin 1024) (n : Fin 704) :
    StableHlo.upto hostOps0 (fun b => m (c, b)) 6 (Proc.devRef .tc main_v4) (ix5 k (⟨f, pf⟩ : Fin 2) (⟨e, pe⟩ : Fin 1) d n) =
      m (c, Proc.devRef .tc main_arg2) (ix3 (1 : Fin 2) d (⟨k.val * 704 + n.val, by omega⟩ : Fin 2816)) := by
  subst hf he
  after_reads_at

theorem v5_at (k : Fin 4) (f e : ℕ) (hf : f = 1) (he : e = 0) (pf : f < 2) (pe : e < 1) (d : Fin 1024) (n : Fin 704) :
    StableHlo.upto hostOps0 (fun b => m (c, b)) 6 (Proc.devRef .tc main_v5) (ix5 k (⟨f, pf⟩ : Fin 2) (⟨e, pe⟩ : Fin 1) d n) =
      m (c, Proc.devRef .tc main_arg3) (ix3 (1 : Fin 2) d (⟨k.val * 704 + n.val, by omega⟩ : Fin 2816)) := by
  subst hf he
  after_reads_at

theorem v4_real (h : ArgsAt m W c) (k : Fin 4) (f e : ℕ) (hf : f = 1) (he : e = 0) (pf : f < 2) (pe : e < 1) (d : Fin 1024) (n : Fin 704) :
    StableHlo.upto hostOps0 (fun b => m (c, b)) 6 (Proc.devRef .tc main_v4) (ix5 k (⟨f, pf⟩ : Fin 2) (⟨e, pe⟩ : Fin 1) d n) =
      ((pad (W.WG d) k n : ℝ) : EReal) := by
  have e1 : W.WG d (k.val * 704 + n.val) = pad (W.WG d) k n := by rw [pad_lt _ _ _ n.isLt, Nat.mul_comm]
  exact (v4_at k f e hf he pf pe d n).trans ((h.wg d _).trans (congrArg Real.toEReal e1))

theorem gateOk (h : ArgsAt m W c) : GateOk W (W5 m ρ c (Proc.devRef .tc main_v9)) := fun k d n => by
  unfold W5 W4 W3 W2 W1 W0
  after_reads_at
  by_cases hn : n.val < 704
  · rw [dif_pos ⟨by omega, by omega, hn⟩, dif_pos (by omega)]
    exact v4_real h k _ _ (by omega) (by omega) _ _ d (⟨n.val, hn⟩ : Fin 704)
  · rw [dif_neg (fun q => hn q.2.2), zero_word, pad, if_neg hn]

theorem v5_real (h : ArgsAt m W c) (k : Fin 4) (f e : ℕ) (hf : f = 1) (he : e = 0) (pf : f < 2) (pe : e < 1) (d : Fin 1024) (n : Fin 704) :
    StableHlo.upto hostOps0 (fun b => m (c, b)) 6 (Proc.devRef .tc main_v5) (ix5 k (⟨f, pf⟩ : Fin 2) (⟨e, pe⟩ : Fin 1) d n) =
      ((pad (W.WU d) k n : ℝ) : EReal) := by
  have e1 : W.WU d (k.val * 704 + n.val) = pad (W.WU d) k n := by rw [pad_lt _ _ _ n.isLt, Nat.mul_comm]
  exact (v5_at k f e hf he pf pe d n).trans ((h.wu d _).trans (congrArg Real.toEReal e1))

theorem upOk (h : ArgsAt m W c) : UpOk W (W5 m ρ c (Proc.devRef .tc main_v9)) := fun k d n => by
  unfold W5 W4 W3 W2 W1 W0
  after_reads_at
  by_cases hn : n.val < 704
  · rw [dif_pos ⟨by omega, by omega, hn⟩, dif_neg (by omega)]
    exact v5_real h k _ _ (by omega) (by omega) _ _ d (⟨n.val, hn⟩ : Fin 704)
  · rw [dif_neg (fun q => hn q.2.2), zero_word, pad, if_neg hn]

theorem down_at (h : ArgsAt m W c) (k : Fin 4) (f : ℕ) (hf : f = 1) (pf : f < 2) (n : Fin 704) (d : Fin 1024) :
    m (c, Proc.devRef .tc main_arg4) (ix3 (⟨f, pf⟩ : Fin 2) (⟨k.val * 704 + n.val, by omega⟩ : Fin 2816) d) =
      ((pad (fun f => W.WD f d) k n : ℝ) : EReal) := by
  subst hf
  have e1 : W.WD (k.val * 704 + n.val) d = pad (fun f => W.WD f d) k n := by rw [pad_lt _ _ _ n.isLt, Nat.mul_comm]
  exact (h.wd _ d).trans (congrArg Real.toEReal e1)

theorem downOk (h : ArgsAt m W c) : DownOk W (W5 m ρ c (Proc.devRef .tc main_v14)) := fun k n d => by
  unfold W5 W4 W3 W2 W1 W0
  after_reads_at
  by_cases hn : n.val < 704
  · rw [dif_pos ⟨by omega, hn⟩]
    exact down_at h k _ (by omega) _ (⟨n.val, hn⟩ : Fin 704) d
  · rw [dif_neg (fun q => hn q.2), zero_word, pad, if_neg hn]

theorem v19_at (t : Fin 4096) (d : Fin 1024) :
    W9 m ρ c (Proc.devRef .tc main_v19) (ix2 t d) = W8 m ρ c (Proc.devRef .tc main_arg5) (ix2 t d) := by
  unfold W9
  after_reads_at

theorem v25_at (d : Fin 1024) :
    W15 m ρ c (Proc.devRef .tc main_v25) (ix2 0 d) = W14 m ρ c (Proc.devRef .tc main_arg1) (ix1 d) := by
  unfold W15
  after_reads_at

theorem v27_at (f : S8x1024.Idx → EReal) (hf : W16 m ρ c (Proc.devRef .tc main_v26_2) = f) (d : Fin 1024) :
    W17 m ρ c (Proc.devRef .tc main_v27) (ix1 d) = ∑ r : Fin 8, f (ix2 r d) := by
  unfold W17
  after_reads_at
  rw [hf]

theorem v29_at (k : Fin 4) (d : Fin 1024) (n : Fin 704) :
    W17 m ρ c (Proc.devRef .tc main_v29) (ix3 k d n) = W16 m ρ c (Proc.devRef .tc main_v22) (ix3 k d (⟨n.val, by omega⟩ : Fin 768)) := by
  unfold W17
  after_reads_at

theorem v30_at (k : Fin 4) (d : Fin 1024) (n : Fin 704) :
    W17 m ρ c (Proc.devRef .tc main_v30) (ix3 k d n) = W16 m ρ c (Proc.devRef .tc main_v23) (ix3 k d (⟨n.val, by omega⟩ : Fin 768)) := by
  unfold W17
  after_reads_at

theorem v31_at (k : Fin 4) (n : Fin 704) (d : Fin 1024) :
    W17 m ρ c (Proc.devRef .tc main_v31) (ix3 k n d) =
      W16 m ρ c (Proc.devRef .tc main_v21) (ix2 (⟨k.val * 768 + n.val, by omega⟩ : Fin 3072) d) := by
  unfold W17
  after_reads_at

end Cert.Proof.Half

end
-- ==== Proof.HalfDown.lean ====
/-
  The backward calls over the reals: the gradients of the gated products, of the three weights and of the norm's result.
-/
module

public import proofs.«01_k».proof.Proof.HalfUp
public import proofs.«01_k».proof.Proof.Gen.Kernel2Ideal.Frame.Region3
public import proofs.«01_k».proof.Proof.Gen.Kernel2Ideal.Frame.Region4
public import proofs.«01_k».proof.Proof.Gen.Kernel2Ideal.Frame.Region5
public import proofs.«01_k».proof.Proof.Gen.Kernel2Ideal.Frame.Region6
public import proofs.«01_k».proof.Proof.Gen.Kernel2Ideal.Frame.Region7

@[expose] public section

set_option maxRecDepth 16384

noncomputable section

namespace Cert.Proof.Half

open Cert.Kernel2Ideal Cert.Kernel2Ideal.Gen
open Idealize.ShloMosaic Idealize.ShloMosaic.TcCoe Idealize.ShloMosaic.Tactic
open Idealize.ShloMosaic.Pipeline (Dat Cfg Window)

variable (V : (c : Dev nD) → (b : Ref sig .tc) → Buf (Elt Ideal) ((c : Thread nD τ).loc b)) (W : FF)

/-! ## The gradients of the gated products -/

theorem idx3_0 : ∀ t : Fin cfg3.N, win3_0.index t = ![((grid3.coords t) 1).val, 0] := by decide +kernel
theorem idx3_1 : ∀ t : Fin cfg3.N, win3_1.index t = ![((grid3.coords t) 0).val, 1, 0] := by decide +kernel
theorem idx3_2 : ∀ t : Fin cfg3.N, win3_2.index t = ![((grid3.coords t) 1).val, ((grid3.coords t) 0).val] := by decide +kernel
theorem idx3_3 : ∀ t : Fin cfg3.N, win3_3.index t = ![((grid3.coords t) 1).val, ((grid3.coords t) 0).val] := by decide +kernel
theorem idx3_4 : ∀ t : Fin cfg3.N, win3_4.index t = ![((grid3.coords t) 1).val, ((grid3.coords t) 0).val] := by decide +kernel
theorem idx3_5 : ∀ t : Fin cfg3.N, win3_5.index t = ![((grid3.coords t) 1).val, ((grid3.coords t) 0).val] := by decide +kernel
theorem idx3_6 : ∀ t : Fin cfg3.N, win3_6.index t = ![((grid3.coords t) 1).val, ((grid3.coords t) 0).val] := by decide +kernel

theorem iblk3_0 (c : Dev nD) (hy : V c main_v19 = fun y : S4096x1024.Idx => ((W.DY (y 0) (y 1) : ℝ) : EReal)) (t : Fin cfg3.N) (r d : Fin 1024) :
    iblk3 V c 0 t (ix2 r d) = ((W.DY (((grid3.coords t) 1).val * 1024 + r) d : ℝ) : EReal) := by
  have e := idx3_0 t
  have h : iblk3 V c 0 t (ix2 r d) = V c main_v19 (ix2 (⟨((grid3.coords t) 1).val * 1024 + r.val, by
      have : ((grid3.coords t) 1).val < 4 := ((grid3.coords t) 1).isLt; omega⟩ : Fin 4096) d) := by
    blk_ext [iblk3, e]
  rw [h, hy]; rfl

theorem iblk3_1 (c : Dev nD) (hw : DownOk W (V c main_v14)) (t : Fin cfg3.N) (n : Fin 768) (d : Fin 1024) :
    iblk3 V c 1 t (ix3 0 n d) = ((pad (fun f => W.WD f d) ((grid3.coords t) 0).val n : ℝ) : EReal) := by
  have e := idx3_1 t
  have h : iblk3 V c 1 t (ix3 0 n d) = V c main_v14 (ix3 (⟨((grid3.coords t) 0).val, ((grid3.coords t) 0).isLt⟩ : Fin 4) (⟨1 * 768 + n.val, by omega⟩ : Fin 1536) d) := by
    blk_ext [iblk3, e]
  exact h.trans (hw _ _ _)

theorem iblk3_2 (c : Dev nD) (ha : V c main_v17_0 = fun y : S4096x3072.Idx => ((col (W.A (y 0)) (y 1) : ℝ) : EReal)) (t : Fin cfg3.N) (r : Fin 1024) (n : Fin 768) :
    iblk3 V c 2 t (ix2 r n) = ((pad (W.A (((grid3.coords t) 1).val * 1024 + r)) ((grid3.coords t) 0).val n : ℝ) : EReal) := by
  have e := idx3_2 t
  have h : iblk3 V c 2 t (ix2 r n) = V c main_v17_0 (ix2 (⟨((grid3.coords t) 1).val * 1024 + r.val, by
      have : ((grid3.coords t) 1).val < 4 := ((grid3.coords t) 1).isLt; omega⟩ : Fin 4096) (⟨((grid3.coords t) 0).val * 768 + n.val, by
      have : ((grid3.coords t) 0).val < 4 := ((grid3.coords t) 0).isLt; omega⟩ : Fin 3072)) := by
    blk_ext [iblk3, e]
  rw [h, ha, ← col_at _ _ _ n.isLt]; rfl

theorem iblk3_3 (c : Dev nD) (ha : V c main_v17_1 = fun y : S4096x3072.Idx => ((col (W.B (y 0)) (y 1) : ℝ) : EReal)) (t : Fin cfg3.N) (r : Fin 1024) (n : Fin 768) :
    iblk3 V c 3 t (ix2 r n) = ((pad (W.B (((grid3.coords t) 1).val * 1024 + r)) ((grid3.coords t) 0).val n : ℝ) : EReal) := by
  have e := idx3_3 t
  have h : iblk3 V c 3 t (ix2 r n) = V c main_v17_1 (ix2 (⟨((grid3.coords t) 1).val * 1024 + r.val, by
      have : ((grid3.coords t) 1).val < 4 := ((grid3.coords t) 1).isLt; omega⟩ : Fin 4096) (⟨((grid3.coords t) 0).val * 768 + n.val, by
      have : ((grid3.coords t) 0).val < 4 := ((grid3.coords t) 0).isLt; omega⟩ : Fin 3072)) := by
    blk_ext [iblk3, e]
  rw [h, ha, ← col_at _ _ _ n.isLt]; rfl

theorem out3_4_eq (x0 : Vec Ideal S1024x1024 .bf16) (x1 : Vec Ideal S1x768x1024 .bf16) (x2 x3 : Vec Ideal S1024x768 .bf16) :
    out3_4 x0 x1 x2 x3 = k3_pay6 x0 x1 x2 x3 := by
  unfold out3_4
  rw [View.canon_unit_zero off2, View.ld_unit_zero off2, View.ld_unit_zero off3, View.ld_unit_zero off2, View.ld_unit_zero off2]

theorem out3_5_eq (x0 : Vec Ideal S1024x1024 .bf16) (x1 : Vec Ideal S1x768x1024 .bf16) (x2 x3 : Vec Ideal S1024x768 .bf16) :
    out3_5 x0 x1 x2 x3 = k3_pay7 x0 x1 x2 := by
  unfold out3_5
  rw [View.canon_unit_zero off2, View.ld_unit_zero off2, View.ld_unit_zero off3, View.ld_unit_zero off2]

theorem out3_6_eq (x0 : Vec Ideal S1024x1024 .bf16) (x1 : Vec Ideal S1x768x1024 .bf16) (x2 x3 : Vec Ideal S1024x768 .bf16) :
    out3_6 x0 x1 x2 x3 = k3_pay8 x2 x3 := by
  unfold out3_6
  rw [View.canon_unit_zero off2, View.ld_unit_zero off2, View.ld_unit_zero off2]

theorem half_sum (y : Fin 1024 → ℝ) (w : ℕ → ℕ → ℝ) (k c : ℕ) :
    1 / 2 * ∑ d : Fin 1024, y d * pad (fun f => w f d) k c = pad (fun f => 1 / 2 * ∑ d : Fin 1024, y d * w f d) k c := by
  rw [sum_gate y (fun d f => w f d), mul_pad]

theorem arr3_4 (c : Dev nD) (hy : V c main_v19 = fun y : S4096x1024.Idx => ((W.DY (y 0) (y 1) : ℝ) : EReal)) (hw : DownOk W (V c main_v14))
    (ha : V c main_v17_0 = fun y : S4096x3072.Idx => ((col (W.A (y 0)) (y 1) : ℝ) : EReal))
    (hb : V c main_v17_1 = fun y : S4096x3072.Idx => ((col (W.B (y 0)) (y 1) : ℝ) : EReal)) :
    (dat3 V c).arrAt 4 cfg3.N = fun y : S4096x3072.Idx => ((col (W.DA (y 0)) (y 1) : ℝ) : EReal) := by
  refine (dat3 V c).arrAt_eq_of_covers 4 _ (by decide +kernel) fun t hf y => ?_
  have e := idx3_4 t
  blk_simp
  rw [after3_4, e, out3_4_eq]
  refine (congrArg (k3_pay6 (iblk3 V c 0 t) (iblk3 V c 1 t) (iblk3 V c 2 t) (iblk3 V c 3 t)) (ix2_eta (a := 1024) (b := 768) y)).trans ?_
  refine (k3_pay6_at (y 0 : Fin 1024) (y 1 : Fin 768) (iblk3_0 V W c hy t (y 0 : Fin 1024)) (fun d => iblk3_1 V W c hw t (y 1 : Fin 768) d) (iblk3_2 V W c ha t (y 0 : Fin 1024) (y 1 : Fin 768))
    (iblk3_3 V W c hb t (y 0 : Fin 1024) (y 1 : Fin 768))).trans ?_
  show _ = ((col (W.DA (((grid3.coords t) 1).val * 1024 + (y 0).val)) (((grid3.coords t) 0).val * 768 + (y 1).val) : ℝ) : EReal)
  rw [col_at _ _ _ (y 1 : Fin 768).isLt, half_sum, pad_da]
  rfl

theorem arr3_5 (c : Dev nD) (hy : V c main_v19 = fun y : S4096x1024.Idx => ((W.DY (y 0) (y 1) : ℝ) : EReal)) (hw : DownOk W (V c main_v14))
    (ha : V c main_v17_0 = fun y : S4096x3072.Idx => ((col (W.A (y 0)) (y 1) : ℝ) : EReal)) :
    (dat3 V c).arrAt 5 cfg3.N = fun y : S4096x3072.Idx => ((col (W.DB (y 0)) (y 1) : ℝ) : EReal) := by
  refine (dat3 V c).arrAt_eq_of_covers 5 _ (by decide +kernel) fun t hf y => ?_
  have e := idx3_5 t
  blk_simp
  rw [after3_5, e, out3_5_eq]
  refine (congrArg (k3_pay7 (iblk3 V c 0 t) (iblk3 V c 1 t) (iblk3 V c 2 t)) (ix2_eta (a := 1024) (b := 768) y)).trans ?_
  refine (k3_pay7_at (y 0 : Fin 1024) (y 1 : Fin 768) (iblk3_0 V W c hy t (y 0 : Fin 1024)) (fun d => iblk3_1 V W c hw t (y 1 : Fin 768) d) (iblk3_2 V W c ha t (y 0 : Fin 1024) (y 1 : Fin 768))).trans ?_
  show _ = ((col (W.DB (((grid3.coords t) 1).val * 1024 + (y 0).val)) (((grid3.coords t) 0).val * 768 + (y 1).val) : ℝ) : EReal)
  rw [col_at _ _ _ (y 1 : Fin 768).isLt, half_sum, pad_db]
  rfl

theorem arr3_6 (c : Dev nD) (ha : V c main_v17_0 = fun y : S4096x3072.Idx => ((col (W.A (y 0)) (y 1) : ℝ) : EReal))
    (hb : V c main_v17_1 = fun y : S4096x3072.Idx => ((col (W.B (y 0)) (y 1) : ℝ) : EReal)) :
    (dat3 V c).arrAt 6 cfg3.N = fun y : S4096x3072.Idx => ((col (W.M (y 0)) (y 1) : ℝ) : EReal) := by
  refine (dat3 V c).arrAt_eq_of_covers 6 _ (by decide +kernel) fun t hf y => ?_
  have e := idx3_6 t
  blk_simp
  rw [after3_6, e, out3_6_eq]
  refine (congrArg (k3_pay8 (iblk3 V c 2 t) (iblk3 V c 3 t)) (ix2_eta (a := 1024) (b := 768) y)).trans ?_
  refine (k3_pay8_at (y 0 : Fin 1024) (y 1 : Fin 768) (iblk3_2 V W c ha t (y 0 : Fin 1024) (y 1 : Fin 768)) (iblk3_3 V W c hb t (y 0 : Fin 1024) (y 1 : Fin 768))).trans ?_
  show _ = ((col (W.M (((grid3.coords t) 1).val * 1024 + (y 0).val)) (((grid3.coords t) 0).val * 768 + (y 1).val) : ℝ) : EReal)
  rw [col_at _ _ _ (y 1 : Fin 768).isLt, pad_gate]
  rfl

/-! ## The gradients of the weights -/

theorem idx4_0 : ∀ t : Fin cfg4.N, win4_0.index t = ![0, ((grid4.coords t) 0).val] := by decide +kernel
theorem idx4_1 : ∀ t : Fin cfg4.N, win4_1.index t = ![0, ((grid4.coords t) 1).val] := by decide +kernel
theorem idx4_2 : ∀ t : Fin cfg4.N, win4_2.index t = ![((grid4.coords t) 0).val, ((grid4.coords t) 1).val] := by decide +kernel

theorem iblk4_0 (c : Dev nD) (hm : V c main_v20_2 = fun y : S4096x3072.Idx => ((col (W.M (y 0)) (y 1) : ℝ) : EReal)) (t : Fin cfg4.N) (r : Fin 4096) (n : Fin 1024) :
    iblk4 V c 0 t (ix2 r n) = ((col (W.M r) (((grid4.coords t) 0).val * 1024 + n) : ℝ) : EReal) := by
  have e := idx4_0 t
  have h : iblk4 V c 0 t (ix2 r n) = V c main_v20_2 (ix2 r (⟨((grid4.coords t) 0).val * 1024 + n.val, by
      have : ((grid4.coords t) 0).val < 3 := ((grid4.coords t) 0).isLt; omega⟩ : Fin 3072)) := by
    blk_ext [iblk4, e]
  rw [h, hm]; rfl

theorem iblk4_1 (c : Dev nD) (hy : V c main_v19 = fun y : S4096x1024.Idx => ((W.DY (y 0) (y 1) : ℝ) : EReal)) (t : Fin cfg4.N) (r : Fin 4096) (d : Fin 512) :
    iblk4 V c 1 t (ix2 r d) = ((W.DY r (((grid4.coords t) 1).val * 512 + d) : ℝ) : EReal) := by
  have e := idx4_1 t
  have h : iblk4 V c 1 t (ix2 r d) = V c main_v19 (ix2 r (⟨((grid4.coords t) 1).val * 512 + d.val, by
      have : ((grid4.coords t) 1).val < 2 := ((grid4.coords t) 1).isLt; omega⟩ : Fin 1024)) := by
    blk_ext [iblk4, e]
  rw [h, hy]; rfl

theorem out4_2_eq (x0 : Vec Ideal S4096x1024 .bf16) (x1 : Vec Ideal S4096x512 .bf16) : out4_2 x0 x1 = k4_pay1 x0 x1 := by
  unfold out4_2
  rw [View.canon_unit_zero off2, View.ld_unit_zero off2, View.ld_unit_zero off2]

theorem sum_down (m : ℕ → ℕ → ℝ) (y : Fin 4096 → ℝ) (n : ℕ) :
    (∑ t : Fin 4096, col (m t) n * y t) * (1 / 2) = col (fun f => (∑ t : Fin 4096, m t f * y t) * (1 / 2)) n := by
  unfold col
  rw [← pad_mul_const, ← sum_pad_at]
  simp only [pad_mul_const]

theorem sum_wide (h : Fin 4096 → ℝ) (a : ℕ → ℕ → ℝ) (k c : ℕ) :
    ∑ t : Fin 4096, h t * pad (a t) k c = pad (fun n => ∑ t : Fin 4096, h t * a t n) k c := by
  rw [← sum_pad_at]
  exact Finset.sum_congr rfl fun t _ => mul_pad _ _ _ _

theorem arr4 (c : Dev nD) (hm : V c main_v20_2 = fun y : S4096x3072.Idx => ((col (W.M (y 0)) (y 1) : ℝ) : EReal))
    (hy : V c main_v19 = fun y : S4096x1024.Idx => ((W.DY (y 0) (y 1) : ℝ) : EReal)) :
    (dat4 V c).arrAt 2 cfg4.N = fun y : S3072x1024.Idx => ((col (fun f => W.DWD f (y 1)) (y 0) : ℝ) : EReal) := by
  refine (dat4 V c).arrAt_eq_of_covers 2 _ (by decide +kernel) fun t hf y => ?_
  have e := idx4_2 t
  blk_simp
  rw [after4_2, e, out4_2_eq]
  refine (congrArg (k4_pay1 (iblk4 V c 0 t) (iblk4 V c 1 t)) (ix2_eta (a := 1024) (b := 512) y)).trans ?_
  refine (k4_pay1_at (y 0 : Fin 1024) (y 1 : Fin 512) (fun r => iblk4_0 V W c hm t r (y 0 : Fin 1024)) (fun r => iblk4_1 V W c hy t r (y 1 : Fin 512))).trans ?_
  show _ = ((col (fun f => W.DWD f (((grid4.coords t) 1).val * 512 + (y 1).val)) (((grid4.coords t) 0).val * 1024 + (y 0).val) : ℝ) : EReal)
  rw [sum_down]
  rfl

theorem ix3_eta {a b : ℕ} (y : (⟨3, ![1, a, b]⟩ : Shape).Idx) : y = ix3 (0 : Fin 1) (y 1 : Fin a) (y 2 : Fin b) := by
  funext i; match i with
  | 0 => exact Subsingleton.elim (α := Fin 1) _ _
  | 1 => rfl
  | 2 => rfl

theorem idx5_0 : ∀ t : Fin cfg5.N, win5_0.index t = ![0, ((grid5.coords t) 0).val] := by decide +kernel
theorem idx5_1 : ∀ t : Fin cfg5.N, win5_1.index t = ![0, ((grid5.coords t) 1).val] := by decide +kernel
theorem idx5_2 : ∀ t : Fin cfg5.N, win5_2.index t = ![((grid5.coords t) 1).val, ((grid5.coords t) 0).val, 0] := by decide +kernel

theorem iblk5_0 (c : Dev nD) (hh : V c main_v16 = fun y : S4096x1024.Idx => ((W.H (y 0) (y 1) : ℝ) : EReal)) (t : Fin cfg5.N) (r : Fin 4096) (d : Fin 512) :
    iblk5 V c 0 t (ix2 r d) = ((W.H r (((grid5.coords t) 0).val * 512 + d) : ℝ) : EReal) := by
  have e := idx5_0 t
  have h : iblk5 V c 0 t (ix2 r d) = V c main_v16 (ix2 r (⟨((grid5.coords t) 0).val * 512 + d.val, by
      have : ((grid5.coords t) 0).val < 2 := ((grid5.coords t) 0).isLt; omega⟩ : Fin 1024)) := by
    blk_ext [iblk5, e]
  rw [h, hh]; rfl

theorem iblk5_1 (c : Dev nD) (ha : V c main_v20_0 = fun y : S4096x3072.Idx => ((col (W.DA (y 0)) (y 1) : ℝ) : EReal)) (t : Fin cfg5.N) (r : Fin 4096) (n : Fin 768) :
    iblk5 V c 1 t (ix2 r n) = ((pad (W.DA r) ((grid5.coords t) 1).val n : ℝ) : EReal) := by
  have e := idx5_1 t
  have h : iblk5 V c 1 t (ix2 r n) = V c main_v20_0 (ix2 r (⟨((grid5.coords t) 1).val * 768 + n.val, by
      have : ((grid5.coords t) 1).val < 4 := ((grid5.coords t) 1).isLt; omega⟩ : Fin 3072)) := by
    blk_ext [iblk5, e]
  rw [h, ha, ← col_at _ _ _ n.isLt]; rfl

theorem out5_2_eq (x0 : Vec Ideal S4096x512 .bf16) (x1 : Vec Ideal S4096x768 .bf16) : out5_2 x0 x1 = k5_pay1 x0 x1 := by
  unfold out5_2
  rw [View.canon_unit_zero off3, View.ld_unit_zero off2, View.ld_unit_zero off2]

theorem arr5 (c : Dev nD) (hh : V c main_v16 = fun y : S4096x1024.Idx => ((W.H (y 0) (y 1) : ℝ) : EReal))
    (ha : V c main_v20_0 = fun y : S4096x3072.Idx => ((col (W.DA (y 0)) (y 1) : ℝ) : EReal)) :
    (dat5 V c).arrAt 2 cfg5.N = fun y : S4x1024x768.Idx => ((pad (W.DWG (y 1)) (y 0) (y 2) : ℝ) : EReal) := by
  refine (dat5 V c).arrAt_eq_of_covers 2 _ (by decide +kernel) fun t hf y => ?_
  have e := idx5_2 t
  blk_simp
  rw [after5_2, e, out5_2_eq]
  refine (congrArg (k5_pay1 (iblk5 V c 0 t) (iblk5 V c 1 t)) (ix3_eta (a := 512) (b := 768) y)).trans ?_
  refine (k5_pay1_at (y 1 : Fin 512) (y 2 : Fin 768) (fun r => iblk5_0 V W c hh t r (y 1 : Fin 512)) (fun r => iblk5_1 V W c ha t r (y 2 : Fin 768))).trans ?_
  show _ = ((pad (W.DWG (((grid5.coords t) 0).val * 512 + (y 1).val)) ((grid5.coords t) 1).val (0 * 768 + (y 2).val) : ℝ) : EReal)
  rw [sum_wide, Nat.zero_mul, Nat.zero_add]
  rfl

theorem idx6_0 : ∀ t : Fin cfg6.N, win6_0.index t = ![0, ((grid6.coords t) 0).val] := by decide +kernel
theorem idx6_1 : ∀ t : Fin cfg6.N, win6_1.index t = ![0, ((grid6.coords t) 1).val] := by decide +kernel
theorem idx6_2 : ∀ t : Fin cfg6.N, win6_2.index t = ![((grid6.coords t) 1).val, ((grid6.coords t) 0).val, 0] := by decide +kernel

theorem iblk6_0 (c : Dev nD) (hh : V c main_v16 = fun y : S4096x1024.Idx => ((W.H (y 0) (y 1) : ℝ) : EReal)) (t : Fin cfg6.N) (r : Fin 4096) (d : Fin 512) :
    iblk6 V c 0 t (ix2 r d) = ((W.H r (((grid6.coords t) 0).val * 512 + d) : ℝ) : EReal) := by
  have e := idx6_0 t
  have h : iblk6 V c 0 t (ix2 r d) = V c main_v16 (ix2 r (⟨((grid6.coords t) 0).val * 512 + d.val, by
      have : ((grid6.coords t) 0).val < 2 := ((grid6.coords t) 0).isLt; omega⟩ : Fin 1024)) := by
    blk_ext [iblk6, e]
  rw [h, hh]; rfl

theorem iblk6_1 (c : Dev nD) (ha : V c main_v20_1 = fun y : S4096x3072.Idx => ((col (W.DB (y 0)) (y 1) : ℝ) : EReal)) (t : Fin cfg6.N) (r : Fin 4096) (n : Fin 768) :
    iblk6 V c 1 t (ix2 r n) = ((pad (W.DB r) ((grid6.coords t) 1).val n : ℝ) : EReal) := by
  have e := idx6_1 t
  have h : iblk6 V c 1 t (ix2 r n) = V c main_v20_1 (ix2 r (⟨((grid6.coords t) 1).val * 768 + n.val, by
      have : ((grid6.coords t) 1).val < 4 := ((grid6.coords t) 1).isLt; omega⟩ : Fin 3072)) := by
    blk_ext [iblk6, e]
  rw [h, ha, ← col_at _ _ _ n.isLt]; rfl

theorem out6_2_eq (x0 : Vec Ideal S4096x512 .bf16) (x1 : Vec Ideal S4096x768 .bf16) : out6_2 x0 x1 = k6_pay1 x0 x1 := by
  unfold out6_2
  rw [View.canon_unit_zero off3, View.ld_unit_zero off2, View.ld_unit_zero off2]

theorem arr6 (c : Dev nD) (hh : V c main_v16 = fun y : S4096x1024.Idx => ((W.H (y 0) (y 1) : ℝ) : EReal))
    (ha : V c main_v20_1 = fun y : S4096x3072.Idx => ((col (W.DB (y 0)) (y 1) : ℝ) : EReal)) :
    (dat6 V c).arrAt 2 cfg6.N = fun y : S4x1024x768.Idx => ((pad (W.DWU (y 1)) (y 0) (y 2) : ℝ) : EReal) := by
  refine (dat6 V c).arrAt_eq_of_covers 2 _ (by decide +kernel) fun t hf y => ?_
  have e := idx6_2 t
  blk_simp
  rw [after6_2, e, out6_2_eq]
  refine (congrArg (k6_pay1 (iblk6 V c 0 t) (iblk6 V c 1 t)) (ix3_eta (a := 512) (b := 768) y)).trans ?_
  refine (k6_pay1_at (y 1 : Fin 512) (y 2 : Fin 768) (fun r => iblk6_0 V W c hh t r (y 1 : Fin 512)) (fun r => iblk6_1 V W c ha t r (y 2 : Fin 768))).trans ?_
  show _ = ((pad (W.DWU (((grid6.coords t) 0).val * 512 + (y 1).val)) ((grid6.coords t) 1).val (0 * 768 + (y 2).val) : ℝ) : EReal)
  rw [sum_wide, Nat.zero_mul, Nat.zero_add]
  rfl

/-! ## The gradient of the norm's result -/

theorem idx7_0 : ∀ t : Fin cfg7.N, win7_0.index t = ![((grid7.coords t) 0).val, 0] := by decide +kernel
theorem idx7_1 : ∀ t : Fin cfg7.N, win7_1.index t = ![0, ((grid7.coords t) 1).val + 4, 0] := by decide +kernel
theorem idx7_2 : ∀ t : Fin cfg7.N, win7_2.index t = ![((grid7.coords t) 0).val, 1] := by decide +kernel
theorem idx7_3 : ∀ t : Fin cfg7.N, win7_3.index t = ![1, ((grid7.coords t) 1).val + 4, 0] := by decide +kernel
theorem idx7_4 : ∀ t : Fin cfg7.N, win7_4.index t = ![((grid7.coords t) 0).val, 2] := by decide +kernel
theorem idx7_5 : ∀ t : Fin cfg7.N, win7_5.index t = ![2, ((grid7.coords t) 1).val + 4, 0] := by decide +kernel
theorem idx7_6 : ∀ t : Fin cfg7.N, win7_6.index t = ![((grid7.coords t) 0).val, 3] := by decide +kernel
theorem idx7_7 : ∀ t : Fin cfg7.N, win7_7.index t = ![3, ((grid7.coords t) 1).val + 4, 0] := by decide +kernel
theorem idx7_8 : ∀ t : Fin cfg7.N, win7_8.index t = ![((grid7.coords t) 0).val, 0] := by decide +kernel
theorem idx7_9 : ∀ t : Fin cfg7.N, win7_9.index t = ![0, ((grid7.coords t) 1).val + 6, 0] := by decide +kernel
theorem idx7_10 : ∀ t : Fin cfg7.N, win7_10.index t = ![((grid7.coords t) 0).val, 1] := by decide +kernel
theorem idx7_11 : ∀ t : Fin cfg7.N, win7_11.index t = ![1, ((grid7.coords t) 1).val + 6, 0] := by decide +kernel
theorem idx7_12 : ∀ t : Fin cfg7.N, win7_12.index t = ![((grid7.coords t) 0).val, 2] := by decide +kernel
theorem idx7_13 : ∀ t : Fin cfg7.N, win7_13.index t = ![2, ((grid7.coords t) 1).val + 6, 0] := by decide +kernel
theorem idx7_14 : ∀ t : Fin cfg7.N, win7_14.index t = ![((grid7.coords t) 0).val, 3] := by decide +kernel
theorem idx7_15 : ∀ t : Fin cfg7.N, win7_15.index t = ![3, ((grid7.coords t) 1).val + 6, 0] := by decide +kernel
theorem idx7_16 : ∀ t : Fin cfg7.N, win7_16.index t = ![((grid7.coords t) 0).val, ((grid7.coords t) 1).val] := by decide +kernel

theorem iblk7_0 (c : Dev nD) (ha : V c main_v20_0 = fun y : S4096x3072.Idx => ((col (W.DA (y 0)) (y 1) : ℝ) : EReal)) (t : Fin cfg7.N) (r : Fin 512) (n : Fin 768) :
    iblk7 V c 0 t (ix2 r n) = ((pad (W.DA (((grid7.coords t) 0).val * 512 + r)) 0 n : ℝ) : EReal) := by
  have e := idx7_0 t
  have h : iblk7 V c 0 t (ix2 r n) = V c main_v20_0 (ix2 (⟨((grid7.coords t) 0).val * 512 + r.val, by
      have : ((grid7.coords t) 0).val < 8 := ((grid7.coords t) 0).isLt; omega⟩ : Fin 4096) (⟨0 * 768 + n.val, by omega⟩ : Fin 3072)) := by
    blk_ext [iblk7, e]
  rw [h, ha, ← col_at _ _ _ n.isLt]; rfl

theorem iblk7_1 (c : Dev nD) (hw : GateOk W (V c main_v9)) (t : Fin cfg7.N) (d : Fin 512) (n : Fin 768) :
    iblk7 V c 1 t (ix3 0 d n) = ((pad (W.WG (((grid7.coords t) 1).val * 512 + d)) 0 n : ℝ) : EReal) := by
  have e := idx7_1 t
  have b : ((grid7.coords t) 1).val < 2 := ((grid7.coords t) 1).isLt
  have h : iblk7 V c 1 t (ix3 0 d n) = V c main_v9 (ix3 (⟨0, by omega⟩ : Fin 4) (⟨2 * 1024 + (((grid7.coords t) 1).val * 512 + d.val), by omega⟩ : Fin 4096) n) := by
    blk_ext [iblk7, e]
  exact h.trans (hw _ (⟨((grid7.coords t) 1).val * 512 + d.val, by omega⟩ : Fin 1024) _)

theorem iblk7_2 (c : Dev nD) (ha : V c main_v20_0 = fun y : S4096x3072.Idx => ((col (W.DA (y 0)) (y 1) : ℝ) : EReal)) (t : Fin cfg7.N) (r : Fin 512) (n : Fin 768) :
    iblk7 V c 2 t (ix2 r n) = ((pad (W.DA (((grid7.coords t) 0).val * 512 + r)) 1 n : ℝ) : EReal) := by
  have e := idx7_2 t
  have h : iblk7 V c 2 t (ix2 r n) = V c main_v20_0 (ix2 (⟨((grid7.coords t) 0).val * 512 + r.val, by
      have : ((grid7.coords t) 0).val < 8 := ((grid7.coords t) 0).isLt; omega⟩ : Fin 4096) (⟨1 * 768 + n.val, by omega⟩ : Fin 3072)) := by
    blk_ext [iblk7, e]
  rw [h, ha, ← col_at _ _ _ n.isLt]; rfl

theorem iblk7_3 (c : Dev nD) (hw : GateOk W (V c main_v9)) (t : Fin cfg7.N) (d : Fin 512) (n : Fin 768) :
    iblk7 V c 3 t (ix3 0 d n) = ((pad (W.WG (((grid7.coords t) 1).val * 512 + d)) 1 n : ℝ) : EReal) := by
  have e := idx7_3 t
  have b : ((grid7.coords t) 1).val < 2 := ((grid7.coords t) 1).isLt
  have h : iblk7 V c 3 t (ix3 0 d n) = V c main_v9 (ix3 (⟨1, by omega⟩ : Fin 4) (⟨2 * 1024 + (((grid7.coords t) 1).val * 512 + d.val), by omega⟩ : Fin 4096) n) := by
    blk_ext [iblk7, e]
  exact h.trans (hw _ (⟨((grid7.coords t) 1).val * 512 + d.val, by omega⟩ : Fin 1024) _)

theorem iblk7_4 (c : Dev nD) (ha : V c main_v20_0 = fun y : S4096x3072.Idx => ((col (W.DA (y 0)) (y 1) : ℝ) : EReal)) (t : Fin cfg7.N) (r : Fin 512) (n : Fin 768) :
    iblk7 V c 4 t (ix2 r n) = ((pad (W.DA (((grid7.coords t) 0).val * 512 + r)) 2 n : ℝ) : EReal) := by
  have e := idx7_4 t
  have h : iblk7 V c 4 t (ix2 r n) = V c main_v20_0 (ix2 (⟨((grid7.coords t) 0).val * 512 + r.val, by
      have : ((grid7.coords t) 0).val < 8 := ((grid7.coords t) 0).isLt; omega⟩ : Fin 4096) (⟨2 * 768 + n.val, by omega⟩ : Fin 3072)) := by
    blk_ext [iblk7, e]
  rw [h, ha, ← col_at _ _ _ n.isLt]; rfl

theorem iblk7_5 (c : Dev nD) (hw : GateOk W (V c main_v9)) (t : Fin cfg7.N) (d : Fin 512) (n : Fin 768) :
    iblk7 V c 5 t (ix3 0 d n) = ((pad (W.WG (((grid7.coords t) 1).val * 512 + d)) 2 n : ℝ) : EReal) := by
  have e := idx7_5 t
  have b : ((grid7.coords t) 1).val < 2 := ((grid7.coords t) 1).isLt
  have h : iblk7 V c 5 t (ix3 0 d n) = V c main_v9 (ix3 (⟨2, by omega⟩ : Fin 4) (⟨2 * 1024 + (((grid7.coords t) 1).val * 512 + d.val), by omega⟩ : Fin 4096) n) := by
    blk_ext [iblk7, e]
  exact h.trans (hw _ (⟨((grid7.coords t) 1).val * 512 + d.val, by omega⟩ : Fin 1024) _)

theorem iblk7_6 (c : Dev nD) (ha : V c main_v20_0 = fun y : S4096x3072.Idx => ((col (W.DA (y 0)) (y 1) : ℝ) : EReal)) (t : Fin cfg7.N) (r : Fin 512) (n : Fin 768) :
    iblk7 V c 6 t (ix2 r n) = ((pad (W.DA (((grid7.coords t) 0).val * 512 + r)) 3 n : ℝ) : EReal) := by
  have e := idx7_6 t
  have h : iblk7 V c 6 t (ix2 r n) = V c main_v20_0 (ix2 (⟨((grid7.coords t) 0).val * 512 + r.val, by
      have : ((grid7.coords t) 0).val < 8 := ((grid7.coords t) 0).isLt; omega⟩ : Fin 4096) (⟨3 * 768 + n.val, by omega⟩ : Fin 3072)) := by
    blk_ext [iblk7, e]
  rw [h, ha, ← col_at _ _ _ n.isLt]; rfl

theorem iblk7_7 (c : Dev nD) (hw : GateOk W (V c main_v9)) (t : Fin cfg7.N) (d : Fin 512) (n : Fin 768) :
    iblk7 V c 7 t (ix3 0 d n) = ((pad (W.WG (((grid7.coords t) 1).val * 512 + d)) 3 n : ℝ) : EReal) := by
  have e := idx7_7 t
  have b : ((grid7.coords t) 1).val < 2 := ((grid7.coords t) 1).isLt
  have h : iblk7 V c 7 t (ix3 0 d n) = V c main_v9 (ix3 (⟨3, by omega⟩ : Fin 4) (⟨2 * 1024 + (((grid7.coords t) 1).val * 512 + d.val), by omega⟩ : Fin 4096) n) := by
    blk_ext [iblk7, e]
  exact h.trans (hw _ (⟨((grid7.coords t) 1).val * 512 + d.val, by omega⟩ : Fin 1024) _)

theorem iblk7_8 (c : Dev nD) (ha : V c main_v20_1 = fun y : S4096x3072.Idx => ((col (W.DB (y 0)) (y 1) : ℝ) : EReal)) (t : Fin cfg7.N) (r : Fin 512) (n : Fin 768) :
    iblk7 V c 8 t (ix2 r n) = ((pad (W.DB (((grid7.coords t) 0).val * 512 + r)) 0 n : ℝ) : EReal) := by
  have e := idx7_8 t
  have h : iblk7 V c 8 t (ix2 r n) = V c main_v20_1 (ix2 (⟨((grid7.coords t) 0).val * 512 + r.val, by
      have : ((grid7.coords t) 0).val < 8 := ((grid7.coords t) 0).isLt; omega⟩ : Fin 4096) (⟨0 * 768 + n.val, by omega⟩ : Fin 3072)) := by
    blk_ext [iblk7, e]
  rw [h, ha, ← col_at _ _ _ n.isLt]; rfl

theorem iblk7_9 (c : Dev nD) (hw : UpOk W (V c main_v9)) (t : Fin cfg7.N) (d : Fin 512) (n : Fin 768) :
    iblk7 V c 9 t (ix3 0 d n) = ((pad (W.WU (((grid7.coords t) 1).val * 512 + d)) 0 n : ℝ) : EReal) := by
  have e := idx7_9 t
  have b : ((grid7.coords t) 1).val < 2 := ((grid7.coords t) 1).isLt
  have h : iblk7 V c 9 t (ix3 0 d n) = V c main_v9 (ix3 (⟨0, by omega⟩ : Fin 4) (⟨3 * 1024 + (((grid7.coords t) 1).val * 512 + d.val), by omega⟩ : Fin 4096) n) := by
    blk_ext [iblk7, e]
  exact h.trans (hw _ (⟨((grid7.coords t) 1).val * 512 + d.val, by omega⟩ : Fin 1024) _)

theorem iblk7_10 (c : Dev nD) (ha : V c main_v20_1 = fun y : S4096x3072.Idx => ((col (W.DB (y 0)) (y 1) : ℝ) : EReal)) (t : Fin cfg7.N) (r : Fin 512) (n : Fin 768) :
    iblk7 V c 10 t (ix2 r n) = ((pad (W.DB (((grid7.coords t) 0).val * 512 + r)) 1 n : ℝ) : EReal) := by
  have e := idx7_10 t
  have h : iblk7 V c 10 t (ix2 r n) = V c main_v20_1 (ix2 (⟨((grid7.coords t) 0).val * 512 + r.val, by
      have : ((grid7.coords t) 0).val < 8 := ((grid7.coords t) 0).isLt; omega⟩ : Fin 4096) (⟨1 * 768 + n.val, by omega⟩ : Fin 3072)) := by
    blk_ext [iblk7, e]
  rw [h, ha, ← col_at _ _ _ n.isLt]; rfl

theorem iblk7_11 (c : Dev nD) (hw : UpOk W (V c main_v9)) (t : Fin cfg7.N) (d : Fin 512) (n : Fin 768) :
    iblk7 V c 11 t (ix3 0 d n) = ((pad (W.WU (((grid7.coords t) 1).val * 512 + d)) 1 n : ℝ) : EReal) := by
  have e := idx7_11 t
  have b : ((grid7.coords t) 1).val < 2 := ((grid7.coords t) 1).isLt
  have h : iblk7 V c 11 t (ix3 0 d n) = V c main_v9 (ix3 (⟨1, by omega⟩ : Fin 4) (⟨3 * 1024 + (((grid7.coords t) 1).val * 512 + d.val), by omega⟩ : Fin 4096) n) := by
    blk_ext [iblk7, e]
  exact h.trans (hw _ (⟨((grid7.coords t) 1).val * 512 + d.val, by omega⟩ : Fin 1024) _)

theorem iblk7_12 (c : Dev nD) (ha : V c main_v20_1 = fun y : S4096x3072.Idx => ((col (W.DB (y 0)) (y 1) : ℝ) : EReal)) (t : Fin cfg7.N) (r : Fin 512) (n : Fin 768) :
    iblk7 V c 12 t (ix2 r n) = ((pad (W.DB (((grid7.coords t) 0).val * 512 + r)) 2 n : ℝ) : EReal) := by
  have e := idx7_12 t
  have h : iblk7 V c 12 t (ix2 r n) = V c main_v20_1 (ix2 (⟨((grid7.coords t) 0).val * 512 + r.val, by
      have : ((grid7.coords t) 0).val < 8 := ((grid7.coords t) 0).isLt; omega⟩ : Fin 4096) (⟨2 * 768 + n.val, by omega⟩ : Fin 3072)) := by
    blk_ext [iblk7, e]
  rw [h, ha, ← col_at _ _ _ n.isLt]; rfl

theorem iblk7_13 (c : Dev nD) (hw : UpOk W (V c main_v9)) (t : Fin cfg7.N) (d : Fin 512) (n : Fin 768) :
    iblk7 V c 13 t (ix3 0 d n) = ((pad (W.WU (((grid7.coords t) 1).val * 512 + d)) 2 n : ℝ) : EReal) := by
  have e := idx7_13 t
  have b : ((grid7.coords t) 1).val < 2 := ((grid7.coords t) 1).isLt
  have h : iblk7 V c 13 t (ix3 0 d n) = V c main_v9 (ix3 (⟨2, by omega⟩ : Fin 4) (⟨3 * 1024 + (((grid7.coords t) 1).val * 512 + d.val), by omega⟩ : Fin 4096) n) := by
    blk_ext [iblk7, e]
  exact h.trans (hw _ (⟨((grid7.coords t) 1).val * 512 + d.val, by omega⟩ : Fin 1024) _)

theorem iblk7_14 (c : Dev nD) (ha : V c main_v20_1 = fun y : S4096x3072.Idx => ((col (W.DB (y 0)) (y 1) : ℝ) : EReal)) (t : Fin cfg7.N) (r : Fin 512) (n : Fin 768) :
    iblk7 V c 14 t (ix2 r n) = ((pad (W.DB (((grid7.coords t) 0).val * 512 + r)) 3 n : ℝ) : EReal) := by
  have e := idx7_14 t
  have h : iblk7 V c 14 t (ix2 r n) = V c main_v20_1 (ix2 (⟨((grid7.coords t) 0).val * 512 + r.val, by
      have : ((grid7.coords t) 0).val < 8 := ((grid7.coords t) 0).isLt; omega⟩ : Fin 4096) (⟨3 * 768 + n.val, by omega⟩ : Fin 3072)) := by
    blk_ext [iblk7, e]
  rw [h, ha, ← col_at _ _ _ n.isLt]; rfl

theorem iblk7_15 (c : Dev nD) (hw : UpOk W (V c main_v9)) (t : Fin cfg7.N) (d : Fin 512) (n : Fin 768) :
    iblk7 V c 15 t (ix3 0 d n) = ((pad (W.WU (((grid7.coords t) 1).val * 512 + d)) 3 n : ℝ) : EReal) := by
  have e := idx7_15 t
  have b : ((grid7.coords t) 1).val < 2 := ((grid7.coords t) 1).isLt
  have h : iblk7 V c 15 t (ix3 0 d n) = V c main_v9 (ix3 (⟨3, by omega⟩ : Fin 4) (⟨3 * 1024 + (((grid7.coords t) 1).val * 512 + d.val), by omega⟩ : Fin 4096) n) := by
    blk_ext [iblk7, e]
  exact h.trans (hw _ (⟨((grid7.coords t) 1).val * 512 + d.val, by omega⟩ : Fin 1024) _)

theorem out7_16_eq (x0 x2 x4 x6 x8 x10 x12 x14 : Vec Ideal S512x768 .bf16) (x1 x3 x5 x7 x9 x11 x13 x15 : Vec Ideal S1x512x768 .bf16) :
    out7_16 x0 x1 x2 x3 x4 x5 x6 x7 x8 x9 x10 x11 x12 x13 x14 x15 = k7_pay1 (k7_pay2 x0 x1 x2 x3 x4 x5 x6 x7) (k7_pay3 x8 x9) x10 x11 x12 x13 x14 x15 := by
  unfold out7_16
  rw [View.canon_unit_zero off2]
  rw [View.ld_unit_zero off2, View.ld_unit_zero off3, View.ld_unit_zero off2,
    View.ld_unit_zero off3, View.ld_unit_zero off2, View.ld_unit_zero off3, View.ld_unit_zero off2, View.ld_unit_zero off3, View.ld_unit_zero off2, View.ld_unit_zero off3, View.ld_unit_zero off2, View.ld_unit_zero off3, View.ld_unit_zero off2, View.ld_unit_zero off3, View.ld_unit_zero off2, View.ld_unit_zero off3]

theorem arr7 (c : Dev nD) (ha : V c main_v20_0 = fun y : S4096x3072.Idx => ((col (W.DA (y 0)) (y 1) : ℝ) : EReal))
    (hb : V c main_v20_1 = fun y : S4096x3072.Idx => ((col (W.DB (y 0)) (y 1) : ℝ) : EReal)) (hg : GateOk W (V c main_v9)) (hu : UpOk W (V c main_v9)) :
    (dat7 V c).arrAt 16 cfg7.N = fun y : S4096x1024.Idx => ((W.DH (y 0) (y 1) : ℝ) : EReal) := by
  refine (dat7 V c).arrAt_eq_of_covers 16 _ (by decide +kernel) fun t hf y => ?_
  have e := idx7_16 t
  blk_simp
  rw [after7_16, e, out7_16_eq]
  refine (congrArg (k7_pay1 (k7_pay2 (iblk7 V c 0 t) (iblk7 V c 1 t) (iblk7 V c 2 t) (iblk7 V c 3 t) (iblk7 V c 4 t) (iblk7 V c 5 t) (iblk7 V c 6 t) (iblk7 V c 7 t))
    (k7_pay3 (iblk7 V c 8 t) (iblk7 V c 9 t)) (iblk7 V c 10 t) (iblk7 V c 11 t) (iblk7 V c 12 t) (iblk7 V c 13 t) (iblk7 V c 14 t) (iblk7 V c 15 t)) (ix2_eta (a := 512) (b := 512) y)).trans ?_
  refine (k7_pay1_at (a := pad (W.DB (((grid7.coords t) 0).val * 512 + (y 0).val))) (w := pad (W.WU (((grid7.coords t) 1).val * 512 + (y 1).val))) (y 0 : Fin 512) (y 1 : Fin 512)
    (k7_pay2_at (a := pad (W.DA (((grid7.coords t) 0).val * 512 + (y 0).val))) (w := pad (W.WG (((grid7.coords t) 1).val * 512 + (y 1).val))) (y 0 : Fin 512) (y 1 : Fin 512)
      (iblk7_0 V W c ha t (y 0 : Fin 512)) (iblk7_2 V W c ha t (y 0 : Fin 512)) (iblk7_4 V W c ha t (y 0 : Fin 512)) (iblk7_6 V W c ha t (y 0 : Fin 512))
      (fun n => iblk7_1 V W c hg t (y 1 : Fin 512) n) (fun n => iblk7_3 V W c hg t (y 1 : Fin 512) n) (fun n => iblk7_5 V W c hg t (y 1 : Fin 512) n) (fun n => iblk7_7 V W c hg t (y 1 : Fin 512) n))
    (k7_pay3_at (a := pad (W.DB (((grid7.coords t) 0).val * 512 + (y 0).val)) 0) (w := pad (W.WU (((grid7.coords t) 1).val * 512 + (y 1).val)) 0) (y 0 : Fin 512) (y 1 : Fin 512) (iblk7_8 V W c hb t (y 0 : Fin 512)) (fun n => iblk7_9 V W c hu t (y 1 : Fin 512) n))
    (iblk7_10 V W c hb t (y 0 : Fin 512)) (iblk7_12 V W c hb t (y 0 : Fin 512)) (iblk7_14 V W c hb t (y 0 : Fin 512))
    (fun n => iblk7_11 V W c hu t (y 1 : Fin 512) n) (fun n => iblk7_13 V W c hu t (y 1 : Fin 512) n) (fun n => iblk7_15 V W c hu t (y 1 : Fin 512) n)).trans ?_
  show _ = ((W.DH (((grid7.coords t) 0).val * 512 + (y 0).val) (((grid7.coords t) 1).val * 512 + (y 1).val) : ℝ) : EReal)
  simp only [pad_mul, sum_chips]
  rfl

end Cert.Proof.Half
-- ==== Proof.HalfNorm.lean ====
/-
  The last backward call over the reals: the norm's two gradients. The gain's is summed over the grid's points in eight
  rows, which the host adds up.
-/
module

public import proofs.«01_k».proof.Proof.HalfUp
public import proofs.«01_k».proof.Proof.Gen.Kernel2Ideal.Frame.Region8

@[expose] public section

set_option maxRecDepth 16384

noncomputable section

namespace Cert.Proof.Half

open Cert.Kernel2Ideal Cert.Kernel2Ideal.Gen
open Idealize.ShloMosaic Idealize.ShloMosaic.TcCoe Idealize.ShloMosaic.Tactic
open Idealize.ShloMosaic.Pipeline (Dat Cfg Window)

theorem out8_A_4_eq (c : Dev nD) (i : grid8.Coords) (a1 : Memref sig .tc .vmem S512x1024 .f32) (h1 : a1.IsWhole) (a2 : Memref sig .tc .vmem S512x1024 .f32) (h2 : a2.IsWhole)
    (a3 : Memref sig .tc .vmem S1x1024 .f32) (h3 : a3.IsWhole) (a4 : Memref sig .tc .vmem S512x1024 .f32) (h4 : a4.IsWhole)
    (a5 : Memref sig .tc .vmem S512x1024 .f32) (h5 : a5.IsWhole) (a6 : Memref sig .tc .vmem S512x1024 .bf16) (h6 : a6.IsWhole)
    (a7 : Memref sig .tc .vmem S8x1024 .f32) (h7 : a7.IsWhole) (hc : cond8_0 i)
    (x0 x1 : Vec Ideal S512x1024 .f32) (x2 : Vec Ideal S1x1024 .f32) (x3 : Vec Ideal S512x1024 .f32) :
    out8_A_4 c i a1 h1 a2 h2 a3 h3 a4 h4 a5 h5 a6 h6 a7 h7 hc x0 x1 x2 x3 = k8_pay5 x1 x0 x2 x3 := by
  unfold out8_A_4
  rw [View.read_writes_eq_canon _ _ _ (cover8_A_4 c i a1 h1 a2 h2 a3 h3 a4 h4 a5 h5 a6 h6 a7 h7 hc x0 x1 x2 x3)]
  unfold kernelRun8_A
  dsimp only
  sl_unfold_words
  rw [View.canon_unit_zero off2]
  simp only [View.readAt_eq_ld, h1.read_unread, h2.read_unread, h3.read_unread, h4.read_unread, View.ld_unit_zero (S := S512x1024) off2,
    View.ld_unit_zero (S := S1x1024) off2]

theorem out8_A_6_eq (c : Dev nD) (i : grid8.Coords) (a1 : Memref sig .tc .vmem S512x1024 .f32) (h1 : a1.IsWhole) (a2 : Memref sig .tc .vmem S512x1024 .f32) (h2 : a2.IsWhole)
    (a3 : Memref sig .tc .vmem S1x1024 .f32) (h3 : a3.IsWhole) (a4 : Memref sig .tc .vmem S512x1024 .f32) (h4 : a4.IsWhole)
    (a5 : Memref sig .tc .vmem S512x1024 .f32) (h5 : a5.IsWhole) (a6 : Memref sig .tc .vmem S512x1024 .bf16) (h6 : a6.IsWhole)
    (a7 : Memref sig .tc .vmem S8x1024 .f32) (h7 : a7.IsWhole) (hc : cond8_0 i)
    (x0 x1 : Vec Ideal S512x1024 .f32) (x2 : Vec Ideal S1x1024 .f32) (x3 : Vec Ideal S512x1024 .f32) :
    out8_A_6 c i a1 h1 a2 h2 a3 h3 a4 h4 a5 h5 a6 h6 a7 h7 hc x0 x1 x2 x3 = k8_pay1 (k8_pay3 x1) (k8_pay4 x0) (k8_pay7 (F := Ideal)) := by
  unfold out8_A_6
  rw [View.read_writes_eq_canon _ _ _ (cover8_A_6 c i a1 h1 a2 h2 a3 h3 a4 h4 a5 h5 a6 h6 a7 h7 hc x0 x1 x2 x3)]
  unfold kernelRun8_A
  dsimp only
  sl_unfold_words
  rw [View.canon_cons_unit_zero (S := S8x1024) off2, View.readCov_unit_zero (S := S8x1024) _ off2]
  simp only [View.readAt_eq_ld, h1.read_unread, h2.read_unread, View.ld_unit_zero (S := S512x1024) off2]

theorem out8_B_4_eq (c : Dev nD) (i : grid8.Coords) (a1 : Memref sig .tc .vmem S512x1024 .f32) (h1 : a1.IsWhole) (a2 : Memref sig .tc .vmem S512x1024 .f32) (h2 : a2.IsWhole)
    (a3 : Memref sig .tc .vmem S1x1024 .f32) (h3 : a3.IsWhole) (a4 : Memref sig .tc .vmem S512x1024 .f32) (h4 : a4.IsWhole)
    (a5 : Memref sig .tc .vmem S512x1024 .f32) (h5 : a5.IsWhole) (a6 : Memref sig .tc .vmem S512x1024 .bf16) (h6 : a6.IsWhole)
    (a7 : Memref sig .tc .vmem S8x1024 .f32) (h7 : a7.IsWhole) (hc : ¬cond8_0 i)
    (x0 x1 : Vec Ideal S512x1024 .f32) (x2 : Vec Ideal S1x1024 .f32) (x3 : Vec Ideal S512x1024 .f32) (xo : Vec Ideal S8x1024 .f32) :
    out8_B_4 c i a1 h1 a2 h2 a3 h3 a4 h4 a5 h5 a6 h6 a7 h7 hc x0 x1 x2 x3 xo = k8_pay5 x1 x0 x2 x3 := by
  unfold out8_B_4
  rw [View.read_writes_eq_canon _ _ _ (cover8_B_4 c i a1 h1 a2 h2 a3 h3 a4 h4 a5 h5 a6 h6 a7 h7 hc x0 x1 x2 x3 xo)]
  unfold kernelRun8_B
  dsimp only
  sl_unfold_words
  rw [View.canon_unit_zero off2]
  simp only [View.readAt_eq_ld, h1.read_unread, h2.read_unread, h3.read_unread, h4.read_unread, View.ld_unit_zero (S := S512x1024) off2,
    View.ld_unit_zero (S := S1x1024) off2]

theorem out8_B_6_eq (c : Dev nD) (i : grid8.Coords) (a1 : Memref sig .tc .vmem S512x1024 .f32) (h1 : a1.IsWhole) (a2 : Memref sig .tc .vmem S512x1024 .f32) (h2 : a2.IsWhole)
    (a3 : Memref sig .tc .vmem S1x1024 .f32) (h3 : a3.IsWhole) (a4 : Memref sig .tc .vmem S512x1024 .f32) (h4 : a4.IsWhole)
    (a5 : Memref sig .tc .vmem S512x1024 .f32) (h5 : a5.IsWhole) (a6 : Memref sig .tc .vmem S512x1024 .bf16) (h6 : a6.IsWhole)
    (a7 : Memref sig .tc .vmem S8x1024 .f32) (h7 : a7.IsWhole) (hc : ¬cond8_0 i)
    (x0 x1 : Vec Ideal S512x1024 .f32) (x2 : Vec Ideal S1x1024 .f32) (x3 : Vec Ideal S512x1024 .f32) (xo : Vec Ideal S8x1024 .f32) :
    out8_B_6 c i a1 h1 a2 h2 a3 h3 a4 h4 a5 h5 a6 h6 a7 h7 hc x0 x1 x2 x3 xo = k8_pay1 (k8_pay3 x1) (k8_pay4 x0) xo := by
  unfold out8_B_6
  rw [View.read_writes_eq_canon _ _ _ (cover8_B_6 c i a1 h1 a2 h2 a3 h3 a4 h4 a5 h5 a6 h6 a7 h7 hc x0 x1 x2 x3 xo)]
  unfold kernelRun8_B
  dsimp only
  sl_unfold_words
  rw [View.canon_unit_zero (S := S8x1024) off2]
  simp only [View.readAt_eq_ld, h1.read_unread, h2.read_unread, h7.read_unread, View.ld_unit_zero (S := S512x1024) off2, View.ld_unit_zero (S := S8x1024) off2]

variable (V : (c : Dev nD) → (b : Ref sig .tc) → Buf (Elt Ideal) ((c : Thread nD τ).loc b)) (W : FF)

theorem idx8_0 : ∀ t : Fin cfg8.N, win8_0.index t = ![t.val, 0] := by decide +kernel
theorem idx8_1 : ∀ t : Fin cfg8.N, win8_1.index t = ![t.val, 0] := by decide +kernel
theorem idx8_2 : ∀ t : Fin cfg8.N, win8_2.index t = ![0, 0] := by decide +kernel
theorem idx8_3 : ∀ t : Fin cfg8.N, win8_3.index t = ![t.val, 0] := by decide +kernel
theorem idx8_4 : ∀ t : Fin cfg8.N, win8_4.index t = ![t.val, 0] := by decide +kernel
theorem idx8_6 : ∀ t : Fin cfg8.N, win8_6.index t = ![0, 0] := by decide +kernel

theorem iblk8_0 (c : Dev nD) (hh : V c main_v24 = fun y : S4096x1024.Idx => ((W.DH (y 0) (y 1) : ℝ) : EReal)) (t : Fin cfg8.N) (r : Fin 512) (d : Fin 1024) :
    iblk8 V c 0 t (ix2 r d) = ((W.DH (t.val * 512 + r) d : ℝ) : EReal) := by
  have e := idx8_0 t
  have h : iblk8 V c 0 t (ix2 r d) = V c main_v24 (ix2 (⟨t.val * 512 + r.val, by
      have : t.val < 8 := t.isLt; omega⟩ : Fin 4096) d) := by
    blk_ext [iblk8, e]
  rw [h, hh]; rfl

theorem iblk8_1 (c : Dev nD) (hx : V c main_arg0 = fun y : S4096x1024.Idx => ((W.X (y 0) (y 1) : ℝ) : EReal)) (t : Fin cfg8.N) (r : Fin 512) (d : Fin 1024) :
    iblk8 V c 1 t (ix2 r d) = ((W.X (t.val * 512 + r) d : ℝ) : EReal) := by
  have e := idx8_1 t
  have h : iblk8 V c 1 t (ix2 r d) = V c main_arg0 (ix2 (⟨t.val * 512 + r.val, by
      have : t.val < 8 := t.isLt; omega⟩ : Fin 4096) d) := by
    blk_ext [iblk8, e]
  rw [h, hx]; rfl

theorem iblk8_3 (c : Dev nD) (hy : V c main_arg5 = fun y : S4096x1024.Idx => ((W.DY (y 0) (y 1) : ℝ) : EReal)) (t : Fin cfg8.N) (r : Fin 512) (d : Fin 1024) :
    iblk8 V c 3 t (ix2 r d) = ((W.DY (t.val * 512 + r) d : ℝ) : EReal) := by
  have e := idx8_3 t
  have h : iblk8 V c 3 t (ix2 r d) = V c main_arg5 (ix2 (⟨t.val * 512 + r.val, by
      have : t.val < 8 := t.isLt; omega⟩ : Fin 4096) d) := by
    blk_ext [iblk8, e]
  rw [h, hy]; rfl

theorem iblk8_2 (c : Dev nD) (hg : V c main_v25 = fun y : S1x1024.Idx => ((W.G (y 1) : ℝ) : EReal)) (t : Fin cfg8.N) (d : Fin 1024) :
    iblk8 V c 2 t (ix2 0 d) = ((W.G d : ℝ) : EReal) := by
  have e := idx8_2 t
  have h : iblk8 V c 2 t (ix2 0 d) = V c main_v25 (ix2 0 d) := by
    blk_ext [iblk8, e]
  rw [h, hg]; rfl

theorem out4_at (c : Dev nD) (t : Fin cfg8.N) :
    (outsAt8 V c t.val t.isLt).1 = k8_pay5 (iblk8 V c 1 t) (iblk8 V c 0 t) (iblk8 V c 2 t) (iblk8 V c 3 t) := by
  by_cases h0 : t.val % 8 = 0
  · rw [outsAt8_A V c t h0]; dsimp only; rw [out8_A_4_eq]
  · rw [outsAt8_B V c t h0]; dsimp only; rw [out8_B_4_eq]

theorem arr8_4 (c : Dev nD) (hh : V c main_v24 = fun y : S4096x1024.Idx => ((W.DH (y 0) (y 1) : ℝ) : EReal))
    (hx : V c main_arg0 = fun y : S4096x1024.Idx => ((W.X (y 0) (y 1) : ℝ) : EReal))
    (hg : V c main_v25 = fun y : S1x1024.Idx => ((W.G (y 1) : ℝ) : EReal))
    (hy : V c main_arg5 = fun y : S4096x1024.Idx => ((W.DY (y 0) (y 1) : ℝ) : EReal)) :
    (dat8 V c).arrAt 4 cfg8.N = fun y : S4096x1024.Idx => ((W.DX (y 0) (y 1) : ℝ) : EReal) := by
  refine (dat8 V c).arrAt_eq_of_covers 4 _ (by decide +kernel) fun t hf y => ?_
  have e := idx8_4 t
  blk_simp
  rw [after8_4, e, out4_at]
  refine (congrArg (k8_pay5 (iblk8 V c 1 t) (iblk8 V c 0 t) (iblk8 V c 2 t) (iblk8 V c 3 t)) (ix2_eta (a := 512) (b := 1024) y)).trans ?_
  refine (k8_pay5_at (y 0 : Fin 512) (y 1 : Fin 1024) (iblk8_1 V W c hx t (y 0 : Fin 512)) (iblk8_0 V W c hh t (y 0 : Fin 512))
    (iblk8_2 V W c hg t) (iblk8_3 V W c hy t (y 0 : Fin 512) (y 1 : Fin 1024))).trans ?_
  show _ = ((W.DX (t.val * 512 + (y 0).val) (0 * 1024 + (y 1).val) : ℝ) : EReal)
  rw [Nat.zero_mul, Nat.zero_add]
  rfl

theorem k8_pay4_eq (v : Vec Ideal S512x1024 .f32) : k8_pay4 v = v := by
  unfold k8_pay4
  simp only [shapeCast_self]

/-- What a point adds to a row of the gain's gradient. -/
def ptG (n r d : ℕ) : ℝ := ∑ i : Fin 64, W.DH (n * 512 + (i * 8 + r)) d * W.XH (n * 512 + (i * 8 + r)) d

/-- The eight rows after a point's work. -/
theorem acc_at (c : Dev nD) (hh : V c main_v24 = fun y : S4096x1024.Idx => ((W.DH (y 0) (y 1) : ℝ) : EReal))
    (hx : V c main_arg0 = fun y : S4096x1024.Idx => ((W.X (y 0) (y 1) : ℝ) : EReal)) (r : Fin 8) (d : Fin 1024) :
    ∀ (n : ℕ) (hn : n < cfg8.N), @Eq EReal ((outsAt8 V c n hn).2.2 (ix2 r d)) ((∑ k ∈ Finset.range (n + 1), ptG W k r d : ℝ) : EReal)
  | 0, hn => by
    rw [outsAt8_A V c ⟨0, hn⟩ rfl]
    dsimp only
    rw [out8_A_6_eq, k8_pay4_eq]
    refine (k8_pay1_at (x := fun t => W.XH (0 * 512 + t) d) (h := fun t => W.DH (0 * 512 + t) d) (p := 0) r d
      (fun t => k8_pay3_at t (iblk8_1 V W c hx ⟨0, hn⟩ t) d) (fun t => iblk8_0 V W c hh ⟨0, hn⟩ t d) ?_).trans ?_
    · pointwise [k8_pay7]
      exact EReal.coe_zero.symm
    · rw [Finset.sum_range_one, zero_add]; rfl
  | n + 1, hn => by
    have hN : cfg8.N = 8 := N_8
    have hB : ¬(⟨n + 1, hn⟩ : Fin cfg8.N).val % 8 = 0 := by dsimp only; omega
    rw [outsAt8_B V c ⟨n + 1, hn⟩ hB]
    dsimp only
    rw [out8_B_6_eq, k8_pay4_eq]
    refine (k8_pay1_at (x := fun t => W.XH ((n + 1) * 512 + t) d) (h := fun t => W.DH ((n + 1) * 512 + t) d) r d
      (fun t => k8_pay3_at t (iblk8_1 V W c hx ⟨n + 1, hn⟩ t) d) (fun t => iblk8_0 V W c hh ⟨n + 1, hn⟩ t d)
      (acc_at c hh hx r d n _)).trans ?_
    rw [Finset.sum_range_succ (fun k => ptG W k r d) (n + 1)]; rfl

theorem arr8_6 (c : Dev nD) (hh : V c main_v24 = fun y : S4096x1024.Idx => ((W.DH (y 0) (y 1) : ℝ) : EReal))
    (hx : V c main_arg0 = fun y : S4096x1024.Idx => ((W.X (y 0) (y 1) : ℝ) : EReal)) :
    (dat8 V c).arrAt 6 cfg8.N = fun y : S8x1024.Idx => ((∑ k ∈ Finset.range 8, ptG W k (y 0) (y 1) : ℝ) : EReal) := by
  refine (dat8 V c).arrAt_eq_of_covers 6 _ (by decide +kernel) fun t hf y => ?_
  have hN : cfg8.N = 8 := N_8
  have h7 : t.val = 7 := by have := (flush8_6 t).mp hf; have := t.isLt; omega
  have e := idx8_6 t
  blk_simp
  rw [after8_6, e]
  refine (congrArg (outsAt8 V c t.val t.isLt).2.2 (ix2_eta (a := 8) (b := 1024) y)).trans ?_
  refine (acc_at V W c hh hx (y 0 : Fin 8) (y 1 : Fin 1024) t.val t.isLt).trans ?_
  show _ = ((∑ k ∈ Finset.range 8, ptG W k (0 * 8 + (y 0).val) (0 * 1024 + (y 1).val) : ℝ) : EReal)
  rw [h7, Nat.zero_mul, Nat.zero_add, Nat.zero_add]

theorem sum_blocks (F : ℕ → ℝ) (b : ℕ) : ∀ a, ∑ t ∈ Finset.range (a * b), F t = ∑ i ∈ Finset.range a, ∑ j ∈ Finset.range b, F (i * b + j)
  | 0 => by simp
  | a + 1 => by rw [Nat.succ_mul, Finset.sum_range_add, sum_blocks F b a, Finset.sum_range_succ _ a]

/-- The eight rows add up to the gain's gradient. -/
theorem sum_rows (d : ℕ) : ∑ r : Fin 8, ∑ k ∈ Finset.range 8, ptG W k r d = W.DG d := by
  unfold FF.DG
  rw [← Finset.sum_range (fun t => W.DH t d * W.XH t d), show (4096 : ℕ) = 8 * 512 from rfl, sum_blocks _ 512 8, Finset.sum_comm]
  refine Finset.sum_congr rfl fun k _ => ?_
  rw [show (512 : ℕ) = 64 * 8 from rfl, sum_blocks _ 8 64, Finset.sum_comm, ← Finset.sum_range (fun r => ptG W k r d)]
  refine Finset.sum_congr rfl fun r _ => ?_
  unfold ptG
  rw [← Finset.sum_range (fun i => W.DH (k * 512 + (i * 8 + r)) d * W.XH (k * 512 + (i * 8 + r)) d)]

end Cert.Proof.Half
-- ==== Proof.HalfValue.lean ====
/-
  The half-step's boundaries, one after another, over the reals; and what its run leaves in the results.
-/
module

public import proofs.«01_k».proof.Proof.HalfHost
public import proofs.«01_k».proof.Proof.HalfDown
public import proofs.«01_k».proof.Proof.HalfNorm
public import proofs.«01_k».proof.Proof.HalfRun

@[expose] public section

set_option maxRecDepth 16384

noncomputable section

namespace Cert.Proof.Half

open Cert.Kernel2Ideal Cert.Kernel2Ideal.Gen
open Idealize.ShloMosaic Idealize.ShloMosaic.TcCoe Idealize.ShloMosaic.Tactic Idealize.SL.Sem
open Idealize.ShloMosaic.Pipeline (Dat Cfg Window)

variable {m : (ℓ : Loc nD τ sig) → Buf (Elt Ideal) ℓ} (ρ : Dev nD → PrngReg) {W : FF} {c : Dev nD}

theorem arg0_eq (h : ArgsAt m W c) : m (c, Proc.devRef .tc main_arg0) = fun y : S4096x1024.Idx => ((W.X (y 0) (y 1) : ℝ) : EReal) :=
  funext fun y => (congrArg (m (c, Proc.devRef .tc main_arg0)) (ix2_eta (a := 4096) (b := 1024) y)).trans (h.x _ _)

theorem arg5_eq (h : ArgsAt m W c) : m (c, Proc.devRef .tc main_arg5) = fun y : S4096x1024.Idx => ((W.DY (y 0) (y 1) : ℝ) : EReal) :=
  funext fun y => (congrArg (m (c, Proc.devRef .tc main_arg5)) (ix2_eta (a := 4096) (b := 1024) y)).trans (h.dy _ _)

theorem row_eta (y : S1x1024.Idx) : y = ix2 (0 : Fin 1) (y 1 : Fin 1024) := by
  funext i; match i with
  | 0 => exact Subsingleton.elim (α := Fin 1) _ _
  | 1 => rfl

theorem w5_v15 (h : ArgsAt m W c) : V5 m ρ c main_v15 = fun y : S1x1024.Idx => ((W.G (y 1) : ℝ) : EReal) :=
  funext fun y => (congrArg (V5 m ρ c main_v15) (row_eta y)).trans ((g_at ρ _).trans (h.g _))

theorem w6_v16 (h : ArgsAt m W c) : V6 m ρ c main_v16 = fun y : S4096x1024.Idx => ((W.H (y 0) (y 1) : ℝ) : EReal) :=
  (W6_arr m ρ c 2).trans (arr0 (V5 m ρ) W c ((W5_args m ρ c main_arg0 (by decide)).trans (arg0_eq h)) (w5_v15 ρ h))

theorem w6_gate (h : ArgsAt m W c) : GateOk W (V6 m ρ c main_v9) := by
  have e : V6 m ρ c main_v9 = V5 m ρ c main_v9 := W6_of m ρ c main_v9 (by decide)
  rw [e]; exact gateOk ρ h

theorem w6_up (h : ArgsAt m W c) : UpOk W (V6 m ρ c main_v9) := by
  have e : V6 m ρ c main_v9 = V5 m ρ c main_v9 := W6_of m ρ c main_v9 (by decide)
  rw [e]; exact upOk ρ h

theorem w7_a (h : ArgsAt m W c) : V7 m ρ c main_v17_0 = fun y : S4096x3072.Idx => ((col (W.A (y 0)) (y 1) : ℝ) : EReal) :=
  (W7_arr m ρ c 3).trans (arr1_3 (V6 m ρ) W c (w6_v16 ρ h) (w6_gate ρ h))

theorem w7_b (h : ArgsAt m W c) : V7 m ρ c main_v17_1 = fun y : S4096x3072.Idx => ((col (W.B (y 0)) (y 1) : ℝ) : EReal) :=
  (W7_arr m ρ c 4).trans (arr1_4 (V6 m ρ) W c (w6_v16 ρ h) (w6_up ρ h))

theorem w7_m (h : ArgsAt m W c) : V7 m ρ c main_v17_2 = fun y : S4096x3072.Idx => ((col (W.M (y 0)) (y 1) : ℝ) : EReal) :=
  (W7_arr m ρ c 5).trans (arr1_5 (V6 m ρ) W c (w6_v16 ρ h) (w6_gate ρ h) (w6_up ρ h))

theorem w7_down (h : ArgsAt m W c) : DownOk W (V7 m ρ c main_v14) := by
  have e : V7 m ρ c main_v14 = V5 m ρ c main_v14 := (W7_of m ρ c main_v14 (by decide)).trans (W6_of m ρ c main_v14 (by decide))
  rw [e]; exact downOk ρ h

theorem w8_y (h : ArgsAt m W c) : V8 m ρ c main_v18 = fun y : S4096x1024.Idx => ((W.Y (y 0) (y 1) : ℝ) : EReal) :=
  (W8_arr m ρ c 9).trans (arr2 (V7 m ρ) W c (w7_m ρ h) (w7_down ρ h) ((W7_args m ρ c main_arg0 (by decide)).trans (arg0_eq h)))

theorem w9_dy (h : ArgsAt m W c) : V9 m ρ c main_v19 = fun y : S4096x1024.Idx => ((W.DY (y 0) (y 1) : ℝ) : EReal) :=
  funext fun y => (congrArg (V9 m ρ c main_v19) (ix2_eta (a := 4096) (b := 1024) y)).trans ((v19_at ρ _ _).trans
    ((congrFun ((W8_args m ρ c main_arg5 (by decide)).trans (arg5_eq h)) _)))

theorem w9_down (h : ArgsAt m W c) : DownOk W (V9 m ρ c main_v14) := by
  have e : V9 m ρ c main_v14 = V7 m ρ c main_v14 := (W9_of m ρ c main_v14 (by decide)).trans (W8_of m ρ c main_v14 (by decide))
  rw [e]; exact w7_down ρ h

theorem w9_a (h : ArgsAt m W c) : V9 m ρ c main_v17_0 = fun y : S4096x3072.Idx => ((col (W.A (y 0)) (y 1) : ℝ) : EReal) :=
  (W9_of m ρ c main_v17_0 (by decide)).trans ((W8_of m ρ c main_v17_0 (by decide)).trans (w7_a ρ h))

theorem w9_b (h : ArgsAt m W c) : V9 m ρ c main_v17_1 = fun y : S4096x3072.Idx => ((col (W.B (y 0)) (y 1) : ℝ) : EReal) :=
  (W9_of m ρ c main_v17_1 (by decide)).trans ((W8_of m ρ c main_v17_1 (by decide)).trans (w7_b ρ h))

theorem w10_da (h : ArgsAt m W c) : V10 m ρ c main_v20_0 = fun y : S4096x3072.Idx => ((col (W.DA (y 0)) (y 1) : ℝ) : EReal) :=
  (W10_arr m ρ c 4).trans (arr3_4 (V9 m ρ) W c (w9_dy ρ h) (w9_down ρ h) (w9_a ρ h) (w9_b ρ h))

theorem w10_db (h : ArgsAt m W c) : V10 m ρ c main_v20_1 = fun y : S4096x3072.Idx => ((col (W.DB (y 0)) (y 1) : ℝ) : EReal) :=
  (W10_arr m ρ c 5).trans (arr3_5 (V9 m ρ) W c (w9_dy ρ h) (w9_down ρ h) (w9_a ρ h))

theorem w10_m (h : ArgsAt m W c) : V10 m ρ c main_v20_2 = fun y : S4096x3072.Idx => ((col (W.M (y 0)) (y 1) : ℝ) : EReal) :=
  (W10_arr m ρ c 6).trans (arr3_6 (V9 m ρ) W c (w9_a ρ h) (w9_b ρ h))

theorem w10_dy (h : ArgsAt m W c) : V10 m ρ c main_v19 = fun y : S4096x1024.Idx => ((W.DY (y 0) (y 1) : ℝ) : EReal) :=
  (W10_of m ρ c main_v19 (by decide)).trans (w9_dy ρ h)

theorem w11_dwd (h : ArgsAt m W c) : V11 m ρ c main_v21 = fun y : S3072x1024.Idx => ((col (fun f => W.DWD f (y 1)) (y 0) : ℝ) : EReal) :=
  (W11_arr m ρ c 2).trans (arr4 (V10 m ρ) W c (w10_m ρ h) (w10_dy ρ h))

theorem w11_h (h : ArgsAt m W c) : V11 m ρ c main_v16 = fun y : S4096x1024.Idx => ((W.H (y 0) (y 1) : ℝ) : EReal) :=
  (W11_of m ρ c main_v16 (by decide)).trans ((W10_of m ρ c main_v16 (by decide)).trans ((W9_of m ρ c main_v16 (by decide)).trans
    ((W8_of m ρ c main_v16 (by decide)).trans ((W7_of m ρ c main_v16 (by decide)).trans (w6_v16 ρ h)))))

theorem w11_da (h : ArgsAt m W c) : V11 m ρ c main_v20_0 = fun y : S4096x3072.Idx => ((col (W.DA (y 0)) (y 1) : ℝ) : EReal) :=
  (W11_of m ρ c main_v20_0 (by decide)).trans (w10_da ρ h)

theorem w11_db (h : ArgsAt m W c) : V11 m ρ c main_v20_1 = fun y : S4096x3072.Idx => ((col (W.DB (y 0)) (y 1) : ℝ) : EReal) :=
  (W11_of m ρ c main_v20_1 (by decide)).trans (w10_db ρ h)

theorem w12_dwg (h : ArgsAt m W c) : V12 m ρ c main_v22 = fun y : S4x1024x768.Idx => ((pad (W.DWG (y 1)) (y 0) (y 2) : ℝ) : EReal) :=
  (W12_arr m ρ c 2).trans (arr5 (V11 m ρ) W c (w11_h ρ h) (w11_da ρ h))

theorem w13_dwu (h : ArgsAt m W c) : V13 m ρ c main_v23 = fun y : S4x1024x768.Idx => ((pad (W.DWU (y 1)) (y 0) (y 2) : ℝ) : EReal) :=
  (W13_arr m ρ c 2).trans (arr6 (V12 m ρ) W c ((W12_of m ρ c main_v16 (by decide)).trans (w11_h ρ h)) ((W12_of m ρ c main_v20_1 (by decide)).trans (w11_db ρ h)))

theorem w13_v9 : V13 m ρ c main_v9 = V6 m ρ c main_v9 :=
  (W13_of m ρ c main_v9 (by decide)).trans ((W12_of m ρ c main_v9 (by decide)).trans ((W11_of m ρ c main_v9 (by decide)).trans
    ((W10_of m ρ c main_v9 (by decide)).trans ((W9_of m ρ c main_v9 (by decide)).trans ((W8_of m ρ c main_v9 (by decide)).trans (W7_of m ρ c main_v9 (by decide)))))))

theorem w13_gate (h : ArgsAt m W c) : GateOk W (V13 m ρ c main_v9) := by
  rw [w13_v9]; exact w6_gate ρ h

theorem w13_up (h : ArgsAt m W c) : UpOk W (V13 m ρ c main_v9) := by
  rw [w13_v9]; exact w6_up ρ h

theorem w14_dh (h : ArgsAt m W c) : V14 m ρ c main_v24 = fun y : S4096x1024.Idx => ((W.DH (y 0) (y 1) : ℝ) : EReal) :=
  (W14_arr m ρ c 16).trans (arr7 (V13 m ρ) W c
    ((W13_of m ρ c main_v20_0 (by decide)).trans ((W12_of m ρ c main_v20_0 (by decide)).trans (w11_da ρ h)))
    ((W13_of m ρ c main_v20_1 (by decide)).trans ((W12_of m ρ c main_v20_1 (by decide)).trans (w11_db ρ h))) (w13_gate ρ h) (w13_up ρ h))

theorem w15_dh (h : ArgsAt m W c) : V15 m ρ c main_v24 = fun y : S4096x1024.Idx => ((W.DH (y 0) (y 1) : ℝ) : EReal) :=
  (W15_of m ρ c main_v24 (by decide)).trans (w14_dh ρ h)

theorem w15_x (h : ArgsAt m W c) : V15 m ρ c main_arg0 = fun y : S4096x1024.Idx => ((W.X (y 0) (y 1) : ℝ) : EReal) :=
  (W15_args m ρ c main_arg0 (by decide)).trans (arg0_eq h)

theorem w15_g (h : ArgsAt m W c) : V15 m ρ c main_v25 = fun y : S1x1024.Idx => ((W.G (y 1) : ℝ) : EReal) :=
  funext fun y => (congrArg (V15 m ρ c main_v25) (row_eta y)).trans ((v25_at ρ _).trans
    ((congrFun (W14_args m ρ c main_arg1 (by decide)) _).trans (h.g _)))

theorem w16_dx (h : ArgsAt m W c) : V16 m ρ c main_v26_0 = fun y : S4096x1024.Idx => ((W.DX (y 0) (y 1) : ℝ) : EReal) :=
  (W16_arr m ρ c 4).trans (arr8_4 (V15 m ρ) W c (w15_dh ρ h) (w15_x ρ h) (w15_g ρ h) ((W15_args m ρ c main_arg5 (by decide)).trans (arg5_eq h)))

theorem w16_dg (h : ArgsAt m W c) : V16 m ρ c main_v26_2 = fun y : S8x1024.Idx => ((∑ k ∈ Finset.range 8, ptG W k (y 0) (y 1) : ℝ) : EReal) :=
  (W16_arr m ρ c 6).trans (arr8_6 (V15 m ρ) W c (w15_dh ρ h) (w15_x ρ h))

/-! ## The results -/

theorem cut_eta {a b c : ℕ} (y : (⟨3, ![a, b, c]⟩ : Shape).Idx) : y = ix3 (y 0 : Fin a) (y 1 : Fin b) (y 2 : Fin c) := by
  funext i; match i with
  | 0 => rfl
  | 1 => rfl
  | 2 => rfl

theorem w17_y (h : ArgsAt m W c) : W17 m ρ c (Proc.devRef .tc main_v18) = yOf W :=
  (W17_of m ρ c main_v18 (by decide)).trans ((W16_of m ρ c main_v18 (by decide)).trans ((W15_of m ρ c main_v18 (by decide)).trans
    ((W14_of m ρ c main_v18 (by decide)).trans ((W13_of m ρ c main_v18 (by decide)).trans ((W12_of m ρ c main_v18 (by decide)).trans
    ((W11_of m ρ c main_v18 (by decide)).trans ((W10_of m ρ c main_v18 (by decide)).trans ((W9_of m ρ c main_v18 (by decide)).trans (w8_y ρ h)))))))))

theorem w17_dx (h : ArgsAt m W c) : W17 m ρ c (Proc.devRef .tc main_v26_0) = dxOf W :=
  (W17_of m ρ c main_v26_0 (by decide)).trans (w16_dx ρ h)

theorem w17_dg (h : ArgsAt m W c) : W17 m ρ c (Proc.devRef .tc main_v27) = dgOf W := by
  refine funext fun y => ?_
  have ey : y = ix1 (y 0 : Fin 1024) := by funext i; match i with | 0 => rfl
  refine (congrArg (W17 m ρ c (Proc.devRef .tc main_v27)) ey).trans ((v27_at ρ _ (w16_dg ρ h) _).trans ?_)
  show ∑ r : Fin 8, ((∑ k ∈ Finset.range 8, ptG W k r (y 0 : Fin 1024) : ℝ) : EReal) = ((W.DG (y 0) : ℝ) : EReal)
  rw [SB.sum_coe]
  exact congrArg Real.toEReal (sum_rows W _)

theorem w16_dwg (h : ArgsAt m W c) : V16 m ρ c main_v22 = fun y : S4x1024x768.Idx => ((pad (W.DWG (y 1)) (y 0) (y 2) : ℝ) : EReal) :=
  (W16_of m ρ c main_v22 (by decide)).trans ((W15_of m ρ c main_v22 (by decide)).trans ((W14_of m ρ c main_v22 (by decide)).trans
    ((W13_of m ρ c main_v22 (by decide)).trans (w12_dwg ρ h))))

theorem w16_dwu (h : ArgsAt m W c) : V16 m ρ c main_v23 = fun y : S4x1024x768.Idx => ((pad (W.DWU (y 1)) (y 0) (y 2) : ℝ) : EReal) :=
  (W16_of m ρ c main_v23 (by decide)).trans ((W15_of m ρ c main_v23 (by decide)).trans ((W14_of m ρ c main_v23 (by decide)).trans (w13_dwu ρ h)))

theorem w16_dwd (h : ArgsAt m W c) : V16 m ρ c main_v21 = fun y : S3072x1024.Idx => ((col (fun f => W.DWD f (y 1)) (y 0) : ℝ) : EReal) :=
  (W16_of m ρ c main_v21 (by decide)).trans ((W15_of m ρ c main_v21 (by decide)).trans ((W14_of m ρ c main_v21 (by decide)).trans
    ((W13_of m ρ c main_v21 (by decide)).trans ((W12_of m ρ c main_v21 (by decide)).trans (w11_dwd ρ h)))))

theorem w17_dwg (h : ArgsAt m W c) : W17 m ρ c (Proc.devRef .tc main_v29) = dwgOf W := by
  refine funext fun y => ?_
  refine (congrArg (W17 m ρ c (Proc.devRef .tc main_v29)) (cut_eta (a := 4) (b := 1024) (c := 704) y)).trans ((v29_at ρ _ _ _).trans ((congrFun (w16_dwg ρ h) _).trans ?_))
  exact congrArg Real.toEReal (pad_lt (W.DWG (y 1)) (y 0).val (y 2).val (y 2).isLt)

theorem w17_dwu (h : ArgsAt m W c) : W17 m ρ c (Proc.devRef .tc main_v30) = dwuOf W := by
  refine funext fun y => ?_
  refine (congrArg (W17 m ρ c (Proc.devRef .tc main_v30)) (cut_eta (a := 4) (b := 1024) (c := 704) y)).trans ((v30_at ρ _ _ _).trans ((congrFun (w16_dwu ρ h) _).trans ?_))
  exact congrArg Real.toEReal (pad_lt (W.DWU (y 1)) (y 0).val (y 2).val (y 2).isLt)

theorem w17_dwd (h : ArgsAt m W c) : W17 m ρ c (Proc.devRef .tc main_v31) = dwdOf W := by
  refine funext fun y => ?_
  refine (congrArg (W17 m ρ c (Proc.devRef .tc main_v31)) (cut_eta (a := 4) (b := 704) (c := 1024) y)).trans ((v31_at ρ _ _ _).trans ((congrFun (w16_dwd ρ h) _).trans ?_))
  have hlt : (y 1).val < 704 := (y 1).isLt
  exact congrArg Real.toEReal ((col_at (fun f => W.DWD f (y 2)) (y 0).val (y 1).val (by omega)).trans (pad_lt _ _ _ hlt))

/-- The run over the reals: the results are the half-step's output and gradients, the arguments as they began. -/
theorem run_value (ff : Dev nD → FF) (h : ∀ c, ArgsAt m (ff c) c) :
    θ_run defs (onTc (τ := τ) (main (F := Ideal))) ⟨m, fun _ => 0, ρ⟩ (fun r => ∀ c : Dev nD,
      (r.2.mem ((c.tc : Thread nD τ).loc main_v18) = yOf (ff c)
      ∧ r.2.mem ((c.tc : Thread nD τ).loc main_v26_0) = dxOf (ff c)
      ∧ r.2.mem ((c.tc : Thread nD τ).loc main_v27) = dgOf (ff c)
      ∧ r.2.mem ((c.tc : Thread nD τ).loc main_v29) = dwgOf (ff c)
      ∧ r.2.mem ((c.tc : Thread nD τ).loc main_v30) = dwuOf (ff c)
      ∧ r.2.mem ((c.tc : Thread nD τ).loc main_v31) = dwdOf (ff c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ q c => ⟨⟨(q.1 c).1.1.trans (w17_y ρ (h c)), (q.1 c).1.2.1.trans (w17_dx ρ (h c)),
    (q.1 c).1.2.2.1.trans (w17_dg ρ (h c)), (q.1 c).1.2.2.2.1.trans (w17_dwg ρ (h c)), (q.1 c).1.2.2.2.2.1.trans (w17_dwu ρ (h c)),
    (q.1 c).1.2.2.2.2.2.trans (w17_dwd ρ (h c))⟩, (q.1 c).2⟩) (run_full (F := Ideal) m ρ)

end Cert.Proof.Half

end
-- ==== Proof.HalfRef.lean ====
/-
  The plain half-step and its gradients over the reals, one named array after another.
-/
module

public import proofs.«01_k».proof.Proof.HalfArgs
public import proofs.«01_k».proof.Proof.HalfPay
public import proofs.«01_k».proof.Proof.Gen.Reference2Ideal.Run
public import Idealize.ShloMosaic.Lib.StableHlo.ReadAt

@[expose] public section

set_option maxRecDepth 16384

noncomputable section

namespace Cert.Proof.Half.Ref

open Cert.Reference2Ideal Cert.Reference2Ideal.Gen Cert.Reference2Ideal.Value
open Idealize.ShloMosaic Idealize.ShloMosaic.TcCoe Idealize.ShloMosaic.StableHlo Idealize.SL.Sem
open Cert.Proof.SB (sum_coe)

/-! ## Arithmetic -/

theorem ofBits_neg_half : Ideal.ofBits .f32 0xBF000000#32 = ((-(1 / 2) : ℝ) : EReal) := by
  simp [Ideal.ofBits, Ideal.ieee, ← EReal.coe_mul]; norm_num

theorem ms_at (x : Fin 1024 → ℝ) : Ideal.div ((∑ d, x d * x d : ℝ) : EReal) ((1024 : ℝ) : EReal) + (eps : EReal) = ((ms x : ℝ) : EReal) := by
  rw [Ideal.div_coe (by norm_num), ← EReal.coe_mul, ← EReal.coe_add]; rfl

theorem sgm_at (a : ℝ) : Ideal.div 1 (1 + ((Real.exp (-a) : ℝ) : EReal)) = ((sgm a : ℝ) : EReal) := by
  have h := Real.exp_pos (-a)
  rw [← EReal.coe_one, ← EReal.coe_add, Ideal.div_coe (by positivity), ← EReal.coe_mul]
  refine congrArg Real.toEReal ?_
  unfold sgm; rw [one_mul, one_div]

theorem r_sq (W : FF) (t : ℕ) : W.R t * W.R t = 1 / ms fun e => W.X t e := by
  have h := ms_pos fun e => W.X t e
  unfold FF.R
  rw [← mul_inv, Real.mul_self_sqrt h.le, one_div]

theorem dx_eq (W : FF) (t d : ℕ) :
    W.DY t d + W.DH t d * W.G d * W.R t
      + W.X t d * ((∑ e : Fin 1024, W.X t e * (W.DH t e * W.G e)) * (-(1 / 2) * (W.R t * (1 / ms fun e => W.X t e))) * (1 / 1024))
      + (∑ e : Fin 1024, W.X t e * (W.DH t e * W.G e)) * (-(1 / 2) * (W.R t * (1 / ms fun e => W.X t e))) * (1 / 1024) * W.X t d
      = W.DX t d := by
  have hs : (∑ e : Fin 1024, W.DH t e * W.G e * W.XH t e) = (∑ e : Fin 1024, W.X t e * (W.DH t e * W.G e)) * W.R t := by
    rw [Finset.sum_mul]; exact Finset.sum_congr rfl fun _ _ => by unfold FF.XH; ring
  unfold FF.DX
  rw [hs, ← r_sq]
  unfold FF.XH
  ring

/-! ## The arrays -/

theorem after_append (l₁ l₂ : List (HloOp τ sig (Elt Ideal))) (V : Valuation τ sig (Elt Ideal)) :
    after (l₁ ++ l₂) V = after l₂ (after l₁ V) := by
  induction l₁ generalizing V with
  | nil => rfl
  | cons op l ih => exact ih _

variable (V0 : Valuation τ sig (Elt Ideal))

/-- The buffers when every operation has run. -/
def fin : Valuation τ sig (Elt Ideal) := after ops V0

theorem split (a : ℕ) : fin V0 = after (ops.drop a) (upto ops V0 a) := by
  have e := after_append (ops.take a) (ops.drop a) V0
  rw [List.take_append_drop] at e
  exact e

variable {V0} {W : FF}

theorem keep {r : Ref sig .tc} (a : ℕ) (hk : ∀ U : Valuation τ sig (Elt Ideal), after (ops.drop a) U (Proc.devRef .tc r) = U (Proc.devRef .tc r)) :
    upto ops V0 a (Proc.devRef .tc r) = fin V0 (Proc.devRef .tc r) := by
  rw [split V0 a]; exact (hk _).symm

variable (V0) in
/-- The six arguments hold the real inputs. -/
def RefOk (W : FF) : Prop :=
  Reads W (V0 (Proc.devRef .tc main_arg0)) (V0 (Proc.devRef .tc main_arg1)) (V0 (Proc.devRef .tc main_arg2))
    (V0 (Proc.devRef .tc main_arg3)) (V0 (Proc.devRef .tc main_arg4)) (V0 (Proc.devRef .tc main_arg5))

theorem fin_arg {r : Ref sig .tc} (hk : ∀ U : Valuation τ sig (Elt Ideal), after ops U (Proc.devRef .tc r) = U (Proc.devRef .tc r)) :
    fin V0 (Proc.devRef .tc r) = V0 (Proc.devRef .tc r) := hk V0

theorem f_arg0 (h : RefOk V0 W) (t : Fin 4096) (d : Fin 1024) : @Eq EReal (fin V0 (Proc.devRef .tc main_arg0) (ix2 t d)) ((W.X t d : ℝ) : EReal) :=
  (congrFun (fin_arg (fun U => by after_reads_simp)) _).trans (h.x t d)

theorem f_arg1 (h : RefOk V0 W) (d : Fin 1024) : @Eq EReal (fin V0 (Proc.devRef .tc main_arg1) (ix1 d)) ((W.G d : ℝ) : EReal) :=
  (congrFun (fin_arg (fun U => by after_reads_simp)) _).trans (h.g d)

theorem f_arg5 (h : RefOk V0 W) (t : Fin 4096) (d : Fin 1024) : @Eq EReal (fin V0 (Proc.devRef .tc main_arg5) (ix2 t d)) ((W.DY t d : ℝ) : EReal) :=
  (congrFun (fin_arg (fun U => by after_reads_simp)) _).trans (h.dy t d)

theorem f_v1 (h : RefOk V0 W) (d : Fin 1024) (f : Fin 2816) :
    @Eq EReal (fin V0 (Proc.devRef .tc main_v1) (ix2 d f)) ((W.WG d f : ℝ) : EReal) := by
  unfold fin
  after_reads_at
  exact h.wg d f

theorem f_v3 (h : RefOk V0 W) (d : Fin 1024) (f : Fin 2816) :
    @Eq EReal (fin V0 (Proc.devRef .tc main_v3) (ix2 d f)) ((W.WU d f : ℝ) : EReal) := by
  unfold fin
  after_reads_at
  exact h.wu d f

theorem f_v5 (h : RefOk V0 W) (f : Fin 2816) (d : Fin 1024) :
    @Eq EReal (fin V0 (Proc.devRef .tc main_v5) (ix2 f d)) ((W.WD f d : ℝ) : EReal) := by
  unfold fin
  after_reads_at
  exact h.wd f d

theorem f_v13 (h : RefOk V0 W) (t : Fin 4096) :
    @Eq EReal (fin V0 (Proc.devRef .tc main_v13) (ix2 t (0 : Fin 1))) ((W.R t : ℝ) : EReal) := by
  have k_arg0 : ∀ (t : Fin 4096) (d : Fin 1024), @Eq EReal (upto ops V0 6 (Proc.devRef .tc main_arg0) (ix2 t d)) ((W.X t d : ℝ) : EReal) :=
    fun t d => (congrFun (keep 6 fun U => by after_reads_simp) _).trans (f_arg0 h t d)
  rw [split V0 6]
  generalize upto ops V0 6 = U at *
  after_reads_at
  simp only [k_arg0, ofBits_1024, ofBits_eps, ← EReal.coe_mul, sum_coe, inv_rms_at]
  rfl

theorem f_v16 (h : RefOk V0 W) (t : Fin 4096) :
    @Eq EReal (fin V0 (Proc.devRef .tc main_v16) (ix2 t (0 : Fin 1))) ((-(1 / 2) * (W.R t * (1 / ms fun e => W.X t e)) : ℝ) : EReal) := by
  have k_arg0 : ∀ (t : Fin 4096) (d : Fin 1024), @Eq EReal (upto ops V0 6 (Proc.devRef .tc main_arg0) (ix2 t d)) ((W.X t d : ℝ) : EReal) :=
    fun t d => (congrFun (keep 6 fun U => by after_reads_simp) _).trans (f_arg0 h t d)
  rw [split V0 6]
  generalize upto ops V0 6 = U at *
  after_reads_at
  simp only [k_arg0, ofBits_1024, ofBits_eps, ofBits_neg_half, ← EReal.coe_mul, sum_coe, inv_rms_at]
  rw [ms_at, Ideal.div_coe (ms_pos _).ne', ← EReal.coe_mul, ← EReal.coe_mul]
  rfl

theorem f_v18 (h : RefOk V0 W) (t : Fin 4096) (d : Fin 1024) :
    @Eq EReal (fin V0 (Proc.devRef .tc main_v18) (ix2 t d)) ((W.XH t d : ℝ) : EReal) := by
  have k_arg0 : ∀ (t : Fin 4096) (d : Fin 1024), @Eq EReal (upto ops V0 17 (Proc.devRef .tc main_arg0) (ix2 t d)) ((W.X t d : ℝ) : EReal) :=
    fun t d => (congrFun (keep 17 fun U => by after_reads_simp) _).trans (f_arg0 h t d)
  have k_v13 : ∀ (t : Fin 4096), @Eq EReal (upto ops V0 17 (Proc.devRef .tc main_v13) (ix2 t (0 : Fin 1))) ((W.R t : ℝ) : EReal) :=
    fun t => (congrFun (keep 17 fun U => by after_reads_simp) _).trans (f_v13 h t)
  rw [split V0 17]
  generalize upto ops V0 17 = U at *
  after_reads_at
  simp only [k_arg0, k_v13, ← EReal.coe_mul]
  rfl

theorem f_v19 (h : RefOk V0 W) (d : Fin 1024) :
    @Eq EReal (fin V0 (Proc.devRef .tc main_v19) (ix2 (0 : Fin 1) d)) ((W.G d : ℝ) : EReal) := by
  have k_arg1 : ∀ (d : Fin 1024), @Eq EReal (upto ops V0 17 (Proc.devRef .tc main_arg1) (ix1 d)) ((W.G d : ℝ) : EReal) :=
    fun d => (congrFun (keep 17 fun U => by after_reads_simp) _).trans (f_arg1 h d)
  rw [split V0 17]
  generalize upto ops V0 17 = U at *
  after_reads_at
  exact k_arg1 d

theorem f_v21 (h : RefOk V0 W) (t : Fin 4096) (d : Fin 1024) :
    @Eq EReal (fin V0 (Proc.devRef .tc main_v21) (ix2 t d)) ((W.H t d : ℝ) : EReal) := by
  have k_arg1 : ∀ (d : Fin 1024), @Eq EReal (upto ops V0 23 (Proc.devRef .tc main_arg1) (ix1 d)) ((W.G d : ℝ) : EReal) :=
    fun d => (congrFun (keep 23 fun U => by after_reads_simp) _).trans (f_arg1 h d)
  have k_v18 : ∀ (t : Fin 4096) (d : Fin 1024), @Eq EReal (upto ops V0 23 (Proc.devRef .tc main_v18) (ix2 t d)) ((W.XH t d : ℝ) : EReal) :=
    fun t d => (congrFun (keep 23 fun U => by after_reads_simp) _).trans (f_v18 h t d)
  rw [split V0 23]
  generalize upto ops V0 23 = U at *
  after_reads_at
  simp only [k_arg1, k_v18, ← EReal.coe_mul]
  rfl

theorem f_v22 (h : RefOk V0 W) (t : Fin 4096) (f : Fin 2816) :
    @Eq EReal (fin V0 (Proc.devRef .tc main_v22) (ix2 t f)) ((W.A t f : ℝ) : EReal) := by
  have k_v21 : ∀ (t : Fin 4096) (d : Fin 1024), @Eq EReal (upto ops V0 26 (Proc.devRef .tc main_v21) (ix2 t d)) ((W.H t d : ℝ) : EReal) :=
    fun t d => (congrFun (keep 26 fun U => by after_reads_simp) _).trans (f_v21 h t d)
  have k_v1 : ∀ (d : Fin 1024) (f : Fin 2816), @Eq EReal (upto ops V0 26 (Proc.devRef .tc main_v1) (ix2 d f)) ((W.WG d f : ℝ) : EReal) :=
    fun d f => (congrFun (keep 26 fun U => by after_reads_simp) _).trans (f_v1 h d f)
  rw [split V0 26]
  generalize upto ops V0 26 = U at *
  after_reads_at
  simp only [k_v21, k_v1, ← EReal.coe_mul, sum_coe]
  rfl

theorem f_v23_2 (h : RefOk V0 W) (t : Fin 4096) (f : Fin 2816) :
    @Eq EReal (fin V0 (Proc.devRef .tc main_v23_2) (ix2 t f)) ((sgm (W.A t f) : ℝ) : EReal) := by
  have k_v22 : ∀ (t : Fin 4096) (f : Fin 2816), @Eq EReal (upto ops V0 27 (Proc.devRef .tc main_v22) (ix2 t f)) ((W.A t f : ℝ) : EReal) :=
    fun t f => (congrFun (keep 27 fun U => by after_reads_simp) _).trans (f_v22 h t f)
  rw [split V0 27]
  generalize upto ops V0 27 = U at *
  after_reads_at
  simp only [k_v22, ← EReal.coe_neg, Ideal.exp_coe]
  exact sgm_at _

theorem f_v23_1 (h : RefOk V0 W) (t : Fin 4096) (f : Fin 2816) :
    @Eq EReal (fin V0 (Proc.devRef .tc main_v23_1) (ix2 t f)) ((sgm (W.A t f) * (1 - sgm (W.A t f)) : ℝ) : EReal) := by
  have k_v23_2 : ∀ (t : Fin 4096) (f : Fin 2816), @Eq EReal (upto ops V0 35 (Proc.devRef .tc main_v23_2) (ix2 t f)) ((sgm (W.A t f) : ℝ) : EReal) :=
    fun t f => (congrFun (keep 35 fun U => by after_reads_simp) _).trans (f_v23_2 h t f)
  rw [split V0 35]
  generalize upto ops V0 35 = U at *
  after_reads_at
  simp only [k_v23_2]
  rw [← EReal.coe_one, ← EReal.coe_sub, ← EReal.coe_mul]

theorem f_v23_0 (h : RefOk V0 W) (t : Fin 4096) (f : Fin 2816) :
    @Eq EReal (fin V0 (Proc.devRef .tc main_v23_0) (ix2 t f)) ((W.A t f * sgm (W.A t f) : ℝ) : EReal) := by
  have k_v22 : ∀ (t : Fin 4096) (f : Fin 2816), @Eq EReal (upto ops V0 35 (Proc.devRef .tc main_v22) (ix2 t f)) ((W.A t f : ℝ) : EReal) :=
    fun t f => (congrFun (keep 35 fun U => by after_reads_simp) _).trans (f_v22 h t f)
  have k_v23_2 : ∀ (t : Fin 4096) (f : Fin 2816), @Eq EReal (upto ops V0 35 (Proc.devRef .tc main_v23_2) (ix2 t f)) ((sgm (W.A t f) : ℝ) : EReal) :=
    fun t f => (congrFun (keep 35 fun U => by after_reads_simp) _).trans (f_v23_2 h t f)
  rw [split V0 35]
  generalize upto ops V0 35 = U at *
  after_reads_at
  simp only [k_v22, k_v23_2, ← EReal.coe_mul]

theorem f_v24 (h : RefOk V0 W) (t : Fin 4096) (f : Fin 2816) :
    @Eq EReal (fin V0 (Proc.devRef .tc main_v24) (ix2 t f)) ((W.B t f : ℝ) : EReal) := by
  have k_v21 : ∀ (t : Fin 4096) (d : Fin 1024), @Eq EReal (upto ops V0 40 (Proc.devRef .tc main_v21) (ix2 t d)) ((W.H t d : ℝ) : EReal) :=
    fun t d => (congrFun (keep 40 fun U => by after_reads_simp) _).trans (f_v21 h t d)
  have k_v3 : ∀ (d : Fin 1024) (f : Fin 2816), @Eq EReal (upto ops V0 40 (Proc.devRef .tc main_v3) (ix2 d f)) ((W.WU d f : ℝ) : EReal) :=
    fun d f => (congrFun (keep 40 fun U => by after_reads_simp) _).trans (f_v3 h d f)
  rw [split V0 40]
  generalize upto ops V0 40 = U at *
  after_reads_at
  simp only [k_v21, k_v3, ← EReal.coe_mul, sum_coe]
  rfl

theorem f_v25 (h : RefOk V0 W) (t : Fin 4096) (f : Fin 2816) :
    @Eq EReal (fin V0 (Proc.devRef .tc main_v25) (ix2 t f)) ((W.M t f : ℝ) : EReal) := by
  have k_v23_0 : ∀ (t : Fin 4096) (f : Fin 2816), @Eq EReal (upto ops V0 41 (Proc.devRef .tc main_v23_0) (ix2 t f)) ((W.A t f * sgm (W.A t f) : ℝ) : EReal) :=
    fun t f => (congrFun (keep 41 fun U => by after_reads_simp) _).trans (f_v23_0 h t f)
  have k_v24 : ∀ (t : Fin 4096) (f : Fin 2816), @Eq EReal (upto ops V0 41 (Proc.devRef .tc main_v24) (ix2 t f)) ((W.B t f : ℝ) : EReal) :=
    fun t f => (congrFun (keep 41 fun U => by after_reads_simp) _).trans (f_v24 h t f)
  rw [split V0 41]
  generalize upto ops V0 41 = U at *
  after_reads_at
  simp only [k_v23_0, k_v24, ← EReal.coe_mul]
  rfl

theorem f_v29 (h : RefOk V0 W) (t : Fin 4096) (d : Fin 1024) :
    @Eq EReal (fin V0 (Proc.devRef .tc main_v29) (ix2 t d)) ((W.Y t d : ℝ) : EReal) := by
  have k_v25 : ∀ (t : Fin 4096) (f : Fin 2816), @Eq EReal (upto ops V0 42 (Proc.devRef .tc main_v25) (ix2 t f)) ((W.M t f : ℝ) : EReal) :=
    fun t f => (congrFun (keep 42 fun U => by after_reads_simp) _).trans (f_v25 h t f)
  have k_v5 : ∀ (f : Fin 2816) (d : Fin 1024), @Eq EReal (upto ops V0 42 (Proc.devRef .tc main_v5) (ix2 f d)) ((W.WD f d : ℝ) : EReal) :=
    fun f d => (congrFun (keep 42 fun U => by after_reads_simp) _).trans (f_v5 h f d)
  have k_arg0 : ∀ (t : Fin 4096) (d : Fin 1024), @Eq EReal (upto ops V0 42 (Proc.devRef .tc main_arg0) (ix2 t d)) ((W.X t d : ℝ) : EReal) :=
    fun t d => (congrFun (keep 42 fun U => by after_reads_simp) _).trans (f_arg0 h t d)
  rw [split V0 42]
  generalize upto ops V0 42 = U at *
  after_reads_at
  simp only [k_v25, k_v5, k_arg0, ofBits_half, ← EReal.coe_mul, sum_coe, ← EReal.coe_add]
  refine congrArg Real.toEReal ?_
  unfold FF.Y; ring

theorem f_v32 (h : RefOk V0 W) (t : Fin 4096) (d : Fin 1024) :
    @Eq EReal (fin V0 (Proc.devRef .tc main_v32) (ix2 t d)) ((1 / 2 * W.DY t d : ℝ) : EReal) := by
  have k_arg5 : ∀ (t : Fin 4096) (d : Fin 1024), @Eq EReal (upto ops V0 47 (Proc.devRef .tc main_arg5) (ix2 t d)) ((W.DY t d : ℝ) : EReal) :=
    fun t d => (congrFun (keep 47 fun U => by after_reads_simp) _).trans (f_arg5 h t d)
  rw [split V0 47]
  generalize upto ops V0 47 = U at *
  after_reads_at
  simp only [k_arg5, ofBits_half, ← EReal.coe_mul]

theorem f_v34 (h : RefOk V0 W) (f : Fin 2816) (d : Fin 1024) :
    @Eq EReal (fin V0 (Proc.devRef .tc main_v34) (ix2 f d)) ((W.DWD f d : ℝ) : EReal) := by
  have k_v32 : ∀ (t : Fin 4096) (d : Fin 1024), @Eq EReal (upto ops V0 51 (Proc.devRef .tc main_v32) (ix2 t d)) ((1 / 2 * W.DY t d : ℝ) : EReal) :=
    fun t d => (congrFun (keep 51 fun U => by after_reads_simp) _).trans (f_v32 h t d)
  have k_v25 : ∀ (t : Fin 4096) (f : Fin 2816), @Eq EReal (upto ops V0 51 (Proc.devRef .tc main_v25) (ix2 t f)) ((W.M t f : ℝ) : EReal) :=
    fun t f => (congrFun (keep 51 fun U => by after_reads_simp) _).trans (f_v25 h t f)
  rw [split V0 51]
  generalize upto ops V0 51 = U at *
  after_reads_at
  simp only [k_v32, k_v25, ← EReal.coe_mul, sum_coe]
  refine congrArg Real.toEReal ?_
  unfold FF.DWD; rw [Finset.sum_mul]; exact Finset.sum_congr rfl fun _ _ => by ring

theorem f_v35 (h : RefOk V0 W) (t : Fin 4096) (f : Fin 2816) :
    @Eq EReal (fin V0 (Proc.devRef .tc main_v35) (ix2 t f)) ((W.DM t f : ℝ) : EReal) := by
  have k_v32 : ∀ (t : Fin 4096) (d : Fin 1024), @Eq EReal (upto ops V0 53 (Proc.devRef .tc main_v32) (ix2 t d)) ((1 / 2 * W.DY t d : ℝ) : EReal) :=
    fun t d => (congrFun (keep 53 fun U => by after_reads_simp) _).trans (f_v32 h t d)
  have k_v5 : ∀ (f : Fin 2816) (d : Fin 1024), @Eq EReal (upto ops V0 53 (Proc.devRef .tc main_v5) (ix2 f d)) ((W.WD f d : ℝ) : EReal) :=
    fun f d => (congrFun (keep 53 fun U => by after_reads_simp) _).trans (f_v5 h f d)
  rw [split V0 53]
  generalize upto ops V0 53 = U at *
  after_reads_at
  simp only [k_v32, k_v5, ← EReal.coe_mul, sum_coe]
  refine congrArg Real.toEReal ?_
  unfold FF.DM; rw [Finset.mul_sum]; exact Finset.sum_congr rfl fun _ _ => by ring

theorem f_v36 (h : RefOk V0 W) (t : Fin 4096) (f : Fin 2816) :
    @Eq EReal (fin V0 (Proc.devRef .tc main_v36) (ix2 t f)) ((W.DB t f : ℝ) : EReal) := by
  have k_v23_0 : ∀ (t : Fin 4096) (f : Fin 2816), @Eq EReal (upto ops V0 54 (Proc.devRef .tc main_v23_0) (ix2 t f)) ((W.A t f * sgm (W.A t f) : ℝ) : EReal) :=
    fun t f => (congrFun (keep 54 fun U => by after_reads_simp) _).trans (f_v23_0 h t f)
  have k_v35 : ∀ (t : Fin 4096) (f : Fin 2816), @Eq EReal (upto ops V0 54 (Proc.devRef .tc main_v35) (ix2 t f)) ((W.DM t f : ℝ) : EReal) :=
    fun t f => (congrFun (keep 54 fun U => by after_reads_simp) _).trans (f_v35 h t f)
  rw [split V0 54]
  generalize upto ops V0 54 = U at *
  after_reads_at
  simp only [k_v23_0, k_v35, ← EReal.coe_mul]
  refine congrArg Real.toEReal ?_
  unfold FF.DB; ring

theorem f_v37 (h : RefOk V0 W) (t : Fin 4096) (f : Fin 2816) :
    @Eq EReal (fin V0 (Proc.devRef .tc main_v37) (ix2 t f)) ((W.DM t f * W.B t f : ℝ) : EReal) := by
  have k_v24 : ∀ (t : Fin 4096) (f : Fin 2816), @Eq EReal (upto ops V0 54 (Proc.devRef .tc main_v24) (ix2 t f)) ((W.B t f : ℝ) : EReal) :=
    fun t f => (congrFun (keep 54 fun U => by after_reads_simp) _).trans (f_v24 h t f)
  have k_v35 : ∀ (t : Fin 4096) (f : Fin 2816), @Eq EReal (upto ops V0 54 (Proc.devRef .tc main_v35) (ix2 t f)) ((W.DM t f : ℝ) : EReal) :=
    fun t f => (congrFun (keep 54 fun U => by after_reads_simp) _).trans (f_v35 h t f)
  rw [split V0 54]
  generalize upto ops V0 54 = U at *
  after_reads_at
  simp only [k_v24, k_v35, ← EReal.coe_mul]

theorem f_v39 (h : RefOk V0 W) (d : Fin 1024) (f : Fin 2816) :
    @Eq EReal (fin V0 (Proc.devRef .tc main_v39) (ix2 d f)) ((W.DWU d f : ℝ) : EReal) := by
  have k_v36 : ∀ (t : Fin 4096) (f : Fin 2816), @Eq EReal (upto ops V0 56 (Proc.devRef .tc main_v36) (ix2 t f)) ((W.DB t f : ℝ) : EReal) :=
    fun t f => (congrFun (keep 56 fun U => by after_reads_simp) _).trans (f_v36 h t f)
  have k_v21 : ∀ (t : Fin 4096) (d : Fin 1024), @Eq EReal (upto ops V0 56 (Proc.devRef .tc main_v21) (ix2 t d)) ((W.H t d : ℝ) : EReal) :=
    fun t d => (congrFun (keep 56 fun U => by after_reads_simp) _).trans (f_v21 h t d)
  rw [split V0 56]
  generalize upto ops V0 56 = U at *
  after_reads_at
  simp only [k_v36, k_v21, ← EReal.coe_mul, sum_coe]
  refine congrArg Real.toEReal ?_
  unfold FF.DWU; exact Finset.sum_congr rfl fun _ _ => by ring

theorem f_v41 (h : RefOk V0 W) (t : Fin 4096) (f : Fin 2816) :
    @Eq EReal (fin V0 (Proc.devRef .tc main_v41) (ix2 t f)) ((W.DA t f : ℝ) : EReal) := by
  have k_v22 : ∀ (t : Fin 4096) (f : Fin 2816), @Eq EReal (upto ops V0 59 (Proc.devRef .tc main_v22) (ix2 t f)) ((W.A t f : ℝ) : EReal) :=
    fun t f => (congrFun (keep 59 fun U => by after_reads_simp) _).trans (f_v22 h t f)
  have k_v37 : ∀ (t : Fin 4096) (f : Fin 2816), @Eq EReal (upto ops V0 59 (Proc.devRef .tc main_v37) (ix2 t f)) ((W.DM t f * W.B t f : ℝ) : EReal) :=
    fun t f => (congrFun (keep 59 fun U => by after_reads_simp) _).trans (f_v37 h t f)
  have k_v23_2 : ∀ (t : Fin 4096) (f : Fin 2816), @Eq EReal (upto ops V0 59 (Proc.devRef .tc main_v23_2) (ix2 t f)) ((sgm (W.A t f) : ℝ) : EReal) :=
    fun t f => (congrFun (keep 59 fun U => by after_reads_simp) _).trans (f_v23_2 h t f)
  have k_v23_1 : ∀ (t : Fin 4096) (f : Fin 2816), @Eq EReal (upto ops V0 59 (Proc.devRef .tc main_v23_1) (ix2 t f)) ((sgm (W.A t f) * (1 - sgm (W.A t f)) : ℝ) : EReal) :=
    fun t f => (congrFun (keep 59 fun U => by after_reads_simp) _).trans (f_v23_1 h t f)
  rw [split V0 59]
  generalize upto ops V0 59 = U at *
  after_reads_at
  simp only [k_v22, k_v37, k_v23_2, k_v23_1, ← EReal.coe_mul, ← EReal.coe_add]
  refine congrArg Real.toEReal ?_
  unfold FF.DA; ring

theorem f_v43 (h : RefOk V0 W) (d : Fin 1024) (f : Fin 2816) :
    @Eq EReal (fin V0 (Proc.devRef .tc main_v43) (ix2 d f)) ((W.DWG d f : ℝ) : EReal) := by
  have k_v41 : ∀ (t : Fin 4096) (f : Fin 2816), @Eq EReal (upto ops V0 63 (Proc.devRef .tc main_v41) (ix2 t f)) ((W.DA t f : ℝ) : EReal) :=
    fun t f => (congrFun (keep 63 fun U => by after_reads_simp) _).trans (f_v41 h t f)
  have k_v21 : ∀ (t : Fin 4096) (d : Fin 1024), @Eq EReal (upto ops V0 63 (Proc.devRef .tc main_v21) (ix2 t d)) ((W.H t d : ℝ) : EReal) :=
    fun t d => (congrFun (keep 63 fun U => by after_reads_simp) _).trans (f_v21 h t d)
  rw [split V0 63]
  generalize upto ops V0 63 = U at *
  after_reads_at
  simp only [k_v41, k_v21, ← EReal.coe_mul, sum_coe]
  refine congrArg Real.toEReal ?_
  unfold FF.DWG; exact Finset.sum_congr rfl fun _ _ => by ring

theorem f_v40 (h : RefOk V0 W) (t : Fin 4096) (d : Fin 1024) :
    @Eq EReal (fin V0 (Proc.devRef .tc main_v40) (ix2 t d)) ((∑ f : Fin 2816, W.DB t f * W.WU d f : ℝ) : EReal) := by
  have k_v36 : ∀ (t : Fin 4096) (f : Fin 2816), @Eq EReal (upto ops V0 58 (Proc.devRef .tc main_v36) (ix2 t f)) ((W.DB t f : ℝ) : EReal) :=
    fun t f => (congrFun (keep 58 fun U => by after_reads_simp) _).trans (f_v36 h t f)
  have k_v3 : ∀ (d : Fin 1024) (f : Fin 2816), @Eq EReal (upto ops V0 58 (Proc.devRef .tc main_v3) (ix2 d f)) ((W.WU d f : ℝ) : EReal) :=
    fun d f => (congrFun (keep 58 fun U => by after_reads_simp) _).trans (f_v3 h d f)
  rw [split V0 58]
  generalize upto ops V0 58 = U at *
  after_reads_at
  simp only [k_v36, k_v3, ← EReal.coe_mul, sum_coe]

theorem f_v45 (h : RefOk V0 W) (t : Fin 4096) (d : Fin 1024) :
    @Eq EReal (fin V0 (Proc.devRef .tc main_v45) (ix2 t d)) ((W.DH t d : ℝ) : EReal) := by
  have k_v40 : ∀ (t : Fin 4096) (d : Fin 1024), @Eq EReal (upto ops V0 65 (Proc.devRef .tc main_v40) (ix2 t d)) ((∑ f : Fin 2816, W.DB t f * W.WU d f : ℝ) : EReal) :=
    fun t d => (congrFun (keep 65 fun U => by after_reads_simp) _).trans (f_v40 h t d)
  have k_v41 : ∀ (t : Fin 4096) (f : Fin 2816), @Eq EReal (upto ops V0 65 (Proc.devRef .tc main_v41) (ix2 t f)) ((W.DA t f : ℝ) : EReal) :=
    fun t f => (congrFun (keep 65 fun U => by after_reads_simp) _).trans (f_v41 h t f)
  have k_v1 : ∀ (d : Fin 1024) (f : Fin 2816), @Eq EReal (upto ops V0 65 (Proc.devRef .tc main_v1) (ix2 d f)) ((W.WG d f : ℝ) : EReal) :=
    fun d f => (congrFun (keep 65 fun U => by after_reads_simp) _).trans (f_v1 h d f)
  rw [split V0 65]
  generalize upto ops V0 65 = U at *
  after_reads_at
  simp only [k_v40, k_v41, k_v1, ← EReal.coe_mul, sum_coe, ← EReal.coe_add]
  refine congrArg Real.toEReal ?_
  unfold FF.DH; ring

theorem f_v51 (h : RefOk V0 W) (d : Fin 1024) :
    @Eq EReal (fin V0 (Proc.devRef .tc main_v51) (ix1 d)) ((W.DG d : ℝ) : EReal) := by
  have k_v18 : ∀ (t : Fin 4096) (d : Fin 1024), @Eq EReal (upto ops V0 67 (Proc.devRef .tc main_v18) (ix2 t d)) ((W.XH t d : ℝ) : EReal) :=
    fun t d => (congrFun (keep 67 fun U => by after_reads_simp) _).trans (f_v18 h t d)
  have k_v45 : ∀ (t : Fin 4096) (d : Fin 1024), @Eq EReal (upto ops V0 67 (Proc.devRef .tc main_v45) (ix2 t d)) ((W.DH t d : ℝ) : EReal) :=
    fun t d => (congrFun (keep 67 fun U => by after_reads_simp) _).trans (f_v45 h t d)
  rw [split V0 67]
  generalize upto ops V0 67 = U at *
  after_reads_at
  simp only [k_v18, k_v45, ← EReal.coe_mul, sum_coe]
  refine congrArg Real.toEReal ?_
  refine (Fin.sum_univ_one _).trans ?_
  unfold FF.DG; exact Finset.sum_congr rfl fun _ _ => by ring

theorem f_v50 (h : RefOk V0 W) (t : Fin 4096) (d : Fin 1024) :
    @Eq EReal (fin V0 (Proc.devRef .tc main_v50) (ix2 t d)) ((W.DH t d * W.G d : ℝ) : EReal) := by
  have k_v19 : ∀ (d : Fin 1024), @Eq EReal (upto ops V0 67 (Proc.devRef .tc main_v19) (ix2 (0 : Fin 1) d)) ((W.G d : ℝ) : EReal) :=
    fun d => (congrFun (keep 67 fun U => by after_reads_simp) _).trans (f_v19 h d)
  have k_v45 : ∀ (t : Fin 4096) (d : Fin 1024), @Eq EReal (upto ops V0 67 (Proc.devRef .tc main_v45) (ix2 t d)) ((W.DH t d : ℝ) : EReal) :=
    fun t d => (congrFun (keep 67 fun U => by after_reads_simp) _).trans (f_v45 h t d)
  rw [split V0 67]
  generalize upto ops V0 67 = U at *
  after_reads_at
  simp only [k_v19, k_v45, ← EReal.coe_mul]

theorem f_v62 (h : RefOk V0 W) (t : Fin 4096) (d : Fin 1024) :
    @Eq EReal (fin V0 (Proc.devRef .tc main_v62) (ix2 t d)) (((∑ e : Fin 1024, W.X t e * (W.DH t e * W.G e)) * (-(1 / 2) * (W.R t * (1 / ms fun e => W.X t e))) * (1 / 1024) : ℝ) : EReal) := by
  have k_arg0 : ∀ (t : Fin 4096) (d : Fin 1024), @Eq EReal (upto ops V0 75 (Proc.devRef .tc main_arg0) (ix2 t d)) ((W.X t d : ℝ) : EReal) :=
    fun t d => (congrFun (keep 75 fun U => by after_reads_simp) _).trans (f_arg0 h t d)
  have k_v50 : ∀ (t : Fin 4096) (d : Fin 1024), @Eq EReal (upto ops V0 75 (Proc.devRef .tc main_v50) (ix2 t d)) ((W.DH t d * W.G d : ℝ) : EReal) :=
    fun t d => (congrFun (keep 75 fun U => by after_reads_simp) _).trans (f_v50 h t d)
  have k_v16 : ∀ (t : Fin 4096), @Eq EReal (upto ops V0 75 (Proc.devRef .tc main_v16) (ix2 t (0 : Fin 1))) ((-(1 / 2) * (W.R t * (1 / ms fun e => W.X t e)) : ℝ) : EReal) :=
    fun t => (congrFun (keep 75 fun U => by after_reads_simp) _).trans (f_v16 h t)
  rw [split V0 75]
  generalize upto ops V0 75 = U at *
  after_reads_at
  refine (Fin.sum_univ_one _).trans ?_
  simp only [k_arg0, k_v50, k_v16, ofBits_1024, ← EReal.coe_mul, sum_coe]
  rw [Ideal.div_coe (by norm_num), ← EReal.coe_mul]

theorem f_v57 (h : RefOk V0 W) (t : Fin 4096) (d : Fin 1024) :
    @Eq EReal (fin V0 (Proc.devRef .tc main_v57) (ix2 t d)) ((W.DY t d + W.DH t d * W.G d * W.R t : ℝ) : EReal) := by
  have k_arg5 : ∀ (t : Fin 4096) (d : Fin 1024), @Eq EReal (upto ops V0 79 (Proc.devRef .tc main_arg5) (ix2 t d)) ((W.DY t d : ℝ) : EReal) :=
    fun t d => (congrFun (keep 79 fun U => by after_reads_simp) _).trans (f_arg5 h t d)
  have k_v50 : ∀ (t : Fin 4096) (d : Fin 1024), @Eq EReal (upto ops V0 79 (Proc.devRef .tc main_v50) (ix2 t d)) ((W.DH t d * W.G d : ℝ) : EReal) :=
    fun t d => (congrFun (keep 79 fun U => by after_reads_simp) _).trans (f_v50 h t d)
  have k_v13 : ∀ (t : Fin 4096), @Eq EReal (upto ops V0 79 (Proc.devRef .tc main_v13) (ix2 t (0 : Fin 1))) ((W.R t : ℝ) : EReal) :=
    fun t => (congrFun (keep 79 fun U => by after_reads_simp) _).trans (f_v13 h t)
  rw [split V0 79]
  generalize upto ops V0 79 = U at *
  after_reads_at
  simp only [k_arg5, k_v50, k_v13, ← EReal.coe_mul, ← EReal.coe_add]

theorem f_v66 (h : RefOk V0 W) (t : Fin 4096) (d : Fin 1024) :
    @Eq EReal (fin V0 (Proc.devRef .tc main_v66) (ix2 t d)) ((W.DX t d : ℝ) : EReal) := by
  have k_arg0 : ∀ (t : Fin 4096) (d : Fin 1024), @Eq EReal (upto ops V0 89 (Proc.devRef .tc main_arg0) (ix2 t d)) ((W.X t d : ℝ) : EReal) :=
    fun t d => (congrFun (keep 89 fun U => by after_reads_simp) _).trans (f_arg0 h t d)
  have k_v57 : ∀ (t : Fin 4096) (d : Fin 1024), @Eq EReal (upto ops V0 89 (Proc.devRef .tc main_v57) (ix2 t d)) ((W.DY t d + W.DH t d * W.G d * W.R t : ℝ) : EReal) :=
    fun t d => (congrFun (keep 89 fun U => by after_reads_simp) _).trans (f_v57 h t d)
  have k_v62 : ∀ (t : Fin 4096) (d : Fin 1024), @Eq EReal (upto ops V0 89 (Proc.devRef .tc main_v62) (ix2 t d)) (((∑ e : Fin 1024, W.X t e * (W.DH t e * W.G e)) * (-(1 / 2) * (W.R t * (1 / ms fun e => W.X t e))) * (1 / 1024) : ℝ) : EReal) :=
    fun t d => (congrFun (keep 89 fun U => by after_reads_simp) _).trans (f_v62 h t d)
  rw [split V0 89]
  generalize upto ops V0 89 = U at *
  after_reads_at
  simp only [k_arg0, k_v57, k_v62, ← EReal.coe_mul, ← EReal.coe_add]
  exact congrArg Real.toEReal (dx_eq W t d)

theorem f_v69 (h : RefOk V0 W) (k : Fin 4) (d : Fin 1024) (n : Fin 704) :
    @Eq EReal (fin V0 (Proc.devRef .tc main_v69) (ix3 k d n)) ((W.DWG d (704 * k.val + n.val) : ℝ) : EReal) := by
  have k_v43 : ∀ (d : Fin 1024) (f : Fin 2816), @Eq EReal (upto ops V0 93 (Proc.devRef .tc main_v43) (ix2 d f)) ((W.DWG d f : ℝ) : EReal) :=
    fun d f => (congrFun (keep 93 fun U => by after_reads_simp) _).trans (f_v43 h d f)
  rw [split V0 93]
  generalize upto ops V0 93 = U at *
  after_reads_at
  refine (k_v43 _ _).trans (congrArg (fun z : ℕ => ((W.DWG d z : ℝ) : EReal)) ?_)
  exact congrArg (· + n.val) (Nat.mul_comm _ _)

theorem f_v72 (h : RefOk V0 W) (k : Fin 4) (d : Fin 1024) (n : Fin 704) :
    @Eq EReal (fin V0 (Proc.devRef .tc main_v72) (ix3 k d n)) ((W.DWU d (704 * k.val + n.val) : ℝ) : EReal) := by
  have k_v39 : ∀ (d : Fin 1024) (f : Fin 2816), @Eq EReal (upto ops V0 96 (Proc.devRef .tc main_v39) (ix2 d f)) ((W.DWU d f : ℝ) : EReal) :=
    fun d f => (congrFun (keep 96 fun U => by after_reads_simp) _).trans (f_v39 h d f)
  rw [split V0 96]
  generalize upto ops V0 96 = U at *
  after_reads_at
  refine (k_v39 _ _).trans (congrArg (fun z : ℕ => ((W.DWU d z : ℝ) : EReal)) ?_)
  exact congrArg (· + n.val) (Nat.mul_comm _ _)

theorem f_v74 (h : RefOk V0 W) (k : Fin 4) (n : Fin 704) (d : Fin 1024) :
    @Eq EReal (fin V0 (Proc.devRef .tc main_v74) (ix3 k n d)) ((W.DWD (704 * k.val + n.val) d : ℝ) : EReal) := by
  have k_v34 : ∀ (f : Fin 2816) (d : Fin 1024), @Eq EReal (upto ops V0 99 (Proc.devRef .tc main_v34) (ix2 f d)) ((W.DWD f d : ℝ) : EReal) :=
    fun f d => (congrFun (keep 99 fun U => by after_reads_simp) _).trans (f_v34 h f d)
  rw [split V0 99]
  generalize upto ops V0 99 = U at *
  after_reads_at
  refine (k_v34 _ _).trans (congrArg (fun z : ℕ => ((W.DWD z d : ℝ) : EReal)) ?_)
  exact congrArg (· + n.val) (Nat.mul_comm _ _)

/-! ## The results -/

theorem tok_eta (j : Tok) : j = ix2 (j 0 : Fin 4096) (j 1 : Fin 1024) := by
  funext i; match i with
  | 0 => rfl
  | 1 => rfl

theorem gain_eta (j : Gain) : j = ix1 (j 0 : Fin 1024) := by
  funext i; match i with
  | 0 => rfl

theorem wide_eta (j : WideCut) : j = ix3 (j 0 : Fin 4) (j 1 : Fin 1024) (j 2 : Fin 704) := by
  funext i; match i with
  | 0 => rfl
  | 1 => rfl
  | 2 => rfl

theorem long_eta (j : LongCut) : j = ix3 (j 0 : Fin 4) (j 1 : Fin 704) (j 2 : Fin 1024) := by
  funext i; match i with
  | 0 => rfl
  | 1 => rfl
  | 2 => rfl

theorem y_eq (h : RefOk V0 W) : fin V0 (Proc.devRef .tc main_v29) = yOf W := funext fun j =>
  (congrArg (fin V0 (Proc.devRef .tc main_v29)) (tok_eta j)).trans (f_v29 h (j 0) (j 1))

theorem dxs_eq (h : RefOk V0 W) : fin V0 (Proc.devRef .tc main_v66) = dxOf W := funext fun j =>
  (congrArg (fin V0 (Proc.devRef .tc main_v66)) (tok_eta j)).trans (f_v66 h (j 0) (j 1))

theorem dg_eq (h : RefOk V0 W) : fin V0 (Proc.devRef .tc main_v51) = dgOf W := funext fun j =>
  (congrArg (fin V0 (Proc.devRef .tc main_v51)) (gain_eta j)).trans (f_v51 h (j 0))

theorem dwg_eq (h : RefOk V0 W) : fin V0 (Proc.devRef .tc main_v69) = dwgOf W := funext fun j =>
  (congrArg (fin V0 (Proc.devRef .tc main_v69)) (wide_eta j)).trans (f_v69 h (j 0) (j 1) (j 2))

theorem dwu_eq (h : RefOk V0 W) : fin V0 (Proc.devRef .tc main_v72) = dwuOf W := funext fun j =>
  (congrArg (fin V0 (Proc.devRef .tc main_v72)) (wide_eta j)).trans (f_v72 h (j 0) (j 1) (j 2))

theorem dwd_eq (h : RefOk V0 W) : fin V0 (Proc.devRef .tc main_v74) = dwdOf W := funext fun j =>
  (congrArg (fin V0 (Proc.devRef .tc main_v74)) (long_eta j)).trans (f_v74 h (j 0) (j 1) (j 2))

/-- The reference's run: its arguments stay, and where they hold real inputs its results are the half-step's. -/
theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      (∀ W : FF, RefOk (launchContents m c) W →
        r.2.mem ((c.tc : Thread nD τ).loc main_v29) = yOf W
        ∧ r.2.mem ((c.tc : Thread nD τ).loc main_v66) = dxOf W
        ∧ r.2.mem ((c.tc : Thread nD τ).loc main_v51) = dgOf W
        ∧ r.2.mem ((c.tc : Thread nD τ).loc main_v69) = dwgOf W
        ∧ r.2.mem ((c.tc : Thread nD τ).loc main_v72) = dwuOf W
        ∧ r.2.mem ((c.tc : Thread nD τ).loc main_v74) = dwdOf W)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨fun _ hW => ⟨(h c main_v29).trans (y_eq hW), (h c main_v66).trans (dxs_eq hW),
      (h c main_v51).trans (dg_eq hW), (h c main_v69).trans (dwg_eq hW), (h c main_v72).trans (dwu_eq hW), (h c main_v74).trans (dwd_eq hW)⟩,
      (h c main_arg0).trans (fin_arg fun U => by after_reads_simp), (h c main_arg1).trans (fin_arg fun U => by after_reads_simp),
      (h c main_arg2).trans (fin_arg fun U => by after_reads_simp), (h c main_arg3).trans (fin_arg fun U => by after_reads_simp),
      (h c main_arg4).trans (fin_arg fun U => by after_reads_simp), (h c main_arg5).trans (fin_arg fun U => by after_reads_simp)⟩)
    (run_seq scopedRefs_eq scopedSems_eq defs main (fun _ => ops) main_eq (fun _ => ops_sub) m ρ)

end Cert.Proof.Half.Ref

end
-- ==== Proof.MergeRun.lean ====
/-
  The run of the gates, merge and output projection: the launch over the segments, with the result buffers read at the last boundary.
-/
module

public import proofs.«01_k».proof.Proof.Gen.Kernel3Ideal.Frame

@[expose] public section

set_option maxRecDepth 16384

noncomputable section

namespace Cert.Proof.Merge

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- The whole run: the results end at the last boundary's contents, the arguments as launched, every counter at zero. -/
theorem run_full : θ_run defs (onTc (τ := τ) (main (F := F))) ⟨m, fun _ => 0, ρ⟩ (fun r => (∀ c : Dev nD,
      (r.2.mem ((c.tc : Thread nD τ).loc main_v11) = W17 m ρ c (Proc.devRef .tc main_v11)
      ∧ r.2.mem ((c.tc : Thread nD τ).loc main_v14) = W17 m ρ c (Proc.devRef .tc main_v14)
      ∧ r.2.mem ((c.tc : Thread nD τ).loc main_v16_0) = W17 m ρ c (Proc.devRef .tc main_v16_0)
      ∧ r.2.mem ((c.tc : Thread nD τ).loc main_v24) = W17 m ρ c (Proc.devRef .tc main_v24)
      ∧ r.2.mem ((c.tc : Thread nD τ).loc main_v17) = W17 m ρ c (Proc.devRef .tc main_v17)
      ∧ r.2.mem ((c.tc : Thread nD τ).loc main_v19) = W17 m ρ c (Proc.devRef .tc main_v19)
      ∧ r.2.mem ((c.tc : Thread nD τ).loc main_v21) = W17 m ρ c (Proc.devRef .tc main_v21)
      ∧ r.2.mem ((c.tc : Thread nD τ).loc main_v18) = W17 m ρ c (Proc.devRef .tc main_v18)
      ∧ r.2.mem ((c.tc : Thread nD τ).loc main_v20) = W17 m ρ c (Proc.devRef .tc main_v20)
      ∧ r.2.mem ((c.tc : Thread nD τ).loc main_v22) = W17 m ρ c (Proc.devRef .tc main_v22))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h hz => ⟨(fun c =>
      ⟨⟨h c _ (mem_uc main_v11 (by decide)),
        h c _ (mem_uc main_v14 (by decide)),
        h c _ (mem_uc main_v16_0 (by decide)),
        h c _ (mem_uc main_v24 (by decide)),
        h c _ (mem_uc main_v17 (by decide)),
        h c _ (mem_uc main_v19 (by decide)),
        h c _ (mem_uc main_v21 (by decide)),
        h c _ (mem_uc main_v18 (by decide)),
        h c _ (mem_uc main_v20 (by decide)),
        h c _ (mem_uc main_v22 (by decide))⟩,
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c),
       (h c _ (mem_uc main_arg7 (by decide))).trans (W17_main_arg7 m ρ c),
       (h c _ (mem_uc main_arg8 (by decide))).trans (W17_main_arg8 m ρ c),
       (h c _ (mem_uc main_arg9 (by decide))).trans (W17_main_arg9 m ρ c)⟩), funext fun g => hz g (.inr (no_unscoped g.2))⟩)

end Cert.Proof.Merge

end
-- ==== Proof.MergeSame.lean ====
/-
  The two printings of the merge are one program: the frame of the kernel at words from the run over any scalars.
-/
module

public import proofs.«01_k».proof.Defs
public import proofs.«01_k».proof.Proof.MergeRun
public import proofs.«01_k».proof.Proof.Gen.Kernel3

@[expose] public section

set_option maxRecDepth 16384
set_option maxHeartbeats 8000000

noncomputable section

namespace Cert.Proof.Merge

open Idealize.ShloMosaic Idealize.ShloMosaic.TcCoe Idealize.SL.Sem

variable {F : FTy → Type} [FloatOps F]

theorem defs₀_eq : Cert.Kernel3.defs₀ (F := F) = Cert.Kernel3Ideal.defs₀ (F := F) := by
  unfold Cert.Kernel3.defs₀ Cert.Kernel3Ideal.defs₀
  refine congrArg Defs.onTc (funext fun l => funext fun a => ?_)
  obtain ⟨n, hn⟩ := l
  match n, hn with
  | 0, _ => rfl
  | 1, _ => rfl
  | 2, _ => rfl
  | 3, _ => rfl
  | 4, _ => rfl
  | 5, _ => rfl
  | 6, _ => rfl
  | 7, _ => rfl
  | 8, _ => rfl
  | 9, _ => rfl
  | 10, _ => rfl

theorem defs_eq : Cert.Kernel3.defs (F := F) = Cert.Kernel3Ideal.defs (F := F) :=
  congrArg (Pipeline.defs Cert.Kernel3Ideal.pcfgs) defs₀_eq

theorem main_eq (c : Dev Cert.Kernel3.nD) : Cert.Kernel3.main (F := F) c = Cert.Kernel3Ideal.main (F := F) c := by
  unfold Cert.Kernel3.main Cert.Kernel3Ideal.main
  rfl

theorem onTc_main_eq : (onTc (τ := Cert.Kernel3.τ) (Cert.Kernel3.main (F := F))) = onTc (τ := Cert.Kernel3Ideal.τ) (Cert.Kernel3Ideal.main (F := F)) :=
  congrArg (onTc (τ := Cert.Kernel3Ideal.τ)) (funext main_eq)

/-- The frame of the kernel at words, from the run of its ideal printing over any scalars. -/
theorem kernel_frame : Cert.quiescent_Kernel3 := fun m g _ => by
  rw [onTc_main_eq, defs_eq]
  exact (θ_run Cert.Kernel3Ideal.defs _ _).mono (fun _ h => ⟨fun c => (h.1 c).2, h.2⟩) (run_full (F := Bits) m g)

theorem ideal_frame : Cert.quiescent_Kernel3Ideal := fun m g _ =>
  (θ_run Cert.Kernel3Ideal.defs _ _).mono (fun _ h => ⟨fun c => (h.1 c).2, h.2⟩) (run_full (F := Ideal) m g)

end Cert.Proof.Merge

end
-- ==== Proof.MergeMath.lean ====
/-
  The gates, the merge of the three branches and the output projection over the extended reals, with their gradients, and
  the arrays they are read out of.
-/
module

public import proofs.«01_k».proof.Proof.Heads
public import Idealize.ShloMosaic.Lib.Pointwise

@[expose] public section

noncomputable section

namespace Cert.Proof.Merge

open Idealize.ShloMosaic Idealize.ShloMosaic.Tactic

/-- The sigmoid. -/
def sg (z : EReal) : EReal := Ideal.div 1 (1 + Ideal.exp (-z))

theorem ofBits_half : Ideal.ofBits .f32 0x3F000000#32 = ((1 / 2 : ℝ) : EReal) := by
  simp [Ideal.ofBits, Ideal.ieee, ← EReal.coe_mul]; norm_num

theorem half_tanh (a : ℝ) : 1 / 2 * Real.tanh (1 / 2 * a) + 1 / 2 = (1 + Real.exp (-a))⁻¹ := by
  have h1 := Real.exp_pos (a / 2)
  have h2 := Real.exp_pos (-(a / 2))
  have e : Real.exp (-a) = Real.exp (-(a / 2)) * (Real.exp (a / 2))⁻¹ := by
    rw [← Real.exp_neg, ← Real.exp_add]; ring_nf
  rw [show 1 / 2 * a = a / 2 by ring, Real.tanh_eq_sinh_div_cosh, Real.sinh_eq, Real.cosh_eq, e]
  field_simp
  ring

/-- The kernels' sigmoid, half a hyperbolic tangent and a half, is the sigmoid. -/
theorem sg_tanh (z : EReal) : ((1 / 2 : ℝ) : EReal) * Ideal.tanh (((1 / 2 : ℝ) : EReal) * z) + ((1 / 2 : ℝ) : EReal) = sg z := by
  have hp : (0 : ℝ) < 1 / 2 := by norm_num
  induction z with
  | bot =>
    rw [EReal.coe_mul_bot_of_pos hp]
    show ((1 / 2 : ℝ) : EReal) * (-1) + ((1 / 2 : ℝ) : EReal) = Ideal.div 1 (1 + ⊤)
    rw [EReal.add_top_of_ne_bot (show (1 : EReal) ≠ ⊥ from EReal.coe_ne_bot 1), Ideal.div, if_neg EReal.top_ne_zero, EReal.inv_top, mul_zero]
    rw [← EReal.coe_one, ← EReal.coe_neg, ← EReal.coe_mul, ← EReal.coe_add, ← EReal.coe_zero]
    norm_num
  | top =>
    rw [EReal.coe_mul_top_of_pos hp]
    show ((1 / 2 : ℝ) : EReal) * 1 + ((1 / 2 : ℝ) : EReal) = Ideal.div 1 (1 + 0)
    rw [add_zero, ← EReal.coe_one, Ideal.div_coe (by norm_num), ← EReal.coe_mul, ← EReal.coe_mul, ← EReal.coe_add]
    norm_num
  | coe a =>
    have h := Real.exp_pos (-a)
    rw [← EReal.coe_mul, Ideal.tanh_coe, ← EReal.coe_mul, ← EReal.coe_add, half_tanh, sg, ← EReal.coe_neg, Ideal.exp_coe, ← EReal.coe_one,
      ← EReal.coe_add, Ideal.div_coe (by positivity), ← EReal.coe_mul, one_div, one_mul]

/-- The inputs: the tokens, the branches' outputs, the gates' logits and bias, the branches' weights, the output weight and the output's gradient. -/
structure Mix where
  X : ℕ → ℕ → EReal
  Y : ℕ → ℕ → ℕ → EReal
  L : ℕ → ℕ → EReal
  B : ℕ → EReal
  P : ℕ → ℕ → ℕ → EReal
  O : ℕ → ℕ → EReal
  DX : ℕ → ℕ → EReal

namespace Mix

variable (W : Mix)

/-- A gate. -/
def S (k t d : ℕ) : EReal := sg (W.L t (k * 1024 + d) + W.B (k * 1024 + d))
/-- A branch's product with its weight. -/
def R (k t d : ℕ) : EReal := ∑ w : Fin 512, W.Y k t w * W.P k w d
/-- The merged branches. -/
def M (t d : ℕ) : EReal := W.S 0 t d * W.R 0 t d + W.S 1 t d * W.R 1 t d + W.S 2 t d * W.R 2 t d
def X2 (t e : ℕ) : EReal := (∑ d : Fin 1024, W.M t d * W.O d e) + W.X t e
def DM (t d : ℕ) : EReal := ∑ e : Fin 1024, W.DX t e * W.O d e
def DO (d e : ℕ) : EReal := ∑ t : Fin 4096, W.M t d * W.DX t e
def DL (k t d : ℕ) : EReal := W.DM t d * W.R k t d * W.S k t d * (1 - W.S k t d)
def DR (k t d : ℕ) : EReal := W.DM t d * W.S k t d
def DB (k d : ℕ) : EReal := ∑ t : Fin 4096, W.DL k t d
def DY (k t w : ℕ) : EReal := ∑ d : Fin 1024, W.DR k t d * W.P k w d
def DP (k w d : ℕ) : EReal := ∑ t : Fin 4096, W.Y k t w * W.DR k t d

end Mix

theorem sum_blocks (F : ℕ → EReal) (b : ℕ) : ∀ a, ∑ t ∈ Finset.range (a * b), F t = ∑ i ∈ Finset.range a, ∑ j ∈ Finset.range b, F (i * b + j)
  | 0 => by simp
  | a + 1 => by rw [Nat.succ_mul, Finset.sum_range_add, sum_blocks F b a, Finset.sum_range_succ _ a]

/-- A sum over the four chips' rows, one chip after another. -/
theorem sum_chips (F : ℕ → EReal) :
    (∑ c : Fin 256, F (0 * 256 + c)) + (∑ c : Fin 256, F (1 * 256 + c)) + (∑ c : Fin 256, F (2 * 256 + c)) + (∑ c : Fin 256, F (3 * 256 + c))
      = ∑ d : Fin 1024, F d := by
  rw [← Finset.sum_range (fun d => F d), show (1024 : ℕ) = 4 * 256 from rfl, sum_blocks F 256 4]
  simp only [Finset.sum_range_succ _ 3, Finset.sum_range_succ _ 2, Finset.sum_range_succ _ 1, Finset.sum_range_one]
  rw [Finset.sum_range, Finset.sum_range, Finset.sum_range, Finset.sum_range]

/-- What a block of rows adds to a row of the bias's gradient. -/
def ptB (F : ℕ → EReal) (n r : ℕ) : EReal := ∑ i : Fin 64, F (n * 512 + (i * 8 + r))

/-- The eight rows of every block add up to the whole sum. -/
theorem sum_rows (F : ℕ → EReal) : ∑ r : Fin 8, ∑ k ∈ Finset.range 8, ptB F k r = ∑ t : Fin 4096, F t := by
  rw [← Finset.sum_range (fun t => F t), show (4096 : ℕ) = 8 * 512 from rfl, sum_blocks _ 512 8, Finset.sum_comm]
  refine Finset.sum_congr rfl fun k _ => ?_
  rw [show (512 : ℕ) = 64 * 8 from rfl, sum_blocks _ 8 64, Finset.sum_comm, ← Finset.sum_range (fun r => ptB F k r)]
  refine Finset.sum_congr rfl fun r _ => ?_
  unfold ptB
  rw [← Finset.sum_range (fun i => F (k * 512 + (i * 8 + r)))]

/-! ## The arrays -/

abbrev Tok := (a : Fin 2) → Fin ((![4096, 1024] : Fin 2 → ℕ) a)
abbrev Br := (a : Fin 2) → Fin ((![4096, 512] : Fin 2 → ℕ) a)
abbrev Gl := (a : Fin 2) → Fin ((![4096, 3072] : Fin 2 → ℕ) a)
abbrev Bg := (a : Fin 1) → Fin ((![3072] : Fin 1 → ℕ) a)
abbrev Wb := (a : Fin 3) → Fin ((![3, 512, 1024] : Fin 3 → ℕ) a)
abbrev Wo := (a : Fin 2) → Fin ((![1024, 1024] : Fin 2 → ℕ) a)
abbrev Gt := (a : Fin 3) → Fin ((![3, 4096, 1024] : Fin 3 → ℕ) a)
abbrev Dw := (a : Fin 2) → Fin ((![512, 1024] : Fin 2 → ℕ) a)

/-- The arrays hold the inputs. -/
structure Reads (W : Mix) (x : Tok → EReal) (y0 y1 y2 : Br → EReal) (l : Gl → EReal) (b : Bg → EReal) (p : Wb → EReal) (o : Wo → EReal)
    (dx : Tok → EReal) : Prop where
  x : ∀ (t : Fin 4096) (d : Fin 1024), x (ix2 t d) = W.X t d
  y0 : ∀ (t : Fin 4096) (w : Fin 512), y0 (ix2 t w) = W.Y 0 t w
  y1 : ∀ (t : Fin 4096) (w : Fin 512), y1 (ix2 t w) = W.Y 1 t w
  y2 : ∀ (t : Fin 4096) (w : Fin 512), y2 (ix2 t w) = W.Y 2 t w
  l : ∀ (t : Fin 4096) (n : Fin 3072), l (ix2 t n) = W.L t n
  b : ∀ n : Fin 3072, b (ix1 n) = W.B n
  p : ∀ (k : Fin 3) (w : Fin 512) (d : Fin 1024), p (ix3 k w d) = W.P k w d
  o : ∀ d e : Fin 1024, o (ix2 d e) = W.O d e
  dx : ∀ (t : Fin 4096) (d : Fin 1024), dx (ix2 t d) = W.DX t d

def mat {a b : ℕ} (x : ((i : Fin 2) → Fin ((![a, b] : Fin 2 → ℕ) i)) → EReal) (t d : ℕ) : EReal :=
  if h : t < a ∧ d < b then x (ix2 (⟨t, h.1⟩ : Fin a) (⟨d, h.2⟩ : Fin b)) else 0

theorem mat_at {a b : ℕ} (x : ((i : Fin 2) → Fin ((![a, b] : Fin 2 → ℕ) i)) → EReal) (t : Fin a) (d : Fin b) : x (ix2 t d) = mat x t d := by
  rw [mat, dif_pos ⟨t.isLt, d.isLt⟩]

def mixOf (x : Tok → EReal) (y0 y1 y2 : Br → EReal) (l : Gl → EReal) (b : Bg → EReal) (p : Wb → EReal) (o : Wo → EReal) (dx : Tok → EReal) : Mix where
  X := mat x
  Y k := if k = 0 then mat y0 else if k = 1 then mat y1 else mat y2
  L := mat l
  B n := if h : n < 3072 then b (ix1 (⟨n, h⟩ : Fin 3072)) else 0
  P k w d := if h : k < 3 ∧ w < 512 ∧ d < 1024 then p (ix3 (⟨k, h.1⟩ : Fin 3) (⟨w, h.2.1⟩ : Fin 512) (⟨d, h.2.2⟩ : Fin 1024)) else 0
  O := mat o
  DX := mat dx

theorem reads_mixOf (x : Tok → EReal) (y0 y1 y2 : Br → EReal) (l : Gl → EReal) (b : Bg → EReal) (p : Wb → EReal) (o : Wo → EReal) (dx : Tok → EReal) :
    Reads (mixOf x y0 y1 y2 l b p o dx) x y0 y1 y2 l b p o dx where
  x := mat_at x
  y0 := mat_at y0
  y1 := mat_at y1
  y2 := mat_at y2
  l := mat_at l
  b n := by show _ = dite _ _ _; rw [dif_pos n.isLt]
  p k w d := by show _ = dite _ _ _; rw [dif_pos ⟨k.isLt, w.isLt, d.isLt⟩]
  o := mat_at o
  dx := mat_at dx

/-- The results: the output, and the gradients of the output weight, the gates' logits and bias, the branches' outputs and their weights. -/
def x2Of (W : Mix) : Tok → EReal := fun j => W.X2 (j 0) (j 1)
def dwOf (W : Mix) : Wo → EReal := fun j => W.DO (j 0) (j 1)
def dglOf (W : Mix) : Gt → EReal := fun j => W.DL (j 0) (j 1) (j 2)
def dbgOf (W : Mix) : Bg → EReal := fun j => W.DB ((j 0).val / 1024) ((j 0).val % 1024)
def dyOf (W : Mix) (k : ℕ) : Br → EReal := fun j => W.DY k (j 0) (j 1)
def dwbOf (W : Mix) (k : ℕ) : Dw → EReal := fun j => W.DP k (j 0) (j 1)

end Cert.Proof.Merge

end
-- ==== Proof.MergePay.lean ====
/-
  The payloads of the merge's calls over the extended reals, each at an index of its block.
-/
module

public import proofs.«01_k».proof.Proof.MergeMath
public import proofs.«01_k».proof.Proof.Gen.Kernel3Ideal.Skeleton
public import Idealize.ShloMosaic.Lib.Pointwise

@[expose] public section

set_option maxRecDepth 16384

noncomputable section

namespace Cert.Proof.Merge

open Cert.Kernel3Ideal Cert.Kernel3Ideal.Gen
open Idealize.ShloMosaic Idealize.ShloMosaic.TcCoe

theorem k0_pay2_at {v0 : Vec Ideal S512x512 .bf16} {v2 : Vec Ideal S1x512 .f32} {v13 : Vec Ideal S512x512 .bf16} {v14 : Vec Ideal S1x512x512 .bf16}
    {l b : EReal} {y p : Fin 512 → EReal} (r d : Fin 512) (hl : v0 (ix2 r d) = l) (hb : v2 (ix2 0 d) = b)
    (hy : ∀ w : Fin 512, v13 (ix2 r w) = y w) (hp : ∀ w : Fin 512, v14 (ix3 0 w d) = p w) :
    @Eq EReal (k0_pay2 v0 v2 v13 v14 (ix2 r d)) (sg (l + b) * ∑ w, y w * p w) := by
  pointwise [k0_pay2]
  simp only [hl, hb, hy, hp, ofBits_half, sg_tanh]

theorem k0_pay3_at {v18 : Vec Ideal S512x512 .bf16} {v20 : Vec Ideal S1x512 .f32} {l b : EReal} (r d : Fin 512) (hl : v18 (ix2 r d) = l)
    (hb : v20 (ix2 0 d) = b) : @Eq EReal (k0_pay3 v18 v20 (ix2 r d)) (sg (l + b)) := by
  pointwise [k0_pay3]
  simp only [hl, hb, ofBits_half, sg_tanh]

theorem k0_pay1_at {v17 v30 : FVec Ideal S512x512 .f32} {v31 : Vec Ideal S512x512 .bf16} {v32 : Vec Ideal S1x512x512 .bf16} {v37 : Vec Ideal S512x512 .bf16}
    {v39 : Vec Ideal S1x512 .f32} {v50 : Vec Ideal S512x512 .bf16} {v51 : Vec Ideal S1x512x512 .bf16} {a s l b : EReal} {y p y' p' : Fin 512 → EReal}
    (r d : Fin 512) (ha : v17 (ix2 r d) = a) (hs : v30 (ix2 r d) = s)
    (hy : ∀ w : Fin 512, v31 (ix2 r w) = y w) (hp : ∀ w : Fin 512, v32 (ix3 0 w d) = p w) (hl : v37 (ix2 r d) = l) (hb : v39 (ix2 0 d) = b)
    (hy' : ∀ w : Fin 512, v50 (ix2 r w) = y' w) (hp' : ∀ w : Fin 512, v51 (ix3 0 w d) = p' w) :
    @Eq EReal (k0_pay1 v17 v30 v31 v32 v37 v39 v50 v51 (ix2 r d)) (a + s * (∑ w, y w * p w) + sg (l + b) * ∑ w, y' w * p' w) := by
  pointwise [k0_pay1]
  simp only [ha, hs, hl, hb, hy, hp, hy', hp', ofBits_half, sg_tanh]

theorem k1_pay1_at {v0 v5 v11 v17 : Vec Ideal S1024x256 .bf16} {v2 v7 v13 v19 : Vec Ideal S1x256x512 .bf16} {v23 : Vec Ideal S1024x512 .f32}
    {f : ℕ → EReal} {x : EReal} {m o : ℕ → Fin 256 → EReal} (r : Fin 1024) (d : Fin 512)
    (h0 : ∀ c : Fin 256, v0 (ix2 r c) = m 0 c) (h1 : ∀ c : Fin 256, v5 (ix2 r c) = m 1 c)
    (h2 : ∀ c : Fin 256, v11 (ix2 r c) = m 2 c) (h3 : ∀ c : Fin 256, v17 (ix2 r c) = m 3 c)
    (w0 : ∀ c : Fin 256, v2 (ix3 0 c d) = o 0 c) (w1 : ∀ c : Fin 256, v7 (ix3 0 c d) = o 1 c)
    (w2 : ∀ c : Fin 256, v13 (ix3 0 c d) = o 2 c) (w3 : ∀ c : Fin 256, v19 (ix3 0 c d) = o 3 c)
    (hx : v23 (ix2 r d) = x) (hf : ∀ k (c : Fin 256), m k c * o k c = f (k * 256 + c)) :
    @Eq EReal (k1_pay1 v0 v2 v5 v7 v11 v13 v17 v19 v23 (ix2 r d)) ((∑ e : Fin 1024, f e) + x) := by
  pointwise [k1_pay1]
  simp only [h0, h1, h2, h3, w0, w1, w2, w3, hx, hf]
  rw [sum_chips]

theorem k2_pay1_at {v0 : Vec Ideal S1024x1024 .bf16} {v2 : Vec Ideal S1x256x1024 .bf16} {a b : Fin 1024 → EReal} (r : Fin 1024) (d : Fin 256)
    (ha : ∀ e : Fin 1024, v0 (ix2 r e) = a e) (hb : ∀ e : Fin 1024, v2 (ix3 0 d e) = b e) :
    @Eq EReal (k2_pay1 v0 v2 (ix2 r d)) (∑ e, a e * b e) := by
  pointwise [k2_pay1]
  simp only [ha, hb]

theorem k3_pay1_at {v0 : Vec Ideal S4096x1024 .bf16} {v2 : Vec Ideal S4096x512 .bf16} {a b : Fin 4096 → EReal} (r : Fin 1024) (d : Fin 512)
    (ha : ∀ t : Fin 4096, v0 (ix2 t r) = a t) (hb : ∀ t : Fin 4096, v2 (ix2 t d) = b t) :
    @Eq EReal (k3_pay1 v0 v2 (ix2 r d)) (∑ t, a t * b t) := by
  pointwise [k3_pay1]
  simp only [ha, hb]

theorem k5_pay1_at {v0 : Vec Ideal S1x1024x1024 .bf16} {v2 : Vec Ideal S1x512x1024 .bf16} {a b : Fin 1024 → EReal} (r : Fin 1024) (w : Fin 512)
    (ha : ∀ e : Fin 1024, v0 (ix3 0 r e) = a e) (hb : ∀ e : Fin 1024, v2 (ix3 0 w e) = b e) :
    @Eq EReal (k5_pay1 v0 v2 (ix2 r w)) (∑ e, a e * b e) := by
  pointwise [k5_pay1]
  simp only [ha, hb]

theorem k6_pay1_at {v0 : Vec Ideal S4096x512 .bf16} {v1 : Vec Ideal S1x4096x512 .bf16} {a b : Fin 4096 → EReal} (w d : Fin 512)
    (ha : ∀ t : Fin 4096, v0 (ix2 t w) = a t) (hb : ∀ t : Fin 4096, v1 (ix3 0 t d) = b t) :
    @Eq EReal (k6_pay1 v0 v1 (ix2 w d)) (∑ t, a t * b t) := by
  pointwise [k6_pay1]
  simp only [ha, hb]

theorem k7_pay1_eq : @k7_pay1 Ideal _ = k5_pay1 := rfl
theorem k9_pay1_eq : @k9_pay1 Ideal _ = k5_pay1 := rfl
theorem k8_pay1_eq : @k8_pay1 Ideal _ = k6_pay1 := rfl
theorem k10_pay1_eq : @k10_pay1 Ideal _ = k6_pay1 := rfl

/-! ## The backward of the merge -/

theorem k4_pay5_eq (v : Vec Ideal S512x512 .bf16) (r d : Fin 512) : @Eq EReal (k4_pay5 v (ix2 r d)) (v (ix2 r d)) := by
  pointwise [k4_pay5]

theorem k4_pay7_at {v6 : Vec Ideal S512x512 .bf16} {v8 : Vec Ideal S1x512 .f32} {l b : EReal} (r d : Fin 512) (hl : v6 (ix2 r d) = l)
    (hb : v8 (ix2 0 d) = b) : @Eq EReal (k4_pay7 v6 v8 (ix2 r d)) (sg (l + b)) := by
  pointwise [k4_pay7]
  simp only [hl, hb, ofBits_half, sg_tanh]

theorem k4_pay13_at {v6 : Vec Ideal S512x512 .bf16} {v8 : Vec Ideal S1x512 .f32} {l b : EReal} (r d : Fin 512) (hl : v6 (ix2 r d) = l)
    (hb : v8 (ix2 0 d) = b) : @Eq EReal (k4_pay13 v6 v8 (ix2 r d)) (sg (l + b)) := by
  pointwise [k4_pay13]
  simp only [hl, hb, ofBits_half, sg_tanh]

theorem k4_pay19_at {v6 : Vec Ideal S512x512 .bf16} {v8 : Vec Ideal S1x512 .f32} {l b : EReal} (r d : Fin 512) (hl : v6 (ix2 r d) = l)
    (hb : v8 (ix2 0 d) = b) : @Eq EReal (k4_pay19 v6 v8 (ix2 r d)) (sg (l + b)) := by
  pointwise [k4_pay19]
  simp only [hl, hb, ofBits_half, sg_tanh]

theorem k4_pay8_at {v0 v6 v19 : Vec Ideal S512x512 .bf16} {v8 : Vec Ideal S1x512 .f32} {v20 : Vec Ideal S1x512x512 .bf16} {m l b : EReal}
    {y p : Fin 512 → EReal} (r d : Fin 512) (hm : v0 (ix2 r d) = m) (hl : v6 (ix2 r d) = l) (hb : v8 (ix2 0 d) = b)
    (hy : ∀ w : Fin 512, v19 (ix2 r w) = y w) (hp : ∀ w : Fin 512, v20 (ix3 0 w d) = p w) :
    @Eq EReal (k4_pay8 v0 v6 v8 v19 v20 (ix2 r d)) (m * (∑ w, y w * p w) * sg (l + b) * (1 - sg (l + b))) := by
  have e := k4_pay7_at r d hl hb
  pointwise [k4_pay8, k4_pay5]
  simp only [hm, hy, hp, e]

theorem k4_pay14_at {v2 : FVec Ideal S512x512 .f32} {v6 v19 : Vec Ideal S512x512 .bf16} {v8 : Vec Ideal S1x512 .f32} {v20 : Vec Ideal S1x512x512 .bf16}
    {m l b : EReal} {y p : Fin 512 → EReal} (r d : Fin 512) (hm : v2 (ix2 r d) = m) (hl : v6 (ix2 r d) = l) (hb : v8 (ix2 0 d) = b)
    (hy : ∀ w : Fin 512, v19 (ix2 r w) = y w) (hp : ∀ w : Fin 512, v20 (ix3 0 w d) = p w) :
    @Eq EReal (k4_pay14 v2 v6 v8 v19 v20 (ix2 r d)) (m * (∑ w, y w * p w) * sg (l + b) * (1 - sg (l + b))) := by
  have e := k4_pay13_at r d hl hb
  pointwise [k4_pay14]
  simp only [hm, hy, hp, e]

theorem k4_pay1_at {v2 v96 : FVec Ideal S512x512 .f32} {v97 : Vec Ideal S512x512 .bf16} {v98 : Vec Ideal S1x512x512 .bf16}
    {m s : EReal} {y p : Fin 512 → EReal} (r d : Fin 512) (hm : v2 (ix2 r d) = m) (hs : v96 (ix2 r d) = s)
    (hy : ∀ w : Fin 512, v97 (ix2 r w) = y w) (hp : ∀ w : Fin 512, v98 (ix3 0 w d) = p w) :
    @Eq EReal (k4_pay1 v2 v96 v97 (k4_pay20 v98) (constant S512x512 .f32 0x00000000#32) (ix2 r d)) (m * (∑ w, y w * p w) * s * (1 - s)) := by
  pointwise [k4_pay1, k4_pay20]
  simp only [hm, hs, hy, hp]

/-- Eight rows of a block of the bias's gradient get the block's rows added. -/
theorem k4_pay12_at {v27 : FVec Ideal S512x512 .f32} {v37 : Vec Ideal S1x8x512 .f32} {F : ℕ → EReal} {a : EReal} (r : Fin 8) (d : Fin 512)
    (hF : ∀ t : Fin 512, v27 (ix2 t d) = F t) (ha : v37 (ix3 0 r d) = a) :
    @Eq EReal (k4_pay12 v27 v37 (ix3 0 r d)) (a + ∑ i : Fin 64, F (i * 8 + r)) := by
  pointwise [k4_pay12]
  simp only [hF, ha]

theorem k4_pay18_eq : @k4_pay18 Ideal _ = k4_pay12 := rfl

theorem k4_pay4_eq (v2 v96 : FVec Ideal S512x512 .f32) (v97 : Vec Ideal S512x512 .bf16) (v99 : FVec Ideal S512x512 .bf16) (z : FVec Ideal S512x512 .f32)
    (v115 : Vec Ideal S1x8x512 .f32) : k4_pay4 v2 v96 v97 v99 z v115 = k4_pay12 (k4_pay1 v2 v96 v97 v99 z) v115 := rfl

theorem k4_pay6_at (k : Fin 3) (r : Fin 8) (d : Fin 512) : @Eq EReal ((k4_pay6 : FVec Ideal S3x8x512 .f32) (ix3 k r d)) 0 := by
  pointwise [k4_pay6]

theorem k4_pay9_at (v0 v6 : Vec Ideal S512x512 .bf16) (v8 : Vec Ideal S1x512 .f32) (v19 : Vec Ideal S512x512 .bf16) (v20 : Vec Ideal S1x512x512 .bf16)
    (r d : Fin 512) : @Eq EReal (k4_pay9 v0 v6 v8 v19 v20 (ix3 0 r d)) (k4_pay8 v0 v6 v8 v19 v20 (ix2 r d)) := by
  pointwise [k4_pay9]

theorem k4_pay16_at (v2 : FVec Ideal S512x512 .f32) (v6 : Vec Ideal S512x512 .bf16) (v8 : Vec Ideal S1x512 .f32) (v19 : Vec Ideal S512x512 .bf16)
    (v20 : Vec Ideal S1x512x512 .bf16) (r d : Fin 512) :
    @Eq EReal (k4_pay16 (k4_pay15 v2 v6 v8 v19 v20) (ix3 0 r d)) (k4_pay14 v2 v6 v8 v19 v20 (ix2 r d)) := by
  pointwise [k4_pay16, k4_pay15]

theorem k4_pay2_at (v2 v96 : FVec Ideal S512x512 .f32) (v97 : Vec Ideal S512x512 .bf16) (v99 : FVec Ideal S512x512 .bf16) (z : FVec Ideal S512x512 .f32)
    (r d : Fin 512) : @Eq EReal (k4_pay2 v2 v96 v97 v99 z (ix3 0 r d)) (k4_pay1 v2 v96 v97 v99 z (ix2 r d)) := by
  pointwise [k4_pay2]

theorem k4_pay11_at {v0 v6 : Vec Ideal S512x512 .bf16} {v8 : Vec Ideal S1x512 .f32} {m l b : EReal} (r d : Fin 512) (hm : v0 (ix2 r d) = m)
    (hl : v6 (ix2 r d) = l) (hb : v8 (ix2 0 d) = b) : @Eq EReal (k4_pay11 (k4_pay10 v0 v6 v8) (ix3 0 r d)) (m * sg (l + b)) := by
  have e := k4_pay7_at r d hl hb
  pointwise [k4_pay11, k4_pay10, k4_pay5]
  simp only [hm, e]

theorem k4_pay17_at (v2 v57 : FVec Ideal S512x512 .f32) (r d : Fin 512) :
    @Eq EReal (k4_pay17 v2 v57 (ix3 0 r d)) ((v2 (ix2 r d) : EReal) * v57 (ix2 r d)) := by
  pointwise [k4_pay17]

theorem k4_pay3_eq : @k4_pay3 Ideal _ = k4_pay17 := rfl

end Cert.Proof.Merge

end
-- ==== Proof.MergeFwd.lean ====
/-
  The forward calls of the merge and the product with the output weight, and the backward's products with that weight.
-/
module

public import proofs.«01_k».proof.Proof.MergePay
public import proofs.«01_k».proof.Proof.Gen.Kernel3Ideal.Frame.Region0
public import proofs.«01_k».proof.Proof.Gen.Kernel3Ideal.Frame.Region1
public import proofs.«01_k».proof.Proof.Gen.Kernel3Ideal.Frame.Region2
public import proofs.«01_k».proof.Proof.Gen.Kernel3Ideal.Frame.Region3
public import Idealize.ShloMosaic.Lib.Pipeline.ValueKit

@[expose] public section

set_option maxRecDepth 16384

noncomputable section

namespace Cert.Proof.Merge

open Cert.Kernel3Ideal Cert.Kernel3Ideal.Gen
open Idealize.ShloMosaic Idealize.ShloMosaic.TcCoe Idealize.ShloMosaic.Tactic
open Idealize.ShloMosaic.Pipeline (Dat Cfg Window)

variable (V : (c : Dev nD) → (b : Ref sig .tc) → Buf (Elt Ideal) ((c : Thread nD τ).loc b)) (W : Mix)

theorem off2 : (![0, 0] : Fin 2 → ℕ) = fun _ => 0 := by decide
theorem off3 : (![0, 0, 0] : Fin 3 → ℕ) = fun _ => 0 := by decide

theorem ix2_eta {a b : ℕ} (y : (⟨2, ![a, b]⟩ : Shape).Idx) : y = ix2 (y 0 : Fin a) (y 1 : Fin b) := by
  funext i; match i with
  | 0 => rfl
  | 1 => rfl

/-- The packed rows of the output weight, as the calls read them. -/
def OutOk (w : S4x1792x1024.Idx → EReal) : Prop :=
  ∀ (k : Fin 4) (r : Fin 256) (e : Fin 1024), w (ix3 k (⟨6 * 256 + r.val, by omega⟩ : Fin 1792) e) = W.O (k.val * 256 + r.val) e

/-! ## The merge -/

theorem idx0_0 : ∀ t : Fin cfg0.N, win0_0.index t = ![((grid0.coords t) 0).val, 0] := by decide +kernel

theorem iblk0_0 (c : Dev nD) (h : V c main_arg1 = fun y : S4096x512.Idx => W.Y 0 (y 0) (y 1)) (t : Fin cfg0.N) (r w : Fin 512) :
    @Eq EReal (iblk0 V c 0 t (ix2 r w)) (W.Y 0 (((grid0.coords t) 0).val * 512 + r.val) w.val) := by
  have e := idx0_0 t
  have k : iblk0 V c 0 t (ix2 r w) = V c main_arg1 (ix2 (⟨((grid0.coords t) 0).val * 512 + r.val, by have : ((grid0.coords t) 0).val < 8 := ((grid0.coords t) 0).isLt; omega⟩ : Fin 4096) w) := by
    blk_ext [iblk0, e]
  rw [k, h]; rfl

theorem idx0_1 : ∀ t : Fin cfg0.N, win0_1.index t = ![((grid0.coords t) 0).val, 0] := by decide +kernel

theorem iblk0_1 (c : Dev nD) (h : V c main_arg2 = fun y : S4096x512.Idx => W.Y 1 (y 0) (y 1)) (t : Fin cfg0.N) (r w : Fin 512) :
    @Eq EReal (iblk0 V c 1 t (ix2 r w)) (W.Y 1 (((grid0.coords t) 0).val * 512 + r.val) w.val) := by
  have e := idx0_1 t
  have k : iblk0 V c 1 t (ix2 r w) = V c main_arg2 (ix2 (⟨((grid0.coords t) 0).val * 512 + r.val, by have : ((grid0.coords t) 0).val < 8 := ((grid0.coords t) 0).isLt; omega⟩ : Fin 4096) w) := by
    blk_ext [iblk0, e]
  rw [k, h]; rfl

theorem idx0_2 : ∀ t : Fin cfg0.N, win0_2.index t = ![((grid0.coords t) 0).val, 0] := by decide +kernel

theorem iblk0_2 (c : Dev nD) (h : V c main_arg3 = fun y : S4096x512.Idx => W.Y 2 (y 0) (y 1)) (t : Fin cfg0.N) (r w : Fin 512) :
    @Eq EReal (iblk0 V c 2 t (ix2 r w)) (W.Y 2 (((grid0.coords t) 0).val * 512 + r.val) w.val) := by
  have e := idx0_2 t
  have k : iblk0 V c 2 t (ix2 r w) = V c main_arg3 (ix2 (⟨((grid0.coords t) 0).val * 512 + r.val, by have : ((grid0.coords t) 0).val < 8 := ((grid0.coords t) 0).isLt; omega⟩ : Fin 4096) w) := by
    blk_ext [iblk0, e]
  rw [k, h]; rfl

theorem idx0_3 : ∀ t : Fin cfg0.N, win0_3.index t = ![0, 0, ((grid0.coords t) 1).val] := by decide +kernel

theorem iblk0_3 (c : Dev nD) (h : V c main_v8 = fun y : S3x512x1024.Idx => W.P (y 0) (y 1) (y 2)) (t : Fin cfg0.N) (k : Fin 3) (w d : Fin 512) :
    @Eq EReal (iblk0 V c 3 t (ix3 k w d)) (W.P k.val w.val (((grid0.coords t) 1).val * 512 + d.val)) := by
  have e := idx0_3 t
  have k' : iblk0 V c 3 t (ix3 k w d) = V c main_v8 (ix3 k w (⟨((grid0.coords t) 1).val * 512 + d.val, by have : ((grid0.coords t) 1).val < 2 := ((grid0.coords t) 1).isLt; omega⟩ : Fin 1024)) := by
    blk_ext [iblk0, e]
  rw [k', h]; rfl

theorem idx0_4 : ∀ t : Fin cfg0.N, win0_4.index t = ![((grid0.coords t) 0).val, 0 + ((grid0.coords t) 1).val] := by decide +kernel

theorem iblk0_4 (c : Dev nD) (h : V c main_arg4 = fun y : S4096x3072.Idx => W.L (y 0) (y 1)) (t : Fin cfg0.N) (r d : Fin 512) :
    @Eq EReal (iblk0 V c 4 t (ix2 r d)) (W.L (((grid0.coords t) 0).val * 512 + r.val) (0 * 1024 + (((grid0.coords t) 1).val * 512 + d.val))) := by
  have e := idx0_4 t
  have k : iblk0 V c 4 t (ix2 r d) = V c main_arg4 (ix2 (⟨((grid0.coords t) 0).val * 512 + r.val, by have : ((grid0.coords t) 0).val < 8 := ((grid0.coords t) 0).isLt; omega⟩ : Fin 4096) (⟨0 * 1024 + (((grid0.coords t) 1).val * 512 + d.val), by have : ((grid0.coords t) 1).val < 2 := ((grid0.coords t) 1).isLt; omega⟩ : Fin 3072)) := by
    blk_ext [iblk0, e]
  rw [k, h]; rfl

theorem idx0_5 : ∀ t : Fin cfg0.N, win0_5.index t = ![((grid0.coords t) 0).val, 2 + ((grid0.coords t) 1).val] := by decide +kernel

theorem iblk0_5 (c : Dev nD) (h : V c main_arg4 = fun y : S4096x3072.Idx => W.L (y 0) (y 1)) (t : Fin cfg0.N) (r d : Fin 512) :
    @Eq EReal (iblk0 V c 5 t (ix2 r d)) (W.L (((grid0.coords t) 0).val * 512 + r.val) (1 * 1024 + (((grid0.coords t) 1).val * 512 + d.val))) := by
  have e := idx0_5 t
  have k : iblk0 V c 5 t (ix2 r d) = V c main_arg4 (ix2 (⟨((grid0.coords t) 0).val * 512 + r.val, by have : ((grid0.coords t) 0).val < 8 := ((grid0.coords t) 0).isLt; omega⟩ : Fin 4096) (⟨1 * 1024 + (((grid0.coords t) 1).val * 512 + d.val), by have : ((grid0.coords t) 1).val < 2 := ((grid0.coords t) 1).isLt; omega⟩ : Fin 3072)) := by
    blk_ext [iblk0, e]
  rw [k, h]; rfl

theorem idx0_6 : ∀ t : Fin cfg0.N, win0_6.index t = ![((grid0.coords t) 0).val, 4 + ((grid0.coords t) 1).val] := by decide +kernel

theorem iblk0_6 (c : Dev nD) (h : V c main_arg4 = fun y : S4096x3072.Idx => W.L (y 0) (y 1)) (t : Fin cfg0.N) (r d : Fin 512) :
    @Eq EReal (iblk0 V c 6 t (ix2 r d)) (W.L (((grid0.coords t) 0).val * 512 + r.val) (2 * 1024 + (((grid0.coords t) 1).val * 512 + d.val))) := by
  have e := idx0_6 t
  have k : iblk0 V c 6 t (ix2 r d) = V c main_arg4 (ix2 (⟨((grid0.coords t) 0).val * 512 + r.val, by have : ((grid0.coords t) 0).val < 8 := ((grid0.coords t) 0).isLt; omega⟩ : Fin 4096) (⟨2 * 1024 + (((grid0.coords t) 1).val * 512 + d.val), by have : ((grid0.coords t) 1).val < 2 := ((grid0.coords t) 1).isLt; omega⟩ : Fin 3072)) := by
    blk_ext [iblk0, e]
  rw [k, h]; rfl

theorem idx0_7 : ∀ t : Fin cfg0.N, win0_7.index t = ![0, 0 + ((grid0.coords t) 1).val] := by decide +kernel

theorem iblk0_7 (c : Dev nD) (h : V c main_v9 = fun y : S1x3072.Idx => W.B (y 1)) (t : Fin cfg0.N) (d : Fin 512) :
    @Eq EReal (iblk0 V c 7 t (ix2 0 d)) (W.B (0 * 1024 + (((grid0.coords t) 1).val * 512 + d.val))) := by
  have e := idx0_7 t
  have k : iblk0 V c 7 t (ix2 0 d) = V c main_v9 (ix2 0 (⟨0 * 1024 + (((grid0.coords t) 1).val * 512 + d.val), by have : ((grid0.coords t) 1).val < 2 := ((grid0.coords t) 1).isLt; omega⟩ : Fin 3072)) := by
    blk_ext [iblk0, e]
  rw [k, h]; rfl

theorem idx0_8 : ∀ t : Fin cfg0.N, win0_8.index t = ![0, 2 + ((grid0.coords t) 1).val] := by decide +kernel

theorem iblk0_8 (c : Dev nD) (h : V c main_v9 = fun y : S1x3072.Idx => W.B (y 1)) (t : Fin cfg0.N) (d : Fin 512) :
    @Eq EReal (iblk0 V c 8 t (ix2 0 d)) (W.B (1 * 1024 + (((grid0.coords t) 1).val * 512 + d.val))) := by
  have e := idx0_8 t
  have k : iblk0 V c 8 t (ix2 0 d) = V c main_v9 (ix2 0 (⟨1 * 1024 + (((grid0.coords t) 1).val * 512 + d.val), by have : ((grid0.coords t) 1).val < 2 := ((grid0.coords t) 1).isLt; omega⟩ : Fin 3072)) := by
    blk_ext [iblk0, e]
  rw [k, h]; rfl

theorem idx0_9 : ∀ t : Fin cfg0.N, win0_9.index t = ![0, 4 + ((grid0.coords t) 1).val] := by decide +kernel

theorem iblk0_9 (c : Dev nD) (h : V c main_v9 = fun y : S1x3072.Idx => W.B (y 1)) (t : Fin cfg0.N) (d : Fin 512) :
    @Eq EReal (iblk0 V c 9 t (ix2 0 d)) (W.B (2 * 1024 + (((grid0.coords t) 1).val * 512 + d.val))) := by
  have e := idx0_9 t
  have k : iblk0 V c 9 t (ix2 0 d) = V c main_v9 (ix2 0 (⟨2 * 1024 + (((grid0.coords t) 1).val * 512 + d.val), by have : ((grid0.coords t) 1).val < 2 := ((grid0.coords t) 1).isLt; omega⟩ : Fin 3072)) := by
    blk_ext [iblk0, e]
  rw [k, h]; rfl

theorem idx0_10 : ∀ t : Fin cfg0.N, win0_10.index t = ![((grid0.coords t) 0).val, ((grid0.coords t) 1).val] := by decide +kernel

theorem plane (x : Vec Ideal S3x512x512 .bf16) (k : Fin 3) (inb : ∀ a, (![k.val, 0, 0] : Fin 3 → ℕ) a + S1x512x512.size a ≤ S3x512x512.size a) (w d : Fin 512) :
    View.ld x (Rect.unit (s := S3x512x512) ![k.val, 0, 0] S1x512x512.size inb) (ix3 0 w d) = x (ix3 k w d) :=
  View.ld_unit_apply_of _ _ _ _ _ _ fun a => by
    match a with
    | 0 => rfl
    | 1 => exact (Nat.zero_add _).symm
    | 2 => exact (Nat.zero_add _).symm

theorem out0_10_eq (x0 x1 x2 : Vec Ideal S512x512 .bf16) (x3 : Vec Ideal S3x512x512 .bf16) (x4 x5 x6 : Vec Ideal S512x512 .bf16) (x7 x8 x9 : Vec Ideal S1x512 .f32) :
    out0_10 x0 x1 x2 x3 x4 x5 x6 x7 x8 x9 = k0_pay1 (k0_pay2 x4 x7 x0 (View.ld x3 r0_2)) (k0_pay3 x5 x8) x1 (View.ld x3 r0_3) x6 x9 x2 (View.ld x3 r0_4) := by
  unfold out0_10
  rw [View.canon_unit_zero off2, View.ld_unit_zero off2, View.ld_unit_zero off2, View.ld_unit_zero off2, View.ld_unit_zero off2, View.ld_unit_zero off2, View.ld_unit_zero off2, View.ld_unit_zero off2, View.ld_unit_zero off2, View.ld_unit_zero off2]

/-- The calls' arrays hold the merge's inputs. -/
structure Ins (c : Dev nD) : Prop where
  y0 : V c main_arg1 = fun y : S4096x512.Idx => W.Y 0 (y 0) (y 1)
  y1 : V c main_arg2 = fun y : S4096x512.Idx => W.Y 1 (y 0) (y 1)
  y2 : V c main_arg3 = fun y : S4096x512.Idx => W.Y 2 (y 0) (y 1)
  l : V c main_arg4 = fun y : S4096x3072.Idx => W.L (y 0) (y 1)
  p : V c main_v8 = fun y : S3x512x1024.Idx => W.P (y 0) (y 1) (y 2)

theorem arr0 (c : Dev nD) (i : Ins V W c) (hb : V c main_v9 = fun y : S1x3072.Idx => W.B (y 1)) :
    (dat0 V c).arrAt 10 cfg0.N = fun y : S4096x1024.Idx => W.M (y 0) (y 1) := by
  refine (dat0 V c).arrAt_eq_of_covers 10 _ (by decide +kernel) fun t hf y => ?_
  have e := idx0_10 t
  blk_simp
  rw [after0_10, e, out0_10_eq]
  refine (congrArg (k0_pay1 _ _ _ _ _ _ _ _) (ix2_eta (a := 512) (b := 512) y)).trans ?_
  refine (k0_pay1_at (y 0 : Fin 512) (y 1 : Fin 512)
    (k0_pay2_at (y 0 : Fin 512) (y 1 : Fin 512) (iblk0_4 V W c i.l t _ _) (iblk0_7 V W c hb t _) (iblk0_0 V W c i.y0 t _)
      fun w => (plane _ 0 _ w _).trans (iblk0_3 V W c i.p t 0 w _))
    (k0_pay3_at (y 0 : Fin 512) (y 1 : Fin 512) (iblk0_5 V W c i.l t _ _) (iblk0_8 V W c hb t _))
    (iblk0_1 V W c i.y1 t _) (fun w => (plane _ 1 _ w _).trans (iblk0_3 V W c i.p t 1 w _)) (iblk0_6 V W c i.l t _ _) (iblk0_9 V W c hb t _)
    (iblk0_2 V W c i.y2 t _) (fun w => (plane _ 2 _ w _).trans (iblk0_3 V W c i.p t 2 w _))).trans ?_
  show _ = W.M (((grid0.coords t) 0).val * 512 + (y 0).val) (((grid0.coords t) 1).val * 512 + (y 1).val)
  rfl

/-! ## The product with the output weight -/

theorem idx1_0 : ∀ t : Fin cfg1.N, win1_0.index t = ![((grid1.coords t) 0).val, 0] := by decide +kernel

theorem iblk1_0 (c : Dev nD) (h : V c main_v10 = fun y : S4096x1024.Idx => W.M (y 0) (y 1)) (t : Fin cfg1.N) (r : Fin 1024) (d : Fin 256) :
    @Eq EReal (iblk1 V c 0 t (ix2 r d)) (W.M (((grid1.coords t) 0).val * 1024 + r.val) (0 * 256 + d.val)) := by
  have e := idx1_0 t
  have k : iblk1 V c 0 t (ix2 r d) = V c main_v10 (ix2 (⟨((grid1.coords t) 0).val * 1024 + r.val, by have : ((grid1.coords t) 0).val < 4 := ((grid1.coords t) 0).isLt; omega⟩ : Fin 4096) (⟨0 * 256 + d.val, by omega⟩ : Fin 1024)) := by
    blk_ext [iblk1, e]
  rw [k, h]; rfl

theorem idx1_1 : ∀ t : Fin cfg1.N, win1_1.index t = ![0, 6, ((grid1.coords t) 1).val] := by decide +kernel

theorem iblk1_1 (c : Dev nD) (h : OutOk W (V c main_v7)) (t : Fin cfg1.N) (r : Fin 256) (d : Fin 512) :
    @Eq EReal (iblk1 V c 1 t (ix3 0 r d)) (W.O (0 * 256 + r.val) (((grid1.coords t) 1).val * 512 + d.val)) := by
  have e := idx1_1 t
  have k : iblk1 V c 1 t (ix3 0 r d) = V c main_v7 (ix3 (⟨0 , by omega⟩ : Fin 4) (⟨6 * 256 + r.val, by omega⟩ : Fin 1792) (⟨((grid1.coords t) 1).val * 512 + d.val, by have : ((grid1.coords t) 1).val < 2 := ((grid1.coords t) 1).isLt; omega⟩ : Fin 1024)) := by
    blk_ext [iblk1, e]
  exact k.trans (h _ _ _)

theorem idx1_2 : ∀ t : Fin cfg1.N, win1_2.index t = ![((grid1.coords t) 0).val, 1] := by decide +kernel

theorem iblk1_2 (c : Dev nD) (h : V c main_v10 = fun y : S4096x1024.Idx => W.M (y 0) (y 1)) (t : Fin cfg1.N) (r : Fin 1024) (d : Fin 256) :
    @Eq EReal (iblk1 V c 2 t (ix2 r d)) (W.M (((grid1.coords t) 0).val * 1024 + r.val) (1 * 256 + d.val)) := by
  have e := idx1_2 t
  have k : iblk1 V c 2 t (ix2 r d) = V c main_v10 (ix2 (⟨((grid1.coords t) 0).val * 1024 + r.val, by have : ((grid1.coords t) 0).val < 4 := ((grid1.coords t) 0).isLt; omega⟩ : Fin 4096) (⟨1 * 256 + d.val, by omega⟩ : Fin 1024)) := by
    blk_ext [iblk1, e]
  rw [k, h]; rfl

theorem idx1_3 : ∀ t : Fin cfg1.N, win1_3.index t = ![1, 6, ((grid1.coords t) 1).val] := by decide +kernel

theorem iblk1_3 (c : Dev nD) (h : OutOk W (V c main_v7)) (t : Fin cfg1.N) (r : Fin 256) (d : Fin 512) :
    @Eq EReal (iblk1 V c 3 t (ix3 0 r d)) (W.O (1 * 256 + r.val) (((grid1.coords t) 1).val * 512 + d.val)) := by
  have e := idx1_3 t
  have k : iblk1 V c 3 t (ix3 0 r d) = V c main_v7 (ix3 (⟨1 , by omega⟩ : Fin 4) (⟨6 * 256 + r.val, by omega⟩ : Fin 1792) (⟨((grid1.coords t) 1).val * 512 + d.val, by have : ((grid1.coords t) 1).val < 2 := ((grid1.coords t) 1).isLt; omega⟩ : Fin 1024)) := by
    blk_ext [iblk1, e]
  exact k.trans (h _ _ _)

theorem idx1_4 : ∀ t : Fin cfg1.N, win1_4.index t = ![((grid1.coords t) 0).val, 2] := by decide +kernel

theorem iblk1_4 (c : Dev nD) (h : V c main_v10 = fun y : S4096x1024.Idx => W.M (y 0) (y 1)) (t : Fin cfg1.N) (r : Fin 1024) (d : Fin 256) :
    @Eq EReal (iblk1 V c 4 t (ix2 r d)) (W.M (((grid1.coords t) 0).val * 1024 + r.val) (2 * 256 + d.val)) := by
  have e := idx1_4 t
  have k : iblk1 V c 4 t (ix2 r d) = V c main_v10 (ix2 (⟨((grid1.coords t) 0).val * 1024 + r.val, by have : ((grid1.coords t) 0).val < 4 := ((grid1.coords t) 0).isLt; omega⟩ : Fin 4096) (⟨2 * 256 + d.val, by omega⟩ : Fin 1024)) := by
    blk_ext [iblk1, e]
  rw [k, h]; rfl

theorem idx1_5 : ∀ t : Fin cfg1.N, win1_5.index t = ![2, 6, ((grid1.coords t) 1).val] := by decide +kernel

theorem iblk1_5 (c : Dev nD) (h : OutOk W (V c main_v7)) (t : Fin cfg1.N) (r : Fin 256) (d : Fin 512) :
    @Eq EReal (iblk1 V c 5 t (ix3 0 r d)) (W.O (2 * 256 + r.val) (((grid1.coords t) 1).val * 512 + d.val)) := by
  have e := idx1_5 t
  have k : iblk1 V c 5 t (ix3 0 r d) = V c main_v7 (ix3 (⟨2 , by omega⟩ : Fin 4) (⟨6 * 256 + r.val, by omega⟩ : Fin 1792) (⟨((grid1.coords t) 1).val * 512 + d.val, by have : ((grid1.coords t) 1).val < 2 := ((grid1.coords t) 1).isLt; omega⟩ : Fin 1024)) := by
    blk_ext [iblk1, e]
  exact k.trans (h _ _ _)

theorem idx1_6 : ∀ t : Fin cfg1.N, win1_6.index t = ![((grid1.coords t) 0).val, 3] := by decide +kernel

theorem iblk1_6 (c : Dev nD) (h : V c main_v10 = fun y : S4096x1024.Idx => W.M (y 0) (y 1)) (t : Fin cfg1.N) (r : Fin 1024) (d : Fin 256) :
    @Eq EReal (iblk1 V c 6 t (ix2 r d)) (W.M (((grid1.coords t) 0).val * 1024 + r.val) (3 * 256 + d.val)) := by
  have e := idx1_6 t
  have k : iblk1 V c 6 t (ix2 r d) = V c main_v10 (ix2 (⟨((grid1.coords t) 0).val * 1024 + r.val, by have : ((grid1.coords t) 0).val < 4 := ((grid1.coords t) 0).isLt; omega⟩ : Fin 4096) (⟨3 * 256 + d.val, by omega⟩ : Fin 1024)) := by
    blk_ext [iblk1, e]
  rw [k, h]; rfl

theorem idx1_7 : ∀ t : Fin cfg1.N, win1_7.index t = ![3, 6, ((grid1.coords t) 1).val] := by decide +kernel

theorem iblk1_7 (c : Dev nD) (h : OutOk W (V c main_v7)) (t : Fin cfg1.N) (r : Fin 256) (d : Fin 512) :
    @Eq EReal (iblk1 V c 7 t (ix3 0 r d)) (W.O (3 * 256 + r.val) (((grid1.coords t) 1).val * 512 + d.val)) := by
  have e := idx1_7 t
  have k : iblk1 V c 7 t (ix3 0 r d) = V c main_v7 (ix3 (⟨3 , by omega⟩ : Fin 4) (⟨6 * 256 + r.val, by omega⟩ : Fin 1792) (⟨((grid1.coords t) 1).val * 512 + d.val, by have : ((grid1.coords t) 1).val < 2 := ((grid1.coords t) 1).isLt; omega⟩ : Fin 1024)) := by
    blk_ext [iblk1, e]
  exact k.trans (h _ _ _)

theorem idx1_8 : ∀ t : Fin cfg1.N, win1_8.index t = ![((grid1.coords t) 0).val, ((grid1.coords t) 1).val] := by decide +kernel

theorem iblk1_8 (c : Dev nD) (h : V c main_arg0 = fun y : S4096x1024.Idx => W.X (y 0) (y 1)) (t : Fin cfg1.N) (r : Fin 1024) (d : Fin 512) :
    @Eq EReal (iblk1 V c 8 t (ix2 r d)) (W.X (((grid1.coords t) 0).val * 1024 + r.val) (((grid1.coords t) 1).val * 512 + d.val)) := by
  have e := idx1_8 t
  have k : iblk1 V c 8 t (ix2 r d) = V c main_arg0 (ix2 (⟨((grid1.coords t) 0).val * 1024 + r.val, by have : ((grid1.coords t) 0).val < 4 := ((grid1.coords t) 0).isLt; omega⟩ : Fin 4096) (⟨((grid1.coords t) 1).val * 512 + d.val, by have : ((grid1.coords t) 1).val < 2 := ((grid1.coords t) 1).isLt; omega⟩ : Fin 1024)) := by
    blk_ext [iblk1, e]
  rw [k, h]; rfl

theorem idx1_9 : ∀ t : Fin cfg1.N, win1_9.index t = ![((grid1.coords t) 0).val, ((grid1.coords t) 1).val] := by decide +kernel

theorem out1_9_eq (x0 : Vec Ideal S1024x256 .bf16) (x1 : Vec Ideal S1x256x512 .bf16) (x2 : Vec Ideal S1024x256 .bf16) (x3 : Vec Ideal S1x256x512 .bf16)
    (x4 : Vec Ideal S1024x256 .bf16) (x5 : Vec Ideal S1x256x512 .bf16) (x6 : Vec Ideal S1024x256 .bf16) (x7 : Vec Ideal S1x256x512 .bf16) (x8 : Vec Ideal S1024x512 .f32) :
    out1_9 x0 x1 x2 x3 x4 x5 x6 x7 x8 = k1_pay1 x0 x1 x2 x3 x4 x5 x6 x7 x8 := by
  unfold out1_9
  rw [View.canon_unit_zero off2, View.ld_unit_zero off2, View.ld_unit_zero off3, View.ld_unit_zero off2, View.ld_unit_zero off3, View.ld_unit_zero off2,
    View.ld_unit_zero off3, View.ld_unit_zero off2, View.ld_unit_zero off3, View.ld_unit_zero off2]

theorem arr1 (c : Dev nD) (hm : V c main_v10 = fun y : S4096x1024.Idx => W.M (y 0) (y 1)) (hw : OutOk W (V c main_v7)) (hx : V c main_arg0 = fun y : S4096x1024.Idx => W.X (y 0) (y 1)) :
    (dat1 V c).arrAt 9 cfg1.N = fun y : S4096x1024.Idx => W.X2 (y 0) (y 1) := by
  refine (dat1 V c).arrAt_eq_of_covers 9 _ (by decide +kernel) fun t hf y => ?_
  have e := idx1_9 t
  blk_simp
  rw [after1_9, e, out1_9_eq]
  refine (congrArg (k1_pay1 _ _ _ _ _ _ _ _ _) (ix2_eta (a := 1024) (b := 512) y)).trans ?_
  refine (k1_pay1_at (f := fun d => W.M (((grid1.coords t) 0).val * 1024 + (y 0).val) d * W.O d (((grid1.coords t) 1).val * 512 + (y 1).val))
    (m := fun k d => W.M (((grid1.coords t) 0).val * 1024 + (y 0).val) (k * 256 + d.val)) (o := fun k d => W.O (k * 256 + d.val) (((grid1.coords t) 1).val * 512 + (y 1).val))
    (y 0 : Fin 1024) (y 1 : Fin 512)
    (iblk1_0 V W c hm t _) (iblk1_2 V W c hm t _) (iblk1_4 V W c hm t _) (iblk1_6 V W c hm t _)
    (fun d => iblk1_1 V W c hw t d _) (fun d => iblk1_3 V W c hw t d _) (fun d => iblk1_5 V W c hw t d _) (fun d => iblk1_7 V W c hw t d _)
    (iblk1_8 V W c hx t _ _) fun k d => rfl).trans ?_
  show _ = W.X2 (((grid1.coords t) 0).val * 1024 + (y 0).val) (((grid1.coords t) 1).val * 512 + (y 1).val)
  rfl

/-! ## The backward's products with the output weight -/

theorem idx2_0 : ∀ t : Fin cfg2.N, win2_0.index t = ![((grid2.coords t) 0).val, 0] := by decide +kernel

theorem iblk2_0 (c : Dev nD) (h : V c main_v12 = fun y : S4096x1024.Idx => W.DX (y 0) (y 1)) (t : Fin cfg2.N) (r e : Fin 1024) :
    @Eq EReal (iblk2 V c 0 t (ix2 r e)) (W.DX (((grid2.coords t) 0).val * 1024 + r.val) e.val) := by
  have i := idx2_0 t
  have k : iblk2 V c 0 t (ix2 r e) = V c main_v12 (ix2 (⟨((grid2.coords t) 0).val * 1024 + r.val, by have : ((grid2.coords t) 0).val < 4 := ((grid2.coords t) 0).isLt; omega⟩ : Fin 4096) e) := by
    blk_ext [iblk2, i]
  rw [k, h]; rfl

theorem idx2_1 : ∀ t : Fin cfg2.N, win2_1.index t = ![((grid2.coords t) 1).val, 6, 0] := by decide +kernel

theorem iblk2_1 (c : Dev nD) (h : OutOk W (V c main_v7)) (t : Fin cfg2.N) (d : Fin 256) (e : Fin 1024) :
    @Eq EReal (iblk2 V c 1 t (ix3 0 d e)) (W.O (((grid2.coords t) 1).val * 256 + d.val) e.val) := by
  have i := idx2_1 t
  have k : iblk2 V c 1 t (ix3 0 d e) = V c main_v7 (ix3 (⟨((grid2.coords t) 1).val, by have : ((grid2.coords t) 1).val < 4 := ((grid2.coords t) 1).isLt; omega⟩ : Fin 4) (⟨6 * 256 + d.val, by omega⟩ : Fin 1792) e) := by
    blk_ext [iblk2, i]
  exact k.trans (h _ _ _)

theorem idx2_2 : ∀ t : Fin cfg2.N, win2_2.index t = ![((grid2.coords t) 0).val, ((grid2.coords t) 1).val] := by decide +kernel

theorem out2_2_eq (x0 : Vec Ideal S1024x1024 .bf16) (x1 : Vec Ideal S1x256x1024 .bf16) : out2_2 x0 x1 = k2_pay1 x0 x1 := by
  unfold out2_2
  rw [View.canon_unit_zero off2, View.ld_unit_zero off2, View.ld_unit_zero off3]

theorem arr2 (c : Dev nD) (hx : V c main_v12 = fun y : S4096x1024.Idx => W.DX (y 0) (y 1)) (hw : OutOk W (V c main_v7)) :
    (dat2 V c).arrAt 2 cfg2.N = fun y : S4096x1024.Idx => W.DM (y 0) (y 1) := by
  refine (dat2 V c).arrAt_eq_of_covers 2 _ (by decide +kernel) fun t hf y => ?_
  have e := idx2_2 t
  blk_simp
  rw [after2_2, e, out2_2_eq]
  refine (congrArg (k2_pay1 _ _) (ix2_eta (a := 1024) (b := 256) y)).trans ?_
  refine (k2_pay1_at (y 0 : Fin 1024) (y 1 : Fin 256) (iblk2_0 V W c hx t _) (iblk2_1 V W c hw t _)).trans ?_
  show _ = W.DM (((grid2.coords t) 0).val * 1024 + (y 0).val) (((grid2.coords t) 1).val * 256 + (y 1).val)
  rfl

theorem idx3_0 : ∀ t : Fin cfg3.N, win3_0.index t = ![0, 0] := by decide +kernel

theorem iblk3_0 (c : Dev nD) (h : V c main_v10 = fun y : S4096x1024.Idx => W.M (y 0) (y 1)) (t : Fin cfg3.N) (s : Fin 4096) (d : Fin 1024) :
    @Eq EReal (iblk3 V c 0 t (ix2 s d)) (W.M s.val d.val) := by
  have e := idx3_0 t
  have k : iblk3 V c 0 t (ix2 s d) = V c main_v10 (ix2 s d) := by
    blk_ext [iblk3, e]
  rw [k, h]; rfl

theorem idx3_1 : ∀ t : Fin cfg3.N, win3_1.index t = ![0, ((grid3.coords t) 1).val] := by decide +kernel

theorem iblk3_1 (c : Dev nD) (h : V c main_v12 = fun y : S4096x1024.Idx => W.DX (y 0) (y 1)) (t : Fin cfg3.N) (s : Fin 4096) (d : Fin 512) :
    @Eq EReal (iblk3 V c 1 t (ix2 s d)) (W.DX s.val (((grid3.coords t) 1).val * 512 + d.val)) := by
  have e := idx3_1 t
  have k : iblk3 V c 1 t (ix2 s d) = V c main_v12 (ix2 s (⟨((grid3.coords t) 1).val * 512 + d.val, by have : ((grid3.coords t) 1).val < 2 := ((grid3.coords t) 1).isLt; omega⟩ : Fin 1024)) := by
    blk_ext [iblk3, e]
  rw [k, h]; rfl

theorem idx3_2 : ∀ t : Fin cfg3.N, win3_2.index t = ![0, ((grid3.coords t) 1).val] := by decide +kernel

theorem out3_2_eq (x0 : Vec Ideal S4096x1024 .bf16) (x1 : Vec Ideal S4096x512 .bf16) : out3_2 x0 x1 = k3_pay1 x0 x1 := by
  unfold out3_2
  rw [View.canon_unit_zero off2, View.ld_unit_zero off2, View.ld_unit_zero off2]

theorem arr3 (c : Dev nD) (hm : V c main_v10 = fun y : S4096x1024.Idx => W.M (y 0) (y 1)) (hx : V c main_v12 = fun y : S4096x1024.Idx => W.DX (y 0) (y 1)) :
    (dat3 V c).arrAt 2 cfg3.N = fun y : S1024x1024.Idx => W.DO (y 0) (y 1) := by
  refine (dat3 V c).arrAt_eq_of_covers 2 _ (by decide +kernel) fun t hf y => ?_
  have e := idx3_2 t
  blk_simp
  rw [after3_2, e, out3_2_eq]
  refine (congrArg (k3_pay1 _ _) (ix2_eta (a := 1024) (b := 512) y)).trans ?_
  refine (k3_pay1_at (y 0 : Fin 1024) (y 1 : Fin 512) (fun s => iblk3_0 V W c hm t s _) (fun s => iblk3_1 V W c hx t s _)).trans ?_
  show _ = W.DO (0 * 1024 + (y 0).val) (((grid3.coords t) 1).val * 512 + (y 1).val)
  rw [Nat.zero_mul, Nat.zero_add]
  rfl

end Cert.Proof.Merge

end
-- ==== Proof.MergeBwd.lean ====
/-
  The backward of the merge: the gradients of the gates' logits and of the branches' products, and of the gates' bias in
  eight rows, which the host adds up.
-/
module

public import proofs.«01_k».proof.Proof.MergeFwd
public import proofs.«01_k».proof.Proof.Gen.Kernel3Ideal.Frame.Region4
public import Idealize.ShloMosaic.Lib.Pipeline.ReadBack
public import Idealize.ShloMosaic.Lib.Pipeline.ValueKit

@[expose] public section

set_option maxRecDepth 16384

noncomputable section

namespace Cert.Proof.Merge

open Cert.Kernel3Ideal Cert.Kernel3Ideal.Gen
open Idealize.ShloMosaic Idealize.ShloMosaic.TcCoe Idealize.ShloMosaic.Tactic
open Idealize.ShloMosaic.Pipeline (Dat Cfg Window)

variable (V : (c : Dev nD) → (b : Ref sig .tc) → Buf (Elt Ideal) ((c : Thread nD τ).loc b)) (W : Mix)

/-! ## Three planes of a block, stored one after another -/

theorem ix3_eta {a b c : ℕ} (y : (⟨3, ![a, b, c]⟩ : Shape).Idx) : y = ix3 (y 0 : Fin a) (y 1 : Fin b) (y 2 : Fin c) := by
  funext i; match i with
  | 0 => rfl
  | 1 => rfl
  | 2 => rfl

section Planes

variable {Val : EltTy → Type} [∀ e, Nonempty (Val e)] {e : EltTy} {R : ℕ}

theorem plane_emb (k : ℕ) (inb : ∀ a, (![k, 0, 0] : Fin 3 → ℕ) a + (![1, R, 512] : Fin 3 → ℕ) a ≤ (⟨3, ![3, R, 512]⟩ : Shape).size a)
    (y : (⟨3, ![3, R, 512]⟩ : Shape).Idx) (h : (y 0).val = k) :
    y = (Rect.unit (s := ⟨3, ![3, R, 512]⟩) ![k, 0, 0] ![1, R, 512] inb).emb (ix3 (0 : Fin 1) (y 1 : Fin R) (y 2 : Fin 512)) := by
  funext a
  apply Fin.ext
  match a with
  | 0 => exact h
  | 1 => show (y 1).val = 0 + 1 * (y 1).val; omega
  | 2 => show (y 2).val = 0 + 1 * (y 2).val; omega

theorem plane_not_mem (k : ℕ) (inb : ∀ a, (![k, 0, 0] : Fin 3 → ℕ) a + (![1, R, 512] : Fin 3 → ℕ) a ≤ (⟨3, ![3, R, 512]⟩ : Shape).size a)
    (y : (⟨3, ![3, R, 512]⟩ : Shape).Idx) (h : (y 0).val ≠ k) : y ∉ (Rect.unit (s := ⟨3, ![3, R, 512]⟩) ![k, 0, 0] ![1, R, 512] inb).set := by
  intro hm
  obtain ⟨x, hx⟩ := (Rect.unit (s := ⟨3, ![3, R, 512]⟩) ![k, 0, 0] ![1, R, 512] inb).exists_idx_of_mem hm
  apply h
  have h0 : (x 0).val < 1 := (x 0).isLt
  have e : (y 0).val = k + 1 * (x 0).val := by rw [← hx]; rfl
  omega

theorem canon_plane (k : ℕ) (inb : ∀ a, (![k, 0, 0] : Fin 3 → ℕ) a + (![1, R, 512] : Fin 3 → ℕ) a ≤ (⟨3, ![3, R, 512]⟩ : Shape).size a)
    (w : (⟨3, ![1, R, 512]⟩ : Shape).Idx → Val e) (L : List (View.Piece Val (⟨3, ![3, R, 512]⟩ : Shape) e)) (y : (⟨3, ![3, R, 512]⟩ : Shape).Idx)
    (h : (y 0).val = k) :
    View.canon ((⟨Rect.unit (s := ⟨3, ![3, R, 512]⟩) ![k, 0, 0] ![1, R, 512] inb, w⟩ : View.Piece Val (⟨3, ![3, R, 512]⟩ : Shape) e) :: L) y
      = w (ix3 (0 : Fin 1) (y 1 : Fin R) (y 2 : Fin 512)) := by
  conv_lhs => rw [plane_emb k inb y h]
  exact View.canon_cons_emb _ _ _ _

theorem canon_plane_ne (k : ℕ) (inb : ∀ a, (![k, 0, 0] : Fin 3 → ℕ) a + (![1, R, 512] : Fin 3 → ℕ) a ≤ (⟨3, ![3, R, 512]⟩ : Shape).size a)
    (w : (⟨3, ![1, R, 512]⟩ : Shape).Idx → Val e) (L : List (View.Piece Val (⟨3, ![3, R, 512]⟩ : Shape) e)) (y : (⟨3, ![3, R, 512]⟩ : Shape).Idx)
    (h : (y 0).val ≠ k) :
    View.canon ((⟨Rect.unit (s := ⟨3, ![3, R, 512]⟩) ![k, 0, 0] ![1, R, 512] inb, w⟩ : View.Piece Val (⟨3, ![3, R, 512]⟩ : Shape) e) :: L) y
      = View.canon L y :=
  View.canon_cons_of_not_mem _ _ (plane_not_mem k inb y h)

/-- The block made of three planes. -/
def slab (p0 p1 p2 : (⟨3, ![1, R, 512]⟩ : Shape).Idx → Val e) (y : (⟨3, ![3, R, 512]⟩ : Shape).Idx) : Val e :=
  if (y 0).val = 0 then p0 (ix3 (0 : Fin 1) (y 1 : Fin R) (y 2 : Fin 512))
  else if (y 0).val = 1 then p1 (ix3 (0 : Fin 1) (y 1 : Fin R) (y 2 : Fin 512)) else p2 (ix3 (0 : Fin 1) (y 1 : Fin R) (y 2 : Fin 512))

theorem canon_slab (p0 p1 p2 : (⟨3, ![1, R, 512]⟩ : Shape).Idx → Val e)
    (i0 : ∀ a, (![0, 0, 0] : Fin 3 → ℕ) a + (![1, R, 512] : Fin 3 → ℕ) a ≤ (⟨3, ![3, R, 512]⟩ : Shape).size a)
    (i1 : ∀ a, (![1, 0, 0] : Fin 3 → ℕ) a + (![1, R, 512] : Fin 3 → ℕ) a ≤ (⟨3, ![3, R, 512]⟩ : Shape).size a)
    (i2 : ∀ a, (![2, 0, 0] : Fin 3 → ℕ) a + (![1, R, 512] : Fin 3 → ℕ) a ≤ (⟨3, ![3, R, 512]⟩ : Shape).size a)
    (L : List (View.Piece Val (⟨3, ![3, R, 512]⟩ : Shape) e)) :
    View.canon ((⟨Rect.unit (s := ⟨3, ![3, R, 512]⟩) ![2, 0, 0] ![1, R, 512] i2, p2⟩ : View.Piece Val (⟨3, ![3, R, 512]⟩ : Shape) e)
      :: (⟨Rect.unit (s := ⟨3, ![3, R, 512]⟩) ![1, 0, 0] ![1, R, 512] i1, p1⟩ : View.Piece Val (⟨3, ![3, R, 512]⟩ : Shape) e)
      :: (⟨Rect.unit (s := ⟨3, ![3, R, 512]⟩) ![0, 0, 0] ![1, R, 512] i0, p0⟩ : View.Piece Val (⟨3, ![3, R, 512]⟩ : Shape) e) :: L)
      = slab p0 p1 p2 := by
  funext y
  have hy : (y 0).val < 3 := (y 0).isLt
  unfold slab
  by_cases h0 : (y 0).val = 0
  · rw [canon_plane_ne 2 i2 _ _ y (by omega), canon_plane_ne 1 i1 _ _ y (by omega), canon_plane 0 i0 _ _ y h0, if_pos h0]
  · by_cases h1 : (y 0).val = 1
    · rw [canon_plane_ne 2 i2 _ _ y (by omega), canon_plane 1 i1 _ _ y h1, if_neg h0, if_pos h1]
    · rw [canon_plane 2 i2 _ _ y (by omega), if_neg h0, if_neg h1]

end Planes

/-! ## What the call stores at a point -/

section Block

variable (x0 x1 x2 x3 : Vec Ideal S512x512 .bf16) (x4 : Vec Ideal S3x512x512 .bf16) (x5 x6 x7 : Vec Ideal S512x512 .bf16) (x8 x9 x10 : Vec Ideal S1x512 .f32)

/-- A plane of the branches' weights. -/
abbrev pl0 : Vec Ideal S1x512x512 .bf16 := View.ld x4 (Rect.unit (s := S3x512x512) ![0, 0, 0] S1x512x512.size inb_S3x512x512_S1x512x512_0_0_0)
abbrev pl1 : Vec Ideal S1x512x512 .bf16 := View.ld x4 (Rect.unit (s := S3x512x512) ![1, 0, 0] S1x512x512.size inb_S3x512x512_S1x512x512_1_0_0)
abbrev pl2 : Vec Ideal S1x512x512 .bf16 := View.ld x4 (Rect.unit (s := S3x512x512) ![2, 0, 0] S1x512x512.size inb_S3x512x512_S1x512x512_2_0_0)

def dl0 : FVec Ideal S512x512 .f32 := k4_pay8 x0 x5 x8 x1 (pl0 x4)
def dl1 : FVec Ideal S512x512 .f32 := k4_pay14 (k4_pay5 x0) x6 x9 x2 (pl1 x4)
def dl2 : FVec Ideal S512x512 .f32 := k4_pay1 (k4_pay5 x0) (k4_pay19 x7 x10) x3 (k4_pay20 (pl2 x4)) (constant S512x512 .f32 0x00000000#32)

def dlB : Vec Ideal S3x512x512 .bf16 :=
  slab (k4_pay9 x0 x5 x8 x1 (pl0 x4)) (k4_pay16 (k4_pay15 (k4_pay5 x0) x6 x9 x2 (pl1 x4)))
    (k4_pay2 (k4_pay5 x0) (k4_pay19 x7 x10) x3 (k4_pay20 (pl2 x4)) (constant S512x512 .f32 0x00000000#32))

def drB : Vec Ideal S3x512x512 .bf16 :=
  slab (k4_pay11 (k4_pay10 x0 x5 x8)) (k4_pay17 (k4_pay5 x0) (k4_pay13 x6 x9)) (k4_pay3 (k4_pay5 x0) (k4_pay19 x7 x10))

def dbB (xo : Vec Ideal S3x8x512 .f32) : Vec Ideal S3x8x512 .f32 :=
  slab (k4_pay12 (dl0 x0 x1 x4 x5 x8) (View.ld xo (Rect.unit (s := S3x8x512) ![0, 0, 0] S1x8x512.size inb_S3x8x512_S1x8x512_0_0_0)))
    (k4_pay18 (dl1 x0 x2 x4 x6 x9) (View.ld xo (Rect.unit (s := S3x8x512) ![1, 0, 0] S1x8x512.size inb_S3x8x512_S1x8x512_1_0_0)))
    (k4_pay4 (k4_pay5 x0) (k4_pay19 x7 x10) x3 (k4_pay20 (pl2 x4)) (constant S512x512 .f32 0x00000000#32)
      (View.ld xo (Rect.unit (s := S3x8x512) ![2, 0, 0] S1x8x512.size inb_S3x8x512_S1x8x512_2_0_0)))

end Block

theorem out4_A_11_eq (c : Dev nD) (i : grid4.Coords) (a0 : Memref sig .tc .vmem S512x512 .bf16) (h0 : a0.IsWhole) (a1 : Memref sig .tc .vmem S512x512 .bf16) (h1 : a1.IsWhole)
    (a2 : Memref sig .tc .vmem S512x512 .bf16) (h2 : a2.IsWhole) (a3 : Memref sig .tc .vmem S512x512 .bf16) (h3 : a3.IsWhole)
    (a4 : Memref sig .tc .vmem S3x512x512 .bf16) (h4 : a4.IsWhole) (a5 : Memref sig .tc .vmem S512x512 .bf16) (h5 : a5.IsWhole)
    (a6 : Memref sig .tc .vmem S512x512 .bf16) (h6 : a6.IsWhole) (a7 : Memref sig .tc .vmem S512x512 .bf16) (h7 : a7.IsWhole)
    (a8 : Memref sig .tc .vmem S1x512 .f32) (h8 : a8.IsWhole) (a9 : Memref sig .tc .vmem S1x512 .f32) (h9 : a9.IsWhole)
    (a10 : Memref sig .tc .vmem S1x512 .f32) (h10 : a10.IsWhole) (a11 : Memref sig .tc .vmem S3x512x512 .bf16) (h11 : a11.IsWhole)
    (a12 : Memref sig .tc .vmem S3x512x512 .bf16) (h12 : a12.IsWhole) (a13 : Memref sig .tc .vmem S3x8x512 .f32) (h13 : a13.IsWhole)
    (hc : cond4_0 i) (x0 x1 x2 x3 : Vec Ideal S512x512 .bf16) (x4 : Vec Ideal S3x512x512 .bf16) (x5 x6 x7 : Vec Ideal S512x512 .bf16) (x8 x9 x10 : Vec Ideal S1x512 .f32) :
    out4_A_11 c i a0 h0 a1 h1 a2 h2 a3 h3 a4 h4 a5 h5 a6 h6 a7 h7 a8 h8 a9 h9 a10 h10 a11 h11 a12 h12 a13 h13 hc x0 x1 x2 x3 x4 x5 x6 x7 x8 x9 x10 = dlB x0 x1 x2 x3 x4 x5 x6 x7 x8 x9 x10 := by
  unfold out4_A_11
  rw [View.read_writes_eq_canon _ _ _ (cover4_A_11 c i a0 h0 a1 h1 a2 h2 a3 h3 a4 h4 a5 h5 a6 h6 a7 h7 a8 h8 a9 h9 a10 h10 a11 h11 a12 h12 a13 h13 hc x0 x1 x2 x3 x4 x5 x6 x7 x8 x9 x10)]
  unfold kernelRun4_A
  dsimp only
  sl_unfold_words
  simp only [View.readAt_eq_ld, h0.read_unread, h1.read_unread, h2.read_unread, h3.read_unread, h4.read_unread, h5.read_unread, h6.read_unread,
    h7.read_unread, h8.read_unread, h9.read_unread, h10.read_unread, h13.read_unread, View.ld_unit_zero (S := S512x512) off2, View.ld_unit_zero (S := S1x512) off2]
  exact canon_slab _ _ _ _ _ _ _

theorem out4_A_12_eq (c : Dev nD) (i : grid4.Coords) (a0 : Memref sig .tc .vmem S512x512 .bf16) (h0 : a0.IsWhole) (a1 : Memref sig .tc .vmem S512x512 .bf16) (h1 : a1.IsWhole)
    (a2 : Memref sig .tc .vmem S512x512 .bf16) (h2 : a2.IsWhole) (a3 : Memref sig .tc .vmem S512x512 .bf16) (h3 : a3.IsWhole)
    (a4 : Memref sig .tc .vmem S3x512x512 .bf16) (h4 : a4.IsWhole) (a5 : Memref sig .tc .vmem S512x512 .bf16) (h5 : a5.IsWhole)
    (a6 : Memref sig .tc .vmem S512x512 .bf16) (h6 : a6.IsWhole) (a7 : Memref sig .tc .vmem S512x512 .bf16) (h7 : a7.IsWhole)
    (a8 : Memref sig .tc .vmem S1x512 .f32) (h8 : a8.IsWhole) (a9 : Memref sig .tc .vmem S1x512 .f32) (h9 : a9.IsWhole)
    (a10 : Memref sig .tc .vmem S1x512 .f32) (h10 : a10.IsWhole) (a11 : Memref sig .tc .vmem S3x512x512 .bf16) (h11 : a11.IsWhole)
    (a12 : Memref sig .tc .vmem S3x512x512 .bf16) (h12 : a12.IsWhole) (a13 : Memref sig .tc .vmem S3x8x512 .f32) (h13 : a13.IsWhole)
    (hc : cond4_0 i) (x0 x1 x2 x3 : Vec Ideal S512x512 .bf16) (x4 : Vec Ideal S3x512x512 .bf16) (x5 x6 x7 : Vec Ideal S512x512 .bf16) (x8 x9 x10 : Vec Ideal S1x512 .f32) :
    out4_A_12 c i a0 h0 a1 h1 a2 h2 a3 h3 a4 h4 a5 h5 a6 h6 a7 h7 a8 h8 a9 h9 a10 h10 a11 h11 a12 h12 a13 h13 hc x0 x1 x2 x3 x4 x5 x6 x7 x8 x9 x10 = drB x0 x5 x6 x7 x8 x9 x10 := by
  unfold out4_A_12
  rw [View.read_writes_eq_canon _ _ _ (cover4_A_12 c i a0 h0 a1 h1 a2 h2 a3 h3 a4 h4 a5 h5 a6 h6 a7 h7 a8 h8 a9 h9 a10 h10 a11 h11 a12 h12 a13 h13 hc x0 x1 x2 x3 x4 x5 x6 x7 x8 x9 x10)]
  unfold kernelRun4_A
  dsimp only
  sl_unfold_words
  simp only [View.readAt_eq_ld, h0.read_unread, h1.read_unread, h2.read_unread, h3.read_unread, h4.read_unread, h5.read_unread, h6.read_unread,
    h7.read_unread, h8.read_unread, h9.read_unread, h10.read_unread, h13.read_unread, View.ld_unit_zero (S := S512x512) off2, View.ld_unit_zero (S := S1x512) off2]
  exact canon_slab _ _ _ _ _ _ _

theorem out4_A_13_eq (c : Dev nD) (i : grid4.Coords) (a0 : Memref sig .tc .vmem S512x512 .bf16) (h0 : a0.IsWhole) (a1 : Memref sig .tc .vmem S512x512 .bf16) (h1 : a1.IsWhole)
    (a2 : Memref sig .tc .vmem S512x512 .bf16) (h2 : a2.IsWhole) (a3 : Memref sig .tc .vmem S512x512 .bf16) (h3 : a3.IsWhole)
    (a4 : Memref sig .tc .vmem S3x512x512 .bf16) (h4 : a4.IsWhole) (a5 : Memref sig .tc .vmem S512x512 .bf16) (h5 : a5.IsWhole)
    (a6 : Memref sig .tc .vmem S512x512 .bf16) (h6 : a6.IsWhole) (a7 : Memref sig .tc .vmem S512x512 .bf16) (h7 : a7.IsWhole)
    (a8 : Memref sig .tc .vmem S1x512 .f32) (h8 : a8.IsWhole) (a9 : Memref sig .tc .vmem S1x512 .f32) (h9 : a9.IsWhole)
    (a10 : Memref sig .tc .vmem S1x512 .f32) (h10 : a10.IsWhole) (a11 : Memref sig .tc .vmem S3x512x512 .bf16) (h11 : a11.IsWhole)
    (a12 : Memref sig .tc .vmem S3x512x512 .bf16) (h12 : a12.IsWhole) (a13 : Memref sig .tc .vmem S3x8x512 .f32) (h13 : a13.IsWhole)
    (hc : cond4_0 i) (x0 x1 x2 x3 : Vec Ideal S512x512 .bf16) (x4 : Vec Ideal S3x512x512 .bf16) (x5 x6 x7 : Vec Ideal S512x512 .bf16) (x8 x9 x10 : Vec Ideal S1x512 .f32) :
    out4_A_13 c i a0 h0 a1 h1 a2 h2 a3 h3 a4 h4 a5 h5 a6 h6 a7 h7 a8 h8 a9 h9 a10 h10 a11 h11 a12 h12 a13 h13 hc x0 x1 x2 x3 x4 x5 x6 x7 x8 x9 x10 = dbB x0 x1 x2 x3 x4 x5 x6 x7 x8 x9 x10 (k4_pay6 (F := Ideal)) := by
  unfold out4_A_13
  rw [View.read_writes_eq_canon _ _ _ (cover4_A_13 c i a0 h0 a1 h1 a2 h2 a3 h3 a4 h4 a5 h5 a6 h6 a7 h7 a8 h8 a9 h9 a10 h10 a11 h11 a12 h12 a13 h13 hc x0 x1 x2 x3 x4 x5 x6 x7 x8 x9 x10)]
  unfold kernelRun4_A
  dsimp only
  sl_unfold_words
  simp only [View.readAt_eq_ld, h0.read_unread, h1.read_unread, h2.read_unread, h3.read_unread, h4.read_unread, h5.read_unread, h6.read_unread,
    h7.read_unread, h8.read_unread, h9.read_unread, h10.read_unread, h13.read_unread, View.ld_unit_zero (S := S512x512) off2, View.ld_unit_zero (S := S1x512) off2]
  simp (disch := decide) only [View.readCov_skip, View.readCov_fill]
  exact canon_slab _ _ _ _ _ _ _

theorem out4_B_11_eq (c : Dev nD) (i : grid4.Coords) (a0 : Memref sig .tc .vmem S512x512 .bf16) (h0 : a0.IsWhole) (a1 : Memref sig .tc .vmem S512x512 .bf16) (h1 : a1.IsWhole)
    (a2 : Memref sig .tc .vmem S512x512 .bf16) (h2 : a2.IsWhole) (a3 : Memref sig .tc .vmem S512x512 .bf16) (h3 : a3.IsWhole)
    (a4 : Memref sig .tc .vmem S3x512x512 .bf16) (h4 : a4.IsWhole) (a5 : Memref sig .tc .vmem S512x512 .bf16) (h5 : a5.IsWhole)
    (a6 : Memref sig .tc .vmem S512x512 .bf16) (h6 : a6.IsWhole) (a7 : Memref sig .tc .vmem S512x512 .bf16) (h7 : a7.IsWhole)
    (a8 : Memref sig .tc .vmem S1x512 .f32) (h8 : a8.IsWhole) (a9 : Memref sig .tc .vmem S1x512 .f32) (h9 : a9.IsWhole)
    (a10 : Memref sig .tc .vmem S1x512 .f32) (h10 : a10.IsWhole) (a11 : Memref sig .tc .vmem S3x512x512 .bf16) (h11 : a11.IsWhole)
    (a12 : Memref sig .tc .vmem S3x512x512 .bf16) (h12 : a12.IsWhole) (a13 : Memref sig .tc .vmem S3x8x512 .f32) (h13 : a13.IsWhole)
    (hc : ¬cond4_0 i) (x0 x1 x2 x3 : Vec Ideal S512x512 .bf16) (x4 : Vec Ideal S3x512x512 .bf16) (x5 x6 x7 : Vec Ideal S512x512 .bf16) (x8 x9 x10 : Vec Ideal S1x512 .f32) (xo : Vec Ideal S3x8x512 .f32) :
    out4_B_11 c i a0 h0 a1 h1 a2 h2 a3 h3 a4 h4 a5 h5 a6 h6 a7 h7 a8 h8 a9 h9 a10 h10 a11 h11 a12 h12 a13 h13 hc x0 x1 x2 x3 x4 x5 x6 x7 x8 x9 x10 xo = dlB x0 x1 x2 x3 x4 x5 x6 x7 x8 x9 x10 := by
  unfold out4_B_11
  rw [View.read_writes_eq_canon _ _ _ (cover4_B_11 c i a0 h0 a1 h1 a2 h2 a3 h3 a4 h4 a5 h5 a6 h6 a7 h7 a8 h8 a9 h9 a10 h10 a11 h11 a12 h12 a13 h13 hc x0 x1 x2 x3 x4 x5 x6 x7 x8 x9 x10 xo)]
  unfold kernelRun4_B
  dsimp only
  sl_unfold_words
  simp only [View.readAt_eq_ld, h0.read_unread, h1.read_unread, h2.read_unread, h3.read_unread, h4.read_unread, h5.read_unread, h6.read_unread,
    h7.read_unread, h8.read_unread, h9.read_unread, h10.read_unread, h13.read_unread, View.ld_unit_zero (S := S512x512) off2, View.ld_unit_zero (S := S1x512) off2]
  exact canon_slab _ _ _ _ _ _ _

theorem out4_B_12_eq (c : Dev nD) (i : grid4.Coords) (a0 : Memref sig .tc .vmem S512x512 .bf16) (h0 : a0.IsWhole) (a1 : Memref sig .tc .vmem S512x512 .bf16) (h1 : a1.IsWhole)
    (a2 : Memref sig .tc .vmem S512x512 .bf16) (h2 : a2.IsWhole) (a3 : Memref sig .tc .vmem S512x512 .bf16) (h3 : a3.IsWhole)
    (a4 : Memref sig .tc .vmem S3x512x512 .bf16) (h4 : a4.IsWhole) (a5 : Memref sig .tc .vmem S512x512 .bf16) (h5 : a5.IsWhole)
    (a6 : Memref sig .tc .vmem S512x512 .bf16) (h6 : a6.IsWhole) (a7 : Memref sig .tc .vmem S512x512 .bf16) (h7 : a7.IsWhole)
    (a8 : Memref sig .tc .vmem S1x512 .f32) (h8 : a8.IsWhole) (a9 : Memref sig .tc .vmem S1x512 .f32) (h9 : a9.IsWhole)
    (a10 : Memref sig .tc .vmem S1x512 .f32) (h10 : a10.IsWhole) (a11 : Memref sig .tc .vmem S3x512x512 .bf16) (h11 : a11.IsWhole)
    (a12 : Memref sig .tc .vmem S3x512x512 .bf16) (h12 : a12.IsWhole) (a13 : Memref sig .tc .vmem S3x8x512 .f32) (h13 : a13.IsWhole)
    (hc : ¬cond4_0 i) (x0 x1 x2 x3 : Vec Ideal S512x512 .bf16) (x4 : Vec Ideal S3x512x512 .bf16) (x5 x6 x7 : Vec Ideal S512x512 .bf16) (x8 x9 x10 : Vec Ideal S1x512 .f32) (xo : Vec Ideal S3x8x512 .f32) :
    out4_B_12 c i a0 h0 a1 h1 a2 h2 a3 h3 a4 h4 a5 h5 a6 h6 a7 h7 a8 h8 a9 h9 a10 h10 a11 h11 a12 h12 a13 h13 hc x0 x1 x2 x3 x4 x5 x6 x7 x8 x9 x10 xo = drB x0 x5 x6 x7 x8 x9 x10 := by
  unfold out4_B_12
  rw [View.read_writes_eq_canon _ _ _ (cover4_B_12 c i a0 h0 a1 h1 a2 h2 a3 h3 a4 h4 a5 h5 a6 h6 a7 h7 a8 h8 a9 h9 a10 h10 a11 h11 a12 h12 a13 h13 hc x0 x1 x2 x3 x4 x5 x6 x7 x8 x9 x10 xo)]
  unfold kernelRun4_B
  dsimp only
  sl_unfold_words
  simp only [View.readAt_eq_ld, h0.read_unread, h1.read_unread, h2.read_unread, h3.read_unread, h4.read_unread, h5.read_unread, h6.read_unread,
    h7.read_unread, h8.read_unread, h9.read_unread, h10.read_unread, h13.read_unread, View.ld_unit_zero (S := S512x512) off2, View.ld_unit_zero (S := S1x512) off2]
  exact canon_slab _ _ _ _ _ _ _

theorem out4_B_13_eq (c : Dev nD) (i : grid4.Coords) (a0 : Memref sig .tc .vmem S512x512 .bf16) (h0 : a0.IsWhole) (a1 : Memref sig .tc .vmem S512x512 .bf16) (h1 : a1.IsWhole)
    (a2 : Memref sig .tc .vmem S512x512 .bf16) (h2 : a2.IsWhole) (a3 : Memref sig .tc .vmem S512x512 .bf16) (h3 : a3.IsWhole)
    (a4 : Memref sig .tc .vmem S3x512x512 .bf16) (h4 : a4.IsWhole) (a5 : Memref sig .tc .vmem S512x512 .bf16) (h5 : a5.IsWhole)
    (a6 : Memref sig .tc .vmem S512x512 .bf16) (h6 : a6.IsWhole) (a7 : Memref sig .tc .vmem S512x512 .bf16) (h7 : a7.IsWhole)
    (a8 : Memref sig .tc .vmem S1x512 .f32) (h8 : a8.IsWhole) (a9 : Memref sig .tc .vmem S1x512 .f32) (h9 : a9.IsWhole)
    (a10 : Memref sig .tc .vmem S1x512 .f32) (h10 : a10.IsWhole) (a11 : Memref sig .tc .vmem S3x512x512 .bf16) (h11 : a11.IsWhole)
    (a12 : Memref sig .tc .vmem S3x512x512 .bf16) (h12 : a12.IsWhole) (a13 : Memref sig .tc .vmem S3x8x512 .f32) (h13 : a13.IsWhole)
    (hc : ¬cond4_0 i) (x0 x1 x2 x3 : Vec Ideal S512x512 .bf16) (x4 : Vec Ideal S3x512x512 .bf16) (x5 x6 x7 : Vec Ideal S512x512 .bf16) (x8 x9 x10 : Vec Ideal S1x512 .f32) (xo : Vec Ideal S3x8x512 .f32) :
    out4_B_13 c i a0 h0 a1 h1 a2 h2 a3 h3 a4 h4 a5 h5 a6 h6 a7 h7 a8 h8 a9 h9 a10 h10 a11 h11 a12 h12 a13 h13 hc x0 x1 x2 x3 x4 x5 x6 x7 x8 x9 x10 xo = dbB x0 x1 x2 x3 x4 x5 x6 x7 x8 x9 x10 xo := by
  unfold out4_B_13
  rw [View.read_writes_eq_canon _ _ _ (cover4_B_13 c i a0 h0 a1 h1 a2 h2 a3 h3 a4 h4 a5 h5 a6 h6 a7 h7 a8 h8 a9 h9 a10 h10 a11 h11 a12 h12 a13 h13 hc x0 x1 x2 x3 x4 x5 x6 x7 x8 x9 x10 xo)]
  unfold kernelRun4_B
  dsimp only
  sl_unfold_words
  simp only [View.readAt_eq_ld, h0.read_unread, h1.read_unread, h2.read_unread, h3.read_unread, h4.read_unread, h5.read_unread, h6.read_unread,
    h7.read_unread, h8.read_unread, h9.read_unread, h10.read_unread, h13.read_unread, View.ld_unit_zero (S := S512x512) off2, View.ld_unit_zero (S := S1x512) off2]
  exact canon_slab _ _ _ _ _ _ _

/-! ## The blocks the call reads -/

theorem idx4_0 : ∀ t : Fin cfg4.N, win4_0.index t = ![t.val % 8, t.val / 8] := by decide +kernel

theorem iblk4_0 (c : Dev nD) (h : V c main_v13 = fun y : S4096x1024.Idx => W.DM (y 0) (y 1)) (t : Fin cfg4.N) (r d : Fin 512) :
    @Eq EReal (iblk4 V c 0 t (ix2 r d)) (W.DM (t.val % 8 * 512 + r.val) (t.val / 8 * 512 + d.val)) := by
  have e := idx4_0 t
  have k' : iblk4 V c 0 t (ix2 r d) = V c main_v13 (ix2 (⟨t.val % 8 * 512 + r.val, by have : t.val < 16 := t.isLt; omega⟩ : Fin 4096) (⟨t.val / 8 * 512 + d.val, by have : t.val < 16 := t.isLt; omega⟩ : Fin 1024)) := by
    blk_ext [iblk4, e]
  rw [k', h]; rfl

theorem idx4_1 : ∀ t : Fin cfg4.N, win4_1.index t = ![t.val % 8, 0] := by decide +kernel

theorem iblk4_1 (c : Dev nD) (h : V c main_arg1 = fun y : S4096x512.Idx => W.Y 0 (y 0) (y 1)) (t : Fin cfg4.N) (r w : Fin 512) :
    @Eq EReal (iblk4 V c 1 t (ix2 r w)) (W.Y 0 (t.val % 8 * 512 + r.val) w.val) := by
  have e := idx4_1 t
  have k' : iblk4 V c 1 t (ix2 r w) = V c main_arg1 (ix2 (⟨t.val % 8 * 512 + r.val, by have : t.val < 16 := t.isLt; omega⟩ : Fin 4096) w) := by
    blk_ext [iblk4, e]
  rw [k', h]; rfl

theorem idx4_2 : ∀ t : Fin cfg4.N, win4_2.index t = ![t.val % 8, 0] := by decide +kernel

theorem iblk4_2 (c : Dev nD) (h : V c main_arg2 = fun y : S4096x512.Idx => W.Y 1 (y 0) (y 1)) (t : Fin cfg4.N) (r w : Fin 512) :
    @Eq EReal (iblk4 V c 2 t (ix2 r w)) (W.Y 1 (t.val % 8 * 512 + r.val) w.val) := by
  have e := idx4_2 t
  have k' : iblk4 V c 2 t (ix2 r w) = V c main_arg2 (ix2 (⟨t.val % 8 * 512 + r.val, by have : t.val < 16 := t.isLt; omega⟩ : Fin 4096) w) := by
    blk_ext [iblk4, e]
  rw [k', h]; rfl

theorem idx4_3 : ∀ t : Fin cfg4.N, win4_3.index t = ![t.val % 8, 0] := by decide +kernel

theorem iblk4_3 (c : Dev nD) (h : V c main_arg3 = fun y : S4096x512.Idx => W.Y 2 (y 0) (y 1)) (t : Fin cfg4.N) (r w : Fin 512) :
    @Eq EReal (iblk4 V c 3 t (ix2 r w)) (W.Y 2 (t.val % 8 * 512 + r.val) w.val) := by
  have e := idx4_3 t
  have k' : iblk4 V c 3 t (ix2 r w) = V c main_arg3 (ix2 (⟨t.val % 8 * 512 + r.val, by have : t.val < 16 := t.isLt; omega⟩ : Fin 4096) w) := by
    blk_ext [iblk4, e]
  rw [k', h]; rfl

theorem idx4_4 : ∀ t : Fin cfg4.N, win4_4.index t = ![0, 0, t.val / 8] := by decide +kernel

theorem iblk4_4 (c : Dev nD) (h : V c main_v8 = fun y : S3x512x1024.Idx => W.P (y 0) (y 1) (y 2)) (t : Fin cfg4.N) (k : Fin 3) (w d : Fin 512) :
    @Eq EReal (iblk4 V c 4 t (ix3 k w d)) (W.P k.val w.val (t.val / 8 * 512 + d.val)) := by
  have e := idx4_4 t
  have k' : iblk4 V c 4 t (ix3 k w d) = V c main_v8 (ix3 k w (⟨t.val / 8 * 512 + d.val, by have : t.val < 16 := t.isLt; omega⟩ : Fin 1024)) := by
    blk_ext [iblk4, e]
  rw [k', h]; rfl

theorem idx4_5 : ∀ t : Fin cfg4.N, win4_5.index t = ![t.val % 8, 0 + t.val / 8] := by decide +kernel

theorem iblk4_5 (c : Dev nD) (h : V c main_arg4 = fun y : S4096x3072.Idx => W.L (y 0) (y 1)) (t : Fin cfg4.N) (r d : Fin 512) :
    @Eq EReal (iblk4 V c 5 t (ix2 r d)) (W.L (t.val % 8 * 512 + r.val) (0 * 1024 + (t.val / 8 * 512 + d.val))) := by
  have e := idx4_5 t
  have k' : iblk4 V c 5 t (ix2 r d) = V c main_arg4 (ix2 (⟨t.val % 8 * 512 + r.val, by have : t.val < 16 := t.isLt; omega⟩ : Fin 4096) (⟨0 * 1024 + (t.val / 8 * 512 + d.val), by have : t.val < 16 := t.isLt; omega⟩ : Fin 3072)) := by
    blk_ext [iblk4, e]
  rw [k', h]; rfl

theorem idx4_6 : ∀ t : Fin cfg4.N, win4_6.index t = ![t.val % 8, 2 + t.val / 8] := by decide +kernel

theorem iblk4_6 (c : Dev nD) (h : V c main_arg4 = fun y : S4096x3072.Idx => W.L (y 0) (y 1)) (t : Fin cfg4.N) (r d : Fin 512) :
    @Eq EReal (iblk4 V c 6 t (ix2 r d)) (W.L (t.val % 8 * 512 + r.val) (1 * 1024 + (t.val / 8 * 512 + d.val))) := by
  have e := idx4_6 t
  have k' : iblk4 V c 6 t (ix2 r d) = V c main_arg4 (ix2 (⟨t.val % 8 * 512 + r.val, by have : t.val < 16 := t.isLt; omega⟩ : Fin 4096) (⟨1 * 1024 + (t.val / 8 * 512 + d.val), by have : t.val < 16 := t.isLt; omega⟩ : Fin 3072)) := by
    blk_ext [iblk4, e]
  rw [k', h]; rfl

theorem idx4_7 : ∀ t : Fin cfg4.N, win4_7.index t = ![t.val % 8, 4 + t.val / 8] := by decide +kernel

theorem iblk4_7 (c : Dev nD) (h : V c main_arg4 = fun y : S4096x3072.Idx => W.L (y 0) (y 1)) (t : Fin cfg4.N) (r d : Fin 512) :
    @Eq EReal (iblk4 V c 7 t (ix2 r d)) (W.L (t.val % 8 * 512 + r.val) (2 * 1024 + (t.val / 8 * 512 + d.val))) := by
  have e := idx4_7 t
  have k' : iblk4 V c 7 t (ix2 r d) = V c main_arg4 (ix2 (⟨t.val % 8 * 512 + r.val, by have : t.val < 16 := t.isLt; omega⟩ : Fin 4096) (⟨2 * 1024 + (t.val / 8 * 512 + d.val), by have : t.val < 16 := t.isLt; omega⟩ : Fin 3072)) := by
    blk_ext [iblk4, e]
  rw [k', h]; rfl

theorem idx4_8 : ∀ t : Fin cfg4.N, win4_8.index t = ![0, 0 + t.val / 8] := by decide +kernel

theorem iblk4_8 (c : Dev nD) (h : V c main_v15 = fun y : S1x3072.Idx => W.B (y 1)) (t : Fin cfg4.N) (d : Fin 512) :
    @Eq EReal (iblk4 V c 8 t (ix2 0 d)) (W.B (0 * 1024 + (t.val / 8 * 512 + d.val))) := by
  have e := idx4_8 t
  have k' : iblk4 V c 8 t (ix2 0 d) = V c main_v15 (ix2 0 (⟨0 * 1024 + (t.val / 8 * 512 + d.val), by have : t.val < 16 := t.isLt; omega⟩ : Fin 3072)) := by
    blk_ext [iblk4, e]
  rw [k', h]; rfl

theorem idx4_9 : ∀ t : Fin cfg4.N, win4_9.index t = ![0, 2 + t.val / 8] := by decide +kernel

theorem iblk4_9 (c : Dev nD) (h : V c main_v15 = fun y : S1x3072.Idx => W.B (y 1)) (t : Fin cfg4.N) (d : Fin 512) :
    @Eq EReal (iblk4 V c 9 t (ix2 0 d)) (W.B (1 * 1024 + (t.val / 8 * 512 + d.val))) := by
  have e := idx4_9 t
  have k' : iblk4 V c 9 t (ix2 0 d) = V c main_v15 (ix2 0 (⟨1 * 1024 + (t.val / 8 * 512 + d.val), by have : t.val < 16 := t.isLt; omega⟩ : Fin 3072)) := by
    blk_ext [iblk4, e]
  rw [k', h]; rfl

theorem idx4_10 : ∀ t : Fin cfg4.N, win4_10.index t = ![0, 4 + t.val / 8] := by decide +kernel

theorem iblk4_10 (c : Dev nD) (h : V c main_v15 = fun y : S1x3072.Idx => W.B (y 1)) (t : Fin cfg4.N) (d : Fin 512) :
    @Eq EReal (iblk4 V c 10 t (ix2 0 d)) (W.B (2 * 1024 + (t.val / 8 * 512 + d.val))) := by
  have e := idx4_10 t
  have k' : iblk4 V c 10 t (ix2 0 d) = V c main_v15 (ix2 0 (⟨2 * 1024 + (t.val / 8 * 512 + d.val), by have : t.val < 16 := t.isLt; omega⟩ : Fin 3072)) := by
    blk_ext [iblk4, e]
  rw [k', h]; rfl

theorem idx4_11 : ∀ t : Fin cfg4.N, win4_11.index t = ![0, t.val % 8, t.val / 8] := by decide +kernel
theorem idx4_12 : ∀ t : Fin cfg4.N, win4_12.index t = ![0, t.val % 8, t.val / 8] := by decide +kernel
theorem idx4_13 : ∀ t : Fin cfg4.N, win4_13.index t = ![0, 0, t.val / 8] := by decide +kernel

theorem plane8 (x : Vec Ideal S3x8x512 .f32) (k : Fin 3) (inb : ∀ a, (![k.val, 0, 0] : Fin 3 → ℕ) a + S1x8x512.size a ≤ S3x8x512.size a) (r : Fin 8) (d : Fin 512) :
    View.ld x (Rect.unit (s := S3x8x512) ![k.val, 0, 0] S1x8x512.size inb) (ix3 0 r d) = x (ix3 k r d) :=
  View.ld_unit_apply_of _ _ _ _ _ _ fun a => by
    match a with
    | 0 => rfl
    | 1 => exact (Nat.zero_add _).symm
    | 2 => exact (Nat.zero_add _).symm

/-! ## The call's three arrays -/

variable (c : Dev nD) (i : Ins V W c) (hb : V c main_v15 = fun y : S1x3072.Idx => W.B (y 1)) (hm : V c main_v13 = fun y : S4096x1024.Idx => W.DM (y 0) (y 1))

/-- The blocks that the call reads at a point. -/
def dlAt (t : Fin cfg4.N) : Vec Ideal S3x512x512 .bf16 := dlB (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t)
def drAt (t : Fin cfg4.N) : Vec Ideal S3x512x512 .bf16 := drB (iblk4 V c 0 t) (iblk4 V c 5 t) (iblk4 V c 6 t) (iblk4 V c 7 t) (iblk4 V c 8 t) (iblk4 V c 9 t) (iblk4 V c 10 t)
def dbAt (t : Fin cfg4.N) (xo : Vec Ideal S3x8x512 .f32) : Vec Ideal S3x8x512 .f32 := dbB (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) xo

include i hb hm

theorem dl0_at (t : Fin cfg4.N) (r d : Fin 512) :
    @Eq EReal (dl0 (iblk4 V c 0 t) (iblk4 V c 1 t) (iblk4 V c 4 t) (iblk4 V c 5 t) (iblk4 V c 8 t) (ix2 r d)) (W.DL 0 (t.val % 8 * 512 + r.val) (t.val / 8 * 512 + d.val)) :=
  k4_pay8_at r d (iblk4_0 V W c hm t r d) (iblk4_5 V W c i.l t r d) (iblk4_8 V W c hb t d) (iblk4_1 V W c i.y0 t r)
    fun w => (plane _ 0 _ w d).trans (iblk4_4 V W c i.p t 0 w d)

theorem dl1_at (t : Fin cfg4.N) (r d : Fin 512) :
    @Eq EReal (dl1 (iblk4 V c 0 t) (iblk4 V c 2 t) (iblk4 V c 4 t) (iblk4 V c 6 t) (iblk4 V c 9 t) (ix2 r d)) (W.DL 1 (t.val % 8 * 512 + r.val) (t.val / 8 * 512 + d.val)) :=
  k4_pay14_at r d ((k4_pay5_eq _ r d).trans (iblk4_0 V W c hm t r d)) (iblk4_6 V W c i.l t r d) (iblk4_9 V W c hb t d) (iblk4_2 V W c i.y1 t r)
    fun w => (plane _ 1 _ w d).trans (iblk4_4 V W c i.p t 1 w d)

theorem dl2_at (t : Fin cfg4.N) (r d : Fin 512) :
    @Eq EReal (dl2 (iblk4 V c 0 t) (iblk4 V c 3 t) (iblk4 V c 4 t) (iblk4 V c 7 t) (iblk4 V c 10 t) (ix2 r d)) (W.DL 2 (t.val % 8 * 512 + r.val) (t.val / 8 * 512 + d.val)) :=
  k4_pay1_at r d ((k4_pay5_eq _ r d).trans (iblk4_0 V W c hm t r d)) (k4_pay19_at r d (iblk4_7 V W c i.l t r d) (iblk4_10 V W c hb t d)) (iblk4_3 V W c i.y2 t r)
    fun w => (plane _ 2 _ w d).trans (iblk4_4 V W c i.p t 2 w d)

theorem dlAt_at (t : Fin cfg4.N) (k : Fin 3) (r d : Fin 512) :
    @Eq EReal (dlAt V c t (ix3 k r d)) (W.DL k.val (t.val % 8 * 512 + r.val) (t.val / 8 * 512 + d.val)) := by
  match k with
  | 0 => exact (k4_pay9_at _ _ _ _ _ r d).trans (dl0_at V W c i hb hm t r d)
  | 1 => exact (k4_pay16_at _ _ _ _ _ r d).trans (dl1_at V W c i hb hm t r d)
  | 2 => exact (k4_pay2_at _ _ _ _ _ r d).trans (dl2_at V W c i hb hm t r d)

theorem drAt_at (t : Fin cfg4.N) (k : Fin 3) (r d : Fin 512) :
    @Eq EReal (drAt V c t (ix3 k r d)) (W.DR k.val (t.val % 8 * 512 + r.val) (t.val / 8 * 512 + d.val)) := by
  have m := (k4_pay5_eq _ r d).trans (iblk4_0 V W c hm t r d)
  match k with
  | 0 => exact k4_pay11_at r d (iblk4_0 V W c hm t r d) (iblk4_5 V W c i.l t r d) (iblk4_8 V W c hb t d)
  | 1 => exact (k4_pay17_at _ _ r d).trans (congrArg₂ (· * · : EReal → EReal → EReal) m (k4_pay13_at r d (iblk4_6 V W c i.l t r d) (iblk4_9 V W c hb t d)))
  | 2 => exact (k4_pay17_at _ _ r d).trans (congrArg₂ (· * · : EReal → EReal → EReal) m (k4_pay19_at r d (iblk4_7 V W c i.l t r d) (iblk4_10 V W c hb t d)))

theorem dbAt_at (t : Fin cfg4.N) (xo : Vec Ideal S3x8x512 .f32) (k : Fin 3) (r : Fin 8) (d : Fin 512) {a : EReal} (ha : xo (ix3 k r d) = a) :
    @Eq EReal (dbAt V c t xo (ix3 k r d)) (a + ptB (fun s => W.DL k.val s (t.val / 8 * 512 + d.val)) (t.val % 8) r.val) := by
  match k with
  | 0 => exact k4_pay12_at (F := fun n => W.DL 0 (t.val % 8 * 512 + n) (t.val / 8 * 512 + d.val)) r d (fun s => dl0_at V W c i hb hm t s d) ((plane8 _ 0 _ r d).trans ha)
  | 1 => exact k4_pay12_at (F := fun n => W.DL 1 (t.val % 8 * 512 + n) (t.val / 8 * 512 + d.val)) r d (fun s => dl1_at V W c i hb hm t s d) ((plane8 _ 1 _ r d).trans ha)
  | 2 => exact k4_pay12_at (F := fun n => W.DL 2 (t.val % 8 * 512 + n) (t.val / 8 * 512 + d.val)) r d (fun s => dl2_at V W c i hb hm t s d) ((plane8 _ 2 _ r d).trans ha)

omit i hb hm in
theorem outs4_1 (t : Fin cfg4.N) : (outsAt4 V c t.val t.isLt).1 = dlAt V c t := by
  by_cases h0 : t.val % 8 = 0
  · rw [outsAt4_A V c t h0]; dsimp only; rw [out4_A_11_eq]; rfl
  · rw [outsAt4_B V c t h0]; dsimp only; rw [out4_B_11_eq]; rfl

omit i hb hm in
theorem outs4_2 (t : Fin cfg4.N) : (outsAt4 V c t.val t.isLt).2.1 = drAt V c t := by
  by_cases h0 : t.val % 8 = 0
  · rw [outsAt4_A V c t h0]; dsimp only; rw [out4_A_12_eq]; rfl
  · rw [outsAt4_B V c t h0]; dsimp only; rw [out4_B_12_eq]; rfl

theorem acc_at (k : Fin 3) (r : Fin 8) (d : Fin 512) : ∀ (n : ℕ) (hn : n < cfg4.N),
    @Eq EReal ((outsAt4 V c n hn).2.2 (ix3 k r d)) (∑ m ∈ Finset.range (n % 8 + 1), ptB (fun s => W.DL k.val s (n / 8 * 512 + d.val)) m r.val) := by
  intro n
  induction n with
  | zero =>
    intro hn
    rw [outsAt4_A V c ⟨0, hn⟩ rfl]
    dsimp only
    rw [out4_A_13_eq]
    refine (dbAt_at V W c i hb hm ⟨0, hn⟩ (k4_pay6 (F := Ideal)) k r d (k4_pay6_at k r d)).trans ?_
    rw [Finset.sum_range_one, zero_add]; rfl
  | succ n ih =>
    intro hn
    have hN : cfg4.N = 16 := N_4
    by_cases h0 : (n + 1) % 8 = 0
    · rw [outsAt4_A V c ⟨n + 1, hn⟩ h0]
      dsimp only
      rw [out4_A_13_eq]
      refine (dbAt_at V W c i hb hm ⟨n + 1, hn⟩ (k4_pay6 (F := Ideal)) k r d (k4_pay6_at k r d)).trans ?_
      dsimp only
      rw [h0, Finset.sum_range_one, zero_add]
    · rw [outsAt4_B V c ⟨n + 1, hn⟩ h0]
      dsimp only
      rw [out4_B_13_eq]
      refine (dbAt_at V W c i hb hm ⟨n + 1, hn⟩ _ k r d (ih (by omega))).trans ?_
      dsimp only
      rw [Finset.sum_range_succ _ ((n + 1) % 8), show n % 8 + 1 = (n + 1) % 8 by omega, show n / 8 = (n + 1) / 8 by omega]

theorem arr4_11 : (dat4 V c).arrAt 11 cfg4.N = fun y : S3x4096x1024.Idx => W.DL (y 0) (y 1) (y 2) := by
  refine (dat4 V c).arrAt_eq_of_covers 11 _ (by decide +kernel) fun t hf y => ?_
  have e := idx4_11 t
  blk_simp
  rw [after4_11, e, outs4_1]
  refine (congrArg (dlAt V c t) (ix3_eta (a := 3) (b := 512) (c := 512) y)).trans ?_
  refine (dlAt_at V W c i hb hm t (y 0 : Fin 3) (y 1 : Fin 512) (y 2 : Fin 512)).trans ?_
  show _ = W.DL (0 * 3 + (y 0).val) (t.val % 8 * 512 + (y 1).val) (t.val / 8 * 512 + (y 2).val)
  rw [Nat.zero_mul, Nat.zero_add]

theorem arr4_12 : (dat4 V c).arrAt 12 cfg4.N = fun y : S3x4096x1024.Idx => W.DR (y 0) (y 1) (y 2) := by
  refine (dat4 V c).arrAt_eq_of_covers 12 _ (by decide +kernel) fun t hf y => ?_
  have e := idx4_12 t
  blk_simp
  rw [after4_12, e, outs4_2]
  refine (congrArg (drAt V c t) (ix3_eta (a := 3) (b := 512) (c := 512) y)).trans ?_
  refine (drAt_at V W c i hb hm t (y 0 : Fin 3) (y 1 : Fin 512) (y 2 : Fin 512)).trans ?_
  show _ = W.DR (0 * 3 + (y 0).val) (t.val % 8 * 512 + (y 1).val) (t.val / 8 * 512 + (y 2).val)
  rw [Nat.zero_mul, Nat.zero_add]

theorem arr4_13 : (dat4 V c).arrAt 13 cfg4.N
    = fun y : S3x8x1024.Idx => ∑ m ∈ Finset.range 8, ptB (fun s => W.DL (y 0) s (y 2)) m (y 1) := by
  refine (dat4 V c).arrAt_eq_of_covers 13 _ (by decide +kernel) fun t hf y => ?_
  have hN : cfg4.N = 16 := N_4
  have h7 : t.val % 8 = 7 := by have := (flush4_13 t).mp hf; have := t.isLt; omega
  have e := idx4_13 t
  blk_simp
  rw [after4_13, e]
  refine (congrArg (outsAt4 V c t.val t.isLt).2.2 (ix3_eta (a := 3) (b := 8) (c := 512) y)).trans ?_
  refine (acc_at V W c i hb hm (y 0 : Fin 3) (y 1 : Fin 8) (y 2 : Fin 512) t.val t.isLt).trans ?_
  show _ = ∑ m ∈ Finset.range 8, ptB (fun s => W.DL (0 * 3 + (y 0).val) s (t.val / 8 * 512 + (y 2).val)) m (0 * 8 + (y 1).val)
  rw [h7, Nat.zero_mul, Nat.zero_add, Nat.zero_add]

end Cert.Proof.Merge

end
-- ==== Proof.MergeHost.lean ====
/-
  The arrays that the host makes for the calls, and the bias's gradient as the host adds its rows up.
-/
module

public import proofs.«01_k».proof.Proof.MergeBwd
public import proofs.«01_k».proof.Proof.Gen.Kernel3Ideal.Frame
public import Idealize.ShloMosaic.Lib.StableHlo.ReadAt

@[expose] public section

set_option maxRecDepth 16384

noncomputable section

namespace Cert.Proof.Merge

open Cert.Kernel3Ideal Cert.Kernel3Ideal.Gen
open Idealize.ShloMosaic Idealize.ShloMosaic.TcCoe Idealize.ShloMosaic.Tactic
open Idealize.ShloMosaic.Pipeline (Dat Cfg Window)

variable (m : (ℓ : Loc nD τ sig) → Buf (Elt Ideal) ℓ) (ρ : Dev nD → PrngReg)

/-- A device's arguments hold the inputs. -/
def ArgsAt (W : Mix) (c : Dev nD) : Prop :=
  Reads W (m (c, Proc.devRef .tc main_arg0)) (m (c, Proc.devRef .tc main_arg1)) (m (c, Proc.devRef .tc main_arg2))
    (m (c, Proc.devRef .tc main_arg3)) (m (c, Proc.devRef .tc main_arg4)) (m (c, Proc.devRef .tc main_arg5)) (m (c, Proc.devRef .tc main_arg6))
    (m (c, Proc.devRef .tc main_arg7)) (m (c, Proc.devRef .tc main_arg9))

variable {m} {W : Mix} {c : Dev nD}

theorem v8_at (k : Fin 3) (w : Fin 512) (d : Fin 1024) :
    W3 m ρ c (Proc.devRef .tc main_v8) (ix3 k w d) = m (c, Proc.devRef .tc main_arg6) (ix3 k w d) := by
  unfold W3 W2 W1 W0
  after_reads_at

theorem v9_at (n : Fin 3072) : W3 m ρ c (Proc.devRef .tc main_v9) (ix2 0 n) = m (c, Proc.devRef .tc main_arg5) (ix1 n) := by
  unfold W3 W2 W1 W0
  after_reads_at

theorem outOk (h : ArgsAt m W c) : OutOk W (W3 m ρ c (Proc.devRef .tc main_v7)) := fun k r e => by
  unfold W3 W2 W1 W0
  after_reads_at
  exact h.o _ e

theorem v12_at (t : Fin 4096) (d : Fin 1024) :
    W6 m ρ c (Proc.devRef .tc main_v12) (ix2 t d) = W5 m ρ c (Proc.devRef .tc main_arg9) (ix2 t d) := by
  unfold W6
  after_reads_at

theorem v15_at (n : Fin 3072) : W9 m ρ c (Proc.devRef .tc main_v15) (ix2 0 n) = W8 m ρ c (Proc.devRef .tc main_arg5) (ix1 n) := by
  unfold W9
  after_reads_at

theorem v24_at (f : S3x8x1024.Idx → EReal) (hf : W16 m ρ c (Proc.devRef .tc main_v16_2) = f) (n : Fin 3072) :
    W17 m ρ c (Proc.devRef .tc main_v24) (ix1 n)
      = ∑ r : Fin 8, f (ix3 (⟨n.val / 1024, by omega⟩ : Fin 3) r (⟨n.val % 1024, by omega⟩ : Fin 1024)) := by
  unfold W17
  after_reads_at
  rw [hf]

end Cert.Proof.Merge

end
-- ==== Proof.MergeGrad.lean ====
/-
  The gradients of the branches' outputs and of the branches' weights, a call for each.
-/
module

public import proofs.«01_k».proof.Proof.MergeFwd
public import proofs.«01_k».proof.Proof.Gen.Kernel3Ideal.Frame.Region5
public import proofs.«01_k».proof.Proof.Gen.Kernel3Ideal.Frame.Region6
public import proofs.«01_k».proof.Proof.Gen.Kernel3Ideal.Frame.Region7
public import proofs.«01_k».proof.Proof.Gen.Kernel3Ideal.Frame.Region8
public import proofs.«01_k».proof.Proof.Gen.Kernel3Ideal.Frame.Region9
public import proofs.«01_k».proof.Proof.Gen.Kernel3Ideal.Frame.Region10
public import Idealize.ShloMosaic.Lib.Pipeline.ValueKit

@[expose] public section

set_option maxRecDepth 16384

noncomputable section

namespace Cert.Proof.Merge

open Cert.Kernel3Ideal Cert.Kernel3Ideal.Gen
open Idealize.ShloMosaic Idealize.ShloMosaic.TcCoe Idealize.ShloMosaic.Tactic
open Idealize.ShloMosaic.Pipeline (Dat Cfg Window)

variable (V : (c : Dev nD) → (b : Ref sig .tc) → Buf (Elt Ideal) ((c : Thread nD τ).loc b)) (W : Mix)

/-! ## Branch 0 -/

theorem idx5_0 : ∀ t : Fin cfg5.N, win5_0.index t = ![0, ((grid5.coords t) 0).val, 0] := by decide +kernel

theorem iblk5_0 (c : Dev nD) (h : V c main_v16_1 = fun y : S3x4096x1024.Idx => W.DR (y 0) (y 1) (y 2)) (t : Fin cfg5.N) (r d : Fin 1024) :
    @Eq EReal (iblk5 V c 0 t (ix3 0 r d)) (W.DR 0 (((grid5.coords t) 0).val * 1024 + r.val) d.val) := by
  have e := idx5_0 t
  have k : iblk5 V c 0 t (ix3 0 r d) = V c main_v16_1 (ix3 (⟨0 , by omega⟩ : Fin 3) (⟨((grid5.coords t) 0).val * 1024 + r.val, by have : ((grid5.coords t) 0).val < 4 := ((grid5.coords t) 0).isLt; omega⟩ : Fin 4096) d) := by
    blk_ext [iblk5, e]
  rw [k, h]; rfl

theorem idx5_1 : ∀ t : Fin cfg5.N, win5_1.index t = ![0, 0, 0] := by decide +kernel

theorem iblk5_1 (c : Dev nD) (h : V c main_v8 = fun y : S3x512x1024.Idx => W.P (y 0) (y 1) (y 2)) (t : Fin cfg5.N) (w : Fin 512) (d : Fin 1024) :
    @Eq EReal (iblk5 V c 1 t (ix3 0 w d)) (W.P 0 w.val d.val) := by
  have e := idx5_1 t
  have k : iblk5 V c 1 t (ix3 0 w d) = V c main_v8 (ix3 (⟨0 , by omega⟩ : Fin 3) w d) := by
    blk_ext [iblk5, e]
  rw [k, h]; rfl

theorem idx5_2 : ∀ t : Fin cfg5.N, win5_2.index t = ![((grid5.coords t) 0).val, 0] := by decide +kernel

theorem out5_2_eq (x0 : Vec Ideal S1x1024x1024 .bf16) (x1 : Vec Ideal S1x512x1024 .bf16) : out5_2 x0 x1 = k5_pay1 x0 x1 := by
  unfold out5_2
  rw [View.canon_unit_zero off2, View.ld_unit_zero off3, View.ld_unit_zero off3]

theorem arr5 (c : Dev nD) (hr : V c main_v16_1 = fun y : S3x4096x1024.Idx => W.DR (y 0) (y 1) (y 2)) (hp : V c main_v8 = fun y : S3x512x1024.Idx => W.P (y 0) (y 1) (y 2)) :
    (dat5 V c).arrAt 2 cfg5.N = fun y : S4096x512.Idx => W.DY 0 (y 0) (y 1) := by
  refine (dat5 V c).arrAt_eq_of_covers 2 _ (by decide +kernel) fun t hf y => ?_
  have e := idx5_2 t
  blk_simp
  rw [after5_2, e, out5_2_eq]
  refine (congrArg (k5_pay1 _ _) (ix2_eta (a := 1024) (b := 512) y)).trans ?_
  refine (k5_pay1_at (y 0 : Fin 1024) (y 1 : Fin 512) (iblk5_0 V W c hr t _) (iblk5_1 V W c hp t _)).trans ?_
  show _ = W.DY 0 (((grid5.coords t) 0).val * 1024 + (y 0).val) (0 * 512 + (y 1).val)
  rw [Nat.zero_mul, Nat.zero_add]
  rfl

theorem idx6_0 : ∀ t : Fin cfg6.N, win6_0.index t = ![0, 0] := by decide +kernel

theorem iblk6_0 (c : Dev nD) (h : V c main_arg1 = fun y : S4096x512.Idx => W.Y 0 (y 0) (y 1)) (t : Fin cfg6.N) (s : Fin 4096) (w : Fin 512) :
    @Eq EReal (iblk6 V c 0 t (ix2 s w)) (W.Y 0 s.val w.val) := by
  have e := idx6_0 t
  have k : iblk6 V c 0 t (ix2 s w) = V c main_arg1 (ix2 s w) := by
    blk_ext [iblk6, e]
  rw [k, h]; rfl

theorem idx6_1 : ∀ t : Fin cfg6.N, win6_1.index t = ![0, 0, ((grid6.coords t) 1).val] := by decide +kernel

theorem iblk6_1 (c : Dev nD) (h : V c main_v16_1 = fun y : S3x4096x1024.Idx => W.DR (y 0) (y 1) (y 2)) (t : Fin cfg6.N) (s : Fin 4096) (d : Fin 512) :
    @Eq EReal (iblk6 V c 1 t (ix3 0 s d)) (W.DR 0 s.val (((grid6.coords t) 1).val * 512 + d.val)) := by
  have e := idx6_1 t
  have k : iblk6 V c 1 t (ix3 0 s d) = V c main_v16_1 (ix3 (⟨0 , by omega⟩ : Fin 3) s (⟨((grid6.coords t) 1).val * 512 + d.val, by have : ((grid6.coords t) 1).val < 2 := ((grid6.coords t) 1).isLt; omega⟩ : Fin 1024)) := by
    blk_ext [iblk6, e]
  rw [k, h]; rfl

theorem idx6_2 : ∀ t : Fin cfg6.N, win6_2.index t = ![0, ((grid6.coords t) 1).val] := by decide +kernel

theorem out6_2_eq (x0 : Vec Ideal S4096x512 .bf16) (x1 : Vec Ideal S1x4096x512 .bf16) : out6_2 x0 x1 = k6_pay1 x0 x1 := by
  unfold out6_2
  rw [View.canon_unit_zero off2, View.ld_unit_zero off2, View.ld_unit_zero off3]

theorem arr6 (c : Dev nD) (hy : V c main_arg1 = fun y : S4096x512.Idx => W.Y 0 (y 0) (y 1)) (hr : V c main_v16_1 = fun y : S3x4096x1024.Idx => W.DR (y 0) (y 1) (y 2)) :
    (dat6 V c).arrAt 2 cfg6.N = fun y : S512x1024.Idx => W.DP 0 (y 0) (y 1) := by
  refine (dat6 V c).arrAt_eq_of_covers 2 _ (by decide +kernel) fun t hf y => ?_
  have e := idx6_2 t
  blk_simp
  rw [after6_2, e, out6_2_eq]
  refine (congrArg (k6_pay1 _ _) (ix2_eta (a := 512) (b := 512) y)).trans ?_
  refine (k6_pay1_at (y 0 : Fin 512) (y 1 : Fin 512) (fun s => iblk6_0 V W c hy t s _) (fun s => iblk6_1 V W c hr t s _)).trans ?_
  show _ = W.DP 0 (0 * 512 + (y 0).val) (((grid6.coords t) 1).val * 512 + (y 1).val)
  rw [Nat.zero_mul, Nat.zero_add]
  rfl

/-! ## Branch 1 -/

theorem idx7_0 : ∀ t : Fin cfg7.N, win7_0.index t = ![1, ((grid7.coords t) 0).val, 0] := by decide +kernel

theorem iblk7_0 (c : Dev nD) (h : V c main_v16_1 = fun y : S3x4096x1024.Idx => W.DR (y 0) (y 1) (y 2)) (t : Fin cfg7.N) (r d : Fin 1024) :
    @Eq EReal (iblk7 V c 0 t (ix3 0 r d)) (W.DR 1 (((grid7.coords t) 0).val * 1024 + r.val) d.val) := by
  have e := idx7_0 t
  have k : iblk7 V c 0 t (ix3 0 r d) = V c main_v16_1 (ix3 (⟨1 , by omega⟩ : Fin 3) (⟨((grid7.coords t) 0).val * 1024 + r.val, by have : ((grid7.coords t) 0).val < 4 := ((grid7.coords t) 0).isLt; omega⟩ : Fin 4096) d) := by
    blk_ext [iblk7, e]
  rw [k, h]; rfl

theorem idx7_1 : ∀ t : Fin cfg7.N, win7_1.index t = ![1, 0, 0] := by decide +kernel

theorem iblk7_1 (c : Dev nD) (h : V c main_v8 = fun y : S3x512x1024.Idx => W.P (y 0) (y 1) (y 2)) (t : Fin cfg7.N) (w : Fin 512) (d : Fin 1024) :
    @Eq EReal (iblk7 V c 1 t (ix3 0 w d)) (W.P 1 w.val d.val) := by
  have e := idx7_1 t
  have k : iblk7 V c 1 t (ix3 0 w d) = V c main_v8 (ix3 (⟨1 , by omega⟩ : Fin 3) w d) := by
    blk_ext [iblk7, e]
  rw [k, h]; rfl

theorem idx7_2 : ∀ t : Fin cfg7.N, win7_2.index t = ![((grid7.coords t) 0).val, 0] := by decide +kernel

theorem out7_2_eq (x0 : Vec Ideal S1x1024x1024 .bf16) (x1 : Vec Ideal S1x512x1024 .bf16) : out7_2 x0 x1 = k7_pay1 x0 x1 := by
  unfold out7_2
  rw [View.canon_unit_zero off2, View.ld_unit_zero off3, View.ld_unit_zero off3]

theorem arr7 (c : Dev nD) (hr : V c main_v16_1 = fun y : S3x4096x1024.Idx => W.DR (y 0) (y 1) (y 2)) (hp : V c main_v8 = fun y : S3x512x1024.Idx => W.P (y 0) (y 1) (y 2)) :
    (dat7 V c).arrAt 2 cfg7.N = fun y : S4096x512.Idx => W.DY 1 (y 0) (y 1) := by
  refine (dat7 V c).arrAt_eq_of_covers 2 _ (by decide +kernel) fun t hf y => ?_
  have e := idx7_2 t
  blk_simp
  rw [after7_2, e, out7_2_eq]
  refine (congrArg (k7_pay1 _ _) (ix2_eta (a := 1024) (b := 512) y)).trans ?_
  refine (k5_pay1_at (y 0 : Fin 1024) (y 1 : Fin 512) (iblk7_0 V W c hr t _) (iblk7_1 V W c hp t _)).trans ?_
  show _ = W.DY 1 (((grid7.coords t) 0).val * 1024 + (y 0).val) (0 * 512 + (y 1).val)
  rw [Nat.zero_mul, Nat.zero_add]
  rfl

theorem idx8_0 : ∀ t : Fin cfg8.N, win8_0.index t = ![0, 0] := by decide +kernel

theorem iblk8_0 (c : Dev nD) (h : V c main_arg2 = fun y : S4096x512.Idx => W.Y 1 (y 0) (y 1)) (t : Fin cfg8.N) (s : Fin 4096) (w : Fin 512) :
    @Eq EReal (iblk8 V c 0 t (ix2 s w)) (W.Y 1 s.val w.val) := by
  have e := idx8_0 t
  have k : iblk8 V c 0 t (ix2 s w) = V c main_arg2 (ix2 s w) := by
    blk_ext [iblk8, e]
  rw [k, h]; rfl

theorem idx8_1 : ∀ t : Fin cfg8.N, win8_1.index t = ![1, 0, ((grid8.coords t) 1).val] := by decide +kernel

theorem iblk8_1 (c : Dev nD) (h : V c main_v16_1 = fun y : S3x4096x1024.Idx => W.DR (y 0) (y 1) (y 2)) (t : Fin cfg8.N) (s : Fin 4096) (d : Fin 512) :
    @Eq EReal (iblk8 V c 1 t (ix3 0 s d)) (W.DR 1 s.val (((grid8.coords t) 1).val * 512 + d.val)) := by
  have e := idx8_1 t
  have k : iblk8 V c 1 t (ix3 0 s d) = V c main_v16_1 (ix3 (⟨1 , by omega⟩ : Fin 3) s (⟨((grid8.coords t) 1).val * 512 + d.val, by have : ((grid8.coords t) 1).val < 2 := ((grid8.coords t) 1).isLt; omega⟩ : Fin 1024)) := by
    blk_ext [iblk8, e]
  rw [k, h]; rfl

theorem idx8_2 : ∀ t : Fin cfg8.N, win8_2.index t = ![0, ((grid8.coords t) 1).val] := by decide +kernel

theorem out8_2_eq (x0 : Vec Ideal S4096x512 .bf16) (x1 : Vec Ideal S1x4096x512 .bf16) : out8_2 x0 x1 = k8_pay1 x0 x1 := by
  unfold out8_2
  rw [View.canon_unit_zero off2, View.ld_unit_zero off2, View.ld_unit_zero off3]

theorem arr8 (c : Dev nD) (hy : V c main_arg2 = fun y : S4096x512.Idx => W.Y 1 (y 0) (y 1)) (hr : V c main_v16_1 = fun y : S3x4096x1024.Idx => W.DR (y 0) (y 1) (y 2)) :
    (dat8 V c).arrAt 2 cfg8.N = fun y : S512x1024.Idx => W.DP 1 (y 0) (y 1) := by
  refine (dat8 V c).arrAt_eq_of_covers 2 _ (by decide +kernel) fun t hf y => ?_
  have e := idx8_2 t
  blk_simp
  rw [after8_2, e, out8_2_eq]
  refine (congrArg (k8_pay1 _ _) (ix2_eta (a := 512) (b := 512) y)).trans ?_
  refine (k6_pay1_at (y 0 : Fin 512) (y 1 : Fin 512) (fun s => iblk8_0 V W c hy t s _) (fun s => iblk8_1 V W c hr t s _)).trans ?_
  show _ = W.DP 1 (0 * 512 + (y 0).val) (((grid8.coords t) 1).val * 512 + (y 1).val)
  rw [Nat.zero_mul, Nat.zero_add]
  rfl

/-! ## Branch 2 -/

theorem idx9_0 : ∀ t : Fin cfg9.N, win9_0.index t = ![2, ((grid9.coords t) 0).val, 0] := by decide +kernel

theorem iblk9_0 (c : Dev nD) (h : V c main_v16_1 = fun y : S3x4096x1024.Idx => W.DR (y 0) (y 1) (y 2)) (t : Fin cfg9.N) (r d : Fin 1024) :
    @Eq EReal (iblk9 V c 0 t (ix3 0 r d)) (W.DR 2 (((grid9.coords t) 0).val * 1024 + r.val) d.val) := by
  have e := idx9_0 t
  have k : iblk9 V c 0 t (ix3 0 r d) = V c main_v16_1 (ix3 (⟨2 , by omega⟩ : Fin 3) (⟨((grid9.coords t) 0).val * 1024 + r.val, by have : ((grid9.coords t) 0).val < 4 := ((grid9.coords t) 0).isLt; omega⟩ : Fin 4096) d) := by
    blk_ext [iblk9, e]
  rw [k, h]; rfl

theorem idx9_1 : ∀ t : Fin cfg9.N, win9_1.index t = ![2, 0, 0] := by decide +kernel

theorem iblk9_1 (c : Dev nD) (h : V c main_v8 = fun y : S3x512x1024.Idx => W.P (y 0) (y 1) (y 2)) (t : Fin cfg9.N) (w : Fin 512) (d : Fin 1024) :
    @Eq EReal (iblk9 V c 1 t (ix3 0 w d)) (W.P 2 w.val d.val) := by
  have e := idx9_1 t
  have k : iblk9 V c 1 t (ix3 0 w d) = V c main_v8 (ix3 (⟨2 , by omega⟩ : Fin 3) w d) := by
    blk_ext [iblk9, e]
  rw [k, h]; rfl

theorem idx9_2 : ∀ t : Fin cfg9.N, win9_2.index t = ![((grid9.coords t) 0).val, 0] := by decide +kernel

theorem out9_2_eq (x0 : Vec Ideal S1x1024x1024 .bf16) (x1 : Vec Ideal S1x512x1024 .bf16) : out9_2 x0 x1 = k9_pay1 x0 x1 := by
  unfold out9_2
  rw [View.canon_unit_zero off2, View.ld_unit_zero off3, View.ld_unit_zero off3]

theorem arr9 (c : Dev nD) (hr : V c main_v16_1 = fun y : S3x4096x1024.Idx => W.DR (y 0) (y 1) (y 2)) (hp : V c main_v8 = fun y : S3x512x1024.Idx => W.P (y 0) (y 1) (y 2)) :
    (dat9 V c).arrAt 2 cfg9.N = fun y : S4096x512.Idx => W.DY 2 (y 0) (y 1) := by
  refine (dat9 V c).arrAt_eq_of_covers 2 _ (by decide +kernel) fun t hf y => ?_
  have e := idx9_2 t
  blk_simp
  rw [after9_2, e, out9_2_eq]
  refine (congrArg (k9_pay1 _ _) (ix2_eta (a := 1024) (b := 512) y)).trans ?_
  refine (k5_pay1_at (y 0 : Fin 1024) (y 1 : Fin 512) (iblk9_0 V W c hr t _) (iblk9_1 V W c hp t _)).trans ?_
  show _ = W.DY 2 (((grid9.coords t) 0).val * 1024 + (y 0).val) (0 * 512 + (y 1).val)
  rw [Nat.zero_mul, Nat.zero_add]
  rfl

theorem idx10_0 : ∀ t : Fin cfg10.N, win10_0.index t = ![0, 0] := by decide +kernel

theorem iblk10_0 (c : Dev nD) (h : V c main_arg3 = fun y : S4096x512.Idx => W.Y 2 (y 0) (y 1)) (t : Fin cfg10.N) (s : Fin 4096) (w : Fin 512) :
    @Eq EReal (iblk10 V c 0 t (ix2 s w)) (W.Y 2 s.val w.val) := by
  have e := idx10_0 t
  have k : iblk10 V c 0 t (ix2 s w) = V c main_arg3 (ix2 s w) := by
    blk_ext [iblk10, e]
  rw [k, h]; rfl

theorem idx10_1 : ∀ t : Fin cfg10.N, win10_1.index t = ![2, 0, ((grid10.coords t) 1).val] := by decide +kernel

theorem iblk10_1 (c : Dev nD) (h : V c main_v16_1 = fun y : S3x4096x1024.Idx => W.DR (y 0) (y 1) (y 2)) (t : Fin cfg10.N) (s : Fin 4096) (d : Fin 512) :
    @Eq EReal (iblk10 V c 1 t (ix3 0 s d)) (W.DR 2 s.val (((grid10.coords t) 1).val * 512 + d.val)) := by
  have e := idx10_1 t
  have k : iblk10 V c 1 t (ix3 0 s d) = V c main_v16_1 (ix3 (⟨2 , by omega⟩ : Fin 3) s (⟨((grid10.coords t) 1).val * 512 + d.val, by have : ((grid10.coords t) 1).val < 2 := ((grid10.coords t) 1).isLt; omega⟩ : Fin 1024)) := by
    blk_ext [iblk10, e]
  rw [k, h]; rfl

theorem idx10_2 : ∀ t : Fin cfg10.N, win10_2.index t = ![0, ((grid10.coords t) 1).val] := by decide +kernel

theorem out10_2_eq (x0 : Vec Ideal S4096x512 .bf16) (x1 : Vec Ideal S1x4096x512 .bf16) : out10_2 x0 x1 = k10_pay1 x0 x1 := by
  unfold out10_2
  rw [View.canon_unit_zero off2, View.ld_unit_zero off2, View.ld_unit_zero off3]

theorem arr10 (c : Dev nD) (hy : V c main_arg3 = fun y : S4096x512.Idx => W.Y 2 (y 0) (y 1)) (hr : V c main_v16_1 = fun y : S3x4096x1024.Idx => W.DR (y 0) (y 1) (y 2)) :
    (dat10 V c).arrAt 2 cfg10.N = fun y : S512x1024.Idx => W.DP 2 (y 0) (y 1) := by
  refine (dat10 V c).arrAt_eq_of_covers 2 _ (by decide +kernel) fun t hf y => ?_
  have e := idx10_2 t
  blk_simp
  rw [after10_2, e, out10_2_eq]
  refine (congrArg (k10_pay1 _ _) (ix2_eta (a := 512) (b := 512) y)).trans ?_
  refine (k6_pay1_at (y 0 : Fin 512) (y 1 : Fin 512) (fun s => iblk10_0 V W c hy t s _) (fun s => iblk10_1 V W c hr t s _)).trans ?_
  show _ = W.DP 2 (0 * 512 + (y 0).val) (((grid10.coords t) 1).val * 512 + (y 1).val)
  rw [Nat.zero_mul, Nat.zero_add]
  rfl

end Cert.Proof.Merge

end
-- ==== Proof.MergeValue.lean ====
/-
  The boundaries of the run, one after another; and what the run leaves in the results.
-/
module

public import proofs.«01_k».proof.Proof.MergeHost
public import proofs.«01_k».proof.Proof.MergeGrad
public import proofs.«01_k».proof.Proof.MergeRun

@[expose] public section

set_option maxRecDepth 16384

noncomputable section

namespace Cert.Proof.Merge

open Cert.Kernel3Ideal Cert.Kernel3Ideal.Gen
open Idealize.ShloMosaic Idealize.ShloMosaic.TcCoe Idealize.ShloMosaic.Tactic Idealize.SL.Sem
open Idealize.ShloMosaic.Pipeline (Dat Cfg Window)

variable {m : (ℓ : Loc nD τ sig) → Buf (Elt Ideal) ℓ} (ρ : Dev nD → PrngReg) {W : Mix} {c : Dev nD}

theorem arg0_eq (h : ArgsAt m W c) : m (c, Proc.devRef .tc main_arg0) = fun y : S4096x1024.Idx => W.X (y 0) (y 1) :=
  funext fun y => (congrArg (m (c, Proc.devRef .tc main_arg0)) (ix2_eta (a := 4096) (b := 1024) y)).trans (h.x _ _)

theorem arg1_eq (h : ArgsAt m W c) : m (c, Proc.devRef .tc main_arg1) = fun y : S4096x512.Idx => W.Y 0 (y 0) (y 1) :=
  funext fun y => (congrArg (m (c, Proc.devRef .tc main_arg1)) (ix2_eta (a := 4096) (b := 512) y)).trans (h.y0 _ _)

theorem arg2_eq (h : ArgsAt m W c) : m (c, Proc.devRef .tc main_arg2) = fun y : S4096x512.Idx => W.Y 1 (y 0) (y 1) :=
  funext fun y => (congrArg (m (c, Proc.devRef .tc main_arg2)) (ix2_eta (a := 4096) (b := 512) y)).trans (h.y1 _ _)

theorem arg3_eq (h : ArgsAt m W c) : m (c, Proc.devRef .tc main_arg3) = fun y : S4096x512.Idx => W.Y 2 (y 0) (y 1) :=
  funext fun y => (congrArg (m (c, Proc.devRef .tc main_arg3)) (ix2_eta (a := 4096) (b := 512) y)).trans (h.y2 _ _)

theorem arg4_eq (h : ArgsAt m W c) : m (c, Proc.devRef .tc main_arg4) = fun y : S4096x3072.Idx => W.L (y 0) (y 1) :=
  funext fun y => (congrArg (m (c, Proc.devRef .tc main_arg4)) (ix2_eta (a := 4096) (b := 3072) y)).trans (h.l _ _)

theorem row_eta (y : S1x3072.Idx) : y = ix2 (0 : Fin 1) (y 1 : Fin 3072) := by
  funext i; match i with
  | 0 => exact Subsingleton.elim (α := Fin 1) _ _
  | 1 => rfl

theorem w3_v8 (h : ArgsAt m W c) : V3 m ρ c main_v8 = fun y : S3x512x1024.Idx => W.P (y 0) (y 1) (y 2) :=
  funext fun y => (congrArg (V3 m ρ c main_v8) (ix3_eta (a := 3) (b := 512) (c := 1024) y)).trans ((v8_at ρ _ _ _).trans (h.p _ _ _))

theorem w3_v9 (h : ArgsAt m W c) : V3 m ρ c main_v9 = fun y : S1x3072.Idx => W.B (y 1) :=
  funext fun y => (congrArg (V3 m ρ c main_v9) (row_eta y)).trans ((v9_at ρ _).trans (h.b _))

theorem w3_ins (h : ArgsAt m W c) : Ins (V3 m ρ) W c where
  y0 := (W3_args m ρ c main_arg1 (by decide)).trans (arg1_eq h)
  y1 := (W3_args m ρ c main_arg2 (by decide)).trans (arg2_eq h)
  y2 := (W3_args m ρ c main_arg3 (by decide)).trans (arg3_eq h)
  l := (W3_args m ρ c main_arg4 (by decide)).trans (arg4_eq h)
  p := w3_v8 ρ h

theorem w4_m (h : ArgsAt m W c) : V4 m ρ c main_v10 = fun y : S4096x1024.Idx => W.M (y 0) (y 1) :=
  (W4_arr m ρ c 10).trans (arr0 (V3 m ρ) W c (w3_ins ρ h) (w3_v9 ρ h))

theorem w4_out (h : ArgsAt m W c) : OutOk W (V4 m ρ c main_v7) := by
  have e : V4 m ρ c main_v7 = V3 m ρ c main_v7 := W4_of m ρ c main_v7 (by decide)
  rw [e]; exact outOk ρ h

theorem w5_x2 (h : ArgsAt m W c) : V5 m ρ c main_v11 = fun y : S4096x1024.Idx => W.X2 (y 0) (y 1) :=
  (W5_arr m ρ c 9).trans (arr1 (V4 m ρ) W c (w4_m ρ h) (w4_out ρ h) ((W4_args m ρ c main_arg0 (by decide)).trans (arg0_eq h)))

theorem w6_dx (h : ArgsAt m W c) : V6 m ρ c main_v12 = fun y : S4096x1024.Idx => W.DX (y 0) (y 1) :=
  funext fun y => (congrArg (V6 m ρ c main_v12) (ix2_eta (a := 4096) (b := 1024) y)).trans ((v12_at ρ _ _).trans
    ((congrFun (W5_args m ρ c main_arg9 (by decide)) _).trans (h.dx _ _)))

theorem w6_out (h : ArgsAt m W c) : OutOk W (V6 m ρ c main_v7) := by
  have e : V6 m ρ c main_v7 = V4 m ρ c main_v7 := ((W6_of m ρ c main_v7 (by decide)).trans (W5_of m ρ c main_v7 (by decide)))
  rw [e]; exact w4_out ρ h

theorem w7_dm (h : ArgsAt m W c) : V7 m ρ c main_v13 = fun y : S4096x1024.Idx => W.DM (y 0) (y 1) :=
  (W7_arr m ρ c 2).trans (arr2 (V6 m ρ) W c (w6_dx ρ h) (w6_out ρ h))

theorem w8_do (h : ArgsAt m W c) : V8 m ρ c main_v14 = fun y : S1024x1024.Idx => W.DO (y 0) (y 1) :=
  (W8_arr m ρ c 2).trans (arr3 (V7 m ρ) W c (((W7_of m ρ c main_v10 (by decide)).trans ((W6_of m ρ c main_v10 (by decide)).trans (W5_of m ρ c main_v10 (by decide)))).trans (w4_m ρ h)) ((W7_of m ρ c main_v12 (by decide)).trans (w6_dx ρ h)))

theorem w9_b (h : ArgsAt m W c) : V9 m ρ c main_v15 = fun y : S1x3072.Idx => W.B (y 1) :=
  funext fun y => (congrArg (V9 m ρ c main_v15) (row_eta y)).trans ((v15_at ρ _).trans
    ((congrFun (W8_args m ρ c main_arg5 (by decide)) _).trans (h.b _)))

theorem w9_dm (h : ArgsAt m W c) : V9 m ρ c main_v13 = fun y : S4096x1024.Idx => W.DM (y 0) (y 1) :=
  ((W9_of m ρ c main_v13 (by decide)).trans (W8_of m ρ c main_v13 (by decide))).trans (w7_dm ρ h)

theorem w9_ins (h : ArgsAt m W c) : Ins (V9 m ρ) W c where
  y0 := (W9_args m ρ c main_arg1 (by decide)).trans (arg1_eq h)
  y1 := (W9_args m ρ c main_arg2 (by decide)).trans (arg2_eq h)
  y2 := (W9_args m ρ c main_arg3 (by decide)).trans (arg3_eq h)
  l := (W9_args m ρ c main_arg4 (by decide)).trans (arg4_eq h)
  p := ((W9_of m ρ c main_v8 (by decide)).trans ((W8_of m ρ c main_v8 (by decide)).trans ((W7_of m ρ c main_v8 (by decide)).trans ((W6_of m ρ c main_v8 (by decide)).trans ((W5_of m ρ c main_v8 (by decide)).trans (W4_of m ρ c main_v8 (by decide))))))).trans (w3_v8 ρ h)

theorem w10_dl (h : ArgsAt m W c) : V10 m ρ c main_v16_0 = fun y : S3x4096x1024.Idx => W.DL (y 0) (y 1) (y 2) :=
  (W10_arr m ρ c 11).trans (arr4_11 (V9 m ρ) W c (w9_ins ρ h) (w9_b ρ h) (w9_dm ρ h))

theorem w10_dr (h : ArgsAt m W c) : V10 m ρ c main_v16_1 = fun y : S3x4096x1024.Idx => W.DR (y 0) (y 1) (y 2) :=
  (W10_arr m ρ c 12).trans (arr4_12 (V9 m ρ) W c (w9_ins ρ h) (w9_b ρ h) (w9_dm ρ h))

theorem w10_db (h : ArgsAt m W c) : V10 m ρ c main_v16_2
    = fun y : S3x8x1024.Idx => ∑ m ∈ Finset.range 8, ptB (fun s => W.DL (y 0) s (y 2)) m (y 1) :=
  (W10_arr m ρ c 13).trans (arr4_13 (V9 m ρ) W c (w9_ins ρ h) (w9_b ρ h) (w9_dm ρ h))

theorem w11_v17 (h : ArgsAt m W c) : V11 m ρ c main_v17 = fun y : S4096x512.Idx => W.DY 0 (y 0) (y 1) :=
  (W11_arr m ρ c 2).trans (arr5 (V10 m ρ) W c (w10_dr ρ h) (((W10_of m ρ c main_v8 (by decide)).trans ((W9_of m ρ c main_v8 (by decide)).trans ((W8_of m ρ c main_v8 (by decide)).trans ((W7_of m ρ c main_v8 (by decide)).trans ((W6_of m ρ c main_v8 (by decide)).trans ((W5_of m ρ c main_v8 (by decide)).trans (W4_of m ρ c main_v8 (by decide)))))))).trans (w3_v8 ρ h)))

theorem w11_dr (h : ArgsAt m W c) : V11 m ρ c main_v16_1 = fun y : S3x4096x1024.Idx => W.DR (y 0) (y 1) (y 2) :=
  (W11_of m ρ c main_v16_1 (by decide)).trans (w10_dr ρ h)

theorem w12_v18 (h : ArgsAt m W c) : V12 m ρ c main_v18 = fun y : S512x1024.Idx => W.DP 0 (y 0) (y 1) :=
  (W12_arr m ρ c 2).trans (arr6 (V11 m ρ) W c ((W11_args m ρ c main_arg1 (by decide)).trans (arg1_eq h)) (w11_dr ρ h))

theorem w12_dr (h : ArgsAt m W c) : V12 m ρ c main_v16_1 = fun y : S3x4096x1024.Idx => W.DR (y 0) (y 1) (y 2) :=
  (W12_of m ρ c main_v16_1 (by decide)).trans (w11_dr ρ h)

theorem w13_v19 (h : ArgsAt m W c) : V13 m ρ c main_v19 = fun y : S4096x512.Idx => W.DY 1 (y 0) (y 1) :=
  (W13_arr m ρ c 2).trans (arr7 (V12 m ρ) W c (w12_dr ρ h) (((W12_of m ρ c main_v8 (by decide)).trans ((W11_of m ρ c main_v8 (by decide)).trans ((W10_of m ρ c main_v8 (by decide)).trans ((W9_of m ρ c main_v8 (by decide)).trans ((W8_of m ρ c main_v8 (by decide)).trans ((W7_of m ρ c main_v8 (by decide)).trans ((W6_of m ρ c main_v8 (by decide)).trans ((W5_of m ρ c main_v8 (by decide)).trans (W4_of m ρ c main_v8 (by decide)))))))))).trans (w3_v8 ρ h)))

theorem w13_dr (h : ArgsAt m W c) : V13 m ρ c main_v16_1 = fun y : S3x4096x1024.Idx => W.DR (y 0) (y 1) (y 2) :=
  (W13_of m ρ c main_v16_1 (by decide)).trans (w12_dr ρ h)

theorem w14_v20 (h : ArgsAt m W c) : V14 m ρ c main_v20 = fun y : S512x1024.Idx => W.DP 1 (y 0) (y 1) :=
  (W14_arr m ρ c 2).trans (arr8 (V13 m ρ) W c ((W13_args m ρ c main_arg2 (by decide)).trans (arg2_eq h)) (w13_dr ρ h))

theorem w14_dr (h : ArgsAt m W c) : V14 m ρ c main_v16_1 = fun y : S3x4096x1024.Idx => W.DR (y 0) (y 1) (y 2) :=
  (W14_of m ρ c main_v16_1 (by decide)).trans (w13_dr ρ h)

theorem w15_v21 (h : ArgsAt m W c) : V15 m ρ c main_v21 = fun y : S4096x512.Idx => W.DY 2 (y 0) (y 1) :=
  (W15_arr m ρ c 2).trans (arr9 (V14 m ρ) W c (w14_dr ρ h) (((W14_of m ρ c main_v8 (by decide)).trans ((W13_of m ρ c main_v8 (by decide)).trans ((W12_of m ρ c main_v8 (by decide)).trans ((W11_of m ρ c main_v8 (by decide)).trans ((W10_of m ρ c main_v8 (by decide)).trans ((W9_of m ρ c main_v8 (by decide)).trans ((W8_of m ρ c main_v8 (by decide)).trans ((W7_of m ρ c main_v8 (by decide)).trans ((W6_of m ρ c main_v8 (by decide)).trans ((W5_of m ρ c main_v8 (by decide)).trans (W4_of m ρ c main_v8 (by decide)))))))))))).trans (w3_v8 ρ h)))

theorem w15_dr (h : ArgsAt m W c) : V15 m ρ c main_v16_1 = fun y : S3x4096x1024.Idx => W.DR (y 0) (y 1) (y 2) :=
  (W15_of m ρ c main_v16_1 (by decide)).trans (w14_dr ρ h)

theorem w16_v22 (h : ArgsAt m W c) : V16 m ρ c main_v22 = fun y : S512x1024.Idx => W.DP 2 (y 0) (y 1) :=
  (W16_arr m ρ c 2).trans (arr10 (V15 m ρ) W c ((W15_args m ρ c main_arg3 (by decide)).trans (arg3_eq h)) (w15_dr ρ h))

/-! ## The results -/

theorem w17_v11 (h : ArgsAt m W c) : W17 m ρ c (Proc.devRef .tc main_v11) = x2Of W :=
  ((W17_of m ρ c main_v11 (by decide)).trans ((W16_of m ρ c main_v11 (by decide)).trans ((W15_of m ρ c main_v11 (by decide)).trans ((W14_of m ρ c main_v11 (by decide)).trans ((W13_of m ρ c main_v11 (by decide)).trans ((W12_of m ρ c main_v11 (by decide)).trans ((W11_of m ρ c main_v11 (by decide)).trans ((W10_of m ρ c main_v11 (by decide)).trans ((W9_of m ρ c main_v11 (by decide)).trans ((W8_of m ρ c main_v11 (by decide)).trans ((W7_of m ρ c main_v11 (by decide)).trans (W6_of m ρ c main_v11 (by decide))))))))))))).trans (w5_x2 ρ h)

theorem w17_v14 (h : ArgsAt m W c) : W17 m ρ c (Proc.devRef .tc main_v14) = dwOf W :=
  ((W17_of m ρ c main_v14 (by decide)).trans ((W16_of m ρ c main_v14 (by decide)).trans ((W15_of m ρ c main_v14 (by decide)).trans ((W14_of m ρ c main_v14 (by decide)).trans ((W13_of m ρ c main_v14 (by decide)).trans ((W12_of m ρ c main_v14 (by decide)).trans ((W11_of m ρ c main_v14 (by decide)).trans ((W10_of m ρ c main_v14 (by decide)).trans (W9_of m ρ c main_v14 (by decide)))))))))).trans (w8_do ρ h)

theorem w17_v16_0 (h : ArgsAt m W c) : W17 m ρ c (Proc.devRef .tc main_v16_0) = dglOf W :=
  ((W17_of m ρ c main_v16_0 (by decide)).trans ((W16_of m ρ c main_v16_0 (by decide)).trans ((W15_of m ρ c main_v16_0 (by decide)).trans ((W14_of m ρ c main_v16_0 (by decide)).trans ((W13_of m ρ c main_v16_0 (by decide)).trans ((W12_of m ρ c main_v16_0 (by decide)).trans (W11_of m ρ c main_v16_0 (by decide)))))))).trans (w10_dl ρ h)

theorem w17_v17 (h : ArgsAt m W c) : W17 m ρ c (Proc.devRef .tc main_v17) = dyOf W 0 :=
  ((W17_of m ρ c main_v17 (by decide)).trans ((W16_of m ρ c main_v17 (by decide)).trans ((W15_of m ρ c main_v17 (by decide)).trans ((W14_of m ρ c main_v17 (by decide)).trans ((W13_of m ρ c main_v17 (by decide)).trans (W12_of m ρ c main_v17 (by decide))))))).trans (w11_v17 ρ h)

theorem w17_v19 (h : ArgsAt m W c) : W17 m ρ c (Proc.devRef .tc main_v19) = dyOf W 1 :=
  ((W17_of m ρ c main_v19 (by decide)).trans ((W16_of m ρ c main_v19 (by decide)).trans ((W15_of m ρ c main_v19 (by decide)).trans (W14_of m ρ c main_v19 (by decide))))).trans (w13_v19 ρ h)

theorem w17_v21 (h : ArgsAt m W c) : W17 m ρ c (Proc.devRef .tc main_v21) = dyOf W 2 :=
  ((W17_of m ρ c main_v21 (by decide)).trans (W16_of m ρ c main_v21 (by decide))).trans (w15_v21 ρ h)

theorem w17_v18 (h : ArgsAt m W c) : W17 m ρ c (Proc.devRef .tc main_v18) = dwbOf W 0 :=
  ((W17_of m ρ c main_v18 (by decide)).trans ((W16_of m ρ c main_v18 (by decide)).trans ((W15_of m ρ c main_v18 (by decide)).trans ((W14_of m ρ c main_v18 (by decide)).trans (W13_of m ρ c main_v18 (by decide)))))).trans (w12_v18 ρ h)

theorem w17_v20 (h : ArgsAt m W c) : W17 m ρ c (Proc.devRef .tc main_v20) = dwbOf W 1 :=
  ((W17_of m ρ c main_v20 (by decide)).trans ((W16_of m ρ c main_v20 (by decide)).trans (W15_of m ρ c main_v20 (by decide)))).trans (w14_v20 ρ h)

theorem w17_v22 (h : ArgsAt m W c) : W17 m ρ c (Proc.devRef .tc main_v22) = dwbOf W 2 :=
  (W17_of m ρ c main_v22 (by decide)).trans (w16_v22 ρ h)

theorem w17_v24 (h : ArgsAt m W c) : W17 m ρ c (Proc.devRef .tc main_v24) = dbgOf W := by
  refine funext fun y => ?_
  have ey : y = ix1 (y 0 : Fin 3072) := by funext i; match i with | 0 => rfl
  refine (congrArg (W17 m ρ c (Proc.devRef .tc main_v24)) ey).trans ((v24_at ρ _ (((W16_of m ρ c main_v16_2 (by decide)).trans ((W15_of m ρ c main_v16_2 (by decide)).trans ((W14_of m ρ c main_v16_2 (by decide)).trans ((W13_of m ρ c main_v16_2 (by decide)).trans ((W12_of m ρ c main_v16_2 (by decide)).trans (W11_of m ρ c main_v16_2 (by decide))))))).trans (w10_db ρ h)) _).trans ?_)
  exact sum_rows fun s => W.DL ((y 0).val / 1024) s ((y 0).val % 1024)

/-- The run over the extended reals: the results are the output and the gradients, the arguments as they began. -/
theorem run_value (ff : Dev nD → Mix) (h : ∀ c, ArgsAt m (ff c) c) :
    θ_run defs (onTc (τ := τ) (main (F := Ideal))) ⟨m, fun _ => 0, ρ⟩ (fun r => ∀ c : Dev nD,
      (r.2.mem ((c.tc : Thread nD τ).loc main_v11) = x2Of (ff c)
      ∧ r.2.mem ((c.tc : Thread nD τ).loc main_v14) = dwOf (ff c)
      ∧ r.2.mem ((c.tc : Thread nD τ).loc main_v16_0) = dglOf (ff c)
      ∧ r.2.mem ((c.tc : Thread nD τ).loc main_v24) = dbgOf (ff c)
      ∧ r.2.mem ((c.tc : Thread nD τ).loc main_v17) = dyOf (ff c) 0
      ∧ r.2.mem ((c.tc : Thread nD τ).loc main_v19) = dyOf (ff c) 1
      ∧ r.2.mem ((c.tc : Thread nD τ).loc main_v21) = dyOf (ff c) 2
      ∧ r.2.mem ((c.tc : Thread nD τ).loc main_v18) = dwbOf (ff c) 0
      ∧ r.2.mem ((c.tc : Thread nD τ).loc main_v20) = dwbOf (ff c) 1
      ∧ r.2.mem ((c.tc : Thread nD τ).loc main_v22) = dwbOf (ff c) 2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ q c => ⟨⟨((q.1 c).1.1).trans (w17_v11 ρ (h c)),
    ((q.1 c).1.2.1).trans (w17_v14 ρ (h c)),
    ((q.1 c).1.2.2.1).trans (w17_v16_0 ρ (h c)),
    ((q.1 c).1.2.2.2.1).trans (w17_v24 ρ (h c)),
    ((q.1 c).1.2.2.2.2.1).trans (w17_v17 ρ (h c)),
    ((q.1 c).1.2.2.2.2.2.1).trans (w17_v19 ρ (h c)),
    ((q.1 c).1.2.2.2.2.2.2.1).trans (w17_v21 ρ (h c)),
    ((q.1 c).1.2.2.2.2.2.2.2.1).trans (w17_v18 ρ (h c)),
    ((q.1 c).1.2.2.2.2.2.2.2.2.1).trans (w17_v20 ρ (h c)),
    ((q.1 c).1.2.2.2.2.2.2.2.2.2).trans (w17_v22 ρ (h c))⟩, (q.1 c).2⟩) (run_full (F := Ideal) m ρ)

end Cert.Proof.Merge

end
-- ==== Proof.MergeRef.lean ====
/-
  The plain gates, merge and output projection with their gradients, one named array after another.
-/
module

public import proofs.«01_k».proof.Proof.MergeMath
public import proofs.«01_k».proof.Proof.Gen.Reference3Ideal.Run
public import Idealize.ShloMosaic.Lib.StableHlo.ReadAt
public import Idealize.ShloMosaic.Lib.Pipeline.ValueKit.Tiles

@[expose] public section

set_option maxRecDepth 16384

noncomputable section

namespace Cert.Proof.Merge.Ref

open Cert.Reference3Ideal Cert.Reference3Ideal.Gen Cert.Reference3Ideal.Value
open Idealize.ShloMosaic Idealize.ShloMosaic.TcCoe Idealize.ShloMosaic.StableHlo Idealize.SL.Sem

/-! ## Arithmetic -/

/-- The gate's factors, associated as the plain gradient associates them, at a column of the three gates side by side. -/
theorem dl_at (W : Mix) (t n : ℕ) :
    W.DM t (n % 1024) * W.R (n / 1024) t (n % 1024) * (sg (W.L t n + W.B n) * (1 - sg (W.L t n + W.B n)))
      = W.DL (n / 1024) t (n % 1024) := by
  unfold Mix.DL Mix.S
  rw [Nat.div_add_mod' n 1024, mul_assoc (W.DM t (n % 1024) * W.R (n / 1024) t (n % 1024))]

theorem dl_cut (W : Mix) (k : Fin 3) (t : ℕ) (d : Fin 1024) :
    W.DL ((k.val * 1024 + d.val) / 1024) t ((k.val * 1024 + d.val) % 1024) = W.DL k t d := by
  rw [show (k.val * 1024 + d.val) / 1024 = k.val by omega, show (k.val * 1024 + d.val) % 1024 = d.val by omega]

/-- Three arrays stacked along an axis of extent one each. -/
theorem cat_at (W : Mix) (x0 x1 x2 : S4096x1x512.Idx → EReal)
    (h0 : ∀ (t : Fin 4096) (w : Fin 512), x0 (ix3 t (0 : Fin 1) w) = W.Y 0 t w)
    (h1 : ∀ (t : Fin 4096) (w : Fin 512), x1 (ix3 t (0 : Fin 1) w) = W.Y 1 t w)
    (h2 : ∀ (t : Fin 4096) (w : Fin 512), x2 (ix3 t (0 : Fin 1) w) = W.Y 2 t w) (t : Fin 4096) (k : Fin 3) (w : Fin 512) :
    concatenate S4096x3x512 1 [⟨S4096x1x512, x0⟩, ⟨S4096x1x512, x1⟩, ⟨S4096x1x512, x2⟩]
      concatenates_S4096x1x512_S4096x1x512_S4096x1x512_S4096x3x512_d1 (ix3 t k w) = W.Y k t w := by
  have eta : ∀ i : S4096x1x512.Idx, (i 0).val = t.val → (i 2).val = w.val → i = ix3 t (0 : Fin 1) w := fun i e0 e2 => by
    funext a; match a with
    | 0 => exact Fin.ext e0
    | 1 => exact Subsingleton.elim (α := Fin 1) _ _
    | 2 => exact Fin.ext e2
  refine concatenate_unit_eq 1 _ _ _ _ rfl (concatAt_cons _ _ _ _ ?_ (concatAt_cons _ _ _ _ ?_ (concatAt_cons _ _ _ _ ?_ (concatAt_nil _ _ _ _))))
  · intro hk _ i _ hb
    rw [eta i (hb 0 (by decide)) (hb 2 (by decide)), h0, show k.val = 0 from hk]
  · intro hk _ i _ hb
    rw [eta i (hb 0 (by decide)) (hb 2 (by decide)), h1, show k.val = 1 from hk]
  · intro hk _ i _ hb
    rw [eta i (hb 0 (by decide)) (hb 2 (by decide)), h2, show k.val = 2 from hk]

/-! ## The arrays -/

theorem after_append (l₁ l₂ : List (HloOp τ sig (Elt Ideal))) (V : Valuation τ sig (Elt Ideal)) :
    after (l₁ ++ l₂) V = after l₂ (after l₁ V) := by
  induction l₁ generalizing V with
  | nil => rfl
  | cons op l ih => exact ih _

variable (V0 : Valuation τ sig (Elt Ideal))

/-- The buffers when every operation has run. -/
def fin : Valuation τ sig (Elt Ideal) := after ops V0

theorem split (a : ℕ) : fin V0 = after (ops.drop a) (upto ops V0 a) := by
  have e := after_append (ops.take a) (ops.drop a) V0
  rw [List.take_append_drop] at e
  exact e

variable {V0} {W : Mix}

theorem keep {r : Ref sig .tc} (a : ℕ) (hk : ∀ U : Valuation τ sig (Elt Ideal), after (ops.drop a) U (Proc.devRef .tc r) = U (Proc.devRef .tc r)) :
    upto ops V0 a (Proc.devRef .tc r) = fin V0 (Proc.devRef .tc r) := by
  rw [split V0 a]; exact (hk _).symm

variable (V0) in
/-- The arguments hold the inputs. -/
def RefOk (W : Mix) : Prop :=
  Reads W (V0 (Proc.devRef .tc main_arg0)) (V0 (Proc.devRef .tc main_arg1)) (V0 (Proc.devRef .tc main_arg2))
    (V0 (Proc.devRef .tc main_arg3)) (V0 (Proc.devRef .tc main_arg4)) (V0 (Proc.devRef .tc main_arg5))
    (V0 (Proc.devRef .tc main_arg6)) (V0 (Proc.devRef .tc main_arg7)) (V0 (Proc.devRef .tc main_arg9))

theorem fin_arg {r : Ref sig .tc} (hk : ∀ U : Valuation τ sig (Elt Ideal), after ops U (Proc.devRef .tc r) = U (Proc.devRef .tc r)) :
    fin V0 (Proc.devRef .tc r) = V0 (Proc.devRef .tc r) := hk V0

theorem f_arg0 (h : RefOk V0 W) (t : Fin 4096) (d : Fin 1024) : @Eq EReal (fin V0 (Proc.devRef .tc main_arg0) (ix2 t d)) (W.X t d) :=
  (congrFun (fin_arg (fun U => by after_reads_simp)) _).trans (h.x t d)

theorem f_arg5 (h : RefOk V0 W) (n : Fin 3072) : @Eq EReal (fin V0 (Proc.devRef .tc main_arg5) (ix1 n)) (W.B n) :=
  (congrFun (fin_arg (fun U => by after_reads_simp)) _).trans (h.b n)

theorem f_arg6 (h : RefOk V0 W) (k : Fin 3) (w : Fin 512) (d : Fin 1024) : @Eq EReal (fin V0 (Proc.devRef .tc main_arg6) (ix3 k w d)) (W.P k w d) :=
  (congrFun (fin_arg (fun U => by after_reads_simp)) _).trans (h.p k w d)

theorem f_arg7 (h : RefOk V0 W) (d : Fin 1024) (e : Fin 1024) : @Eq EReal (fin V0 (Proc.devRef .tc main_arg7) (ix2 d e)) (W.O d e) :=
  (congrFun (fin_arg (fun U => by after_reads_simp)) _).trans (h.o d e)

theorem f_arg9 (h : RefOk V0 W) (t : Fin 4096) (d : Fin 1024) : @Eq EReal (fin V0 (Proc.devRef .tc main_arg9) (ix2 t d)) (W.DX t d) :=
  (congrFun (fin_arg (fun U => by after_reads_simp)) _).trans (h.dx t d)

theorem f_v3 (h : RefOk V0 W) (t : Fin 4096) (n : Fin 3072) :
    @Eq EReal (fin V0 (Proc.devRef .tc main_v3) (ix2 t n)) (W.L t n) := by
  unfold fin
  after_reads_at
  exact h.l t n

theorem f_v4 (h : RefOk V0 W) (t : Fin 4096) (w : Fin 512) :
    @Eq EReal (fin V0 (Proc.devRef .tc main_v4) (ix3 t (0 : Fin 1) w)) (W.Y 0 t w) := by
  unfold fin
  after_reads_at
  exact h.y0 t w

theorem f_v5 (h : RefOk V0 W) (t : Fin 4096) (w : Fin 512) :
    @Eq EReal (fin V0 (Proc.devRef .tc main_v5) (ix3 t (0 : Fin 1) w)) (W.Y 1 t w) := by
  unfold fin
  after_reads_at
  exact h.y1 t w

theorem f_v6 (h : RefOk V0 W) (t : Fin 4096) (w : Fin 512) :
    @Eq EReal (fin V0 (Proc.devRef .tc main_v6) (ix3 t (0 : Fin 1) w)) (W.Y 2 t w) := by
  unfold fin
  after_reads_at
  exact h.y2 t w

theorem f_v7 (h : RefOk V0 W) (t : Fin 4096) (k : Fin 3) (w : Fin 512) :
    @Eq EReal (fin V0 (Proc.devRef .tc main_v7) (ix3 t k w)) (W.Y k t w) := by
  have k_v4 : ∀ (t : Fin 4096) (w : Fin 512), @Eq EReal (upto ops V0 7 (Proc.devRef .tc main_v4) (ix3 t (0 : Fin 1) w)) (W.Y 0 t w) :=
    fun t w => (congrFun (keep 7 fun U => by after_reads_simp) _).trans (f_v4 h t w)
  have k_v5 : ∀ (t : Fin 4096) (w : Fin 512), @Eq EReal (upto ops V0 7 (Proc.devRef .tc main_v5) (ix3 t (0 : Fin 1) w)) (W.Y 1 t w) :=
    fun t w => (congrFun (keep 7 fun U => by after_reads_simp) _).trans (f_v5 h t w)
  have k_v6 : ∀ (t : Fin 4096) (w : Fin 512), @Eq EReal (upto ops V0 7 (Proc.devRef .tc main_v6) (ix3 t (0 : Fin 1) w)) (W.Y 2 t w) :=
    fun t w => (congrFun (keep 7 fun U => by after_reads_simp) _).trans (f_v6 h t w)
  rw [split V0 7]
  generalize upto ops V0 7 = U at *
  after_reads_at
  exact cat_at W _ _ _ k_v4 k_v5 k_v6 t k w

theorem f_v9 (h : RefOk V0 W) (t : Fin 4096) (k : Fin 3) (d : Fin 1024) :
    @Eq EReal (fin V0 (Proc.devRef .tc main_v9) (ix3 t k d)) (W.R k t d) := by
  have k_arg6 : ∀ (k : Fin 3) (w : Fin 512) (d : Fin 1024), @Eq EReal (upto ops V0 8 (Proc.devRef .tc main_arg6) (ix3 k w d)) (W.P k w d) :=
    fun k w d => (congrFun (keep 8 fun U => by after_reads_simp) _).trans (f_arg6 h k w d)
  have k_v7 : ∀ (t : Fin 4096) (k : Fin 3) (w : Fin 512), @Eq EReal (upto ops V0 8 (Proc.devRef .tc main_v7) (ix3 t k w)) (W.Y k t w) :=
    fun t k w => (congrFun (keep 8 fun U => by after_reads_simp) _).trans (f_v7 h t k w)
  rw [split V0 8]
  generalize upto ops V0 8 = U at *
  after_reads_at
  simp only [k_arg6, k_v7]
  exact Finset.sum_congr rfl fun _ _ => mul_comm _ _

theorem f_v12 (h : RefOk V0 W) (t : Fin 4096) (n : Fin 3072) :
    @Eq EReal (fin V0 (Proc.devRef .tc main_v12) (ix2 t n)) (W.L t n + W.B n) := by
  have k_v3 : ∀ (t : Fin 4096) (n : Fin 3072), @Eq EReal (upto ops V0 10 (Proc.devRef .tc main_v3) (ix2 t n)) (W.L t n) :=
    fun t n => (congrFun (keep 10 fun U => by after_reads_simp) _).trans (f_v3 h t n)
  have k_arg5 : ∀ (n : Fin 3072), @Eq EReal (upto ops V0 10 (Proc.devRef .tc main_arg5) (ix1 n)) (W.B n) :=
    fun n => (congrFun (keep 10 fun U => by after_reads_simp) _).trans (f_arg5 h n)
  rw [split V0 10]
  generalize upto ops V0 10 = U at *
  after_reads_at
  rw [k_v3, k_arg5]

theorem f_v18 (h : RefOk V0 W) (t : Fin 4096) (n : Fin 3072) :
    @Eq EReal (fin V0 (Proc.devRef .tc main_v18) (ix2 t n)) (sg (W.L t n + W.B n)) := by
  have k_v12 : ∀ (t : Fin 4096) (n : Fin 3072), @Eq EReal (upto ops V0 13 (Proc.devRef .tc main_v12) (ix2 t n)) (W.L t n + W.B n) :=
    fun t n => (congrFun (keep 13 fun U => by after_reads_simp) _).trans (f_v12 h t n)
  rw [split V0 13]
  generalize upto ops V0 13 = U at *
  after_reads_at
  rw [k_v12]
  rfl

theorem f_v21 (h : RefOk V0 W) (t : Fin 4096) (n : Fin 3072) :
    @Eq EReal (fin V0 (Proc.devRef .tc main_v21) (ix2 t n)) (sg (W.L t n + W.B n) * (1 - sg (W.L t n + W.B n))) := by
  have k_v18 : ∀ (t : Fin 4096) (n : Fin 3072), @Eq EReal (upto ops V0 21 (Proc.devRef .tc main_v18) (ix2 t n)) (sg (W.L t n + W.B n)) :=
    fun t n => (congrFun (keep 21 fun U => by after_reads_simp) _).trans (f_v18 h t n)
  rw [split V0 21]
  generalize upto ops V0 21 = U at *
  after_reads_at
  simp only [k_v18]

theorem f_v22 (h : RefOk V0 W) (t : Fin 4096) (k : Fin 3) (d : Fin 1024) :
    @Eq EReal (fin V0 (Proc.devRef .tc main_v22) (ix3 t k d)) (W.S k t d) := by
  have k_v18 : ∀ (t : Fin 4096) (n : Fin 3072), @Eq EReal (upto ops V0 25 (Proc.devRef .tc main_v18) (ix2 t n)) (sg (W.L t n + W.B n)) :=
    fun t n => (congrFun (keep 25 fun U => by after_reads_simp) _).trans (f_v18 h t n)
  rw [split V0 25]
  generalize upto ops V0 25 = U at *
  after_reads_at
  exact k_v18 _ _

theorem f_v24 (h : RefOk V0 W) (t : Fin 4096) (d : Fin 1024) :
    @Eq EReal (fin V0 (Proc.devRef .tc main_v24) (ix2 t d)) (W.M t d) := by
  have k_v22 : ∀ (t : Fin 4096) (k : Fin 3) (d : Fin 1024), @Eq EReal (upto ops V0 26 (Proc.devRef .tc main_v22) (ix3 t k d)) (W.S k t d) :=
    fun t k d => (congrFun (keep 26 fun U => by after_reads_simp) _).trans (f_v22 h t k d)
  have k_v9 : ∀ (t : Fin 4096) (k : Fin 3) (d : Fin 1024), @Eq EReal (upto ops V0 26 (Proc.devRef .tc main_v9) (ix3 t k d)) (W.R k t d) :=
    fun t k d => (congrFun (keep 26 fun U => by after_reads_simp) _).trans (f_v9 h t k d)
  rw [split V0 26]
  generalize upto ops V0 26 = U at *
  after_reads_at
  refine (Fin.sum_univ_three _).trans ?_
  simp only [k_v22, k_v9]
  rfl

theorem f_v26 (h : RefOk V0 W) (t : Fin 4096) (e : Fin 1024) :
    @Eq EReal (fin V0 (Proc.devRef .tc main_v26) (ix2 t e)) (W.X2 t e) := by
  have k_v24 : ∀ (t : Fin 4096) (d : Fin 1024), @Eq EReal (upto ops V0 29 (Proc.devRef .tc main_v24) (ix2 t d)) (W.M t d) :=
    fun t d => (congrFun (keep 29 fun U => by after_reads_simp) _).trans (f_v24 h t d)
  have k_arg7 : ∀ (d : Fin 1024) (e : Fin 1024), @Eq EReal (upto ops V0 29 (Proc.devRef .tc main_arg7) (ix2 d e)) (W.O d e) :=
    fun d e => (congrFun (keep 29 fun U => by after_reads_simp) _).trans (f_arg7 h d e)
  have k_arg0 : ∀ (t : Fin 4096) (d : Fin 1024), @Eq EReal (upto ops V0 29 (Proc.devRef .tc main_arg0) (ix2 t d)) (W.X t d) :=
    fun t d => (congrFun (keep 29 fun U => by after_reads_simp) _).trans (f_arg0 h t d)
  rw [split V0 29]
  generalize upto ops V0 29 = U at *
  after_reads_at
  simp only [k_v24, k_arg7, k_arg0]
  exact add_comm _ _

theorem f_v27 (h : RefOk V0 W) (t : Fin 4096) (d : Fin 1024) :
    @Eq EReal (fin V0 (Proc.devRef .tc main_v27) (ix2 t d)) (W.DX t d) := by
  have k_arg9 : ∀ (t : Fin 4096) (d : Fin 1024), @Eq EReal (upto ops V0 31 (Proc.devRef .tc main_arg9) (ix2 t d)) (W.DX t d) :=
    fun t d => (congrFun (keep 31 fun U => by after_reads_simp) _).trans (f_arg9 h t d)
  rw [split V0 31]
  generalize upto ops V0 31 = U at *
  after_reads_at
  exact k_arg9 _ _

theorem f_v29 (h : RefOk V0 W) (d : Fin 1024) (e : Fin 1024) :
    @Eq EReal (fin V0 (Proc.devRef .tc main_v29) (ix2 d e)) (W.DO d e) := by
  have k_v27 : ∀ (t : Fin 4096) (d : Fin 1024), @Eq EReal (upto ops V0 32 (Proc.devRef .tc main_v27) (ix2 t d)) (W.DX t d) :=
    fun t d => (congrFun (keep 32 fun U => by after_reads_simp) _).trans (f_v27 h t d)
  have k_v24 : ∀ (t : Fin 4096) (d : Fin 1024), @Eq EReal (upto ops V0 32 (Proc.devRef .tc main_v24) (ix2 t d)) (W.M t d) :=
    fun t d => (congrFun (keep 32 fun U => by after_reads_simp) _).trans (f_v24 h t d)
  rw [split V0 32]
  generalize upto ops V0 32 = U at *
  after_reads_at
  simp only [k_v27, k_v24]
  exact Finset.sum_congr rfl fun _ _ => mul_comm _ _

theorem f_v31 (h : RefOk V0 W) (t : Fin 4096) (k : Fin 3) (d : Fin 1024) :
    @Eq EReal (fin V0 (Proc.devRef .tc main_v31) (ix3 t k d)) (W.DM t d) := by
  have k_v27 : ∀ (t : Fin 4096) (d : Fin 1024), @Eq EReal (upto ops V0 34 (Proc.devRef .tc main_v27) (ix2 t d)) (W.DX t d) :=
    fun t d => (congrFun (keep 34 fun U => by after_reads_simp) _).trans (f_v27 h t d)
  have k_arg7 : ∀ (d : Fin 1024) (e : Fin 1024), @Eq EReal (upto ops V0 34 (Proc.devRef .tc main_arg7) (ix2 d e)) (W.O d e) :=
    fun d e => (congrFun (keep 34 fun U => by after_reads_simp) _).trans (f_arg7 h d e)
  rw [split V0 34]
  generalize upto ops V0 34 = U at *
  after_reads_at
  simp only [k_v27, k_arg7]
  rfl

theorem f_v32 (h : RefOk V0 W) (t : Fin 4096) (k : Fin 3) (d : Fin 1024) :
    @Eq EReal (fin V0 (Proc.devRef .tc main_v32) (ix3 t k d)) (W.DR k t d) := by
  have k_v22 : ∀ (t : Fin 4096) (k : Fin 3) (d : Fin 1024), @Eq EReal (upto ops V0 36 (Proc.devRef .tc main_v22) (ix3 t k d)) (W.S k t d) :=
    fun t k d => (congrFun (keep 36 fun U => by after_reads_simp) _).trans (f_v22 h t k d)
  have k_v31 : ∀ (t : Fin 4096) (k : Fin 3) (d : Fin 1024), @Eq EReal (upto ops V0 36 (Proc.devRef .tc main_v31) (ix3 t k d)) (W.DM t d) :=
    fun t k d => (congrFun (keep 36 fun U => by after_reads_simp) _).trans (f_v31 h t k d)
  rw [split V0 36]
  generalize upto ops V0 36 = U at *
  after_reads_at
  simp only [k_v22, k_v31]
  exact mul_comm _ _

theorem f_v33 (h : RefOk V0 W) (t : Fin 4096) (k : Fin 3) (d : Fin 1024) :
    @Eq EReal (fin V0 (Proc.devRef .tc main_v33) (ix3 t k d)) (W.DM t d * W.R k t d) := by
  have k_v31 : ∀ (t : Fin 4096) (k : Fin 3) (d : Fin 1024), @Eq EReal (upto ops V0 37 (Proc.devRef .tc main_v31) (ix3 t k d)) (W.DM t d) :=
    fun t k d => (congrFun (keep 37 fun U => by after_reads_simp) _).trans (f_v31 h t k d)
  have k_v9 : ∀ (t : Fin 4096) (k : Fin 3) (d : Fin 1024), @Eq EReal (upto ops V0 37 (Proc.devRef .tc main_v9) (ix3 t k d)) (W.R k t d) :=
    fun t k d => (congrFun (keep 37 fun U => by after_reads_simp) _).trans (f_v9 h t k d)
  rw [split V0 37]
  generalize upto ops V0 37 = U at *
  after_reads_at
  simp only [k_v31, k_v9]

theorem f_v35 (h : RefOk V0 W) (t : Fin 4096) (n : Fin 3072) :
    @Eq EReal (fin V0 (Proc.devRef .tc main_v35) (ix2 t n)) (W.DL (n.val / 1024) t (n.val % 1024)) := by
  have k_v33 : ∀ (t : Fin 4096) (k : Fin 3) (d : Fin 1024), @Eq EReal (upto ops V0 38 (Proc.devRef .tc main_v33) (ix3 t k d)) (W.DM t d * W.R k t d) :=
    fun t k d => (congrFun (keep 38 fun U => by after_reads_simp) _).trans (f_v33 h t k d)
  have k_v21 : ∀ (t : Fin 4096) (n : Fin 3072), @Eq EReal (upto ops V0 38 (Proc.devRef .tc main_v21) (ix2 t n)) (sg (W.L t n + W.B n) * (1 - sg (W.L t n + W.B n))) :=
    fun t n => (congrFun (keep 38 fun U => by after_reads_simp) _).trans (f_v21 h t n)
  rw [split V0 38]
  generalize upto ops V0 38 = U at *
  after_reads_at
  rw [k_v21]
  refine (congrArg (· * _) (k_v33 t ⟨n.val / 1024, by omega⟩ ⟨n.val % 1024, by omega⟩)).trans ?_
  exact dl_at W t n

theorem f_v38 (h : RefOk V0 W) (n : Fin 3072) :
    @Eq EReal (fin V0 (Proc.devRef .tc main_v38) (ix1 n)) (W.DB (n.val / 1024) (n.val % 1024)) := by
  have k_v35 : ∀ (t : Fin 4096) (n : Fin 3072), @Eq EReal (upto ops V0 40 (Proc.devRef .tc main_v35) (ix2 t n)) (W.DL (n.val / 1024) t (n.val % 1024)) :=
    fun t n => (congrFun (keep 40 fun U => by after_reads_simp) _).trans (f_v35 h t n)
  rw [split V0 40]
  generalize upto ops V0 40 = U at *
  after_reads_at
  refine (Fin.sum_univ_one _).trans ?_
  simp only [k_v35]
  rfl

theorem f_v39 (h : RefOk V0 W) (k : Fin 3) (d : Fin 1024) (t : Fin 4096) :
    @Eq EReal (fin V0 (Proc.devRef .tc main_v39) (ix3 k d t)) (W.DR k t d) := by
  have k_v32 : ∀ (t : Fin 4096) (k : Fin 3) (d : Fin 1024), @Eq EReal (upto ops V0 45 (Proc.devRef .tc main_v32) (ix3 t k d)) (W.DR k t d) :=
    fun t k d => (congrFun (keep 45 fun U => by after_reads_simp) _).trans (f_v32 h t k d)
  rw [split V0 45]
  generalize upto ops V0 45 = U at *
  after_reads_at
  exact k_v32 _ _ _

theorem f_v41 (h : RefOk V0 W) (t : Fin 4096) (k : Fin 3) (w : Fin 512) :
    @Eq EReal (fin V0 (Proc.devRef .tc main_v41) (ix3 t k w)) (W.DY k t w) := by
  have k_v39 : ∀ (k : Fin 3) (d : Fin 1024) (t : Fin 4096), @Eq EReal (upto ops V0 46 (Proc.devRef .tc main_v39) (ix3 k d t)) (W.DR k t d) :=
    fun k d t => (congrFun (keep 46 fun U => by after_reads_simp) _).trans (f_v39 h k d t)
  have k_arg6 : ∀ (k : Fin 3) (w : Fin 512) (d : Fin 1024), @Eq EReal (upto ops V0 46 (Proc.devRef .tc main_arg6) (ix3 k w d)) (W.P k w d) :=
    fun k w d => (congrFun (keep 46 fun U => by after_reads_simp) _).trans (f_arg6 h k w d)
  rw [split V0 46]
  generalize upto ops V0 46 = U at *
  after_reads_at
  simp only [k_v39, k_arg6]
  rfl

theorem f_v43 (h : RefOk V0 W) (k : Fin 3) (w : Fin 512) (d : Fin 1024) :
    @Eq EReal (fin V0 (Proc.devRef .tc main_v43) (ix3 k w d)) (W.DP k w d) := by
  have k_v39 : ∀ (k : Fin 3) (d : Fin 1024) (t : Fin 4096), @Eq EReal (upto ops V0 48 (Proc.devRef .tc main_v39) (ix3 k d t)) (W.DR k t d) :=
    fun k d t => (congrFun (keep 48 fun U => by after_reads_simp) _).trans (f_v39 h k d t)
  have k_v7 : ∀ (t : Fin 4096) (k : Fin 3) (w : Fin 512), @Eq EReal (upto ops V0 48 (Proc.devRef .tc main_v7) (ix3 t k w)) (W.Y k t w) :=
    fun t k w => (congrFun (keep 48 fun U => by after_reads_simp) _).trans (f_v7 h t k w)
  rw [split V0 48]
  generalize upto ops V0 48 = U at *
  after_reads_at
  simp only [k_v39, k_v7]
  exact Finset.sum_congr rfl fun _ _ => mul_comm _ _

theorem f_v54 (h : RefOk V0 W) (t : Fin 4096) (w : Fin 512) :
    @Eq EReal (fin V0 (Proc.devRef .tc main_v54) (ix2 t w)) (W.DY 0 t w) := by
  have k_v41 : ∀ (t : Fin 4096) (k : Fin 3) (w : Fin 512), @Eq EReal (upto ops V0 50 (Proc.devRef .tc main_v41) (ix3 t k w)) (W.DY k t w) :=
    fun t k w => (congrFun (keep 50 fun U => by after_reads_simp) _).trans (f_v41 h t k w)
  rw [split V0 50]
  generalize upto ops V0 50 = U at *
  after_reads_at
  exact k_v41 t 0 w

theorem f_v55 (h : RefOk V0 W) (t : Fin 4096) (w : Fin 512) :
    @Eq EReal (fin V0 (Proc.devRef .tc main_v55) (ix2 t w)) (W.DY 1 t w) := by
  have k_v41 : ∀ (t : Fin 4096) (k : Fin 3) (w : Fin 512), @Eq EReal (upto ops V0 50 (Proc.devRef .tc main_v41) (ix3 t k w)) (W.DY k t w) :=
    fun t k w => (congrFun (keep 50 fun U => by after_reads_simp) _).trans (f_v41 h t k w)
  rw [split V0 50]
  generalize upto ops V0 50 = U at *
  after_reads_at
  exact k_v41 t 1 w

theorem f_v56 (h : RefOk V0 W) (t : Fin 4096) (w : Fin 512) :
    @Eq EReal (fin V0 (Proc.devRef .tc main_v56) (ix2 t w)) (W.DY 2 t w) := by
  have k_v41 : ∀ (t : Fin 4096) (k : Fin 3) (w : Fin 512), @Eq EReal (upto ops V0 50 (Proc.devRef .tc main_v41) (ix3 t k w)) (W.DY k t w) :=
    fun t k w => (congrFun (keep 50 fun U => by after_reads_simp) _).trans (f_v41 h t k w)
  rw [split V0 50]
  generalize upto ops V0 50 = U at *
  after_reads_at
  exact k_v41 t 2 w

theorem f_v53 (h : RefOk V0 W) (k : Fin 3) (t : Fin 4096) (d : Fin 1024) :
    @Eq EReal (fin V0 (Proc.devRef .tc main_v53) (ix3 k t d)) (W.DL k t d) := by
  have k_v35 : ∀ (t : Fin 4096) (n : Fin 3072), @Eq EReal (upto ops V0 56 (Proc.devRef .tc main_v35) (ix2 t n)) (W.DL (n.val / 1024) t (n.val % 1024)) :=
    fun t n => (congrFun (keep 56 fun U => by after_reads_simp) _).trans (f_v35 h t n)
  rw [split V0 56]
  generalize upto ops V0 56 = U at *
  after_reads_at
  refine (k_v35 t _).trans ?_
  exact dl_cut W k t d

theorem f_v52 (h : RefOk V0 W) (d : Fin 1024) (e : Fin 1024) :
    @Eq EReal (fin V0 (Proc.devRef .tc main_v52) (ix2 d e)) (W.DO d e) := by
  have k_v29 : ∀ (d : Fin 1024) (e : Fin 1024), @Eq EReal (upto ops V0 58 (Proc.devRef .tc main_v29) (ix2 d e)) (W.DO d e) :=
    fun d e => (congrFun (keep 58 fun U => by after_reads_simp) _).trans (f_v29 h d e)
  rw [split V0 58]
  generalize upto ops V0 58 = U at *
  after_reads_at
  exact k_v29 d e

theorem f_v59 (h : RefOk V0 W) (w : Fin 512) (d : Fin 1024) :
    @Eq EReal (fin V0 (Proc.devRef .tc main_v59) (ix2 w d)) (W.DP 0 w d) := by
  have k_v43 : ∀ (k : Fin 3) (w : Fin 512) (d : Fin 1024), @Eq EReal (upto ops V0 63 (Proc.devRef .tc main_v43) (ix3 k w d)) (W.DP k w d) :=
    fun k w d => (congrFun (keep 63 fun U => by after_reads_simp) _).trans (f_v43 h k w d)
  rw [split V0 63]
  generalize upto ops V0 63 = U at *
  after_reads_at
  exact k_v43 0 w d

theorem f_v62 (h : RefOk V0 W) (w : Fin 512) (d : Fin 1024) :
    @Eq EReal (fin V0 (Proc.devRef .tc main_v62) (ix2 w d)) (W.DP 1 w d) := by
  have k_v43 : ∀ (k : Fin 3) (w : Fin 512) (d : Fin 1024), @Eq EReal (upto ops V0 63 (Proc.devRef .tc main_v43) (ix3 k w d)) (W.DP k w d) :=
    fun k w d => (congrFun (keep 63 fun U => by after_reads_simp) _).trans (f_v43 h k w d)
  rw [split V0 63]
  generalize upto ops V0 63 = U at *
  after_reads_at
  exact k_v43 1 w d

theorem f_v65 (h : RefOk V0 W) (w : Fin 512) (d : Fin 1024) :
    @Eq EReal (fin V0 (Proc.devRef .tc main_v65) (ix2 w d)) (W.DP 2 w d) := by
  have k_v43 : ∀ (k : Fin 3) (w : Fin 512) (d : Fin 1024), @Eq EReal (upto ops V0 63 (Proc.devRef .tc main_v43) (ix3 k w d)) (W.DP k w d) :=
    fun k w d => (congrFun (keep 63 fun U => by after_reads_simp) _).trans (f_v43 h k w d)
  rw [split V0 63]
  generalize upto ops V0 63 = U at *
  after_reads_at
  exact k_v43 2 w d

/-! ## The results -/

theorem ix2_eta {a b : ℕ} (j : (i : Fin 2) → Fin ((![a, b] : Fin 2 → ℕ) i)) : j = ix2 (j 0 : Fin a) (j 1 : Fin b) := by
  funext i; match i with
  | 0 => rfl
  | 1 => rfl

theorem ix3_eta {a b c : ℕ} (j : (i : Fin 3) → Fin ((![a, b, c] : Fin 3 → ℕ) i)) : j = ix3 (j 0 : Fin a) (j 1 : Fin b) (j 2 : Fin c) := by
  funext i; match i with
  | 0 => rfl
  | 1 => rfl
  | 2 => rfl

theorem ix1_eta {a : ℕ} (j : (i : Fin 1) → Fin ((![a] : Fin 1 → ℕ) i)) : j = ix1 (j 0 : Fin a) := by
  funext i; match i with
  | 0 => rfl

theorem r_v26 (h : RefOk V0 W) : fin V0 (Proc.devRef .tc main_v26) = x2Of W := funext fun j =>
  (congrArg (fin V0 (Proc.devRef .tc main_v26)) (ix2_eta (a := 4096) (b := 1024) j)).trans (f_v26 h (j 0) (j 1))

theorem r_v52 (h : RefOk V0 W) : fin V0 (Proc.devRef .tc main_v52) = dwOf W := funext fun j =>
  (congrArg (fin V0 (Proc.devRef .tc main_v52)) (ix2_eta (a := 1024) (b := 1024) j)).trans (f_v52 h (j 0) (j 1))

theorem r_v53 (h : RefOk V0 W) : fin V0 (Proc.devRef .tc main_v53) = dglOf W := funext fun j =>
  (congrArg (fin V0 (Proc.devRef .tc main_v53)) (ix3_eta (a := 3) (b := 4096) (c := 1024) j)).trans (f_v53 h (j 0) (j 1) (j 2))

theorem r_v38 (h : RefOk V0 W) : fin V0 (Proc.devRef .tc main_v38) = dbgOf W := funext fun j =>
  (congrArg (fin V0 (Proc.devRef .tc main_v38)) (ix1_eta (a := 3072) j)).trans (f_v38 h (j 0))

theorem r_v54 (h : RefOk V0 W) : fin V0 (Proc.devRef .tc main_v54) = dyOf W 0 := funext fun j =>
  (congrArg (fin V0 (Proc.devRef .tc main_v54)) (ix2_eta (a := 4096) (b := 512) j)).trans (f_v54 h (j 0) (j 1))

theorem r_v55 (h : RefOk V0 W) : fin V0 (Proc.devRef .tc main_v55) = dyOf W 1 := funext fun j =>
  (congrArg (fin V0 (Proc.devRef .tc main_v55)) (ix2_eta (a := 4096) (b := 512) j)).trans (f_v55 h (j 0) (j 1))

theorem r_v56 (h : RefOk V0 W) : fin V0 (Proc.devRef .tc main_v56) = dyOf W 2 := funext fun j =>
  (congrArg (fin V0 (Proc.devRef .tc main_v56)) (ix2_eta (a := 4096) (b := 512) j)).trans (f_v56 h (j 0) (j 1))

theorem r_v59 (h : RefOk V0 W) : fin V0 (Proc.devRef .tc main_v59) = dwbOf W 0 := funext fun j =>
  (congrArg (fin V0 (Proc.devRef .tc main_v59)) (ix2_eta (a := 512) (b := 1024) j)).trans (f_v59 h (j 0) (j 1))

theorem r_v62 (h : RefOk V0 W) : fin V0 (Proc.devRef .tc main_v62) = dwbOf W 1 := funext fun j =>
  (congrArg (fin V0 (Proc.devRef .tc main_v62)) (ix2_eta (a := 512) (b := 1024) j)).trans (f_v62 h (j 0) (j 1))

theorem r_v65 (h : RefOk V0 W) : fin V0 (Proc.devRef .tc main_v65) = dwbOf W 2 := funext fun j =>
  (congrArg (fin V0 (Proc.devRef .tc main_v65)) (ix2_eta (a := 512) (b := 1024) j)).trans (f_v65 h (j 0) (j 1))

/-- The reference's run: its arguments stay, and its results are the merge's of the inputs they hold. -/
theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      (∀ W : Mix, RefOk (launchContents m c) W →
        r.2.mem ((c.tc : Thread nD τ).loc main_v26) = x2Of W
        ∧ r.2.mem ((c.tc : Thread nD τ).loc main_v52) = dwOf W
        ∧ r.2.mem ((c.tc : Thread nD τ).loc main_v53) = dglOf W
        ∧ r.2.mem ((c.tc : Thread nD τ).loc main_v38) = dbgOf W
        ∧ r.2.mem ((c.tc : Thread nD τ).loc main_v54) = dyOf W 0
        ∧ r.2.mem ((c.tc : Thread nD τ).loc main_v55) = dyOf W 1
        ∧ r.2.mem ((c.tc : Thread nD τ).loc main_v56) = dyOf W 2
        ∧ r.2.mem ((c.tc : Thread nD τ).loc main_v59) = dwbOf W 0
        ∧ r.2.mem ((c.tc : Thread nD τ).loc main_v62) = dwbOf W 1
        ∧ r.2.mem ((c.tc : Thread nD τ).loc main_v65) = dwbOf W 2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨fun _ hW => ⟨(h c main_v26).trans (r_v26 hW),
      (h c main_v52).trans (r_v52 hW),
      (h c main_v53).trans (r_v53 hW),
      (h c main_v38).trans (r_v38 hW),
      (h c main_v54).trans (r_v54 hW),
      (h c main_v55).trans (r_v55 hW),
      (h c main_v56).trans (r_v56 hW),
      (h c main_v59).trans (r_v59 hW),
      (h c main_v62).trans (r_v62 hW),
      (h c main_v65).trans (r_v65 hW)⟩,
      (h c main_arg0).trans (fin_arg fun U => by after_reads_simp),
      (h c main_arg1).trans (fin_arg fun U => by after_reads_simp),
      (h c main_arg2).trans (fin_arg fun U => by after_reads_simp),
      (h c main_arg3).trans (fin_arg fun U => by after_reads_simp),
      (h c main_arg4).trans (fin_arg fun U => by after_reads_simp),
      (h c main_arg5).trans (fin_arg fun U => by after_reads_simp),
      (h c main_arg6).trans (fin_arg fun U => by after_reads_simp),
      (h c main_arg7).trans (fin_arg fun U => by after_reads_simp),
      (h c main_arg8).trans (fin_arg fun U => by after_reads_simp),
      (h c main_arg9).trans (fin_arg fun U => by after_reads_simp)⟩)
    (run_seq scopedRefs_eq scopedSems_eq defs main (fun _ => ops) main_eq (fun _ => ops_sub) m ρ)

end Cert.Proof.Merge.Ref

end
-- ==== Proof.ProjRun.lean ====
/-
  The run of the input projections and their gradients: the launch over the segments, with the result buffers read at the last boundary.
-/
module

public import proofs.«01_k».proof.Proof.Gen.Kernel4Ideal.Frame

@[expose] public section

set_option maxRecDepth 16384

noncomputable section

namespace Cert.Proof.Proj

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- The whole run: the results end at the last boundary's contents, the arguments as launched, every counter at zero. -/
theorem run_full : θ_run defs (onTc (τ := τ) (main (F := F))) ⟨m, fun _ => 0, ρ⟩ (fun r => (∀ c : Dev nD,
      (r.2.mem ((c.tc : Thread nD τ).loc main_v6) = W23 m ρ c (Proc.devRef .tc main_v6)
      ∧ r.2.mem ((c.tc : Thread nD τ).loc main_v45) = W23 m ρ c (Proc.devRef .tc main_v45)
      ∧ r.2.mem ((c.tc : Thread nD τ).loc main_v8) = W23 m ρ c (Proc.devRef .tc main_v8)
      ∧ r.2.mem ((c.tc : Thread nD τ).loc main_v9) = W23 m ρ c (Proc.devRef .tc main_v9)
      ∧ r.2.mem ((c.tc : Thread nD τ).loc main_v32) = W23 m ρ c (Proc.devRef .tc main_v32)
      ∧ r.2.mem ((c.tc : Thread nD τ).loc main_v33) = W23 m ρ c (Proc.devRef .tc main_v33)
      ∧ r.2.mem ((c.tc : Thread nD τ).loc main_v34) = W23 m ρ c (Proc.devRef .tc main_v34)
      ∧ r.2.mem ((c.tc : Thread nD τ).loc main_v35) = W23 m ρ c (Proc.devRef .tc main_v35)
      ∧ r.2.mem ((c.tc : Thread nD τ).loc main_v36) = W23 m ρ c (Proc.devRef .tc main_v36)
      ∧ r.2.mem ((c.tc : Thread nD τ).loc main_v38) = W23 m ρ c (Proc.devRef .tc main_v38)
      ∧ r.2.mem ((c.tc : Thread nD τ).loc main_v39) = W23 m ρ c (Proc.devRef .tc main_v39)
      ∧ r.2.mem ((c.tc : Thread nD τ).loc main_v40) = W23 m ρ c (Proc.devRef .tc main_v40)
      ∧ r.2.mem ((c.tc : Thread nD τ).loc main_v41) = W23 m ρ c (Proc.devRef .tc main_v41)
      ∧ r.2.mem ((c.tc : Thread nD τ).loc main_v42) = W23 m ρ c (Proc.devRef .tc main_v42)
      ∧ r.2.mem ((c.tc : Thread nD τ).loc main_v43) = W23 m ρ c (Proc.devRef .tc main_v43)
      ∧ r.2.mem ((c.tc : Thread nD τ).loc main_v44) = W23 m ρ c (Proc.devRef .tc main_v44))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W23 m ρ c b)
    (hfin := fun c s' => by
      iintro ⟨⟨Hh, -⟩, HSI⟩
      unfold StableHlo.held
      imodintro
      iapply (pointsTo_read_all (Pipeline.ucRefs τ sig) (fun b => (((c : Thread nD τ)).1, b)) (W23 m ρ c) s')
      isplitl [Hh] <;> iassumption)
    (hQ := fun s h hz => ⟨(fun c =>
      ⟨⟨h c _ (mem_uc main_v6 (by decide)),
        h c _ (mem_uc main_v45 (by decide)),
        h c _ (mem_uc main_v8 (by decide)),
        h c _ (mem_uc main_v9 (by decide)),
        h c _ (mem_uc main_v32 (by decide)),
        h c _ (mem_uc main_v33 (by decide)),
        h c _ (mem_uc main_v34 (by decide)),
        h c _ (mem_uc main_v35 (by decide)),
        h c _ (mem_uc main_v36 (by decide)),
        h c _ (mem_uc main_v38 (by decide)),
        h c _ (mem_uc main_v39 (by decide)),
        h c _ (mem_uc main_v40 (by decide)),
        h c _ (mem_uc main_v41 (by decide)),
        h c _ (mem_uc main_v42 (by decide)),
        h c _ (mem_uc main_v43 (by decide)),
        h c _ (mem_uc main_v44 (by decide))⟩,
       (h c _ (mem_uc main_arg0 (by decide))).trans (W23_main_arg0 m ρ c),
       (h c _ (mem_uc main_arg1 (by decide))).trans (W23_main_arg1 m ρ c),
       (h c _ (mem_uc main_arg2 (by decide))).trans (W23_main_arg2 m ρ c)⟩), funext fun g => hz g (.inr (no_unscoped g.2))⟩)

end Cert.Proof.Proj

end
-- ==== Proof.ProjSame.lean ====
/-
  The two printings of the projections are one program: the frame of the kernel at words from the run over any scalars.
-/
module

public import proofs.«01_k».proof.Defs
public import proofs.«01_k».proof.Proof.ProjRun
public import proofs.«01_k».proof.Proof.Gen.Kernel4

@[expose] public section

set_option maxRecDepth 16384
set_option maxHeartbeats 8000000

noncomputable section

namespace Cert.Proof.Proj

open Idealize.ShloMosaic Idealize.ShloMosaic.TcCoe Idealize.SL.Sem

variable {F : FTy → Type} [FloatOps F]

theorem defs₀_eq : Cert.Kernel4.defs₀ (F := F) = Cert.Kernel4Ideal.defs₀ (F := F) := by
  unfold Cert.Kernel4.defs₀ Cert.Kernel4Ideal.defs₀
  refine congrArg Defs.onTc (funext fun l => funext fun a => ?_)
  obtain ⟨n, hn⟩ := l
  match n, hn with
  | 0, _ => rfl
  | 1, _ => rfl
  | 2, _ => rfl
  | 3, _ => rfl
  | 4, _ => rfl
  | 5, _ => rfl
  | 6, _ => rfl
  | 7, _ => rfl
  | 8, _ => rfl
  | 9, _ => rfl
  | 10, _ => rfl
  | 11, _ => rfl
  | 12, _ => rfl
  | 13, _ => rfl
  | 14, _ => rfl
  | 15, _ => rfl
  | n + 16, h => exact absurd h (Nat.not_lt.2 (Nat.le_add_left _ _))

theorem defs_eq : Cert.Kernel4.defs (F := F) = Cert.Kernel4Ideal.defs (F := F) :=
  congrArg (Pipeline.defs Cert.Kernel4Ideal.pcfgs) defs₀_eq

theorem main_eq (c : Dev Cert.Kernel4.nD) : Cert.Kernel4.main (F := F) c = Cert.Kernel4Ideal.main (F := F) c := by
  unfold Cert.Kernel4.main Cert.Kernel4Ideal.main
  rfl

theorem onTc_main_eq : (onTc (τ := Cert.Kernel4.τ) (Cert.Kernel4.main (F := F))) = onTc (τ := Cert.Kernel4Ideal.τ) (Cert.Kernel4Ideal.main (F := F)) :=
  congrArg (onTc (τ := Cert.Kernel4Ideal.τ)) (funext main_eq)

/-- The frame of the kernel at words, from the run of its ideal printing over any scalars. -/
theorem kernel_frame : Cert.quiescent_Kernel4 := fun m g _ => by
  rw [onTc_main_eq, defs_eq]
  exact (θ_run Cert.Kernel4Ideal.defs _ _).mono (fun _ h => ⟨fun c => (h.1 c).2, h.2⟩) (run_full (F := Bits) m g)

theorem ideal_frame : Cert.quiescent_Kernel4Ideal := fun m g _ =>
  (θ_run Cert.Kernel4Ideal.defs _ _).mono (fun _ h => ⟨fun c => (h.1 c).2, h.2⟩) (run_full (F := Ideal) m g)

end Cert.Proof.Proj

end
-- ==== Proof.ProjPay.lean ====
/-
  The products that the input projections' calls and their weight's gradient's calls store, at a point.
-/
module

public import proofs.«01_k».proof.Proof.Heads
public import proofs.«01_k».proof.Proof.Gen.Kernel4Ideal.Skeleton
public import Idealize.ShloMosaic.Lib.Pointwise

@[expose] public section

set_option maxRecDepth 16384

noncomputable section

namespace Cert.Proof.Proj

open Cert.Kernel4Ideal Cert.Kernel4Ideal.Gen
open Idealize.ShloMosaic Idealize.ShloMosaic.TcCoe Idealize.ShloMosaic.Tactic
open Idealize.ShloMosaic.Pipeline (Dat Cfg Window)

theorem off2 : (![0, 0] : Fin 2 → ℕ) = fun _ => 0 := by decide
theorem off3 : (![0, 0, 0] : Fin 3 → ℕ) = fun _ => 0 := by decide

theorem ix2_eta {a b : ℕ} (y : (⟨2, ![a, b]⟩ : Shape).Idx) : y = ix2 (y 0 : Fin a) (y 1 : Fin b) := by
  funext i; match i with
  | 0 => rfl
  | 1 => rfl

theorem ix3_eta {a b c : ℕ} (y : (⟨3, ![a, b, c]⟩ : Shape).Idx) : y = ix3 (y 0 : Fin a) (y 1 : Fin b) (y 2 : Fin c) := by
  funext i; match i with
  | 0 => rfl
  | 1 => rfl
  | 2 => rfl

/-- A product's entry, the second factor's rows summed over. -/
def nn (f g : ℕ → ℕ → EReal) (t n : ℕ) : EReal := ∑ d : Fin 1024, f t d * g d n

/-- An entry of the product of a transpose, the tokens summed over. -/
def tn (f g : ℕ → ℕ → EReal) (d n : ℕ) : EReal := ∑ t : Fin 4096, f t d * g t n

theorem nn_cols {f g g' : ℕ → ℕ → EReal} {t n n' : ℕ} (h : ∀ d : Fin 1024, g d n = g' d n') : nn f g t n = nn f g' t n' :=
  Finset.sum_congr rfl fun d _ => by rw [h d]

theorem tn_cols {f g g' : ℕ → ℕ → EReal} {d n n' : ℕ} (h : ∀ t : Fin 4096, g t n = g' t n') : tn f g d n = tn f g' d n' :=
  Finset.sum_congr rfl fun t _ => by rw [h t]

theorem k0_pay1_at {v0 : Vec Ideal S1024x1024 .bf16} {v1 : Vec Ideal S1024x512 .bf16} {a b : Fin 1024 → EReal} (r : Fin 1024) (d : Fin 512)
    (ha : ∀ e : Fin 1024, v0 (ix2 r e) = a e) (hb : ∀ e : Fin 1024, v1 (ix2 e d) = b e) :
    @Eq EReal (k0_pay1 v0 v1 (ix2 r d)) (∑ e, a e * b e) := by
  pointwise [k0_pay1]
  simp only [ha, hb]

theorem k1_pay1_at {v0 : Vec Ideal S1024x1024 .bf16} {v1 : Vec Ideal S1024x128 .bf16} {a b : Fin 1024 → EReal} (r : Fin 1024) (d : Fin 128)
    (ha : ∀ e : Fin 1024, v0 (ix2 r e) = a e) (hb : ∀ e : Fin 1024, v1 (ix2 e d) = b e) :
    @Eq EReal (k1_pay1 v0 v1 (ix2 r d)) (∑ e, a e * b e) := by
  pointwise [k1_pay1]
  simp only [ha, hb]

theorem k4_pay1_at {v0 : Vec Ideal S4096x1024 .bf16} {v1 : Vec Ideal S4096x512 .bf16} {a b : Fin 4096 → EReal} (r : Fin 1024) (d : Fin 512)
    (ha : ∀ e : Fin 4096, v0 (ix2 e r) = a e) (hb : ∀ e : Fin 4096, v1 (ix2 e d) = b e) :
    @Eq EReal (k4_pay1 v0 v1 (ix2 r d)) (∑ e, a e * b e) := by
  pointwise [k4_pay1]
  simp only [ha, hb]

theorem k9_pay1_at {v0 : Vec Ideal S4096x1024 .bf16} {v1 : Vec Ideal S4096x128 .f32} {a b : Fin 4096 → EReal} (r : Fin 1024) (d : Fin 128)
    (ha : ∀ e : Fin 4096, v0 (ix2 e r) = a e) (hb : ∀ e : Fin 4096, v1 (ix2 e d) = b e) :
    @Eq EReal (k9_pay1 v0 v1 (ix2 r d)) (∑ e, a e * b e) := by
  pointwise [k9_pay1]
  simp only [ha, hb]

theorem k13_pay1_at {v0 : Vec Ideal S4096x1024 .bf16} {v1 : Vec Ideal S1x4096x512 .bf16} {a b : Fin 4096 → EReal} (r : Fin 1024) (d : Fin 512)
    (ha : ∀ e : Fin 4096, v0 (ix2 e r) = a e) (hb : ∀ e : Fin 4096, v1 (ix3 0 e d) = b e) :
    @Eq EReal (k13_pay1 v0 v1 (ix2 r d)) (∑ e, a e * b e) := by
  pointwise [k13_pay1]
  simp only [ha, hb]

theorem k2_pay1_eq : @k2_pay1 Ideal _ = k0_pay1 := rfl
theorem k3_pay1_eq : @k3_pay1 Ideal _ = k0_pay1 := rfl
theorem k5_pay1_eq : @k5_pay1 Ideal _ = k4_pay1 := rfl
theorem k6_pay1_eq : @k6_pay1 Ideal _ = k4_pay1 := rfl
theorem k7_pay1_eq : @k7_pay1 Ideal _ = k4_pay1 := rfl
theorem k8_pay1_eq : @k8_pay1 Ideal _ = k4_pay1 := rfl
theorem k10_pay1_eq : @k10_pay1 Ideal _ = k4_pay1 := rfl
theorem k11_pay1_eq : @k11_pay1 Ideal _ = k4_pay1 := rfl
theorem k12_pay1_eq : @k12_pay1 Ideal _ = k4_pay1 := rfl
theorem k14_pay1_eq : @k14_pay1 Ideal _ = k13_pay1 := rfl
theorem k15_pay1_eq : @k15_pay1 Ideal _ = k13_pay1 := rfl

end Cert.Proof.Proj

end
-- ==== Proof.ProjGrad.lean ====
/-
  The gradients of the weight's columns, a call for each part.
-/
module

public import proofs.«01_k».proof.Proof.ProjPay
public import proofs.«01_k».proof.Proof.Gen.Kernel4Ideal.Frame.Region4
public import proofs.«01_k».proof.Proof.Gen.Kernel4Ideal.Frame.Region5
public import proofs.«01_k».proof.Proof.Gen.Kernel4Ideal.Frame.Region6
public import proofs.«01_k».proof.Proof.Gen.Kernel4Ideal.Frame.Region7
public import proofs.«01_k».proof.Proof.Gen.Kernel4Ideal.Frame.Region8
public import proofs.«01_k».proof.Proof.Gen.Kernel4Ideal.Frame.Region9
public import proofs.«01_k».proof.Proof.Gen.Kernel4Ideal.Frame.Region10
public import proofs.«01_k».proof.Proof.Gen.Kernel4Ideal.Frame.Region11
public import proofs.«01_k».proof.Proof.Gen.Kernel4Ideal.Frame.Region12
public import proofs.«01_k».proof.Proof.Gen.Kernel4Ideal.Frame.Region13
public import proofs.«01_k».proof.Proof.Gen.Kernel4Ideal.Frame.Region14
public import proofs.«01_k».proof.Proof.Gen.Kernel4Ideal.Frame.Region15
public import Idealize.ShloMosaic.Lib.Pipeline.ValueKit

@[expose] public section

set_option maxRecDepth 16384

noncomputable section

namespace Cert.Proof.Proj

open Cert.Kernel4Ideal Cert.Kernel4Ideal.Gen
open Idealize.ShloMosaic Idealize.ShloMosaic.TcCoe Idealize.ShloMosaic.Tactic
open Idealize.ShloMosaic.Pipeline (Dat Cfg Window)

variable (V : (c : Dev nD) → (b : Ref sig .tc) → Buf (Elt Ideal) ((c : Thread nD τ).loc b))

theorem idx4_0 : ∀ t : Fin cfg4.N, win4_0.index t = ![0, 0] := by decide +kernel

theorem iblk4_0 (f : ℕ → ℕ → EReal) (c : Dev nD) (h : V c main_arg0 = fun y : S4096x1024.Idx => f (y 0) (y 1)) (t : Fin cfg4.N) (r : Fin 4096) (d : Fin 1024) :
    @Eq EReal (iblk4 V c 0 t (ix2 r d)) (f r.val d.val) := by
  have e := idx4_0 t
  have k : iblk4 V c 0 t (ix2 r d) = V c main_arg0 (ix2 r d) := by
    blk_ext [iblk4, e]
  rw [k, h]; rfl

theorem idx4_1 : ∀ t : Fin cfg4.N, win4_1.index t = ![0, 0] := by decide +kernel

theorem iblk4_1 (g : ℕ → ℕ → EReal) (c : Dev nD) (h : V c main_v11 = fun y : S4096x512.Idx => g (y 0) (y 1)) (t : Fin cfg4.N) (r : Fin 4096) (d : Fin 512) :
    @Eq EReal (iblk4 V c 1 t (ix2 r d)) (g r.val d.val) := by
  have e := idx4_1 t
  have k : iblk4 V c 1 t (ix2 r d) = V c main_v11 (ix2 r d) := by
    blk_ext [iblk4, e]
  rw [k, h]; rfl

theorem idx4_2 : ∀ t : Fin cfg4.N, win4_2.index t = ![0, 0] := by decide +kernel

theorem out4_2_eq (x0 : Vec Ideal S4096x1024 .bf16) (x1 : Vec Ideal S4096x512 .bf16) : out4_2 x0 x1 = k4_pay1 x0 x1 := by
  unfold out4_2
  rw [View.canon_unit_zero off2, View.ld_unit_zero off2, View.ld_unit_zero off2]

theorem arr4 (c : Dev nD) {f : ℕ → ℕ → EReal} {g : ℕ → ℕ → EReal} (hf : V c main_arg0 = fun y : S4096x1024.Idx => f (y 0) (y 1))
    (hg : V c main_v11 = fun y : S4096x512.Idx => g (y 0) (y 1)) :
    (dat4 V c).arrAt 2 cfg4.N = fun y : S1024x512.Idx => tn f g (y 0) (y 1) := by
  refine (dat4 V c).arrAt_eq_of_covers 2 _ (by decide +kernel) fun t hf' y => ?_
  have e := idx4_2 t
  blk_simp
  rw [after4_2, e, out4_2_eq]
  refine (congrArg (k4_pay1 _ _) (ix2_eta (a := 1024) (b := 512) y)).trans ?_
  refine (k4_pay1_at (y 0 : Fin 1024) (y 1 : Fin 512) (fun e => iblk4_0 V f c hf t e _) (fun e => iblk4_1 V g c hg t e _)).trans ?_
  show _ = tn f g (0 * 1024 + (y 0).val) (0 * 512 + (y 1).val)
  simp only [Nat.zero_mul, Nat.zero_add]
  rfl

theorem idx5_0 : ∀ t : Fin cfg5.N, win5_0.index t = ![0, 0] := by decide +kernel

theorem iblk5_0 (f : ℕ → ℕ → EReal) (c : Dev nD) (h : V c main_arg0 = fun y : S4096x1024.Idx => f (y 0) (y 1)) (t : Fin cfg5.N) (r : Fin 4096) (d : Fin 1024) :
    @Eq EReal (iblk5 V c 0 t (ix2 r d)) (f r.val d.val) := by
  have e := idx5_0 t
  have k : iblk5 V c 0 t (ix2 r d) = V c main_arg0 (ix2 r d) := by
    blk_ext [iblk5, e]
  rw [k, h]; rfl

theorem idx5_1 : ∀ t : Fin cfg5.N, win5_1.index t = ![0, 0] := by decide +kernel

theorem iblk5_1 (g : ℕ → ℕ → EReal) (c : Dev nD) (h : V c main_v13 = fun y : S4096x512.Idx => g (y 0) (y 1)) (t : Fin cfg5.N) (r : Fin 4096) (d : Fin 512) :
    @Eq EReal (iblk5 V c 1 t (ix2 r d)) (g r.val d.val) := by
  have e := idx5_1 t
  have k : iblk5 V c 1 t (ix2 r d) = V c main_v13 (ix2 r d) := by
    blk_ext [iblk5, e]
  rw [k, h]; rfl

theorem idx5_2 : ∀ t : Fin cfg5.N, win5_2.index t = ![0, 0] := by decide +kernel

theorem out5_2_eq (x0 : Vec Ideal S4096x1024 .bf16) (x1 : Vec Ideal S4096x512 .bf16) : out5_2 x0 x1 = k4_pay1 x0 x1 := by
  unfold out5_2
  rw [View.canon_unit_zero off2, View.ld_unit_zero off2, View.ld_unit_zero off2, k5_pay1_eq]

theorem arr5 (c : Dev nD) {f : ℕ → ℕ → EReal} {g : ℕ → ℕ → EReal} (hf : V c main_arg0 = fun y : S4096x1024.Idx => f (y 0) (y 1))
    (hg : V c main_v13 = fun y : S4096x512.Idx => g (y 0) (y 1)) :
    (dat5 V c).arrAt 2 cfg5.N = fun y : S1024x512.Idx => tn f g (y 0) (y 1) := by
  refine (dat5 V c).arrAt_eq_of_covers 2 _ (by decide +kernel) fun t hf' y => ?_
  have e := idx5_2 t
  blk_simp
  rw [after5_2, e, out5_2_eq]
  refine (congrArg (k4_pay1 _ _) (ix2_eta (a := 1024) (b := 512) y)).trans ?_
  refine (k4_pay1_at (y 0 : Fin 1024) (y 1 : Fin 512) (fun e => iblk5_0 V f c hf t e _) (fun e => iblk5_1 V g c hg t e _)).trans ?_
  show _ = tn f g (0 * 1024 + (y 0).val) (0 * 512 + (y 1).val)
  simp only [Nat.zero_mul, Nat.zero_add]
  rfl

theorem idx6_0 : ∀ t : Fin cfg6.N, win6_0.index t = ![0, 0] := by decide +kernel

theorem iblk6_0 (f : ℕ → ℕ → EReal) (c : Dev nD) (h : V c main_arg0 = fun y : S4096x1024.Idx => f (y 0) (y 1)) (t : Fin cfg6.N) (r : Fin 4096) (d : Fin 1024) :
    @Eq EReal (iblk6 V c 0 t (ix2 r d)) (f r.val d.val) := by
  have e := idx6_0 t
  have k : iblk6 V c 0 t (ix2 r d) = V c main_arg0 (ix2 r d) := by
    blk_ext [iblk6, e]
  rw [k, h]; rfl

theorem idx6_1 : ∀ t : Fin cfg6.N, win6_1.index t = ![0, 0] := by decide +kernel

theorem iblk6_1 (g : ℕ → ℕ → EReal) (c : Dev nD) (h : V c main_v15 = fun y : S4096x512.Idx => g (y 0) (y 1)) (t : Fin cfg6.N) (r : Fin 4096) (d : Fin 512) :
    @Eq EReal (iblk6 V c 1 t (ix2 r d)) (g r.val d.val) := by
  have e := idx6_1 t
  have k : iblk6 V c 1 t (ix2 r d) = V c main_v15 (ix2 r d) := by
    blk_ext [iblk6, e]
  rw [k, h]; rfl

theorem idx6_2 : ∀ t : Fin cfg6.N, win6_2.index t = ![0, 0] := by decide +kernel

theorem out6_2_eq (x0 : Vec Ideal S4096x1024 .bf16) (x1 : Vec Ideal S4096x512 .bf16) : out6_2 x0 x1 = k4_pay1 x0 x1 := by
  unfold out6_2
  rw [View.canon_unit_zero off2, View.ld_unit_zero off2, View.ld_unit_zero off2, k6_pay1_eq]

theorem arr6 (c : Dev nD) {f : ℕ → ℕ → EReal} {g : ℕ → ℕ → EReal} (hf : V c main_arg0 = fun y : S4096x1024.Idx => f (y 0) (y 1))
    (hg : V c main_v15 = fun y : S4096x512.Idx => g (y 0) (y 1)) :
    (dat6 V c).arrAt 2 cfg6.N = fun y : S1024x512.Idx => tn f g (y 0) (y 1) := by
  refine (dat6 V c).arrAt_eq_of_covers 2 _ (by decide +kernel) fun t hf' y => ?_
  have e := idx6_2 t
  blk_simp
  rw [after6_2, e, out6_2_eq]
  refine (congrArg (k4_pay1 _ _) (ix2_eta (a := 1024) (b := 512) y)).trans ?_
  refine (k4_pay1_at (y 0 : Fin 1024) (y 1 : Fin 512) (fun e => iblk6_0 V f c hf t e _) (fun e => iblk6_1 V g c hg t e _)).trans ?_
  show _ = tn f g (0 * 1024 + (y 0).val) (0 * 512 + (y 1).val)
  simp only [Nat.zero_mul, Nat.zero_add]
  rfl

theorem idx7_0 : ∀ t : Fin cfg7.N, win7_0.index t = ![0, 0] := by decide +kernel

theorem iblk7_0 (f : ℕ → ℕ → EReal) (c : Dev nD) (h : V c main_arg0 = fun y : S4096x1024.Idx => f (y 0) (y 1)) (t : Fin cfg7.N) (r : Fin 4096) (d : Fin 1024) :
    @Eq EReal (iblk7 V c 0 t (ix2 r d)) (f r.val d.val) := by
  have e := idx7_0 t
  have k : iblk7 V c 0 t (ix2 r d) = V c main_arg0 (ix2 r d) := by
    blk_ext [iblk7, e]
  rw [k, h]; rfl

theorem idx7_1 : ∀ t : Fin cfg7.N, win7_1.index t = ![0, 0] := by decide +kernel

theorem iblk7_1 (g : ℕ → ℕ → EReal) (c : Dev nD) (h : V c main_v17 = fun y : S4096x512.Idx => g (y 0) (y 1)) (t : Fin cfg7.N) (r : Fin 4096) (d : Fin 512) :
    @Eq EReal (iblk7 V c 1 t (ix2 r d)) (g r.val d.val) := by
  have e := idx7_1 t
  have k : iblk7 V c 1 t (ix2 r d) = V c main_v17 (ix2 r d) := by
    blk_ext [iblk7, e]
  rw [k, h]; rfl

theorem idx7_2 : ∀ t : Fin cfg7.N, win7_2.index t = ![0, 0] := by decide +kernel

theorem out7_2_eq (x0 : Vec Ideal S4096x1024 .bf16) (x1 : Vec Ideal S4096x512 .bf16) : out7_2 x0 x1 = k4_pay1 x0 x1 := by
  unfold out7_2
  rw [View.canon_unit_zero off2, View.ld_unit_zero off2, View.ld_unit_zero off2, k7_pay1_eq]

theorem arr7 (c : Dev nD) {f : ℕ → ℕ → EReal} {g : ℕ → ℕ → EReal} (hf : V c main_arg0 = fun y : S4096x1024.Idx => f (y 0) (y 1))
    (hg : V c main_v17 = fun y : S4096x512.Idx => g (y 0) (y 1)) :
    (dat7 V c).arrAt 2 cfg7.N = fun y : S1024x512.Idx => tn f g (y 0) (y 1) := by
  refine (dat7 V c).arrAt_eq_of_covers 2 _ (by decide +kernel) fun t hf' y => ?_
  have e := idx7_2 t
  blk_simp
  rw [after7_2, e, out7_2_eq]
  refine (congrArg (k4_pay1 _ _) (ix2_eta (a := 1024) (b := 512) y)).trans ?_
  refine (k4_pay1_at (y 0 : Fin 1024) (y 1 : Fin 512) (fun e => iblk7_0 V f c hf t e _) (fun e => iblk7_1 V g c hg t e _)).trans ?_
  show _ = tn f g (0 * 1024 + (y 0).val) (0 * 512 + (y 1).val)
  simp only [Nat.zero_mul, Nat.zero_add]
  rfl

theorem idx8_0 : ∀ t : Fin cfg8.N, win8_0.index t = ![0, 0] := by decide +kernel

theorem iblk8_0 (f : ℕ → ℕ → EReal) (c : Dev nD) (h : V c main_arg0 = fun y : S4096x1024.Idx => f (y 0) (y 1)) (t : Fin cfg8.N) (r : Fin 4096) (d : Fin 1024) :
    @Eq EReal (iblk8 V c 0 t (ix2 r d)) (f r.val d.val) := by
  have e := idx8_0 t
  have k : iblk8 V c 0 t (ix2 r d) = V c main_arg0 (ix2 r d) := by
    blk_ext [iblk8, e]
  rw [k, h]; rfl

theorem idx8_1 : ∀ t : Fin cfg8.N, win8_1.index t = ![0, 0] := by decide +kernel

theorem iblk8_1 (g : ℕ → ℕ → EReal) (c : Dev nD) (h : V c main_v19 = fun y : S4096x512.Idx => g (y 0) (y 1)) (t : Fin cfg8.N) (r : Fin 4096) (d : Fin 512) :
    @Eq EReal (iblk8 V c 1 t (ix2 r d)) (g r.val d.val) := by
  have e := idx8_1 t
  have k : iblk8 V c 1 t (ix2 r d) = V c main_v19 (ix2 r d) := by
    blk_ext [iblk8, e]
  rw [k, h]; rfl

theorem idx8_2 : ∀ t : Fin cfg8.N, win8_2.index t = ![0, 0] := by decide +kernel

theorem out8_2_eq (x0 : Vec Ideal S4096x1024 .bf16) (x1 : Vec Ideal S4096x512 .bf16) : out8_2 x0 x1 = k4_pay1 x0 x1 := by
  unfold out8_2
  rw [View.canon_unit_zero off2, View.ld_unit_zero off2, View.ld_unit_zero off2, k8_pay1_eq]

theorem arr8 (c : Dev nD) {f : ℕ → ℕ → EReal} {g : ℕ → ℕ → EReal} (hf : V c main_arg0 = fun y : S4096x1024.Idx => f (y 0) (y 1))
    (hg : V c main_v19 = fun y : S4096x512.Idx => g (y 0) (y 1)) :
    (dat8 V c).arrAt 2 cfg8.N = fun y : S1024x512.Idx => tn f g (y 0) (y 1) := by
  refine (dat8 V c).arrAt_eq_of_covers 2 _ (by decide +kernel) fun t hf' y => ?_
  have e := idx8_2 t
  blk_simp
  rw [after8_2, e, out8_2_eq]
  refine (congrArg (k4_pay1 _ _) (ix2_eta (a := 1024) (b := 512) y)).trans ?_
  refine (k4_pay1_at (y 0 : Fin 1024) (y 1 : Fin 512) (fun e => iblk8_0 V f c hf t e _) (fun e => iblk8_1 V g c hg t e _)).trans ?_
  show _ = tn f g (0 * 1024 + (y 0).val) (0 * 512 + (y 1).val)
  simp only [Nat.zero_mul, Nat.zero_add]
  rfl

theorem idx9_0 : ∀ t : Fin cfg9.N, win9_0.index t = ![0, 0] := by decide +kernel

theorem iblk9_0 (f : ℕ → ℕ → EReal) (c : Dev nD) (h : V c main_arg0 = fun y : S4096x1024.Idx => f (y 0) (y 1)) (t : Fin cfg9.N) (r : Fin 4096) (d : Fin 1024) :
    @Eq EReal (iblk9 V c 0 t (ix2 r d)) (f r.val d.val) := by
  have e := idx9_0 t
  have k : iblk9 V c 0 t (ix2 r d) = V c main_arg0 (ix2 r d) := by
    blk_ext [iblk9, e]
  rw [k, h]; rfl

theorem idx9_1 : ∀ t : Fin cfg9.N, win9_1.index t = ![0, 0] := by decide +kernel

theorem iblk9_1 (g : ℕ → ℕ → EReal) (c : Dev nD) (h : V c main_v27 = fun y : S4096x128.Idx => g (y 0) (y 1)) (t : Fin cfg9.N) (r : Fin 4096) (d : Fin 128) :
    @Eq EReal (iblk9 V c 1 t (ix2 r d)) (g r.val d.val) := by
  have e := idx9_1 t
  have k : iblk9 V c 1 t (ix2 r d) = V c main_v27 (ix2 r d) := by
    blk_ext [iblk9, e]
  rw [k, h]; rfl

theorem idx9_2 : ∀ t : Fin cfg9.N, win9_2.index t = ![0, 0] := by decide +kernel

theorem out9_2_eq (x0 : Vec Ideal S4096x1024 .bf16) (x1 : Vec Ideal S4096x128 .f32) : out9_2 x0 x1 = k9_pay1 x0 x1 := by
  unfold out9_2
  rw [View.canon_unit_zero off2, View.ld_unit_zero off2, View.ld_unit_zero off2]

theorem arr9 (c : Dev nD) {f : ℕ → ℕ → EReal} {g : ℕ → ℕ → EReal} (hf : V c main_arg0 = fun y : S4096x1024.Idx => f (y 0) (y 1))
    (hg : V c main_v27 = fun y : S4096x128.Idx => g (y 0) (y 1)) :
    (dat9 V c).arrAt 2 cfg9.N = fun y : S1024x128.Idx => tn f g (y 0) (y 1) := by
  refine (dat9 V c).arrAt_eq_of_covers 2 _ (by decide +kernel) fun t hf' y => ?_
  have e := idx9_2 t
  blk_simp
  rw [after9_2, e, out9_2_eq]
  refine (congrArg (k9_pay1 _ _) (ix2_eta (a := 1024) (b := 128) y)).trans ?_
  refine (k9_pay1_at (y 0 : Fin 1024) (y 1 : Fin 128) (fun e => iblk9_0 V f c hf t e _) (fun e => iblk9_1 V g c hg t e _)).trans ?_
  show _ = tn f g (0 * 1024 + (y 0).val) (0 * 128 + (y 1).val)
  simp only [Nat.zero_mul, Nat.zero_add]
  rfl

theorem idx10_0 : ∀ t : Fin cfg10.N, win10_0.index t = ![0, 0] := by decide +kernel

theorem iblk10_0 (f : ℕ → ℕ → EReal) (c : Dev nD) (h : V c main_arg0 = fun y : S4096x1024.Idx => f (y 0) (y 1)) (t : Fin cfg10.N) (r : Fin 4096) (d : Fin 1024) :
    @Eq EReal (iblk10 V c 0 t (ix2 r d)) (f r.val d.val) := by
  have e := idx10_0 t
  have k : iblk10 V c 0 t (ix2 r d) = V c main_arg0 (ix2 r d) := by
    blk_ext [iblk10, e]
  rw [k, h]; rfl

theorem idx10_1 : ∀ t : Fin cfg10.N, win10_1.index t = ![0, 0] := by decide +kernel

theorem iblk10_1 (g : ℕ → ℕ → EReal) (c : Dev nD) (h : V c main_v21 = fun y : S4096x512.Idx => g (y 0) (y 1)) (t : Fin cfg10.N) (r : Fin 4096) (d : Fin 512) :
    @Eq EReal (iblk10 V c 1 t (ix2 r d)) (g r.val d.val) := by
  have e := idx10_1 t
  have k : iblk10 V c 1 t (ix2 r d) = V c main_v21 (ix2 r d) := by
    blk_ext [iblk10, e]
  rw [k, h]; rfl

theorem idx10_2 : ∀ t : Fin cfg10.N, win10_2.index t = ![0, 0] := by decide +kernel

theorem out10_2_eq (x0 : Vec Ideal S4096x1024 .bf16) (x1 : Vec Ideal S4096x512 .bf16) : out10_2 x0 x1 = k4_pay1 x0 x1 := by
  unfold out10_2
  rw [View.canon_unit_zero off2, View.ld_unit_zero off2, View.ld_unit_zero off2, k10_pay1_eq]

theorem arr10 (c : Dev nD) {f : ℕ → ℕ → EReal} {g : ℕ → ℕ → EReal} (hf : V c main_arg0 = fun y : S4096x1024.Idx => f (y 0) (y 1))
    (hg : V c main_v21 = fun y : S4096x512.Idx => g (y 0) (y 1)) :
    (dat10 V c).arrAt 2 cfg10.N = fun y : S1024x512.Idx => tn f g (y 0) (y 1) := by
  refine (dat10 V c).arrAt_eq_of_covers 2 _ (by decide +kernel) fun t hf' y => ?_
  have e := idx10_2 t
  blk_simp
  rw [after10_2, e, out10_2_eq]
  refine (congrArg (k4_pay1 _ _) (ix2_eta (a := 1024) (b := 512) y)).trans ?_
  refine (k4_pay1_at (y 0 : Fin 1024) (y 1 : Fin 512) (fun e => iblk10_0 V f c hf t e _) (fun e => iblk10_1 V g c hg t e _)).trans ?_
  show _ = tn f g (0 * 1024 + (y 0).val) (0 * 512 + (y 1).val)
  simp only [Nat.zero_mul, Nat.zero_add]
  rfl

theorem idx11_0 : ∀ t : Fin cfg11.N, win11_0.index t = ![0, 0] := by decide +kernel

theorem iblk11_0 (f : ℕ → ℕ → EReal) (c : Dev nD) (h : V c main_arg0 = fun y : S4096x1024.Idx => f (y 0) (y 1)) (t : Fin cfg11.N) (r : Fin 4096) (d : Fin 1024) :
    @Eq EReal (iblk11 V c 0 t (ix2 r d)) (f r.val d.val) := by
  have e := idx11_0 t
  have k : iblk11 V c 0 t (ix2 r d) = V c main_arg0 (ix2 r d) := by
    blk_ext [iblk11, e]
  rw [k, h]; rfl

theorem idx11_1 : ∀ t : Fin cfg11.N, win11_1.index t = ![0, 0] := by decide +kernel

theorem iblk11_1 (g : ℕ → ℕ → EReal) (c : Dev nD) (h : V c main_v23 = fun y : S4096x512.Idx => g (y 0) (y 1)) (t : Fin cfg11.N) (r : Fin 4096) (d : Fin 512) :
    @Eq EReal (iblk11 V c 1 t (ix2 r d)) (g r.val d.val) := by
  have e := idx11_1 t
  have k : iblk11 V c 1 t (ix2 r d) = V c main_v23 (ix2 r d) := by
    blk_ext [iblk11, e]
  rw [k, h]; rfl

theorem idx11_2 : ∀ t : Fin cfg11.N, win11_2.index t = ![0, 0] := by decide +kernel

theorem out11_2_eq (x0 : Vec Ideal S4096x1024 .bf16) (x1 : Vec Ideal S4096x512 .bf16) : out11_2 x0 x1 = k4_pay1 x0 x1 := by
  unfold out11_2
  rw [View.canon_unit_zero off2, View.ld_unit_zero off2, View.ld_unit_zero off2, k11_pay1_eq]

theorem arr11 (c : Dev nD) {f : ℕ → ℕ → EReal} {g : ℕ → ℕ → EReal} (hf : V c main_arg0 = fun y : S4096x1024.Idx => f (y 0) (y 1))
    (hg : V c main_v23 = fun y : S4096x512.Idx => g (y 0) (y 1)) :
    (dat11 V c).arrAt 2 cfg11.N = fun y : S1024x512.Idx => tn f g (y 0) (y 1) := by
  refine (dat11 V c).arrAt_eq_of_covers 2 _ (by decide +kernel) fun t hf' y => ?_
  have e := idx11_2 t
  blk_simp
  rw [after11_2, e, out11_2_eq]
  refine (congrArg (k4_pay1 _ _) (ix2_eta (a := 1024) (b := 512) y)).trans ?_
  refine (k4_pay1_at (y 0 : Fin 1024) (y 1 : Fin 512) (fun e => iblk11_0 V f c hf t e _) (fun e => iblk11_1 V g c hg t e _)).trans ?_
  show _ = tn f g (0 * 1024 + (y 0).val) (0 * 512 + (y 1).val)
  simp only [Nat.zero_mul, Nat.zero_add]
  rfl

theorem idx12_0 : ∀ t : Fin cfg12.N, win12_0.index t = ![0, 0] := by decide +kernel

theorem iblk12_0 (f : ℕ → ℕ → EReal) (c : Dev nD) (h : V c main_arg0 = fun y : S4096x1024.Idx => f (y 0) (y 1)) (t : Fin cfg12.N) (r : Fin 4096) (d : Fin 1024) :
    @Eq EReal (iblk12 V c 0 t (ix2 r d)) (f r.val d.val) := by
  have e := idx12_0 t
  have k : iblk12 V c 0 t (ix2 r d) = V c main_arg0 (ix2 r d) := by
    blk_ext [iblk12, e]
  rw [k, h]; rfl

theorem idx12_1 : ∀ t : Fin cfg12.N, win12_1.index t = ![0, 0] := by decide +kernel

theorem iblk12_1 (g : ℕ → ℕ → EReal) (c : Dev nD) (h : V c main_v25 = fun y : S4096x512.Idx => g (y 0) (y 1)) (t : Fin cfg12.N) (r : Fin 4096) (d : Fin 512) :
    @Eq EReal (iblk12 V c 1 t (ix2 r d)) (g r.val d.val) := by
  have e := idx12_1 t
  have k : iblk12 V c 1 t (ix2 r d) = V c main_v25 (ix2 r d) := by
    blk_ext [iblk12, e]
  rw [k, h]; rfl

theorem idx12_2 : ∀ t : Fin cfg12.N, win12_2.index t = ![0, 0] := by decide +kernel

theorem out12_2_eq (x0 : Vec Ideal S4096x1024 .bf16) (x1 : Vec Ideal S4096x512 .bf16) : out12_2 x0 x1 = k4_pay1 x0 x1 := by
  unfold out12_2
  rw [View.canon_unit_zero off2, View.ld_unit_zero off2, View.ld_unit_zero off2, k12_pay1_eq]

theorem arr12 (c : Dev nD) {f : ℕ → ℕ → EReal} {g : ℕ → ℕ → EReal} (hf : V c main_arg0 = fun y : S4096x1024.Idx => f (y 0) (y 1))
    (hg : V c main_v25 = fun y : S4096x512.Idx => g (y 0) (y 1)) :
    (dat12 V c).arrAt 2 cfg12.N = fun y : S1024x512.Idx => tn f g (y 0) (y 1) := by
  refine (dat12 V c).arrAt_eq_of_covers 2 _ (by decide +kernel) fun t hf' y => ?_
  have e := idx12_2 t
  blk_simp
  rw [after12_2, e, out12_2_eq]
  refine (congrArg (k4_pay1 _ _) (ix2_eta (a := 1024) (b := 512) y)).trans ?_
  refine (k4_pay1_at (y 0 : Fin 1024) (y 1 : Fin 512) (fun e => iblk12_0 V f c hf t e _) (fun e => iblk12_1 V g c hg t e _)).trans ?_
  show _ = tn f g (0 * 1024 + (y 0).val) (0 * 512 + (y 1).val)
  simp only [Nat.zero_mul, Nat.zero_add]
  rfl

theorem idx13_0 : ∀ t : Fin cfg13.N, win13_0.index t = ![0, 0] := by decide +kernel

theorem iblk13_0 (f : ℕ → ℕ → EReal) (c : Dev nD) (h : V c main_arg0 = fun y : S4096x1024.Idx => f (y 0) (y 1)) (t : Fin cfg13.N) (r : Fin 4096) (d : Fin 1024) :
    @Eq EReal (iblk13 V c 0 t (ix2 r d)) (f r.val d.val) := by
  have e := idx13_0 t
  have k : iblk13 V c 0 t (ix2 r d) = V c main_arg0 (ix2 r d) := by
    blk_ext [iblk13, e]
  rw [k, h]; rfl

theorem idx13_1 : ∀ t : Fin cfg13.N, win13_1.index t = ![0, 0, ((grid13.coords t) 1).val] := by decide +kernel

theorem iblk13_1 (g : ℕ → ℕ → ℕ → EReal) (c : Dev nD) (h : V c main_v31 = fun y : S3x4096x1024.Idx => g (y 0) (y 1) (y 2)) (t : Fin cfg13.N) (r : Fin 4096) (d : Fin 512) :
    @Eq EReal (iblk13 V c 1 t (ix3 0 r d)) (g 0 r.val (((grid13.coords t) 1).val * 512 + d.val)) := by
  have e := idx13_1 t
  have k : iblk13 V c 1 t (ix3 0 r d) = V c main_v31 (ix3 0 r (⟨((grid13.coords t) 1).val * 512 + d.val, by have : ((grid13.coords t) 1).val < 2 := ((grid13.coords t) 1).isLt; omega⟩ : Fin 1024)) := by
    blk_ext [iblk13, e]
  rw [k, h]; rfl

theorem idx13_2 : ∀ t : Fin cfg13.N, win13_2.index t = ![0, ((grid13.coords t) 1).val] := by decide +kernel

theorem out13_2_eq (x0 : Vec Ideal S4096x1024 .bf16) (x1 : Vec Ideal S1x4096x512 .bf16) : out13_2 x0 x1 = k13_pay1 x0 x1 := by
  unfold out13_2
  rw [View.canon_unit_zero off2, View.ld_unit_zero off2, View.ld_unit_zero off3]

theorem arr13 (c : Dev nD) {f : ℕ → ℕ → EReal} {g : ℕ → ℕ → ℕ → EReal} (hf : V c main_arg0 = fun y : S4096x1024.Idx => f (y 0) (y 1))
    (hg : V c main_v31 = fun y : S3x4096x1024.Idx => g (y 0) (y 1) (y 2)) :
    (dat13 V c).arrAt 2 cfg13.N = fun y : S1024x1024.Idx => tn f (g 0) (y 0) (y 1) := by
  refine (dat13 V c).arrAt_eq_of_covers 2 _ (by decide +kernel) fun t hf' y => ?_
  have e := idx13_2 t
  blk_simp
  rw [after13_2, e, out13_2_eq]
  refine (congrArg (k13_pay1 _ _) (ix2_eta (a := 1024) (b := 512) y)).trans ?_
  refine (k13_pay1_at (y 0 : Fin 1024) (y 1 : Fin 512) (fun e => iblk13_0 V f c hf t e _) (fun e => iblk13_1 V g c hg t e _)).trans ?_
  show _ = tn f (g 0) (0 * 1024 + (y 0).val) (((grid13.coords t) 1).val * 512 + (y 1).val)
  simp only [Nat.zero_mul, Nat.zero_add]
  rfl

theorem idx14_0 : ∀ t : Fin cfg14.N, win14_0.index t = ![0, 0] := by decide +kernel

theorem iblk14_0 (f : ℕ → ℕ → EReal) (c : Dev nD) (h : V c main_arg0 = fun y : S4096x1024.Idx => f (y 0) (y 1)) (t : Fin cfg14.N) (r : Fin 4096) (d : Fin 1024) :
    @Eq EReal (iblk14 V c 0 t (ix2 r d)) (f r.val d.val) := by
  have e := idx14_0 t
  have k : iblk14 V c 0 t (ix2 r d) = V c main_arg0 (ix2 r d) := by
    blk_ext [iblk14, e]
  rw [k, h]; rfl

theorem idx14_1 : ∀ t : Fin cfg14.N, win14_1.index t = ![1, 0, ((grid14.coords t) 1).val] := by decide +kernel

theorem iblk14_1 (g : ℕ → ℕ → ℕ → EReal) (c : Dev nD) (h : V c main_v31 = fun y : S3x4096x1024.Idx => g (y 0) (y 1) (y 2)) (t : Fin cfg14.N) (r : Fin 4096) (d : Fin 512) :
    @Eq EReal (iblk14 V c 1 t (ix3 0 r d)) (g 1 r.val (((grid14.coords t) 1).val * 512 + d.val)) := by
  have e := idx14_1 t
  have k : iblk14 V c 1 t (ix3 0 r d) = V c main_v31 (ix3 1 r (⟨((grid14.coords t) 1).val * 512 + d.val, by have : ((grid14.coords t) 1).val < 2 := ((grid14.coords t) 1).isLt; omega⟩ : Fin 1024)) := by
    blk_ext [iblk14, e]
  rw [k, h]; rfl

theorem idx14_2 : ∀ t : Fin cfg14.N, win14_2.index t = ![0, ((grid14.coords t) 1).val] := by decide +kernel

theorem out14_2_eq (x0 : Vec Ideal S4096x1024 .bf16) (x1 : Vec Ideal S1x4096x512 .bf16) : out14_2 x0 x1 = k13_pay1 x0 x1 := by
  unfold out14_2
  rw [View.canon_unit_zero off2, View.ld_unit_zero off2, View.ld_unit_zero off3, k14_pay1_eq]

theorem arr14 (c : Dev nD) {f : ℕ → ℕ → EReal} {g : ℕ → ℕ → ℕ → EReal} (hf : V c main_arg0 = fun y : S4096x1024.Idx => f (y 0) (y 1))
    (hg : V c main_v31 = fun y : S3x4096x1024.Idx => g (y 0) (y 1) (y 2)) :
    (dat14 V c).arrAt 2 cfg14.N = fun y : S1024x1024.Idx => tn f (g 1) (y 0) (y 1) := by
  refine (dat14 V c).arrAt_eq_of_covers 2 _ (by decide +kernel) fun t hf' y => ?_
  have e := idx14_2 t
  blk_simp
  rw [after14_2, e, out14_2_eq]
  refine (congrArg (k13_pay1 _ _) (ix2_eta (a := 1024) (b := 512) y)).trans ?_
  refine (k13_pay1_at (y 0 : Fin 1024) (y 1 : Fin 512) (fun e => iblk14_0 V f c hf t e _) (fun e => iblk14_1 V g c hg t e _)).trans ?_
  show _ = tn f (g 1) (0 * 1024 + (y 0).val) (((grid14.coords t) 1).val * 512 + (y 1).val)
  simp only [Nat.zero_mul, Nat.zero_add]
  rfl

theorem idx15_0 : ∀ t : Fin cfg15.N, win15_0.index t = ![0, 0] := by decide +kernel

theorem iblk15_0 (f : ℕ → ℕ → EReal) (c : Dev nD) (h : V c main_arg0 = fun y : S4096x1024.Idx => f (y 0) (y 1)) (t : Fin cfg15.N) (r : Fin 4096) (d : Fin 1024) :
    @Eq EReal (iblk15 V c 0 t (ix2 r d)) (f r.val d.val) := by
  have e := idx15_0 t
  have k : iblk15 V c 0 t (ix2 r d) = V c main_arg0 (ix2 r d) := by
    blk_ext [iblk15, e]
  rw [k, h]; rfl

theorem idx15_1 : ∀ t : Fin cfg15.N, win15_1.index t = ![2, 0, ((grid15.coords t) 1).val] := by decide +kernel

theorem iblk15_1 (g : ℕ → ℕ → ℕ → EReal) (c : Dev nD) (h : V c main_v31 = fun y : S3x4096x1024.Idx => g (y 0) (y 1) (y 2)) (t : Fin cfg15.N) (r : Fin 4096) (d : Fin 512) :
    @Eq EReal (iblk15 V c 1 t (ix3 0 r d)) (g 2 r.val (((grid15.coords t) 1).val * 512 + d.val)) := by
  have e := idx15_1 t
  have k : iblk15 V c 1 t (ix3 0 r d) = V c main_v31 (ix3 2 r (⟨((grid15.coords t) 1).val * 512 + d.val, by have : ((grid15.coords t) 1).val < 2 := ((grid15.coords t) 1).isLt; omega⟩ : Fin 1024)) := by
    blk_ext [iblk15, e]
  rw [k, h]; rfl

theorem idx15_2 : ∀ t : Fin cfg15.N, win15_2.index t = ![0, ((grid15.coords t) 1).val] := by decide +kernel

theorem out15_2_eq (x0 : Vec Ideal S4096x1024 .bf16) (x1 : Vec Ideal S1x4096x512 .bf16) : out15_2 x0 x1 = k13_pay1 x0 x1 := by
  unfold out15_2
  rw [View.canon_unit_zero off2, View.ld_unit_zero off2, View.ld_unit_zero off3, k15_pay1_eq]

theorem arr15 (c : Dev nD) {f : ℕ → ℕ → EReal} {g : ℕ → ℕ → ℕ → EReal} (hf : V c main_arg0 = fun y : S4096x1024.Idx => f (y 0) (y 1))
    (hg : V c main_v31 = fun y : S3x4096x1024.Idx => g (y 0) (y 1) (y 2)) :
    (dat15 V c).arrAt 2 cfg15.N = fun y : S1024x1024.Idx => tn f (g 2) (y 0) (y 1) := by
  refine (dat15 V c).arrAt_eq_of_covers 2 _ (by decide +kernel) fun t hf' y => ?_
  have e := idx15_2 t
  blk_simp
  rw [after15_2, e, out15_2_eq]
  refine (congrArg (k13_pay1 _ _) (ix2_eta (a := 1024) (b := 512) y)).trans ?_
  refine (k13_pay1_at (y 0 : Fin 1024) (y 1 : Fin 512) (fun e => iblk15_0 V f c hf t e _) (fun e => iblk15_1 V g c hg t e _)).trans ?_
  show _ = tn f (g 2) (0 * 1024 + (y 0).val) (((grid15.coords t) 1).val * 512 + (y 1).val)
  simp only [Nat.zero_mul, Nat.zero_add]
  rfl

end Cert.Proof.Proj

end
-- ==== Proof.ProjFwd.lean ====
/-
  The input projections, a call for each group of columns.
-/
module

public import proofs.«01_k».proof.Proof.ProjPay
public import proofs.«01_k».proof.Proof.Gen.Kernel4Ideal.Frame.Region0
public import proofs.«01_k».proof.Proof.Gen.Kernel4Ideal.Frame.Region1
public import proofs.«01_k».proof.Proof.Gen.Kernel4Ideal.Frame.Region2
public import proofs.«01_k».proof.Proof.Gen.Kernel4Ideal.Frame.Region3
public import Idealize.ShloMosaic.Lib.Pipeline.ValueKit

@[expose] public section

set_option maxRecDepth 16384

noncomputable section

namespace Cert.Proof.Proj

open Cert.Kernel4Ideal Cert.Kernel4Ideal.Gen
open Idealize.ShloMosaic Idealize.ShloMosaic.TcCoe Idealize.ShloMosaic.Tactic
open Idealize.ShloMosaic.Pipeline (Dat Cfg Window)

variable (V : (c : Dev nD) → (b : Ref sig .tc) → Buf (Elt Ideal) ((c : Thread nD τ).loc b))

theorem idx0_0 : ∀ t : Fin cfg0.N, win0_0.index t = ![((grid0.coords t) 0).val, 0] := by decide +kernel

theorem iblk0_0 (f : ℕ → ℕ → EReal) (c : Dev nD) (h : V c main_arg0 = fun y : S4096x1024.Idx => f (y 0) (y 1)) (t : Fin cfg0.N) (r : Fin 1024) (d : Fin 1024) :
    @Eq EReal (iblk0 V c 0 t (ix2 r d)) (f (((grid0.coords t) 0).val * 1024 + r.val) d.val) := by
  have e := idx0_0 t
  have k : iblk0 V c 0 t (ix2 r d) = V c main_arg0 (ix2 (⟨((grid0.coords t) 0).val * 1024 + r.val, by have : ((grid0.coords t) 0).val < 4 := ((grid0.coords t) 0).isLt; omega⟩ : Fin 4096) d) := by
    blk_ext [iblk0, e]
  rw [k, h]; rfl

theorem idx0_1 : ∀ t : Fin cfg0.N, win0_1.index t = ![0, ((grid0.coords t) 1).val] := by decide +kernel

theorem iblk0_1 (g : ℕ → ℕ → EReal) (c : Dev nD) (h : V c main_v1 = fun y : S1024x2560.Idx => g (y 0) (y 1)) (t : Fin cfg0.N) (r : Fin 1024) (d : Fin 512) :
    @Eq EReal (iblk0 V c 1 t (ix2 r d)) (g r.val (((grid0.coords t) 1).val * 512 + d.val)) := by
  have e := idx0_1 t
  have k : iblk0 V c 1 t (ix2 r d) = V c main_v1 (ix2 r (⟨((grid0.coords t) 1).val * 512 + d.val, by have : ((grid0.coords t) 1).val < 5 := ((grid0.coords t) 1).isLt; omega⟩ : Fin 2560)) := by
    blk_ext [iblk0, e]
  rw [k, h]; rfl

theorem idx0_2 : ∀ t : Fin cfg0.N, win0_2.index t = ![((grid0.coords t) 0).val, ((grid0.coords t) 1).val] := by decide +kernel

theorem out0_2_eq (x0 : Vec Ideal S1024x1024 .bf16) (x1 : Vec Ideal S1024x512 .bf16) : out0_2 x0 x1 = k0_pay1 x0 x1 := by
  unfold out0_2
  rw [View.canon_unit_zero off2, View.ld_unit_zero off2, View.ld_unit_zero off2]

theorem arr0 (c : Dev nD) {f : ℕ → ℕ → EReal} {g : ℕ → ℕ → EReal} (hf : V c main_arg0 = fun y : S4096x1024.Idx => f (y 0) (y 1))
    (hg : V c main_v1 = fun y : S1024x2560.Idx => g (y 0) (y 1)) :
    (dat0 V c).arrAt 2 cfg0.N = fun y : S4096x2560.Idx => nn f g (y 0) (y 1) := by
  refine (dat0 V c).arrAt_eq_of_covers 2 _ (by decide +kernel) fun t hf' y => ?_
  have e := idx0_2 t
  blk_simp
  rw [after0_2, e, out0_2_eq]
  refine (congrArg (k0_pay1 _ _) (ix2_eta (a := 1024) (b := 512) y)).trans ?_
  refine (k0_pay1_at (y 0 : Fin 1024) (y 1 : Fin 512) (iblk0_0 V f c hf t _) (fun e => iblk0_1 V g c hg t e _)).trans ?_
  show _ = nn f g (((grid0.coords t) 0).val * 1024 + (y 0).val) (((grid0.coords t) 1).val * 512 + (y 1).val)
  rfl

theorem idx1_0 : ∀ t : Fin cfg1.N, win1_0.index t = ![((grid1.coords t) 0).val, 0] := by decide +kernel

theorem iblk1_0 (f : ℕ → ℕ → EReal) (c : Dev nD) (h : V c main_arg0 = fun y : S4096x1024.Idx => f (y 0) (y 1)) (t : Fin cfg1.N) (r : Fin 1024) (d : Fin 1024) :
    @Eq EReal (iblk1 V c 0 t (ix2 r d)) (f (((grid1.coords t) 0).val * 1024 + r.val) d.val) := by
  have e := idx1_0 t
  have k : iblk1 V c 0 t (ix2 r d) = V c main_arg0 (ix2 (⟨((grid1.coords t) 0).val * 1024 + r.val, by have : ((grid1.coords t) 0).val < 4 := ((grid1.coords t) 0).isLt; omega⟩ : Fin 4096) d) := by
    blk_ext [iblk1, e]
  rw [k, h]; rfl

theorem idx1_1 : ∀ t : Fin cfg1.N, win1_1.index t = ![0, 0] := by decide +kernel

theorem iblk1_1 (g : ℕ → ℕ → EReal) (c : Dev nD) (h : V c main_v5 = fun y : S1024x128.Idx => g (y 0) (y 1)) (t : Fin cfg1.N) (r : Fin 1024) (d : Fin 128) :
    @Eq EReal (iblk1 V c 1 t (ix2 r d)) (g r.val d.val) := by
  have e := idx1_1 t
  have k : iblk1 V c 1 t (ix2 r d) = V c main_v5 (ix2 r d) := by
    blk_ext [iblk1, e]
  rw [k, h]; rfl

theorem idx1_2 : ∀ t : Fin cfg1.N, win1_2.index t = ![((grid1.coords t) 0).val, 0] := by decide +kernel

theorem out1_2_eq (x0 : Vec Ideal S1024x1024 .bf16) (x1 : Vec Ideal S1024x128 .bf16) : out1_2 x0 x1 = k1_pay1 x0 x1 := by
  unfold out1_2
  rw [View.canon_unit_zero off2, View.ld_unit_zero off2, View.ld_unit_zero off2]

theorem arr1 (c : Dev nD) {f : ℕ → ℕ → EReal} {g : ℕ → ℕ → EReal} (hf : V c main_arg0 = fun y : S4096x1024.Idx => f (y 0) (y 1))
    (hg : V c main_v5 = fun y : S1024x128.Idx => g (y 0) (y 1)) :
    (dat1 V c).arrAt 2 cfg1.N = fun y : S4096x128.Idx => nn f g (y 0) (y 1) := by
  refine (dat1 V c).arrAt_eq_of_covers 2 _ (by decide +kernel) fun t hf' y => ?_
  have e := idx1_2 t
  blk_simp
  rw [after1_2, e, out1_2_eq]
  refine (congrArg (k1_pay1 _ _) (ix2_eta (a := 1024) (b := 128) y)).trans ?_
  refine (k1_pay1_at (y 0 : Fin 1024) (y 1 : Fin 128) (iblk1_0 V f c hf t _) (fun e => iblk1_1 V g c hg t e _)).trans ?_
  show _ = nn f g (((grid1.coords t) 0).val * 1024 + (y 0).val) (0 * 128 + (y 1).val)
  simp only [Nat.zero_mul, Nat.zero_add]
  rfl

theorem idx2_0 : ∀ t : Fin cfg2.N, win2_0.index t = ![((grid2.coords t) 0).val, 0] := by decide +kernel

theorem iblk2_0 (f : ℕ → ℕ → EReal) (c : Dev nD) (h : V c main_arg0 = fun y : S4096x1024.Idx => f (y 0) (y 1)) (t : Fin cfg2.N) (r : Fin 1024) (d : Fin 1024) :
    @Eq EReal (iblk2 V c 0 t (ix2 r d)) (f (((grid2.coords t) 0).val * 1024 + r.val) d.val) := by
  have e := idx2_0 t
  have k : iblk2 V c 0 t (ix2 r d) = V c main_arg0 (ix2 (⟨((grid2.coords t) 0).val * 1024 + r.val, by have : ((grid2.coords t) 0).val < 4 := ((grid2.coords t) 0).isLt; omega⟩ : Fin 4096) d) := by
    blk_ext [iblk2, e]
  rw [k, h]; rfl

theorem idx2_1 : ∀ t : Fin cfg2.N, win2_1.index t = ![0, ((grid2.coords t) 1).val] := by decide +kernel

theorem iblk2_1 (g : ℕ → ℕ → EReal) (c : Dev nD) (h : V c main_v2 = fun y : S1024x1536.Idx => g (y 0) (y 1)) (t : Fin cfg2.N) (r : Fin 1024) (d : Fin 512) :
    @Eq EReal (iblk2 V c 1 t (ix2 r d)) (g r.val (((grid2.coords t) 1).val * 512 + d.val)) := by
  have e := idx2_1 t
  have k : iblk2 V c 1 t (ix2 r d) = V c main_v2 (ix2 r (⟨((grid2.coords t) 1).val * 512 + d.val, by have : ((grid2.coords t) 1).val < 3 := ((grid2.coords t) 1).isLt; omega⟩ : Fin 1536)) := by
    blk_ext [iblk2, e]
  rw [k, h]; rfl

theorem idx2_2 : ∀ t : Fin cfg2.N, win2_2.index t = ![((grid2.coords t) 0).val, ((grid2.coords t) 1).val] := by decide +kernel

theorem out2_2_eq (x0 : Vec Ideal S1024x1024 .bf16) (x1 : Vec Ideal S1024x512 .bf16) : out2_2 x0 x1 = k0_pay1 x0 x1 := by
  unfold out2_2
  rw [View.canon_unit_zero off2, View.ld_unit_zero off2, View.ld_unit_zero off2, k2_pay1_eq]

theorem arr2 (c : Dev nD) {f : ℕ → ℕ → EReal} {g : ℕ → ℕ → EReal} (hf : V c main_arg0 = fun y : S4096x1024.Idx => f (y 0) (y 1))
    (hg : V c main_v2 = fun y : S1024x1536.Idx => g (y 0) (y 1)) :
    (dat2 V c).arrAt 2 cfg2.N = fun y : S4096x1536.Idx => nn f g (y 0) (y 1) := by
  refine (dat2 V c).arrAt_eq_of_covers 2 _ (by decide +kernel) fun t hf' y => ?_
  have e := idx2_2 t
  blk_simp
  rw [after2_2, e, out2_2_eq]
  refine (congrArg (k0_pay1 _ _) (ix2_eta (a := 1024) (b := 512) y)).trans ?_
  refine (k0_pay1_at (y 0 : Fin 1024) (y 1 : Fin 512) (iblk2_0 V f c hf t _) (fun e => iblk2_1 V g c hg t e _)).trans ?_
  show _ = nn f g (((grid2.coords t) 0).val * 1024 + (y 0).val) (((grid2.coords t) 1).val * 512 + (y 1).val)
  rfl

theorem idx3_0 : ∀ t : Fin cfg3.N, win3_0.index t = ![((grid3.coords t) 0).val, 0] := by decide +kernel

theorem iblk3_0 (f : ℕ → ℕ → EReal) (c : Dev nD) (h : V c main_arg0 = fun y : S4096x1024.Idx => f (y 0) (y 1)) (t : Fin cfg3.N) (r : Fin 1024) (d : Fin 1024) :
    @Eq EReal (iblk3 V c 0 t (ix2 r d)) (f (((grid3.coords t) 0).val * 1024 + r.val) d.val) := by
  have e := idx3_0 t
  have k : iblk3 V c 0 t (ix2 r d) = V c main_arg0 (ix2 (⟨((grid3.coords t) 0).val * 1024 + r.val, by have : ((grid3.coords t) 0).val < 4 := ((grid3.coords t) 0).isLt; omega⟩ : Fin 4096) d) := by
    blk_ext [iblk3, e]
  rw [k, h]; rfl

theorem idx3_1 : ∀ t : Fin cfg3.N, win3_1.index t = ![0, ((grid3.coords t) 1).val] := by decide +kernel

theorem iblk3_1 (g : ℕ → ℕ → EReal) (c : Dev nD) (h : V c main_v3 = fun y : S1024x3072.Idx => g (y 0) (y 1)) (t : Fin cfg3.N) (r : Fin 1024) (d : Fin 512) :
    @Eq EReal (iblk3 V c 1 t (ix2 r d)) (g r.val (((grid3.coords t) 1).val * 512 + d.val)) := by
  have e := idx3_1 t
  have k : iblk3 V c 1 t (ix2 r d) = V c main_v3 (ix2 r (⟨((grid3.coords t) 1).val * 512 + d.val, by have : ((grid3.coords t) 1).val < 6 := ((grid3.coords t) 1).isLt; omega⟩ : Fin 3072)) := by
    blk_ext [iblk3, e]
  rw [k, h]; rfl

theorem idx3_2 : ∀ t : Fin cfg3.N, win3_2.index t = ![((grid3.coords t) 0).val, ((grid3.coords t) 1).val] := by decide +kernel

theorem out3_2_eq (x0 : Vec Ideal S1024x1024 .bf16) (x1 : Vec Ideal S1024x512 .bf16) : out3_2 x0 x1 = k0_pay1 x0 x1 := by
  unfold out3_2
  rw [View.canon_unit_zero off2, View.ld_unit_zero off2, View.ld_unit_zero off2, k3_pay1_eq]

theorem arr3 (c : Dev nD) {f : ℕ → ℕ → EReal} {g : ℕ → ℕ → EReal} (hf : V c main_arg0 = fun y : S4096x1024.Idx => f (y 0) (y 1))
    (hg : V c main_v3 = fun y : S1024x3072.Idx => g (y 0) (y 1)) :
    (dat3 V c).arrAt 2 cfg3.N = fun y : S4096x3072.Idx => nn f g (y 0) (y 1) := by
  refine (dat3 V c).arrAt_eq_of_covers 2 _ (by decide +kernel) fun t hf' y => ?_
  have e := idx3_2 t
  blk_simp
  rw [after3_2, e, out3_2_eq]
  refine (congrArg (k0_pay1 _ _) (ix2_eta (a := 1024) (b := 512) y)).trans ?_
  refine (k0_pay1_at (y 0 : Fin 1024) (y 1 : Fin 512) (iblk3_0 V f c hf t _) (fun e => iblk3_1 V g c hg t e _)).trans ?_
  show _ = nn f g (((grid3.coords t) 0).val * 1024 + (y 0).val) (((grid3.coords t) 1).val * 512 + (y 1).val)
  rfl

end Cert.Proof.Proj

end
-- ==== Proof.ProjHost.lean ====
/-
  The arrays that the host cuts out of the weight and out of the product's gradient for the calls.
-/
module

public import proofs.«01_k».proof.Proof.ProjGrad
public import proofs.«01_k».proof.Proof.ProjFwd
public import proofs.«01_k».proof.Proof.Gen.Kernel4Ideal.Frame
public import Idealize.ShloMosaic.Lib.StableHlo.ReadAt

@[expose] public section

set_option maxRecDepth 16384

noncomputable section

namespace Cert.Proof.Proj

open Cert.Kernel4Ideal Cert.Kernel4Ideal.Gen
open Idealize.ShloMosaic Idealize.ShloMosaic.TcCoe Idealize.ShloMosaic.Tactic
open Idealize.ShloMosaic.Pipeline (Dat Cfg Window)

variable (m : (ℓ : Loc nD τ sig) → Buf (Elt Ideal) ℓ) (ρ : Dev nD → PrngReg) {c : Dev nD} {A D : ℕ → ℕ → EReal}

/-- Columns from the `k`-th on. -/
def cut (A : ℕ → ℕ → EReal) (k : ℕ) (d n : ℕ) : EReal := A d (k + n)

/-- The eight columns of the heads' two scalars, padded by zero columns. -/
def heads (A : ℕ → ℕ → EReal) (d n : ℕ) : EReal := if n < 8 then A d (2560 + n) else 0

/-- The gates' columns as a plane for each gate. -/
def planes (A : ℕ → ℕ → EReal) (k d n : ℕ) : EReal := A d (4104 + (k * 1024 + n))

theorem sitofp_zero {f : FTy} : @Eq EReal (FloatOps.sitofp (F := Ideal) f (0#32)) 0 := by
  show (((0#32 : BitVec 32).toInt : ℝ) : EReal) = 0
  simp

theorem v1_eq (h : W0 m ρ c (Proc.devRef .tc main_arg1) = fun y : S1024x7176.Idx => A (y 0) (y 1)) :
    W2 m ρ c (Proc.devRef .tc main_v1) = fun y : S1024x2560.Idx => A (y 0) (y 1) := by
  funext y
  rw [ix2_eta y]
  unfold W2 W1
  after_reads_at
  rw [h]
  rfl

theorem v2_eq (h : W0 m ρ c (Proc.devRef .tc main_arg1) = fun y : S1024x7176.Idx => A (y 0) (y 1)) :
    W2 m ρ c (Proc.devRef .tc main_v2) = fun y : S1024x1536.Idx => cut A 2568 (y 0) (y 1) := by
  funext y
  rw [ix2_eta y]
  unfold W2 W1
  after_reads_at
  rw [h]
  rfl

theorem v3_eq (h : W0 m ρ c (Proc.devRef .tc main_arg1) = fun y : S1024x7176.Idx => A (y 0) (y 1)) :
    W2 m ρ c (Proc.devRef .tc main_v3) = fun y : S1024x3072.Idx => cut A 4104 (y 0) (y 1) := by
  funext y
  rw [ix2_eta y]
  unfold W2 W1
  after_reads_at
  rw [h]
  rfl

theorem v5_eq (h : W0 m ρ c (Proc.devRef .tc main_arg1) = fun y : S1024x7176.Idx => A (y 0) (y 1)) :
    W2 m ρ c (Proc.devRef .tc main_v5) = fun y : S1024x128.Idx => heads A (y 0) (y 1) := by
  funext y
  rw [ix2_eta y]
  unfold W2 W1
  after_reads_at
  rw [h]
  unfold heads
  by_cases hn : (y 1 : Fin 128).val < 8
  · exact (dif_pos hn).trans (if_pos hn).symm
  · exact (dif_neg hn).trans (sitofp_zero.trans (if_neg hn).symm)

theorem v11_eq (h : W6 m ρ c (Proc.devRef .tc main_arg2) = fun y : S4096x7176.Idx => D (y 0) (y 1)) :
    W9 m ρ c (Proc.devRef .tc main_v11) = fun y : S4096x512.Idx => D (y 0) (y 1) := by
  funext y
  rw [ix2_eta y]
  unfold W9 W8 W7
  after_reads_at
  rw [h]
  rfl

theorem v13_eq (h : W6 m ρ c (Proc.devRef .tc main_arg2) = fun y : S4096x7176.Idx => D (y 0) (y 1)) :
    W9 m ρ c (Proc.devRef .tc main_v13) = fun y : S4096x512.Idx => cut D 512 (y 0) (y 1) := by
  funext y
  rw [ix2_eta y]
  unfold W9 W8 W7
  after_reads_at
  rw [h]
  rfl

theorem v15_eq (h : W6 m ρ c (Proc.devRef .tc main_arg2) = fun y : S4096x7176.Idx => D (y 0) (y 1)) :
    W9 m ρ c (Proc.devRef .tc main_v15) = fun y : S4096x512.Idx => cut D 1024 (y 0) (y 1) := by
  funext y
  rw [ix2_eta y]
  unfold W9 W8 W7
  after_reads_at
  rw [h]
  rfl

theorem v17_eq (h : W6 m ρ c (Proc.devRef .tc main_arg2) = fun y : S4096x7176.Idx => D (y 0) (y 1)) :
    W9 m ρ c (Proc.devRef .tc main_v17) = fun y : S4096x512.Idx => cut D 1536 (y 0) (y 1) := by
  funext y
  rw [ix2_eta y]
  unfold W9 W8 W7
  after_reads_at
  rw [h]
  rfl

theorem v19_eq (h : W6 m ρ c (Proc.devRef .tc main_arg2) = fun y : S4096x7176.Idx => D (y 0) (y 1)) :
    W9 m ρ c (Proc.devRef .tc main_v19) = fun y : S4096x512.Idx => cut D 2048 (y 0) (y 1) := by
  funext y
  rw [ix2_eta y]
  unfold W9 W8 W7
  after_reads_at
  rw [h]
  rfl

theorem v21_eq (h : W6 m ρ c (Proc.devRef .tc main_arg2) = fun y : S4096x7176.Idx => D (y 0) (y 1)) :
    W9 m ρ c (Proc.devRef .tc main_v21) = fun y : S4096x512.Idx => cut D 2568 (y 0) (y 1) := by
  funext y
  rw [ix2_eta y]
  unfold W9 W8 W7
  after_reads_at
  rw [h]
  rfl

theorem v23_eq (h : W6 m ρ c (Proc.devRef .tc main_arg2) = fun y : S4096x7176.Idx => D (y 0) (y 1)) :
    W9 m ρ c (Proc.devRef .tc main_v23) = fun y : S4096x512.Idx => cut D 3080 (y 0) (y 1) := by
  funext y
  rw [ix2_eta y]
  unfold W9 W8 W7
  after_reads_at
  rw [h]
  rfl

theorem v25_eq (h : W6 m ρ c (Proc.devRef .tc main_arg2) = fun y : S4096x7176.Idx => D (y 0) (y 1)) :
    W9 m ρ c (Proc.devRef .tc main_v25) = fun y : S4096x512.Idx => cut D 3592 (y 0) (y 1) := by
  funext y
  rw [ix2_eta y]
  unfold W9 W8 W7
  after_reads_at
  rw [h]
  rfl

theorem v27_eq (h : W6 m ρ c (Proc.devRef .tc main_arg2) = fun y : S4096x7176.Idx => D (y 0) (y 1)) :
    W9 m ρ c (Proc.devRef .tc main_v27) = fun y : S4096x128.Idx => heads D (y 0) (y 1) := by
  funext y
  rw [ix2_eta y]
  unfold W9 W8 W7
  after_reads_at
  rw [h]
  unfold heads
  by_cases hn : (y 1 : Fin 128).val < 8
  · exact (dif_pos hn).trans (if_pos hn).symm
  · exact (dif_neg hn).trans (sitofp_zero.trans (if_neg hn).symm)

theorem v31_eq (h : W6 m ρ c (Proc.devRef .tc main_arg2) = fun y : S4096x7176.Idx => D (y 0) (y 1)) :
    W9 m ρ c (Proc.devRef .tc main_v31) = fun y : S3x4096x1024.Idx => planes D (y 0) (y 1) (y 2) := by
  funext y
  rw [ix3_eta y]
  unfold W9 W8 W7
  after_reads_at
  rw [h]
  rfl

theorem v38_at (r : Fin 1024) (d : Fin 8) : W16 m ρ c (Proc.devRef .tc main_v38) (ix2 r d)
    = W15 m ρ c (Proc.devRef .tc main_v37) (ix2 r (⟨d.val, by omega⟩ : Fin 128)) := by
  unfold W16
  after_reads_at

theorem v45_at (r : Fin 4096) (d : Fin 8) : W23 m ρ c (Proc.devRef .tc main_v45) (ix2 r d)
    = W22 m ρ c (Proc.devRef .tc main_v7) (ix2 r (⟨d.val, by omega⟩ : Fin 128)) := by
  unfold W23
  after_reads_at

end Cert.Proof.Proj

end
-- ==== Proof.ProjValue.lean ====
/-
  The boundaries of the run, one after another; and what the run leaves in the results.
-/
module

public import proofs.«01_k».proof.Proof.ProjHost
public import proofs.«01_k».proof.Proof.ProjRun

@[expose] public section

set_option maxRecDepth 16384

noncomputable section

namespace Cert.Proof.Proj

open Cert.Kernel4Ideal Cert.Kernel4Ideal.Gen
open Idealize.ShloMosaic Idealize.ShloMosaic.TcCoe Idealize.ShloMosaic.Tactic Idealize.SL.Sem
open Idealize.ShloMosaic.Pipeline (Dat Cfg Window)

variable {m : (ℓ : Loc nD τ sig) → Buf (Elt Ideal) ℓ} (ρ : Dev nD → PrngReg) {c : Dev nD} {H A D : ℕ → ℕ → EReal}

/-- A device's arguments hold the tokens, the weight and the product's gradient. -/
structure ArgsAt (m : (ℓ : Loc nD τ sig) → Buf (Elt Ideal) ℓ) (c : Dev nD) (H A D : ℕ → ℕ → EReal) : Prop where
  h : m (c, Proc.devRef .tc main_arg0) = fun y : S4096x1024.Idx => H (y 0) (y 1)
  a : m (c, Proc.devRef .tc main_arg1) = fun y : S1024x7176.Idx => A (y 0) (y 1)
  d : m (c, Proc.devRef .tc main_arg2) = fun y : S4096x7176.Idx => D (y 0) (y 1)

theorem w6_d (h : ArgsAt m c H A D) : W6 m ρ c (Proc.devRef .tc main_arg2) = fun y : S4096x7176.Idx => D (y 0) (y 1) :=
  (W6_args m ρ c main_arg2 (by decide)).trans h.d

/-- The first eight of the heads' padded columns are columns of the whole. -/
theorem heads_eq (A : ℕ → ℕ → EReal) (d : ℕ) (n : Fin 8) : heads A d n = A d (2560 + n) := if_pos n.isLt

theorem w3_v6 (h : ArgsAt m c H A D) : W3 m ρ c (Proc.devRef .tc main_v6) = fun y : S4096x2560.Idx => nn H A (y 0) (y 1) :=
  (W3_arr m ρ c 2).trans (arr0 (V2 m ρ) c ((W2_args m ρ c main_arg0 (by decide)).trans h.h) (v1_eq m ρ h.a))

theorem w4_v7 (h : ArgsAt m c H A D) : W4 m ρ c (Proc.devRef .tc main_v7) = fun y : S4096x128.Idx => nn H (heads A) (y 0) (y 1) :=
  (W4_arr m ρ c 2).trans (arr1 (V3 m ρ) c ((W3_args m ρ c main_arg0 (by decide)).trans h.h) ((W3_of m ρ c main_v5 (by decide)).trans (v5_eq m ρ h.a)))

theorem w5_v8 (h : ArgsAt m c H A D) : W5 m ρ c (Proc.devRef .tc main_v8) = fun y : S4096x1536.Idx => nn H (cut A 2568) (y 0) (y 1) :=
  (W5_arr m ρ c 2).trans (arr2 (V4 m ρ) c ((W4_args m ρ c main_arg0 (by decide)).trans h.h) (((W4_of m ρ c main_v2 (by decide)).trans (W3_of m ρ c main_v2 (by decide))).trans (v2_eq m ρ h.a)))

theorem w6_v9 (h : ArgsAt m c H A D) : W6 m ρ c (Proc.devRef .tc main_v9) = fun y : S4096x3072.Idx => nn H (cut A 4104) (y 0) (y 1) :=
  (W6_arr m ρ c 2).trans (arr3 (V5 m ρ) c ((W5_args m ρ c main_arg0 (by decide)).trans h.h) (((W5_of m ρ c main_v3 (by decide)).trans ((W4_of m ρ c main_v3 (by decide)).trans (W3_of m ρ c main_v3 (by decide)))).trans (v3_eq m ρ h.a)))

theorem w10_v32 (h : ArgsAt m c H A D) : W10 m ρ c (Proc.devRef .tc main_v32) = fun y : S1024x512.Idx => tn H D (y 0) (y 1) :=
  (W10_arr m ρ c 2).trans (arr4 (V9 m ρ) c ((W9_args m ρ c main_arg0 (by decide)).trans h.h) (v11_eq m ρ (w6_d ρ h)))

theorem w11_v33 (h : ArgsAt m c H A D) : W11 m ρ c (Proc.devRef .tc main_v33) = fun y : S1024x512.Idx => tn H (cut D 512) (y 0) (y 1) :=
  (W11_arr m ρ c 2).trans (arr5 (V10 m ρ) c ((W10_args m ρ c main_arg0 (by decide)).trans h.h) ((W10_of m ρ c main_v13 (by decide)).trans (v13_eq m ρ (w6_d ρ h))))

theorem w12_v34 (h : ArgsAt m c H A D) : W12 m ρ c (Proc.devRef .tc main_v34) = fun y : S1024x512.Idx => tn H (cut D 1024) (y 0) (y 1) :=
  (W12_arr m ρ c 2).trans (arr6 (V11 m ρ) c ((W11_args m ρ c main_arg0 (by decide)).trans h.h) (((W11_of m ρ c main_v15 (by decide)).trans (W10_of m ρ c main_v15 (by decide))).trans (v15_eq m ρ (w6_d ρ h))))

theorem w13_v35 (h : ArgsAt m c H A D) : W13 m ρ c (Proc.devRef .tc main_v35) = fun y : S1024x512.Idx => tn H (cut D 1536) (y 0) (y 1) :=
  (W13_arr m ρ c 2).trans (arr7 (V12 m ρ) c ((W12_args m ρ c main_arg0 (by decide)).trans h.h) (((W12_of m ρ c main_v17 (by decide)).trans ((W11_of m ρ c main_v17 (by decide)).trans (W10_of m ρ c main_v17 (by decide)))).trans (v17_eq m ρ (w6_d ρ h))))

theorem w14_v36 (h : ArgsAt m c H A D) : W14 m ρ c (Proc.devRef .tc main_v36) = fun y : S1024x512.Idx => tn H (cut D 2048) (y 0) (y 1) :=
  (W14_arr m ρ c 2).trans (arr8 (V13 m ρ) c ((W13_args m ρ c main_arg0 (by decide)).trans h.h) (((W13_of m ρ c main_v19 (by decide)).trans ((W12_of m ρ c main_v19 (by decide)).trans ((W11_of m ρ c main_v19 (by decide)).trans (W10_of m ρ c main_v19 (by decide))))).trans (v19_eq m ρ (w6_d ρ h))))

theorem w15_v37 (h : ArgsAt m c H A D) : W15 m ρ c (Proc.devRef .tc main_v37) = fun y : S1024x128.Idx => tn H (heads D) (y 0) (y 1) :=
  (W15_arr m ρ c 2).trans (arr9 (V14 m ρ) c ((W14_args m ρ c main_arg0 (by decide)).trans h.h) (((W14_of m ρ c main_v27 (by decide)).trans ((W13_of m ρ c main_v27 (by decide)).trans ((W12_of m ρ c main_v27 (by decide)).trans ((W11_of m ρ c main_v27 (by decide)).trans (W10_of m ρ c main_v27 (by decide)))))).trans (v27_eq m ρ (w6_d ρ h))))

theorem w17_v39 (h : ArgsAt m c H A D) : W17 m ρ c (Proc.devRef .tc main_v39) = fun y : S1024x512.Idx => tn H (cut D 2568) (y 0) (y 1) :=
  (W17_arr m ρ c 2).trans (arr10 (V16 m ρ) c ((W16_args m ρ c main_arg0 (by decide)).trans h.h) (((W16_of m ρ c main_v21 (by decide)).trans ((W15_of m ρ c main_v21 (by decide)).trans ((W14_of m ρ c main_v21 (by decide)).trans ((W13_of m ρ c main_v21 (by decide)).trans ((W12_of m ρ c main_v21 (by decide)).trans ((W11_of m ρ c main_v21 (by decide)).trans (W10_of m ρ c main_v21 (by decide)))))))).trans (v21_eq m ρ (w6_d ρ h))))

theorem w18_v40 (h : ArgsAt m c H A D) : W18 m ρ c (Proc.devRef .tc main_v40) = fun y : S1024x512.Idx => tn H (cut D 3080) (y 0) (y 1) :=
  (W18_arr m ρ c 2).trans (arr11 (V17 m ρ) c ((W17_args m ρ c main_arg0 (by decide)).trans h.h) (((W17_of m ρ c main_v23 (by decide)).trans ((W16_of m ρ c main_v23 (by decide)).trans ((W15_of m ρ c main_v23 (by decide)).trans ((W14_of m ρ c main_v23 (by decide)).trans ((W13_of m ρ c main_v23 (by decide)).trans ((W12_of m ρ c main_v23 (by decide)).trans ((W11_of m ρ c main_v23 (by decide)).trans (W10_of m ρ c main_v23 (by decide))))))))).trans (v23_eq m ρ (w6_d ρ h))))

theorem w19_v41 (h : ArgsAt m c H A D) : W19 m ρ c (Proc.devRef .tc main_v41) = fun y : S1024x512.Idx => tn H (cut D 3592) (y 0) (y 1) :=
  (W19_arr m ρ c 2).trans (arr12 (V18 m ρ) c ((W18_args m ρ c main_arg0 (by decide)).trans h.h) (((W18_of m ρ c main_v25 (by decide)).trans ((W17_of m ρ c main_v25 (by decide)).trans ((W16_of m ρ c main_v25 (by decide)).trans ((W15_of m ρ c main_v25 (by decide)).trans ((W14_of m ρ c main_v25 (by decide)).trans ((W13_of m ρ c main_v25 (by decide)).trans ((W12_of m ρ c main_v25 (by decide)).trans ((W11_of m ρ c main_v25 (by decide)).trans (W10_of m ρ c main_v25 (by decide)))))))))).trans (v25_eq m ρ (w6_d ρ h))))

theorem w20_v42 (h : ArgsAt m c H A D) : W20 m ρ c (Proc.devRef .tc main_v42) = fun y : S1024x1024.Idx => tn H (planes D 0) (y 0) (y 1) :=
  (W20_arr m ρ c 2).trans (arr13 (V19 m ρ) c ((W19_args m ρ c main_arg0 (by decide)).trans h.h) (((W19_of m ρ c main_v31 (by decide)).trans ((W18_of m ρ c main_v31 (by decide)).trans ((W17_of m ρ c main_v31 (by decide)).trans ((W16_of m ρ c main_v31 (by decide)).trans ((W15_of m ρ c main_v31 (by decide)).trans ((W14_of m ρ c main_v31 (by decide)).trans ((W13_of m ρ c main_v31 (by decide)).trans ((W12_of m ρ c main_v31 (by decide)).trans ((W11_of m ρ c main_v31 (by decide)).trans (W10_of m ρ c main_v31 (by decide))))))))))).trans (v31_eq m ρ (w6_d ρ h))))

theorem w21_v43 (h : ArgsAt m c H A D) : W21 m ρ c (Proc.devRef .tc main_v43) = fun y : S1024x1024.Idx => tn H (planes D 1) (y 0) (y 1) :=
  (W21_arr m ρ c 2).trans (arr14 (V20 m ρ) c ((W20_args m ρ c main_arg0 (by decide)).trans h.h) (((W20_of m ρ c main_v31 (by decide)).trans ((W19_of m ρ c main_v31 (by decide)).trans ((W18_of m ρ c main_v31 (by decide)).trans ((W17_of m ρ c main_v31 (by decide)).trans ((W16_of m ρ c main_v31 (by decide)).trans ((W15_of m ρ c main_v31 (by decide)).trans ((W14_of m ρ c main_v31 (by decide)).trans ((W13_of m ρ c main_v31 (by decide)).trans ((W12_of m ρ c main_v31 (by decide)).trans ((W11_of m ρ c main_v31 (by decide)).trans (W10_of m ρ c main_v31 (by decide)))))))))))).trans (v31_eq m ρ (w6_d ρ h))))

theorem w22_v44 (h : ArgsAt m c H A D) : W22 m ρ c (Proc.devRef .tc main_v44) = fun y : S1024x1024.Idx => tn H (planes D 2) (y 0) (y 1) :=
  (W22_arr m ρ c 2).trans (arr15 (V21 m ρ) c ((W21_args m ρ c main_arg0 (by decide)).trans h.h) (((W21_of m ρ c main_v31 (by decide)).trans ((W20_of m ρ c main_v31 (by decide)).trans ((W19_of m ρ c main_v31 (by decide)).trans ((W18_of m ρ c main_v31 (by decide)).trans ((W17_of m ρ c main_v31 (by decide)).trans ((W16_of m ρ c main_v31 (by decide)).trans ((W15_of m ρ c main_v31 (by decide)).trans ((W14_of m ρ c main_v31 (by decide)).trans ((W13_of m ρ c main_v31 (by decide)).trans ((W12_of m ρ c main_v31 (by decide)).trans ((W11_of m ρ c main_v31 (by decide)).trans (W10_of m ρ c main_v31 (by decide))))))))))))).trans (v31_eq m ρ (w6_d ρ h))))

/-! ## The results -/

theorem end_v6 (h : ArgsAt m c H A D) : W23 m ρ c (Proc.devRef .tc main_v6) = fun y : S4096x2560.Idx => nn H A (y 0) (y 1) :=
  ((W23_of m ρ c main_v6 (by decide)).trans ((W22_of m ρ c main_v6 (by decide)).trans ((W21_of m ρ c main_v6 (by decide)).trans ((W20_of m ρ c main_v6 (by decide)).trans ((W19_of m ρ c main_v6 (by decide)).trans ((W18_of m ρ c main_v6 (by decide)).trans ((W17_of m ρ c main_v6 (by decide)).trans ((W16_of m ρ c main_v6 (by decide)).trans ((W15_of m ρ c main_v6 (by decide)).trans ((W14_of m ρ c main_v6 (by decide)).trans ((W13_of m ρ c main_v6 (by decide)).trans ((W12_of m ρ c main_v6 (by decide)).trans ((W11_of m ρ c main_v6 (by decide)).trans ((W10_of m ρ c main_v6 (by decide)).trans ((W9_of m ρ c main_v6 (by decide)).trans ((W8_of m ρ c main_v6 (by decide)).trans ((W7_of m ρ c main_v6 (by decide)).trans ((W6_of m ρ c main_v6 (by decide)).trans ((W5_of m ρ c main_v6 (by decide)).trans (W4_of m ρ c main_v6 (by decide))))))))))))))))))))).trans (w3_v6 ρ h)

theorem end_v45 (h : ArgsAt m c H A D) : W23 m ρ c (Proc.devRef .tc main_v45) = fun y : S4096x8.Idx => nn H A (y 0) (2560 + (y 1).val) :=
  funext fun y => (congrArg (W23 m ρ c (Proc.devRef .tc main_v45)) (ix2_eta (a := 4096) (b := 8) y)).trans ((v45_at m ρ (y 0 : Fin 4096) (y 1 : Fin 8)).trans ((congrFun (((W22_of m ρ c main_v7 (by decide)).trans ((W21_of m ρ c main_v7 (by decide)).trans ((W20_of m ρ c main_v7 (by decide)).trans ((W19_of m ρ c main_v7 (by decide)).trans ((W18_of m ρ c main_v7 (by decide)).trans ((W17_of m ρ c main_v7 (by decide)).trans ((W16_of m ρ c main_v7 (by decide)).trans ((W15_of m ρ c main_v7 (by decide)).trans ((W14_of m ρ c main_v7 (by decide)).trans ((W13_of m ρ c main_v7 (by decide)).trans ((W12_of m ρ c main_v7 (by decide)).trans ((W11_of m ρ c main_v7 (by decide)).trans ((W10_of m ρ c main_v7 (by decide)).trans ((W9_of m ρ c main_v7 (by decide)).trans ((W8_of m ρ c main_v7 (by decide)).trans ((W7_of m ρ c main_v7 (by decide)).trans ((W6_of m ρ c main_v7 (by decide)).trans (W5_of m ρ c main_v7 (by decide))))))))))))))))))).trans (w4_v7 ρ h)) _).trans
    (nn_cols fun d => heads_eq A d (y 1 : Fin 8))))

theorem end_v8 (h : ArgsAt m c H A D) : W23 m ρ c (Proc.devRef .tc main_v8) = fun y : S4096x1536.Idx => nn H A (y 0) (2568 + (y 1).val) :=
  ((W23_of m ρ c main_v8 (by decide)).trans ((W22_of m ρ c main_v8 (by decide)).trans ((W21_of m ρ c main_v8 (by decide)).trans ((W20_of m ρ c main_v8 (by decide)).trans ((W19_of m ρ c main_v8 (by decide)).trans ((W18_of m ρ c main_v8 (by decide)).trans ((W17_of m ρ c main_v8 (by decide)).trans ((W16_of m ρ c main_v8 (by decide)).trans ((W15_of m ρ c main_v8 (by decide)).trans ((W14_of m ρ c main_v8 (by decide)).trans ((W13_of m ρ c main_v8 (by decide)).trans ((W12_of m ρ c main_v8 (by decide)).trans ((W11_of m ρ c main_v8 (by decide)).trans ((W10_of m ρ c main_v8 (by decide)).trans ((W9_of m ρ c main_v8 (by decide)).trans ((W8_of m ρ c main_v8 (by decide)).trans ((W7_of m ρ c main_v8 (by decide)).trans (W6_of m ρ c main_v8 (by decide))))))))))))))))))).trans (w5_v8 ρ h)

theorem end_v9 (h : ArgsAt m c H A D) : W23 m ρ c (Proc.devRef .tc main_v9) = fun y : S4096x3072.Idx => nn H A (y 0) (4104 + (y 1).val) :=
  ((W23_of m ρ c main_v9 (by decide)).trans ((W22_of m ρ c main_v9 (by decide)).trans ((W21_of m ρ c main_v9 (by decide)).trans ((W20_of m ρ c main_v9 (by decide)).trans ((W19_of m ρ c main_v9 (by decide)).trans ((W18_of m ρ c main_v9 (by decide)).trans ((W17_of m ρ c main_v9 (by decide)).trans ((W16_of m ρ c main_v9 (by decide)).trans ((W15_of m ρ c main_v9 (by decide)).trans ((W14_of m ρ c main_v9 (by decide)).trans ((W13_of m ρ c main_v9 (by decide)).trans ((W12_of m ρ c main_v9 (by decide)).trans ((W11_of m ρ c main_v9 (by decide)).trans ((W10_of m ρ c main_v9 (by decide)).trans ((W9_of m ρ c main_v9 (by decide)).trans ((W8_of m ρ c main_v9 (by decide)).trans (W7_of m ρ c main_v9 (by decide)))))))))))))))))).trans (w6_v9 ρ h)

theorem end_v32 (h : ArgsAt m c H A D) : W23 m ρ c (Proc.devRef .tc main_v32) = fun y : S1024x512.Idx => tn H D (y 0) (y 1) :=
  ((W23_of m ρ c main_v32 (by decide)).trans ((W22_of m ρ c main_v32 (by decide)).trans ((W21_of m ρ c main_v32 (by decide)).trans ((W20_of m ρ c main_v32 (by decide)).trans ((W19_of m ρ c main_v32 (by decide)).trans ((W18_of m ρ c main_v32 (by decide)).trans ((W17_of m ρ c main_v32 (by decide)).trans ((W16_of m ρ c main_v32 (by decide)).trans ((W15_of m ρ c main_v32 (by decide)).trans ((W14_of m ρ c main_v32 (by decide)).trans ((W13_of m ρ c main_v32 (by decide)).trans ((W12_of m ρ c main_v32 (by decide)).trans (W11_of m ρ c main_v32 (by decide)))))))))))))).trans (w10_v32 ρ h)

theorem end_v33 (h : ArgsAt m c H A D) : W23 m ρ c (Proc.devRef .tc main_v33) = fun y : S1024x512.Idx => tn H D (y 0) (512 + (y 1).val) :=
  ((W23_of m ρ c main_v33 (by decide)).trans ((W22_of m ρ c main_v33 (by decide)).trans ((W21_of m ρ c main_v33 (by decide)).trans ((W20_of m ρ c main_v33 (by decide)).trans ((W19_of m ρ c main_v33 (by decide)).trans ((W18_of m ρ c main_v33 (by decide)).trans ((W17_of m ρ c main_v33 (by decide)).trans ((W16_of m ρ c main_v33 (by decide)).trans ((W15_of m ρ c main_v33 (by decide)).trans ((W14_of m ρ c main_v33 (by decide)).trans ((W13_of m ρ c main_v33 (by decide)).trans (W12_of m ρ c main_v33 (by decide))))))))))))).trans (w11_v33 ρ h)

theorem end_v34 (h : ArgsAt m c H A D) : W23 m ρ c (Proc.devRef .tc main_v34) = fun y : S1024x512.Idx => tn H D (y 0) (1024 + (y 1).val) :=
  ((W23_of m ρ c main_v34 (by decide)).trans ((W22_of m ρ c main_v34 (by decide)).trans ((W21_of m ρ c main_v34 (by decide)).trans ((W20_of m ρ c main_v34 (by decide)).trans ((W19_of m ρ c main_v34 (by decide)).trans ((W18_of m ρ c main_v34 (by decide)).trans ((W17_of m ρ c main_v34 (by decide)).trans ((W16_of m ρ c main_v34 (by decide)).trans ((W15_of m ρ c main_v34 (by decide)).trans ((W14_of m ρ c main_v34 (by decide)).trans (W13_of m ρ c main_v34 (by decide)))))))))))).trans (w12_v34 ρ h)

theorem end_v35 (h : ArgsAt m c H A D) : W23 m ρ c (Proc.devRef .tc main_v35) = fun y : S1024x512.Idx => tn H D (y 0) (1536 + (y 1).val) :=
  ((W23_of m ρ c main_v35 (by decide)).trans ((W22_of m ρ c main_v35 (by decide)).trans ((W21_of m ρ c main_v35 (by decide)).trans ((W20_of m ρ c main_v35 (by decide)).trans ((W19_of m ρ c main_v35 (by decide)).trans ((W18_of m ρ c main_v35 (by decide)).trans ((W17_of m ρ c main_v35 (by decide)).trans ((W16_of m ρ c main_v35 (by decide)).trans ((W15_of m ρ c main_v35 (by decide)).trans (W14_of m ρ c main_v35 (by decide))))))))))).trans (w13_v35 ρ h)

theorem end_v36 (h : ArgsAt m c H A D) : W23 m ρ c (Proc.devRef .tc main_v36) = fun y : S1024x512.Idx => tn H D (y 0) (2048 + (y 1).val) :=
  ((W23_of m ρ c main_v36 (by decide)).trans ((W22_of m ρ c main_v36 (by decide)).trans ((W21_of m ρ c main_v36 (by decide)).trans ((W20_of m ρ c main_v36 (by decide)).trans ((W19_of m ρ c main_v36 (by decide)).trans ((W18_of m ρ c main_v36 (by decide)).trans ((W17_of m ρ c main_v36 (by decide)).trans ((W16_of m ρ c main_v36 (by decide)).trans (W15_of m ρ c main_v36 (by decide)))))))))).trans (w14_v36 ρ h)

theorem end_v38 (h : ArgsAt m c H A D) : W23 m ρ c (Proc.devRef .tc main_v38) = fun y : S1024x8.Idx => tn H D (y 0) (2560 + (y 1).val) :=
  ((W23_of m ρ c main_v38 (by decide)).trans ((W22_of m ρ c main_v38 (by decide)).trans ((W21_of m ρ c main_v38 (by decide)).trans ((W20_of m ρ c main_v38 (by decide)).trans ((W19_of m ρ c main_v38 (by decide)).trans ((W18_of m ρ c main_v38 (by decide)).trans (W17_of m ρ c main_v38 (by decide)))))))).trans (funext fun y => (congrArg (W16 m ρ c (Proc.devRef .tc main_v38)) (ix2_eta (a := 1024) (b := 8) y)).trans ((v38_at m ρ (y 0 : Fin 1024) (y 1 : Fin 8)).trans ((congrFun (w15_v37 ρ h) _).trans
    (tn_cols fun t => heads_eq D t (y 1 : Fin 8)))))

theorem end_v39 (h : ArgsAt m c H A D) : W23 m ρ c (Proc.devRef .tc main_v39) = fun y : S1024x512.Idx => tn H D (y 0) (2568 + (y 1).val) :=
  ((W23_of m ρ c main_v39 (by decide)).trans ((W22_of m ρ c main_v39 (by decide)).trans ((W21_of m ρ c main_v39 (by decide)).trans ((W20_of m ρ c main_v39 (by decide)).trans ((W19_of m ρ c main_v39 (by decide)).trans (W18_of m ρ c main_v39 (by decide))))))).trans (w17_v39 ρ h)

theorem end_v40 (h : ArgsAt m c H A D) : W23 m ρ c (Proc.devRef .tc main_v40) = fun y : S1024x512.Idx => tn H D (y 0) (3080 + (y 1).val) :=
  ((W23_of m ρ c main_v40 (by decide)).trans ((W22_of m ρ c main_v40 (by decide)).trans ((W21_of m ρ c main_v40 (by decide)).trans ((W20_of m ρ c main_v40 (by decide)).trans (W19_of m ρ c main_v40 (by decide)))))).trans (w18_v40 ρ h)

theorem end_v41 (h : ArgsAt m c H A D) : W23 m ρ c (Proc.devRef .tc main_v41) = fun y : S1024x512.Idx => tn H D (y 0) (3592 + (y 1).val) :=
  ((W23_of m ρ c main_v41 (by decide)).trans ((W22_of m ρ c main_v41 (by decide)).trans ((W21_of m ρ c main_v41 (by decide)).trans (W20_of m ρ c main_v41 (by decide))))).trans (w19_v41 ρ h)

theorem end_v42 (h : ArgsAt m c H A D) : W23 m ρ c (Proc.devRef .tc main_v42) = fun y : S1024x1024.Idx => tn H D (y 0) (4104 + (0 * 1024 + (y 1).val)) :=
  ((W23_of m ρ c main_v42 (by decide)).trans ((W22_of m ρ c main_v42 (by decide)).trans (W21_of m ρ c main_v42 (by decide)))).trans (w20_v42 ρ h)

theorem end_v43 (h : ArgsAt m c H A D) : W23 m ρ c (Proc.devRef .tc main_v43) = fun y : S1024x1024.Idx => tn H D (y 0) (4104 + (1 * 1024 + (y 1).val)) :=
  ((W23_of m ρ c main_v43 (by decide)).trans (W22_of m ρ c main_v43 (by decide))).trans (w21_v43 ρ h)

theorem end_v44 (h : ArgsAt m c H A D) : W23 m ρ c (Proc.devRef .tc main_v44) = fun y : S1024x1024.Idx => tn H D (y 0) (4104 + (2 * 1024 + (y 1).val)) :=
  (W23_of m ρ c main_v44 (by decide)).trans (w22_v44 ρ h)

/-- The run over the extended reals: the results are the columns of the product and of the weight's gradient, the arguments as they began. -/
theorem run_value (H A D : Dev nD → ℕ → ℕ → EReal) (h : ∀ c, ArgsAt m c (H c) (A c) (D c)) :
    θ_run defs (onTc (τ := τ) (main (F := Ideal))) ⟨m, fun _ => 0, ρ⟩ (fun r => ∀ c : Dev nD,
      ((r.2.mem ((c.tc : Thread nD τ).loc main_v6) = fun y : S4096x2560.Idx => nn (H c) (A c) (y 0) (y 1))
      ∧ (r.2.mem ((c.tc : Thread nD τ).loc main_v45) = fun y : S4096x8.Idx => nn (H c) (A c) (y 0) (2560 + (y 1).val))
      ∧ (r.2.mem ((c.tc : Thread nD τ).loc main_v8) = fun y : S4096x1536.Idx => nn (H c) (A c) (y 0) (2568 + (y 1).val))
      ∧ (r.2.mem ((c.tc : Thread nD τ).loc main_v9) = fun y : S4096x3072.Idx => nn (H c) (A c) (y 0) (4104 + (y 1).val))
      ∧ (r.2.mem ((c.tc : Thread nD τ).loc main_v32) = fun y : S1024x512.Idx => tn (H c) (D c) (y 0) (y 1))
      ∧ (r.2.mem ((c.tc : Thread nD τ).loc main_v33) = fun y : S1024x512.Idx => tn (H c) (D c) (y 0) (512 + (y 1).val))
      ∧ (r.2.mem ((c.tc : Thread nD τ).loc main_v34) = fun y : S1024x512.Idx => tn (H c) (D c) (y 0) (1024 + (y 1).val))
      ∧ (r.2.mem ((c.tc : Thread nD τ).loc main_v35) = fun y : S1024x512.Idx => tn (H c) (D c) (y 0) (1536 + (y 1).val))
      ∧ (r.2.mem ((c.tc : Thread nD τ).loc main_v36) = fun y : S1024x512.Idx => tn (H c) (D c) (y 0) (2048 + (y 1).val))
      ∧ (r.2.mem ((c.tc : Thread nD τ).loc main_v38) = fun y : S1024x8.Idx => tn (H c) (D c) (y 0) (2560 + (y 1).val))
      ∧ (r.2.mem ((c.tc : Thread nD τ).loc main_v39) = fun y : S1024x512.Idx => tn (H c) (D c) (y 0) (2568 + (y 1).val))
      ∧ (r.2.mem ((c.tc : Thread nD τ).loc main_v40) = fun y : S1024x512.Idx => tn (H c) (D c) (y 0) (3080 + (y 1).val))
      ∧ (r.2.mem ((c.tc : Thread nD τ).loc main_v41) = fun y : S1024x512.Idx => tn (H c) (D c) (y 0) (3592 + (y 1).val))
      ∧ (r.2.mem ((c.tc : Thread nD τ).loc main_v42) = fun y : S1024x1024.Idx => tn (H c) (D c) (y 0) (4104 + (0 * 1024 + (y 1).val)))
      ∧ (r.2.mem ((c.tc : Thread nD τ).loc main_v43) = fun y : S1024x1024.Idx => tn (H c) (D c) (y 0) (4104 + (1 * 1024 + (y 1).val)))
      ∧ (r.2.mem ((c.tc : Thread nD τ).loc main_v44) = fun y : S1024x1024.Idx => tn (H c) (D c) (y 0) (4104 + (2 * 1024 + (y 1).val))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ q c => ⟨⟨((q.1 c).1.1).trans (end_v6 ρ (h c)),
    ((q.1 c).1.2.1).trans (end_v45 ρ (h c)),
    ((q.1 c).1.2.2.1).trans (end_v8 ρ (h c)),
    ((q.1 c).1.2.2.2.1).trans (end_v9 ρ (h c)),
    ((q.1 c).1.2.2.2.2.1).trans (end_v32 ρ (h c)),
    ((q.1 c).1.2.2.2.2.2.1).trans (end_v33 ρ (h c)),
    ((q.1 c).1.2.2.2.2.2.2.1).trans (end_v34 ρ (h c)),
    ((q.1 c).1.2.2.2.2.2.2.2.1).trans (end_v35 ρ (h c)),
    ((q.1 c).1.2.2.2.2.2.2.2.2.1).trans (end_v36 ρ (h c)),
    ((q.1 c).1.2.2.2.2.2.2.2.2.2.1).trans (end_v38 ρ (h c)),
    ((q.1 c).1.2.2.2.2.2.2.2.2.2.2.1).trans (end_v39 ρ (h c)),
    ((q.1 c).1.2.2.2.2.2.2.2.2.2.2.2.1).trans (end_v40 ρ (h c)),
    ((q.1 c).1.2.2.2.2.2.2.2.2.2.2.2.2.1).trans (end_v41 ρ (h c)),
    ((q.1 c).1.2.2.2.2.2.2.2.2.2.2.2.2.2.1).trans (end_v42 ρ (h c)),
    ((q.1 c).1.2.2.2.2.2.2.2.2.2.2.2.2.2.2.1).trans (end_v43 ρ (h c)),
    ((q.1 c).1.2.2.2.2.2.2.2.2.2.2.2.2.2.2.2).trans (end_v44 ρ (h c))⟩, (q.1 c).2⟩) (run_full (F := Ideal) m ρ)

end Cert.Proof.Proj

end
-- ==== Proof.ProjRef.lean ====
/-
  The plain input projection and the gradient of its weight, cut into their columns.
-/
module

public import proofs.«01_k».proof.Proof.ProjPay
public import proofs.«01_k».proof.Proof.Gen.Reference4Ideal.Run
public import Idealize.ShloMosaic.Lib.StableHlo.ReadAt
public import Idealize.ShloMosaic.Lib.Pipeline.ValueKit.Tiles

@[expose] public section

set_option maxRecDepth 16384

noncomputable section

namespace Cert.Proof.Proj.Ref

open Cert.Reference4Ideal Cert.Reference4Ideal.Gen Cert.Reference4Ideal.Value
open Idealize.ShloMosaic Idealize.ShloMosaic.TcCoe Idealize.ShloMosaic.StableHlo Idealize.SL.Sem

/-- The buffers hold the tokens, the weight and the product's gradient. -/
structure RefOk (V0 : Valuation τ sig (Elt Ideal)) (H A D : ℕ → ℕ → EReal) : Prop where
  h : V0 (Proc.devRef .tc main_arg0) = fun y : S4096x1024.Idx => H (y 0) (y 1)
  a : V0 (Proc.devRef .tc main_arg1) = fun y : S1024x7176.Idx => A (y 0) (y 1)
  d : V0 (Proc.devRef .tc main_arg2) = fun y : S4096x7176.Idx => D (y 0) (y 1)

variable {V0 : Valuation τ sig (Elt Ideal)} {H A D : ℕ → ℕ → EReal}

theorem v13_at (h : RefOk V0 H A D) (r : Fin 4096) (d : Fin 2560) :
    @Eq EReal (after ops V0 (Proc.devRef .tc main_v13) (ix2 r d)) (nn H A r.val (d.val)) := by
  after_reads_at
  simp only [h.h, h.a]
  rfl

theorem v5_at (h : RefOk V0 H A D) (r : Fin 4096) (d : Fin 8) :
    @Eq EReal (after ops V0 (Proc.devRef .tc main_v5) (ix2 r d)) (nn H A r.val (2560 + d.val)) := by
  after_reads_at
  simp only [h.h, h.a]
  rfl

theorem v14_at (h : RefOk V0 H A D) (r : Fin 4096) (d : Fin 1536) :
    @Eq EReal (after ops V0 (Proc.devRef .tc main_v14) (ix2 r d)) (nn H A r.val (2568 + d.val)) := by
  after_reads_at
  simp only [h.h, h.a]
  rfl

theorem v15_at (h : RefOk V0 H A D) (r : Fin 4096) (d : Fin 3072) :
    @Eq EReal (after ops V0 (Proc.devRef .tc main_v15) (ix2 r d)) (nn H A r.val (4104 + d.val)) := by
  after_reads_at
  simp only [h.h, h.a]
  rfl

theorem v16_at (h : RefOk V0 H A D) (r : Fin 1024) (d : Fin 512) :
    @Eq EReal (after ops V0 (Proc.devRef .tc main_v16) (ix2 r d)) (tn H D r.val (d.val)) := by
  after_reads_at
  simp only [h.h, h.d]
  exact Finset.sum_congr rfl fun t _ => (mul_comm _ _).trans (congrArg (H t r * ·) (congrArg (D t) (by simp; try omega)))

theorem v17_at (h : RefOk V0 H A D) (r : Fin 1024) (d : Fin 512) :
    @Eq EReal (after ops V0 (Proc.devRef .tc main_v17) (ix2 r d)) (tn H D r.val (512 + d.val)) := by
  after_reads_at
  simp only [h.h, h.d]
  exact Finset.sum_congr rfl fun t _ => (mul_comm _ _).trans (congrArg (H t r * ·) (congrArg (D t) (by simp; try omega)))

theorem v18_at (h : RefOk V0 H A D) (r : Fin 1024) (d : Fin 512) :
    @Eq EReal (after ops V0 (Proc.devRef .tc main_v18) (ix2 r d)) (tn H D r.val (1024 + d.val)) := by
  after_reads_at
  simp only [h.h, h.d]
  exact Finset.sum_congr rfl fun t _ => (mul_comm _ _).trans (congrArg (H t r * ·) (congrArg (D t) (by simp; try omega)))

theorem v19_at (h : RefOk V0 H A D) (r : Fin 1024) (d : Fin 512) :
    @Eq EReal (after ops V0 (Proc.devRef .tc main_v19) (ix2 r d)) (tn H D r.val (1536 + d.val)) := by
  after_reads_at
  simp only [h.h, h.d]
  exact Finset.sum_congr rfl fun t _ => (mul_comm _ _).trans (congrArg (H t r * ·) (congrArg (D t) (by simp; try omega)))

theorem v20_at (h : RefOk V0 H A D) (r : Fin 1024) (d : Fin 512) :
    @Eq EReal (after ops V0 (Proc.devRef .tc main_v20) (ix2 r d)) (tn H D r.val (2048 + d.val)) := by
  after_reads_at
  simp only [h.h, h.d]
  exact Finset.sum_congr rfl fun t _ => (mul_comm _ _).trans (congrArg (H t r * ·) (congrArg (D t) (by simp; try omega)))

theorem v10_at (h : RefOk V0 H A D) (r : Fin 1024) (d : Fin 8) :
    @Eq EReal (after ops V0 (Proc.devRef .tc main_v10) (ix2 r d)) (tn H D r.val (2560 + d.val)) := by
  after_reads_at
  simp only [h.h, h.d]
  exact Finset.sum_congr rfl fun t _ => (mul_comm _ _).trans (congrArg (H t r * ·) (congrArg (D t) (by simp; try omega)))

theorem v21_at (h : RefOk V0 H A D) (r : Fin 1024) (d : Fin 512) :
    @Eq EReal (after ops V0 (Proc.devRef .tc main_v21) (ix2 r d)) (tn H D r.val (2568 + d.val)) := by
  after_reads_at
  simp only [h.h, h.d]
  exact Finset.sum_congr rfl fun t _ => (mul_comm _ _).trans (congrArg (H t r * ·) (congrArg (D t) (by simp; try omega)))

theorem v22_at (h : RefOk V0 H A D) (r : Fin 1024) (d : Fin 512) :
    @Eq EReal (after ops V0 (Proc.devRef .tc main_v22) (ix2 r d)) (tn H D r.val (3080 + d.val)) := by
  after_reads_at
  simp only [h.h, h.d]
  exact Finset.sum_congr rfl fun t _ => (mul_comm _ _).trans (congrArg (H t r * ·) (congrArg (D t) (by simp; try omega)))

theorem v23_at (h : RefOk V0 H A D) (r : Fin 1024) (d : Fin 512) :
    @Eq EReal (after ops V0 (Proc.devRef .tc main_v23) (ix2 r d)) (tn H D r.val (3592 + d.val)) := by
  after_reads_at
  simp only [h.h, h.d]
  exact Finset.sum_congr rfl fun t _ => (mul_comm _ _).trans (congrArg (H t r * ·) (congrArg (D t) (by simp; try omega)))

theorem v24_at (h : RefOk V0 H A D) (r : Fin 1024) (d : Fin 1024) :
    @Eq EReal (after ops V0 (Proc.devRef .tc main_v24) (ix2 r d)) (tn H D r.val (4104 + (0 * 1024 + d.val))) := by
  after_reads_at
  simp only [h.h, h.d]
  exact Finset.sum_congr rfl fun t _ => (mul_comm _ _).trans (congrArg (H t r * ·) (congrArg (D t) (by simp; try omega)))

theorem v25_at (h : RefOk V0 H A D) (r : Fin 1024) (d : Fin 1024) :
    @Eq EReal (after ops V0 (Proc.devRef .tc main_v25) (ix2 r d)) (tn H D r.val (4104 + (1 * 1024 + d.val))) := by
  after_reads_at
  simp only [h.h, h.d]
  exact Finset.sum_congr rfl fun t _ => (mul_comm _ _).trans (congrArg (H t r * ·) (congrArg (D t) (by simp; try omega)))

theorem v26_at (h : RefOk V0 H A D) (r : Fin 1024) (d : Fin 1024) :
    @Eq EReal (after ops V0 (Proc.devRef .tc main_v26) (ix2 r d)) (tn H D r.val (4104 + (2 * 1024 + d.val))) := by
  after_reads_at
  simp only [h.h, h.d]
  exact Finset.sum_congr rfl fun t _ => (mul_comm _ _).trans (congrArg (H t r * ·) (congrArg (D t) (by simp; try omega)))

theorem end_v13 (h : RefOk V0 H A D) : after ops V0 (Proc.devRef .tc main_v13) = fun y : S4096x2560.Idx => nn H A (y 0) (y 1) := funext fun y =>
  (congrArg (after ops V0 (Proc.devRef .tc main_v13)) (ix2_eta (a := 4096) (b := 2560) y)).trans (v13_at h (y 0 : Fin 4096) (y 1 : Fin 2560))

theorem end_v5 (h : RefOk V0 H A D) : after ops V0 (Proc.devRef .tc main_v5) = fun y : S4096x8.Idx => nn H A (y 0) (2560 + (y 1).val) := funext fun y =>
  (congrArg (after ops V0 (Proc.devRef .tc main_v5)) (ix2_eta (a := 4096) (b := 8) y)).trans (v5_at h (y 0 : Fin 4096) (y 1 : Fin 8))

theorem end_v14 (h : RefOk V0 H A D) : after ops V0 (Proc.devRef .tc main_v14) = fun y : S4096x1536.Idx => nn H A (y 0) (2568 + (y 1).val) := funext fun y =>
  (congrArg (after ops V0 (Proc.devRef .tc main_v14)) (ix2_eta (a := 4096) (b := 1536) y)).trans (v14_at h (y 0 : Fin 4096) (y 1 : Fin 1536))

theorem end_v15 (h : RefOk V0 H A D) : after ops V0 (Proc.devRef .tc main_v15) = fun y : S4096x3072.Idx => nn H A (y 0) (4104 + (y 1).val) := funext fun y =>
  (congrArg (after ops V0 (Proc.devRef .tc main_v15)) (ix2_eta (a := 4096) (b := 3072) y)).trans (v15_at h (y 0 : Fin 4096) (y 1 : Fin 3072))

theorem end_v16 (h : RefOk V0 H A D) : after ops V0 (Proc.devRef .tc main_v16) = fun y : S1024x512.Idx => tn H D (y 0) (y 1) := funext fun y =>
  (congrArg (after ops V0 (Proc.devRef .tc main_v16)) (ix2_eta (a := 1024) (b := 512) y)).trans (v16_at h (y 0 : Fin 1024) (y 1 : Fin 512))

theorem end_v17 (h : RefOk V0 H A D) : after ops V0 (Proc.devRef .tc main_v17) = fun y : S1024x512.Idx => tn H D (y 0) (512 + (y 1).val) := funext fun y =>
  (congrArg (after ops V0 (Proc.devRef .tc main_v17)) (ix2_eta (a := 1024) (b := 512) y)).trans (v17_at h (y 0 : Fin 1024) (y 1 : Fin 512))

theorem end_v18 (h : RefOk V0 H A D) : after ops V0 (Proc.devRef .tc main_v18) = fun y : S1024x512.Idx => tn H D (y 0) (1024 + (y 1).val) := funext fun y =>
  (congrArg (after ops V0 (Proc.devRef .tc main_v18)) (ix2_eta (a := 1024) (b := 512) y)).trans (v18_at h (y 0 : Fin 1024) (y 1 : Fin 512))

theorem end_v19 (h : RefOk V0 H A D) : after ops V0 (Proc.devRef .tc main_v19) = fun y : S1024x512.Idx => tn H D (y 0) (1536 + (y 1).val) := funext fun y =>
  (congrArg (after ops V0 (Proc.devRef .tc main_v19)) (ix2_eta (a := 1024) (b := 512) y)).trans (v19_at h (y 0 : Fin 1024) (y 1 : Fin 512))

theorem end_v20 (h : RefOk V0 H A D) : after ops V0 (Proc.devRef .tc main_v20) = fun y : S1024x512.Idx => tn H D (y 0) (2048 + (y 1).val) := funext fun y =>
  (congrArg (after ops V0 (Proc.devRef .tc main_v20)) (ix2_eta (a := 1024) (b := 512) y)).trans (v20_at h (y 0 : Fin 1024) (y 1 : Fin 512))

theorem end_v10 (h : RefOk V0 H A D) : after ops V0 (Proc.devRef .tc main_v10) = fun y : S1024x8.Idx => tn H D (y 0) (2560 + (y 1).val) := funext fun y =>
  (congrArg (after ops V0 (Proc.devRef .tc main_v10)) (ix2_eta (a := 1024) (b := 8) y)).trans (v10_at h (y 0 : Fin 1024) (y 1 : Fin 8))

theorem end_v21 (h : RefOk V0 H A D) : after ops V0 (Proc.devRef .tc main_v21) = fun y : S1024x512.Idx => tn H D (y 0) (2568 + (y 1).val) := funext fun y =>
  (congrArg (after ops V0 (Proc.devRef .tc main_v21)) (ix2_eta (a := 1024) (b := 512) y)).trans (v21_at h (y 0 : Fin 1024) (y 1 : Fin 512))

theorem end_v22 (h : RefOk V0 H A D) : after ops V0 (Proc.devRef .tc main_v22) = fun y : S1024x512.Idx => tn H D (y 0) (3080 + (y 1).val) := funext fun y =>
  (congrArg (after ops V0 (Proc.devRef .tc main_v22)) (ix2_eta (a := 1024) (b := 512) y)).trans (v22_at h (y 0 : Fin 1024) (y 1 : Fin 512))

theorem end_v23 (h : RefOk V0 H A D) : after ops V0 (Proc.devRef .tc main_v23) = fun y : S1024x512.Idx => tn H D (y 0) (3592 + (y 1).val) := funext fun y =>
  (congrArg (after ops V0 (Proc.devRef .tc main_v23)) (ix2_eta (a := 1024) (b := 512) y)).trans (v23_at h (y 0 : Fin 1024) (y 1 : Fin 512))

theorem end_v24 (h : RefOk V0 H A D) : after ops V0 (Proc.devRef .tc main_v24) = fun y : S1024x1024.Idx => tn H D (y 0) (4104 + (0 * 1024 + (y 1).val)) := funext fun y =>
  (congrArg (after ops V0 (Proc.devRef .tc main_v24)) (ix2_eta (a := 1024) (b := 1024) y)).trans (v24_at h (y 0 : Fin 1024) (y 1 : Fin 1024))

theorem end_v25 (h : RefOk V0 H A D) : after ops V0 (Proc.devRef .tc main_v25) = fun y : S1024x1024.Idx => tn H D (y 0) (4104 + (1 * 1024 + (y 1).val)) := funext fun y =>
  (congrArg (after ops V0 (Proc.devRef .tc main_v25)) (ix2_eta (a := 1024) (b := 1024) y)).trans (v25_at h (y 0 : Fin 1024) (y 1 : Fin 1024))

theorem end_v26 (h : RefOk V0 H A D) : after ops V0 (Proc.devRef .tc main_v26) = fun y : S1024x1024.Idx => tn H D (y 0) (4104 + (2 * 1024 + (y 1).val)) := funext fun y =>
  (congrArg (after ops V0 (Proc.devRef .tc main_v26)) (ix2_eta (a := 1024) (b := 1024) y)).trans (v26_at h (y 0 : Fin 1024) (y 1 : Fin 1024))

/-- The reference's run: its arguments stay, and its results are the columns of the product and of the weight's gradient. -/
theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      (∀ H A D : ℕ → ℕ → EReal, RefOk (launchContents m c) H A D →
        (r.2.mem ((c.tc : Thread nD τ).loc main_v13) = fun y : S4096x2560.Idx => nn H A (y 0) (y 1))
        ∧ (r.2.mem ((c.tc : Thread nD τ).loc main_v5) = fun y : S4096x8.Idx => nn H A (y 0) (2560 + (y 1).val))
        ∧ (r.2.mem ((c.tc : Thread nD τ).loc main_v14) = fun y : S4096x1536.Idx => nn H A (y 0) (2568 + (y 1).val))
        ∧ (r.2.mem ((c.tc : Thread nD τ).loc main_v15) = fun y : S4096x3072.Idx => nn H A (y 0) (4104 + (y 1).val))
        ∧ (r.2.mem ((c.tc : Thread nD τ).loc main_v16) = fun y : S1024x512.Idx => tn H D (y 0) (y 1))
        ∧ (r.2.mem ((c.tc : Thread nD τ).loc main_v17) = fun y : S1024x512.Idx => tn H D (y 0) (512 + (y 1).val))
        ∧ (r.2.mem ((c.tc : Thread nD τ).loc main_v18) = fun y : S1024x512.Idx => tn H D (y 0) (1024 + (y 1).val))
        ∧ (r.2.mem ((c.tc : Thread nD τ).loc main_v19) = fun y : S1024x512.Idx => tn H D (y 0) (1536 + (y 1).val))
        ∧ (r.2.mem ((c.tc : Thread nD τ).loc main_v20) = fun y : S1024x512.Idx => tn H D (y 0) (2048 + (y 1).val))
        ∧ (r.2.mem ((c.tc : Thread nD τ).loc main_v10) = fun y : S1024x8.Idx => tn H D (y 0) (2560 + (y 1).val))
        ∧ (r.2.mem ((c.tc : Thread nD τ).loc main_v21) = fun y : S1024x512.Idx => tn H D (y 0) (2568 + (y 1).val))
        ∧ (r.2.mem ((c.tc : Thread nD τ).loc main_v22) = fun y : S1024x512.Idx => tn H D (y 0) (3080 + (y 1).val))
        ∧ (r.2.mem ((c.tc : Thread nD τ).loc main_v23) = fun y : S1024x512.Idx => tn H D (y 0) (3592 + (y 1).val))
        ∧ (r.2.mem ((c.tc : Thread nD τ).loc main_v24) = fun y : S1024x1024.Idx => tn H D (y 0) (4104 + (0 * 1024 + (y 1).val)))
        ∧ (r.2.mem ((c.tc : Thread nD τ).loc main_v25) = fun y : S1024x1024.Idx => tn H D (y 0) (4104 + (1 * 1024 + (y 1).val)))
        ∧ (r.2.mem ((c.tc : Thread nD τ).loc main_v26) = fun y : S1024x1024.Idx => tn H D (y 0) (4104 + (2 * 1024 + (y 1).val))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨fun _ _ _ hW => ⟨(h c main_v13).trans (end_v13 hW),
      (h c main_v5).trans (end_v5 hW),
      (h c main_v14).trans (end_v14 hW),
      (h c main_v15).trans (end_v15 hW),
      (h c main_v16).trans (end_v16 hW),
      (h c main_v17).trans (end_v17 hW),
      (h c main_v18).trans (end_v18 hW),
      (h c main_v19).trans (end_v19 hW),
      (h c main_v20).trans (end_v20 hW),
      (h c main_v10).trans (end_v10 hW),
      (h c main_v21).trans (end_v21 hW),
      (h c main_v22).trans (end_v22 hW),
      (h c main_v23).trans (end_v23 hW),
      (h c main_v24).trans (end_v24 hW),
      (h c main_v25).trans (end_v25 hW),
      (h c main_v26).trans (end_v26 hW)⟩,
      (h c main_arg0).trans (by after_reads_simp),
      (h c main_arg1).trans (by after_reads_simp),
      (h c main_arg2).trans (by after_reads_simp)⟩)
    (run_seq scopedRefs_eq scopedSems_eq defs main (fun _ => ops) main_eq (fun _ => ops_sub) m ρ)

end Cert.Proof.Proj.Ref

end
-- ==== Proof.DhSame.lean ====
/-
  The two printings of the normed input's gradient are one program: the frame of the kernel at words from the frame over any scalars.
-/
module

public import proofs.«01_k».proof.Defs
public import proofs.«01_k».proof.Proof.Gen.Kernel5Ideal.Frame
public import proofs.«01_k».proof.Proof.Gen.Kernel5

@[expose] public section

set_option maxRecDepth 16384
set_option maxHeartbeats 8000000

noncomputable section

namespace Cert.Proof.Dh

open Idealize.ShloMosaic Idealize.ShloMosaic.TcCoe Idealize.SL.Sem

variable {F : FTy → Type} [FloatOps F]

theorem defs₀_eq : Cert.Kernel5.defs₀ (F := F) = Cert.Kernel5Ideal.defs₀ (F := F) := by
  unfold Cert.Kernel5.defs₀ Cert.Kernel5Ideal.defs₀
  refine congrArg Defs.onTc (funext fun l => funext fun a => ?_)
  obtain ⟨n, hn⟩ := l
  match n, hn with
  | 0, _ => rfl
  | n + 1, h => exact absurd h (Nat.not_lt.2 (Nat.le_add_left _ _))

theorem defs_eq : Cert.Kernel5.defs (F := F) = Cert.Kernel5Ideal.defs (F := F) :=
  congrArg (Pipeline.defs Cert.Kernel5Ideal.pcfgs) defs₀_eq

theorem main_eq (c : Dev Cert.Kernel5.nD) : Cert.Kernel5.main (F := F) c = Cert.Kernel5Ideal.main (F := F) c := by
  unfold Cert.Kernel5.main Cert.Kernel5Ideal.main
  rfl

theorem onTc_main_eq : (onTc (τ := Cert.Kernel5.τ) (Cert.Kernel5.main (F := F))) = onTc (τ := Cert.Kernel5Ideal.τ) (Cert.Kernel5Ideal.main (F := F)) :=
  congrArg (onTc (τ := Cert.Kernel5Ideal.τ)) (funext main_eq)

/-- The frame of the kernel at words, from the run of its ideal printing over any scalars. -/
theorem kernel_frame : Cert.quiescent_Kernel5 := fun m g _ => by
  rw [onTc_main_eq, defs_eq]
  exact Cert.Kernel5Ideal.Gen.frame (F := Bits) m g

theorem ideal_frame : Cert.quiescent_Kernel5Ideal := fun m g _ => Cert.Kernel5Ideal.Gen.frame (F := Ideal) m g

end Cert.Proof.Dh

end
-- ==== Proof.DhHost.lean ====
/-
  The arrays that the host cuts out of the weight and out of the product's gradient for the gradient of the normed input.
-/
module

public import proofs.«01_k».proof.Proof.ProjHost
public import proofs.«01_k».proof.Proof.Gen.Kernel5Ideal.Frame
public import Idealize.ShloMosaic.Lib.StableHlo.ReadAt

@[expose] public section

set_option maxRecDepth 16384

noncomputable section

namespace Cert.Proof.Dh

open Cert.Kernel5Ideal Cert.Kernel5Ideal.Gen
open Cert.Proof.Proj (cut heads planes ix2_eta ix3_eta sitofp_zero)
open Idealize.ShloMosaic Idealize.ShloMosaic.TcCoe Idealize.ShloMosaic.Tactic
open Idealize.ShloMosaic.Pipeline (Dat Cfg Window)

/-- A device's arguments hold the weight and the product's gradient. -/
structure ArgsAt (m : (ℓ : Loc nD τ sig) → Buf (Elt Ideal) ℓ) (c : Dev nD) (A D : ℕ → ℕ → EReal) : Prop where
  a : m (c, Proc.devRef .tc main_arg0) = fun y : S1024x7176.Idx => A (y 0) (y 1)
  d : m (c, Proc.devRef .tc main_arg1) = fun y : S4096x7176.Idx => D (y 0) (y 1)

variable {m : (ℓ : Loc nD τ sig) → Buf (Elt Ideal) ℓ} {c : Dev nD} {A D : ℕ → ℕ → EReal}

theorem v1_at (h : ArgsAt m c A D) (r : Fin 1024) (n : Fin 2560) : @Eq EReal (V m c main_v1 (ix2 r n)) (A r n) := by
  after_reads_at
  rw [h.a]
  rfl

theorem v2_at (h : ArgsAt m c A D) (r : Fin 1024) (n : Fin 1536) : @Eq EReal (V m c main_v2 (ix2 r n)) (cut A 2568 r n) := by
  after_reads_at
  rw [h.a]
  rfl

theorem v3_at (h : ArgsAt m c A D) (r : Fin 1024) (n : Fin 3072) : @Eq EReal (V m c main_v3 (ix2 r n)) (cut A 4104 r n) := by
  after_reads_at
  rw [h.a]
  rfl

theorem v5_at (h : ArgsAt m c A D) (r : Fin 1024) (n : Fin 128) : @Eq EReal (V m c main_v5 (ix2 r n)) (heads A r n) := by
  after_reads_at
  rw [h.a]
  unfold heads
  by_cases hn : n.val < 8
  · exact (dif_pos hn).trans (if_pos hn).symm
  · exact (dif_neg hn).trans (sitofp_zero.trans (if_neg hn).symm)

theorem v23_at (h : ArgsAt m c A D) (r : Fin 4096) (n : Fin 128) : @Eq EReal (V m c main_v23 (ix2 r n)) (heads D r n) := by
  after_reads_at
  rw [h.d]
  unfold heads
  by_cases hn : n.val < 8
  · exact (dif_pos hn).trans (if_pos hn).symm
  · exact (dif_neg hn).trans (sitofp_zero.trans (if_neg hn).symm)

theorem v7_at (h : ArgsAt m c A D) (r : Fin 4096) (n : Fin 512) : @Eq EReal (V m c main_v7 (ix2 r n)) (D r n) := by
  after_reads_at
  rw [h.d]
  rfl

theorem v9_at (h : ArgsAt m c A D) (r : Fin 4096) (n : Fin 512) : @Eq EReal (V m c main_v9 (ix2 r n)) (cut D 512 r n) := by
  after_reads_at
  rw [h.d]
  rfl

theorem v11_at (h : ArgsAt m c A D) (r : Fin 4096) (n : Fin 512) : @Eq EReal (V m c main_v11 (ix2 r n)) (cut D 1024 r n) := by
  after_reads_at
  rw [h.d]
  rfl

theorem v13_at (h : ArgsAt m c A D) (r : Fin 4096) (n : Fin 512) : @Eq EReal (V m c main_v13 (ix2 r n)) (cut D 1536 r n) := by
  after_reads_at
  rw [h.d]
  rfl

theorem v15_at (h : ArgsAt m c A D) (r : Fin 4096) (n : Fin 512) : @Eq EReal (V m c main_v15 (ix2 r n)) (cut D 2048 r n) := by
  after_reads_at
  rw [h.d]
  rfl

theorem v17_at (h : ArgsAt m c A D) (r : Fin 4096) (n : Fin 512) : @Eq EReal (V m c main_v17 (ix2 r n)) (cut D 2568 r n) := by
  after_reads_at
  rw [h.d]
  rfl

theorem v19_at (h : ArgsAt m c A D) (r : Fin 4096) (n : Fin 512) : @Eq EReal (V m c main_v19 (ix2 r n)) (cut D 3080 r n) := by
  after_reads_at
  rw [h.d]
  rfl

theorem v21_at (h : ArgsAt m c A D) (r : Fin 4096) (n : Fin 512) : @Eq EReal (V m c main_v21 (ix2 r n)) (cut D 3592 r n) := by
  after_reads_at
  rw [h.d]
  rfl

theorem v27_at (h : ArgsAt m c A D) (k : Fin 3) (r : Fin 4096) (n : Fin 1024) :
    @Eq EReal (V m c main_v27 (ix3 k r n)) (planes D k r n) := by
  after_reads_at
  rw [h.d]
  rfl

end Cert.Proof.Dh

end
-- ==== Proof.DhPay.lean ====
/-
  The twelve products that the call for the normed input's gradient adds up, at a point.
-/
module

public import proofs.«01_k».proof.Proof.ProjPay
public import proofs.«01_k».proof.Proof.Gen.Kernel5Ideal.Frame
public import Idealize.ShloMosaic.Lib.Pointwise

@[expose] public section

set_option maxRecDepth 16384

noncomputable section

namespace Cert.Proof.Dh

open Cert.Kernel5Ideal Cert.Kernel5Ideal.Gen
open Cert.Proof.Proj (off2 off3)
open Idealize.ShloMosaic Idealize.ShloMosaic.TcCoe Idealize.ShloMosaic.Tactic

/-- A product of a block's row with a row of the weight. -/
def dot {n : ℕ} (x w : (⟨2, ![512, n]⟩ : Shape).Idx → EReal) (r d : Fin 512) : EReal := ∑ e : Fin n, x (ix2 r e) * w (ix2 d e)

/-- The same, of a block of a plane. -/
def dotp {n : ℕ} (x : (⟨3, ![1, 512, n]⟩ : Shape).Idx → EReal) (w : (⟨2, ![512, n]⟩ : Shape).Idx → EReal) (r d : Fin 512) : EReal :=
  ∑ e : Fin n, x (ix3 0 r e) * w (ix2 d e)

theorem pay2_at (x0 x1 x2 x3 x4 x5 x6 x7 x8 x9 : Vec Ideal S512x512 .bf16) (r d : Fin 512) :
    @Eq EReal (k0_pay2 x0 x1 x2 x3 x4 x5 x6 x7 x8 x9 (ix2 r d)) (dot x0 x1 r d + dot x2 x3 r d + dot x4 x5 r d + dot x6 x7 r d + dot x8 x9 r d) := by
  pointwise [k0_pay2]
  rfl

theorem pay4_at (s : FVec Ideal S512x512 .f32) (x : Vec Ideal S512x128 .f32) (w : Vec Ideal S512x128 .bf16) (x0 x1 x2 x3 x4 x5 : Vec Ideal S512x512 .bf16)
    (x6 : Vec Ideal S1x512x1024 .bf16) (x7 : Vec Ideal S512x1024 .bf16) (r d : Fin 512) :
    @Eq EReal (k0_pay4 s (k0_pay3 x) w x0 x1 x2 x3 x4 x5 x6 x7 (ix2 r d))
      (s (ix2 r d) + dot x w r d + dot x0 x1 r d + dot x2 x3 r d + dot x4 x5 r d + dotp x6 x7 r d) := by
  pointwise [k0_pay4, k0_pay3]
  rfl

theorem pay1_at (s : FVec Ideal S512x512 .f32) (x0 : Vec Ideal S1x512x1024 .bf16) (x1 : Vec Ideal S512x1024 .bf16)
    (x2 : Vec Ideal S1x512x1024 .bf16) (x3 : Vec Ideal S512x1024 .bf16) (r d : Fin 512) :
    @Eq EReal (k0_pay1 s (k0_pay5 x0) x1 x2 x3 (ix2 r d)) (s (ix2 r d) + dotp x0 x1 r d + dotp x2 x3 r d) := by
  pointwise [k0_pay1, k0_pay5]
  rfl

theorem ld0 {η : EltTy} (x : Vec Ideal S512x512 η) : View.ld x r0_0 = x := View.ld_unit_zero off2 _ x
theorem ld1 {η : EltTy} (x : Vec Ideal S512x128 η) : View.ld x r0_1 = x := View.ld_unit_zero off2 _ x
theorem ld2 {η : EltTy} (x : Vec Ideal S1x512x1024 η) : View.ld x r0_2 = x := View.ld_unit_zero off3 _ x
theorem ld3 {η : EltTy} (x : Vec Ideal S512x1024 η) : View.ld x r0_3 = x := View.ld_unit_zero off2 _ x

/-- What a grid point's body leaves in the result's block. -/
theorem out_at (x0 x1 x2 x3 x4 x5 x6 x7 x8 x9 : Vec Ideal S512x512 .bf16) (x10 : Vec Ideal S512x128 .f32) (x11 : Vec Ideal S512x128 .bf16)
    (x12 x13 x14 x15 x16 x17 : Vec Ideal S512x512 .bf16) (x18 : Vec Ideal S1x512x1024 .bf16) (x19 : Vec Ideal S512x1024 .bf16)
    (x20 : Vec Ideal S1x512x1024 .bf16) (x21 : Vec Ideal S512x1024 .bf16) (x22 : Vec Ideal S1x512x1024 .bf16) (x23 : Vec Ideal S512x1024 .bf16) (r d : Fin 512) :
    @Eq EReal (out0_24 x0 x1 x2 x3 x4 x5 x6 x7 x8 x9 x10 x11 x12 x13 x14 x15 x16 x17 x18 x19 x20 x21 x22 x23 (ix2 r d))
      (dot x0 x1 r d + dot x2 x3 r d + dot x4 x5 r d + dot x6 x7 r d + dot x8 x9 r d + dot x10 x11 r d + dot x12 x13 r d + dot x14 x15 r d + dot x16 x17 r d
        + dotp x18 x19 r d + dotp x20 x21 r d + dotp x22 x23 r d) := by
  unfold out0_24
  rw [View.canon_unit_zero off2]
  simp only [ld0, ld1, ld2, ld3]
  rw [pay1_at, pay4_at, pay2_at]

end Cert.Proof.Dh

end
-- ==== Proof.DhValue.lean ====
/-
  What the call for the normed input's gradient leaves in its result: the twelve products are one sum over all columns.
-/
module

public import proofs.«01_k».proof.Proof.DhHost
public import proofs.«01_k».proof.Proof.DhPay
public import proofs.«01_k».proof.Proof.Gen.Kernel5Ideal.Value
public import Idealize.ShloMosaic.Lib.Pipeline.ValueKit

@[expose] public section

set_option maxRecDepth 16384

noncomputable section

namespace Cert.Proof.Dh

open Cert.Kernel5Ideal Cert.Kernel5Ideal.Gen
open Cert.Proof.Proj (cut heads planes ix2_eta ix3_eta)
open Idealize.ShloMosaic Idealize.ShloMosaic.TcCoe Idealize.ShloMosaic.Tactic Idealize.SL.Sem
open Idealize.ShloMosaic.Pipeline (Dat Cfg Window)

/-- The columns `k` to `k + n` of the product of the gradient with the weight's transpose. -/
def part (A D : ℕ → ℕ → EReal) (t d k n : ℕ) : EReal := ∑ e : Fin n, D t (k + e) * A d (k + e)

/-- The normed input's gradient. -/
def dh (A D : ℕ → ℕ → EReal) (t d : ℕ) : EReal := ∑ n : Fin 7176, D t n * A d n

section Sums

variable (A D : ℕ → ℕ → EReal) (t d : ℕ)

theorem part_add (k a b : ℕ) : part A D t d k (a + b) = part A D t d k a + part A D t d (k + a) b := by
  unfold part
  rw [Fin.sum_univ_add]
  simp only [Fin.val_castAdd, Fin.val_natAdd, Nat.add_assoc]

theorem dh_eq : dh A D t d = part A D t d 0 7176 :=
  Finset.sum_congr rfl fun e _ => by rw [Nat.zero_add]

/-- All columns are those of the twelve products. -/
theorem dh_parts : dh A D t d = part A D t d 0 512 + part A D t d 512 512 + part A D t d 1024 512 + part A D t d 1536 512 + part A D t d 2048 512
    + part A D t d 2560 8 + part A D t d 2568 512 + part A D t d 3080 512 + part A D t d 3592 512
    + part A D t d 4104 1024 + part A D t d 5128 1024 + part A D t d 6152 1024 := by
  have s (k a b : ℕ) := part_add A D t d k a b
  rw [dh_eq, s 0 6152 1024, s 0 5128 1024, s 0 4104 1024, s 0 3592 512, s 0 3080 512, s 0 2568 512, s 0 2560 8, s 0 2048 512, s 0 1536 512,
    s 0 1024 512, s 0 512 512]

/-- The padding columns of the heads' scalars add nothing. -/
theorem heads_part : ∑ e : Fin 128, heads D t e * heads A d e = part A D t d 2560 8 := by
  rw [show (∑ e : Fin 128, heads D t e * heads A d e) = ∑ e : Fin (8 + 120), heads D t e * heads A d e from rfl, Fin.sum_univ_add]
  refine (congrArg₂ (· + ·) (Finset.sum_congr rfl fun e _ => ?_) (Finset.sum_eq_zero fun e _ => ?_)).trans (add_zero _)
  · rw [Fin.val_castAdd, heads, heads, if_pos e.isLt, if_pos e.isLt]
  · rw [Fin.val_natAdd, heads, if_neg (by omega), zero_mul]

end Sums

variable {m : (ℓ : Loc nD τ sig) → Buf (Elt Ideal) ℓ} {c : Dev nD} {A D : ℕ → ℕ → EReal}

/-- A grid point's tokens, -/
def row (t : Fin cfg0.N) (r : Fin 512) : Fin 4096 :=
  ⟨((grid0.coords t) 0).val * 512 + r.val, by have : ((grid0.coords t) 0).val < 8 := ((grid0.coords t) 0).isLt; omega⟩

/-- and its channels. -/
def col (t : Fin cfg0.N) (d : Fin 512) : Fin 1024 :=
  ⟨((grid0.coords t) 1).val * 512 + d.val, by have : ((grid0.coords t) 1).val < 2 := ((grid0.coords t) 1).isLt; omega⟩

theorem idx0 : ∀ t : Fin cfg0.N, win0_0.index t = ![((grid0.coords t) 0).val, 0] := by decide +kernel

theorem blk0 (t : Fin cfg0.N) (r e : Fin 512) : iblk m c 0 t (ix2 r e) = V m c main_v7 (ix2 (row t r) e) := by
  have e := idx0 t
  blk_ext [iblk, e, row, col]

theorem idx1 : ∀ t : Fin cfg0.N, win0_1.index t = ![((grid0.coords t) 1).val, 0] := by decide +kernel

theorem blk1 (t : Fin cfg0.N) (d e : Fin 512) : iblk m c 1 t (ix2 d e) = V m c main_v1 (ix2 (col t d) (⟨0 * 512 + e.val, by omega⟩ : Fin 2560)) := by
  have e := idx1 t
  blk_ext [iblk, e, row, col]

theorem pair0 (h : ArgsAt m c A D) (t : Fin cfg0.N) (r d : Fin 512) :
    dot (iblk m c 0 t) (iblk m c 1 t) r d = part A D (row t r) (col t d) 0 512 :=
  Finset.sum_congr rfl fun e _ => congrArg₂ (fun x y : EReal => x * y)
    ((congrArg id (blk0 t r e)).trans ((v7_at h _ _).trans (congrArg (D _) (by omega))))
    ((congrArg id (blk1 t d e)).trans ((v1_at h _ _).trans (congrArg (A _) (by dsimp only))))

theorem idx2 : ∀ t : Fin cfg0.N, win0_2.index t = ![((grid0.coords t) 0).val, 0] := by decide +kernel

theorem blk2 (t : Fin cfg0.N) (r e : Fin 512) : iblk m c 2 t (ix2 r e) = V m c main_v9 (ix2 (row t r) e) := by
  have e := idx2 t
  blk_ext [iblk, e, row, col]

theorem idx3 : ∀ t : Fin cfg0.N, win0_3.index t = ![((grid0.coords t) 1).val, 1] := by decide +kernel

theorem blk3 (t : Fin cfg0.N) (d e : Fin 512) : iblk m c 3 t (ix2 d e) = V m c main_v1 (ix2 (col t d) (⟨1 * 512 + e.val, by omega⟩ : Fin 2560)) := by
  have e := idx3 t
  blk_ext [iblk, e, row, col]

theorem pair2 (h : ArgsAt m c A D) (t : Fin cfg0.N) (r d : Fin 512) :
    dot (iblk m c 2 t) (iblk m c 3 t) r d = part A D (row t r) (col t d) 512 512 :=
  Finset.sum_congr rfl fun e _ => congrArg₂ (fun x y : EReal => x * y)
    ((congrArg id (blk2 t r e)).trans ((v9_at h _ _).trans (congrArg (D _) (by omega))))
    ((congrArg id (blk3 t d e)).trans ((v1_at h _ _).trans (congrArg (A _) (by dsimp only))))

theorem idx4 : ∀ t : Fin cfg0.N, win0_4.index t = ![((grid0.coords t) 0).val, 0] := by decide +kernel

theorem blk4 (t : Fin cfg0.N) (r e : Fin 512) : iblk m c 4 t (ix2 r e) = V m c main_v11 (ix2 (row t r) e) := by
  have e := idx4 t
  blk_ext [iblk, e, row, col]

theorem idx5 : ∀ t : Fin cfg0.N, win0_5.index t = ![((grid0.coords t) 1).val, 2] := by decide +kernel

theorem blk5 (t : Fin cfg0.N) (d e : Fin 512) : iblk m c 5 t (ix2 d e) = V m c main_v1 (ix2 (col t d) (⟨2 * 512 + e.val, by omega⟩ : Fin 2560)) := by
  have e := idx5 t
  blk_ext [iblk, e, row, col]

theorem pair4 (h : ArgsAt m c A D) (t : Fin cfg0.N) (r d : Fin 512) :
    dot (iblk m c 4 t) (iblk m c 5 t) r d = part A D (row t r) (col t d) 1024 512 :=
  Finset.sum_congr rfl fun e _ => congrArg₂ (fun x y : EReal => x * y)
    ((congrArg id (blk4 t r e)).trans ((v11_at h _ _).trans (congrArg (D _) (by omega))))
    ((congrArg id (blk5 t d e)).trans ((v1_at h _ _).trans (congrArg (A _) (by dsimp only))))

theorem idx6 : ∀ t : Fin cfg0.N, win0_6.index t = ![((grid0.coords t) 0).val, 0] := by decide +kernel

theorem blk6 (t : Fin cfg0.N) (r e : Fin 512) : iblk m c 6 t (ix2 r e) = V m c main_v13 (ix2 (row t r) e) := by
  have e := idx6 t
  blk_ext [iblk, e, row, col]

theorem idx7 : ∀ t : Fin cfg0.N, win0_7.index t = ![((grid0.coords t) 1).val, 3] := by decide +kernel

theorem blk7 (t : Fin cfg0.N) (d e : Fin 512) : iblk m c 7 t (ix2 d e) = V m c main_v1 (ix2 (col t d) (⟨3 * 512 + e.val, by omega⟩ : Fin 2560)) := by
  have e := idx7 t
  blk_ext [iblk, e, row, col]

theorem pair6 (h : ArgsAt m c A D) (t : Fin cfg0.N) (r d : Fin 512) :
    dot (iblk m c 6 t) (iblk m c 7 t) r d = part A D (row t r) (col t d) 1536 512 :=
  Finset.sum_congr rfl fun e _ => congrArg₂ (fun x y : EReal => x * y)
    ((congrArg id (blk6 t r e)).trans ((v13_at h _ _).trans (congrArg (D _) (by omega))))
    ((congrArg id (blk7 t d e)).trans ((v1_at h _ _).trans (congrArg (A _) (by dsimp only))))

theorem idx8 : ∀ t : Fin cfg0.N, win0_8.index t = ![((grid0.coords t) 0).val, 0] := by decide +kernel

theorem blk8 (t : Fin cfg0.N) (r e : Fin 512) : iblk m c 8 t (ix2 r e) = V m c main_v15 (ix2 (row t r) e) := by
  have e := idx8 t
  blk_ext [iblk, e, row, col]

theorem idx9 : ∀ t : Fin cfg0.N, win0_9.index t = ![((grid0.coords t) 1).val, 4] := by decide +kernel

theorem blk9 (t : Fin cfg0.N) (d e : Fin 512) : iblk m c 9 t (ix2 d e) = V m c main_v1 (ix2 (col t d) (⟨4 * 512 + e.val, by omega⟩ : Fin 2560)) := by
  have e := idx9 t
  blk_ext [iblk, e, row, col]

theorem pair8 (h : ArgsAt m c A D) (t : Fin cfg0.N) (r d : Fin 512) :
    dot (iblk m c 8 t) (iblk m c 9 t) r d = part A D (row t r) (col t d) 2048 512 :=
  Finset.sum_congr rfl fun e _ => congrArg₂ (fun x y : EReal => x * y)
    ((congrArg id (blk8 t r e)).trans ((v15_at h _ _).trans (congrArg (D _) (by omega))))
    ((congrArg id (blk9 t d e)).trans ((v1_at h _ _).trans (congrArg (A _) (by dsimp only))))

theorem idx12 : ∀ t : Fin cfg0.N, win0_12.index t = ![((grid0.coords t) 0).val, 0] := by decide +kernel

theorem blk12 (t : Fin cfg0.N) (r e : Fin 512) : iblk m c 12 t (ix2 r e) = V m c main_v17 (ix2 (row t r) e) := by
  have e := idx12 t
  blk_ext [iblk, e, row, col]

theorem idx13 : ∀ t : Fin cfg0.N, win0_13.index t = ![((grid0.coords t) 1).val, 0] := by decide +kernel

theorem blk13 (t : Fin cfg0.N) (d e : Fin 512) : iblk m c 13 t (ix2 d e) = V m c main_v2 (ix2 (col t d) (⟨0 * 512 + e.val, by omega⟩ : Fin 1536)) := by
  have e := idx13 t
  blk_ext [iblk, e, row, col]

theorem pair12 (h : ArgsAt m c A D) (t : Fin cfg0.N) (r d : Fin 512) :
    dot (iblk m c 12 t) (iblk m c 13 t) r d = part A D (row t r) (col t d) 2568 512 :=
  Finset.sum_congr rfl fun e _ => congrArg₂ (fun x y : EReal => x * y)
    ((congrArg id (blk12 t r e)).trans ((v17_at h _ _).trans (congrArg (D _) (by omega))))
    ((congrArg id (blk13 t d e)).trans ((v2_at h _ _).trans (congrArg (A _) (by dsimp only; omega))))

theorem idx14 : ∀ t : Fin cfg0.N, win0_14.index t = ![((grid0.coords t) 0).val, 0] := by decide +kernel

theorem blk14 (t : Fin cfg0.N) (r e : Fin 512) : iblk m c 14 t (ix2 r e) = V m c main_v19 (ix2 (row t r) e) := by
  have e := idx14 t
  blk_ext [iblk, e, row, col]

theorem idx15 : ∀ t : Fin cfg0.N, win0_15.index t = ![((grid0.coords t) 1).val, 1] := by decide +kernel

theorem blk15 (t : Fin cfg0.N) (d e : Fin 512) : iblk m c 15 t (ix2 d e) = V m c main_v2 (ix2 (col t d) (⟨1 * 512 + e.val, by omega⟩ : Fin 1536)) := by
  have e := idx15 t
  blk_ext [iblk, e, row, col]

theorem pair14 (h : ArgsAt m c A D) (t : Fin cfg0.N) (r d : Fin 512) :
    dot (iblk m c 14 t) (iblk m c 15 t) r d = part A D (row t r) (col t d) 3080 512 :=
  Finset.sum_congr rfl fun e _ => congrArg₂ (fun x y : EReal => x * y)
    ((congrArg id (blk14 t r e)).trans ((v19_at h _ _).trans (congrArg (D _) (by omega))))
    ((congrArg id (blk15 t d e)).trans ((v2_at h _ _).trans (congrArg (A _) (by dsimp only; omega))))

theorem idx16 : ∀ t : Fin cfg0.N, win0_16.index t = ![((grid0.coords t) 0).val, 0] := by decide +kernel

theorem blk16 (t : Fin cfg0.N) (r e : Fin 512) : iblk m c 16 t (ix2 r e) = V m c main_v21 (ix2 (row t r) e) := by
  have e := idx16 t
  blk_ext [iblk, e, row, col]

theorem idx17 : ∀ t : Fin cfg0.N, win0_17.index t = ![((grid0.coords t) 1).val, 2] := by decide +kernel

theorem blk17 (t : Fin cfg0.N) (d e : Fin 512) : iblk m c 17 t (ix2 d e) = V m c main_v2 (ix2 (col t d) (⟨2 * 512 + e.val, by omega⟩ : Fin 1536)) := by
  have e := idx17 t
  blk_ext [iblk, e, row, col]

theorem pair16 (h : ArgsAt m c A D) (t : Fin cfg0.N) (r d : Fin 512) :
    dot (iblk m c 16 t) (iblk m c 17 t) r d = part A D (row t r) (col t d) 3592 512 :=
  Finset.sum_congr rfl fun e _ => congrArg₂ (fun x y : EReal => x * y)
    ((congrArg id (blk16 t r e)).trans ((v21_at h _ _).trans (congrArg (D _) (by omega))))
    ((congrArg id (blk17 t d e)).trans ((v2_at h _ _).trans (congrArg (A _) (by dsimp only; omega))))

theorem idx10 : ∀ t : Fin cfg0.N, win0_10.index t = ![((grid0.coords t) 0).val, 0] := by decide +kernel

theorem blk10 (t : Fin cfg0.N) (r : Fin 512) (e : Fin 128) : iblk m c 10 t (ix2 r e) = V m c main_v23 (ix2 (row t r) e) := by
  have e := idx10 t
  blk_ext [iblk, e, row, col]

theorem idx11 : ∀ t : Fin cfg0.N, win0_11.index t = ![((grid0.coords t) 1).val, 0] := by decide +kernel

theorem blk11 (t : Fin cfg0.N) (d : Fin 512) (e : Fin 128) : iblk m c 11 t (ix2 d e) = V m c main_v5 (ix2 (col t d) e) := by
  have e := idx11 t
  blk_ext [iblk, e, row, col]

theorem pair10 (h : ArgsAt m c A D) (t : Fin cfg0.N) (r d : Fin 512) :
    dot (iblk m c 10 t) (iblk m c 11 t) r d = part A D (row t r) (col t d) 2560 8 :=
  (Finset.sum_congr rfl fun e _ => congrArg₂ (fun x y : EReal => x * y) ((congrArg id (blk10 t r e)).trans (v23_at h _ _))
    ((congrArg id (blk11 t d e)).trans (v5_at h _ _))).trans (heads_part A D _ _)

theorem idx18 : ∀ t : Fin cfg0.N, win0_18.index t = ![0, ((grid0.coords t) 0).val, 0] := by decide +kernel

theorem blk18 (t : Fin cfg0.N) (r : Fin 512) (e : Fin 1024) : iblk m c 18 t (ix3 0 r e) = V m c main_v27 (ix3 0 (row t r) e) := by
  have e := idx18 t
  blk_ext [iblk, e, row, col]

theorem idx19 : ∀ t : Fin cfg0.N, win0_19.index t = ![((grid0.coords t) 1).val, 0] := by decide +kernel

theorem blk19 (t : Fin cfg0.N) (d : Fin 512) (e : Fin 1024) : iblk m c 19 t (ix2 d e) = V m c main_v3 (ix2 (col t d) (⟨0 * 1024 + e.val, by omega⟩ : Fin 3072)) := by
  have e := idx19 t
  blk_ext [iblk, e, row, col]

theorem pair18 (h : ArgsAt m c A D) (t : Fin cfg0.N) (r d : Fin 512) :
    dotp (iblk m c 18 t) (iblk m c 19 t) r d = part A D (row t r) (col t d) 4104 1024 :=
  Finset.sum_congr rfl fun e _ => congrArg₂ (fun x y : EReal => x * y)
    ((congrArg id (blk18 t r e)).trans ((v27_at h _ _ _).trans (congrArg (D _) (by omega))))
    ((congrArg id (blk19 t d e)).trans ((v3_at h _ _).trans (congrArg (A _) (by dsimp only; omega))))

theorem idx20 : ∀ t : Fin cfg0.N, win0_20.index t = ![1, ((grid0.coords t) 0).val, 0] := by decide +kernel

theorem blk20 (t : Fin cfg0.N) (r : Fin 512) (e : Fin 1024) : iblk m c 20 t (ix3 0 r e) = V m c main_v27 (ix3 1 (row t r) e) := by
  have e := idx20 t
  blk_ext [iblk, e, row, col]

theorem idx21 : ∀ t : Fin cfg0.N, win0_21.index t = ![((grid0.coords t) 1).val, 1] := by decide +kernel

theorem blk21 (t : Fin cfg0.N) (d : Fin 512) (e : Fin 1024) : iblk m c 21 t (ix2 d e) = V m c main_v3 (ix2 (col t d) (⟨1 * 1024 + e.val, by omega⟩ : Fin 3072)) := by
  have e := idx21 t
  blk_ext [iblk, e, row, col]

theorem pair20 (h : ArgsAt m c A D) (t : Fin cfg0.N) (r d : Fin 512) :
    dotp (iblk m c 20 t) (iblk m c 21 t) r d = part A D (row t r) (col t d) 5128 1024 :=
  Finset.sum_congr rfl fun e _ => congrArg₂ (fun x y : EReal => x * y)
    ((congrArg id (blk20 t r e)).trans ((v27_at h _ _ _).trans (congrArg (D _) (by omega))))
    ((congrArg id (blk21 t d e)).trans ((v3_at h _ _).trans (congrArg (A _) (by dsimp only; omega))))

theorem idx22 : ∀ t : Fin cfg0.N, win0_22.index t = ![2, ((grid0.coords t) 0).val, 0] := by decide +kernel

theorem blk22 (t : Fin cfg0.N) (r : Fin 512) (e : Fin 1024) : iblk m c 22 t (ix3 0 r e) = V m c main_v27 (ix3 2 (row t r) e) := by
  have e := idx22 t
  blk_ext [iblk, e, row, col]

theorem idx23 : ∀ t : Fin cfg0.N, win0_23.index t = ![((grid0.coords t) 1).val, 2] := by decide +kernel

theorem blk23 (t : Fin cfg0.N) (d : Fin 512) (e : Fin 1024) : iblk m c 23 t (ix2 d e) = V m c main_v3 (ix2 (col t d) (⟨2 * 1024 + e.val, by omega⟩ : Fin 3072)) := by
  have e := idx23 t
  blk_ext [iblk, e, row, col]

theorem pair22 (h : ArgsAt m c A D) (t : Fin cfg0.N) (r d : Fin 512) :
    dotp (iblk m c 22 t) (iblk m c 23 t) r d = part A D (row t r) (col t d) 6152 1024 :=
  Finset.sum_congr rfl fun e _ => congrArg₂ (fun x y : EReal => x * y)
    ((congrArg id (blk22 t r e)).trans ((v27_at h _ _ _).trans (congrArg (D _) (by omega))))
    ((congrArg id (blk23 t d e)).trans ((v3_at h _ _).trans (congrArg (A _) (by dsimp only; omega))))

theorem idx24 : ∀ t : Fin cfg0.N, win0_24.index t = ![((grid0.coords t) 0).val, ((grid0.coords t) 1).val] := by decide +kernel

/-- What a grid point's body leaves of its tokens and channels. -/
theorem body_at (h : ArgsAt m c A D) (t : Fin cfg0.N) (r d : Fin 512) :
    @Eq EReal (out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (ix2 r d))
      (dh A D (row t r) (col t d)) := by
  rw [out_at, dh_parts, pair0 h, pair2 h, pair4 h, pair6 h, pair8 h, pair10 h, pair12 h, pair14 h, pair16 h, pair18 h, pair20 h, pair22 h]

/-- The result's array at the end of the run. -/
theorem arr (h : ArgsAt m c A D) : (dats m 0 c).arrAt 24 cfg0.N = fun y : S4096x1024.Idx => dh A D (y 0) (y 1) := by
  refine (dats m 0 c).arrAt_eq_of_covers 24 _ (by decide +kernel) fun t hf y => ?_
  have e := idx24 t
  blk_simp
  rw [after0_24, e]
  refine (congrArg (out0_24 _ _ _ _ _ _ _ _ _ _ _ _ _ _ _ _ _ _ _ _ _ _ _ _) (ix2_eta (a := 512) (b := 512) y)).trans ?_
  exact body_at h t (y 0 : Fin 512) (y 1 : Fin 512)

end Cert.Proof.Dh

end
-- ==== Proof.DhRef.lean ====
/-
  The plain product of the columns' gradient with the transposed weight.
-/
module

public import proofs.«01_k».proof.Proof.DhValue
public import proofs.«01_k».proof.Proof.Gen.Reference5Ideal.Run
public import Idealize.ShloMosaic.Lib.StableHlo.ReadAt

@[expose] public section

set_option maxRecDepth 16384

noncomputable section

namespace Cert.Proof.Dh.Ref

open Cert.Reference5Ideal Cert.Reference5Ideal.Gen Cert.Reference5Ideal.Value
open Idealize.ShloMosaic Idealize.ShloMosaic.TcCoe Idealize.ShloMosaic.Tactic Idealize.ShloMosaic.StableHlo Idealize.SL.Sem

variable {A D : ℕ → ℕ → EReal}

theorem product_eq {x : FVec Ideal S4096x7176 .f32} {w : FVec Ideal S1024x7176 .f32} (hx : x = fun y => D (y 0) (y 1)) (hw : w = fun y => A (y 0) (y 1)) :
    Host.dotGeneral dot_S4096x7176_S1024x7176_S4096x1024_1_1_0_0_n_n none x w = fun y : S4096x1024.Idx => dh A D (y 0) (y 1) := by
  funext y
  rw [Proj.ix2_eta (a := 4096) (b := 1024) y]
  pointwise []
  simp only [hx, hw]
  rfl

theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (∀ A D, m (c, Proc.devRef .tc main_arg0) = (fun y : S1024x7176.Idx => A (y 0) (y 1)) → m (c, Proc.devRef .tc main_arg1) = (fun y : S4096x7176.Idx => D (y 0) (y 1)) →
        r.2.mem ((c.tc : Thread nD τ).loc main_v0) = fun y : S4096x1024.Idx => dh A D (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨fun _ _ ha hd => (h c).1.trans (product_eq hd ha), (h c).2⟩) (run (F := Ideal) m ρ)

end Cert.Proof.Dh.Ref

end
-- ==== Proof.lean ====
module

public import proofs.«01_k».proof.Defs
public import proofs.«01_k».proof.Proof.Gen.Kernel
public import proofs.«01_k».proof.Proof.Same
public import proofs.«01_k».proof.Proof.Gen.ReferenceIdeal
public import proofs.«01_k».proof.Proof.Gen.ReferenceIdeal.Run
public import proofs.«01_k».proof.Proof.Gen.Pre_finite
public import proofs.«01_k».proof.Proof.Final
public import proofs.«01_k».proof.Proof.Ref
public import proofs.«01_k».proof.Proof.Gen.Kernel2
public import proofs.«01_k».proof.Proof.Gen.Pre_finite2
public import proofs.«01_k».proof.Proof.Gen.Reference2Ideal
public import proofs.«01_k».proof.Proof.HalfSame
public import proofs.«01_k».proof.Proof.HalfValue
public import proofs.«01_k».proof.Proof.HalfRef
public import proofs.«01_k».proof.Proof.Gen.Kernel3
public import proofs.«01_k».proof.Proof.Gen.Reference3Ideal
public import proofs.«01_k».proof.Proof.MergeSame
public import proofs.«01_k».proof.Proof.MergeValue
public import proofs.«01_k».proof.Proof.MergeRef
public import proofs.«01_k».proof.Proof.Gen.Kernel4
public import proofs.«01_k».proof.Proof.Gen.Reference4Ideal
public import proofs.«01_k».proof.Proof.ProjSame
public import proofs.«01_k».proof.Proof.ProjValue
public import proofs.«01_k».proof.Proof.ProjRef
public import proofs.«01_k».proof.Proof.DhSame
public import proofs.«01_k».proof.Proof.DhValue
public import proofs.«01_k».proof.Proof.DhRef
public import proofs.«01_k».proof.Proof.Gen.Kernel5
public import proofs.«01_k».proof.Proof.Gen.Reference5Ideal
public import proofs.«01_k».proof.Proof.Gen.Kernel5Ideal.Frame
public import proofs.«01_k».proof.Proof.Gen.Kernel5Ideal.Value
public import proofs.«01_k».proof.Proof.Gen.Reference5Ideal.Run
public import Idealize.ShloMosaic.Adequacy
public import Idealize.ShloMosaic.Init

@[expose] public section

noncomputable section

namespace Cert.Proof

open Idealize.ShloMosaic Idealize.SL.Sem Cert.Kernel

theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
        ∧ r.2.sem = fun _ => 0) :=
  (θ_run Cert.ReferenceIdeal.defs _ _).mono (fun r h => ⟨fun c => (h c).2.2.2, sem_eq_zero_of_no_sems (by decide) r.2⟩)
    (Cert.ReferenceIdeal.Value.run (F := Ideal) m g)

/-- A comparison with infinity that holds. -/
theorem lt_of_bit {x : EReal} (h : FloatOps.cmpf (F := Ideal) (φ := .f32) .olt (max x (-x)) (Ideal.ofBits .f32 0x7F800000#32) = 1#1) : max x (-x) < ⊤ := by
  rw [SB.Ref.inf_bits] at h
  change BitVec.ofBool (decide (max x (-x) < ⊤)) = 1#1 at h
  by_contra hn
  rw [decide_eq_false hn] at h
  exact absurd h (by decide)

/-- What the precondition says: every element of both arguments is a real number. -/
theorem finite_args (X : FVec Ideal Cert.Pre_finite.S2x2048x1536 .bf16) (G : FVec Ideal Cert.Pre_finite.S2x2048x512 .bf16)
    (h : (Cert.Pre_finite.fn (F := Ideal) X G).1 = (fun _ => 1#1) ∧ (Cert.Pre_finite.fn (F := Ideal) X G).2 = (fun _ => 1#1)) :
    SB.Finite X ∧ SB.Finite G := by
  constructor
  · refine SB.finite_of_lt_top fun i => ?_
    exact lt_of_bit (congrFun h.1 i)
  · refine SB.finite_of_lt_top fun i => ?_
    exact lt_of_bit (congrFun h.2 i)

theorem algebraic : Cert.algebraic_KernelIdeal_ReferenceIdeal_pre_finite := by
  intro m g m' g' hpre hagree
  have hf := fun c => finite_args _ _ (hpre c)
  have hX : ∀ c, SB.Finite (SB.argX m c) := fun c => (hf c).1
  have hG : ∀ c, SB.Finite (SB.argG m c) := fun c => (hf c).2
  have eX : ∀ c, SB.Ref.vX (Idealize.ShloMosaic.StableHlo.launchContents m' c) = SB.argX m c := fun c => (hagree c).1
  have eG : ∀ c, SB.Ref.vG (Idealize.ShloMosaic.StableHlo.launchContents m' c) = SB.argG m c := fun c => (hagree c).2
  refine ⟨fun c => SB.dqOf (SB.argX m c) (SB.argG m c), fun c => SB.dkOf (SB.argX m c) (SB.argG m c), fun c => SB.dvOf (SB.argX m c) (SB.argG m c), ?_, ?_⟩
  · exact (θ_run Cert.KernelIdeal.defs _ _).mono (fun _ h c => ⟨(h c).1.1, (h c).1.2.1, (h c).1.2.2, (h c).2⟩) (SB.run_value m hX hG g)
  · refine (θ_run Cert.ReferenceIdeal.defs _ _).mono (fun _ h c => ?_)
      (SB.Ref.run_value m' (fun c => by rw [eX]; exact hX c) (fun c => by rw [eG]; exact hG c) g')
    have h := h c
    rw [eX, eG] at h
    exact ⟨h.1.1, h.1.2.1, h.1.2.2, h.2⟩

/-- What the second precondition says: every element of the six arguments is a real number. -/
theorem finite_args2 (X : FVec Ideal Cert.Pre_finite2.S4096x1024 .f32) (G : FVec Ideal Cert.Pre_finite2.S1024 .f32)
    (WG WU : FVec Ideal Cert.Pre_finite2.S2x1024x2816 .f32) (WD : FVec Ideal Cert.Pre_finite2.S2x2816x1024 .f32) (DY : FVec Ideal Cert.Pre_finite2.S4096x1024 .f32)
    (h : (Cert.Pre_finite2.fn (F := Ideal) X G WG WU WD DY).1 = (fun _ => 1#1) ∧ (Cert.Pre_finite2.fn (F := Ideal) X G WG WU WD DY).2.1 = (fun _ => 1#1)
      ∧ (Cert.Pre_finite2.fn (F := Ideal) X G WG WU WD DY).2.2.1 = (fun _ => 1#1) ∧ (Cert.Pre_finite2.fn (F := Ideal) X G WG WU WD DY).2.2.2.1 = (fun _ => 1#1)
      ∧ (Cert.Pre_finite2.fn (F := Ideal) X G WG WU WD DY).2.2.2.2.1 = (fun _ => 1#1) ∧ (Cert.Pre_finite2.fn (F := Ideal) X G WG WU WD DY).2.2.2.2.2 = (fun _ => 1#1)) :
    SB.Finite X ∧ SB.Finite G ∧ SB.Finite WG ∧ SB.Finite WU ∧ SB.Finite WD ∧ SB.Finite DY :=
  ⟨SB.finite_of_lt_top fun i => lt_of_bit (congrFun h.1 i), SB.finite_of_lt_top fun i => lt_of_bit (congrFun h.2.1 i),
    SB.finite_of_lt_top fun i => lt_of_bit (congrFun h.2.2.1 i), SB.finite_of_lt_top fun i => lt_of_bit (congrFun h.2.2.2.1 i),
    SB.finite_of_lt_top fun i => lt_of_bit (congrFun h.2.2.2.2.1 i), SB.finite_of_lt_top fun i => lt_of_bit (congrFun h.2.2.2.2.2 i)⟩

theorem reference2_frame : Cert.quiescent_Reference2Ideal := fun m g _ =>
  (θ_run Cert.Reference2Ideal.defs _ _).mono (fun r h => ⟨fun c => (h c).2, sem_eq_zero_of_no_sems (by decide) r.2⟩) (Half.Ref.run_value m g)

theorem algebraic2 : Cert.algebraic_Kernel2Ideal_Reference2Ideal_pre_finite2 := by
  intro m g m' g' hpre hagree
  have hff : ∀ c, ∃ W : Half.FF, Half.ArgsAt m W c := fun c => by
    obtain ⟨hx, hg, hwg, hwu, hwd, hdy⟩ := finite_args2 _ _ _ _ _ _ (hpre c)
    exact ⟨_, Half.reads_ffOf hx hg hwg hwu hwd hdy⟩
  choose ff hff using hff
  refine ⟨fun c => Half.yOf (ff c), fun c => Half.dxOf (ff c), fun c => Half.dgOf (ff c), fun c => Half.dwgOf (ff c), fun c => Half.dwuOf (ff c),
    fun c => Half.dwdOf (ff c), ?_, ?_⟩
  · exact (θ_run Cert.Kernel2Ideal.defs _ _).mono (fun _ h c => ⟨(h c).1.1, (h c).1.2.1, (h c).1.2.2.1, (h c).1.2.2.2.1, (h c).1.2.2.2.2.1, (h c).1.2.2.2.2.2, (h c).2⟩)
      (Half.run_value g ff hff)
  · refine (θ_run Cert.Reference2Ideal.defs _ _).mono (fun _ h c => ?_) (Half.Ref.run_value m' g')
    have hr : Half.Ref.RefOk (Idealize.ShloMosaic.StableHlo.launchContents m' c) (ff c) := by
      have ha : Half.Reads (ff c) _ _ _ _ _ _ := hff c
      obtain ⟨e0, e1, e2, e3, e4, e5⟩ := hagree c
      exact ⟨fun t d => (congrFun e0 _).trans (ha.x t d), fun d => (congrFun e1 _).trans (ha.g d), fun d f => (congrFun e2 _).trans (ha.wg d f),
        fun d f => (congrFun e3 _).trans (ha.wu d f), fun f d => (congrFun e4 _).trans (ha.wd f d), fun t d => (congrFun e5 _).trans (ha.dy t d)⟩
    obtain ⟨r0, r1, r2, r3, r4, r5⟩ := (h c).1 (ff c) hr
    exact ⟨r0, r1, r2, r3, r4, r5, (h c).2⟩

theorem reference3_frame : Cert.quiescent_Reference3Ideal := fun m g _ =>
  (θ_run Cert.Reference3Ideal.defs _ _).mono (fun r h => ⟨fun c => (h c).2, sem_eq_zero_of_no_sems (by decide) r.2⟩) (Merge.Ref.run_value m g)

theorem algebraic3 : Cert.algebraic_Kernel3Ideal_Reference3Ideal := by
  intro m g m' g' _ hagree
  have hff : ∀ c, ∃ W : Merge.Mix, Merge.ArgsAt m W c := fun c => ⟨_, Merge.reads_mixOf _ _ _ _ _ _ _ _ _⟩
  choose ff hff using hff
  refine ⟨fun c => Merge.x2Of (ff c), fun c => Merge.dwOf (ff c), fun c => Merge.dglOf (ff c), fun c => Merge.dbgOf (ff c),
    fun c => Merge.dyOf (ff c) 0, fun c => Merge.dyOf (ff c) 1, fun c => Merge.dyOf (ff c) 2,
    fun c => Merge.dwbOf (ff c) 0, fun c => Merge.dwbOf (ff c) 1, fun c => Merge.dwbOf (ff c) 2, ?_, ?_⟩
  · refine (θ_run Cert.Kernel3Ideal.defs _ _).mono (fun _ h c => ?_) (Merge.run_value g ff hff)
    obtain ⟨⟨r0, r1, r2, r3, r4, r5, r6, r7, r8, r9⟩, hr⟩ := h c
    exact ⟨r0, r1, r2, r3, r4, r5, r6, r7, r8, r9, hr⟩
  · refine (θ_run Cert.Reference3Ideal.defs _ _).mono (fun _ h c => ?_) (Merge.Ref.run_value m' g')
    have hr : Merge.Ref.RefOk (Idealize.ShloMosaic.StableHlo.launchContents m' c) (ff c) := by
      have ha : Merge.Reads (ff c) _ _ _ _ _ _ _ _ _ := hff c
      obtain ⟨e0, e1, e2, e3, e4, e5, e6, e7, _, e9⟩ := hagree c
      exact ⟨fun t d => (congrFun e0 _).trans (ha.x t d), fun t w => (congrFun e1 _).trans (ha.y0 t w), fun t w => (congrFun e2 _).trans (ha.y1 t w),
        fun t w => (congrFun e3 _).trans (ha.y2 t w), fun t n => (congrFun e4 _).trans (ha.l t n), fun n => (congrFun e5 _).trans (ha.b n),
        fun k w d => (congrFun e6 _).trans (ha.p k w d), fun d e => (congrFun e7 _).trans (ha.o d e), fun t d => (congrFun e9 _).trans (ha.dx t d)⟩
    obtain ⟨r0, r1, r2, r3, r4, r5, r6, r7, r8, r9⟩ := (h c).1 (ff c) hr
    exact ⟨r0, r1, r2, r3, r4, r5, r6, r7, r8, r9, (h c).2⟩

theorem reference4_frame : Cert.quiescent_Reference4Ideal := fun m g _ =>
  (θ_run Cert.Reference4Ideal.defs _ _).mono (fun r h => ⟨fun c => (h c).2, sem_eq_zero_of_no_sems (by decide) r.2⟩) (Proj.Ref.run_value m g)

/-- An array of two axes as a function of its coordinates. -/
theorem Proj.exists_coords {a b : ℕ} (x : (⟨2, ![a, b]⟩ : Shape).Idx → EReal) : ∃ f : ℕ → ℕ → EReal, x = fun y => f (y 0) (y 1) := by
  refine ⟨fun i j => if h : i < a ∧ j < b then x (ix2 ⟨i, h.1⟩ ⟨j, h.2⟩) else 0, funext fun y => ?_⟩
  have hy : (y 0 : Fin a).val < a ∧ (y 1 : Fin b).val < b := ⟨(y 0 : Fin a).isLt, (y 1 : Fin b).isLt⟩
  show x y = dite ((y 0 : Fin a).val < a ∧ (y 1 : Fin b).val < b) _ _
  rw [dif_pos hy]
  exact congrArg x (Proj.ix2_eta y)

theorem algebraic4 : Cert.algebraic_Kernel4Ideal_Reference4Ideal := by
  intro m g m' g' _ hagree
  choose H hH using fun c : Dev Cert.Kernel4Ideal.nD => Proj.exists_coords (a := 4096) (b := 1024) (m (c, Proc.devRef .tc Cert.Kernel4Ideal.main_arg0))
  choose A hA using fun c : Dev Cert.Kernel4Ideal.nD => Proj.exists_coords (a := 1024) (b := 7176) (m (c, Proc.devRef .tc Cert.Kernel4Ideal.main_arg1))
  choose D hD using fun c : Dev Cert.Kernel4Ideal.nD => Proj.exists_coords (a := 4096) (b := 7176) (m (c, Proc.devRef .tc Cert.Kernel4Ideal.main_arg2))
  refine ⟨fun c (y : Cert.Kernel4Ideal.S4096x2560.Idx) => Proj.nn (H c) (A c) (y 0) (y 1),
    fun c (y : Cert.Kernel4Ideal.S4096x8.Idx) => Proj.nn (H c) (A c) (y 0) (2560 + (y 1).val),
    fun c (y : Cert.Kernel4Ideal.S4096x1536.Idx) => Proj.nn (H c) (A c) (y 0) (2568 + (y 1).val),
    fun c (y : Cert.Kernel4Ideal.S4096x3072.Idx) => Proj.nn (H c) (A c) (y 0) (4104 + (y 1).val),
    fun c (y : Cert.Kernel4Ideal.S1024x512.Idx) => Proj.tn (H c) (D c) (y 0) (y 1),
    fun c (y : Cert.Kernel4Ideal.S1024x512.Idx) => Proj.tn (H c) (D c) (y 0) (512 + (y 1).val),
    fun c (y : Cert.Kernel4Ideal.S1024x512.Idx) => Proj.tn (H c) (D c) (y 0) (1024 + (y 1).val),
    fun c (y : Cert.Kernel4Ideal.S1024x512.Idx) => Proj.tn (H c) (D c) (y 0) (1536 + (y 1).val),
    fun c (y : Cert.Kernel4Ideal.S1024x512.Idx) => Proj.tn (H c) (D c) (y 0) (2048 + (y 1).val),
    fun c (y : Cert.Kernel4Ideal.S1024x8.Idx) => Proj.tn (H c) (D c) (y 0) (2560 + (y 1).val),
    fun c (y : Cert.Kernel4Ideal.S1024x512.Idx) => Proj.tn (H c) (D c) (y 0) (2568 + (y 1).val),
    fun c (y : Cert.Kernel4Ideal.S1024x512.Idx) => Proj.tn (H c) (D c) (y 0) (3080 + (y 1).val),
    fun c (y : Cert.Kernel4Ideal.S1024x512.Idx) => Proj.tn (H c) (D c) (y 0) (3592 + (y 1).val),
    fun c (y : Cert.Kernel4Ideal.S1024x1024.Idx) => Proj.tn (H c) (D c) (y 0) (4104 + (0 * 1024 + (y 1).val)),
    fun c (y : Cert.Kernel4Ideal.S1024x1024.Idx) => Proj.tn (H c) (D c) (y 0) (4104 + (1 * 1024 + (y 1).val)),
    fun c (y : Cert.Kernel4Ideal.S1024x1024.Idx) => Proj.tn (H c) (D c) (y 0) (4104 + (2 * 1024 + (y 1).val)), ?_, ?_⟩
  · refine (θ_run Cert.Kernel4Ideal.defs _ _).mono (fun _ h c => ?_) (Proj.run_value g H A D fun c => ⟨hH c, hA c, hD c⟩)
    obtain ⟨⟨r0, r1, r2, r3, r4, r5, r6, r7, r8, r9, r10, r11, r12, r13, r14, r15⟩, hr⟩ := h c
    exact ⟨r0, r1, r2, r3, r4, r5, r6, r7, r8, r9, r10, r11, r12, r13, r14, r15, hr⟩
  · refine (θ_run Cert.Reference4Ideal.defs _ _).mono (fun _ h c => ?_) (Proj.Ref.run_value m' g')
    obtain ⟨e0, e1, e2⟩ := hagree c
    obtain ⟨r0, r1, r2, r3, r4, r5, r6, r7, r8, r9, r10, r11, r12, r13, r14, r15⟩ :=
      (h c).1 (H c) (A c) (D c) ⟨e0.trans (hH c), e1.trans (hA c), e2.trans (hD c)⟩
    exact ⟨r0, r1, r2, r3, r4, r5, r6, r7, r8, r9, r10, r11, r12, r13, r14, r15, (h c).2⟩

theorem reference5_frame : Cert.quiescent_Reference5Ideal := fun m g _ =>
  (θ_run Cert.Reference5Ideal.defs _ _).mono (fun r h => ⟨fun c => (h c).2, sem_eq_zero_of_no_sems (by decide) r.2⟩) (Dh.Ref.run_value m g)

theorem algebraic5 : Cert.algebraic_Kernel5Ideal_Reference5Ideal := by
  intro m g m' g' _ hagree
  choose A hA using fun c : Dev Cert.Kernel5Ideal.nD => Proj.exists_coords (a := 1024) (b := 7176) (m (c, Proc.devRef .tc Cert.Kernel5Ideal.main_arg0))
  choose D hD using fun c : Dev Cert.Kernel5Ideal.nD => Proj.exists_coords (a := 4096) (b := 7176) (m (c, Proc.devRef .tc Cert.Kernel5Ideal.main_arg1))
  refine ⟨fun c (y : Cert.Kernel5Ideal.S4096x1024.Idx) => Dh.dh (A c) (D c) (y 0) (y 1), ?_, ?_⟩
  · exact (θ_run Cert.Kernel5Ideal.defs _ _).mono (fun _ h c => ⟨(h c).1.trans (Dh.arr ⟨hA c, hD c⟩), (h c).2⟩) (Cert.Kernel5Ideal.Value.run_blocks (F := Ideal) m g)
  · refine (θ_run Cert.Reference5Ideal.defs _ _).mono (fun _ h c => ?_) (Dh.Ref.run_value m' g')
    obtain ⟨e0, e1⟩ := hagree c
    exact ⟨(h c).1 _ _ (e0.trans (hA c)) (e1.trans (hD c)), (h c).2⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_finite.Gen.facts, Cert.Pre_finite2.Gen.facts,
  kernel_frame,
  fun m g _ => Cert.Proof.SB.frame (F := Ideal) m g,
  fun m g _ => Cert.Proof.SB.frame (F := Ideal) m g,
  fun m g _ => reference_frame m g,
  fun m g _ => reference_frame m g,
  Half.kernel_frame,
  Half.ideal_frame,
  fun m g _ => Half.ideal_frame m g trivial,
  reference2_frame,
  fun m g _ => reference2_frame m g trivial,
  Merge.kernel_frame,
  Merge.ideal_frame,
  reference3_frame,
  Proj.kernel_frame,
  Proj.ideal_frame,
  reference4_frame,
  Dh.kernel_frame,
  Dh.ideal_frame,
  reference5_frame,
  trivial,
  algebraic,
  trivial,
  algebraic2,
  trivial,
  algebraic3,
  trivial,
  algebraic4,
  trivial,
  algebraic5⟩

end Cert.Proof

end
